-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Exchange (m : (ℓ : Loc Cert.Exchange.nD Cert.Exchange.τ Cert.Exchange.sig) → Buf (Elt Bits) ℓ) : Prop :=
  True

def Pre_ExchangeIdeal (m : (ℓ : Loc Cert.ExchangeIdeal.nD Cert.ExchangeIdeal.τ Cert.ExchangeIdeal.sig) → Buf (Elt Ideal) ℓ) : Prop :=
  True

def Pre_ExchangeRefIdeal (m : (ℓ : Loc Cert.ExchangeRefIdeal.nD Cert.ExchangeRefIdeal.τ Cert.ExchangeRefIdeal.sig) → Buf (Elt Ideal) ℓ) : Prop :=
  True

def Pre_ExchangeRef (m : (ℓ : Loc Cert.ExchangeRef.nD Cert.ExchangeRef.τ Cert.ExchangeRef.sig) → Buf (Elt Bits) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_WeightsRef (m : (ℓ : Loc Cert.WeightsRef.nD Cert.WeightsRef.τ Cert.WeightsRef.sig) → Buf (Elt Bits) ℓ) : Prop :=
  True

def Pre_Vec (m : (ℓ : Loc Cert.Vec.nD Cert.Vec.τ Cert.Vec.sig) → Buf (Elt Bits) ℓ) : Prop :=
  True

def Pre_VecIdeal (m : (ℓ : Loc Cert.VecIdeal.nD Cert.VecIdeal.τ Cert.VecIdeal.sig) → Buf (Elt Ideal) ℓ) : Prop :=
  True

def Pre_VecRefIdeal (m : (ℓ : Loc Cert.VecRefIdeal.nD Cert.VecRefIdeal.τ Cert.VecRefIdeal.sig) → Buf (Elt Ideal) ℓ) : Prop :=
  True

def Pre_VecRef (m : (ℓ : Loc Cert.VecRef.nD Cert.VecRef.τ Cert.VecRef.sig) → Buf (Elt Bits) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamRet (m : (ℓ : Loc Cert.AdamRet.nD Cert.AdamRet.τ Cert.AdamRet.sig) → Buf (Elt Bits) ℓ) : Prop :=
  True

def Pre_AdamRetIdeal (m : (ℓ : Loc Cert.AdamRetIdeal.nD Cert.AdamRetIdeal.τ Cert.AdamRetIdeal.sig) → Buf (Elt Ideal) ℓ) : Prop :=
  True

def Pre_AdamRetRefIdeal (m : (ℓ : Loc Cert.AdamRetRefIdeal.nD Cert.AdamRetRefIdeal.τ Cert.AdamRetRefIdeal.sig) → Buf (Elt Ideal) ℓ) : Prop :=
  True

def Pre_AdamSsd (m : (ℓ : Loc Cert.AdamSsd.nD Cert.AdamSsd.τ Cert.AdamSsd.sig) → Buf (Elt Bits) ℓ) : Prop :=
  True

def Pre_AdamSsdIdeal (m : (ℓ : Loc Cert.AdamSsdIdeal.nD Cert.AdamSsdIdeal.τ Cert.AdamSsdIdeal.sig) → Buf (Elt Ideal) ℓ) : Prop :=
  True

def Pre_AdamSsdRefIdeal (m : (ℓ : Loc Cert.AdamSsdRefIdeal.nD Cert.AdamSsdRefIdeal.τ Cert.AdamSsdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormB (m : (ℓ : Loc Cert.NormB.nD Cert.NormB.τ Cert.NormB.sig) → Buf (Elt Bits) ℓ) : Prop :=
  True

def Pre_NormBIdeal (m : (ℓ : Loc Cert.NormBIdeal.nD Cert.NormBIdeal.τ Cert.NormBIdeal.sig) → Buf (Elt Ideal) ℓ) : Prop :=
  True

def Pre_NormBRefIdeal (m : (ℓ : Loc Cert.NormBRefIdeal.nD Cert.NormBRefIdeal.τ Cert.NormBRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_GatedB (m : (ℓ : Loc Cert.GatedB.nD Cert.GatedB.τ Cert.GatedB.sig) → Buf (Elt Bits) ℓ) : Prop :=
  True

def Pre_GatedBIdeal (m : (ℓ : Loc Cert.GatedBIdeal.nD Cert.GatedBIdeal.τ Cert.GatedBIdeal.sig) → Buf (Elt Ideal) ℓ) : Prop :=
  True

def Pre_GatedBRefIdeal (m : (ℓ : Loc Cert.GatedBRefIdeal.nD Cert.GatedBRefIdeal.τ Cert.GatedBRefIdeal.sig) → Buf (Elt Ideal) ℓ) : Prop :=
  True

def Pre_ProjMain (m : (ℓ : Loc Cert.ProjMain.nD Cert.ProjMain.τ Cert.ProjMain.sig) → Buf (Elt Bits) ℓ) : Prop :=
  True

def Pre_ProjMainIdeal (m : (ℓ : Loc Cert.ProjMainIdeal.nD Cert.ProjMainIdeal.τ Cert.ProjMainIdeal.sig) → Buf (Elt Ideal) ℓ) : Prop :=
  True

def Pre_ProjMainRefIdeal (m : (ℓ : Loc Cert.ProjMainRefIdeal.nD Cert.ProjMainRefIdeal.τ Cert.ProjMainRefIdeal.sig) → Buf (Elt Ideal) ℓ) : Prop :=
  True

def Pre_BranchSsd (m : (ℓ : Loc Cert.BranchSsd.nD Cert.BranchSsd.τ Cert.BranchSsd.sig) → Buf (Elt Bits) ℓ) : Prop :=
  True

def Pre_BranchSsdIdeal (m : (ℓ : Loc Cert.BranchSsdIdeal.nD Cert.BranchSsdIdeal.τ Cert.BranchSsdIdeal.sig) → Buf (Elt Ideal) ℓ) : Prop :=
  True

def Pre_BranchSsdRefIdeal (m : (ℓ : Loc Cert.BranchSsdRefIdeal.nD Cert.BranchSsdRefIdeal.τ Cert.BranchSsdRefIdeal.sig) → Buf (Elt Ideal) ℓ) : Prop :=
  True

def Pre_DYr (m : (ℓ : Loc Cert.DYr.nD Cert.DYr.τ Cert.DYr.sig) → Buf (Elt Bits) ℓ) : Prop :=
  True

def Pre_DYrIdeal (m : (ℓ : Loc Cert.DYrIdeal.nD Cert.DYrIdeal.τ Cert.DYrIdeal.sig) → Buf (Elt Ideal) ℓ) : Prop :=
  True

def Pre_DYrRefIdeal (m : (ℓ : Loc Cert.DYrRefIdeal.nD Cert.DYrRefIdeal.τ Cert.DYrRefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_PairIn [hPre_core_in : Cert.Pre_core_in.Facts] (m : (ℓ : Loc Cert.PairIn.nD Cert.PairIn.τ Cert.PairIn.sig) → Buf (Elt Bits) ℓ) : Prop :=
  ∀ c : Dev Cert.PairIn.nD,
    (Cert.Pre_core_in.fn (F := Bits) (m ((c.tc : Thread Cert.PairIn.nD Cert.PairIn.τ).loc Cert.PairIn.main_arg0)) (m ((c.tc : Thread Cert.PairIn.nD Cert.PairIn.τ).loc Cert.PairIn.main_arg1)) (m ((c.tc : Thread Cert.PairIn.nD Cert.PairIn.τ).loc Cert.PairIn.main_arg2))) = (fun _ => 1#1)

def Pre_PairInIdeal [hPre_core_in : Cert.Pre_core_in.Facts] (m : (ℓ : Loc Cert.PairInIdeal.nD Cert.PairInIdeal.τ Cert.PairInIdeal.sig) → Buf (Elt Ideal) ℓ) : Prop :=
  ∀ c : Dev Cert.PairInIdeal.nD,
    (Cert.Pre_core_in.fn (F := Ideal) (m ((c.tc : Thread Cert.PairInIdeal.nD Cert.PairInIdeal.τ).loc Cert.PairInIdeal.main_arg0)) (m ((c.tc : Thread Cert.PairInIdeal.nD Cert.PairInIdeal.τ).loc Cert.PairInIdeal.main_arg1)) (m ((c.tc : Thread Cert.PairInIdeal.nD Cert.PairInIdeal.τ).loc Cert.PairInIdeal.main_arg2))) = (fun _ => 1#1)

def Pre_PairInRefIdeal (m : (ℓ : Loc Cert.PairInRefIdeal.nD Cert.PairInRefIdeal.τ Cert.PairInRefIdeal.sig) → Buf (Elt Ideal) ℓ) : Prop :=
  True

def Pre_PairInRefIdeal_core_in [hPre_core_in : Cert.Pre_core_in.Facts] (m : (ℓ : Loc Cert.PairInRefIdeal.nD Cert.PairInRefIdeal.τ Cert.PairInRefIdeal.sig) → Buf (Elt Ideal) ℓ) : Prop :=
  ∀ c : Dev Cert.PairInRefIdeal.nD,
    (Cert.Pre_core_in.fn (F := Ideal) (m ((c.tc : Thread Cert.PairInRefIdeal.nD Cert.PairInRefIdeal.τ).loc Cert.PairInRefIdeal.main_arg0)) (m ((c.tc : Thread Cert.PairInRefIdeal.nD Cert.PairInRefIdeal.τ).loc Cert.PairInRefIdeal.main_arg1)) (m ((c.tc : Thread Cert.PairInRefIdeal.nD Cert.PairInRefIdeal.τ).loc Cert.PairInRefIdeal.main_arg2))) = (fun _ => 1#1)

def Pre_PairB [hPre_core_b : Cert.Pre_core_b.Facts] (m : (ℓ : Loc Cert.PairB.nD Cert.PairB.τ Cert.PairB.sig) → Buf (Elt Bits) ℓ) : Prop :=
  ∀ c : Dev Cert.PairB.nD,
    (Cert.Pre_core_b.fn (F := Bits) (m ((c.tc : Thread Cert.PairB.nD Cert.PairB.τ).loc Cert.PairB.main_arg0)) (m ((c.tc : Thread Cert.PairB.nD Cert.PairB.τ).loc Cert.PairB.main_arg1)) (m ((c.tc : Thread Cert.PairB.nD Cert.PairB.τ).loc Cert.PairB.main_arg2))) = (fun _ => 1#1)

def Pre_PairBIdeal [hPre_core_b : Cert.Pre_core_b.Facts] (m : (ℓ : Loc Cert.PairBIdeal.nD Cert.PairBIdeal.τ Cert.PairBIdeal.sig) → Buf (Elt Ideal) ℓ) : Prop :=
  ∀ c : Dev Cert.PairBIdeal.nD,
    (Cert.Pre_core_b.fn (F := Ideal) (m ((c.tc : Thread Cert.PairBIdeal.nD Cert.PairBIdeal.τ).loc Cert.PairBIdeal.main_arg0)) (m ((c.tc : Thread Cert.PairBIdeal.nD Cert.PairBIdeal.τ).loc Cert.PairBIdeal.main_arg1)) (m ((c.tc : Thread Cert.PairBIdeal.nD Cert.PairBIdeal.τ).loc Cert.PairBIdeal.main_arg2))) = (fun _ => 1#1)

def Pre_PairBRefIdeal (m : (ℓ : Loc Cert.PairBRefIdeal.nD Cert.PairBRefIdeal.τ Cert.PairBRefIdeal.sig) → Buf (Elt Ideal) ℓ) : Prop :=
  True

def Pre_PairBRefIdeal_core_b [hPre_core_b : Cert.Pre_core_b.Facts] (m : (ℓ : Loc Cert.PairBRefIdeal.nD Cert.PairBRefIdeal.τ Cert.PairBRefIdeal.sig) → Buf (Elt Ideal) ℓ) : Prop :=
  ∀ c : Dev Cert.PairBRefIdeal.nD,
    (Cert.Pre_core_b.fn (F := Ideal) (m ((c.tc : Thread Cert.PairBRefIdeal.nD Cert.PairBRefIdeal.τ).loc Cert.PairBRefIdeal.main_arg0)) (m ((c.tc : Thread Cert.PairBRefIdeal.nD Cert.PairBRefIdeal.τ).loc Cert.PairBRefIdeal.main_arg1)) (m ((c.tc : Thread Cert.PairBRefIdeal.nD Cert.PairBRefIdeal.τ).loc Cert.PairBRefIdeal.main_arg2))) = (fun _ => 1#1)

def Pre_OwnIn [hPre_place_in : Cert.Pre_place_in.Facts] (m : (ℓ : Loc Cert.OwnIn.nD Cert.OwnIn.τ Cert.OwnIn.sig) → Buf (Elt Bits) ℓ) : Prop :=
  ∀ c : Dev Cert.OwnIn.nD,
    (Cert.Pre_place_in.fn (F := Bits) (m ((c.tc : Thread Cert.OwnIn.nD Cert.OwnIn.τ).loc Cert.OwnIn.main_arg0)) (m ((c.tc : Thread Cert.OwnIn.nD Cert.OwnIn.τ).loc Cert.OwnIn.main_arg1)) (m ((c.tc : Thread Cert.OwnIn.nD Cert.OwnIn.τ).loc Cert.OwnIn.main_arg2)) (m ((c.tc : Thread Cert.OwnIn.nD Cert.OwnIn.τ).loc Cert.OwnIn.main_arg3))) = (fun _ => 1#1)

def Pre_OwnInIdeal [hPre_place_in : Cert.Pre_place_in.Facts] (m : (ℓ : Loc Cert.OwnInIdeal.nD Cert.OwnInIdeal.τ Cert.OwnInIdeal.sig) → Buf (Elt Ideal) ℓ) : Prop :=
  ∀ c : Dev Cert.OwnInIdeal.nD,
    (Cert.Pre_place_in.fn (F := Ideal) (m ((c.tc : Thread Cert.OwnInIdeal.nD Cert.OwnInIdeal.τ).loc Cert.OwnInIdeal.main_arg0)) (m ((c.tc : Thread Cert.OwnInIdeal.nD Cert.OwnInIdeal.τ).loc Cert.OwnInIdeal.main_arg1)) (m ((c.tc : Thread Cert.OwnInIdeal.nD Cert.OwnInIdeal.τ).loc Cert.OwnInIdeal.main_arg2)) (m ((c.tc : Thread Cert.OwnInIdeal.nD Cert.OwnInIdeal.τ).loc Cert.OwnInIdeal.main_arg3))) = (fun _ => 1#1)

def Pre_OwnInRefIdeal (m : (ℓ : Loc Cert.OwnInRefIdeal.nD Cert.OwnInRefIdeal.τ Cert.OwnInRefIdeal.sig) → Buf (Elt Ideal) ℓ) : Prop :=
  True

def Pre_OwnInRefIdeal_place_in [hPre_place_in : Cert.Pre_place_in.Facts] (m : (ℓ : Loc Cert.OwnInRefIdeal.nD Cert.OwnInRefIdeal.τ Cert.OwnInRefIdeal.sig) → Buf (Elt Ideal) ℓ) : Prop :=
  ∀ c : Dev Cert.OwnInRefIdeal.nD,
    (Cert.Pre_place_in.fn (F := Ideal) (m ((c.tc : Thread Cert.OwnInRefIdeal.nD Cert.OwnInRefIdeal.τ).loc Cert.OwnInRefIdeal.main_arg0)) (m ((c.tc : Thread Cert.OwnInRefIdeal.nD Cert.OwnInRefIdeal.τ).loc Cert.OwnInRefIdeal.main_arg1)) (m ((c.tc : Thread Cert.OwnInRefIdeal.nD Cert.OwnInRefIdeal.τ).loc Cert.OwnInRefIdeal.main_arg2)) (m ((c.tc : Thread Cert.OwnInRefIdeal.nD Cert.OwnInRefIdeal.τ).loc Cert.OwnInRefIdeal.main_arg3))) = (fun _ => 1#1)

def Pre_OwnB [hPre_place_b : Cert.Pre_place_b.Facts] (m : (ℓ : Loc Cert.OwnB.nD Cert.OwnB.τ Cert.OwnB.sig) → Buf (Elt Bits) ℓ) : Prop :=
  ∀ c : Dev Cert.OwnB.nD,
    (Cert.Pre_place_b.fn (F := Bits) (m ((c.tc : Thread Cert.OwnB.nD Cert.OwnB.τ).loc Cert.OwnB.main_arg0)) (m ((c.tc : Thread Cert.OwnB.nD Cert.OwnB.τ).loc Cert.OwnB.main_arg1)) (m ((c.tc : Thread Cert.OwnB.nD Cert.OwnB.τ).loc Cert.OwnB.main_arg2)) (m ((c.tc : Thread Cert.OwnB.nD Cert.OwnB.τ).loc Cert.OwnB.main_arg3))) = (fun _ => 1#1)

def Pre_OwnBIdeal [hPre_place_b : Cert.Pre_place_b.Facts] (m : (ℓ : Loc Cert.OwnBIdeal.nD Cert.OwnBIdeal.τ Cert.OwnBIdeal.sig) → Buf (Elt Ideal) ℓ) : Prop :=
  ∀ c : Dev Cert.OwnBIdeal.nD,
    (Cert.Pre_place_b.fn (F := Ideal) (m ((c.tc : Thread Cert.OwnBIdeal.nD Cert.OwnBIdeal.τ).loc Cert.OwnBIdeal.main_arg0)) (m ((c.tc : Thread Cert.OwnBIdeal.nD Cert.OwnBIdeal.τ).loc Cert.OwnBIdeal.main_arg1)) (m ((c.tc : Thread Cert.OwnBIdeal.nD Cert.OwnBIdeal.τ).loc Cert.OwnBIdeal.main_arg2)) (m ((c.tc : Thread Cert.OwnBIdeal.nD Cert.OwnBIdeal.τ).loc Cert.OwnBIdeal.main_arg3))) = (fun _ => 1#1)

def Pre_OwnBRefIdeal (m : (ℓ : Loc Cert.OwnBRefIdeal.nD Cert.OwnBRefIdeal.τ Cert.OwnBRefIdeal.sig) → Buf (Elt Ideal) ℓ) : Prop :=
  True

def Pre_OwnBRefIdeal_place_b [hPre_place_b : Cert.Pre_place_b.Facts] (m : (ℓ : Loc Cert.OwnBRefIdeal.nD Cert.OwnBRefIdeal.τ Cert.OwnBRefIdeal.sig) → Buf (Elt Ideal) ℓ) : Prop :=
  ∀ c : Dev Cert.OwnBRefIdeal.nD,
    (Cert.Pre_place_b.fn (F := Ideal) (m ((c.tc : Thread Cert.OwnBRefIdeal.nD Cert.OwnBRefIdeal.τ).loc Cert.OwnBRefIdeal.main_arg0)) (m ((c.tc : Thread Cert.OwnBRefIdeal.nD Cert.OwnBRefIdeal.τ).loc Cert.OwnBRefIdeal.main_arg1)) (m ((c.tc : Thread Cert.OwnBRefIdeal.nD Cert.OwnBRefIdeal.τ).loc Cert.OwnBRefIdeal.main_arg2)) (m ((c.tc : Thread Cert.OwnBRefIdeal.nD Cert.OwnBRefIdeal.τ).loc Cert.OwnBRefIdeal.main_arg3))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBRefIdeal (m : (ℓ : Loc Cert.ConvBRefIdeal.nD Cert.ConvBRefIdeal.τ Cert.ConvBRefIdeal.sig) → Buf (Elt Ideal) ℓ) : Prop :=
  True

def Pre_BranchRet (m : (ℓ : Loc Cert.BranchRet.nD Cert.BranchRet.τ Cert.BranchRet.sig) → Buf (Elt Bits) ℓ) : Prop :=
  True

def Pre_BranchRetIdeal (m : (ℓ : Loc Cert.BranchRetIdeal.nD Cert.BranchRetIdeal.τ Cert.BranchRetIdeal.sig) → Buf (Elt Ideal) ℓ) : Prop :=
  True

def Pre_BranchRetRefIdeal (m : (ℓ : Loc Cert.BranchRetRefIdeal.nD Cert.BranchRetRefIdeal.τ Cert.BranchRetRefIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtRefIdeal (m : (ℓ : Loc Cert.ProjDtRefIdeal.nD Cert.ProjDtRefIdeal.τ Cert.ProjDtRefIdeal.sig) → Buf (Elt Ideal) ℓ) : Prop :=
  True

def Pre_DYs (m : (ℓ : Loc Cert.DYs.nD Cert.DYs.τ Cert.DYs.sig) → Buf (Elt Bits) ℓ) : Prop :=
  True

def Pre_DYsIdeal (m : (ℓ : Loc Cert.DYsIdeal.nD Cert.DYsIdeal.τ Cert.DYsIdeal.sig) → Buf (Elt Ideal) ℓ) : Prop :=
  True

def Pre_DYsRefIdeal (m : (ℓ : Loc Cert.DYsRefIdeal.nD Cert.DYsRefIdeal.τ Cert.DYsRefIdeal.sig) → Buf (Elt Ideal) ℓ) : Prop :=
  True

def Pre_GRet (m : (ℓ : Loc Cert.GRet.nD Cert.GRet.τ Cert.GRet.sig) → Buf (Elt Bits) ℓ) : Prop :=
  True

def Pre_GRetIdeal (m : (ℓ : Loc Cert.GRetIdeal.nD Cert.GRetIdeal.τ Cert.GRetIdeal.sig) → Buf (Elt Ideal) ℓ) : Prop :=
  True

def Pre_GRetRefIdeal (m : (ℓ : Loc Cert.GRetRefIdeal.nD Cert.GRetRefIdeal.τ Cert.GRetRefIdeal.sig) → Buf (Elt Ideal) ℓ) : Prop :=
  True

def Pre_GSsd (m : (ℓ : Loc Cert.GSsd.nD Cert.GSsd.τ Cert.GSsd.sig) → Buf (Elt Bits) ℓ) : Prop :=
  True

def Pre_GSsdIdeal (m : (ℓ : Loc Cert.GSsdIdeal.nD Cert.GSsdIdeal.τ Cert.GSsdIdeal.sig) → Buf (Elt Ideal) ℓ) : Prop :=
  True

def Pre_GSsdRefIdeal (m : (ℓ : Loc Cert.GSsdRefIdeal.nD Cert.GSsdRefIdeal.τ Cert.GSsdRefIdeal.sig) → Buf (Elt Ideal) ℓ) : Prop :=
  True

def Pre_GIn (m : (ℓ : Loc Cert.GIn.nD Cert.GIn.τ Cert.GIn.sig) → Buf (Elt Bits) ℓ) : Prop :=
  True

def Pre_GInIdeal (m : (ℓ : Loc Cert.GInIdeal.nD Cert.GInIdeal.τ Cert.GInIdeal.sig) → Buf (Elt Ideal) ℓ) : Prop :=
  True

def Pre_GInRefIdeal (m : (ℓ : Loc Cert.GInRefIdeal.nD Cert.GInRefIdeal.τ Cert.GInRefIdeal.sig) → Buf (Elt Ideal) ℓ) : Prop :=
  True

def Pre_GInB (m : (ℓ : Loc Cert.GInB.nD Cert.GInB.τ Cert.GInB.sig) → Buf (Elt Bits) ℓ) : Prop :=
  True

def Pre_GInBIdeal (m : (ℓ : Loc Cert.GInBIdeal.nD Cert.GInBIdeal.τ Cert.GInBIdeal.sig) → Buf (Elt Ideal) ℓ) : Prop :=
  True

def Pre_GInBRefIdeal (m : (ℓ : Loc Cert.GInBRefIdeal.nD Cert.GInBRefIdeal.τ Cert.GInBRefIdeal.sig) → Buf (Elt Ideal) ℓ) : Prop :=
  True

def Pre_GInDt (m : (ℓ : Loc Cert.GInDt.nD Cert.GInDt.τ Cert.GInDt.sig) → Buf (Elt Bits) ℓ) : Prop :=
  True

def Pre_GInDtIdeal (m : (ℓ : Loc Cert.GInDtIdeal.nD Cert.GInDtIdeal.τ Cert.GInDtIdeal.sig) → Buf (Elt Ideal) ℓ) : Prop :=
  True

def Pre_GInDtRefIdeal (m : (ℓ : Loc Cert.GInDtRefIdeal.nD Cert.GInDtRefIdeal.τ Cert.GInDtRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0)
      ∧ r.2.mem ((c.tc : Thread Cert.Share.nD Cert.Share.τ).loc Cert.Share.main_arg1) = m ((c.tc : Thread Cert.Share.nD Cert.Share.τ).loc Cert.Share.main_arg1))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
      ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0)
      ∧ r.2.mem ((c.tc : Thread Cert.ShareRefIdeal.nD Cert.ShareRefIdeal.τ).loc Cert.ShareRefIdeal.main_arg1) = m ((c.tc : Thread Cert.ShareRefIdeal.nD Cert.ShareRefIdeal.τ).loc Cert.ShareRefIdeal.main_arg1))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0)
      ∧ r.2.mem ((c.tc : Thread Cert.ShareRef.nD Cert.ShareRef.τ).loc Cert.ShareRef.main_arg1) = m ((c.tc : Thread Cert.ShareRef.nD Cert.ShareRef.τ).loc Cert.ShareRef.main_arg1))
      ∧ r.2.sem = fun _ => 0)

def quiescent_Exchange [hExchange : Cert.Exchange.Facts] : Prop :=
  ∀ (m : (ℓ : Loc Cert.Exchange.nD Cert.Exchange.τ Cert.Exchange.sig) → Buf (Elt Bits) ℓ) (g : Dev Cert.Exchange.nD → PrngReg), Pre_Exchange m →
    θ_run (Cert.Exchange.defs (F := Bits)) (onTc (τ := Cert.Exchange.τ) (Cert.Exchange.main (F := Bits))) ⟨m, fun _ => 0, g⟩ (fun r => (∀ c : Dev Cert.Exchange.nD,
      r.2.mem ((c.tc : Thread Cert.Exchange.nD Cert.Exchange.τ).loc Cert.Exchange.main_arg0) = m ((c.tc : Thread Cert.Exchange.nD Cert.Exchange.τ).loc Cert.Exchange.main_arg0)
      ∧ r.2.mem ((c.tc : Thread Cert.Exchange.nD Cert.Exchange.τ).loc Cert.Exchange.main_arg1) = m ((c.tc : Thread Cert.Exchange.nD Cert.Exchange.τ).loc Cert.Exchange.main_arg1))
      ∧ r.2.sem = fun _ => 0)

def quiescent_ExchangeIdeal [hExchangeIdeal : Cert.ExchangeIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg), Pre_ExchangeIdeal m →
    θ_run (Cert.ExchangeIdeal.defs (F := Ideal)) (onTc (τ := Cert.ExchangeIdeal.τ) (Cert.ExchangeIdeal.main (F := Ideal))) ⟨m, fun _ => 0, g⟩ (fun r => (∀ c : Dev Cert.ExchangeIdeal.nD,
      r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
      ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ r.2.sem = fun _ => 0)

def quiescent_ExchangeRefIdeal [hExchangeRefIdeal : Cert.ExchangeRefIdeal.Facts] : Prop :=
  ∀ (m : (ℓ : Loc Cert.ExchangeRefIdeal.nD Cert.ExchangeRefIdeal.τ Cert.ExchangeRefIdeal.sig) → Buf (Elt Ideal) ℓ) (g : Dev Cert.ExchangeRefIdeal.nD → PrngReg), Pre_ExchangeRefIdeal m →
    θ_run (Cert.ExchangeRefIdeal.defs (F := Ideal)) (onTc (τ := Cert.ExchangeRefIdeal.τ) (Cert.ExchangeRefIdeal.main (F := Ideal))) ⟨m, fun _ => 0, g⟩ (fun r => (∀ c : Dev Cert.ExchangeRefIdeal.nD,
      r.2.mem ((c.tc : Thread Cert.ExchangeRefIdeal.nD Cert.ExchangeRefIdeal.τ).loc Cert.ExchangeRefIdeal.main_arg0) = m ((c.tc : Thread Cert.ExchangeRefIdeal.nD Cert.ExchangeRefIdeal.τ).loc Cert.ExchangeRefIdeal.main_arg0)
      ∧ r.2.mem ((c.tc : Thread Cert.ExchangeRefIdeal.nD Cert.ExchangeRefIdeal.τ).loc Cert.ExchangeRefIdeal.main_arg1) = m ((c.tc : Thread Cert.ExchangeRefIdeal.nD Cert.ExchangeRefIdeal.τ).loc Cert.ExchangeRefIdeal.main_arg1))
      ∧ r.2.sem = fun _ => 0)

def quiescent_ExchangeRef [hExchangeRef : Cert.ExchangeRef.Facts] : Prop :=
  ∀ (m : (ℓ : Loc Cert.ExchangeRef.nD Cert.ExchangeRef.τ Cert.ExchangeRef.sig) → Buf (Elt Bits) ℓ) (g : Dev Cert.ExchangeRef.nD → PrngReg), Pre_ExchangeRef m →
    θ_run (Cert.ExchangeRef.defs (F := Bits)) (onTc (τ := Cert.ExchangeRef.τ) (Cert.ExchangeRef.main (F := Bits))) ⟨m, fun _ => 0, g⟩ (fun r => (∀ c : Dev Cert.ExchangeRef.nD,
      r.2.mem ((c.tc : Thread Cert.ExchangeRef.nD Cert.ExchangeRef.τ).loc Cert.ExchangeRef.main_arg0) = m ((c.tc : Thread Cert.ExchangeRef.nD Cert.ExchangeRef.τ).loc Cert.ExchangeRef.main_arg0)
      ∧ r.2.mem ((c.tc : Thread Cert.ExchangeRef.nD Cert.ExchangeRef.τ).loc Cert.ExchangeRef.main_arg1) = m ((c.tc : Thread Cert.ExchangeRef.nD Cert.ExchangeRef.τ).loc Cert.ExchangeRef.main_arg1))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1)
      ∧ r.2.mem ((c.tc : Thread Cert.Weights.nD Cert.Weights.τ).loc Cert.Weights.main_arg2) = m ((c.tc : Thread Cert.Weights.nD Cert.Weights.τ).loc Cert.Weights.main_arg2))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
      ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0)
      ∧ r.2.mem ((c.tc : Thread Cert.WeightsRefIdeal.nD Cert.WeightsRefIdeal.τ).loc Cert.WeightsRefIdeal.main_arg1) = m ((c.tc : Thread Cert.WeightsRefIdeal.nD Cert.WeightsRefIdeal.τ).loc Cert.WeightsRefIdeal.main_arg1)
      ∧ r.2.mem ((c.tc : Thread Cert.WeightsRefIdeal.nD Cert.WeightsRefIdeal.τ).loc Cert.WeightsRefIdeal.main_arg2) = m ((c.tc : Thread Cert.WeightsRefIdeal.nD Cert.WeightsRefIdeal.τ).loc Cert.WeightsRefIdeal.main_arg2))
      ∧ r.2.sem = fun _ => 0)

def quiescent_WeightsRef [hWeightsRef : Cert.WeightsRef.Facts] : Prop :=
  ∀ (m : (ℓ : Loc Cert.WeightsRef.nD Cert.WeightsRef.τ Cert.WeightsRef.sig) → Buf (Elt Bits) ℓ) (g : Dev Cert.WeightsRef.nD → PrngReg), Pre_WeightsRef m →
    θ_run (Cert.WeightsRef.defs (F := Bits)) (onTc (τ := Cert.WeightsRef.τ) (Cert.WeightsRef.main (F := Bits))) ⟨m, fun _ => 0, g⟩ (fun r => (∀ c : Dev Cert.WeightsRef.nD,
      r.2.mem ((c.tc : Thread Cert.WeightsRef.nD Cert.WeightsRef.τ).loc Cert.WeightsRef.main_arg0) = m ((c.tc : Thread Cert.WeightsRef.nD Cert.WeightsRef.τ).loc Cert.WeightsRef.main_arg0)
      ∧ r.2.mem ((c.tc : Thread Cert.WeightsRef.nD Cert.WeightsRef.τ).loc Cert.WeightsRef.main_arg1) = m ((c.tc : Thread Cert.WeightsRef.nD Cert.WeightsRef.τ).loc Cert.WeightsRef.main_arg1)
      ∧ r.2.mem ((c.tc : Thread Cert.WeightsRef.nD Cert.WeightsRef.τ).loc Cert.WeightsRef.main_arg2) = m ((c.tc : Thread Cert.WeightsRef.nD Cert.WeightsRef.τ).loc Cert.WeightsRef.main_arg2))
      ∧ r.2.sem = fun _ => 0)

def quiescent_Vec [hVec : Cert.Vec.Facts] : Prop :=
  ∀ (m : (ℓ : Loc Cert.Vec.nD Cert.Vec.τ Cert.Vec.sig) → Buf (Elt Bits) ℓ) (g : Dev Cert.Vec.nD → PrngReg), Pre_Vec m →
    θ_run (Cert.Vec.defs (F := Bits)) (onTc (τ := Cert.Vec.τ) (Cert.Vec.main (F := Bits))) ⟨m, fun _ => 0, g⟩ (fun r => (∀ c : Dev Cert.Vec.nD,
      r.2.mem ((c.tc : Thread Cert.Vec.nD Cert.Vec.τ).loc Cert.Vec.main_arg0) = m ((c.tc : Thread Cert.Vec.nD Cert.Vec.τ).loc Cert.Vec.main_arg0))
      ∧ r.2.sem = fun _ => 0)

def quiescent_VecIdeal [hVecIdeal : Cert.VecIdeal.Facts] : Prop :=
  ∀ (m : (ℓ : Loc Cert.VecIdeal.nD Cert.VecIdeal.τ Cert.VecIdeal.sig) → Buf (Elt Ideal) ℓ) (g : Dev Cert.VecIdeal.nD → PrngReg), Pre_VecIdeal m →
    θ_run (Cert.VecIdeal.defs (F := Ideal)) (onTc (τ := Cert.VecIdeal.τ) (Cert.VecIdeal.main (F := Ideal))) ⟨m, fun _ => 0, g⟩ (fun r => (∀ c : Dev Cert.VecIdeal.nD,
      r.2.mem ((c.tc : Thread Cert.VecIdeal.nD Cert.VecIdeal.τ).loc Cert.VecIdeal.main_arg0) = m ((c.tc : Thread Cert.VecIdeal.nD Cert.VecIdeal.τ).loc Cert.VecIdeal.main_arg0))
      ∧ r.2.sem = fun _ => 0)

def quiescent_VecRefIdeal [hVecRefIdeal : Cert.VecRefIdeal.Facts] : Prop :=
  ∀ (m : (ℓ : Loc Cert.VecRefIdeal.nD Cert.VecRefIdeal.τ Cert.VecRefIdeal.sig) → Buf (Elt Ideal) ℓ) (g : Dev Cert.VecRefIdeal.nD → PrngReg), Pre_VecRefIdeal m →
    θ_run (Cert.VecRefIdeal.defs (F := Ideal)) (onTc (τ := Cert.VecRefIdeal.τ) (Cert.VecRefIdeal.main (F := Ideal))) ⟨m, fun _ => 0, g⟩ (fun r => (∀ c : Dev Cert.VecRefIdeal.nD,
      r.2.mem ((c.tc : Thread Cert.VecRefIdeal.nD Cert.VecRefIdeal.τ).loc Cert.VecRefIdeal.main_arg0) = m ((c.tc : Thread Cert.VecRefIdeal.nD Cert.VecRefIdeal.τ).loc Cert.VecRefIdeal.main_arg0))
      ∧ r.2.sem = fun _ => 0)

def quiescent_VecRef [hVecRef : Cert.VecRef.Facts] : Prop :=
  ∀ (m : (ℓ : Loc Cert.VecRef.nD Cert.VecRef.τ Cert.VecRef.sig) → Buf (Elt Bits) ℓ) (g : Dev Cert.VecRef.nD → PrngReg), Pre_VecRef m →
    θ_run (Cert.VecRef.defs (F := Bits)) (onTc (τ := Cert.VecRef.τ) (Cert.VecRef.main (F := Bits))) ⟨m, fun _ => 0, g⟩ (fun r => (∀ c : Dev Cert.VecRef.nD,
      r.2.mem ((c.tc : Thread Cert.VecRef.nD Cert.VecRef.τ).loc Cert.VecRef.main_arg0) = m ((c.tc : Thread Cert.VecRef.nD Cert.VecRef.τ).loc Cert.VecRef.main_arg0))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamRet [hAdamRet : Cert.AdamRet.Facts] : Prop :=
  ∀ (m : (ℓ : Loc Cert.AdamRet.nD Cert.AdamRet.τ Cert.AdamRet.sig) → Buf (Elt Bits) ℓ) (g : Dev Cert.AdamRet.nD → PrngReg), Pre_AdamRet m →
    θ_run (Cert.AdamRet.defs (F := Bits)) (onTc (τ := Cert.AdamRet.τ) (Cert.AdamRet.main (F := Bits))) ⟨m, fun _ => 0, g⟩ (fun r => (∀ c : Dev Cert.AdamRet.nD,
      r.2.mem ((c.tc : Thread Cert.AdamRet.nD Cert.AdamRet.τ).loc Cert.AdamRet.main_arg0) = m ((c.tc : Thread Cert.AdamRet.nD Cert.AdamRet.τ).loc Cert.AdamRet.main_arg0)
      ∧ r.2.mem ((c.tc : Thread Cert.AdamRet.nD Cert.AdamRet.τ).loc Cert.AdamRet.main_arg1) = m ((c.tc : Thread Cert.AdamRet.nD Cert.AdamRet.τ).loc Cert.AdamRet.main_arg1)
      ∧ r.2.mem ((c.tc : Thread Cert.AdamRet.nD Cert.AdamRet.τ).loc Cert.AdamRet.main_arg2) = m ((c.tc : Thread Cert.AdamRet.nD Cert.AdamRet.τ).loc Cert.AdamRet.main_arg2)
      ∧ r.2.mem ((c.tc : Thread Cert.AdamRet.nD Cert.AdamRet.τ).loc Cert.AdamRet.main_arg3) = m ((c.tc : Thread Cert.AdamRet.nD Cert.AdamRet.τ).loc Cert.AdamRet.main_arg3))
      ∧ r.2.sem = fun _ => 0)

def quiescent_AdamRetIdeal [hAdamRetIdeal : Cert.AdamRetIdeal.Facts] : Prop :=
  ∀ (m : (ℓ : Loc Cert.AdamRetIdeal.nD Cert.AdamRetIdeal.τ Cert.AdamRetIdeal.sig) → Buf (Elt Ideal) ℓ) (g : Dev Cert.AdamRetIdeal.nD → PrngReg), Pre_AdamRetIdeal m →
    θ_run (Cert.AdamRetIdeal.defs (F := Ideal)) (onTc (τ := Cert.AdamRetIdeal.τ) (Cert.AdamRetIdeal.main (F := Ideal))) ⟨m, fun _ => 0, g⟩ (fun r => (∀ c : Dev Cert.AdamRetIdeal.nD,
      r.2.mem ((c.tc : Thread Cert.AdamRetIdeal.nD Cert.AdamRetIdeal.τ).loc Cert.AdamRetIdeal.main_arg0) = m ((c.tc : Thread Cert.AdamRetIdeal.nD Cert.AdamRetIdeal.τ).loc Cert.AdamRetIdeal.main_arg0)
      ∧ r.2.mem ((c.tc : Thread Cert.AdamRetIdeal.nD Cert.AdamRetIdeal.τ).loc Cert.AdamRetIdeal.main_arg1) = m ((c.tc : Thread Cert.AdamRetIdeal.nD Cert.AdamRetIdeal.τ).loc Cert.AdamRetIdeal.main_arg1)
      ∧ r.2.mem ((c.tc : Thread Cert.AdamRetIdeal.nD Cert.AdamRetIdeal.τ).loc Cert.AdamRetIdeal.main_arg2) = m ((c.tc : Thread Cert.AdamRetIdeal.nD Cert.AdamRetIdeal.τ).loc Cert.AdamRetIdeal.main_arg2)
      ∧ r.2.mem ((c.tc : Thread Cert.AdamRetIdeal.nD Cert.AdamRetIdeal.τ).loc Cert.AdamRetIdeal.main_arg3) = m ((c.tc : Thread Cert.AdamRetIdeal.nD Cert.AdamRetIdeal.τ).loc Cert.AdamRetIdeal.main_arg3))
      ∧ r.2.sem = fun _ => 0)

def quiescent_AdamRetRefIdeal [hAdamRetRefIdeal : Cert.AdamRetRefIdeal.Facts] : Prop :=
  ∀ (m : (ℓ : Loc Cert.AdamRetRefIdeal.nD Cert.AdamRetRefIdeal.τ Cert.AdamRetRefIdeal.sig) → Buf (Elt Ideal) ℓ) (g : Dev Cert.AdamRetRefIdeal.nD → PrngReg), Pre_AdamRetRefIdeal m →
    θ_run (Cert.AdamRetRefIdeal.defs (F := Ideal)) (onTc (τ := Cert.AdamRetRefIdeal.τ) (Cert.AdamRetRefIdeal.main (F := Ideal))) ⟨m, fun _ => 0, g⟩ (fun r => (∀ c : Dev Cert.AdamRetRefIdeal.nD,
      r.2.mem ((c.tc : Thread Cert.AdamRetRefIdeal.nD Cert.AdamRetRefIdeal.τ).loc Cert.AdamRetRefIdeal.main_arg0) = m ((c.tc : Thread Cert.AdamRetRefIdeal.nD Cert.AdamRetRefIdeal.τ).loc Cert.AdamRetRefIdeal.main_arg0)
      ∧ r.2.mem ((c.tc : Thread Cert.AdamRetRefIdeal.nD Cert.AdamRetRefIdeal.τ).loc Cert.AdamRetRefIdeal.main_arg1) = m ((c.tc : Thread Cert.AdamRetRefIdeal.nD Cert.AdamRetRefIdeal.τ).loc Cert.AdamRetRefIdeal.main_arg1)
      ∧ r.2.mem ((c.tc : Thread Cert.AdamRetRefIdeal.nD Cert.AdamRetRefIdeal.τ).loc Cert.AdamRetRefIdeal.main_arg2) = m ((c.tc : Thread Cert.AdamRetRefIdeal.nD Cert.AdamRetRefIdeal.τ).loc Cert.AdamRetRefIdeal.main_arg2)
      ∧ r.2.mem ((c.tc : Thread Cert.AdamRetRefIdeal.nD Cert.AdamRetRefIdeal.τ).loc Cert.AdamRetRefIdeal.main_arg3) = m ((c.tc : Thread Cert.AdamRetRefIdeal.nD Cert.AdamRetRefIdeal.τ).loc Cert.AdamRetRefIdeal.main_arg3))
      ∧ r.2.sem = fun _ => 0)

def quiescent_AdamSsd [hAdamSsd : Cert.AdamSsd.Facts] : Prop :=
  ∀ (m : (ℓ : Loc Cert.AdamSsd.nD Cert.AdamSsd.τ Cert.AdamSsd.sig) → Buf (Elt Bits) ℓ) (g : Dev Cert.AdamSsd.nD → PrngReg), Pre_AdamSsd m →
    θ_run (Cert.AdamSsd.defs (F := Bits)) (onTc (τ := Cert.AdamSsd.τ) (Cert.AdamSsd.main (F := Bits))) ⟨m, fun _ => 0, g⟩ (fun r => (∀ c : Dev Cert.AdamSsd.nD,
      r.2.mem ((c.tc : Thread Cert.AdamSsd.nD Cert.AdamSsd.τ).loc Cert.AdamSsd.main_arg0) = m ((c.tc : Thread Cert.AdamSsd.nD Cert.AdamSsd.τ).loc Cert.AdamSsd.main_arg0)
      ∧ r.2.mem ((c.tc : Thread Cert.AdamSsd.nD Cert.AdamSsd.τ).loc Cert.AdamSsd.main_arg1) = m ((c.tc : Thread Cert.AdamSsd.nD Cert.AdamSsd.τ).loc Cert.AdamSsd.main_arg1)
      ∧ r.2.mem ((c.tc : Thread Cert.AdamSsd.nD Cert.AdamSsd.τ).loc Cert.AdamSsd.main_arg2) = m ((c.tc : Thread Cert.AdamSsd.nD Cert.AdamSsd.τ).loc Cert.AdamSsd.main_arg2)
      ∧ r.2.mem ((c.tc : Thread Cert.AdamSsd.nD Cert.AdamSsd.τ).loc Cert.AdamSsd.main_arg3) = m ((c.tc : Thread Cert.AdamSsd.nD Cert.AdamSsd.τ).loc Cert.AdamSsd.main_arg3))
      ∧ r.2.sem = fun _ => 0)

def quiescent_AdamSsdIdeal [hAdamSsdIdeal : Cert.AdamSsdIdeal.Facts] : Prop :=
  ∀ (m : (ℓ : Loc Cert.AdamSsdIdeal.nD Cert.AdamSsdIdeal.τ Cert.AdamSsdIdeal.sig) → Buf (Elt Ideal) ℓ) (g : Dev Cert.AdamSsdIdeal.nD → PrngReg), Pre_AdamSsdIdeal m →
    θ_run (Cert.AdamSsdIdeal.defs (F := Ideal)) (onTc (τ := Cert.AdamSsdIdeal.τ) (Cert.AdamSsdIdeal.main (F := Ideal))) ⟨m, fun _ => 0, g⟩ (fun r => (∀ c : Dev Cert.AdamSsdIdeal.nD,
      r.2.mem ((c.tc : Thread Cert.AdamSsdIdeal.nD Cert.AdamSsdIdeal.τ).loc Cert.AdamSsdIdeal.main_arg0) = m ((c.tc : Thread Cert.AdamSsdIdeal.nD Cert.AdamSsdIdeal.τ).loc Cert.AdamSsdIdeal.main_arg0)
      ∧ r.2.mem ((c.tc : Thread Cert.AdamSsdIdeal.nD Cert.AdamSsdIdeal.τ).loc Cert.AdamSsdIdeal.main_arg1) = m ((c.tc : Thread Cert.AdamSsdIdeal.nD Cert.AdamSsdIdeal.τ).loc Cert.AdamSsdIdeal.main_arg1)
      ∧ r.2.mem ((c.tc : Thread Cert.AdamSsdIdeal.nD Cert.AdamSsdIdeal.τ).loc Cert.AdamSsdIdeal.main_arg2) = m ((c.tc : Thread Cert.AdamSsdIdeal.nD Cert.AdamSsdIdeal.τ).loc Cert.AdamSsdIdeal.main_arg2)
      ∧ r.2.mem ((c.tc : Thread Cert.AdamSsdIdeal.nD Cert.AdamSsdIdeal.τ).loc Cert.AdamSsdIdeal.main_arg3) = m ((c.tc : Thread Cert.AdamSsdIdeal.nD Cert.AdamSsdIdeal.τ).loc Cert.AdamSsdIdeal.main_arg3))
      ∧ r.2.sem = fun _ => 0)

def quiescent_AdamSsdRefIdeal [hAdamSsdRefIdeal : Cert.AdamSsdRefIdeal.Facts] : Prop :=
  ∀ (m : (ℓ : Loc Cert.AdamSsdRefIdeal.nD Cert.AdamSsdRefIdeal.τ Cert.AdamSsdRefIdeal.sig) → Buf (Elt Ideal) ℓ) (g : Dev Cert.AdamSsdRefIdeal.nD → PrngReg), Pre_AdamSsdRefIdeal m →
    θ_run (Cert.AdamSsdRefIdeal.defs (F := Ideal)) (onTc (τ := Cert.AdamSsdRefIdeal.τ) (Cert.AdamSsdRefIdeal.main (F := Ideal))) ⟨m, fun _ => 0, g⟩ (fun r => (∀ c : Dev Cert.AdamSsdRefIdeal.nD,
      r.2.mem ((c.tc : Thread Cert.AdamSsdRefIdeal.nD Cert.AdamSsdRefIdeal.τ).loc Cert.AdamSsdRefIdeal.main_arg0) = m ((c.tc : Thread Cert.AdamSsdRefIdeal.nD Cert.AdamSsdRefIdeal.τ).loc Cert.AdamSsdRefIdeal.main_arg0)
      ∧ r.2.mem ((c.tc : Thread Cert.AdamSsdRefIdeal.nD Cert.AdamSsdRefIdeal.τ).loc Cert.AdamSsdRefIdeal.main_arg1) = m ((c.tc : Thread Cert.AdamSsdRefIdeal.nD Cert.AdamSsdRefIdeal.τ).loc Cert.AdamSsdRefIdeal.main_arg1)
      ∧ r.2.mem ((c.tc : Thread Cert.AdamSsdRefIdeal.nD Cert.AdamSsdRefIdeal.τ).loc Cert.AdamSsdRefIdeal.main_arg2) = m ((c.tc : Thread Cert.AdamSsdRefIdeal.nD Cert.AdamSsdRefIdeal.τ).loc Cert.AdamSsdRefIdeal.main_arg2)
      ∧ r.2.mem ((c.tc : Thread Cert.AdamSsdRefIdeal.nD Cert.AdamSsdRefIdeal.τ).loc Cert.AdamSsdRefIdeal.main_arg3) = m ((c.tc : Thread Cert.AdamSsdRefIdeal.nD Cert.AdamSsdRefIdeal.τ).loc Cert.AdamSsdRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormB [hNormB : Cert.NormB.Facts] : Prop :=
  ∀ (m : (ℓ : Loc Cert.NormB.nD Cert.NormB.τ Cert.NormB.sig) → Buf (Elt Bits) ℓ) (g : Dev Cert.NormB.nD → PrngReg), Pre_NormB m →
    θ_run (Cert.NormB.defs (F := Bits)) (onTc (τ := Cert.NormB.τ) (Cert.NormB.main (F := Bits))) ⟨m, fun _ => 0, g⟩ (fun r => (∀ c : Dev Cert.NormB.nD,
      r.2.mem ((c.tc : Thread Cert.NormB.nD Cert.NormB.τ).loc Cert.NormB.main_arg0) = m ((c.tc : Thread Cert.NormB.nD Cert.NormB.τ).loc Cert.NormB.main_arg0)
      ∧ r.2.mem ((c.tc : Thread Cert.NormB.nD Cert.NormB.τ).loc Cert.NormB.main_arg1) = m ((c.tc : Thread Cert.NormB.nD Cert.NormB.τ).loc Cert.NormB.main_arg1)
      ∧ r.2.mem ((c.tc : Thread Cert.NormB.nD Cert.NormB.τ).loc Cert.NormB.main_arg2) = m ((c.tc : Thread Cert.NormB.nD Cert.NormB.τ).loc Cert.NormB.main_arg2)
      ∧ r.2.mem ((c.tc : Thread Cert.NormB.nD Cert.NormB.τ).loc Cert.NormB.main_arg3) = m ((c.tc : Thread Cert.NormB.nD Cert.NormB.τ).loc Cert.NormB.main_arg3))
      ∧ r.2.sem = fun _ => 0)

def quiescent_NormBIdeal [hNormBIdeal : Cert.NormBIdeal.Facts] : Prop :=
  ∀ (m : (ℓ : Loc Cert.NormBIdeal.nD Cert.NormBIdeal.τ Cert.NormBIdeal.sig) → Buf (Elt Ideal) ℓ) (g : Dev Cert.NormBIdeal.nD → PrngReg), Pre_NormBIdeal m →
    θ_run (Cert.NormBIdeal.defs (F := Ideal)) (onTc (τ := Cert.NormBIdeal.τ) (Cert.NormBIdeal.main (F := Ideal))) ⟨m, fun _ => 0, g⟩ (fun r => (∀ c : Dev Cert.NormBIdeal.nD,
      r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
      ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
      ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
      ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ r.2.sem = fun _ => 0)

def quiescent_NormBRefIdeal [hNormBRefIdeal : Cert.NormBRefIdeal.Facts] : Prop :=
  ∀ (m : (ℓ : Loc Cert.NormBRefIdeal.nD Cert.NormBRefIdeal.τ Cert.NormBRefIdeal.sig) → Buf (Elt Ideal) ℓ) (g : Dev Cert.NormBRefIdeal.nD → PrngReg), Pre_NormBRefIdeal m →
    θ_run (Cert.NormBRefIdeal.defs (F := Ideal)) (onTc (τ := Cert.NormBRefIdeal.τ) (Cert.NormBRefIdeal.main (F := Ideal))) ⟨m, fun _ => 0, g⟩ (fun r => (∀ c : Dev Cert.NormBRefIdeal.nD,
      r.2.mem ((c.tc : Thread Cert.NormBRefIdeal.nD Cert.NormBRefIdeal.τ).loc Cert.NormBRefIdeal.main_arg0) = m ((c.tc : Thread Cert.NormBRefIdeal.nD Cert.NormBRefIdeal.τ).loc Cert.NormBRefIdeal.main_arg0)
      ∧ r.2.mem ((c.tc : Thread Cert.NormBRefIdeal.nD Cert.NormBRefIdeal.τ).loc Cert.NormBRefIdeal.main_arg1) = m ((c.tc : Thread Cert.NormBRefIdeal.nD Cert.NormBRefIdeal.τ).loc Cert.NormBRefIdeal.main_arg1)
      ∧ r.2.mem ((c.tc : Thread Cert.NormBRefIdeal.nD Cert.NormBRefIdeal.τ).loc Cert.NormBRefIdeal.main_arg2) = m ((c.tc : Thread Cert.NormBRefIdeal.nD Cert.NormBRefIdeal.τ).loc Cert.NormBRefIdeal.main_arg2)
      ∧ r.2.mem ((c.tc : Thread Cert.NormBRefIdeal.nD Cert.NormBRefIdeal.τ).loc Cert.NormBRefIdeal.main_arg3) = m ((c.tc : Thread Cert.NormBRefIdeal.nD Cert.NormBRefIdeal.τ).loc Cert.NormBRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2))
      ∧ r.2.sem = fun _ => 0)

def quiescent_GatedB [hGatedB : Cert.GatedB.Facts] : Prop :=
  ∀ (m : (ℓ : Loc Cert.GatedB.nD Cert.GatedB.τ Cert.GatedB.sig) → Buf (Elt Bits) ℓ) (g : Dev Cert.GatedB.nD → PrngReg), Pre_GatedB m →
    θ_run (Cert.GatedB.defs (F := Bits)) (onTc (τ := Cert.GatedB.τ) (Cert.GatedB.main (F := Bits))) ⟨m, fun _ => 0, g⟩ (fun r => (∀ c : Dev Cert.GatedB.nD,
      r.2.mem ((c.tc : Thread Cert.GatedB.nD Cert.GatedB.τ).loc Cert.GatedB.main_arg0) = m ((c.tc : Thread Cert.GatedB.nD Cert.GatedB.τ).loc Cert.GatedB.main_arg0)
      ∧ r.2.mem ((c.tc : Thread Cert.GatedB.nD Cert.GatedB.τ).loc Cert.GatedB.main_arg1) = m ((c.tc : Thread Cert.GatedB.nD Cert.GatedB.τ).loc Cert.GatedB.main_arg1)
      ∧ r.2.mem ((c.tc : Thread Cert.GatedB.nD Cert.GatedB.τ).loc Cert.GatedB.main_arg2) = m ((c.tc : Thread Cert.GatedB.nD Cert.GatedB.τ).loc Cert.GatedB.main_arg2)
      ∧ r.2.mem ((c.tc : Thread Cert.GatedB.nD Cert.GatedB.τ).loc Cert.GatedB.main_arg3) = m ((c.tc : Thread Cert.GatedB.nD Cert.GatedB.τ).loc Cert.GatedB.main_arg3))
      ∧ r.2.sem = fun _ => 0)

def quiescent_GatedBIdeal [hGatedBIdeal : Cert.GatedBIdeal.Facts] : Prop :=
  ∀ (m : (ℓ : Loc Cert.GatedBIdeal.nD Cert.GatedBIdeal.τ Cert.GatedBIdeal.sig) → Buf (Elt Ideal) ℓ) (g : Dev Cert.GatedBIdeal.nD → PrngReg), Pre_GatedBIdeal m →
    θ_run (Cert.GatedBIdeal.defs (F := Ideal)) (onTc (τ := Cert.GatedBIdeal.τ) (Cert.GatedBIdeal.main (F := Ideal))) ⟨m, fun _ => 0, g⟩ (fun r => (∀ c : Dev Cert.GatedBIdeal.nD,
      r.2.mem ((c.tc : Thread Cert.GatedBIdeal.nD Cert.GatedBIdeal.τ).loc Cert.GatedBIdeal.main_arg0) = m ((c.tc : Thread Cert.GatedBIdeal.nD Cert.GatedBIdeal.τ).loc Cert.GatedBIdeal.main_arg0)
      ∧ r.2.mem ((c.tc : Thread Cert.GatedBIdeal.nD Cert.GatedBIdeal.τ).loc Cert.GatedBIdeal.main_arg1) = m ((c.tc : Thread Cert.GatedBIdeal.nD Cert.GatedBIdeal.τ).loc Cert.GatedBIdeal.main_arg1)
      ∧ r.2.mem ((c.tc : Thread Cert.GatedBIdeal.nD Cert.GatedBIdeal.τ).loc Cert.GatedBIdeal.main_arg2) = m ((c.tc : Thread Cert.GatedBIdeal.nD Cert.GatedBIdeal.τ).loc Cert.GatedBIdeal.main_arg2)
      ∧ r.2.mem ((c.tc : Thread Cert.GatedBIdeal.nD Cert.GatedBIdeal.τ).loc Cert.GatedBIdeal.main_arg3) = m ((c.tc : Thread Cert.GatedBIdeal.nD Cert.GatedBIdeal.τ).loc Cert.GatedBIdeal.main_arg3))
      ∧ r.2.sem = fun _ => 0)

def quiescent_GatedBRefIdeal [hGatedBRefIdeal : Cert.GatedBRefIdeal.Facts] : Prop :=
  ∀ (m : (ℓ : Loc Cert.GatedBRefIdeal.nD Cert.GatedBRefIdeal.τ Cert.GatedBRefIdeal.sig) → Buf (Elt Ideal) ℓ) (g : Dev Cert.GatedBRefIdeal.nD → PrngReg), Pre_GatedBRefIdeal m →
    θ_run (Cert.GatedBRefIdeal.defs (F := Ideal)) (onTc (τ := Cert.GatedBRefIdeal.τ) (Cert.GatedBRefIdeal.main (F := Ideal))) ⟨m, fun _ => 0, g⟩ (fun r => (∀ c : Dev Cert.GatedBRefIdeal.nD,
      r.2.mem ((c.tc : Thread Cert.GatedBRefIdeal.nD Cert.GatedBRefIdeal.τ).loc Cert.GatedBRefIdeal.main_arg0) = m ((c.tc : Thread Cert.GatedBRefIdeal.nD Cert.GatedBRefIdeal.τ).loc Cert.GatedBRefIdeal.main_arg0)
      ∧ r.2.mem ((c.tc : Thread Cert.GatedBRefIdeal.nD Cert.GatedBRefIdeal.τ).loc Cert.GatedBRefIdeal.main_arg1) = m ((c.tc : Thread Cert.GatedBRefIdeal.nD Cert.GatedBRefIdeal.τ).loc Cert.GatedBRefIdeal.main_arg1)
      ∧ r.2.mem ((c.tc : Thread Cert.GatedBRefIdeal.nD Cert.GatedBRefIdeal.τ).loc Cert.GatedBRefIdeal.main_arg2) = m ((c.tc : Thread Cert.GatedBRefIdeal.nD Cert.GatedBRefIdeal.τ).loc Cert.GatedBRefIdeal.main_arg2)
      ∧ r.2.mem ((c.tc : Thread Cert.GatedBRefIdeal.nD Cert.GatedBRefIdeal.τ).loc Cert.GatedBRefIdeal.main_arg3) = m ((c.tc : Thread Cert.GatedBRefIdeal.nD Cert.GatedBRefIdeal.τ).loc Cert.GatedBRefIdeal.main_arg3))
      ∧ r.2.sem = fun _ => 0)

def quiescent_ProjMain [hProjMain : Cert.ProjMain.Facts] : Prop :=
  ∀ (m : (ℓ : Loc Cert.ProjMain.nD Cert.ProjMain.τ Cert.ProjMain.sig) → Buf (Elt Bits) ℓ) (g : Dev Cert.ProjMain.nD → PrngReg), Pre_ProjMain m →
    θ_run (Cert.ProjMain.defs (F := Bits)) (onTc (τ := Cert.ProjMain.τ) (Cert.ProjMain.main (F := Bits))) ⟨m, fun _ => 0, g⟩ (fun r => (∀ c : Dev Cert.ProjMain.nD,
      r.2.mem ((c.tc : Thread Cert.ProjMain.nD Cert.ProjMain.τ).loc Cert.ProjMain.main_arg0) = m ((c.tc : Thread Cert.ProjMain.nD Cert.ProjMain.τ).loc Cert.ProjMain.main_arg0)
      ∧ r.2.mem ((c.tc : Thread Cert.ProjMain.nD Cert.ProjMain.τ).loc Cert.ProjMain.main_arg1) = m ((c.tc : Thread Cert.ProjMain.nD Cert.ProjMain.τ).loc Cert.ProjMain.main_arg1))
      ∧ r.2.sem = fun _ => 0)

def quiescent_ProjMainIdeal [hProjMainIdeal : Cert.ProjMainIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg), Pre_ProjMainIdeal m →
    θ_run (Cert.ProjMainIdeal.defs (F := Ideal)) (onTc (τ := Cert.ProjMainIdeal.τ) (Cert.ProjMainIdeal.main (F := Ideal))) ⟨m, fun _ => 0, g⟩ (fun r => (∀ c : Dev Cert.ProjMainIdeal.nD,
      r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
      ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ r.2.sem = fun _ => 0)

def quiescent_ProjMainRefIdeal [hProjMainRefIdeal : Cert.ProjMainRefIdeal.Facts] : Prop :=
  ∀ (m : (ℓ : Loc Cert.ProjMainRefIdeal.nD Cert.ProjMainRefIdeal.τ Cert.ProjMainRefIdeal.sig) → Buf (Elt Ideal) ℓ) (g : Dev Cert.ProjMainRefIdeal.nD → PrngReg), Pre_ProjMainRefIdeal m →
    θ_run (Cert.ProjMainRefIdeal.defs (F := Ideal)) (onTc (τ := Cert.ProjMainRefIdeal.τ) (Cert.ProjMainRefIdeal.main (F := Ideal))) ⟨m, fun _ => 0, g⟩ (fun r => (∀ c : Dev Cert.ProjMainRefIdeal.nD,
      r.2.mem ((c.tc : Thread Cert.ProjMainRefIdeal.nD Cert.ProjMainRefIdeal.τ).loc Cert.ProjMainRefIdeal.main_arg0) = m ((c.tc : Thread Cert.ProjMainRefIdeal.nD Cert.ProjMainRefIdeal.τ).loc Cert.ProjMainRefIdeal.main_arg0)
      ∧ r.2.mem ((c.tc : Thread Cert.ProjMainRefIdeal.nD Cert.ProjMainRefIdeal.τ).loc Cert.ProjMainRefIdeal.main_arg1) = m ((c.tc : Thread Cert.ProjMainRefIdeal.nD Cert.ProjMainRefIdeal.τ).loc Cert.ProjMainRefIdeal.main_arg1))
      ∧ r.2.sem = fun _ => 0)

def quiescent_BranchSsd [hBranchSsd : Cert.BranchSsd.Facts] : Prop :=
  ∀ (m : (ℓ : Loc Cert.BranchSsd.nD Cert.BranchSsd.τ Cert.BranchSsd.sig) → Buf (Elt Bits) ℓ) (g : Dev Cert.BranchSsd.nD → PrngReg), Pre_BranchSsd m →
    θ_run (Cert.BranchSsd.defs (F := Bits)) (onTc (τ := Cert.BranchSsd.τ) (Cert.BranchSsd.main (F := Bits))) ⟨m, fun _ => 0, g⟩ (fun r => (∀ c : Dev Cert.BranchSsd.nD,
      r.2.mem ((c.tc : Thread Cert.BranchSsd.nD Cert.BranchSsd.τ).loc Cert.BranchSsd.main_arg0) = m ((c.tc : Thread Cert.BranchSsd.nD Cert.BranchSsd.τ).loc Cert.BranchSsd.main_arg0)
      ∧ r.2.mem ((c.tc : Thread Cert.BranchSsd.nD Cert.BranchSsd.τ).loc Cert.BranchSsd.main_arg1) = m ((c.tc : Thread Cert.BranchSsd.nD Cert.BranchSsd.τ).loc Cert.BranchSsd.main_arg1))
      ∧ r.2.sem = fun _ => 0)

def quiescent_BranchSsdIdeal [hBranchSsdIdeal : Cert.BranchSsdIdeal.Facts] : Prop :=
  ∀ (m : (ℓ : Loc Cert.BranchSsdIdeal.nD Cert.BranchSsdIdeal.τ Cert.BranchSsdIdeal.sig) → Buf (Elt Ideal) ℓ) (g : Dev Cert.BranchSsdIdeal.nD → PrngReg), Pre_BranchSsdIdeal m →
    θ_run (Cert.BranchSsdIdeal.defs (F := Ideal)) (onTc (τ := Cert.BranchSsdIdeal.τ) (Cert.BranchSsdIdeal.main (F := Ideal))) ⟨m, fun _ => 0, g⟩ (fun r => (∀ c : Dev Cert.BranchSsdIdeal.nD,
      r.2.mem ((c.tc : Thread Cert.BranchSsdIdeal.nD Cert.BranchSsdIdeal.τ).loc Cert.BranchSsdIdeal.main_arg0) = m ((c.tc : Thread Cert.BranchSsdIdeal.nD Cert.BranchSsdIdeal.τ).loc Cert.BranchSsdIdeal.main_arg0)
      ∧ r.2.mem ((c.tc : Thread Cert.BranchSsdIdeal.nD Cert.BranchSsdIdeal.τ).loc Cert.BranchSsdIdeal.main_arg1) = m ((c.tc : Thread Cert.BranchSsdIdeal.nD Cert.BranchSsdIdeal.τ).loc Cert.BranchSsdIdeal.main_arg1))
      ∧ r.2.sem = fun _ => 0)

def quiescent_BranchSsdRefIdeal [hBranchSsdRefIdeal : Cert.BranchSsdRefIdeal.Facts] : Prop :=
  ∀ (m : (ℓ : Loc Cert.BranchSsdRefIdeal.nD Cert.BranchSsdRefIdeal.τ Cert.BranchSsdRefIdeal.sig) → Buf (Elt Ideal) ℓ) (g : Dev Cert.BranchSsdRefIdeal.nD → PrngReg), Pre_BranchSsdRefIdeal m →
    θ_run (Cert.BranchSsdRefIdeal.defs (F := Ideal)) (onTc (τ := Cert.BranchSsdRefIdeal.τ) (Cert.BranchSsdRefIdeal.main (F := Ideal))) ⟨m, fun _ => 0, g⟩ (fun r => (∀ c : Dev Cert.BranchSsdRefIdeal.nD,
      r.2.mem ((c.tc : Thread Cert.BranchSsdRefIdeal.nD Cert.BranchSsdRefIdeal.τ).loc Cert.BranchSsdRefIdeal.main_arg0) = m ((c.tc : Thread Cert.BranchSsdRefIdeal.nD Cert.BranchSsdRefIdeal.τ).loc Cert.BranchSsdRefIdeal.main_arg0)
      ∧ r.2.mem ((c.tc : Thread Cert.BranchSsdRefIdeal.nD Cert.BranchSsdRefIdeal.τ).loc Cert.BranchSsdRefIdeal.main_arg1) = m ((c.tc : Thread Cert.BranchSsdRefIdeal.nD Cert.BranchSsdRefIdeal.τ).loc Cert.BranchSsdRefIdeal.main_arg1))
      ∧ r.2.sem = fun _ => 0)

def quiescent_DYr [hDYr : Cert.DYr.Facts] : Prop :=
  ∀ (m : (ℓ : Loc Cert.DYr.nD Cert.DYr.τ Cert.DYr.sig) → Buf (Elt Bits) ℓ) (g : Dev Cert.DYr.nD → PrngReg), Pre_DYr m →
    θ_run (Cert.DYr.defs (F := Bits)) (onTc (τ := Cert.DYr.τ) (Cert.DYr.main (F := Bits))) ⟨m, fun _ => 0, g⟩ (fun r => (∀ c : Dev Cert.DYr.nD,
      r.2.mem ((c.tc : Thread Cert.DYr.nD Cert.DYr.τ).loc Cert.DYr.main_arg0) = m ((c.tc : Thread Cert.DYr.nD Cert.DYr.τ).loc Cert.DYr.main_arg0)
      ∧ r.2.mem ((c.tc : Thread Cert.DYr.nD Cert.DYr.τ).loc Cert.DYr.main_arg1) = m ((c.tc : Thread Cert.DYr.nD Cert.DYr.τ).loc Cert.DYr.main_arg1))
      ∧ r.2.sem = fun _ => 0)

def quiescent_DYrIdeal [hDYrIdeal : Cert.DYrIdeal.Facts] : Prop :=
  ∀ (m : (ℓ : Loc Cert.DYrIdeal.nD Cert.DYrIdeal.τ Cert.DYrIdeal.sig) → Buf (Elt Ideal) ℓ) (g : Dev Cert.DYrIdeal.nD → PrngReg), Pre_DYrIdeal m →
    θ_run (Cert.DYrIdeal.defs (F := Ideal)) (onTc (τ := Cert.DYrIdeal.τ) (Cert.DYrIdeal.main (F := Ideal))) ⟨m, fun _ => 0, g⟩ (fun r => (∀ c : Dev Cert.DYrIdeal.nD,
      r.2.mem ((c.tc : Thread Cert.DYrIdeal.nD Cert.DYrIdeal.τ).loc Cert.DYrIdeal.main_arg0) = m ((c.tc : Thread Cert.DYrIdeal.nD Cert.DYrIdeal.τ).loc Cert.DYrIdeal.main_arg0)
      ∧ r.2.mem ((c.tc : Thread Cert.DYrIdeal.nD Cert.DYrIdeal.τ).loc Cert.DYrIdeal.main_arg1) = m ((c.tc : Thread Cert.DYrIdeal.nD Cert.DYrIdeal.τ).loc Cert.DYrIdeal.main_arg1))
      ∧ r.2.sem = fun _ => 0)

def quiescent_DYrRefIdeal [hDYrRefIdeal : Cert.DYrRefIdeal.Facts] : Prop :=
  ∀ (m : (ℓ : Loc Cert.DYrRefIdeal.nD Cert.DYrRefIdeal.τ Cert.DYrRefIdeal.sig) → Buf (Elt Ideal) ℓ) (g : Dev Cert.DYrRefIdeal.nD → PrngReg), Pre_DYrRefIdeal m →
    θ_run (Cert.DYrRefIdeal.defs (F := Ideal)) (onTc (τ := Cert.DYrRefIdeal.τ) (Cert.DYrRefIdeal.main (F := Ideal))) ⟨m, fun _ => 0, g⟩ (fun r => (∀ c : Dev Cert.DYrRefIdeal.nD,
      r.2.mem ((c.tc : Thread Cert.DYrRefIdeal.nD Cert.DYrRefIdeal.τ).loc Cert.DYrRefIdeal.main_arg0) = m ((c.tc : Thread Cert.DYrRefIdeal.nD Cert.DYrRefIdeal.τ).loc Cert.DYrRefIdeal.main_arg0)
      ∧ r.2.mem ((c.tc : Thread Cert.DYrRefIdeal.nD Cert.DYrRefIdeal.τ).loc Cert.DYrRefIdeal.main_arg1) = m ((c.tc : Thread Cert.DYrRefIdeal.nD Cert.DYrRefIdeal.τ).loc Cert.DYrRefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_PairIn [hPairIn : Cert.PairIn.Facts] [hPre_core_in : Cert.Pre_core_in.Facts] : Prop :=
  ∀ (m : (ℓ : Loc Cert.PairIn.nD Cert.PairIn.τ Cert.PairIn.sig) → Buf (Elt Bits) ℓ) (g : Dev Cert.PairIn.nD → PrngReg), Pre_PairIn m →
    θ_run (Cert.PairIn.defs (F := Bits)) (onTc (τ := Cert.PairIn.τ) (Cert.PairIn.main (F := Bits))) ⟨m, fun _ => 0, g⟩ (fun r => (∀ c : Dev Cert.PairIn.nD,
      r.2.mem ((c.tc : Thread Cert.PairIn.nD Cert.PairIn.τ).loc Cert.PairIn.main_arg0) = m ((c.tc : Thread Cert.PairIn.nD Cert.PairIn.τ).loc Cert.PairIn.main_arg0)
      ∧ r.2.mem ((c.tc : Thread Cert.PairIn.nD Cert.PairIn.τ).loc Cert.PairIn.main_arg1) = m ((c.tc : Thread Cert.PairIn.nD Cert.PairIn.τ).loc Cert.PairIn.main_arg1)
      ∧ r.2.mem ((c.tc : Thread Cert.PairIn.nD Cert.PairIn.τ).loc Cert.PairIn.main_arg2) = m ((c.tc : Thread Cert.PairIn.nD Cert.PairIn.τ).loc Cert.PairIn.main_arg2))
      ∧ r.2.sem = fun _ => 0)

def quiescent_PairInIdeal [hPairInIdeal : Cert.PairInIdeal.Facts] [hPre_core_in : Cert.Pre_core_in.Facts] : Prop :=
  ∀ (m : (ℓ : Loc Cert.PairInIdeal.nD Cert.PairInIdeal.τ Cert.PairInIdeal.sig) → Buf (Elt Ideal) ℓ) (g : Dev Cert.PairInIdeal.nD → PrngReg), Pre_PairInIdeal m →
    θ_run (Cert.PairInIdeal.defs (F := Ideal)) (onTc (τ := Cert.PairInIdeal.τ) (Cert.PairInIdeal.main (F := Ideal))) ⟨m, fun _ => 0, g⟩ (fun r => (∀ c : Dev Cert.PairInIdeal.nD,
      r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
      ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
      ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ r.2.sem = fun _ => 0)

def quiescent_PairInRefIdeal [hPairInRefIdeal : Cert.PairInRefIdeal.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1)
      ∧ r.2.mem ((c.tc : Thread Cert.PairInRefIdeal.nD Cert.PairInRefIdeal.τ).loc Cert.PairInRefIdeal.main_arg2) = m ((c.tc : Thread Cert.PairInRefIdeal.nD Cert.PairInRefIdeal.τ).loc Cert.PairInRefIdeal.main_arg2))
      ∧ r.2.sem = fun _ => 0)

def quiescent_PairInRefIdeal_pre_core_in [hPairInRefIdeal : Cert.PairInRefIdeal.Facts] [hPre_core_in : Cert.Pre_core_in.Facts] : Prop :=
  ∀ (m : (ℓ : Loc Cert.PairInRefIdeal.nD Cert.PairInRefIdeal.τ Cert.PairInRefIdeal.sig) → Buf (Elt Ideal) ℓ) (g : Dev Cert.PairInRefIdeal.nD → PrngReg), Pre_PairInRefIdeal_core_in m →
    θ_run (Cert.PairInRefIdeal.defs (F := Ideal)) (onTc (τ := Cert.PairInRefIdeal.τ) (Cert.PairInRefIdeal.main (F := Ideal))) ⟨m, fun _ => 0, g⟩ (fun r => (∀ c : Dev Cert.PairInRefIdeal.nD,
      r.2.mem ((c.tc : Thread Cert.PairInRefIdeal.nD Cert.PairInRefIdeal.τ).loc Cert.PairInRefIdeal.main_arg0) = m ((c.tc : Thread Cert.PairInRefIdeal.nD Cert.PairInRefIdeal.τ).loc Cert.PairInRefIdeal.main_arg0)
      ∧ r.2.mem ((c.tc : Thread Cert.PairInRefIdeal.nD Cert.PairInRefIdeal.τ).loc Cert.PairInRefIdeal.main_arg1) = m ((c.tc : Thread Cert.PairInRefIdeal.nD Cert.PairInRefIdeal.τ).loc Cert.PairInRefIdeal.main_arg1)
      ∧ r.2.mem ((c.tc : Thread Cert.PairInRefIdeal.nD Cert.PairInRefIdeal.τ).loc Cert.PairInRefIdeal.main_arg2) = m ((c.tc : Thread Cert.PairInRefIdeal.nD Cert.PairInRefIdeal.τ).loc Cert.PairInRefIdeal.main_arg2))
      ∧ r.2.sem = fun _ => 0)

def quiescent_PairB [hPairB : Cert.PairB.Facts] [hPre_core_b : Cert.Pre_core_b.Facts] : Prop :=
  ∀ (m : (ℓ : Loc Cert.PairB.nD Cert.PairB.τ Cert.PairB.sig) → Buf (Elt Bits) ℓ) (g : Dev Cert.PairB.nD → PrngReg), Pre_PairB m →
    θ_run (Cert.PairB.defs (F := Bits)) (onTc (τ := Cert.PairB.τ) (Cert.PairB.main (F := Bits))) ⟨m, fun _ => 0, g⟩ (fun r => (∀ c : Dev Cert.PairB.nD,
      r.2.mem ((c.tc : Thread Cert.PairB.nD Cert.PairB.τ).loc Cert.PairB.main_arg0) = m ((c.tc : Thread Cert.PairB.nD Cert.PairB.τ).loc Cert.PairB.main_arg0)
      ∧ r.2.mem ((c.tc : Thread Cert.PairB.nD Cert.PairB.τ).loc Cert.PairB.main_arg1) = m ((c.tc : Thread Cert.PairB.nD Cert.PairB.τ).loc Cert.PairB.main_arg1)
      ∧ r.2.mem ((c.tc : Thread Cert.PairB.nD Cert.PairB.τ).loc Cert.PairB.main_arg2) = m ((c.tc : Thread Cert.PairB.nD Cert.PairB.τ).loc Cert.PairB.main_arg2))
      ∧ r.2.sem = fun _ => 0)

def quiescent_PairBIdeal [hPairBIdeal : Cert.PairBIdeal.Facts] [hPre_core_b : Cert.Pre_core_b.Facts] : Prop :=
  ∀ (m : (ℓ : Loc Cert.PairBIdeal.nD Cert.PairBIdeal.τ Cert.PairBIdeal.sig) → Buf (Elt Ideal) ℓ) (g : Dev Cert.PairBIdeal.nD → PrngReg), Pre_PairBIdeal m →
    θ_run (Cert.PairBIdeal.defs (F := Ideal)) (onTc (τ := Cert.PairBIdeal.τ) (Cert.PairBIdeal.main (F := Ideal))) ⟨m, fun _ => 0, g⟩ (fun r => (∀ c : Dev Cert.PairBIdeal.nD,
      r.2.mem ((c.tc : Thread Cert.PairBIdeal.nD Cert.PairBIdeal.τ).loc Cert.PairBIdeal.main_arg0) = m ((c.tc : Thread Cert.PairBIdeal.nD Cert.PairBIdeal.τ).loc Cert.PairBIdeal.main_arg0)
      ∧ r.2.mem ((c.tc : Thread Cert.PairBIdeal.nD Cert.PairBIdeal.τ).loc Cert.PairBIdeal.main_arg1) = m ((c.tc : Thread Cert.PairBIdeal.nD Cert.PairBIdeal.τ).loc Cert.PairBIdeal.main_arg1)
      ∧ r.2.mem ((c.tc : Thread Cert.PairBIdeal.nD Cert.PairBIdeal.τ).loc Cert.PairBIdeal.main_arg2) = m ((c.tc : Thread Cert.PairBIdeal.nD Cert.PairBIdeal.τ).loc Cert.PairBIdeal.main_arg2))
      ∧ r.2.sem = fun _ => 0)

def quiescent_PairBRefIdeal [hPairBRefIdeal : Cert.PairBRefIdeal.Facts] : Prop :=
  ∀ (m : (ℓ : Loc Cert.PairBRefIdeal.nD Cert.PairBRefIdeal.τ Cert.PairBRefIdeal.sig) → Buf (Elt Ideal) ℓ) (g : Dev Cert.PairBRefIdeal.nD → PrngReg), Pre_PairBRefIdeal m →
    θ_run (Cert.PairBRefIdeal.defs (F := Ideal)) (onTc (τ := Cert.PairBRefIdeal.τ) (Cert.PairBRefIdeal.main (F := Ideal))) ⟨m, fun _ => 0, g⟩ (fun r => (∀ c : Dev Cert.PairBRefIdeal.nD,
      r.2.mem ((c.tc : Thread Cert.PairBRefIdeal.nD Cert.PairBRefIdeal.τ).loc Cert.PairBRefIdeal.main_arg0) = m ((c.tc : Thread Cert.PairBRefIdeal.nD Cert.PairBRefIdeal.τ).loc Cert.PairBRefIdeal.main_arg0)
      ∧ r.2.mem ((c.tc : Thread Cert.PairBRefIdeal.nD Cert.PairBRefIdeal.τ).loc Cert.PairBRefIdeal.main_arg1) = m ((c.tc : Thread Cert.PairBRefIdeal.nD Cert.PairBRefIdeal.τ).loc Cert.PairBRefIdeal.main_arg1)
      ∧ r.2.mem ((c.tc : Thread Cert.PairBRefIdeal.nD Cert.PairBRefIdeal.τ).loc Cert.PairBRefIdeal.main_arg2) = m ((c.tc : Thread Cert.PairBRefIdeal.nD Cert.PairBRefIdeal.τ).loc Cert.PairBRefIdeal.main_arg2))
      ∧ r.2.sem = fun _ => 0)

def quiescent_PairBRefIdeal_pre_core_b [hPairBRefIdeal : Cert.PairBRefIdeal.Facts] [hPre_core_b : Cert.Pre_core_b.Facts] : Prop :=
  ∀ (m : (ℓ : Loc Cert.PairBRefIdeal.nD Cert.PairBRefIdeal.τ Cert.PairBRefIdeal.sig) → Buf (Elt Ideal) ℓ) (g : Dev Cert.PairBRefIdeal.nD → PrngReg), Pre_PairBRefIdeal_core_b m →
    θ_run (Cert.PairBRefIdeal.defs (F := Ideal)) (onTc (τ := Cert.PairBRefIdeal.τ) (Cert.PairBRefIdeal.main (F := Ideal))) ⟨m, fun _ => 0, g⟩ (fun r => (∀ c : Dev Cert.PairBRefIdeal.nD,
      r.2.mem ((c.tc : Thread Cert.PairBRefIdeal.nD Cert.PairBRefIdeal.τ).loc Cert.PairBRefIdeal.main_arg0) = m ((c.tc : Thread Cert.PairBRefIdeal.nD Cert.PairBRefIdeal.τ).loc Cert.PairBRefIdeal.main_arg0)
      ∧ r.2.mem ((c.tc : Thread Cert.PairBRefIdeal.nD Cert.PairBRefIdeal.τ).loc Cert.PairBRefIdeal.main_arg1) = m ((c.tc : Thread Cert.PairBRefIdeal.nD Cert.PairBRefIdeal.τ).loc Cert.PairBRefIdeal.main_arg1)
      ∧ r.2.mem ((c.tc : Thread Cert.PairBRefIdeal.nD Cert.PairBRefIdeal.τ).loc Cert.PairBRefIdeal.main_arg2) = m ((c.tc : Thread Cert.PairBRefIdeal.nD Cert.PairBRefIdeal.τ).loc Cert.PairBRefIdeal.main_arg2))
      ∧ r.2.sem = fun _ => 0)

def quiescent_OwnIn [hOwnIn : Cert.OwnIn.Facts] [hPre_place_in : Cert.Pre_place_in.Facts] : Prop :=
  ∀ (m : (ℓ : Loc Cert.OwnIn.nD Cert.OwnIn.τ Cert.OwnIn.sig) → Buf (Elt Bits) ℓ) (g : Dev Cert.OwnIn.nD → PrngReg), Pre_OwnIn m →
    θ_run (Cert.OwnIn.defs (F := Bits)) (onTc (τ := Cert.OwnIn.τ) (Cert.OwnIn.main (F := Bits))) ⟨m, fun _ => 0, g⟩ (fun r => (∀ c : Dev Cert.OwnIn.nD,
      r.2.mem ((c.tc : Thread Cert.OwnIn.nD Cert.OwnIn.τ).loc Cert.OwnIn.main_arg0) = m ((c.tc : Thread Cert.OwnIn.nD Cert.OwnIn.τ).loc Cert.OwnIn.main_arg0)
      ∧ r.2.mem ((c.tc : Thread Cert.OwnIn.nD Cert.OwnIn.τ).loc Cert.OwnIn.main_arg1) = m ((c.tc : Thread Cert.OwnIn.nD Cert.OwnIn.τ).loc Cert.OwnIn.main_arg1)
      ∧ r.2.mem ((c.tc : Thread Cert.OwnIn.nD Cert.OwnIn.τ).loc Cert.OwnIn.main_arg2) = m ((c.tc : Thread Cert.OwnIn.nD Cert.OwnIn.τ).loc Cert.OwnIn.main_arg2)
      ∧ r.2.mem ((c.tc : Thread Cert.OwnIn.nD Cert.OwnIn.τ).loc Cert.OwnIn.main_arg3) = m ((c.tc : Thread Cert.OwnIn.nD Cert.OwnIn.τ).loc Cert.OwnIn.main_arg3))
      ∧ r.2.sem = fun _ => 0)

def quiescent_OwnInIdeal [hOwnInIdeal : Cert.OwnInIdeal.Facts] [hPre_place_in : Cert.Pre_place_in.Facts] : Prop :=
  ∀ (m : (ℓ : Loc Cert.OwnInIdeal.nD Cert.OwnInIdeal.τ Cert.OwnInIdeal.sig) → Buf (Elt Ideal) ℓ) (g : Dev Cert.OwnInIdeal.nD → PrngReg), Pre_OwnInIdeal m →
    θ_run (Cert.OwnInIdeal.defs (F := Ideal)) (onTc (τ := Cert.OwnInIdeal.τ) (Cert.OwnInIdeal.main (F := Ideal))) ⟨m, fun _ => 0, g⟩ (fun r => (∀ c : Dev Cert.OwnInIdeal.nD,
      r.2.mem ((c.tc : Thread Cert.OwnInIdeal.nD Cert.OwnInIdeal.τ).loc Cert.OwnInIdeal.main_arg0) = m ((c.tc : Thread Cert.OwnInIdeal.nD Cert.OwnInIdeal.τ).loc Cert.OwnInIdeal.main_arg0)
      ∧ r.2.mem ((c.tc : Thread Cert.OwnInIdeal.nD Cert.OwnInIdeal.τ).loc Cert.OwnInIdeal.main_arg1) = m ((c.tc : Thread Cert.OwnInIdeal.nD Cert.OwnInIdeal.τ).loc Cert.OwnInIdeal.main_arg1)
      ∧ r.2.mem ((c.tc : Thread Cert.OwnInIdeal.nD Cert.OwnInIdeal.τ).loc Cert.OwnInIdeal.main_arg2) = m ((c.tc : Thread Cert.OwnInIdeal.nD Cert.OwnInIdeal.τ).loc Cert.OwnInIdeal.main_arg2)
      ∧ r.2.mem ((c.tc : Thread Cert.OwnInIdeal.nD Cert.OwnInIdeal.τ).loc Cert.OwnInIdeal.main_arg3) = m ((c.tc : Thread Cert.OwnInIdeal.nD Cert.OwnInIdeal.τ).loc Cert.OwnInIdeal.main_arg3))
      ∧ r.2.sem = fun _ => 0)

def quiescent_OwnInRefIdeal [hOwnInRefIdeal : Cert.OwnInRefIdeal.Facts] : Prop :=
  ∀ (m : (ℓ : Loc Cert.OwnInRefIdeal.nD Cert.OwnInRefIdeal.τ Cert.OwnInRefIdeal.sig) → Buf (Elt Ideal) ℓ) (g : Dev Cert.OwnInRefIdeal.nD → PrngReg), Pre_OwnInRefIdeal m →
    θ_run (Cert.OwnInRefIdeal.defs (F := Ideal)) (onTc (τ := Cert.OwnInRefIdeal.τ) (Cert.OwnInRefIdeal.main (F := Ideal))) ⟨m, fun _ => 0, g⟩ (fun r => (∀ c : Dev Cert.OwnInRefIdeal.nD,
      r.2.mem ((c.tc : Thread Cert.OwnInRefIdeal.nD Cert.OwnInRefIdeal.τ).loc Cert.OwnInRefIdeal.main_arg0) = m ((c.tc : Thread Cert.OwnInRefIdeal.nD Cert.OwnInRefIdeal.τ).loc Cert.OwnInRefIdeal.main_arg0)
      ∧ r.2.mem ((c.tc : Thread Cert.OwnInRefIdeal.nD Cert.OwnInRefIdeal.τ).loc Cert.OwnInRefIdeal.main_arg1) = m ((c.tc : Thread Cert.OwnInRefIdeal.nD Cert.OwnInRefIdeal.τ).loc Cert.OwnInRefIdeal.main_arg1)
      ∧ r.2.mem ((c.tc : Thread Cert.OwnInRefIdeal.nD Cert.OwnInRefIdeal.τ).loc Cert.OwnInRefIdeal.main_arg2) = m ((c.tc : Thread Cert.OwnInRefIdeal.nD Cert.OwnInRefIdeal.τ).loc Cert.OwnInRefIdeal.main_arg2)
      ∧ r.2.mem ((c.tc : Thread Cert.OwnInRefIdeal.nD Cert.OwnInRefIdeal.τ).loc Cert.OwnInRefIdeal.main_arg3) = m ((c.tc : Thread Cert.OwnInRefIdeal.nD Cert.OwnInRefIdeal.τ).loc Cert.OwnInRefIdeal.main_arg3))
      ∧ r.2.sem = fun _ => 0)

def quiescent_OwnInRefIdeal_pre_place_in [hOwnInRefIdeal : Cert.OwnInRefIdeal.Facts] [hPre_place_in : Cert.Pre_place_in.Facts] : Prop :=
  ∀ (m : (ℓ : Loc Cert.OwnInRefIdeal.nD Cert.OwnInRefIdeal.τ Cert.OwnInRefIdeal.sig) → Buf (Elt Ideal) ℓ) (g : Dev Cert.OwnInRefIdeal.nD → PrngReg), Pre_OwnInRefIdeal_place_in m →
    θ_run (Cert.OwnInRefIdeal.defs (F := Ideal)) (onTc (τ := Cert.OwnInRefIdeal.τ) (Cert.OwnInRefIdeal.main (F := Ideal))) ⟨m, fun _ => 0, g⟩ (fun r => (∀ c : Dev Cert.OwnInRefIdeal.nD,
      r.2.mem ((c.tc : Thread Cert.OwnInRefIdeal.nD Cert.OwnInRefIdeal.τ).loc Cert.OwnInRefIdeal.main_arg0) = m ((c.tc : Thread Cert.OwnInRefIdeal.nD Cert.OwnInRefIdeal.τ).loc Cert.OwnInRefIdeal.main_arg0)
      ∧ r.2.mem ((c.tc : Thread Cert.OwnInRefIdeal.nD Cert.OwnInRefIdeal.τ).loc Cert.OwnInRefIdeal.main_arg1) = m ((c.tc : Thread Cert.OwnInRefIdeal.nD Cert.OwnInRefIdeal.τ).loc Cert.OwnInRefIdeal.main_arg1)
      ∧ r.2.mem ((c.tc : Thread Cert.OwnInRefIdeal.nD Cert.OwnInRefIdeal.τ).loc Cert.OwnInRefIdeal.main_arg2) = m ((c.tc : Thread Cert.OwnInRefIdeal.nD Cert.OwnInRefIdeal.τ).loc Cert.OwnInRefIdeal.main_arg2)
      ∧ r.2.mem ((c.tc : Thread Cert.OwnInRefIdeal.nD Cert.OwnInRefIdeal.τ).loc Cert.OwnInRefIdeal.main_arg3) = m ((c.tc : Thread Cert.OwnInRefIdeal.nD Cert.OwnInRefIdeal.τ).loc Cert.OwnInRefIdeal.main_arg3))
      ∧ r.2.sem = fun _ => 0)

def quiescent_OwnB [hOwnB : Cert.OwnB.Facts] [hPre_place_b : Cert.Pre_place_b.Facts] : Prop :=
  ∀ (m : (ℓ : Loc Cert.OwnB.nD Cert.OwnB.τ Cert.OwnB.sig) → Buf (Elt Bits) ℓ) (g : Dev Cert.OwnB.nD → PrngReg), Pre_OwnB m →
    θ_run (Cert.OwnB.defs (F := Bits)) (onTc (τ := Cert.OwnB.τ) (Cert.OwnB.main (F := Bits))) ⟨m, fun _ => 0, g⟩ (fun r => (∀ c : Dev Cert.OwnB.nD,
      r.2.mem ((c.tc : Thread Cert.OwnB.nD Cert.OwnB.τ).loc Cert.OwnB.main_arg0) = m ((c.tc : Thread Cert.OwnB.nD Cert.OwnB.τ).loc Cert.OwnB.main_arg0)
      ∧ r.2.mem ((c.tc : Thread Cert.OwnB.nD Cert.OwnB.τ).loc Cert.OwnB.main_arg1) = m ((c.tc : Thread Cert.OwnB.nD Cert.OwnB.τ).loc Cert.OwnB.main_arg1)
      ∧ r.2.mem ((c.tc : Thread Cert.OwnB.nD Cert.OwnB.τ).loc Cert.OwnB.main_arg2) = m ((c.tc : Thread Cert.OwnB.nD Cert.OwnB.τ).loc Cert.OwnB.main_arg2)
      ∧ r.2.mem ((c.tc : Thread Cert.OwnB.nD Cert.OwnB.τ).loc Cert.OwnB.main_arg3) = m ((c.tc : Thread Cert.OwnB.nD Cert.OwnB.τ).loc Cert.OwnB.main_arg3))
      ∧ r.2.sem = fun _ => 0)

def quiescent_OwnBIdeal [hOwnBIdeal : Cert.OwnBIdeal.Facts] [hPre_place_b : Cert.Pre_place_b.Facts] : Prop :=
  ∀ (m : (ℓ : Loc Cert.OwnBIdeal.nD Cert.OwnBIdeal.τ Cert.OwnBIdeal.sig) → Buf (Elt Ideal) ℓ) (g : Dev Cert.OwnBIdeal.nD → PrngReg), Pre_OwnBIdeal m →
    θ_run (Cert.OwnBIdeal.defs (F := Ideal)) (onTc (τ := Cert.OwnBIdeal.τ) (Cert.OwnBIdeal.main (F := Ideal))) ⟨m, fun _ => 0, g⟩ (fun r => (∀ c : Dev Cert.OwnBIdeal.nD,
      r.2.mem ((c.tc : Thread Cert.OwnBIdeal.nD Cert.OwnBIdeal.τ).loc Cert.OwnBIdeal.main_arg0) = m ((c.tc : Thread Cert.OwnBIdeal.nD Cert.OwnBIdeal.τ).loc Cert.OwnBIdeal.main_arg0)
      ∧ r.2.mem ((c.tc : Thread Cert.OwnBIdeal.nD Cert.OwnBIdeal.τ).loc Cert.OwnBIdeal.main_arg1) = m ((c.tc : Thread Cert.OwnBIdeal.nD Cert.OwnBIdeal.τ).loc Cert.OwnBIdeal.main_arg1)
      ∧ r.2.mem ((c.tc : Thread Cert.OwnBIdeal.nD Cert.OwnBIdeal.τ).loc Cert.OwnBIdeal.main_arg2) = m ((c.tc : Thread Cert.OwnBIdeal.nD Cert.OwnBIdeal.τ).loc Cert.OwnBIdeal.main_arg2)
      ∧ r.2.mem ((c.tc : Thread Cert.OwnBIdeal.nD Cert.OwnBIdeal.τ).loc Cert.OwnBIdeal.main_arg3) = m ((c.tc : Thread Cert.OwnBIdeal.nD Cert.OwnBIdeal.τ).loc Cert.OwnBIdeal.main_arg3))
      ∧ r.2.sem = fun _ => 0)

def quiescent_OwnBRefIdeal [hOwnBRefIdeal : Cert.OwnBRefIdeal.Facts] : Prop :=
  ∀ (m : (ℓ : Loc Cert.OwnBRefIdeal.nD Cert.OwnBRefIdeal.τ Cert.OwnBRefIdeal.sig) → Buf (Elt Ideal) ℓ) (g : Dev Cert.OwnBRefIdeal.nD → PrngReg), Pre_OwnBRefIdeal m →
    θ_run (Cert.OwnBRefIdeal.defs (F := Ideal)) (onTc (τ := Cert.OwnBRefIdeal.τ) (Cert.OwnBRefIdeal.main (F := Ideal))) ⟨m, fun _ => 0, g⟩ (fun r => (∀ c : Dev Cert.OwnBRefIdeal.nD,
      r.2.mem ((c.tc : Thread Cert.OwnBRefIdeal.nD Cert.OwnBRefIdeal.τ).loc Cert.OwnBRefIdeal.main_arg0) = m ((c.tc : Thread Cert.OwnBRefIdeal.nD Cert.OwnBRefIdeal.τ).loc Cert.OwnBRefIdeal.main_arg0)
      ∧ r.2.mem ((c.tc : Thread Cert.OwnBRefIdeal.nD Cert.OwnBRefIdeal.τ).loc Cert.OwnBRefIdeal.main_arg1) = m ((c.tc : Thread Cert.OwnBRefIdeal.nD Cert.OwnBRefIdeal.τ).loc Cert.OwnBRefIdeal.main_arg1)
      ∧ r.2.mem ((c.tc : Thread Cert.OwnBRefIdeal.nD Cert.OwnBRefIdeal.τ).loc Cert.OwnBRefIdeal.main_arg2) = m ((c.tc : Thread Cert.OwnBRefIdeal.nD Cert.OwnBRefIdeal.τ).loc Cert.OwnBRefIdeal.main_arg2)
      ∧ r.2.mem ((c.tc : Thread Cert.OwnBRefIdeal.nD Cert.OwnBRefIdeal.τ).loc Cert.OwnBRefIdeal.main_arg3) = m ((c.tc : Thread Cert.OwnBRefIdeal.nD Cert.OwnBRefIdeal.τ).loc Cert.OwnBRefIdeal.main_arg3))
      ∧ r.2.sem = fun _ => 0)

def quiescent_OwnBRefIdeal_pre_place_b [hOwnBRefIdeal : Cert.OwnBRefIdeal.Facts] [hPre_place_b : Cert.Pre_place_b.Facts] : Prop :=
  ∀ (m : (ℓ : Loc Cert.OwnBRefIdeal.nD Cert.OwnBRefIdeal.τ Cert.OwnBRefIdeal.sig) → Buf (Elt Ideal) ℓ) (g : Dev Cert.OwnBRefIdeal.nD → PrngReg), Pre_OwnBRefIdeal_place_b m →
    θ_run (Cert.OwnBRefIdeal.defs (F := Ideal)) (onTc (τ := Cert.OwnBRefIdeal.τ) (Cert.OwnBRefIdeal.main (F := Ideal))) ⟨m, fun _ => 0, g⟩ (fun r => (∀ c : Dev Cert.OwnBRefIdeal.nD,
      r.2.mem ((c.tc : Thread Cert.OwnBRefIdeal.nD Cert.OwnBRefIdeal.τ).loc Cert.OwnBRefIdeal.main_arg0) = m ((c.tc : Thread Cert.OwnBRefIdeal.nD Cert.OwnBRefIdeal.τ).loc Cert.OwnBRefIdeal.main_arg0)
      ∧ r.2.mem ((c.tc : Thread Cert.OwnBRefIdeal.nD Cert.OwnBRefIdeal.τ).loc Cert.OwnBRefIdeal.main_arg1) = m ((c.tc : Thread Cert.OwnBRefIdeal.nD Cert.OwnBRefIdeal.τ).loc Cert.OwnBRefIdeal.main_arg1)
      ∧ r.2.mem ((c.tc : Thread Cert.OwnBRefIdeal.nD Cert.OwnBRefIdeal.τ).loc Cert.OwnBRefIdeal.main_arg2) = m ((c.tc : Thread Cert.OwnBRefIdeal.nD Cert.OwnBRefIdeal.τ).loc Cert.OwnBRefIdeal.main_arg2)
      ∧ r.2.mem ((c.tc : Thread Cert.OwnBRefIdeal.nD Cert.OwnBRefIdeal.τ).loc Cert.OwnBRefIdeal.main_arg3) = m ((c.tc : Thread Cert.OwnBRefIdeal.nD Cert.OwnBRefIdeal.τ).loc Cert.OwnBRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1)
      ∧ r.2.mem ((c.tc : Thread Cert.Dt.nD Cert.Dt.τ).loc Cert.Dt.main_arg2) = m ((c.tc : Thread Cert.Dt.nD Cert.Dt.τ).loc Cert.Dt.main_arg2))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
      ∧ r.2.mem ((c.tc : Thread Cert.DtIdeal.nD Cert.DtIdeal.τ).loc Cert.DtIdeal.main_arg2) = m ((c.tc : Thread Cert.DtIdeal.nD Cert.DtIdeal.τ).loc Cert.DtIdeal.main_arg2))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1)
      ∧ r.2.mem ((c.tc : Thread Cert.DtRefIdeal.nD Cert.DtRefIdeal.τ).loc Cert.DtRefIdeal.main_arg2) = m ((c.tc : Thread Cert.DtRefIdeal.nD Cert.DtRefIdeal.τ).loc Cert.DtRefIdeal.main_arg2))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_ConvBRefIdeal [hConvBRefIdeal : Cert.ConvBRefIdeal.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1)
      ∧ r.2.mem ((c.tc : Thread Cert.ConvBRefIdeal.nD Cert.ConvBRefIdeal.τ).loc Cert.ConvBRefIdeal.main_arg2) = m ((c.tc : Thread Cert.ConvBRefIdeal.nD Cert.ConvBRefIdeal.τ).loc Cert.ConvBRefIdeal.main_arg2))
      ∧ r.2.sem = fun _ => 0)

def quiescent_BranchRet [hBranchRet : Cert.BranchRet.Facts] : Prop :=
  ∀ (m : (ℓ : Loc Cert.BranchRet.nD Cert.BranchRet.τ Cert.BranchRet.sig) → Buf (Elt Bits) ℓ) (g : Dev Cert.BranchRet.nD → PrngReg), Pre_BranchRet m →
    θ_run (Cert.BranchRet.defs (F := Bits)) (onTc (τ := Cert.BranchRet.τ) (Cert.BranchRet.main (F := Bits))) ⟨m, fun _ => 0, g⟩ (fun r => (∀ c : Dev Cert.BranchRet.nD,
      r.2.mem ((c.tc : Thread Cert.BranchRet.nD Cert.BranchRet.τ).loc Cert.BranchRet.main_arg0) = m ((c.tc : Thread Cert.BranchRet.nD Cert.BranchRet.τ).loc Cert.BranchRet.main_arg0)
      ∧ r.2.mem ((c.tc : Thread Cert.BranchRet.nD Cert.BranchRet.τ).loc Cert.BranchRet.main_arg1) = m ((c.tc : Thread Cert.BranchRet.nD Cert.BranchRet.τ).loc Cert.BranchRet.main_arg1))
      ∧ r.2.sem = fun _ => 0)

def quiescent_BranchRetIdeal [hBranchRetIdeal : Cert.BranchRetIdeal.Facts] : Prop :=
  ∀ (m : (ℓ : Loc Cert.BranchRetIdeal.nD Cert.BranchRetIdeal.τ Cert.BranchRetIdeal.sig) → Buf (Elt Ideal) ℓ) (g : Dev Cert.BranchRetIdeal.nD → PrngReg), Pre_BranchRetIdeal m →
    θ_run (Cert.BranchRetIdeal.defs (F := Ideal)) (onTc (τ := Cert.BranchRetIdeal.τ) (Cert.BranchRetIdeal.main (F := Ideal))) ⟨m, fun _ => 0, g⟩ (fun r => (∀ c : Dev Cert.BranchRetIdeal.nD,
      r.2.mem ((c.tc : Thread Cert.BranchRetIdeal.nD Cert.BranchRetIdeal.τ).loc Cert.BranchRetIdeal.main_arg0) = m ((c.tc : Thread Cert.BranchRetIdeal.nD Cert.BranchRetIdeal.τ).loc Cert.BranchRetIdeal.main_arg0)
      ∧ r.2.mem ((c.tc : Thread Cert.BranchRetIdeal.nD Cert.BranchRetIdeal.τ).loc Cert.BranchRetIdeal.main_arg1) = m ((c.tc : Thread Cert.BranchRetIdeal.nD Cert.BranchRetIdeal.τ).loc Cert.BranchRetIdeal.main_arg1))
      ∧ r.2.sem = fun _ => 0)

def quiescent_BranchRetRefIdeal [hBranchRetRefIdeal : Cert.BranchRetRefIdeal.Facts] : Prop :=
  ∀ (m : (ℓ : Loc Cert.BranchRetRefIdeal.nD Cert.BranchRetRefIdeal.τ Cert.BranchRetRefIdeal.sig) → Buf (Elt Ideal) ℓ) (g : Dev Cert.BranchRetRefIdeal.nD → PrngReg), Pre_BranchRetRefIdeal m →
    θ_run (Cert.BranchRetRefIdeal.defs (F := Ideal)) (onTc (τ := Cert.BranchRetRefIdeal.τ) (Cert.BranchRetRefIdeal.main (F := Ideal))) ⟨m, fun _ => 0, g⟩ (fun r => (∀ c : Dev Cert.BranchRetRefIdeal.nD,
      r.2.mem ((c.tc : Thread Cert.BranchRetRefIdeal.nD Cert.BranchRetRefIdeal.τ).loc Cert.BranchRetRefIdeal.main_arg0) = m ((c.tc : Thread Cert.BranchRetRefIdeal.nD Cert.BranchRetRefIdeal.τ).loc Cert.BranchRetRefIdeal.main_arg0)
      ∧ r.2.mem ((c.tc : Thread Cert.BranchRetRefIdeal.nD Cert.BranchRetRefIdeal.τ).loc Cert.BranchRetRefIdeal.main_arg1) = m ((c.tc : Thread Cert.BranchRetRefIdeal.nD Cert.BranchRetRefIdeal.τ).loc Cert.BranchRetRefIdeal.main_arg1))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ r.2.sem = fun _ => 0)

def quiescent_ProjDtRefIdeal [hProjDtRefIdeal : Cert.ProjDtRefIdeal.Facts] : Prop :=
  ∀ (m : (ℓ : Loc Cert.ProjDtRefIdeal.nD Cert.ProjDtRefIdeal.τ Cert.ProjDtRefIdeal.sig) → Buf (Elt Ideal) ℓ) (g : Dev Cert.ProjDtRefIdeal.nD → PrngReg), Pre_ProjDtRefIdeal m →
    θ_run (Cert.ProjDtRefIdeal.defs (F := Ideal)) (onTc (τ := Cert.ProjDtRefIdeal.τ) (Cert.ProjDtRefIdeal.main (F := Ideal))) ⟨m, fun _ => 0, g⟩ (fun r => (∀ c : Dev Cert.ProjDtRefIdeal.nD,
      r.2.mem ((c.tc : Thread Cert.ProjDtRefIdeal.nD Cert.ProjDtRefIdeal.τ).loc Cert.ProjDtRefIdeal.main_arg0) = m ((c.tc : Thread Cert.ProjDtRefIdeal.nD Cert.ProjDtRefIdeal.τ).loc Cert.ProjDtRefIdeal.main_arg0)
      ∧ r.2.mem ((c.tc : Thread Cert.ProjDtRefIdeal.nD Cert.ProjDtRefIdeal.τ).loc Cert.ProjDtRefIdeal.main_arg1) = m ((c.tc : Thread Cert.ProjDtRefIdeal.nD Cert.ProjDtRefIdeal.τ).loc Cert.ProjDtRefIdeal.main_arg1))
      ∧ r.2.sem = fun _ => 0)

def quiescent_DYs [hDYs : Cert.DYs.Facts] : Prop :=
  ∀ (m : (ℓ : Loc Cert.DYs.nD Cert.DYs.τ Cert.DYs.sig) → Buf (Elt Bits) ℓ) (g : Dev Cert.DYs.nD → PrngReg), Pre_DYs m →
    θ_run (Cert.DYs.defs (F := Bits)) (onTc (τ := Cert.DYs.τ) (Cert.DYs.main (F := Bits))) ⟨m, fun _ => 0, g⟩ (fun r => (∀ c : Dev Cert.DYs.nD,
      r.2.mem ((c.tc : Thread Cert.DYs.nD Cert.DYs.τ).loc Cert.DYs.main_arg0) = m ((c.tc : Thread Cert.DYs.nD Cert.DYs.τ).loc Cert.DYs.main_arg0)
      ∧ r.2.mem ((c.tc : Thread Cert.DYs.nD Cert.DYs.τ).loc Cert.DYs.main_arg1) = m ((c.tc : Thread Cert.DYs.nD Cert.DYs.τ).loc Cert.DYs.main_arg1))
      ∧ r.2.sem = fun _ => 0)

def quiescent_DYsIdeal [hDYsIdeal : Cert.DYsIdeal.Facts] : Prop :=
  ∀ (m : (ℓ : Loc Cert.DYsIdeal.nD Cert.DYsIdeal.τ Cert.DYsIdeal.sig) → Buf (Elt Ideal) ℓ) (g : Dev Cert.DYsIdeal.nD → PrngReg), Pre_DYsIdeal m →
    θ_run (Cert.DYsIdeal.defs (F := Ideal)) (onTc (τ := Cert.DYsIdeal.τ) (Cert.DYsIdeal.main (F := Ideal))) ⟨m, fun _ => 0, g⟩ (fun r => (∀ c : Dev Cert.DYsIdeal.nD,
      r.2.mem ((c.tc : Thread Cert.DYsIdeal.nD Cert.DYsIdeal.τ).loc Cert.DYsIdeal.main_arg0) = m ((c.tc : Thread Cert.DYsIdeal.nD Cert.DYsIdeal.τ).loc Cert.DYsIdeal.main_arg0)
      ∧ r.2.mem ((c.tc : Thread Cert.DYsIdeal.nD Cert.DYsIdeal.τ).loc Cert.DYsIdeal.main_arg1) = m ((c.tc : Thread Cert.DYsIdeal.nD Cert.DYsIdeal.τ).loc Cert.DYsIdeal.main_arg1))
      ∧ r.2.sem = fun _ => 0)

def quiescent_DYsRefIdeal [hDYsRefIdeal : Cert.DYsRefIdeal.Facts] : Prop :=
  ∀ (m : (ℓ : Loc Cert.DYsRefIdeal.nD Cert.DYsRefIdeal.τ Cert.DYsRefIdeal.sig) → Buf (Elt Ideal) ℓ) (g : Dev Cert.DYsRefIdeal.nD → PrngReg), Pre_DYsRefIdeal m →
    θ_run (Cert.DYsRefIdeal.defs (F := Ideal)) (onTc (τ := Cert.DYsRefIdeal.τ) (Cert.DYsRefIdeal.main (F := Ideal))) ⟨m, fun _ => 0, g⟩ (fun r => (∀ c : Dev Cert.DYsRefIdeal.nD,
      r.2.mem ((c.tc : Thread Cert.DYsRefIdeal.nD Cert.DYsRefIdeal.τ).loc Cert.DYsRefIdeal.main_arg0) = m ((c.tc : Thread Cert.DYsRefIdeal.nD Cert.DYsRefIdeal.τ).loc Cert.DYsRefIdeal.main_arg0)
      ∧ r.2.mem ((c.tc : Thread Cert.DYsRefIdeal.nD Cert.DYsRefIdeal.τ).loc Cert.DYsRefIdeal.main_arg1) = m ((c.tc : Thread Cert.DYsRefIdeal.nD Cert.DYsRefIdeal.τ).loc Cert.DYsRefIdeal.main_arg1))
      ∧ r.2.sem = fun _ => 0)

def quiescent_GRet [hGRet : Cert.GRet.Facts] : Prop :=
  ∀ (m : (ℓ : Loc Cert.GRet.nD Cert.GRet.τ Cert.GRet.sig) → Buf (Elt Bits) ℓ) (g : Dev Cert.GRet.nD → PrngReg), Pre_GRet m →
    θ_run (Cert.GRet.defs (F := Bits)) (onTc (τ := Cert.GRet.τ) (Cert.GRet.main (F := Bits))) ⟨m, fun _ => 0, g⟩ (fun r => (∀ c : Dev Cert.GRet.nD,
      r.2.mem ((c.tc : Thread Cert.GRet.nD Cert.GRet.τ).loc Cert.GRet.main_arg0) = m ((c.tc : Thread Cert.GRet.nD Cert.GRet.τ).loc Cert.GRet.main_arg0)
      ∧ r.2.mem ((c.tc : Thread Cert.GRet.nD Cert.GRet.τ).loc Cert.GRet.main_arg1) = m ((c.tc : Thread Cert.GRet.nD Cert.GRet.τ).loc Cert.GRet.main_arg1))
      ∧ r.2.sem = fun _ => 0)

def quiescent_GRetIdeal [hGRetIdeal : Cert.GRetIdeal.Facts] : Prop :=
  ∀ (m : (ℓ : Loc Cert.GRetIdeal.nD Cert.GRetIdeal.τ Cert.GRetIdeal.sig) → Buf (Elt Ideal) ℓ) (g : Dev Cert.GRetIdeal.nD → PrngReg), Pre_GRetIdeal m →
    θ_run (Cert.GRetIdeal.defs (F := Ideal)) (onTc (τ := Cert.GRetIdeal.τ) (Cert.GRetIdeal.main (F := Ideal))) ⟨m, fun _ => 0, g⟩ (fun r => (∀ c : Dev Cert.GRetIdeal.nD,
      r.2.mem ((c.tc : Thread Cert.GRetIdeal.nD Cert.GRetIdeal.τ).loc Cert.GRetIdeal.main_arg0) = m ((c.tc : Thread Cert.GRetIdeal.nD Cert.GRetIdeal.τ).loc Cert.GRetIdeal.main_arg0)
      ∧ r.2.mem ((c.tc : Thread Cert.GRetIdeal.nD Cert.GRetIdeal.τ).loc Cert.GRetIdeal.main_arg1) = m ((c.tc : Thread Cert.GRetIdeal.nD Cert.GRetIdeal.τ).loc Cert.GRetIdeal.main_arg1))
      ∧ r.2.sem = fun _ => 0)

def quiescent_GRetRefIdeal [hGRetRefIdeal : Cert.GRetRefIdeal.Facts] : Prop :=
  ∀ (m : (ℓ : Loc Cert.GRetRefIdeal.nD Cert.GRetRefIdeal.τ Cert.GRetRefIdeal.sig) → Buf (Elt Ideal) ℓ) (g : Dev Cert.GRetRefIdeal.nD → PrngReg), Pre_GRetRefIdeal m →
    θ_run (Cert.GRetRefIdeal.defs (F := Ideal)) (onTc (τ := Cert.GRetRefIdeal.τ) (Cert.GRetRefIdeal.main (F := Ideal))) ⟨m, fun _ => 0, g⟩ (fun r => (∀ c : Dev Cert.GRetRefIdeal.nD,
      r.2.mem ((c.tc : Thread Cert.GRetRefIdeal.nD Cert.GRetRefIdeal.τ).loc Cert.GRetRefIdeal.main_arg0) = m ((c.tc : Thread Cert.GRetRefIdeal.nD Cert.GRetRefIdeal.τ).loc Cert.GRetRefIdeal.main_arg0)
      ∧ r.2.mem ((c.tc : Thread Cert.GRetRefIdeal.nD Cert.GRetRefIdeal.τ).loc Cert.GRetRefIdeal.main_arg1) = m ((c.tc : Thread Cert.GRetRefIdeal.nD Cert.GRetRefIdeal.τ).loc Cert.GRetRefIdeal.main_arg1))
      ∧ r.2.sem = fun _ => 0)

def quiescent_GSsd [hGSsd : Cert.GSsd.Facts] : Prop :=
  ∀ (m : (ℓ : Loc Cert.GSsd.nD Cert.GSsd.τ Cert.GSsd.sig) → Buf (Elt Bits) ℓ) (g : Dev Cert.GSsd.nD → PrngReg), Pre_GSsd m →
    θ_run (Cert.GSsd.defs (F := Bits)) (onTc (τ := Cert.GSsd.τ) (Cert.GSsd.main (F := Bits))) ⟨m, fun _ => 0, g⟩ (fun r => (∀ c : Dev Cert.GSsd.nD,
      r.2.mem ((c.tc : Thread Cert.GSsd.nD Cert.GSsd.τ).loc Cert.GSsd.main_arg0) = m ((c.tc : Thread Cert.GSsd.nD Cert.GSsd.τ).loc Cert.GSsd.main_arg0)
      ∧ r.2.mem ((c.tc : Thread Cert.GSsd.nD Cert.GSsd.τ).loc Cert.GSsd.main_arg1) = m ((c.tc : Thread Cert.GSsd.nD Cert.GSsd.τ).loc Cert.GSsd.main_arg1))
      ∧ r.2.sem = fun _ => 0)

def quiescent_GSsdIdeal [hGSsdIdeal : Cert.GSsdIdeal.Facts] : Prop :=
  ∀ (m : (ℓ : Loc Cert.GSsdIdeal.nD Cert.GSsdIdeal.τ Cert.GSsdIdeal.sig) → Buf (Elt Ideal) ℓ) (g : Dev Cert.GSsdIdeal.nD → PrngReg), Pre_GSsdIdeal m →
    θ_run (Cert.GSsdIdeal.defs (F := Ideal)) (onTc (τ := Cert.GSsdIdeal.τ) (Cert.GSsdIdeal.main (F := Ideal))) ⟨m, fun _ => 0, g⟩ (fun r => (∀ c : Dev Cert.GSsdIdeal.nD,
      r.2.mem ((c.tc : Thread Cert.GSsdIdeal.nD Cert.GSsdIdeal.τ).loc Cert.GSsdIdeal.main_arg0) = m ((c.tc : Thread Cert.GSsdIdeal.nD Cert.GSsdIdeal.τ).loc Cert.GSsdIdeal.main_arg0)
      ∧ r.2.mem ((c.tc : Thread Cert.GSsdIdeal.nD Cert.GSsdIdeal.τ).loc Cert.GSsdIdeal.main_arg1) = m ((c.tc : Thread Cert.GSsdIdeal.nD Cert.GSsdIdeal.τ).loc Cert.GSsdIdeal.main_arg1))
      ∧ r.2.sem = fun _ => 0)

def quiescent_GSsdRefIdeal [hGSsdRefIdeal : Cert.GSsdRefIdeal.Facts] : Prop :=
  ∀ (m : (ℓ : Loc Cert.GSsdRefIdeal.nD Cert.GSsdRefIdeal.τ Cert.GSsdRefIdeal.sig) → Buf (Elt Ideal) ℓ) (g : Dev Cert.GSsdRefIdeal.nD → PrngReg), Pre_GSsdRefIdeal m →
    θ_run (Cert.GSsdRefIdeal.defs (F := Ideal)) (onTc (τ := Cert.GSsdRefIdeal.τ) (Cert.GSsdRefIdeal.main (F := Ideal))) ⟨m, fun _ => 0, g⟩ (fun r => (∀ c : Dev Cert.GSsdRefIdeal.nD,
      r.2.mem ((c.tc : Thread Cert.GSsdRefIdeal.nD Cert.GSsdRefIdeal.τ).loc Cert.GSsdRefIdeal.main_arg0) = m ((c.tc : Thread Cert.GSsdRefIdeal.nD Cert.GSsdRefIdeal.τ).loc Cert.GSsdRefIdeal.main_arg0)
      ∧ r.2.mem ((c.tc : Thread Cert.GSsdRefIdeal.nD Cert.GSsdRefIdeal.τ).loc Cert.GSsdRefIdeal.main_arg1) = m ((c.tc : Thread Cert.GSsdRefIdeal.nD Cert.GSsdRefIdeal.τ).loc Cert.GSsdRefIdeal.main_arg1))
      ∧ r.2.sem = fun _ => 0)

def quiescent_GIn [hGIn : Cert.GIn.Facts] : Prop :=
  ∀ (m : (ℓ : Loc Cert.GIn.nD Cert.GIn.τ Cert.GIn.sig) → Buf (Elt Bits) ℓ) (g : Dev Cert.GIn.nD → PrngReg), Pre_GIn m →
    θ_run (Cert.GIn.defs (F := Bits)) (onTc (τ := Cert.GIn.τ) (Cert.GIn.main (F := Bits))) ⟨m, fun _ => 0, g⟩ (fun r => (∀ c : Dev Cert.GIn.nD,
      r.2.mem ((c.tc : Thread Cert.GIn.nD Cert.GIn.τ).loc Cert.GIn.main_arg0) = m ((c.tc : Thread Cert.GIn.nD Cert.GIn.τ).loc Cert.GIn.main_arg0)
      ∧ r.2.mem ((c.tc : Thread Cert.GIn.nD Cert.GIn.τ).loc Cert.GIn.main_arg1) = m ((c.tc : Thread Cert.GIn.nD Cert.GIn.τ).loc Cert.GIn.main_arg1))
      ∧ r.2.sem = fun _ => 0)

def quiescent_GInIdeal [hGInIdeal : Cert.GInIdeal.Facts] : Prop :=
  ∀ (m : (ℓ : Loc Cert.GInIdeal.nD Cert.GInIdeal.τ Cert.GInIdeal.sig) → Buf (Elt Ideal) ℓ) (g : Dev Cert.GInIdeal.nD → PrngReg), Pre_GInIdeal m →
    θ_run (Cert.GInIdeal.defs (F := Ideal)) (onTc (τ := Cert.GInIdeal.τ) (Cert.GInIdeal.main (F := Ideal))) ⟨m, fun _ => 0, g⟩ (fun r => (∀ c : Dev Cert.GInIdeal.nD,
      r.2.mem ((c.tc : Thread Cert.GInIdeal.nD Cert.GInIdeal.τ).loc Cert.GInIdeal.main_arg0) = m ((c.tc : Thread Cert.GInIdeal.nD Cert.GInIdeal.τ).loc Cert.GInIdeal.main_arg0)
      ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ r.2.sem = fun _ => 0)

def quiescent_GInRefIdeal [hGInRefIdeal : Cert.GInRefIdeal.Facts] : Prop :=
  ∀ (m : (ℓ : Loc Cert.GInRefIdeal.nD Cert.GInRefIdeal.τ Cert.GInRefIdeal.sig) → Buf (Elt Ideal) ℓ) (g : Dev Cert.GInRefIdeal.nD → PrngReg), Pre_GInRefIdeal m →
    θ_run (Cert.GInRefIdeal.defs (F := Ideal)) (onTc (τ := Cert.GInRefIdeal.τ) (Cert.GInRefIdeal.main (F := Ideal))) ⟨m, fun _ => 0, g⟩ (fun r => (∀ c : Dev Cert.GInRefIdeal.nD,
      r.2.mem ((c.tc : Thread Cert.GInRefIdeal.nD Cert.GInRefIdeal.τ).loc Cert.GInRefIdeal.main_arg0) = m ((c.tc : Thread Cert.GInRefIdeal.nD Cert.GInRefIdeal.τ).loc Cert.GInRefIdeal.main_arg0)
      ∧ r.2.mem ((c.tc : Thread Cert.GInRefIdeal.nD Cert.GInRefIdeal.τ).loc Cert.GInRefIdeal.main_arg1) = m ((c.tc : Thread Cert.GInRefIdeal.nD Cert.GInRefIdeal.τ).loc Cert.GInRefIdeal.main_arg1))
      ∧ r.2.sem = fun _ => 0)

def quiescent_GInB [hGInB : Cert.GInB.Facts] : Prop :=
  ∀ (m : (ℓ : Loc Cert.GInB.nD Cert.GInB.τ Cert.GInB.sig) → Buf (Elt Bits) ℓ) (g : Dev Cert.GInB.nD → PrngReg), Pre_GInB m →
    θ_run (Cert.GInB.defs (F := Bits)) (onTc (τ := Cert.GInB.τ) (Cert.GInB.main (F := Bits))) ⟨m, fun _ => 0, g⟩ (fun r => (∀ c : Dev Cert.GInB.nD,
      r.2.mem ((c.tc : Thread Cert.GInB.nD Cert.GInB.τ).loc Cert.GInB.main_arg0) = m ((c.tc : Thread Cert.GInB.nD Cert.GInB.τ).loc Cert.GInB.main_arg0)
      ∧ r.2.mem ((c.tc : Thread Cert.GInB.nD Cert.GInB.τ).loc Cert.GInB.main_arg1) = m ((c.tc : Thread Cert.GInB.nD Cert.GInB.τ).loc Cert.GInB.main_arg1))
      ∧ r.2.sem = fun _ => 0)

def quiescent_GInBIdeal [hGInBIdeal : Cert.GInBIdeal.Facts] : Prop :=
  ∀ (m : (ℓ : Loc Cert.GInBIdeal.nD Cert.GInBIdeal.τ Cert.GInBIdeal.sig) → Buf (Elt Ideal) ℓ) (g : Dev Cert.GInBIdeal.nD → PrngReg), Pre_GInBIdeal m →
    θ_run (Cert.GInBIdeal.defs (F := Ideal)) (onTc (τ := Cert.GInBIdeal.τ) (Cert.GInBIdeal.main (F := Ideal))) ⟨m, fun _ => 0, g⟩ (fun r => (∀ c : Dev Cert.GInBIdeal.nD,
      r.2.mem ((c.tc : Thread Cert.GInBIdeal.nD Cert.GInBIdeal.τ).loc Cert.GInBIdeal.main_arg0) = m ((c.tc : Thread Cert.GInBIdeal.nD Cert.GInBIdeal.τ).loc Cert.GInBIdeal.main_arg0)
      ∧ r.2.mem ((c.tc : Thread Cert.GInBIdeal.nD Cert.GInBIdeal.τ).loc Cert.GInBIdeal.main_arg1) = m ((c.tc : Thread Cert.GInBIdeal.nD Cert.GInBIdeal.τ).loc Cert.GInBIdeal.main_arg1))
      ∧ r.2.sem = fun _ => 0)

def quiescent_GInBRefIdeal [hGInBRefIdeal : Cert.GInBRefIdeal.Facts] : Prop :=
  ∀ (m : (ℓ : Loc Cert.GInBRefIdeal.nD Cert.GInBRefIdeal.τ Cert.GInBRefIdeal.sig) → Buf (Elt Ideal) ℓ) (g : Dev Cert.GInBRefIdeal.nD → PrngReg), Pre_GInBRefIdeal m →
    θ_run (Cert.GInBRefIdeal.defs (F := Ideal)) (onTc (τ := Cert.GInBRefIdeal.τ) (Cert.GInBRefIdeal.main (F := Ideal))) ⟨m, fun _ => 0, g⟩ (fun r => (∀ c : Dev Cert.GInBRefIdeal.nD,
      r.2.mem ((c.tc : Thread Cert.GInBRefIdeal.nD Cert.GInBRefIdeal.τ).loc Cert.GInBRefIdeal.main_arg0) = m ((c.tc : Thread Cert.GInBRefIdeal.nD Cert.GInBRefIdeal.τ).loc Cert.GInBRefIdeal.main_arg0)
      ∧ r.2.mem ((c.tc : Thread Cert.GInBRefIdeal.nD Cert.GInBRefIdeal.τ).loc Cert.GInBRefIdeal.main_arg1) = m ((c.tc : Thread Cert.GInBRefIdeal.nD Cert.GInBRefIdeal.τ).loc Cert.GInBRefIdeal.main_arg1))
      ∧ r.2.sem = fun _ => 0)

def quiescent_GInDt [hGInDt : Cert.GInDt.Facts] : Prop :=
  ∀ (m : (ℓ : Loc Cert.GInDt.nD Cert.GInDt.τ Cert.GInDt.sig) → Buf (Elt Bits) ℓ) (g : Dev Cert.GInDt.nD → PrngReg), Pre_GInDt m →
    θ_run (Cert.GInDt.defs (F := Bits)) (onTc (τ := Cert.GInDt.τ) (Cert.GInDt.main (F := Bits))) ⟨m, fun _ => 0, g⟩ (fun r => (∀ c : Dev Cert.GInDt.nD,
      r.2.mem ((c.tc : Thread Cert.GInDt.nD Cert.GInDt.τ).loc Cert.GInDt.main_arg0) = m ((c.tc : Thread Cert.GInDt.nD Cert.GInDt.τ).loc Cert.GInDt.main_arg0)
      ∧ r.2.mem ((c.tc : Thread Cert.GInDt.nD Cert.GInDt.τ).loc Cert.GInDt.main_arg1) = m ((c.tc : Thread Cert.GInDt.nD Cert.GInDt.τ).loc Cert.GInDt.main_arg1))
      ∧ r.2.sem = fun _ => 0)

def quiescent_GInDtIdeal [hGInDtIdeal : Cert.GInDtIdeal.Facts] : Prop :=
  ∀ (m : (ℓ : Loc Cert.GInDtIdeal.nD Cert.GInDtIdeal.τ Cert.GInDtIdeal.sig) → Buf (Elt Ideal) ℓ) (g : Dev Cert.GInDtIdeal.nD → PrngReg), Pre_GInDtIdeal m →
    θ_run (Cert.GInDtIdeal.defs (F := Ideal)) (onTc (τ := Cert.GInDtIdeal.τ) (Cert.GInDtIdeal.main (F := Ideal))) ⟨m, fun _ => 0, g⟩ (fun r => (∀ c : Dev Cert.GInDtIdeal.nD,
      r.2.mem ((c.tc : Thread Cert.GInDtIdeal.nD Cert.GInDtIdeal.τ).loc Cert.GInDtIdeal.main_arg0) = m ((c.tc : Thread Cert.GInDtIdeal.nD Cert.GInDtIdeal.τ).loc Cert.GInDtIdeal.main_arg0)
      ∧ r.2.mem ((c.tc : Thread Cert.GInDtIdeal.nD Cert.GInDtIdeal.τ).loc Cert.GInDtIdeal.main_arg1) = m ((c.tc : Thread Cert.GInDtIdeal.nD Cert.GInDtIdeal.τ).loc Cert.GInDtIdeal.main_arg1))
      ∧ r.2.sem = fun _ => 0)

def quiescent_GInDtRefIdeal [hGInDtRefIdeal : Cert.GInDtRefIdeal.Facts] : Prop :=
  ∀ (m : (ℓ : Loc Cert.GInDtRefIdeal.nD Cert.GInDtRefIdeal.τ Cert.GInDtRefIdeal.sig) → Buf (Elt Ideal) ℓ) (g : Dev Cert.GInDtRefIdeal.nD → PrngReg), Pre_GInDtRefIdeal m →
    θ_run (Cert.GInDtRefIdeal.defs (F := Ideal)) (onTc (τ := Cert.GInDtRefIdeal.τ) (Cert.GInDtRefIdeal.main (F := Ideal))) ⟨m, fun _ => 0, g⟩ (fun r => (∀ c : Dev Cert.GInDtRefIdeal.nD,
      r.2.mem ((c.tc : Thread Cert.GInDtRefIdeal.nD Cert.GInDtRefIdeal.τ).loc Cert.GInDtRefIdeal.main_arg0) = m ((c.tc : Thread Cert.GInDtRefIdeal.nD Cert.GInDtRefIdeal.τ).loc Cert.GInDtRefIdeal.main_arg0)
      ∧ r.2.mem ((c.tc : Thread Cert.GInDtRefIdeal.nD Cert.GInDtRefIdeal.τ).loc Cert.GInDtRefIdeal.main_arg1) = m ((c.tc : Thread Cert.GInDtRefIdeal.nD Cert.GInDtRefIdeal.τ).loc Cert.GInDtRefIdeal.main_arg1))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![2, 4, 1024, 5648]⟩ ⟨4, ![16, 4, 1024, 5648]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨4, ![2, 4, 1024, 2048]⟩ ⟨4, ![16, 4, 1024, 2048]⟩ 0 8 c (m' (((0 : Dev Cert.SwapRefIdeal.nD).tc : Thread Cert.SwapRefIdeal.nD Cert.SwapRefIdeal.τ).loc Cert.SwapRefIdeal.main_arg1))) →
    ∃ (v0 : Buf (Elt Ideal) (((0 : Dev Cert.SwapRefIdeal.nD).tc : Thread Cert.SwapRefIdeal.nD Cert.SwapRefIdeal.τ).loc Cert.SwapRefIdeal.main_v8)) (v1 : Buf (Elt Ideal) (((0 : Dev Cert.SwapRefIdeal.nD).tc : Thread Cert.SwapRefIdeal.nD Cert.SwapRefIdeal.τ).loc Cert.SwapRefIdeal.main_v17)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 1024, 5648]⟩ ⟨3, ![32, 1024, 5648]⟩ 0 8 c v0
          ∧ r.2.mem ((c.tc : Thread Cert.SwapIdeal.nD Cert.SwapIdeal.τ).loc Cert.SwapIdeal.main_v1_1) = Layout.block ⟨3, ![4, 1024, 2048]⟩ ⟨3, ![32, 1024, 2048]⟩ 0 8 c v1
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_v17) = v1
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨4, ![2, 4, 1024, 5648]⟩ ⟨4, ![16, 4, 1024, 5648]⟩ 0 8 c (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.block ⟨4, ![2, 4, 1024, 2048]⟩ ⟨4, ![16, 4, 1024, 2048]⟩ 0 8 c (m' (((0 : Dev Cert.SwapRef.nD).tc : Thread Cert.SwapRef.nD Cert.SwapRef.τ).loc Cert.SwapRef.main_arg1))) →
    ∃ (v0 : Buf (Elt Bits) (((0 : Dev Cert.SwapRef.nD).tc : Thread Cert.SwapRef.nD Cert.SwapRef.τ).loc Cert.SwapRef.main_v8)) (v1 : Buf (Elt Bits) (((0 : Dev Cert.SwapRef.nD).tc : Thread Cert.SwapRef.nD Cert.SwapRef.τ).loc Cert.SwapRef.main_v17)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 1024, 5648]⟩ ⟨3, ![32, 1024, 5648]⟩ 0 8 c v0
          ∧ r.2.mem ((c.tc : Thread Cert.Swap.nD Cert.Swap.τ).loc Cert.Swap.main_v1_1) = Layout.block ⟨3, ![4, 1024, 2048]⟩ ⟨3, ![32, 1024, 2048]⟩ 0 8 c v1
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_v17) = v1
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.blockN ⟨2, ![1024, 5648]⟩ ⟨2, ![2048, 22592]⟩ (Layout.meshBlock [2, 2, 2] ![[2], [0, 1]] c) (m' (((0 : Dev Cert.ShareRefIdeal.nD).tc : Thread Cert.ShareRefIdeal.nD Cert.ShareRefIdeal.τ).loc Cert.ShareRefIdeal.main_arg0))
      ∧ m ((c.tc : Thread Cert.ShareIdeal.nD Cert.ShareIdeal.τ).loc Cert.ShareIdeal.main_arg1) = Layout.block ⟨2, ![1024, 2048]⟩ ⟨2, ![8192, 2048]⟩ 0 8 c (m' (((0 : Dev Cert.ShareRefIdeal.nD).tc : Thread Cert.ShareRefIdeal.nD Cert.ShareRefIdeal.τ).loc Cert.ShareRefIdeal.main_arg1))) →
    ∃ (v0 : Buf (Elt Ideal) (((0 : Dev Cert.ShareRefIdeal.nD).tc : Thread Cert.ShareRefIdeal.nD Cert.ShareRefIdeal.τ).loc Cert.ShareRefIdeal.main_v0)) (v1 : Buf (Elt Ideal) (((0 : Dev Cert.ShareRefIdeal.nD).tc : Thread Cert.ShareRefIdeal.nD Cert.ShareRefIdeal.τ).loc Cert.ShareRefIdeal.main_v1)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1_0) = Layout.blockN ⟨3, ![2, 1024, 5648]⟩ ⟨3, ![2, 1024, 22592]⟩ (Layout.meshBlock [2, 2, 2] ![[], [], [0, 1]] c) v0
          ∧ r.2.mem ((c.tc : Thread Cert.ShareIdeal.nD Cert.ShareIdeal.τ).loc Cert.ShareIdeal.main_v1_1) = Layout.blockN ⟨3, ![2, 1024, 2048]⟩ ⟨3, ![8, 1024, 2048]⟩ (Layout.meshBlock [2, 2, 2] ![[0, 1], [], []] c) v1
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0)
          ∧ r.2.mem ((c.tc : Thread Cert.ShareIdeal.nD Cert.ShareIdeal.τ).loc Cert.ShareIdeal.main_arg1) = m ((c.tc : Thread Cert.ShareIdeal.nD Cert.ShareIdeal.τ).loc Cert.ShareIdeal.main_arg1))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_v1) = v1
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0)
          ∧ r.2.mem (((0 : Dev Cert.ShareRefIdeal.nD).tc : Thread Cert.ShareRefIdeal.nD Cert.ShareRefIdeal.τ).loc Cert.ShareRefIdeal.main_arg1) = m' (((0 : Dev Cert.ShareRefIdeal.nD).tc : Thread Cert.ShareRefIdeal.nD Cert.ShareRefIdeal.τ).loc Cert.ShareRefIdeal.main_arg1))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.blockN ⟨2, ![1024, 5648]⟩ ⟨2, ![2048, 22592]⟩ (Layout.meshBlock [2, 2, 2] ![[2], [0, 1]] c) (m' (((0 : Dev Cert.ShareRef.nD).tc : Thread Cert.ShareRef.nD Cert.ShareRef.τ).loc Cert.ShareRef.main_arg0))
      ∧ m ((c.tc : Thread Cert.Share.nD Cert.Share.τ).loc Cert.Share.main_arg1) = Layout.block ⟨2, ![1024, 2048]⟩ ⟨2, ![8192, 2048]⟩ 0 8 c (m' (((0 : Dev Cert.ShareRef.nD).tc : Thread Cert.ShareRef.nD Cert.ShareRef.τ).loc Cert.ShareRef.main_arg1))) →
    ∃ (v0 : Buf (Elt Bits) (((0 : Dev Cert.ShareRef.nD).tc : Thread Cert.ShareRef.nD Cert.ShareRef.τ).loc Cert.ShareRef.main_v0)) (v1 : Buf (Elt Bits) (((0 : Dev Cert.ShareRef.nD).tc : Thread Cert.ShareRef.nD Cert.ShareRef.τ).loc Cert.ShareRef.main_v1)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1_0) = Layout.blockN ⟨3, ![2, 1024, 5648]⟩ ⟨3, ![2, 1024, 22592]⟩ (Layout.meshBlock [2, 2, 2] ![[], [], [0, 1]] c) v0
          ∧ r.2.mem ((c.tc : Thread Cert.Share.nD Cert.Share.τ).loc Cert.Share.main_v1_1) = Layout.blockN ⟨3, ![2, 1024, 2048]⟩ ⟨3, ![8, 1024, 2048]⟩ (Layout.meshBlock [2, 2, 2] ![[0, 1], [], []] c) v1
          ∧ r.2.mem ((c.tc : Thread Cert.Share.nD Cert.Share.τ).loc Cert.Share.main_arg0) = m ((c.tc : Thread Cert.Share.nD Cert.Share.τ).loc Cert.Share.main_arg0)
          ∧ r.2.mem ((c.tc : Thread Cert.Share.nD Cert.Share.τ).loc Cert.Share.main_arg1) = m ((c.tc : Thread Cert.Share.nD Cert.Share.τ).loc Cert.Share.main_arg1))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_v1) = v1
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0)
          ∧ r.2.mem (((0 : Dev Cert.ShareRef.nD).tc : Thread Cert.ShareRef.nD Cert.ShareRef.τ).loc Cert.ShareRef.main_arg1) = m' (((0 : Dev Cert.ShareRef.nD).tc : Thread Cert.ShareRef.nD Cert.ShareRef.τ).loc Cert.ShareRef.main_arg1))

def preserves_Exchange_ExchangeIdeal : Prop :=
  True

def algebraic_ExchangeIdeal_ExchangeRefIdeal [hExchangeIdeal : Cert.ExchangeIdeal.Facts] [hExchangeRefIdeal : Cert.ExchangeRefIdeal.Facts] : Prop :=
  ∀ (m : (ℓ : Loc Cert.ExchangeIdeal.nD Cert.ExchangeIdeal.τ Cert.ExchangeIdeal.sig) → Buf (Elt Ideal) ℓ) (g : Dev Cert.ExchangeIdeal.nD → PrngReg)
    (m' : (ℓ : Loc Cert.ExchangeRefIdeal.nD Cert.ExchangeRefIdeal.τ Cert.ExchangeRefIdeal.sig) → Buf (Elt Ideal) ℓ) (g' : Dev Cert.ExchangeRefIdeal.nD → PrngReg), Pre_ExchangeIdeal m →
    (∀ c : Dev Cert.ExchangeIdeal.nD,
      m ((c.tc : Thread Cert.ExchangeIdeal.nD Cert.ExchangeIdeal.τ).loc Cert.ExchangeIdeal.main_arg0) = Layout.block ⟨3, ![4, 1024, 5648]⟩ ⟨3, ![32, 1024, 5648]⟩ 0 8 c (m' (((0 : Dev Cert.ExchangeRefIdeal.nD).tc : Thread Cert.ExchangeRefIdeal.nD Cert.ExchangeRefIdeal.τ).loc Cert.ExchangeRefIdeal.main_arg0))
      ∧ m ((c.tc : Thread Cert.ExchangeIdeal.nD Cert.ExchangeIdeal.τ).loc Cert.ExchangeIdeal.main_arg1) = Layout.block ⟨3, ![4, 1024, 2048]⟩ ⟨3, ![32, 1024, 2048]⟩ 0 8 c (m' (((0 : Dev Cert.ExchangeRefIdeal.nD).tc : Thread Cert.ExchangeRefIdeal.nD Cert.ExchangeRefIdeal.τ).loc Cert.ExchangeRefIdeal.main_arg1))) →
    ∃ (v0 : Buf (Elt Ideal) (((0 : Dev Cert.ExchangeRefIdeal.nD).tc : Thread Cert.ExchangeRefIdeal.nD Cert.ExchangeRefIdeal.τ).loc Cert.ExchangeRefIdeal.main_v47)) (v1 : Buf (Elt Ideal) (((0 : Dev Cert.ExchangeRefIdeal.nD).tc : Thread Cert.ExchangeRefIdeal.nD Cert.ExchangeRefIdeal.τ).loc Cert.ExchangeRefIdeal.main_v95)),
      θ_run (Cert.ExchangeIdeal.defs (F := Ideal)) (onTc (τ := Cert.ExchangeIdeal.τ) (Cert.ExchangeIdeal.main (F := Ideal))) ⟨m, fun _ => 0, g⟩ (fun r => ∀ c : Dev Cert.ExchangeIdeal.nD,
          r.2.mem ((c.tc : Thread Cert.ExchangeIdeal.nD Cert.ExchangeIdeal.τ).loc Cert.ExchangeIdeal.main_v1_0) = Layout.block ⟨3, ![3, 1024, 5648]⟩ ⟨3, ![24, 1024, 5648]⟩ 0 8 c v0
          ∧ r.2.mem ((c.tc : Thread Cert.ExchangeIdeal.nD Cert.ExchangeIdeal.τ).loc Cert.ExchangeIdeal.main_v1_1) = Layout.block ⟨3, ![3, 1024, 2048]⟩ ⟨3, ![24, 1024, 2048]⟩ 0 8 c v1
          ∧ r.2.mem ((c.tc : Thread Cert.ExchangeIdeal.nD Cert.ExchangeIdeal.τ).loc Cert.ExchangeIdeal.main_arg0) = m ((c.tc : Thread Cert.ExchangeIdeal.nD Cert.ExchangeIdeal.τ).loc Cert.ExchangeIdeal.main_arg0)
          ∧ r.2.mem ((c.tc : Thread Cert.ExchangeIdeal.nD Cert.ExchangeIdeal.τ).loc Cert.ExchangeIdeal.main_arg1) = m ((c.tc : Thread Cert.ExchangeIdeal.nD Cert.ExchangeIdeal.τ).loc Cert.ExchangeIdeal.main_arg1))
      ∧ θ_run (Cert.ExchangeRefIdeal.defs (F := Ideal)) (onTc (τ := Cert.ExchangeRefIdeal.τ) (Cert.ExchangeRefIdeal.main (F := Ideal))) ⟨m', fun _ => 0, g'⟩ (fun r =>
          r.2.mem (((0 : Dev Cert.ExchangeRefIdeal.nD).tc : Thread Cert.ExchangeRefIdeal.nD Cert.ExchangeRefIdeal.τ).loc Cert.ExchangeRefIdeal.main_v47) = v0
          ∧ r.2.mem (((0 : Dev Cert.ExchangeRefIdeal.nD).tc : Thread Cert.ExchangeRefIdeal.nD Cert.ExchangeRefIdeal.τ).loc Cert.ExchangeRefIdeal.main_v95) = v1
          ∧ r.2.mem (((0 : Dev Cert.ExchangeRefIdeal.nD).tc : Thread Cert.ExchangeRefIdeal.nD Cert.ExchangeRefIdeal.τ).loc Cert.ExchangeRefIdeal.main_arg0) = m' (((0 : Dev Cert.ExchangeRefIdeal.nD).tc : Thread Cert.ExchangeRefIdeal.nD Cert.ExchangeRefIdeal.τ).loc Cert.ExchangeRefIdeal.main_arg0)
          ∧ r.2.mem (((0 : Dev Cert.ExchangeRefIdeal.nD).tc : Thread Cert.ExchangeRefIdeal.nD Cert.ExchangeRefIdeal.τ).loc Cert.ExchangeRefIdeal.main_arg1) = m' (((0 : Dev Cert.ExchangeRefIdeal.nD).tc : Thread Cert.ExchangeRefIdeal.nD Cert.ExchangeRefIdeal.τ).loc Cert.ExchangeRefIdeal.main_arg1))

def bitexact_Exchange_ExchangeRef [hExchange : Cert.Exchange.Facts] [hExchangeRef : Cert.ExchangeRef.Facts] : Prop :=
  ∀ (m : (ℓ : Loc Cert.Exchange.nD Cert.Exchange.τ Cert.Exchange.sig) → Buf (Elt Bits) ℓ) (g : Dev Cert.Exchange.nD → PrngReg)
    (m' : (ℓ : Loc Cert.ExchangeRef.nD Cert.ExchangeRef.τ Cert.ExchangeRef.sig) → Buf (Elt Bits) ℓ) (g' : Dev Cert.ExchangeRef.nD → PrngReg), Pre_Exchange m →
    (∀ c : Dev Cert.Exchange.nD,
      m ((c.tc : Thread Cert.Exchange.nD Cert.Exchange.τ).loc Cert.Exchange.main_arg0) = Layout.block ⟨3, ![4, 1024, 5648]⟩ ⟨3, ![32, 1024, 5648]⟩ 0 8 c (m' (((0 : Dev Cert.ExchangeRef.nD).tc : Thread Cert.ExchangeRef.nD Cert.ExchangeRef.τ).loc Cert.ExchangeRef.main_arg0))
      ∧ m ((c.tc : Thread Cert.Exchange.nD Cert.Exchange.τ).loc Cert.Exchange.main_arg1) = Layout.block ⟨3, ![4, 1024, 2048]⟩ ⟨3, ![32, 1024, 2048]⟩ 0 8 c (m' (((0 : Dev Cert.ExchangeRef.nD).tc : Thread Cert.ExchangeRef.nD Cert.ExchangeRef.τ).loc Cert.ExchangeRef.main_arg1))) →
    ∃ (v0 : Buf (Elt Bits) (((0 : Dev Cert.ExchangeRef.nD).tc : Thread Cert.ExchangeRef.nD Cert.ExchangeRef.τ).loc Cert.ExchangeRef.main_v47)) (v1 : Buf (Elt Bits) (((0 : Dev Cert.ExchangeRef.nD).tc : Thread Cert.ExchangeRef.nD Cert.ExchangeRef.τ).loc Cert.ExchangeRef.main_v95)),
      θ_run (Cert.Exchange.defs (F := Bits)) (onTc (τ := Cert.Exchange.τ) (Cert.Exchange.main (F := Bits))) ⟨m, fun _ => 0, g⟩ (fun r => ∀ c : Dev Cert.Exchange.nD,
          r.2.mem ((c.tc : Thread Cert.Exchange.nD Cert.Exchange.τ).loc Cert.Exchange.main_v1_0) = Layout.block ⟨3, ![3, 1024, 5648]⟩ ⟨3, ![24, 1024, 5648]⟩ 0 8 c v0
          ∧ r.2.mem ((c.tc : Thread Cert.Exchange.nD Cert.Exchange.τ).loc Cert.Exchange.main_v1_1) = Layout.block ⟨3, ![3, 1024, 2048]⟩ ⟨3, ![24, 1024, 2048]⟩ 0 8 c v1
          ∧ r.2.mem ((c.tc : Thread Cert.Exchange.nD Cert.Exchange.τ).loc Cert.Exchange.main_arg0) = m ((c.tc : Thread Cert.Exchange.nD Cert.Exchange.τ).loc Cert.Exchange.main_arg0)
          ∧ r.2.mem ((c.tc : Thread Cert.Exchange.nD Cert.Exchange.τ).loc Cert.Exchange.main_arg1) = m ((c.tc : Thread Cert.Exchange.nD Cert.Exchange.τ).loc Cert.Exchange.main_arg1))
      ∧ θ_run (Cert.ExchangeRef.defs (F := Bits)) (onTc (τ := Cert.ExchangeRef.τ) (Cert.ExchangeRef.main (F := Bits))) ⟨m', fun _ => 0, g'⟩ (fun r =>
          r.2.mem (((0 : Dev Cert.ExchangeRef.nD).tc : Thread Cert.ExchangeRef.nD Cert.ExchangeRef.τ).loc Cert.ExchangeRef.main_v47) = v0
          ∧ r.2.mem (((0 : Dev Cert.ExchangeRef.nD).tc : Thread Cert.ExchangeRef.nD Cert.ExchangeRef.τ).loc Cert.ExchangeRef.main_v95) = v1
          ∧ r.2.mem (((0 : Dev Cert.ExchangeRef.nD).tc : Thread Cert.ExchangeRef.nD Cert.ExchangeRef.τ).loc Cert.ExchangeRef.main_arg0) = m' (((0 : Dev Cert.ExchangeRef.nD).tc : Thread Cert.ExchangeRef.nD Cert.ExchangeRef.τ).loc Cert.ExchangeRef.main_arg0)
          ∧ r.2.mem (((0 : Dev Cert.ExchangeRef.nD).tc : Thread Cert.ExchangeRef.nD Cert.ExchangeRef.τ).loc Cert.ExchangeRef.main_arg1) = m' (((0 : Dev Cert.ExchangeRef.nD).tc : Thread Cert.ExchangeRef.nD Cert.ExchangeRef.τ).loc Cert.ExchangeRef.main_arg1))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m ((c.tc : Thread Cert.WeightsIdeal.nD Cert.WeightsIdeal.τ).loc Cert.WeightsIdeal.main_arg0) = Layout.blockN ⟨2, ![2048, 5648]⟩ ⟨2, ![2048, 22592]⟩ (Layout.meshBlock [2, 2, 2] ![[], [0, 1]] c) (m' (((0 : Dev Cert.WeightsRefIdeal.nD).tc : Thread Cert.WeightsRefIdeal.nD Cert.WeightsRefIdeal.τ).loc Cert.WeightsRefIdeal.main_arg0))
      ∧ m ((c.tc : Thread Cert.WeightsIdeal.nD Cert.WeightsIdeal.τ).loc Cert.WeightsIdeal.main_arg1) = Layout.blockN ⟨2, ![2048, 2048]⟩ ⟨2, ![8192, 2048]⟩ (Layout.meshBlock [2, 2, 2] ![[0, 1], []] c) (m' (((0 : Dev Cert.WeightsRefIdeal.nD).tc : Thread Cert.WeightsRefIdeal.nD Cert.WeightsRefIdeal.τ).loc Cert.WeightsRefIdeal.main_arg1))
      ∧ m ((c.tc : Thread Cert.WeightsIdeal.nD Cert.WeightsIdeal.τ).loc Cert.WeightsIdeal.main_arg2) = Layout.blockN ⟨2, ![4, 1536]⟩ ⟨2, ![4, 6144]⟩ (Layout.meshBlock [2, 2, 2] ![[], [0, 1]] c) (m' (((0 : Dev Cert.WeightsRefIdeal.nD).tc : Thread Cert.WeightsRefIdeal.nD Cert.WeightsRefIdeal.τ).loc Cert.WeightsRefIdeal.main_arg2))) →
    ∃ (v0 : Buf (Elt Ideal) (((0 : Dev Cert.WeightsRefIdeal.nD).tc : Thread Cert.WeightsRefIdeal.nD Cert.WeightsRefIdeal.τ).loc Cert.WeightsRefIdeal.main_v1)) (v1 : Buf (Elt Ideal) (((0 : Dev Cert.WeightsRefIdeal.nD).tc : Thread Cert.WeightsRefIdeal.nD Cert.WeightsRefIdeal.τ).loc Cert.WeightsRefIdeal.main_v2)) (v2 : Buf (Elt Ideal) (((0 : Dev Cert.WeightsRefIdeal.nD).tc : Thread Cert.WeightsRefIdeal.nD Cert.WeightsRefIdeal.τ).loc Cert.WeightsRefIdeal.main_v4)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0
          ∧ r.2.mem ((c.tc : Thread Cert.WeightsIdeal.nD Cert.WeightsIdeal.τ).loc Cert.WeightsIdeal.main_v1_1) = v1
          ∧ r.2.mem ((c.tc : Thread Cert.WeightsIdeal.nD Cert.WeightsIdeal.τ).loc Cert.WeightsIdeal.main_v1_2) = v2
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1)
          ∧ r.2.mem ((c.tc : Thread Cert.WeightsIdeal.nD Cert.WeightsIdeal.τ).loc Cert.WeightsIdeal.main_arg2) = m ((c.tc : Thread Cert.WeightsIdeal.nD Cert.WeightsIdeal.τ).loc Cert.WeightsIdeal.main_arg2))
      ∧ θ_run (Cert.WeightsRefIdeal.defs (F := Ideal)) (onTc (τ := Cert.WeightsRefIdeal.τ) (Cert.WeightsRefIdeal.main (F := Ideal))) ⟨m', fun _ => 0, g'⟩ (fun r =>
          r.2.mem (((0 : Dev Cert.WeightsRefIdeal.nD).tc : Thread Cert.WeightsRefIdeal.nD Cert.WeightsRefIdeal.τ).loc Cert.WeightsRefIdeal.main_v1) = v0
          ∧ r.2.mem (((0 : Dev Cert.WeightsRefIdeal.nD).tc : Thread Cert.WeightsRefIdeal.nD Cert.WeightsRefIdeal.τ).loc Cert.WeightsRefIdeal.main_v2) = v1
          ∧ r.2.mem (((0 : Dev Cert.WeightsRefIdeal.nD).tc : Thread Cert.WeightsRefIdeal.nD Cert.WeightsRefIdeal.τ).loc Cert.WeightsRefIdeal.main_v4) = v2
          ∧ r.2.mem (((0 : Dev Cert.WeightsRefIdeal.nD).tc : Thread Cert.WeightsRefIdeal.nD Cert.WeightsRefIdeal.τ).loc Cert.WeightsRefIdeal.main_arg0) = m' (((0 : Dev Cert.WeightsRefIdeal.nD).tc : Thread Cert.WeightsRefIdeal.nD Cert.WeightsRefIdeal.τ).loc Cert.WeightsRefIdeal.main_arg0)
          ∧ r.2.mem (((0 : Dev Cert.WeightsRefIdeal.nD).tc : Thread Cert.WeightsRefIdeal.nD Cert.WeightsRefIdeal.τ).loc Cert.WeightsRefIdeal.main_arg1) = m' (((0 : Dev Cert.WeightsRefIdeal.nD).tc : Thread Cert.WeightsRefIdeal.nD Cert.WeightsRefIdeal.τ).loc Cert.WeightsRefIdeal.main_arg1)
          ∧ r.2.mem (((0 : Dev Cert.WeightsRefIdeal.nD).tc : Thread Cert.WeightsRefIdeal.nD Cert.WeightsRefIdeal.τ).loc Cert.WeightsRefIdeal.main_arg2) = m' (((0 : Dev Cert.WeightsRefIdeal.nD).tc : Thread Cert.WeightsRefIdeal.nD Cert.WeightsRefIdeal.τ).loc Cert.WeightsRefIdeal.main_arg2))

def bitexact_Weights_WeightsRef [hWeights : Cert.Weights.Facts] [hWeightsRef : Cert.WeightsRef.Facts] : Prop :=
  ∀ (m : (ℓ : Loc Cert.Weights.nD Cert.Weights.τ Cert.Weights.sig) → Buf (Elt Bits) ℓ) (g : Dev Cert.Weights.nD → PrngReg)
    (m' : (ℓ : Loc Cert.WeightsRef.nD Cert.WeightsRef.τ Cert.WeightsRef.sig) → Buf (Elt Bits) ℓ) (g' : Dev Cert.WeightsRef.nD → PrngReg), Pre_Weights m →
    (∀ c : Dev Cert.Weights.nD,
      m ((c.tc : Thread Cert.Weights.nD Cert.Weights.τ).loc Cert.Weights.main_arg0) = Layout.blockN ⟨2, ![2048, 5648]⟩ ⟨2, ![2048, 22592]⟩ (Layout.meshBlock [2, 2, 2] ![[], [0, 1]] c) (m' (((0 : Dev Cert.WeightsRef.nD).tc : Thread Cert.WeightsRef.nD Cert.WeightsRef.τ).loc Cert.WeightsRef.main_arg0))
      ∧ m ((c.tc : Thread Cert.Weights.nD Cert.Weights.τ).loc Cert.Weights.main_arg1) = Layout.blockN ⟨2, ![2048, 2048]⟩ ⟨2, ![8192, 2048]⟩ (Layout.meshBlock [2, 2, 2] ![[0, 1], []] c) (m' (((0 : Dev Cert.WeightsRef.nD).tc : Thread Cert.WeightsRef.nD Cert.WeightsRef.τ).loc Cert.WeightsRef.main_arg1))
      ∧ m ((c.tc : Thread Cert.Weights.nD Cert.Weights.τ).loc Cert.Weights.main_arg2) = Layout.blockN ⟨2, ![4, 1536]⟩ ⟨2, ![4, 6144]⟩ (Layout.meshBlock [2, 2, 2] ![[], [0, 1]] c) (m' (((0 : Dev Cert.WeightsRef.nD).tc : Thread Cert.WeightsRef.nD Cert.WeightsRef.τ).loc Cert.WeightsRef.main_arg2))) →
    ∃ (v0 : Buf (Elt Bits) (((0 : Dev Cert.WeightsRef.nD).tc : Thread Cert.WeightsRef.nD Cert.WeightsRef.τ).loc Cert.WeightsRef.main_v1)) (v1 : Buf (Elt Bits) (((0 : Dev Cert.WeightsRef.nD).tc : Thread Cert.WeightsRef.nD Cert.WeightsRef.τ).loc Cert.WeightsRef.main_v2)) (v2 : Buf (Elt Bits) (((0 : Dev Cert.WeightsRef.nD).tc : Thread Cert.WeightsRef.nD Cert.WeightsRef.τ).loc Cert.WeightsRef.main_v4)),
      θ_run (Cert.Weights.defs (F := Bits)) (onTc (τ := Cert.Weights.τ) (Cert.Weights.main (F := Bits))) ⟨m, fun _ => 0, g⟩ (fun r => ∀ c : Dev Cert.Weights.nD,
          r.2.mem ((c.tc : Thread Cert.Weights.nD Cert.Weights.τ).loc Cert.Weights.main_v1_0) = v0
          ∧ r.2.mem ((c.tc : Thread Cert.Weights.nD Cert.Weights.τ).loc Cert.Weights.main_v1_1) = v1
          ∧ r.2.mem ((c.tc : Thread Cert.Weights.nD Cert.Weights.τ).loc Cert.Weights.main_v1_2) = v2
          ∧ r.2.mem ((c.tc : Thread Cert.Weights.nD Cert.Weights.τ).loc Cert.Weights.main_arg0) = m ((c.tc : Thread Cert.Weights.nD Cert.Weights.τ).loc Cert.Weights.main_arg0)
          ∧ r.2.mem ((c.tc : Thread Cert.Weights.nD Cert.Weights.τ).loc Cert.Weights.main_arg1) = m ((c.tc : Thread Cert.Weights.nD Cert.Weights.τ).loc Cert.Weights.main_arg1)
          ∧ r.2.mem ((c.tc : Thread Cert.Weights.nD Cert.Weights.τ).loc Cert.Weights.main_arg2) = m ((c.tc : Thread Cert.Weights.nD Cert.Weights.τ).loc Cert.Weights.main_arg2))
      ∧ θ_run (Cert.WeightsRef.defs (F := Bits)) (onTc (τ := Cert.WeightsRef.τ) (Cert.WeightsRef.main (F := Bits))) ⟨m', fun _ => 0, g'⟩ (fun r =>
          r.2.mem (((0 : Dev Cert.WeightsRef.nD).tc : Thread Cert.WeightsRef.nD Cert.WeightsRef.τ).loc Cert.WeightsRef.main_v1) = v0
          ∧ r.2.mem (((0 : Dev Cert.WeightsRef.nD).tc : Thread Cert.WeightsRef.nD Cert.WeightsRef.τ).loc Cert.WeightsRef.main_v2) = v1
          ∧ r.2.mem (((0 : Dev Cert.WeightsRef.nD).tc : Thread Cert.WeightsRef.nD Cert.WeightsRef.τ).loc Cert.WeightsRef.main_v4) = v2
          ∧ r.2.mem (((0 : Dev Cert.WeightsRef.nD).tc : Thread Cert.WeightsRef.nD Cert.WeightsRef.τ).loc Cert.WeightsRef.main_arg0) = m' (((0 : Dev Cert.WeightsRef.nD).tc : Thread Cert.WeightsRef.nD Cert.WeightsRef.τ).loc Cert.WeightsRef.main_arg0)
          ∧ r.2.mem (((0 : Dev Cert.WeightsRef.nD).tc : Thread Cert.WeightsRef.nD Cert.WeightsRef.τ).loc Cert.WeightsRef.main_arg1) = m' (((0 : Dev Cert.WeightsRef.nD).tc : Thread Cert.WeightsRef.nD Cert.WeightsRef.τ).loc Cert.WeightsRef.main_arg1)
          ∧ r.2.mem (((0 : Dev Cert.WeightsRef.nD).tc : Thread Cert.WeightsRef.nD Cert.WeightsRef.τ).loc Cert.WeightsRef.main_arg2) = m' (((0 : Dev Cert.WeightsRef.nD).tc : Thread Cert.WeightsRef.nD Cert.WeightsRef.τ).loc Cert.WeightsRef.main_arg2))

def preserves_Vec_VecIdeal : Prop :=
  True

def algebraic_VecIdeal_VecRefIdeal [hVecIdeal : Cert.VecIdeal.Facts] [hVecRefIdeal : Cert.VecRefIdeal.Facts] : Prop :=
  ∀ (m : (ℓ : Loc Cert.VecIdeal.nD Cert.VecIdeal.τ Cert.VecIdeal.sig) → Buf (Elt Ideal) ℓ) (g : Dev Cert.VecIdeal.nD → PrngReg)
    (m' : (ℓ : Loc Cert.VecRefIdeal.nD Cert.VecRefIdeal.τ Cert.VecRefIdeal.sig) → Buf (Elt Ideal) ℓ) (g' : Dev Cert.VecRefIdeal.nD → PrngReg), Pre_VecIdeal m →
    (∀ c : Dev Cert.VecIdeal.nD,
      m ((c.tc : Thread Cert.VecIdeal.nD Cert.VecIdeal.τ).loc Cert.VecIdeal.main_arg0) = Layout.block ⟨2, ![1, 39296]⟩ ⟨2, ![8, 39296]⟩ 0 8 c (m' (((0 : Dev Cert.VecRefIdeal.nD).tc : Thread Cert.VecRefIdeal.nD Cert.VecRefIdeal.τ).loc Cert.VecRefIdeal.main_arg0))) →
    ∃ (v0 : Buf (Elt Ideal) (((0 : Dev Cert.VecRefIdeal.nD).tc : Thread Cert.VecRefIdeal.nD Cert.VecRefIdeal.τ).loc Cert.VecRefIdeal.main_arg0)),
      θ_run (Cert.VecIdeal.defs (F := Ideal)) (onTc (τ := Cert.VecIdeal.τ) (Cert.VecIdeal.main (F := Ideal))) ⟨m, fun _ => 0, g⟩ (fun r => ∀ c : Dev Cert.VecIdeal.nD,
          r.2.mem ((c.tc : Thread Cert.VecIdeal.nD Cert.VecIdeal.τ).loc Cert.VecIdeal.main_v1) = v0
          ∧ r.2.mem ((c.tc : Thread Cert.VecIdeal.nD Cert.VecIdeal.τ).loc Cert.VecIdeal.main_arg0) = m ((c.tc : Thread Cert.VecIdeal.nD Cert.VecIdeal.τ).loc Cert.VecIdeal.main_arg0))
      ∧ θ_run (Cert.VecRefIdeal.defs (F := Ideal)) (onTc (τ := Cert.VecRefIdeal.τ) (Cert.VecRefIdeal.main (F := Ideal))) ⟨m', fun _ => 0, g'⟩ (fun r =>
          r.2.mem (((0 : Dev Cert.VecRefIdeal.nD).tc : Thread Cert.VecRefIdeal.nD Cert.VecRefIdeal.τ).loc Cert.VecRefIdeal.main_arg0) = v0
          ∧ r.2.mem (((0 : Dev Cert.VecRefIdeal.nD).tc : Thread Cert.VecRefIdeal.nD Cert.VecRefIdeal.τ).loc Cert.VecRefIdeal.main_arg0) = m' (((0 : Dev Cert.VecRefIdeal.nD).tc : Thread Cert.VecRefIdeal.nD Cert.VecRefIdeal.τ).loc Cert.VecRefIdeal.main_arg0))

def bitexact_Vec_VecRef [hVec : Cert.Vec.Facts] [hVecRef : Cert.VecRef.Facts] : Prop :=
  ∀ (m : (ℓ : Loc Cert.Vec.nD Cert.Vec.τ Cert.Vec.sig) → Buf (Elt Bits) ℓ) (g : Dev Cert.Vec.nD → PrngReg)
    (m' : (ℓ : Loc Cert.VecRef.nD Cert.VecRef.τ Cert.VecRef.sig) → Buf (Elt Bits) ℓ) (g' : Dev Cert.VecRef.nD → PrngReg), Pre_Vec m →
    (∀ c : Dev Cert.Vec.nD,
      m ((c.tc : Thread Cert.Vec.nD Cert.Vec.τ).loc Cert.Vec.main_arg0) = Layout.block ⟨2, ![1, 39296]⟩ ⟨2, ![8, 39296]⟩ 0 8 c (m' (((0 : Dev Cert.VecRef.nD).tc : Thread Cert.VecRef.nD Cert.VecRef.τ).loc Cert.VecRef.main_arg0))) →
    ∃ (v0 : Buf (Elt Bits) (((0 : Dev Cert.VecRef.nD).tc : Thread Cert.VecRef.nD Cert.VecRef.τ).loc Cert.VecRef.main_arg0)),
      θ_run (Cert.Vec.defs (F := Bits)) (onTc (τ := Cert.Vec.τ) (Cert.Vec.main (F := Bits))) ⟨m, fun _ => 0, g⟩ (fun r => ∀ c : Dev Cert.Vec.nD,
          r.2.mem ((c.tc : Thread Cert.Vec.nD Cert.Vec.τ).loc Cert.Vec.main_v1) = v0
          ∧ r.2.mem ((c.tc : Thread Cert.Vec.nD Cert.Vec.τ).loc Cert.Vec.main_arg0) = m ((c.tc : Thread Cert.Vec.nD Cert.Vec.τ).loc Cert.Vec.main_arg0))
      ∧ θ_run (Cert.VecRef.defs (F := Bits)) (onTc (τ := Cert.VecRef.τ) (Cert.VecRef.main (F := Bits))) ⟨m', fun _ => 0, g'⟩ (fun r =>
          r.2.mem (((0 : Dev Cert.VecRef.nD).tc : Thread Cert.VecRef.nD Cert.VecRef.τ).loc Cert.VecRef.main_arg0) = v0
          ∧ r.2.mem (((0 : Dev Cert.VecRef.nD).tc : Thread Cert.VecRef.nD Cert.VecRef.τ).loc Cert.VecRef.main_arg0) = m' (((0 : Dev Cert.VecRef.nD).tc : Thread Cert.VecRef.nD Cert.VecRef.τ).loc Cert.VecRef.main_arg0))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v1) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamRet_AdamRetIdeal : Prop :=
  True

def algebraic_AdamRetIdeal_AdamRetRefIdeal [hAdamRetIdeal : Cert.AdamRetIdeal.Facts] [hAdamRetRefIdeal : Cert.AdamRetRefIdeal.Facts] : Prop :=
  ∀ (m : (ℓ : Loc Cert.AdamRetIdeal.nD Cert.AdamRetIdeal.τ Cert.AdamRetIdeal.sig) → Buf (Elt Ideal) ℓ) (g : Dev Cert.AdamRetIdeal.nD → PrngReg)
    (m' : (ℓ : Loc Cert.AdamRetRefIdeal.nD Cert.AdamRetRefIdeal.τ Cert.AdamRetRefIdeal.sig) → Buf (Elt Ideal) ℓ) (g' : Dev Cert.AdamRetRefIdeal.nD → PrngReg), Pre_AdamRetIdeal m →
    (∀ c : Dev Cert.AdamRetIdeal.nD,
      m' ((c.tc : Thread Cert.AdamRetRefIdeal.nD Cert.AdamRetRefIdeal.τ).loc Cert.AdamRetRefIdeal.main_arg0) = m ((c.tc : Thread Cert.AdamRetIdeal.nD Cert.AdamRetIdeal.τ).loc Cert.AdamRetIdeal.main_arg0)
      ∧ m' ((c.tc : Thread Cert.AdamRetRefIdeal.nD Cert.AdamRetRefIdeal.τ).loc Cert.AdamRetRefIdeal.main_arg1) = m ((c.tc : Thread Cert.AdamRetIdeal.nD Cert.AdamRetIdeal.τ).loc Cert.AdamRetIdeal.main_arg1)
      ∧ m' ((c.tc : Thread Cert.AdamRetRefIdeal.nD Cert.AdamRetRefIdeal.τ).loc Cert.AdamRetRefIdeal.main_arg2) = m ((c.tc : Thread Cert.AdamRetIdeal.nD Cert.AdamRetIdeal.τ).loc Cert.AdamRetIdeal.main_arg2)
      ∧ m' ((c.tc : Thread Cert.AdamRetRefIdeal.nD Cert.AdamRetRefIdeal.τ).loc Cert.AdamRetRefIdeal.main_arg3) = m ((c.tc : Thread Cert.AdamRetIdeal.nD Cert.AdamRetIdeal.τ).loc Cert.AdamRetIdeal.main_arg3)) →
    ∃ (v0 : (c : Dev Cert.AdamRetIdeal.nD) → Buf (Elt Ideal) ((c.tc : Thread Cert.AdamRetIdeal.nD Cert.AdamRetIdeal.τ).loc Cert.AdamRetIdeal.main_v0_0)) (v1 : (c : Dev Cert.AdamRetIdeal.nD) → Buf (Elt Ideal) ((c.tc : Thread Cert.AdamRetIdeal.nD Cert.AdamRetIdeal.τ).loc Cert.AdamRetIdeal.main_v0_1)) (v2 : (c : Dev Cert.AdamRetIdeal.nD) → Buf (Elt Ideal) ((c.tc : Thread Cert.AdamRetIdeal.nD Cert.AdamRetIdeal.τ).loc Cert.AdamRetIdeal.main_v0_2)),
      θ_run (Cert.AdamRetIdeal.defs (F := Ideal)) (onTc (τ := Cert.AdamRetIdeal.τ) (Cert.AdamRetIdeal.main (F := Ideal))) ⟨m, fun _ => 0, g⟩ (fun r => ∀ c : Dev Cert.AdamRetIdeal.nD,
          r.2.mem ((c.tc : Thread Cert.AdamRetIdeal.nD Cert.AdamRetIdeal.τ).loc Cert.AdamRetIdeal.main_v0_0) = v0 c
          ∧ r.2.mem ((c.tc : Thread Cert.AdamRetIdeal.nD Cert.AdamRetIdeal.τ).loc Cert.AdamRetIdeal.main_v0_1) = v1 c
          ∧ r.2.mem ((c.tc : Thread Cert.AdamRetIdeal.nD Cert.AdamRetIdeal.τ).loc Cert.AdamRetIdeal.main_v0_2) = v2 c
          ∧ r.2.mem ((c.tc : Thread Cert.AdamRetIdeal.nD Cert.AdamRetIdeal.τ).loc Cert.AdamRetIdeal.main_arg0) = m ((c.tc : Thread Cert.AdamRetIdeal.nD Cert.AdamRetIdeal.τ).loc Cert.AdamRetIdeal.main_arg0)
          ∧ r.2.mem ((c.tc : Thread Cert.AdamRetIdeal.nD Cert.AdamRetIdeal.τ).loc Cert.AdamRetIdeal.main_arg1) = m ((c.tc : Thread Cert.AdamRetIdeal.nD Cert.AdamRetIdeal.τ).loc Cert.AdamRetIdeal.main_arg1)
          ∧ r.2.mem ((c.tc : Thread Cert.AdamRetIdeal.nD Cert.AdamRetIdeal.τ).loc Cert.AdamRetIdeal.main_arg2) = m ((c.tc : Thread Cert.AdamRetIdeal.nD Cert.AdamRetIdeal.τ).loc Cert.AdamRetIdeal.main_arg2)
          ∧ r.2.mem ((c.tc : Thread Cert.AdamRetIdeal.nD Cert.AdamRetIdeal.τ).loc Cert.AdamRetIdeal.main_arg3) = m ((c.tc : Thread Cert.AdamRetIdeal.nD Cert.AdamRetIdeal.τ).loc Cert.AdamRetIdeal.main_arg3))
      ∧ θ_run (Cert.AdamRetRefIdeal.defs (F := Ideal)) (onTc (τ := Cert.AdamRetRefIdeal.τ) (Cert.AdamRetRefIdeal.main (F := Ideal))) ⟨m', fun _ => 0, g'⟩ (fun r => ∀ c : Dev Cert.AdamRetRefIdeal.nD,
          r.2.mem ((c.tc : Thread Cert.AdamRetRefIdeal.nD Cert.AdamRetRefIdeal.τ).loc Cert.AdamRetRefIdeal.main_v23) = v0 c
          ∧ r.2.mem ((c.tc : Thread Cert.AdamRetRefIdeal.nD Cert.AdamRetRefIdeal.τ).loc Cert.AdamRetRefIdeal.main_v4) = v1 c
          ∧ r.2.mem ((c.tc : Thread Cert.AdamRetRefIdeal.nD Cert.AdamRetRefIdeal.τ).loc Cert.AdamRetRefIdeal.main_v10) = v2 c
          ∧ r.2.mem ((c.tc : Thread Cert.AdamRetRefIdeal.nD Cert.AdamRetRefIdeal.τ).loc Cert.AdamRetRefIdeal.main_arg0) = m' ((c.tc : Thread Cert.AdamRetRefIdeal.nD Cert.AdamRetRefIdeal.τ).loc Cert.AdamRetRefIdeal.main_arg0)
          ∧ r.2.mem ((c.tc : Thread Cert.AdamRetRefIdeal.nD Cert.AdamRetRefIdeal.τ).loc Cert.AdamRetRefIdeal.main_arg1) = m' ((c.tc : Thread Cert.AdamRetRefIdeal.nD Cert.AdamRetRefIdeal.τ).loc Cert.AdamRetRefIdeal.main_arg1)
          ∧ r.2.mem ((c.tc : Thread Cert.AdamRetRefIdeal.nD Cert.AdamRetRefIdeal.τ).loc Cert.AdamRetRefIdeal.main_arg2) = m' ((c.tc : Thread Cert.AdamRetRefIdeal.nD Cert.AdamRetRefIdeal.τ).loc Cert.AdamRetRefIdeal.main_arg2)
          ∧ r.2.mem ((c.tc : Thread Cert.AdamRetRefIdeal.nD Cert.AdamRetRefIdeal.τ).loc Cert.AdamRetRefIdeal.main_arg3) = m' ((c.tc : Thread Cert.AdamRetRefIdeal.nD Cert.AdamRetRefIdeal.τ).loc Cert.AdamRetRefIdeal.main_arg3))

def preserves_AdamSsd_AdamSsdIdeal : Prop :=
  True

def algebraic_AdamSsdIdeal_AdamSsdRefIdeal [hAdamSsdIdeal : Cert.AdamSsdIdeal.Facts] [hAdamSsdRefIdeal : Cert.AdamSsdRefIdeal.Facts] : Prop :=
  ∀ (m : (ℓ : Loc Cert.AdamSsdIdeal.nD Cert.AdamSsdIdeal.τ Cert.AdamSsdIdeal.sig) → Buf (Elt Ideal) ℓ) (g : Dev Cert.AdamSsdIdeal.nD → PrngReg)
    (m' : (ℓ : Loc Cert.AdamSsdRefIdeal.nD Cert.AdamSsdRefIdeal.τ Cert.AdamSsdRefIdeal.sig) → Buf (Elt Ideal) ℓ) (g' : Dev Cert.AdamSsdRefIdeal.nD → PrngReg), Pre_AdamSsdIdeal m →
    (∀ c : Dev Cert.AdamSsdIdeal.nD,
      m' ((c.tc : Thread Cert.AdamSsdRefIdeal.nD Cert.AdamSsdRefIdeal.τ).loc Cert.AdamSsdRefIdeal.main_arg0) = m ((c.tc : Thread Cert.AdamSsdIdeal.nD Cert.AdamSsdIdeal.τ).loc Cert.AdamSsdIdeal.main_arg0)
      ∧ m' ((c.tc : Thread Cert.AdamSsdRefIdeal.nD Cert.AdamSsdRefIdeal.τ).loc Cert.AdamSsdRefIdeal.main_arg1) = m ((c.tc : Thread Cert.AdamSsdIdeal.nD Cert.AdamSsdIdeal.τ).loc Cert.AdamSsdIdeal.main_arg1)
      ∧ m' ((c.tc : Thread Cert.AdamSsdRefIdeal.nD Cert.AdamSsdRefIdeal.τ).loc Cert.AdamSsdRefIdeal.main_arg2) = m ((c.tc : Thread Cert.AdamSsdIdeal.nD Cert.AdamSsdIdeal.τ).loc Cert.AdamSsdIdeal.main_arg2)
      ∧ m' ((c.tc : Thread Cert.AdamSsdRefIdeal.nD Cert.AdamSsdRefIdeal.τ).loc Cert.AdamSsdRefIdeal.main_arg3) = m ((c.tc : Thread Cert.AdamSsdIdeal.nD Cert.AdamSsdIdeal.τ).loc Cert.AdamSsdIdeal.main_arg3)) →
    ∃ (v0 : (c : Dev Cert.AdamSsdIdeal.nD) → Buf (Elt Ideal) ((c.tc : Thread Cert.AdamSsdIdeal.nD Cert.AdamSsdIdeal.τ).loc Cert.AdamSsdIdeal.main_v0_0)) (v1 : (c : Dev Cert.AdamSsdIdeal.nD) → Buf (Elt Ideal) ((c.tc : Thread Cert.AdamSsdIdeal.nD Cert.AdamSsdIdeal.τ).loc Cert.AdamSsdIdeal.main_v0_1)) (v2 : (c : Dev Cert.AdamSsdIdeal.nD) → Buf (Elt Ideal) ((c.tc : Thread Cert.AdamSsdIdeal.nD Cert.AdamSsdIdeal.τ).loc Cert.AdamSsdIdeal.main_v0_2)),
      θ_run (Cert.AdamSsdIdeal.defs (F := Ideal)) (onTc (τ := Cert.AdamSsdIdeal.τ) (Cert.AdamSsdIdeal.main (F := Ideal))) ⟨m, fun _ => 0, g⟩ (fun r => ∀ c : Dev Cert.AdamSsdIdeal.nD,
          r.2.mem ((c.tc : Thread Cert.AdamSsdIdeal.nD Cert.AdamSsdIdeal.τ).loc Cert.AdamSsdIdeal.main_v0_0) = v0 c
          ∧ r.2.mem ((c.tc : Thread Cert.AdamSsdIdeal.nD Cert.AdamSsdIdeal.τ).loc Cert.AdamSsdIdeal.main_v0_1) = v1 c
          ∧ r.2.mem ((c.tc : Thread Cert.AdamSsdIdeal.nD Cert.AdamSsdIdeal.τ).loc Cert.AdamSsdIdeal.main_v0_2) = v2 c
          ∧ r.2.mem ((c.tc : Thread Cert.AdamSsdIdeal.nD Cert.AdamSsdIdeal.τ).loc Cert.AdamSsdIdeal.main_arg0) = m ((c.tc : Thread Cert.AdamSsdIdeal.nD Cert.AdamSsdIdeal.τ).loc Cert.AdamSsdIdeal.main_arg0)
          ∧ r.2.mem ((c.tc : Thread Cert.AdamSsdIdeal.nD Cert.AdamSsdIdeal.τ).loc Cert.AdamSsdIdeal.main_arg1) = m ((c.tc : Thread Cert.AdamSsdIdeal.nD Cert.AdamSsdIdeal.τ).loc Cert.AdamSsdIdeal.main_arg1)
          ∧ r.2.mem ((c.tc : Thread Cert.AdamSsdIdeal.nD Cert.AdamSsdIdeal.τ).loc Cert.AdamSsdIdeal.main_arg2) = m ((c.tc : Thread Cert.AdamSsdIdeal.nD Cert.AdamSsdIdeal.τ).loc Cert.AdamSsdIdeal.main_arg2)
          ∧ r.2.mem ((c.tc : Thread Cert.AdamSsdIdeal.nD Cert.AdamSsdIdeal.τ).loc Cert.AdamSsdIdeal.main_arg3) = m ((c.tc : Thread Cert.AdamSsdIdeal.nD Cert.AdamSsdIdeal.τ).loc Cert.AdamSsdIdeal.main_arg3))
      ∧ θ_run (Cert.AdamSsdRefIdeal.defs (F := Ideal)) (onTc (τ := Cert.AdamSsdRefIdeal.τ) (Cert.AdamSsdRefIdeal.main (F := Ideal))) ⟨m', fun _ => 0, g'⟩ (fun r => ∀ c : Dev Cert.AdamSsdRefIdeal.nD,
          r.2.mem ((c.tc : Thread Cert.AdamSsdRefIdeal.nD Cert.AdamSsdRefIdeal.τ).loc Cert.AdamSsdRefIdeal.main_v23) = v0 c
          ∧ r.2.mem ((c.tc : Thread Cert.AdamSsdRefIdeal.nD Cert.AdamSsdRefIdeal.τ).loc Cert.AdamSsdRefIdeal.main_v4) = v1 c
          ∧ r.2.mem ((c.tc : Thread Cert.AdamSsdRefIdeal.nD Cert.AdamSsdRefIdeal.τ).loc Cert.AdamSsdRefIdeal.main_v10) = v2 c
          ∧ r.2.mem ((c.tc : Thread Cert.AdamSsdRefIdeal.nD Cert.AdamSsdRefIdeal.τ).loc Cert.AdamSsdRefIdeal.main_arg0) = m' ((c.tc : Thread Cert.AdamSsdRefIdeal.nD Cert.AdamSsdRefIdeal.τ).loc Cert.AdamSsdRefIdeal.main_arg0)
          ∧ r.2.mem ((c.tc : Thread Cert.AdamSsdRefIdeal.nD Cert.AdamSsdRefIdeal.τ).loc Cert.AdamSsdRefIdeal.main_arg1) = m' ((c.tc : Thread Cert.AdamSsdRefIdeal.nD Cert.AdamSsdRefIdeal.τ).loc Cert.AdamSsdRefIdeal.main_arg1)
          ∧ r.2.mem ((c.tc : Thread Cert.AdamSsdRefIdeal.nD Cert.AdamSsdRefIdeal.τ).loc Cert.AdamSsdRefIdeal.main_arg2) = m' ((c.tc : Thread Cert.AdamSsdRefIdeal.nD Cert.AdamSsdRefIdeal.τ).loc Cert.AdamSsdRefIdeal.main_arg2)
          ∧ r.2.mem ((c.tc : Thread Cert.AdamSsdRefIdeal.nD Cert.AdamSsdRefIdeal.τ).loc Cert.AdamSsdRefIdeal.main_arg3) = m' ((c.tc : Thread Cert.AdamSsdRefIdeal.nD Cert.AdamSsdRefIdeal.τ).loc Cert.AdamSsdRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormB_NormBIdeal : Prop :=
  True

def algebraic_NormBIdeal_NormBRefIdeal [hNormBIdeal : Cert.NormBIdeal.Facts] [hNormBRefIdeal : Cert.NormBRefIdeal.Facts] : Prop :=
  ∀ (m : (ℓ : Loc Cert.NormBIdeal.nD Cert.NormBIdeal.τ Cert.NormBIdeal.sig) → Buf (Elt Ideal) ℓ) (g : Dev Cert.NormBIdeal.nD → PrngReg)
    (m' : (ℓ : Loc Cert.NormBRefIdeal.nD Cert.NormBRefIdeal.τ Cert.NormBRefIdeal.sig) → Buf (Elt Ideal) ℓ) (g' : Dev Cert.NormBRefIdeal.nD → PrngReg), Pre_NormBIdeal m →
    (∀ c : Dev Cert.NormBIdeal.nD,
      m' ((c.tc : Thread Cert.NormBRefIdeal.nD Cert.NormBRefIdeal.τ).loc Cert.NormBRefIdeal.main_arg0) = m ((c.tc : Thread Cert.NormBIdeal.nD Cert.NormBIdeal.τ).loc Cert.NormBIdeal.main_arg0)
      ∧ m' ((c.tc : Thread Cert.NormBRefIdeal.nD Cert.NormBRefIdeal.τ).loc Cert.NormBRefIdeal.main_arg1) = m ((c.tc : Thread Cert.NormBIdeal.nD Cert.NormBIdeal.τ).loc Cert.NormBIdeal.main_arg1)
      ∧ m' ((c.tc : Thread Cert.NormBRefIdeal.nD Cert.NormBRefIdeal.τ).loc Cert.NormBRefIdeal.main_arg2) = m ((c.tc : Thread Cert.NormBIdeal.nD Cert.NormBIdeal.τ).loc Cert.NormBIdeal.main_arg2)
      ∧ m' ((c.tc : Thread Cert.NormBRefIdeal.nD Cert.NormBRefIdeal.τ).loc Cert.NormBRefIdeal.main_arg3) = m ((c.tc : Thread Cert.NormBIdeal.nD Cert.NormBIdeal.τ).loc Cert.NormBIdeal.main_arg3)) →
    ∃ (v0 : (c : Dev Cert.NormBIdeal.nD) → Buf (Elt Ideal) ((c.tc : Thread Cert.NormBIdeal.nD Cert.NormBIdeal.τ).loc Cert.NormBIdeal.main_v0_0)) (v1 : (c : Dev Cert.NormBIdeal.nD) → Buf (Elt Ideal) ((c.tc : Thread Cert.NormBIdeal.nD Cert.NormBIdeal.τ).loc Cert.NormBIdeal.main_v0_1)),
      θ_run (Cert.NormBIdeal.defs (F := Ideal)) (onTc (τ := Cert.NormBIdeal.τ) (Cert.NormBIdeal.main (F := Ideal))) ⟨m, fun _ => 0, g⟩ (fun r => ∀ c : Dev Cert.NormBIdeal.nD,
          r.2.mem ((c.tc : Thread Cert.NormBIdeal.nD Cert.NormBIdeal.τ).loc Cert.NormBIdeal.main_v0_0) = v0 c
          ∧ r.2.mem ((c.tc : Thread Cert.NormBIdeal.nD Cert.NormBIdeal.τ).loc Cert.NormBIdeal.main_v0_1) = v1 c
          ∧ r.2.mem ((c.tc : Thread Cert.NormBIdeal.nD Cert.NormBIdeal.τ).loc Cert.NormBIdeal.main_arg0) = m ((c.tc : Thread Cert.NormBIdeal.nD Cert.NormBIdeal.τ).loc Cert.NormBIdeal.main_arg0)
          ∧ r.2.mem ((c.tc : Thread Cert.NormBIdeal.nD Cert.NormBIdeal.τ).loc Cert.NormBIdeal.main_arg1) = m ((c.tc : Thread Cert.NormBIdeal.nD Cert.NormBIdeal.τ).loc Cert.NormBIdeal.main_arg1)
          ∧ r.2.mem ((c.tc : Thread Cert.NormBIdeal.nD Cert.NormBIdeal.τ).loc Cert.NormBIdeal.main_arg2) = m ((c.tc : Thread Cert.NormBIdeal.nD Cert.NormBIdeal.τ).loc Cert.NormBIdeal.main_arg2)
          ∧ r.2.mem ((c.tc : Thread Cert.NormBIdeal.nD Cert.NormBIdeal.τ).loc Cert.NormBIdeal.main_arg3) = m ((c.tc : Thread Cert.NormBIdeal.nD Cert.NormBIdeal.τ).loc Cert.NormBIdeal.main_arg3))
      ∧ θ_run (Cert.NormBRefIdeal.defs (F := Ideal)) (onTc (τ := Cert.NormBRefIdeal.τ) (Cert.NormBRefIdeal.main (F := Ideal))) ⟨m', fun _ => 0, g'⟩ (fun r => ∀ c : Dev Cert.NormBRefIdeal.nD,
          r.2.mem ((c.tc : Thread Cert.NormBRefIdeal.nD Cert.NormBRefIdeal.τ).loc Cert.NormBRefIdeal.main_v22) = v0 c
          ∧ r.2.mem ((c.tc : Thread Cert.NormBRefIdeal.nD Cert.NormBRefIdeal.τ).loc Cert.NormBRefIdeal.main_v25) = v1 c
          ∧ r.2.mem ((c.tc : Thread Cert.NormBRefIdeal.nD Cert.NormBRefIdeal.τ).loc Cert.NormBRefIdeal.main_arg0) = m' ((c.tc : Thread Cert.NormBRefIdeal.nD Cert.NormBRefIdeal.τ).loc Cert.NormBRefIdeal.main_arg0)
          ∧ r.2.mem ((c.tc : Thread Cert.NormBRefIdeal.nD Cert.NormBRefIdeal.τ).loc Cert.NormBRefIdeal.main_arg1) = m' ((c.tc : Thread Cert.NormBRefIdeal.nD Cert.NormBRefIdeal.τ).loc Cert.NormBRefIdeal.main_arg1)
          ∧ r.2.mem ((c.tc : Thread Cert.NormBRefIdeal.nD Cert.NormBRefIdeal.τ).loc Cert.NormBRefIdeal.main_arg2) = m' ((c.tc : Thread Cert.NormBRefIdeal.nD Cert.NormBRefIdeal.τ).loc Cert.NormBRefIdeal.main_arg2)
          ∧ r.2.mem ((c.tc : Thread Cert.NormBRefIdeal.nD Cert.NormBRefIdeal.τ).loc Cert.NormBRefIdeal.main_arg3) = m' ((c.tc : Thread Cert.NormBRefIdeal.nD Cert.NormBRefIdeal.τ).loc Cert.NormBRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)) (v2 : (c : Dev Cert.FinalIdeal.nD) → Buf (Elt Ideal) ((c.tc : Thread Cert.FinalIdeal.nD Cert.FinalIdeal.τ).loc Cert.FinalIdeal.main_v0_2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_v0_2) = v2 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v33) = v0 c
          ∧ r.2.mem ((c.tc : Thread Cert.FinalRefIdeal.nD Cert.FinalRefIdeal.τ).loc Cert.FinalRefIdeal.main_v34) = v1 c
          ∧ r.2.mem ((c.tc : Thread Cert.FinalRefIdeal.nD Cert.FinalRefIdeal.τ).loc Cert.FinalRefIdeal.main_v37) = v2 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v26) = v0 c
          ∧ r.2.mem ((c.tc : Thread Cert.MergeBRefIdeal.nD Cert.MergeBRefIdeal.τ).loc Cert.MergeBRefIdeal.main_v27) = v1 c
          ∧ r.2.mem ((c.tc : Thread Cert.MergeBRefIdeal.nD Cert.MergeBRefIdeal.τ).loc Cert.MergeBRefIdeal.main_v28) = v2 c
          ∧ r.2.mem ((c.tc : Thread Cert.MergeBRefIdeal.nD Cert.MergeBRefIdeal.τ).loc Cert.MergeBRefIdeal.main_v29) = v3 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)) →
    ∃ (v0 : (c : Dev Cert.GatedIdeal.nD) → Buf (Elt Ideal) ((c.tc : Thread Cert.GatedIdeal.nD Cert.GatedIdeal.τ).loc Cert.GatedIdeal.main_v0)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v15) = v0 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2))

def preserves_GatedB_GatedBIdeal : Prop :=
  True

def algebraic_GatedBIdeal_GatedBRefIdeal [hGatedBIdeal : Cert.GatedBIdeal.Facts] [hGatedBRefIdeal : Cert.GatedBRefIdeal.Facts] : Prop :=
  ∀ (m : (ℓ : Loc Cert.GatedBIdeal.nD Cert.GatedBIdeal.τ Cert.GatedBIdeal.sig) → Buf (Elt Ideal) ℓ) (g : Dev Cert.GatedBIdeal.nD → PrngReg)
    (m' : (ℓ : Loc Cert.GatedBRefIdeal.nD Cert.GatedBRefIdeal.τ Cert.GatedBRefIdeal.sig) → Buf (Elt Ideal) ℓ) (g' : Dev Cert.GatedBRefIdeal.nD → PrngReg), Pre_GatedBIdeal m →
    (∀ c : Dev Cert.GatedBIdeal.nD,
      m' ((c.tc : Thread Cert.GatedBRefIdeal.nD Cert.GatedBRefIdeal.τ).loc Cert.GatedBRefIdeal.main_arg0) = m ((c.tc : Thread Cert.GatedBIdeal.nD Cert.GatedBIdeal.τ).loc Cert.GatedBIdeal.main_arg0)
      ∧ m' ((c.tc : Thread Cert.GatedBRefIdeal.nD Cert.GatedBRefIdeal.τ).loc Cert.GatedBRefIdeal.main_arg1) = m ((c.tc : Thread Cert.GatedBIdeal.nD Cert.GatedBIdeal.τ).loc Cert.GatedBIdeal.main_arg1)
      ∧ m' ((c.tc : Thread Cert.GatedBRefIdeal.nD Cert.GatedBRefIdeal.τ).loc Cert.GatedBRefIdeal.main_arg2) = m ((c.tc : Thread Cert.GatedBIdeal.nD Cert.GatedBIdeal.τ).loc Cert.GatedBIdeal.main_arg2)
      ∧ m' ((c.tc : Thread Cert.GatedBRefIdeal.nD Cert.GatedBRefIdeal.τ).loc Cert.GatedBRefIdeal.main_arg3) = m ((c.tc : Thread Cert.GatedBIdeal.nD Cert.GatedBIdeal.τ).loc Cert.GatedBIdeal.main_arg3)) →
    ∃ (v0 : (c : Dev Cert.GatedBIdeal.nD) → Buf (Elt Ideal) ((c.tc : Thread Cert.GatedBIdeal.nD Cert.GatedBIdeal.τ).loc Cert.GatedBIdeal.main_v0_0)) (v1 : (c : Dev Cert.GatedBIdeal.nD) → Buf (Elt Ideal) ((c.tc : Thread Cert.GatedBIdeal.nD Cert.GatedBIdeal.τ).loc Cert.GatedBIdeal.main_v0_1)) (v2 : (c : Dev Cert.GatedBIdeal.nD) → Buf (Elt Ideal) ((c.tc : Thread Cert.GatedBIdeal.nD Cert.GatedBIdeal.τ).loc Cert.GatedBIdeal.main_v0_2)),
      θ_run (Cert.GatedBIdeal.defs (F := Ideal)) (onTc (τ := Cert.GatedBIdeal.τ) (Cert.GatedBIdeal.main (F := Ideal))) ⟨m, fun _ => 0, g⟩ (fun r => ∀ c : Dev Cert.GatedBIdeal.nD,
          r.2.mem ((c.tc : Thread Cert.GatedBIdeal.nD Cert.GatedBIdeal.τ).loc Cert.GatedBIdeal.main_v0_0) = v0 c
          ∧ r.2.mem ((c.tc : Thread Cert.GatedBIdeal.nD Cert.GatedBIdeal.τ).loc Cert.GatedBIdeal.main_v0_1) = v1 c
          ∧ r.2.mem ((c.tc : Thread Cert.GatedBIdeal.nD Cert.GatedBIdeal.τ).loc Cert.GatedBIdeal.main_v0_2) = v2 c
          ∧ r.2.mem ((c.tc : Thread Cert.GatedBIdeal.nD Cert.GatedBIdeal.τ).loc Cert.GatedBIdeal.main_arg0) = m ((c.tc : Thread Cert.GatedBIdeal.nD Cert.GatedBIdeal.τ).loc Cert.GatedBIdeal.main_arg0)
          ∧ r.2.mem ((c.tc : Thread Cert.GatedBIdeal.nD Cert.GatedBIdeal.τ).loc Cert.GatedBIdeal.main_arg1) = m ((c.tc : Thread Cert.GatedBIdeal.nD Cert.GatedBIdeal.τ).loc Cert.GatedBIdeal.main_arg1)
          ∧ r.2.mem ((c.tc : Thread Cert.GatedBIdeal.nD Cert.GatedBIdeal.τ).loc Cert.GatedBIdeal.main_arg2) = m ((c.tc : Thread Cert.GatedBIdeal.nD Cert.GatedBIdeal.τ).loc Cert.GatedBIdeal.main_arg2)
          ∧ r.2.mem ((c.tc : Thread Cert.GatedBIdeal.nD Cert.GatedBIdeal.τ).loc Cert.GatedBIdeal.main_arg3) = m ((c.tc : Thread Cert.GatedBIdeal.nD Cert.GatedBIdeal.τ).loc Cert.GatedBIdeal.main_arg3))
      ∧ θ_run (Cert.GatedBRefIdeal.defs (F := Ideal)) (onTc (τ := Cert.GatedBRefIdeal.τ) (Cert.GatedBRefIdeal.main (F := Ideal))) ⟨m', fun _ => 0, g'⟩ (fun r => ∀ c : Dev Cert.GatedBRefIdeal.nD,
          r.2.mem ((c.tc : Thread Cert.GatedBRefIdeal.nD Cert.GatedBRefIdeal.τ).loc Cert.GatedBRefIdeal.main_v32) = v0 c
          ∧ r.2.mem ((c.tc : Thread Cert.GatedBRefIdeal.nD Cert.GatedBRefIdeal.τ).loc Cert.GatedBRefIdeal.main_v41) = v1 c
          ∧ r.2.mem ((c.tc : Thread Cert.GatedBRefIdeal.nD Cert.GatedBRefIdeal.τ).loc Cert.GatedBRefIdeal.main_v44) = v2 c
          ∧ r.2.mem ((c.tc : Thread Cert.GatedBRefIdeal.nD Cert.GatedBRefIdeal.τ).loc Cert.GatedBRefIdeal.main_arg0) = m' ((c.tc : Thread Cert.GatedBRefIdeal.nD Cert.GatedBRefIdeal.τ).loc Cert.GatedBRefIdeal.main_arg0)
          ∧ r.2.mem ((c.tc : Thread Cert.GatedBRefIdeal.nD Cert.GatedBRefIdeal.τ).loc Cert.GatedBRefIdeal.main_arg1) = m' ((c.tc : Thread Cert.GatedBRefIdeal.nD Cert.GatedBRefIdeal.τ).loc Cert.GatedBRefIdeal.main_arg1)
          ∧ r.2.mem ((c.tc : Thread Cert.GatedBRefIdeal.nD Cert.GatedBRefIdeal.τ).loc Cert.GatedBRefIdeal.main_arg2) = m' ((c.tc : Thread Cert.GatedBRefIdeal.nD Cert.GatedBRefIdeal.τ).loc Cert.GatedBRefIdeal.main_arg2)
          ∧ r.2.mem ((c.tc : Thread Cert.GatedBRefIdeal.nD Cert.GatedBRefIdeal.τ).loc Cert.GatedBRefIdeal.main_arg3) = m' ((c.tc : Thread Cert.GatedBRefIdeal.nD Cert.GatedBRefIdeal.τ).loc Cert.GatedBRefIdeal.main_arg3))

def preserves_ProjMain_ProjMainIdeal : Prop :=
  True

def algebraic_ProjMainIdeal_ProjMainRefIdeal [hProjMainIdeal : Cert.ProjMainIdeal.Facts] [hProjMainRefIdeal : Cert.ProjMainRefIdeal.Facts] : Prop :=
  ∀ (m : (ℓ : Loc Cert.ProjMainIdeal.nD Cert.ProjMainIdeal.τ Cert.ProjMainIdeal.sig) → Buf (Elt Ideal) ℓ) (g : Dev Cert.ProjMainIdeal.nD → PrngReg)
    (m' : (ℓ : Loc Cert.ProjMainRefIdeal.nD Cert.ProjMainRefIdeal.τ Cert.ProjMainRefIdeal.sig) → Buf (Elt Ideal) ℓ) (g' : Dev Cert.ProjMainRefIdeal.nD → PrngReg), Pre_ProjMainIdeal m →
    (∀ c : Dev Cert.ProjMainIdeal.nD,
      m' ((c.tc : Thread Cert.ProjMainRefIdeal.nD Cert.ProjMainRefIdeal.τ).loc Cert.ProjMainRefIdeal.main_arg0) = m ((c.tc : Thread Cert.ProjMainIdeal.nD Cert.ProjMainIdeal.τ).loc Cert.ProjMainIdeal.main_arg0)
      ∧ m' ((c.tc : Thread Cert.ProjMainRefIdeal.nD Cert.ProjMainRefIdeal.τ).loc Cert.ProjMainRefIdeal.main_arg1) = m ((c.tc : Thread Cert.ProjMainIdeal.nD Cert.ProjMainIdeal.τ).loc Cert.ProjMainIdeal.main_arg1)) →
    ∃ (v0 : (c : Dev Cert.ProjMainIdeal.nD) → Buf (Elt Ideal) ((c.tc : Thread Cert.ProjMainIdeal.nD Cert.ProjMainIdeal.τ).loc Cert.ProjMainIdeal.main_v0)),
      θ_run (Cert.ProjMainIdeal.defs (F := Ideal)) (onTc (τ := Cert.ProjMainIdeal.τ) (Cert.ProjMainIdeal.main (F := Ideal))) ⟨m, fun _ => 0, g⟩ (fun r => ∀ c : Dev Cert.ProjMainIdeal.nD,
          r.2.mem ((c.tc : Thread Cert.ProjMainIdeal.nD Cert.ProjMainIdeal.τ).loc Cert.ProjMainIdeal.main_v0) = v0 c
          ∧ r.2.mem ((c.tc : Thread Cert.ProjMainIdeal.nD Cert.ProjMainIdeal.τ).loc Cert.ProjMainIdeal.main_arg0) = m ((c.tc : Thread Cert.ProjMainIdeal.nD Cert.ProjMainIdeal.τ).loc Cert.ProjMainIdeal.main_arg0)
          ∧ r.2.mem ((c.tc : Thread Cert.ProjMainIdeal.nD Cert.ProjMainIdeal.τ).loc Cert.ProjMainIdeal.main_arg1) = m ((c.tc : Thread Cert.ProjMainIdeal.nD Cert.ProjMainIdeal.τ).loc Cert.ProjMainIdeal.main_arg1))
      ∧ θ_run (Cert.ProjMainRefIdeal.defs (F := Ideal)) (onTc (τ := Cert.ProjMainRefIdeal.τ) (Cert.ProjMainRefIdeal.main (F := Ideal))) ⟨m', fun _ => 0, g'⟩ (fun r => ∀ c : Dev Cert.ProjMainRefIdeal.nD,
          r.2.mem ((c.tc : Thread Cert.ProjMainRefIdeal.nD Cert.ProjMainRefIdeal.τ).loc Cert.ProjMainRefIdeal.main_v0) = v0 c
          ∧ r.2.mem ((c.tc : Thread Cert.ProjMainRefIdeal.nD Cert.ProjMainRefIdeal.τ).loc Cert.ProjMainRefIdeal.main_arg0) = m' ((c.tc : Thread Cert.ProjMainRefIdeal.nD Cert.ProjMainRefIdeal.τ).loc Cert.ProjMainRefIdeal.main_arg0)
          ∧ r.2.mem ((c.tc : Thread Cert.ProjMainRefIdeal.nD Cert.ProjMainRefIdeal.τ).loc Cert.ProjMainRefIdeal.main_arg1) = m' ((c.tc : Thread Cert.ProjMainRefIdeal.nD Cert.ProjMainRefIdeal.τ).loc Cert.ProjMainRefIdeal.main_arg1))

def preserves_BranchSsd_BranchSsdIdeal : Prop :=
  True

def algebraic_BranchSsdIdeal_BranchSsdRefIdeal [hBranchSsdIdeal : Cert.BranchSsdIdeal.Facts] [hBranchSsdRefIdeal : Cert.BranchSsdRefIdeal.Facts] : Prop :=
  ∀ (m : (ℓ : Loc Cert.BranchSsdIdeal.nD Cert.BranchSsdIdeal.τ Cert.BranchSsdIdeal.sig) → Buf (Elt Ideal) ℓ) (g : Dev Cert.BranchSsdIdeal.nD → PrngReg)
    (m' : (ℓ : Loc Cert.BranchSsdRefIdeal.nD Cert.BranchSsdRefIdeal.τ Cert.BranchSsdRefIdeal.sig) → Buf (Elt Ideal) ℓ) (g' : Dev Cert.BranchSsdRefIdeal.nD → PrngReg), Pre_BranchSsdIdeal m →
    (∀ c : Dev Cert.BranchSsdIdeal.nD,
      m' ((c.tc : Thread Cert.BranchSsdRefIdeal.nD Cert.BranchSsdRefIdeal.τ).loc Cert.BranchSsdRefIdeal.main_arg0) = m ((c.tc : Thread Cert.BranchSsdIdeal.nD Cert.BranchSsdIdeal.τ).loc Cert.BranchSsdIdeal.main_arg0)
      ∧ m' ((c.tc : Thread Cert.BranchSsdRefIdeal.nD Cert.BranchSsdRefIdeal.τ).loc Cert.BranchSsdRefIdeal.main_arg1) = m ((c.tc : Thread Cert.BranchSsdIdeal.nD Cert.BranchSsdIdeal.τ).loc Cert.BranchSsdIdeal.main_arg1)) →
    ∃ (v0 : (c : Dev Cert.BranchSsdIdeal.nD) → Buf (Elt Ideal) ((c.tc : Thread Cert.BranchSsdIdeal.nD Cert.BranchSsdIdeal.τ).loc Cert.BranchSsdIdeal.main_v0)),
      θ_run (Cert.BranchSsdIdeal.defs (F := Ideal)) (onTc (τ := Cert.BranchSsdIdeal.τ) (Cert.BranchSsdIdeal.main (F := Ideal))) ⟨m, fun _ => 0, g⟩ (fun r => ∀ c : Dev Cert.BranchSsdIdeal.nD,
          r.2.mem ((c.tc : Thread Cert.BranchSsdIdeal.nD Cert.BranchSsdIdeal.τ).loc Cert.BranchSsdIdeal.main_v0) = v0 c
          ∧ r.2.mem ((c.tc : Thread Cert.BranchSsdIdeal.nD Cert.BranchSsdIdeal.τ).loc Cert.BranchSsdIdeal.main_arg0) = m ((c.tc : Thread Cert.BranchSsdIdeal.nD Cert.BranchSsdIdeal.τ).loc Cert.BranchSsdIdeal.main_arg0)
          ∧ r.2.mem ((c.tc : Thread Cert.BranchSsdIdeal.nD Cert.BranchSsdIdeal.τ).loc Cert.BranchSsdIdeal.main_arg1) = m ((c.tc : Thread Cert.BranchSsdIdeal.nD Cert.BranchSsdIdeal.τ).loc Cert.BranchSsdIdeal.main_arg1))
      ∧ θ_run (Cert.BranchSsdRefIdeal.defs (F := Ideal)) (onTc (τ := Cert.BranchSsdRefIdeal.τ) (Cert.BranchSsdRefIdeal.main (F := Ideal))) ⟨m', fun _ => 0, g'⟩ (fun r => ∀ c : Dev Cert.BranchSsdRefIdeal.nD,
          r.2.mem ((c.tc : Thread Cert.BranchSsdRefIdeal.nD Cert.BranchSsdRefIdeal.τ).loc Cert.BranchSsdRefIdeal.main_v0) = v0 c
          ∧ r.2.mem ((c.tc : Thread Cert.BranchSsdRefIdeal.nD Cert.BranchSsdRefIdeal.τ).loc Cert.BranchSsdRefIdeal.main_arg0) = m' ((c.tc : Thread Cert.BranchSsdRefIdeal.nD Cert.BranchSsdRefIdeal.τ).loc Cert.BranchSsdRefIdeal.main_arg0)
          ∧ r.2.mem ((c.tc : Thread Cert.BranchSsdRefIdeal.nD Cert.BranchSsdRefIdeal.τ).loc Cert.BranchSsdRefIdeal.main_arg1) = m' ((c.tc : Thread Cert.BranchSsdRefIdeal.nD Cert.BranchSsdRefIdeal.τ).loc Cert.BranchSsdRefIdeal.main_arg1))

def preserves_DYr_DYrIdeal : Prop :=
  True

def algebraic_DYrIdeal_DYrRefIdeal [hDYrIdeal : Cert.DYrIdeal.Facts] [hDYrRefIdeal : Cert.DYrRefIdeal.Facts] : Prop :=
  ∀ (m : (ℓ : Loc Cert.DYrIdeal.nD Cert.DYrIdeal.τ Cert.DYrIdeal.sig) → Buf (Elt Ideal) ℓ) (g : Dev Cert.DYrIdeal.nD → PrngReg)
    (m' : (ℓ : Loc Cert.DYrRefIdeal.nD Cert.DYrRefIdeal.τ Cert.DYrRefIdeal.sig) → Buf (Elt Ideal) ℓ) (g' : Dev Cert.DYrRefIdeal.nD → PrngReg), Pre_DYrIdeal m →
    (∀ c : Dev Cert.DYrIdeal.nD,
      m' ((c.tc : Thread Cert.DYrRefIdeal.nD Cert.DYrRefIdeal.τ).loc Cert.DYrRefIdeal.main_arg0) = m ((c.tc : Thread Cert.DYrIdeal.nD Cert.DYrIdeal.τ).loc Cert.DYrIdeal.main_arg0)
      ∧ m' ((c.tc : Thread Cert.DYrRefIdeal.nD Cert.DYrRefIdeal.τ).loc Cert.DYrRefIdeal.main_arg1) = m ((c.tc : Thread Cert.DYrIdeal.nD Cert.DYrIdeal.τ).loc Cert.DYrIdeal.main_arg1)) →
    ∃ (v0 : (c : Dev Cert.DYrIdeal.nD) → Buf (Elt Ideal) ((c.tc : Thread Cert.DYrIdeal.nD Cert.DYrIdeal.τ).loc Cert.DYrIdeal.main_v0)),
      θ_run (Cert.DYrIdeal.defs (F := Ideal)) (onTc (τ := Cert.DYrIdeal.τ) (Cert.DYrIdeal.main (F := Ideal))) ⟨m, fun _ => 0, g⟩ (fun r => ∀ c : Dev Cert.DYrIdeal.nD,
          r.2.mem ((c.tc : Thread Cert.DYrIdeal.nD Cert.DYrIdeal.τ).loc Cert.DYrIdeal.main_v0) = v0 c
          ∧ r.2.mem ((c.tc : Thread Cert.DYrIdeal.nD Cert.DYrIdeal.τ).loc Cert.DYrIdeal.main_arg0) = m ((c.tc : Thread Cert.DYrIdeal.nD Cert.DYrIdeal.τ).loc Cert.DYrIdeal.main_arg0)
          ∧ r.2.mem ((c.tc : Thread Cert.DYrIdeal.nD Cert.DYrIdeal.τ).loc Cert.DYrIdeal.main_arg1) = m ((c.tc : Thread Cert.DYrIdeal.nD Cert.DYrIdeal.τ).loc Cert.DYrIdeal.main_arg1))
      ∧ θ_run (Cert.DYrRefIdeal.defs (F := Ideal)) (onTc (τ := Cert.DYrRefIdeal.τ) (Cert.DYrRefIdeal.main (F := Ideal))) ⟨m', fun _ => 0, g'⟩ (fun r => ∀ c : Dev Cert.DYrRefIdeal.nD,
          r.2.mem ((c.tc : Thread Cert.DYrRefIdeal.nD Cert.DYrRefIdeal.τ).loc Cert.DYrRefIdeal.main_v0) = v0 c
          ∧ r.2.mem ((c.tc : Thread Cert.DYrRefIdeal.nD Cert.DYrRefIdeal.τ).loc Cert.DYrRefIdeal.main_arg0) = m' ((c.tc : Thread Cert.DYrRefIdeal.nD Cert.DYrRefIdeal.τ).loc Cert.DYrRefIdeal.main_arg0)
          ∧ r.2.mem ((c.tc : Thread Cert.DYrRefIdeal.nD Cert.DYrRefIdeal.τ).loc Cert.DYrRefIdeal.main_arg1) = m' ((c.tc : Thread Cert.DYrRefIdeal.nD Cert.DYrRefIdeal.τ).loc Cert.DYrRefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v0) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v0)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v0) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v0) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_PairIn_PairInIdeal : Prop :=
  True

def algebraic_PairInIdeal_PairInRefIdeal [hPairInIdeal : Cert.PairInIdeal.Facts] [hPairInRefIdeal : Cert.PairInRefIdeal.Facts] [hPre_core_in : Cert.Pre_core_in.Facts] : Prop :=
  ∀ (m : (ℓ : Loc Cert.PairInIdeal.nD Cert.PairInIdeal.τ Cert.PairInIdeal.sig) → Buf (Elt Ideal) ℓ) (g : Dev Cert.PairInIdeal.nD → PrngReg)
    (m' : (ℓ : Loc Cert.PairInRefIdeal.nD Cert.PairInRefIdeal.τ Cert.PairInRefIdeal.sig) → Buf (Elt Ideal) ℓ) (g' : Dev Cert.PairInRefIdeal.nD → PrngReg), Pre_PairInIdeal m →
    (∀ c : Dev Cert.PairInIdeal.nD,
      m' ((c.tc : Thread Cert.PairInRefIdeal.nD Cert.PairInRefIdeal.τ).loc Cert.PairInRefIdeal.main_arg0) = m ((c.tc : Thread Cert.PairInIdeal.nD Cert.PairInIdeal.τ).loc Cert.PairInIdeal.main_arg0)
      ∧ m' ((c.tc : Thread Cert.PairInRefIdeal.nD Cert.PairInRefIdeal.τ).loc Cert.PairInRefIdeal.main_arg1) = m ((c.tc : Thread Cert.PairInIdeal.nD Cert.PairInIdeal.τ).loc Cert.PairInIdeal.main_arg1)
      ∧ m' ((c.tc : Thread Cert.PairInRefIdeal.nD Cert.PairInRefIdeal.τ).loc Cert.PairInRefIdeal.main_arg2) = m ((c.tc : Thread Cert.PairInIdeal.nD Cert.PairInIdeal.τ).loc Cert.PairInIdeal.main_arg2)) →
    ∃ (v0 : (c : Dev Cert.PairInIdeal.nD) → Buf (Elt Ideal) ((c.tc : Thread Cert.PairInIdeal.nD Cert.PairInIdeal.τ).loc Cert.PairInIdeal.main_v0)),
      θ_run (Cert.PairInIdeal.defs (F := Ideal)) (onTc (τ := Cert.PairInIdeal.τ) (Cert.PairInIdeal.main (F := Ideal))) ⟨m, fun _ => 0, g⟩ (fun r => ∀ c : Dev Cert.PairInIdeal.nD,
          r.2.mem ((c.tc : Thread Cert.PairInIdeal.nD Cert.PairInIdeal.τ).loc Cert.PairInIdeal.main_v0) = v0 c
          ∧ r.2.mem ((c.tc : Thread Cert.PairInIdeal.nD Cert.PairInIdeal.τ).loc Cert.PairInIdeal.main_arg0) = m ((c.tc : Thread Cert.PairInIdeal.nD Cert.PairInIdeal.τ).loc Cert.PairInIdeal.main_arg0)
          ∧ r.2.mem ((c.tc : Thread Cert.PairInIdeal.nD Cert.PairInIdeal.τ).loc Cert.PairInIdeal.main_arg1) = m ((c.tc : Thread Cert.PairInIdeal.nD Cert.PairInIdeal.τ).loc Cert.PairInIdeal.main_arg1)
          ∧ r.2.mem ((c.tc : Thread Cert.PairInIdeal.nD Cert.PairInIdeal.τ).loc Cert.PairInIdeal.main_arg2) = m ((c.tc : Thread Cert.PairInIdeal.nD Cert.PairInIdeal.τ).loc Cert.PairInIdeal.main_arg2))
      ∧ θ_run (Cert.PairInRefIdeal.defs (F := Ideal)) (onTc (τ := Cert.PairInRefIdeal.τ) (Cert.PairInRefIdeal.main (F := Ideal))) ⟨m', fun _ => 0, g'⟩ (fun r => ∀ c : Dev Cert.PairInRefIdeal.nD,
          r.2.mem ((c.tc : Thread Cert.PairInRefIdeal.nD Cert.PairInRefIdeal.τ).loc Cert.PairInRefIdeal.main_v7) = v0 c
          ∧ r.2.mem ((c.tc : Thread Cert.PairInRefIdeal.nD Cert.PairInRefIdeal.τ).loc Cert.PairInRefIdeal.main_arg0) = m' ((c.tc : Thread Cert.PairInRefIdeal.nD Cert.PairInRefIdeal.τ).loc Cert.PairInRefIdeal.main_arg0)
          ∧ r.2.mem ((c.tc : Thread Cert.PairInRefIdeal.nD Cert.PairInRefIdeal.τ).loc Cert.PairInRefIdeal.main_arg1) = m' ((c.tc : Thread Cert.PairInRefIdeal.nD Cert.PairInRefIdeal.τ).loc Cert.PairInRefIdeal.main_arg1)
          ∧ r.2.mem ((c.tc : Thread Cert.PairInRefIdeal.nD Cert.PairInRefIdeal.τ).loc Cert.PairInRefIdeal.main_arg2) = m' ((c.tc : Thread Cert.PairInRefIdeal.nD Cert.PairInRefIdeal.τ).loc Cert.PairInRefIdeal.main_arg2))

def preserves_PairB_PairBIdeal : Prop :=
  True

def algebraic_PairBIdeal_PairBRefIdeal [hPairBIdeal : Cert.PairBIdeal.Facts] [hPairBRefIdeal : Cert.PairBRefIdeal.Facts] [hPre_core_b : Cert.Pre_core_b.Facts] : Prop :=
  ∀ (m : (ℓ : Loc Cert.PairBIdeal.nD Cert.PairBIdeal.τ Cert.PairBIdeal.sig) → Buf (Elt Ideal) ℓ) (g : Dev Cert.PairBIdeal.nD → PrngReg)
    (m' : (ℓ : Loc Cert.PairBRefIdeal.nD Cert.PairBRefIdeal.τ Cert.PairBRefIdeal.sig) → Buf (Elt Ideal) ℓ) (g' : Dev Cert.PairBRefIdeal.nD → PrngReg), Pre_PairBIdeal m →
    (∀ c : Dev Cert.PairBIdeal.nD,
      m' ((c.tc : Thread Cert.PairBRefIdeal.nD Cert.PairBRefIdeal.τ).loc Cert.PairBRefIdeal.main_arg0) = m ((c.tc : Thread Cert.PairBIdeal.nD Cert.PairBIdeal.τ).loc Cert.PairBIdeal.main_arg0)
      ∧ m' ((c.tc : Thread Cert.PairBRefIdeal.nD Cert.PairBRefIdeal.τ).loc Cert.PairBRefIdeal.main_arg1) = m ((c.tc : Thread Cert.PairBIdeal.nD Cert.PairBIdeal.τ).loc Cert.PairBIdeal.main_arg1)
      ∧ m' ((c.tc : Thread Cert.PairBRefIdeal.nD Cert.PairBRefIdeal.τ).loc Cert.PairBRefIdeal.main_arg2) = m ((c.tc : Thread Cert.PairBIdeal.nD Cert.PairBIdeal.τ).loc Cert.PairBIdeal.main_arg2)) →
    ∃ (v0 : (c : Dev Cert.PairBIdeal.nD) → Buf (Elt Ideal) ((c.tc : Thread Cert.PairBIdeal.nD Cert.PairBIdeal.τ).loc Cert.PairBIdeal.main_v0)),
      θ_run (Cert.PairBIdeal.defs (F := Ideal)) (onTc (τ := Cert.PairBIdeal.τ) (Cert.PairBIdeal.main (F := Ideal))) ⟨m, fun _ => 0, g⟩ (fun r => ∀ c : Dev Cert.PairBIdeal.nD,
          r.2.mem ((c.tc : Thread Cert.PairBIdeal.nD Cert.PairBIdeal.τ).loc Cert.PairBIdeal.main_v0) = v0 c
          ∧ r.2.mem ((c.tc : Thread Cert.PairBIdeal.nD Cert.PairBIdeal.τ).loc Cert.PairBIdeal.main_arg0) = m ((c.tc : Thread Cert.PairBIdeal.nD Cert.PairBIdeal.τ).loc Cert.PairBIdeal.main_arg0)
          ∧ r.2.mem ((c.tc : Thread Cert.PairBIdeal.nD Cert.PairBIdeal.τ).loc Cert.PairBIdeal.main_arg1) = m ((c.tc : Thread Cert.PairBIdeal.nD Cert.PairBIdeal.τ).loc Cert.PairBIdeal.main_arg1)
          ∧ r.2.mem ((c.tc : Thread Cert.PairBIdeal.nD Cert.PairBIdeal.τ).loc Cert.PairBIdeal.main_arg2) = m ((c.tc : Thread Cert.PairBIdeal.nD Cert.PairBIdeal.τ).loc Cert.PairBIdeal.main_arg2))
      ∧ θ_run (Cert.PairBRefIdeal.defs (F := Ideal)) (onTc (τ := Cert.PairBRefIdeal.τ) (Cert.PairBRefIdeal.main (F := Ideal))) ⟨m', fun _ => 0, g'⟩ (fun r => ∀ c : Dev Cert.PairBRefIdeal.nD,
          r.2.mem ((c.tc : Thread Cert.PairBRefIdeal.nD Cert.PairBRefIdeal.τ).loc Cert.PairBRefIdeal.main_v7) = v0 c
          ∧ r.2.mem ((c.tc : Thread Cert.PairBRefIdeal.nD Cert.PairBRefIdeal.τ).loc Cert.PairBRefIdeal.main_arg0) = m' ((c.tc : Thread Cert.PairBRefIdeal.nD Cert.PairBRefIdeal.τ).loc Cert.PairBRefIdeal.main_arg0)
          ∧ r.2.mem ((c.tc : Thread Cert.PairBRefIdeal.nD Cert.PairBRefIdeal.τ).loc Cert.PairBRefIdeal.main_arg1) = m' ((c.tc : Thread Cert.PairBRefIdeal.nD Cert.PairBRefIdeal.τ).loc Cert.PairBRefIdeal.main_arg1)
          ∧ r.2.mem ((c.tc : Thread Cert.PairBRefIdeal.nD Cert.PairBRefIdeal.τ).loc Cert.PairBRefIdeal.main_arg2) = m' ((c.tc : Thread Cert.PairBRefIdeal.nD Cert.PairBRefIdeal.τ).loc Cert.PairBRefIdeal.main_arg2))

def preserves_OwnIn_OwnInIdeal : Prop :=
  True

def algebraic_OwnInIdeal_OwnInRefIdeal [hOwnInIdeal : Cert.OwnInIdeal.Facts] [hOwnInRefIdeal : Cert.OwnInRefIdeal.Facts] [hPre_place_in : Cert.Pre_place_in.Facts] : Prop :=
  ∀ (m : (ℓ : Loc Cert.OwnInIdeal.nD Cert.OwnInIdeal.τ Cert.OwnInIdeal.sig) → Buf (Elt Ideal) ℓ) (g : Dev Cert.OwnInIdeal.nD → PrngReg)
    (m' : (ℓ : Loc Cert.OwnInRefIdeal.nD Cert.OwnInRefIdeal.τ Cert.OwnInRefIdeal.sig) → Buf (Elt Ideal) ℓ) (g' : Dev Cert.OwnInRefIdeal.nD → PrngReg), Pre_OwnInIdeal m →
    (∀ c : Dev Cert.OwnInIdeal.nD,
      m' ((c.tc : Thread Cert.OwnInRefIdeal.nD Cert.OwnInRefIdeal.τ).loc Cert.OwnInRefIdeal.main_arg0) = m ((c.tc : Thread Cert.OwnInIdeal.nD Cert.OwnInIdeal.τ).loc Cert.OwnInIdeal.main_arg0)
      ∧ m' ((c.tc : Thread Cert.OwnInRefIdeal.nD Cert.OwnInRefIdeal.τ).loc Cert.OwnInRefIdeal.main_arg1) = m ((c.tc : Thread Cert.OwnInIdeal.nD Cert.OwnInIdeal.τ).loc Cert.OwnInIdeal.main_arg1)
      ∧ m' ((c.tc : Thread Cert.OwnInRefIdeal.nD Cert.OwnInRefIdeal.τ).loc Cert.OwnInRefIdeal.main_arg2) = m ((c.tc : Thread Cert.OwnInIdeal.nD Cert.OwnInIdeal.τ).loc Cert.OwnInIdeal.main_arg2)
      ∧ m' ((c.tc : Thread Cert.OwnInRefIdeal.nD Cert.OwnInRefIdeal.τ).loc Cert.OwnInRefIdeal.main_arg3) = m ((c.tc : Thread Cert.OwnInIdeal.nD Cert.OwnInIdeal.τ).loc Cert.OwnInIdeal.main_arg3)) →
    ∃ (v0 : (c : Dev Cert.OwnInIdeal.nD) → Buf (Elt Ideal) ((c.tc : Thread Cert.OwnInIdeal.nD Cert.OwnInIdeal.τ).loc Cert.OwnInIdeal.main_v0)),
      θ_run (Cert.OwnInIdeal.defs (F := Ideal)) (onTc (τ := Cert.OwnInIdeal.τ) (Cert.OwnInIdeal.main (F := Ideal))) ⟨m, fun _ => 0, g⟩ (fun r => ∀ c : Dev Cert.OwnInIdeal.nD,
          r.2.mem ((c.tc : Thread Cert.OwnInIdeal.nD Cert.OwnInIdeal.τ).loc Cert.OwnInIdeal.main_v0) = v0 c
          ∧ r.2.mem ((c.tc : Thread Cert.OwnInIdeal.nD Cert.OwnInIdeal.τ).loc Cert.OwnInIdeal.main_arg0) = m ((c.tc : Thread Cert.OwnInIdeal.nD Cert.OwnInIdeal.τ).loc Cert.OwnInIdeal.main_arg0)
          ∧ r.2.mem ((c.tc : Thread Cert.OwnInIdeal.nD Cert.OwnInIdeal.τ).loc Cert.OwnInIdeal.main_arg1) = m ((c.tc : Thread Cert.OwnInIdeal.nD Cert.OwnInIdeal.τ).loc Cert.OwnInIdeal.main_arg1)
          ∧ r.2.mem ((c.tc : Thread Cert.OwnInIdeal.nD Cert.OwnInIdeal.τ).loc Cert.OwnInIdeal.main_arg2) = m ((c.tc : Thread Cert.OwnInIdeal.nD Cert.OwnInIdeal.τ).loc Cert.OwnInIdeal.main_arg2)
          ∧ r.2.mem ((c.tc : Thread Cert.OwnInIdeal.nD Cert.OwnInIdeal.τ).loc Cert.OwnInIdeal.main_arg3) = m ((c.tc : Thread Cert.OwnInIdeal.nD Cert.OwnInIdeal.τ).loc Cert.OwnInIdeal.main_arg3))
      ∧ θ_run (Cert.OwnInRefIdeal.defs (F := Ideal)) (onTc (τ := Cert.OwnInRefIdeal.τ) (Cert.OwnInRefIdeal.main (F := Ideal))) ⟨m', fun _ => 0, g'⟩ (fun r => ∀ c : Dev Cert.OwnInRefIdeal.nD,
          r.2.mem ((c.tc : Thread Cert.OwnInRefIdeal.nD Cert.OwnInRefIdeal.τ).loc Cert.OwnInRefIdeal.main_v22) = v0 c
          ∧ r.2.mem ((c.tc : Thread Cert.OwnInRefIdeal.nD Cert.OwnInRefIdeal.τ).loc Cert.OwnInRefIdeal.main_arg0) = m' ((c.tc : Thread Cert.OwnInRefIdeal.nD Cert.OwnInRefIdeal.τ).loc Cert.OwnInRefIdeal.main_arg0)
          ∧ r.2.mem ((c.tc : Thread Cert.OwnInRefIdeal.nD Cert.OwnInRefIdeal.τ).loc Cert.OwnInRefIdeal.main_arg1) = m' ((c.tc : Thread Cert.OwnInRefIdeal.nD Cert.OwnInRefIdeal.τ).loc Cert.OwnInRefIdeal.main_arg1)
          ∧ r.2.mem ((c.tc : Thread Cert.OwnInRefIdeal.nD Cert.OwnInRefIdeal.τ).loc Cert.OwnInRefIdeal.main_arg2) = m' ((c.tc : Thread Cert.OwnInRefIdeal.nD Cert.OwnInRefIdeal.τ).loc Cert.OwnInRefIdeal.main_arg2)
          ∧ r.2.mem ((c.tc : Thread Cert.OwnInRefIdeal.nD Cert.OwnInRefIdeal.τ).loc Cert.OwnInRefIdeal.main_arg3) = m' ((c.tc : Thread Cert.OwnInRefIdeal.nD Cert.OwnInRefIdeal.τ).loc Cert.OwnInRefIdeal.main_arg3))

def preserves_OwnB_OwnBIdeal : Prop :=
  True

def algebraic_OwnBIdeal_OwnBRefIdeal [hOwnBIdeal : Cert.OwnBIdeal.Facts] [hOwnBRefIdeal : Cert.OwnBRefIdeal.Facts] [hPre_place_b : Cert.Pre_place_b.Facts] : Prop :=
  ∀ (m : (ℓ : Loc Cert.OwnBIdeal.nD Cert.OwnBIdeal.τ Cert.OwnBIdeal.sig) → Buf (Elt Ideal) ℓ) (g : Dev Cert.OwnBIdeal.nD → PrngReg)
    (m' : (ℓ : Loc Cert.OwnBRefIdeal.nD Cert.OwnBRefIdeal.τ Cert.OwnBRefIdeal.sig) → Buf (Elt Ideal) ℓ) (g' : Dev Cert.OwnBRefIdeal.nD → PrngReg), Pre_OwnBIdeal m →
    (∀ c : Dev Cert.OwnBIdeal.nD,
      m' ((c.tc : Thread Cert.OwnBRefIdeal.nD Cert.OwnBRefIdeal.τ).loc Cert.OwnBRefIdeal.main_arg0) = m ((c.tc : Thread Cert.OwnBIdeal.nD Cert.OwnBIdeal.τ).loc Cert.OwnBIdeal.main_arg0)
      ∧ m' ((c.tc : Thread Cert.OwnBRefIdeal.nD Cert.OwnBRefIdeal.τ).loc Cert.OwnBRefIdeal.main_arg1) = m ((c.tc : Thread Cert.OwnBIdeal.nD Cert.OwnBIdeal.τ).loc Cert.OwnBIdeal.main_arg1)
      ∧ m' ((c.tc : Thread Cert.OwnBRefIdeal.nD Cert.OwnBRefIdeal.τ).loc Cert.OwnBRefIdeal.main_arg2) = m ((c.tc : Thread Cert.OwnBIdeal.nD Cert.OwnBIdeal.τ).loc Cert.OwnBIdeal.main_arg2)
      ∧ m' ((c.tc : Thread Cert.OwnBRefIdeal.nD Cert.OwnBRefIdeal.τ).loc Cert.OwnBRefIdeal.main_arg3) = m ((c.tc : Thread Cert.OwnBIdeal.nD Cert.OwnBIdeal.τ).loc Cert.OwnBIdeal.main_arg3)) →
    ∃ (v0 : (c : Dev Cert.OwnBIdeal.nD) → Buf (Elt Ideal) ((c.tc : Thread Cert.OwnBIdeal.nD Cert.OwnBIdeal.τ).loc Cert.OwnBIdeal.main_v0)),
      θ_run (Cert.OwnBIdeal.defs (F := Ideal)) (onTc (τ := Cert.OwnBIdeal.τ) (Cert.OwnBIdeal.main (F := Ideal))) ⟨m, fun _ => 0, g⟩ (fun r => ∀ c : Dev Cert.OwnBIdeal.nD,
          r.2.mem ((c.tc : Thread Cert.OwnBIdeal.nD Cert.OwnBIdeal.τ).loc Cert.OwnBIdeal.main_v0) = v0 c
          ∧ r.2.mem ((c.tc : Thread Cert.OwnBIdeal.nD Cert.OwnBIdeal.τ).loc Cert.OwnBIdeal.main_arg0) = m ((c.tc : Thread Cert.OwnBIdeal.nD Cert.OwnBIdeal.τ).loc Cert.OwnBIdeal.main_arg0)
          ∧ r.2.mem ((c.tc : Thread Cert.OwnBIdeal.nD Cert.OwnBIdeal.τ).loc Cert.OwnBIdeal.main_arg1) = m ((c.tc : Thread Cert.OwnBIdeal.nD Cert.OwnBIdeal.τ).loc Cert.OwnBIdeal.main_arg1)
          ∧ r.2.mem ((c.tc : Thread Cert.OwnBIdeal.nD Cert.OwnBIdeal.τ).loc Cert.OwnBIdeal.main_arg2) = m ((c.tc : Thread Cert.OwnBIdeal.nD Cert.OwnBIdeal.τ).loc Cert.OwnBIdeal.main_arg2)
          ∧ r.2.mem ((c.tc : Thread Cert.OwnBIdeal.nD Cert.OwnBIdeal.τ).loc Cert.OwnBIdeal.main_arg3) = m ((c.tc : Thread Cert.OwnBIdeal.nD Cert.OwnBIdeal.τ).loc Cert.OwnBIdeal.main_arg3))
      ∧ θ_run (Cert.OwnBRefIdeal.defs (F := Ideal)) (onTc (τ := Cert.OwnBRefIdeal.τ) (Cert.OwnBRefIdeal.main (F := Ideal))) ⟨m', fun _ => 0, g'⟩ (fun r => ∀ c : Dev Cert.OwnBRefIdeal.nD,
          r.2.mem ((c.tc : Thread Cert.OwnBRefIdeal.nD Cert.OwnBRefIdeal.τ).loc Cert.OwnBRefIdeal.main_v22) = v0 c
          ∧ r.2.mem ((c.tc : Thread Cert.OwnBRefIdeal.nD Cert.OwnBRefIdeal.τ).loc Cert.OwnBRefIdeal.main_arg0) = m' ((c.tc : Thread Cert.OwnBRefIdeal.nD Cert.OwnBRefIdeal.τ).loc Cert.OwnBRefIdeal.main_arg0)
          ∧ r.2.mem ((c.tc : Thread Cert.OwnBRefIdeal.nD Cert.OwnBRefIdeal.τ).loc Cert.OwnBRefIdeal.main_arg1) = m' ((c.tc : Thread Cert.OwnBRefIdeal.nD Cert.OwnBRefIdeal.τ).loc Cert.OwnBRefIdeal.main_arg1)
          ∧ r.2.mem ((c.tc : Thread Cert.OwnBRefIdeal.nD Cert.OwnBRefIdeal.τ).loc Cert.OwnBRefIdeal.main_arg2) = m' ((c.tc : Thread Cert.OwnBRefIdeal.nD Cert.OwnBRefIdeal.τ).loc Cert.OwnBRefIdeal.main_arg2)
          ∧ r.2.mem ((c.tc : Thread Cert.OwnBRefIdeal.nD Cert.OwnBRefIdeal.τ).loc Cert.OwnBRefIdeal.main_arg3) = m' ((c.tc : Thread Cert.OwnBRefIdeal.nD Cert.OwnBRefIdeal.τ).loc Cert.OwnBRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v24) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)
      ∧ m' ((c.tc : Thread Cert.DtRefIdeal.nD Cert.DtRefIdeal.τ).loc Cert.DtRefIdeal.main_arg2) = m ((c.tc : Thread Cert.DtIdeal.nD Cert.DtIdeal.τ).loc Cert.DtIdeal.main_arg2)) →
    ∃ (v0 : (c : Dev Cert.DtIdeal.nD) → Buf (Elt Ideal) ((c.tc : Thread Cert.DtIdeal.nD Cert.DtIdeal.τ).loc Cert.DtIdeal.main_v0_0)) (v1 : (c : Dev Cert.DtIdeal.nD) → Buf (Elt Ideal) ((c.tc : Thread Cert.DtIdeal.nD Cert.DtIdeal.τ).loc Cert.DtIdeal.main_v0_1)) (v2 : (c : Dev Cert.DtIdeal.nD) → Buf (Elt Ideal) ((c.tc : Thread Cert.DtIdeal.nD Cert.DtIdeal.τ).loc Cert.DtIdeal.main_v0_2)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v0_0) = v0 c
          ∧ r.2.mem ((c.tc : Thread Cert.DtIdeal.nD Cert.DtIdeal.τ).loc Cert.DtIdeal.main_v0_1) = v1 c
          ∧ r.2.mem ((c.tc : Thread Cert.DtIdeal.nD Cert.DtIdeal.τ).loc Cert.DtIdeal.main_v0_2) = v2 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1)
          ∧ r.2.mem ((c.tc : Thread Cert.DtIdeal.nD Cert.DtIdeal.τ).loc Cert.DtIdeal.main_arg2) = m ((c.tc : Thread Cert.DtIdeal.nD Cert.DtIdeal.τ).loc Cert.DtIdeal.main_arg2))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v2) = v0 c
          ∧ r.2.mem ((c.tc : Thread Cert.DtRefIdeal.nD Cert.DtRefIdeal.τ).loc Cert.DtRefIdeal.main_v15) = v1 c
          ∧ r.2.mem ((c.tc : Thread Cert.DtRefIdeal.nD Cert.DtRefIdeal.τ).loc Cert.DtRefIdeal.main_v18) = v2 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1)
          ∧ r.2.mem ((c.tc : Thread Cert.DtRefIdeal.nD Cert.DtRefIdeal.τ).loc Cert.DtRefIdeal.main_arg2) = m' ((c.tc : Thread Cert.DtRefIdeal.nD Cert.DtRefIdeal.τ).loc Cert.DtRefIdeal.main_arg2))

def preserves_ConvB_ConvBIdeal : Prop :=
  True

def algebraic_ConvBIdeal_ConvBRefIdeal [hConvBIdeal : Cert.ConvBIdeal.Facts] [hConvBRefIdeal : Cert.ConvBRefIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBRefIdeal.nD Cert.ConvBRefIdeal.τ Cert.ConvBRefIdeal.sig) → Buf (Elt Ideal) ℓ) (g' : Dev Cert.ConvBRefIdeal.nD → PrngReg), Pre_ConvBIdeal m →
    (∀ c : Dev Cert.ConvBIdeal.nD,
      m' ((c.tc : Thread Cert.ConvBRefIdeal.nD Cert.ConvBRefIdeal.τ).loc Cert.ConvBRefIdeal.main_arg0) = m ((c.tc : Thread Cert.ConvBIdeal.nD Cert.ConvBIdeal.τ).loc Cert.ConvBIdeal.main_arg0)
      ∧ m' ((c.tc : Thread Cert.ConvBRefIdeal.nD Cert.ConvBRefIdeal.τ).loc Cert.ConvBRefIdeal.main_arg1) = m ((c.tc : Thread Cert.ConvBIdeal.nD Cert.ConvBIdeal.τ).loc Cert.ConvBIdeal.main_arg1)
      ∧ m' ((c.tc : Thread Cert.ConvBRefIdeal.nD Cert.ConvBRefIdeal.τ).loc Cert.ConvBRefIdeal.main_arg2) = m ((c.tc : Thread Cert.ConvBIdeal.nD Cert.ConvBIdeal.τ).loc Cert.ConvBIdeal.main_arg2)) →
    ∃ (v0 : (c : Dev Cert.ConvBIdeal.nD) → Buf (Elt Ideal) ((c.tc : Thread Cert.ConvBIdeal.nD Cert.ConvBIdeal.τ).loc Cert.ConvBIdeal.main_v0_0)) (v1 : (c : Dev Cert.ConvBIdeal.nD) → Buf (Elt Ideal) ((c.tc : Thread Cert.ConvBIdeal.nD Cert.ConvBIdeal.τ).loc Cert.ConvBIdeal.main_v0_1)) (v2 : (c : Dev Cert.ConvBIdeal.nD) → Buf (Elt Ideal) ((c.tc : Thread Cert.ConvBIdeal.nD Cert.ConvBIdeal.τ).loc Cert.ConvBIdeal.main_v0_2)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v0_0) = v0 c
          ∧ r.2.mem ((c.tc : Thread Cert.ConvBIdeal.nD Cert.ConvBIdeal.τ).loc Cert.ConvBIdeal.main_v0_1) = v1 c
          ∧ r.2.mem ((c.tc : Thread Cert.ConvBIdeal.nD Cert.ConvBIdeal.τ).loc Cert.ConvBIdeal.main_v0_2) = v2 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ θ_run (Cert.ConvBRefIdeal.defs (F := Ideal)) (onTc (τ := Cert.ConvBRefIdeal.τ) (Cert.ConvBRefIdeal.main (F := Ideal))) ⟨m', fun _ => 0, g'⟩ (fun r => ∀ c : Dev Cert.ConvBRefIdeal.nD,
          r.2.mem ((c.tc : Thread Cert.ConvBRefIdeal.nD Cert.ConvBRefIdeal.τ).loc Cert.ConvBRefIdeal.main_v41) = v0 c
          ∧ r.2.mem ((c.tc : Thread Cert.ConvBRefIdeal.nD Cert.ConvBRefIdeal.τ).loc Cert.ConvBRefIdeal.main_v40) = v1 c
          ∧ r.2.mem ((c.tc : Thread Cert.ConvBRefIdeal.nD Cert.ConvBRefIdeal.τ).loc Cert.ConvBRefIdeal.main_v43) = v2 c
          ∧ r.2.mem ((c.tc : Thread Cert.ConvBRefIdeal.nD Cert.ConvBRefIdeal.τ).loc Cert.ConvBRefIdeal.main_arg0) = m' ((c.tc : Thread Cert.ConvBRefIdeal.nD Cert.ConvBRefIdeal.τ).loc Cert.ConvBRefIdeal.main_arg0)
          ∧ r.2.mem ((c.tc : Thread Cert.ConvBRefIdeal.nD Cert.ConvBRefIdeal.τ).loc Cert.ConvBRefIdeal.main_arg1) = m' ((c.tc : Thread Cert.ConvBRefIdeal.nD Cert.ConvBRefIdeal.τ).loc Cert.ConvBRefIdeal.main_arg1)
          ∧ r.2.mem ((c.tc : Thread Cert.ConvBRefIdeal.nD Cert.ConvBRefIdeal.τ).loc Cert.ConvBRefIdeal.main_arg2) = m' ((c.tc : Thread Cert.ConvBRefIdeal.nD Cert.ConvBRefIdeal.τ).loc Cert.ConvBRefIdeal.main_arg2))

def preserves_BranchRet_BranchRetIdeal : Prop :=
  True

def algebraic_BranchRetIdeal_BranchRetRefIdeal [hBranchRetIdeal : Cert.BranchRetIdeal.Facts] [hBranchRetRefIdeal : Cert.BranchRetRefIdeal.Facts] : Prop :=
  ∀ (m : (ℓ : Loc Cert.BranchRetIdeal.nD Cert.BranchRetIdeal.τ Cert.BranchRetIdeal.sig) → Buf (Elt Ideal) ℓ) (g : Dev Cert.BranchRetIdeal.nD → PrngReg)
    (m' : (ℓ : Loc Cert.BranchRetRefIdeal.nD Cert.BranchRetRefIdeal.τ Cert.BranchRetRefIdeal.sig) → Buf (Elt Ideal) ℓ) (g' : Dev Cert.BranchRetRefIdeal.nD → PrngReg), Pre_BranchRetIdeal m →
    (∀ c : Dev Cert.BranchRetIdeal.nD,
      m' ((c.tc : Thread Cert.BranchRetRefIdeal.nD Cert.BranchRetRefIdeal.τ).loc Cert.BranchRetRefIdeal.main_arg0) = m ((c.tc : Thread Cert.BranchRetIdeal.nD Cert.BranchRetIdeal.τ).loc Cert.BranchRetIdeal.main_arg0)
      ∧ m' ((c.tc : Thread Cert.BranchRetRefIdeal.nD Cert.BranchRetRefIdeal.τ).loc Cert.BranchRetRefIdeal.main_arg1) = m ((c.tc : Thread Cert.BranchRetIdeal.nD Cert.BranchRetIdeal.τ).loc Cert.BranchRetIdeal.main_arg1)) →
    ∃ (v0 : (c : Dev Cert.BranchRetIdeal.nD) → Buf (Elt Ideal) ((c.tc : Thread Cert.BranchRetIdeal.nD Cert.BranchRetIdeal.τ).loc Cert.BranchRetIdeal.main_v0)),
      θ_run (Cert.BranchRetIdeal.defs (F := Ideal)) (onTc (τ := Cert.BranchRetIdeal.τ) (Cert.BranchRetIdeal.main (F := Ideal))) ⟨m, fun _ => 0, g⟩ (fun r => ∀ c : Dev Cert.BranchRetIdeal.nD,
          r.2.mem ((c.tc : Thread Cert.BranchRetIdeal.nD Cert.BranchRetIdeal.τ).loc Cert.BranchRetIdeal.main_v0) = v0 c
          ∧ r.2.mem ((c.tc : Thread Cert.BranchRetIdeal.nD Cert.BranchRetIdeal.τ).loc Cert.BranchRetIdeal.main_arg0) = m ((c.tc : Thread Cert.BranchRetIdeal.nD Cert.BranchRetIdeal.τ).loc Cert.BranchRetIdeal.main_arg0)
          ∧ r.2.mem ((c.tc : Thread Cert.BranchRetIdeal.nD Cert.BranchRetIdeal.τ).loc Cert.BranchRetIdeal.main_arg1) = m ((c.tc : Thread Cert.BranchRetIdeal.nD Cert.BranchRetIdeal.τ).loc Cert.BranchRetIdeal.main_arg1))
      ∧ θ_run (Cert.BranchRetRefIdeal.defs (F := Ideal)) (onTc (τ := Cert.BranchRetRefIdeal.τ) (Cert.BranchRetRefIdeal.main (F := Ideal))) ⟨m', fun _ => 0, g'⟩ (fun r => ∀ c : Dev Cert.BranchRetRefIdeal.nD,
          r.2.mem ((c.tc : Thread Cert.BranchRetRefIdeal.nD Cert.BranchRetRefIdeal.τ).loc Cert.BranchRetRefIdeal.main_v0) = v0 c
          ∧ r.2.mem ((c.tc : Thread Cert.BranchRetRefIdeal.nD Cert.BranchRetRefIdeal.τ).loc Cert.BranchRetRefIdeal.main_arg0) = m' ((c.tc : Thread Cert.BranchRetRefIdeal.nD Cert.BranchRetRefIdeal.τ).loc Cert.BranchRetRefIdeal.main_arg0)
          ∧ r.2.mem ((c.tc : Thread Cert.BranchRetRefIdeal.nD Cert.BranchRetRefIdeal.τ).loc Cert.BranchRetRefIdeal.main_arg1) = m' ((c.tc : Thread Cert.BranchRetRefIdeal.nD Cert.BranchRetRefIdeal.τ).loc Cert.BranchRetRefIdeal.main_arg1))

def preserves_ProjDt_ProjDtIdeal : Prop :=
  True

def algebraic_ProjDtIdeal_ProjDtRefIdeal [hProjDtIdeal : Cert.ProjDtIdeal.Facts] [hProjDtRefIdeal : Cert.ProjDtRefIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtRefIdeal.nD Cert.ProjDtRefIdeal.τ Cert.ProjDtRefIdeal.sig) → Buf (Elt Ideal) ℓ) (g' : Dev Cert.ProjDtRefIdeal.nD → PrngReg), Pre_ProjDtIdeal m →
    (∀ c : Dev Cert.ProjDtIdeal.nD,
      m' ((c.tc : Thread Cert.ProjDtRefIdeal.nD Cert.ProjDtRefIdeal.τ).loc Cert.ProjDtRefIdeal.main_arg0) = m ((c.tc : Thread Cert.ProjDtIdeal.nD Cert.ProjDtIdeal.τ).loc Cert.ProjDtIdeal.main_arg0)
      ∧ m' ((c.tc : Thread Cert.ProjDtRefIdeal.nD Cert.ProjDtRefIdeal.τ).loc Cert.ProjDtRefIdeal.main_arg1) = m ((c.tc : Thread Cert.ProjDtIdeal.nD Cert.ProjDtIdeal.τ).loc Cert.ProjDtIdeal.main_arg1)) →
    ∃ (v0 : (c : Dev Cert.ProjDtIdeal.nD) → Buf (Elt Ideal) ((c.tc : Thread Cert.ProjDtIdeal.nD Cert.ProjDtIdeal.τ).loc Cert.ProjDtIdeal.main_v0)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v0) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ θ_run (Cert.ProjDtRefIdeal.defs (F := Ideal)) (onTc (τ := Cert.ProjDtRefIdeal.τ) (Cert.ProjDtRefIdeal.main (F := Ideal))) ⟨m', fun _ => 0, g'⟩ (fun r => ∀ c : Dev Cert.ProjDtRefIdeal.nD,
          r.2.mem ((c.tc : Thread Cert.ProjDtRefIdeal.nD Cert.ProjDtRefIdeal.τ).loc Cert.ProjDtRefIdeal.main_v0) = v0 c
          ∧ r.2.mem ((c.tc : Thread Cert.ProjDtRefIdeal.nD Cert.ProjDtRefIdeal.τ).loc Cert.ProjDtRefIdeal.main_arg0) = m' ((c.tc : Thread Cert.ProjDtRefIdeal.nD Cert.ProjDtRefIdeal.τ).loc Cert.ProjDtRefIdeal.main_arg0)
          ∧ r.2.mem ((c.tc : Thread Cert.ProjDtRefIdeal.nD Cert.ProjDtRefIdeal.τ).loc Cert.ProjDtRefIdeal.main_arg1) = m' ((c.tc : Thread Cert.ProjDtRefIdeal.nD Cert.ProjDtRefIdeal.τ).loc Cert.ProjDtRefIdeal.main_arg1))

def preserves_DYs_DYsIdeal : Prop :=
  True

def algebraic_DYsIdeal_DYsRefIdeal [hDYsIdeal : Cert.DYsIdeal.Facts] [hDYsRefIdeal : Cert.DYsRefIdeal.Facts] : Prop :=
  ∀ (m : (ℓ : Loc Cert.DYsIdeal.nD Cert.DYsIdeal.τ Cert.DYsIdeal.sig) → Buf (Elt Ideal) ℓ) (g : Dev Cert.DYsIdeal.nD → PrngReg)
    (m' : (ℓ : Loc Cert.DYsRefIdeal.nD Cert.DYsRefIdeal.τ Cert.DYsRefIdeal.sig) → Buf (Elt Ideal) ℓ) (g' : Dev Cert.DYsRefIdeal.nD → PrngReg), Pre_DYsIdeal m →
    (∀ c : Dev Cert.DYsIdeal.nD,
      m' ((c.tc : Thread Cert.DYsRefIdeal.nD Cert.DYsRefIdeal.τ).loc Cert.DYsRefIdeal.main_arg0) = m ((c.tc : Thread Cert.DYsIdeal.nD Cert.DYsIdeal.τ).loc Cert.DYsIdeal.main_arg0)
      ∧ m' ((c.tc : Thread Cert.DYsRefIdeal.nD Cert.DYsRefIdeal.τ).loc Cert.DYsRefIdeal.main_arg1) = m ((c.tc : Thread Cert.DYsIdeal.nD Cert.DYsIdeal.τ).loc Cert.DYsIdeal.main_arg1)) →
    ∃ (v0 : (c : Dev Cert.DYsIdeal.nD) → Buf (Elt Ideal) ((c.tc : Thread Cert.DYsIdeal.nD Cert.DYsIdeal.τ).loc Cert.DYsIdeal.main_v0)),
      θ_run (Cert.DYsIdeal.defs (F := Ideal)) (onTc (τ := Cert.DYsIdeal.τ) (Cert.DYsIdeal.main (F := Ideal))) ⟨m, fun _ => 0, g⟩ (fun r => ∀ c : Dev Cert.DYsIdeal.nD,
          r.2.mem ((c.tc : Thread Cert.DYsIdeal.nD Cert.DYsIdeal.τ).loc Cert.DYsIdeal.main_v0) = v0 c
          ∧ r.2.mem ((c.tc : Thread Cert.DYsIdeal.nD Cert.DYsIdeal.τ).loc Cert.DYsIdeal.main_arg0) = m ((c.tc : Thread Cert.DYsIdeal.nD Cert.DYsIdeal.τ).loc Cert.DYsIdeal.main_arg0)
          ∧ r.2.mem ((c.tc : Thread Cert.DYsIdeal.nD Cert.DYsIdeal.τ).loc Cert.DYsIdeal.main_arg1) = m ((c.tc : Thread Cert.DYsIdeal.nD Cert.DYsIdeal.τ).loc Cert.DYsIdeal.main_arg1))
      ∧ θ_run (Cert.DYsRefIdeal.defs (F := Ideal)) (onTc (τ := Cert.DYsRefIdeal.τ) (Cert.DYsRefIdeal.main (F := Ideal))) ⟨m', fun _ => 0, g'⟩ (fun r => ∀ c : Dev Cert.DYsRefIdeal.nD,
          r.2.mem ((c.tc : Thread Cert.DYsRefIdeal.nD Cert.DYsRefIdeal.τ).loc Cert.DYsRefIdeal.main_v0) = v0 c
          ∧ r.2.mem ((c.tc : Thread Cert.DYsRefIdeal.nD Cert.DYsRefIdeal.τ).loc Cert.DYsRefIdeal.main_arg0) = m' ((c.tc : Thread Cert.DYsRefIdeal.nD Cert.DYsRefIdeal.τ).loc Cert.DYsRefIdeal.main_arg0)
          ∧ r.2.mem ((c.tc : Thread Cert.DYsRefIdeal.nD Cert.DYsRefIdeal.τ).loc Cert.DYsRefIdeal.main_arg1) = m' ((c.tc : Thread Cert.DYsRefIdeal.nD Cert.DYsRefIdeal.τ).loc Cert.DYsRefIdeal.main_arg1))

def preserves_GRet_GRetIdeal : Prop :=
  True

def algebraic_GRetIdeal_GRetRefIdeal [hGRetIdeal : Cert.GRetIdeal.Facts] [hGRetRefIdeal : Cert.GRetRefIdeal.Facts] : Prop :=
  ∀ (m : (ℓ : Loc Cert.GRetIdeal.nD Cert.GRetIdeal.τ Cert.GRetIdeal.sig) → Buf (Elt Ideal) ℓ) (g : Dev Cert.GRetIdeal.nD → PrngReg)
    (m' : (ℓ : Loc Cert.GRetRefIdeal.nD Cert.GRetRefIdeal.τ Cert.GRetRefIdeal.sig) → Buf (Elt Ideal) ℓ) (g' : Dev Cert.GRetRefIdeal.nD → PrngReg), Pre_GRetIdeal m →
    (∀ c : Dev Cert.GRetIdeal.nD,
      m' ((c.tc : Thread Cert.GRetRefIdeal.nD Cert.GRetRefIdeal.τ).loc Cert.GRetRefIdeal.main_arg0) = m ((c.tc : Thread Cert.GRetIdeal.nD Cert.GRetIdeal.τ).loc Cert.GRetIdeal.main_arg0)
      ∧ m' ((c.tc : Thread Cert.GRetRefIdeal.nD Cert.GRetRefIdeal.τ).loc Cert.GRetRefIdeal.main_arg1) = m ((c.tc : Thread Cert.GRetIdeal.nD Cert.GRetIdeal.τ).loc Cert.GRetIdeal.main_arg1)) →
    ∃ (v0 : (c : Dev Cert.GRetIdeal.nD) → Buf (Elt Ideal) ((c.tc : Thread Cert.GRetIdeal.nD Cert.GRetIdeal.τ).loc Cert.GRetIdeal.main_v0)),
      θ_run (Cert.GRetIdeal.defs (F := Ideal)) (onTc (τ := Cert.GRetIdeal.τ) (Cert.GRetIdeal.main (F := Ideal))) ⟨m, fun _ => 0, g⟩ (fun r => ∀ c : Dev Cert.GRetIdeal.nD,
          r.2.mem ((c.tc : Thread Cert.GRetIdeal.nD Cert.GRetIdeal.τ).loc Cert.GRetIdeal.main_v0) = v0 c
          ∧ r.2.mem ((c.tc : Thread Cert.GRetIdeal.nD Cert.GRetIdeal.τ).loc Cert.GRetIdeal.main_arg0) = m ((c.tc : Thread Cert.GRetIdeal.nD Cert.GRetIdeal.τ).loc Cert.GRetIdeal.main_arg0)
          ∧ r.2.mem ((c.tc : Thread Cert.GRetIdeal.nD Cert.GRetIdeal.τ).loc Cert.GRetIdeal.main_arg1) = m ((c.tc : Thread Cert.GRetIdeal.nD Cert.GRetIdeal.τ).loc Cert.GRetIdeal.main_arg1))
      ∧ θ_run (Cert.GRetRefIdeal.defs (F := Ideal)) (onTc (τ := Cert.GRetRefIdeal.τ) (Cert.GRetRefIdeal.main (F := Ideal))) ⟨m', fun _ => 0, g'⟩ (fun r => ∀ c : Dev Cert.GRetRefIdeal.nD,
          r.2.mem ((c.tc : Thread Cert.GRetRefIdeal.nD Cert.GRetRefIdeal.τ).loc Cert.GRetRefIdeal.main_v0) = v0 c
          ∧ r.2.mem ((c.tc : Thread Cert.GRetRefIdeal.nD Cert.GRetRefIdeal.τ).loc Cert.GRetRefIdeal.main_arg0) = m' ((c.tc : Thread Cert.GRetRefIdeal.nD Cert.GRetRefIdeal.τ).loc Cert.GRetRefIdeal.main_arg0)
          ∧ r.2.mem ((c.tc : Thread Cert.GRetRefIdeal.nD Cert.GRetRefIdeal.τ).loc Cert.GRetRefIdeal.main_arg1) = m' ((c.tc : Thread Cert.GRetRefIdeal.nD Cert.GRetRefIdeal.τ).loc Cert.GRetRefIdeal.main_arg1))

def preserves_GSsd_GSsdIdeal : Prop :=
  True

def algebraic_GSsdIdeal_GSsdRefIdeal [hGSsdIdeal : Cert.GSsdIdeal.Facts] [hGSsdRefIdeal : Cert.GSsdRefIdeal.Facts] : Prop :=
  ∀ (m : (ℓ : Loc Cert.GSsdIdeal.nD Cert.GSsdIdeal.τ Cert.GSsdIdeal.sig) → Buf (Elt Ideal) ℓ) (g : Dev Cert.GSsdIdeal.nD → PrngReg)
    (m' : (ℓ : Loc Cert.GSsdRefIdeal.nD Cert.GSsdRefIdeal.τ Cert.GSsdRefIdeal.sig) → Buf (Elt Ideal) ℓ) (g' : Dev Cert.GSsdRefIdeal.nD → PrngReg), Pre_GSsdIdeal m →
    (∀ c : Dev Cert.GSsdIdeal.nD,
      m' ((c.tc : Thread Cert.GSsdRefIdeal.nD Cert.GSsdRefIdeal.τ).loc Cert.GSsdRefIdeal.main_arg0) = m ((c.tc : Thread Cert.GSsdIdeal.nD Cert.GSsdIdeal.τ).loc Cert.GSsdIdeal.main_arg0)
      ∧ m' ((c.tc : Thread Cert.GSsdRefIdeal.nD Cert.GSsdRefIdeal.τ).loc Cert.GSsdRefIdeal.main_arg1) = m ((c.tc : Thread Cert.GSsdIdeal.nD Cert.GSsdIdeal.τ).loc Cert.GSsdIdeal.main_arg1)) →
    ∃ (v0 : (c : Dev Cert.GSsdIdeal.nD) → Buf (Elt Ideal) ((c.tc : Thread Cert.GSsdIdeal.nD Cert.GSsdIdeal.τ).loc Cert.GSsdIdeal.main_v0)),
      θ_run (Cert.GSsdIdeal.defs (F := Ideal)) (onTc (τ := Cert.GSsdIdeal.τ) (Cert.GSsdIdeal.main (F := Ideal))) ⟨m, fun _ => 0, g⟩ (fun r => ∀ c : Dev Cert.GSsdIdeal.nD,
          r.2.mem ((c.tc : Thread Cert.GSsdIdeal.nD Cert.GSsdIdeal.τ).loc Cert.GSsdIdeal.main_v0) = v0 c
          ∧ r.2.mem ((c.tc : Thread Cert.GSsdIdeal.nD Cert.GSsdIdeal.τ).loc Cert.GSsdIdeal.main_arg0) = m ((c.tc : Thread Cert.GSsdIdeal.nD Cert.GSsdIdeal.τ).loc Cert.GSsdIdeal.main_arg0)
          ∧ r.2.mem ((c.tc : Thread Cert.GSsdIdeal.nD Cert.GSsdIdeal.τ).loc Cert.GSsdIdeal.main_arg1) = m ((c.tc : Thread Cert.GSsdIdeal.nD Cert.GSsdIdeal.τ).loc Cert.GSsdIdeal.main_arg1))
      ∧ θ_run (Cert.GSsdRefIdeal.defs (F := Ideal)) (onTc (τ := Cert.GSsdRefIdeal.τ) (Cert.GSsdRefIdeal.main (F := Ideal))) ⟨m', fun _ => 0, g'⟩ (fun r => ∀ c : Dev Cert.GSsdRefIdeal.nD,
          r.2.mem ((c.tc : Thread Cert.GSsdRefIdeal.nD Cert.GSsdRefIdeal.τ).loc Cert.GSsdRefIdeal.main_v0) = v0 c
          ∧ r.2.mem ((c.tc : Thread Cert.GSsdRefIdeal.nD Cert.GSsdRefIdeal.τ).loc Cert.GSsdRefIdeal.main_arg0) = m' ((c.tc : Thread Cert.GSsdRefIdeal.nD Cert.GSsdRefIdeal.τ).loc Cert.GSsdRefIdeal.main_arg0)
          ∧ r.2.mem ((c.tc : Thread Cert.GSsdRefIdeal.nD Cert.GSsdRefIdeal.τ).loc Cert.GSsdRefIdeal.main_arg1) = m' ((c.tc : Thread Cert.GSsdRefIdeal.nD Cert.GSsdRefIdeal.τ).loc Cert.GSsdRefIdeal.main_arg1))

def preserves_GIn_GInIdeal : Prop :=
  True

def algebraic_GInIdeal_GInRefIdeal [hGInIdeal : Cert.GInIdeal.Facts] [hGInRefIdeal : Cert.GInRefIdeal.Facts] : Prop :=
  ∀ (m : (ℓ : Loc Cert.GInIdeal.nD Cert.GInIdeal.τ Cert.GInIdeal.sig) → Buf (Elt Ideal) ℓ) (g : Dev Cert.GInIdeal.nD → PrngReg)
    (m' : (ℓ : Loc Cert.GInRefIdeal.nD Cert.GInRefIdeal.τ Cert.GInRefIdeal.sig) → Buf (Elt Ideal) ℓ) (g' : Dev Cert.GInRefIdeal.nD → PrngReg), Pre_GInIdeal m →
    (∀ c : Dev Cert.GInIdeal.nD,
      m' ((c.tc : Thread Cert.GInRefIdeal.nD Cert.GInRefIdeal.τ).loc Cert.GInRefIdeal.main_arg0) = m ((c.tc : Thread Cert.GInIdeal.nD Cert.GInIdeal.τ).loc Cert.GInIdeal.main_arg0)
      ∧ m' ((c.tc : Thread Cert.GInRefIdeal.nD Cert.GInRefIdeal.τ).loc Cert.GInRefIdeal.main_arg1) = m ((c.tc : Thread Cert.GInIdeal.nD Cert.GInIdeal.τ).loc Cert.GInIdeal.main_arg1)) →
    ∃ (v0 : (c : Dev Cert.GInIdeal.nD) → Buf (Elt Ideal) ((c.tc : Thread Cert.GInIdeal.nD Cert.GInIdeal.τ).loc Cert.GInIdeal.main_v0)),
      θ_run (Cert.GInIdeal.defs (F := Ideal)) (onTc (τ := Cert.GInIdeal.τ) (Cert.GInIdeal.main (F := Ideal))) ⟨m, fun _ => 0, g⟩ (fun r => ∀ c : Dev Cert.GInIdeal.nD,
          r.2.mem ((c.tc : Thread Cert.GInIdeal.nD Cert.GInIdeal.τ).loc Cert.GInIdeal.main_v0) = v0 c
          ∧ r.2.mem ((c.tc : Thread Cert.GInIdeal.nD Cert.GInIdeal.τ).loc Cert.GInIdeal.main_arg0) = m ((c.tc : Thread Cert.GInIdeal.nD Cert.GInIdeal.τ).loc Cert.GInIdeal.main_arg0)
          ∧ r.2.mem ((c.tc : Thread Cert.GInIdeal.nD Cert.GInIdeal.τ).loc Cert.GInIdeal.main_arg1) = m ((c.tc : Thread Cert.GInIdeal.nD Cert.GInIdeal.τ).loc Cert.GInIdeal.main_arg1))
      ∧ θ_run (Cert.GInRefIdeal.defs (F := Ideal)) (onTc (τ := Cert.GInRefIdeal.τ) (Cert.GInRefIdeal.main (F := Ideal))) ⟨m', fun _ => 0, g'⟩ (fun r => ∀ c : Dev Cert.GInRefIdeal.nD,
          r.2.mem ((c.tc : Thread Cert.GInRefIdeal.nD Cert.GInRefIdeal.τ).loc Cert.GInRefIdeal.main_v0) = v0 c
          ∧ r.2.mem ((c.tc : Thread Cert.GInRefIdeal.nD Cert.GInRefIdeal.τ).loc Cert.GInRefIdeal.main_arg0) = m' ((c.tc : Thread Cert.GInRefIdeal.nD Cert.GInRefIdeal.τ).loc Cert.GInRefIdeal.main_arg0)
          ∧ r.2.mem ((c.tc : Thread Cert.GInRefIdeal.nD Cert.GInRefIdeal.τ).loc Cert.GInRefIdeal.main_arg1) = m' ((c.tc : Thread Cert.GInRefIdeal.nD Cert.GInRefIdeal.τ).loc Cert.GInRefIdeal.main_arg1))

def preserves_GInB_GInBIdeal : Prop :=
  True

def algebraic_GInBIdeal_GInBRefIdeal [hGInBIdeal : Cert.GInBIdeal.Facts] [hGInBRefIdeal : Cert.GInBRefIdeal.Facts] : Prop :=
  ∀ (m : (ℓ : Loc Cert.GInBIdeal.nD Cert.GInBIdeal.τ Cert.GInBIdeal.sig) → Buf (Elt Ideal) ℓ) (g : Dev Cert.GInBIdeal.nD → PrngReg)
    (m' : (ℓ : Loc Cert.GInBRefIdeal.nD Cert.GInBRefIdeal.τ Cert.GInBRefIdeal.sig) → Buf (Elt Ideal) ℓ) (g' : Dev Cert.GInBRefIdeal.nD → PrngReg), Pre_GInBIdeal m →
    (∀ c : Dev Cert.GInBIdeal.nD,
      m' ((c.tc : Thread Cert.GInBRefIdeal.nD Cert.GInBRefIdeal.τ).loc Cert.GInBRefIdeal.main_arg0) = m ((c.tc : Thread Cert.GInBIdeal.nD Cert.GInBIdeal.τ).loc Cert.GInBIdeal.main_arg0)
      ∧ m' ((c.tc : Thread Cert.GInBRefIdeal.nD Cert.GInBRefIdeal.τ).loc Cert.GInBRefIdeal.main_arg1) = m ((c.tc : Thread Cert.GInBIdeal.nD Cert.GInBIdeal.τ).loc Cert.GInBIdeal.main_arg1)) →
    ∃ (v0 : (c : Dev Cert.GInBIdeal.nD) → Buf (Elt Ideal) ((c.tc : Thread Cert.GInBIdeal.nD Cert.GInBIdeal.τ).loc Cert.GInBIdeal.main_v0)),
      θ_run (Cert.GInBIdeal.defs (F := Ideal)) (onTc (τ := Cert.GInBIdeal.τ) (Cert.GInBIdeal.main (F := Ideal))) ⟨m, fun _ => 0, g⟩ (fun r => ∀ c : Dev Cert.GInBIdeal.nD,
          r.2.mem ((c.tc : Thread Cert.GInBIdeal.nD Cert.GInBIdeal.τ).loc Cert.GInBIdeal.main_v0) = v0 c
          ∧ r.2.mem ((c.tc : Thread Cert.GInBIdeal.nD Cert.GInBIdeal.τ).loc Cert.GInBIdeal.main_arg0) = m ((c.tc : Thread Cert.GInBIdeal.nD Cert.GInBIdeal.τ).loc Cert.GInBIdeal.main_arg0)
          ∧ r.2.mem ((c.tc : Thread Cert.GInBIdeal.nD Cert.GInBIdeal.τ).loc Cert.GInBIdeal.main_arg1) = m ((c.tc : Thread Cert.GInBIdeal.nD Cert.GInBIdeal.τ).loc Cert.GInBIdeal.main_arg1))
      ∧ θ_run (Cert.GInBRefIdeal.defs (F := Ideal)) (onTc (τ := Cert.GInBRefIdeal.τ) (Cert.GInBRefIdeal.main (F := Ideal))) ⟨m', fun _ => 0, g'⟩ (fun r => ∀ c : Dev Cert.GInBRefIdeal.nD,
          r.2.mem ((c.tc : Thread Cert.GInBRefIdeal.nD Cert.GInBRefIdeal.τ).loc Cert.GInBRefIdeal.main_v0) = v0 c
          ∧ r.2.mem ((c.tc : Thread Cert.GInBRefIdeal.nD Cert.GInBRefIdeal.τ).loc Cert.GInBRefIdeal.main_arg0) = m' ((c.tc : Thread Cert.GInBRefIdeal.nD Cert.GInBRefIdeal.τ).loc Cert.GInBRefIdeal.main_arg0)
          ∧ r.2.mem ((c.tc : Thread Cert.GInBRefIdeal.nD Cert.GInBRefIdeal.τ).loc Cert.GInBRefIdeal.main_arg1) = m' ((c.tc : Thread Cert.GInBRefIdeal.nD Cert.GInBRefIdeal.τ).loc Cert.GInBRefIdeal.main_arg1))

def preserves_GInDt_GInDtIdeal : Prop :=
  True

def algebraic_GInDtIdeal_GInDtRefIdeal [hGInDtIdeal : Cert.GInDtIdeal.Facts] [hGInDtRefIdeal : Cert.GInDtRefIdeal.Facts] : Prop :=
  ∀ (m : (ℓ : Loc Cert.GInDtIdeal.nD Cert.GInDtIdeal.τ Cert.GInDtIdeal.sig) → Buf (Elt Ideal) ℓ) (g : Dev Cert.GInDtIdeal.nD → PrngReg)
    (m' : (ℓ : Loc Cert.GInDtRefIdeal.nD Cert.GInDtRefIdeal.τ Cert.GInDtRefIdeal.sig) → Buf (Elt Ideal) ℓ) (g' : Dev Cert.GInDtRefIdeal.nD → PrngReg), Pre_GInDtIdeal m →
    (∀ c : Dev Cert.GInDtIdeal.nD,
      m' ((c.tc : Thread Cert.GInDtRefIdeal.nD Cert.GInDtRefIdeal.τ).loc Cert.GInDtRefIdeal.main_arg0) = m ((c.tc : Thread Cert.GInDtIdeal.nD Cert.GInDtIdeal.τ).loc Cert.GInDtIdeal.main_arg0)
      ∧ m' ((c.tc : Thread Cert.GInDtRefIdeal.nD Cert.GInDtRefIdeal.τ).loc Cert.GInDtRefIdeal.main_arg1) = m ((c.tc : Thread Cert.GInDtIdeal.nD Cert.GInDtIdeal.τ).loc Cert.GInDtIdeal.main_arg1)) →
    ∃ (v0 : (c : Dev Cert.GInDtIdeal.nD) → Buf (Elt Ideal) ((c.tc : Thread Cert.GInDtIdeal.nD Cert.GInDtIdeal.τ).loc Cert.GInDtIdeal.main_v0)),
      θ_run (Cert.GInDtIdeal.defs (F := Ideal)) (onTc (τ := Cert.GInDtIdeal.τ) (Cert.GInDtIdeal.main (F := Ideal))) ⟨m, fun _ => 0, g⟩ (fun r => ∀ c : Dev Cert.GInDtIdeal.nD,
          r.2.mem ((c.tc : Thread Cert.GInDtIdeal.nD Cert.GInDtIdeal.τ).loc Cert.GInDtIdeal.main_v0) = v0 c
          ∧ r.2.mem ((c.tc : Thread Cert.GInDtIdeal.nD Cert.GInDtIdeal.τ).loc Cert.GInDtIdeal.main_arg0) = m ((c.tc : Thread Cert.GInDtIdeal.nD Cert.GInDtIdeal.τ).loc Cert.GInDtIdeal.main_arg0)
          ∧ r.2.mem ((c.tc : Thread Cert.GInDtIdeal.nD Cert.GInDtIdeal.τ).loc Cert.GInDtIdeal.main_arg1) = m ((c.tc : Thread Cert.GInDtIdeal.nD Cert.GInDtIdeal.τ).loc Cert.GInDtIdeal.main_arg1))
      ∧ θ_run (Cert.GInDtRefIdeal.defs (F := Ideal)) (onTc (τ := Cert.GInDtRefIdeal.τ) (Cert.GInDtRefIdeal.main (F := Ideal))) ⟨m', fun _ => 0, g'⟩ (fun r => ∀ c : Dev Cert.GInDtRefIdeal.nD,
          r.2.mem ((c.tc : Thread Cert.GInDtRefIdeal.nD Cert.GInDtRefIdeal.τ).loc Cert.GInDtRefIdeal.main_v0) = v0 c
          ∧ r.2.mem ((c.tc : Thread Cert.GInDtRefIdeal.nD Cert.GInDtRefIdeal.τ).loc Cert.GInDtRefIdeal.main_arg0) = m' ((c.tc : Thread Cert.GInDtRefIdeal.nD Cert.GInDtRefIdeal.τ).loc Cert.GInDtRefIdeal.main_arg0)
          ∧ r.2.mem ((c.tc : Thread Cert.GInDtRefIdeal.nD Cert.GInDtRefIdeal.τ).loc Cert.GInDtRefIdeal.main_arg1) = m' ((c.tc : Thread Cert.GInDtRefIdeal.nD Cert.GInDtRefIdeal.τ).loc Cert.GInDtRefIdeal.main_arg1))

def Claim : Prop :=
  ∃ (hSwap : Cert.Swap.Facts) (hSwapIdeal : Cert.SwapIdeal.Facts) (hSwapRefIdeal : Cert.SwapRefIdeal.Facts) (hSwapRef : Cert.SwapRef.Facts) (hShare : Cert.Share.Facts) (hShareIdeal : Cert.ShareIdeal.Facts) (hShareRefIdeal : Cert.ShareRefIdeal.Facts) (hShareRef : Cert.ShareRef.Facts) (hExchange : Cert.Exchange.Facts) (hExchangeIdeal : Cert.ExchangeIdeal.Facts) (hExchangeRefIdeal : Cert.ExchangeRefIdeal.Facts) (hExchangeRef : Cert.ExchangeRef.Facts) (hWeights : Cert.Weights.Facts) (hWeightsIdeal : Cert.WeightsIdeal.Facts) (hWeightsRefIdeal : Cert.WeightsRefIdeal.Facts) (hWeightsRef : Cert.WeightsRef.Facts) (hVec : Cert.Vec.Facts) (hVecIdeal : Cert.VecIdeal.Facts) (hVecRefIdeal : Cert.VecRefIdeal.Facts) (hVecRef : Cert.VecRef.Facts) (hSum : Cert.Sum.Facts) (hSumIdeal : Cert.SumIdeal.Facts) (hSumRefIdeal : Cert.SumRefIdeal.Facts) (hAdamIn : Cert.AdamIn.Facts) (hAdamInIdeal : Cert.AdamInIdeal.Facts) (hAdamInRefIdeal : Cert.AdamInRefIdeal.Facts) (hAdamRet : Cert.AdamRet.Facts) (hAdamRetIdeal : Cert.AdamRetIdeal.Facts) (hAdamRetRefIdeal : Cert.AdamRetRefIdeal.Facts) (hAdamSsd : Cert.AdamSsd.Facts) (hAdamSsdIdeal : Cert.AdamSsdIdeal.Facts) (hAdamSsdRefIdeal : Cert.AdamSsdRefIdeal.Facts) (hAdamSmall : Cert.AdamSmall.Facts) (hAdamSmallIdeal : Cert.AdamSmallIdeal.Facts) (hAdamSmallRefIdeal : Cert.AdamSmallRefIdeal.Facts) (hNorm : Cert.Norm.Facts) (hNormIdeal : Cert.NormIdeal.Facts) (hNormRefIdeal : Cert.NormRefIdeal.Facts) (hNormB : Cert.NormB.Facts) (hNormBIdeal : Cert.NormBIdeal.Facts) (hNormBRefIdeal : Cert.NormBRefIdeal.Facts) (hFinal : Cert.Final.Facts) (hFinalIdeal : Cert.FinalIdeal.Facts) (hFinalRefIdeal : Cert.FinalRefIdeal.Facts) (hMerge : Cert.Merge.Facts) (hMergeIdeal : Cert.MergeIdeal.Facts) (hMergeRefIdeal : Cert.MergeRefIdeal.Facts) (hMergeB : Cert.MergeB.Facts) (hMergeBIdeal : Cert.MergeBIdeal.Facts) (hMergeBRefIdeal : Cert.MergeBRefIdeal.Facts) (hGated : Cert.Gated.Facts) (hGatedIdeal : Cert.GatedIdeal.Facts) (hGatedRefIdeal : Cert.GatedRefIdeal.Facts) (hGatedB : Cert.GatedB.Facts) (hGatedBIdeal : Cert.GatedBIdeal.Facts) (hGatedBRefIdeal : Cert.GatedBRefIdeal.Facts) (hProjMain : Cert.ProjMain.Facts) (hProjMainIdeal : Cert.ProjMainIdeal.Facts) (hProjMainRefIdeal : Cert.ProjMainRefIdeal.Facts) (hBranchSsd : Cert.BranchSsd.Facts) (hBranchSsdIdeal : Cert.BranchSsdIdeal.Facts) (hBranchSsdRefIdeal : Cert.BranchSsdRefIdeal.Facts) (hDYr : Cert.DYr.Facts) (hDYrIdeal : Cert.DYrIdeal.Facts) (hDYrRefIdeal : Cert.DYrRefIdeal.Facts) (hDMerged : Cert.DMerged.Facts) (hDMergedIdeal : Cert.DMergedIdeal.Facts) (hDMergedRefIdeal : Cert.DMergedRefIdeal.Facts) (hGOut : Cert.GOut.Facts) (hGOutIdeal : Cert.GOutIdeal.Facts) (hGOutRefIdeal : Cert.GOutRefIdeal.Facts) (hPairIn : Cert.PairIn.Facts) (hPairInIdeal : Cert.PairInIdeal.Facts) (hPairInRefIdeal : Cert.PairInRefIdeal.Facts) (hPairB : Cert.PairB.Facts) (hPairBIdeal : Cert.PairBIdeal.Facts) (hPairBRefIdeal : Cert.PairBRefIdeal.Facts) (hOwnIn : Cert.OwnIn.Facts) (hOwnInIdeal : Cert.OwnInIdeal.Facts) (hOwnInRefIdeal : Cert.OwnInRefIdeal.Facts) (hOwnB : Cert.OwnB.Facts) (hOwnBIdeal : Cert.OwnBIdeal.Facts) (hOwnBRefIdeal : Cert.OwnBRefIdeal.Facts) (hConv : Cert.Conv.Facts) (hConvIdeal : Cert.ConvIdeal.Facts) (hConvRefIdeal : Cert.ConvRefIdeal.Facts) (hDt : Cert.Dt.Facts) (hDtIdeal : Cert.DtIdeal.Facts) (hDtRefIdeal : Cert.DtRefIdeal.Facts) (hConvB : Cert.ConvB.Facts) (hConvBIdeal : Cert.ConvBIdeal.Facts) (hConvBRefIdeal : Cert.ConvBRefIdeal.Facts) (hBranchRet : Cert.BranchRet.Facts) (hBranchRetIdeal : Cert.BranchRetIdeal.Facts) (hBranchRetRefIdeal : Cert.BranchRetRefIdeal.Facts) (hProjDt : Cert.ProjDt.Facts) (hProjDtIdeal : Cert.ProjDtIdeal.Facts) (hProjDtRefIdeal : Cert.ProjDtRefIdeal.Facts) (hDYs : Cert.DYs.Facts) (hDYsIdeal : Cert.DYsIdeal.Facts) (hDYsRefIdeal : Cert.DYsRefIdeal.Facts) (hGRet : Cert.GRet.Facts) (hGRetIdeal : Cert.GRetIdeal.Facts) (hGRetRefIdeal : Cert.GRetRefIdeal.Facts) (hGSsd : Cert.GSsd.Facts) (hGSsdIdeal : Cert.GSsdIdeal.Facts) (hGSsdRefIdeal : Cert.GSsdRefIdeal.Facts) (hGIn : Cert.GIn.Facts) (hGInIdeal : Cert.GInIdeal.Facts) (hGInRefIdeal : Cert.GInRefIdeal.Facts) (hGInB : Cert.GInB.Facts) (hGInBIdeal : Cert.GInBIdeal.Facts) (hGInBRefIdeal : Cert.GInBRefIdeal.Facts) (hGInDt : Cert.GInDt.Facts) (hGInDtIdeal : Cert.GInDtIdeal.Facts) (hGInDtRefIdeal : Cert.GInDtRefIdeal.Facts) (hPre_core_in : Cert.Pre_core_in.Facts) (hPre_core_b : Cert.Pre_core_b.Facts) (hPre_place_in : Cert.Pre_place_in.Facts) (hPre_place_b : Cert.Pre_place_b.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Exchange (hExchange := hExchange)
    ∧ quiescent_ExchangeIdeal (hExchangeIdeal := hExchangeIdeal)
    ∧ quiescent_ExchangeRefIdeal (hExchangeRefIdeal := hExchangeRefIdeal)
    ∧ quiescent_ExchangeRef (hExchangeRef := hExchangeRef)
    ∧ quiescent_Weights (hWeights := hWeights)
    ∧ quiescent_WeightsIdeal (hWeightsIdeal := hWeightsIdeal)
    ∧ quiescent_WeightsRefIdeal (hWeightsRefIdeal := hWeightsRefIdeal)
    ∧ quiescent_WeightsRef (hWeightsRef := hWeightsRef)
    ∧ quiescent_Vec (hVec := hVec)
    ∧ quiescent_VecIdeal (hVecIdeal := hVecIdeal)
    ∧ quiescent_VecRefIdeal (hVecRefIdeal := hVecRefIdeal)
    ∧ quiescent_VecRef (hVecRef := hVecRef)
    ∧ quiescent_Sum (hSum := hSum)
    ∧ quiescent_SumIdeal (hSumIdeal := hSumIdeal)
    ∧ quiescent_SumRefIdeal (hSumRefIdeal := hSumRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamRet (hAdamRet := hAdamRet)
    ∧ quiescent_AdamRetIdeal (hAdamRetIdeal := hAdamRetIdeal)
    ∧ quiescent_AdamRetRefIdeal (hAdamRetRefIdeal := hAdamRetRefIdeal)
    ∧ quiescent_AdamSsd (hAdamSsd := hAdamSsd)
    ∧ quiescent_AdamSsdIdeal (hAdamSsdIdeal := hAdamSsdIdeal)
    ∧ quiescent_AdamSsdRefIdeal (hAdamSsdRefIdeal := hAdamSsdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_Norm (hNorm := hNorm)
    ∧ quiescent_NormIdeal (hNormIdeal := hNormIdeal)
    ∧ quiescent_NormRefIdeal (hNormRefIdeal := hNormRefIdeal)
    ∧ quiescent_NormB (hNormB := hNormB)
    ∧ quiescent_NormBIdeal (hNormBIdeal := hNormBIdeal)
    ∧ quiescent_NormBRefIdeal (hNormBRefIdeal := hNormBRefIdeal)
    ∧ quiescent_Final (hFinal := hFinal)
    ∧ quiescent_FinalIdeal (hFinalIdeal := hFinalIdeal)
    ∧ quiescent_FinalRefIdeal (hFinalRefIdeal := hFinalRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_Gated (hGated := hGated)
    ∧ quiescent_GatedIdeal (hGatedIdeal := hGatedIdeal)
    ∧ quiescent_GatedRefIdeal (hGatedRefIdeal := hGatedRefIdeal)
    ∧ quiescent_GatedB (hGatedB := hGatedB)
    ∧ quiescent_GatedBIdeal (hGatedBIdeal := hGatedBIdeal)
    ∧ quiescent_GatedBRefIdeal (hGatedBRefIdeal := hGatedBRefIdeal)
    ∧ quiescent_ProjMain (hProjMain := hProjMain)
    ∧ quiescent_ProjMainIdeal (hProjMainIdeal := hProjMainIdeal)
    ∧ quiescent_ProjMainRefIdeal (hProjMainRefIdeal := hProjMainRefIdeal)
    ∧ quiescent_BranchSsd (hBranchSsd := hBranchSsd)
    ∧ quiescent_BranchSsdIdeal (hBranchSsdIdeal := hBranchSsdIdeal)
    ∧ quiescent_BranchSsdRefIdeal (hBranchSsdRefIdeal := hBranchSsdRefIdeal)
    ∧ quiescent_DYr (hDYr := hDYr)
    ∧ quiescent_DYrIdeal (hDYrIdeal := hDYrIdeal)
    ∧ quiescent_DYrRefIdeal (hDYrRefIdeal := hDYrRefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_GOut (hGOut := hGOut)
    ∧ quiescent_GOutIdeal (hGOutIdeal := hGOutIdeal)
    ∧ quiescent_GOutRefIdeal (hGOutRefIdeal := hGOutRefIdeal)
    ∧ quiescent_PairIn (hPairIn := hPairIn) (hPre_core_in := hPre_core_in)
    ∧ quiescent_PairInIdeal (hPairInIdeal := hPairInIdeal) (hPre_core_in := hPre_core_in)
    ∧ quiescent_PairInRefIdeal (hPairInRefIdeal := hPairInRefIdeal)
    ∧ quiescent_PairInRefIdeal_pre_core_in (hPairInRefIdeal := hPairInRefIdeal) (hPre_core_in := hPre_core_in)
    ∧ quiescent_PairB (hPairB := hPairB) (hPre_core_b := hPre_core_b)
    ∧ quiescent_PairBIdeal (hPairBIdeal := hPairBIdeal) (hPre_core_b := hPre_core_b)
    ∧ quiescent_PairBRefIdeal (hPairBRefIdeal := hPairBRefIdeal)
    ∧ quiescent_PairBRefIdeal_pre_core_b (hPairBRefIdeal := hPairBRefIdeal) (hPre_core_b := hPre_core_b)
    ∧ quiescent_OwnIn (hOwnIn := hOwnIn) (hPre_place_in := hPre_place_in)
    ∧ quiescent_OwnInIdeal (hOwnInIdeal := hOwnInIdeal) (hPre_place_in := hPre_place_in)
    ∧ quiescent_OwnInRefIdeal (hOwnInRefIdeal := hOwnInRefIdeal)
    ∧ quiescent_OwnInRefIdeal_pre_place_in (hOwnInRefIdeal := hOwnInRefIdeal) (hPre_place_in := hPre_place_in)
    ∧ quiescent_OwnB (hOwnB := hOwnB) (hPre_place_b := hPre_place_b)
    ∧ quiescent_OwnBIdeal (hOwnBIdeal := hOwnBIdeal) (hPre_place_b := hPre_place_b)
    ∧ quiescent_OwnBRefIdeal (hOwnBRefIdeal := hOwnBRefIdeal)
    ∧ quiescent_OwnBRefIdeal_pre_place_b (hOwnBRefIdeal := hOwnBRefIdeal) (hPre_place_b := hPre_place_b)
    ∧ quiescent_Conv (hConv := hConv)
    ∧ quiescent_ConvIdeal (hConvIdeal := hConvIdeal)
    ∧ quiescent_ConvRefIdeal (hConvRefIdeal := hConvRefIdeal)
    ∧ quiescent_Dt (hDt := hDt)
    ∧ quiescent_DtIdeal (hDtIdeal := hDtIdeal)
    ∧ quiescent_DtRefIdeal (hDtRefIdeal := hDtRefIdeal)
    ∧ quiescent_ConvB (hConvB := hConvB)
    ∧ quiescent_ConvBIdeal (hConvBIdeal := hConvBIdeal)
    ∧ quiescent_ConvBRefIdeal (hConvBRefIdeal := hConvBRefIdeal)
    ∧ quiescent_BranchRet (hBranchRet := hBranchRet)
    ∧ quiescent_BranchRetIdeal (hBranchRetIdeal := hBranchRetIdeal)
    ∧ quiescent_BranchRetRefIdeal (hBranchRetRefIdeal := hBranchRetRefIdeal)
    ∧ quiescent_ProjDt (hProjDt := hProjDt)
    ∧ quiescent_ProjDtIdeal (hProjDtIdeal := hProjDtIdeal)
    ∧ quiescent_ProjDtRefIdeal (hProjDtRefIdeal := hProjDtRefIdeal)
    ∧ quiescent_DYs (hDYs := hDYs)
    ∧ quiescent_DYsIdeal (hDYsIdeal := hDYsIdeal)
    ∧ quiescent_DYsRefIdeal (hDYsRefIdeal := hDYsRefIdeal)
    ∧ quiescent_GRet (hGRet := hGRet)
    ∧ quiescent_GRetIdeal (hGRetIdeal := hGRetIdeal)
    ∧ quiescent_GRetRefIdeal (hGRetRefIdeal := hGRetRefIdeal)
    ∧ quiescent_GSsd (hGSsd := hGSsd)
    ∧ quiescent_GSsdIdeal (hGSsdIdeal := hGSsdIdeal)
    ∧ quiescent_GSsdRefIdeal (hGSsdRefIdeal := hGSsdRefIdeal)
    ∧ quiescent_GIn (hGIn := hGIn)
    ∧ quiescent_GInIdeal (hGInIdeal := hGInIdeal)
    ∧ quiescent_GInRefIdeal (hGInRefIdeal := hGInRefIdeal)
    ∧ quiescent_GInB (hGInB := hGInB)
    ∧ quiescent_GInBIdeal (hGInBIdeal := hGInBIdeal)
    ∧ quiescent_GInBRefIdeal (hGInBRefIdeal := hGInBRefIdeal)
    ∧ quiescent_GInDt (hGInDt := hGInDt)
    ∧ quiescent_GInDtIdeal (hGInDtIdeal := hGInDtIdeal)
    ∧ quiescent_GInDtRefIdeal (hGInDtRefIdeal := hGInDtRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Exchange_ExchangeIdeal
    ∧ algebraic_ExchangeIdeal_ExchangeRefIdeal (hExchangeIdeal := hExchangeIdeal) (hExchangeRefIdeal := hExchangeRefIdeal)
    ∧ bitexact_Exchange_ExchangeRef (hExchange := hExchange) (hExchangeRef := hExchangeRef)
    ∧ preserves_Weights_WeightsIdeal
    ∧ algebraic_WeightsIdeal_WeightsRefIdeal (hWeightsIdeal := hWeightsIdeal) (hWeightsRefIdeal := hWeightsRefIdeal)
    ∧ bitexact_Weights_WeightsRef (hWeights := hWeights) (hWeightsRef := hWeightsRef)
    ∧ preserves_Vec_VecIdeal
    ∧ algebraic_VecIdeal_VecRefIdeal (hVecIdeal := hVecIdeal) (hVecRefIdeal := hVecRefIdeal)
    ∧ bitexact_Vec_VecRef (hVec := hVec) (hVecRef := hVecRef)
    ∧ preserves_Sum_SumIdeal
    ∧ algebraic_SumIdeal_SumRefIdeal (hSumIdeal := hSumIdeal) (hSumRefIdeal := hSumRefIdeal)
    ∧ preserves_AdamIn_AdamInIdeal
    ∧ algebraic_AdamInIdeal_AdamInRefIdeal (hAdamInIdeal := hAdamInIdeal) (hAdamInRefIdeal := hAdamInRefIdeal)
    ∧ preserves_AdamRet_AdamRetIdeal
    ∧ algebraic_AdamRetIdeal_AdamRetRefIdeal (hAdamRetIdeal := hAdamRetIdeal) (hAdamRetRefIdeal := hAdamRetRefIdeal)
    ∧ preserves_AdamSsd_AdamSsdIdeal
    ∧ algebraic_AdamSsdIdeal_AdamSsdRefIdeal (hAdamSsdIdeal := hAdamSsdIdeal) (hAdamSsdRefIdeal := hAdamSsdRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_Norm_NormIdeal
    ∧ algebraic_NormIdeal_NormRefIdeal (hNormIdeal := hNormIdeal) (hNormRefIdeal := hNormRefIdeal)
    ∧ preserves_NormB_NormBIdeal
    ∧ algebraic_NormBIdeal_NormBRefIdeal (hNormBIdeal := hNormBIdeal) (hNormBRefIdeal := hNormBRefIdeal)
    ∧ preserves_Final_FinalIdeal
    ∧ algebraic_FinalIdeal_FinalRefIdeal (hFinalIdeal := hFinalIdeal) (hFinalRefIdeal := hFinalRefIdeal)
    ∧ preserves_Merge_MergeIdeal
    ∧ algebraic_MergeIdeal_MergeRefIdeal (hMergeIdeal := hMergeIdeal) (hMergeRefIdeal := hMergeRefIdeal)
    ∧ preserves_MergeB_MergeBIdeal
    ∧ algebraic_MergeBIdeal_MergeBRefIdeal (hMergeBIdeal := hMergeBIdeal) (hMergeBRefIdeal := hMergeBRefIdeal)
    ∧ preserves_Gated_GatedIdeal
    ∧ algebraic_GatedIdeal_GatedRefIdeal (hGatedIdeal := hGatedIdeal) (hGatedRefIdeal := hGatedRefIdeal)
    ∧ preserves_GatedB_GatedBIdeal
    ∧ algebraic_GatedBIdeal_GatedBRefIdeal (hGatedBIdeal := hGatedBIdeal) (hGatedBRefIdeal := hGatedBRefIdeal)
    ∧ preserves_ProjMain_ProjMainIdeal
    ∧ algebraic_ProjMainIdeal_ProjMainRefIdeal (hProjMainIdeal := hProjMainIdeal) (hProjMainRefIdeal := hProjMainRefIdeal)
    ∧ preserves_BranchSsd_BranchSsdIdeal
    ∧ algebraic_BranchSsdIdeal_BranchSsdRefIdeal (hBranchSsdIdeal := hBranchSsdIdeal) (hBranchSsdRefIdeal := hBranchSsdRefIdeal)
    ∧ preserves_DYr_DYrIdeal
    ∧ algebraic_DYrIdeal_DYrRefIdeal (hDYrIdeal := hDYrIdeal) (hDYrRefIdeal := hDYrRefIdeal)
    ∧ preserves_DMerged_DMergedIdeal
    ∧ algebraic_DMergedIdeal_DMergedRefIdeal (hDMergedIdeal := hDMergedIdeal) (hDMergedRefIdeal := hDMergedRefIdeal)
    ∧ preserves_GOut_GOutIdeal
    ∧ algebraic_GOutIdeal_GOutRefIdeal (hGOutIdeal := hGOutIdeal) (hGOutRefIdeal := hGOutRefIdeal)
    ∧ preserves_PairIn_PairInIdeal
    ∧ algebraic_PairInIdeal_PairInRefIdeal (hPairInIdeal := hPairInIdeal) (hPairInRefIdeal := hPairInRefIdeal) (hPre_core_in := hPre_core_in)
    ∧ preserves_PairB_PairBIdeal
    ∧ algebraic_PairBIdeal_PairBRefIdeal (hPairBIdeal := hPairBIdeal) (hPairBRefIdeal := hPairBRefIdeal) (hPre_core_b := hPre_core_b)
    ∧ preserves_OwnIn_OwnInIdeal
    ∧ algebraic_OwnInIdeal_OwnInRefIdeal (hOwnInIdeal := hOwnInIdeal) (hOwnInRefIdeal := hOwnInRefIdeal) (hPre_place_in := hPre_place_in)
    ∧ preserves_OwnB_OwnBIdeal
    ∧ algebraic_OwnBIdeal_OwnBRefIdeal (hOwnBIdeal := hOwnBIdeal) (hOwnBRefIdeal := hOwnBRefIdeal) (hPre_place_b := hPre_place_b)
    ∧ preserves_Conv_ConvIdeal
    ∧ algebraic_ConvIdeal_ConvRefIdeal (hConvIdeal := hConvIdeal) (hConvRefIdeal := hConvRefIdeal)
    ∧ preserves_Dt_DtIdeal
    ∧ algebraic_DtIdeal_DtRefIdeal (hDtIdeal := hDtIdeal) (hDtRefIdeal := hDtRefIdeal)
    ∧ preserves_ConvB_ConvBIdeal
    ∧ algebraic_ConvBIdeal_ConvBRefIdeal (hConvBIdeal := hConvBIdeal) (hConvBRefIdeal := hConvBRefIdeal)
    ∧ preserves_BranchRet_BranchRetIdeal
    ∧ algebraic_BranchRetIdeal_BranchRetRefIdeal (hBranchRetIdeal := hBranchRetIdeal) (hBranchRetRefIdeal := hBranchRetRefIdeal)
    ∧ preserves_ProjDt_ProjDtIdeal
    ∧ algebraic_ProjDtIdeal_ProjDtRefIdeal (hProjDtIdeal := hProjDtIdeal) (hProjDtRefIdeal := hProjDtRefIdeal)
    ∧ preserves_DYs_DYsIdeal
    ∧ algebraic_DYsIdeal_DYsRefIdeal (hDYsIdeal := hDYsIdeal) (hDYsRefIdeal := hDYsRefIdeal)
    ∧ preserves_GRet_GRetIdeal
    ∧ algebraic_GRetIdeal_GRetRefIdeal (hGRetIdeal := hGRetIdeal) (hGRetRefIdeal := hGRetRefIdeal)
    ∧ preserves_GSsd_GSsdIdeal
    ∧ algebraic_GSsdIdeal_GSsdRefIdeal (hGSsdIdeal := hGSsdIdeal) (hGSsdRefIdeal := hGSsdRefIdeal)
    ∧ preserves_GIn_GInIdeal
    ∧ algebraic_GInIdeal_GInRefIdeal (hGInIdeal := hGInIdeal) (hGInRefIdeal := hGInRefIdeal)
    ∧ preserves_GInB_GInBIdeal
    ∧ algebraic_GInBIdeal_GInBRefIdeal (hGInBIdeal := hGInBIdeal) (hGInBRefIdeal := hGInBRefIdeal)
    ∧ preserves_GInDt_GInDtIdeal
    ∧ algebraic_GInDtIdeal_GInDtRefIdeal (hGInDtIdeal := hGInDtIdeal) (hGInDtRefIdeal := hGInDtRefIdeal)
-- ==== Pre_core_b.lean ====
abbrev S1 : Shape := ⟨1, ![1]⟩
abbrev S2x4x1024x2048 : Shape := ⟨4, ![2, 4, 1024, 2048]⟩
abbrev S4x1024x2048 : Shape := ⟨3, ![4, 1024, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x4x1024x2048 .f32) (main_arg2 : FVec F S4x1024x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_core_in.lean ====
abbrev S1 : Shape := ⟨1, ![1]⟩
abbrev S2x4x1024x5648 : Shape := ⟨4, ![2, 4, 1024, 5648]⟩
abbrev S4x1024x5648 : Shape := ⟨3, ![4, 1024, 5648]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2x4x1024x5648 .f32) (main_arg2 : FVec F S4x1024x5648 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 1#32
  let main_v2 : IVec S1 32 := broadcastInDim S1 ![] bcast_S_S1 main_c_0
  let main_v3 : IVec S1 1 := cmpi .sle main_arg0 main_v2
  let main_v4 : IVec S1 1 := andi main_v1 main_v3
  main_v4
-- ==== Pre_place_b.lean ====
abbrev S2 : Shape := ⟨1, ![2]⟩
abbrev S2x4x1024x2048 : Shape := ⟨4, ![2, 4, 1024, 2048]⟩
abbrev S4x1024x2048 : Shape := ⟨3, ![4, 1024, 2048]⟩
abbrev S3x1024x2048 : Shape := ⟨3, ![3, 1024, 2048]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 3#32 | 1 => 1#32
  | _ => 0#32

def fn {F : FTy → Type} [FloatOps F] (main_arg0 : IVec S2 32) (main_arg1 : FVec F S2x4x1024x2048 .f32) (main_arg2 : FVec F S4x1024x2048 .f32) (main_arg3 : FVec F S3x1024x2048 .bf16) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg0 main_v0
  let main_v2 : IVec S2 1 := cmpi .sle main_arg0 main_c
  let main_v3 : IVec S2 1 := andi main_v1 main_v2
  main_v3
-- ==== Pre_place_in.lean ====
abbrev S2 : Shape := ⟨1, ![2]⟩
abbrev S2x4x1024x5648 : Shape := ⟨4, ![2, 4, 1024, 5648]⟩
abbrev S4x1024x5648 : Shape := ⟨3, ![4, 1024, 5648]⟩
abbrev S3x1024x5648 : Shape := ⟨3, ![3, 1024, 5648]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 3#32 | 1 => 1#32
  | _ => 0#32

def fn {F : FTy → Type} [FloatOps F] (main_arg0 : IVec S2 32) (main_arg1 : FVec F S2x4x1024x5648 .f32) (main_arg2 : FVec F S4x1024x5648 .f32) (main_arg3 : FVec F S3x1024x5648 .bf16) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg0 main_v0
  let main_v2 : IVec S2 1 := cmpi .sle main_arg0 main_c
  let main_v3 : IVec S2 1 := andi main_v1 main_v2
  main_v3
-- ==== Swap.lean ====
abbrev S2x4x1024x5648 : Shape := ⟨4, ![2, 4, 1024, 5648]⟩
abbrev S2x4x1024x2048 : Shape := ⟨4, ![2, 4, 1024, 2048]⟩
abbrev S4x1024x5648 : Shape := ⟨3, ![4, 1024, 5648]⟩
abbrev S4x1024x2048 : Shape := ⟨3, ![4, 1024, 2048]⟩
abbrev S2 : Shape := ⟨1, ![2]⟩
abbrev S1 : Shape := ⟨1, ![1]⟩
abbrev S_ : Shape := ⟨0, ![]⟩
abbrev S1x4x1024x5648 : Shape := ⟨4, ![1, 4, 1024, 5648]⟩
abbrev S1x4x1024x2048 : Shape := ⟨4, ![1, 4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x4x1024x5648, .f32⟩
  | .hbm, ⟨1, _⟩ => ⟨S2x4x1024x2048, .f32⟩
  | .hbm, ⟨2, _⟩ => ⟨S4x1024x5648, .f32⟩
  | .hbm, ⟨3, _⟩ => ⟨S4x1024x2048, .f32⟩
  | _, _ => ⟨S2x4x1024x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 4 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_12 : BitVec 32 := 0#32
  let c0_i32_13 : BitVec 32 := 0#32
  let c0_i32_14 : BitVec 32 := 0#32
  ![v9.toNat, 0, 0, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v13 : BitVec 32 := Scalar.muli v2 c4_i32_8
  let v14 : BitVec 32 := Scalar.addi c0_i32_9 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v15 : BitVec 32 := Scalar.muli v5 c2_i32_10
  let v16 : BitVec 32 := Scalar.addi v14 v15
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_11 : BitVec 32 := 1#32
  let v17 : BitVec 32 := Scalar.muli v10 c1_i32_11
  let v18 : BitVec 32 := Scalar.addi v16 v17
  v18.toNat
def k0_off2 (d0 : Dev nD) : Fin 4 → Nat :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_21 : BitVec 32 := 0#32
  let c0_i32_22 : BitVec 32 := 0#32
  let c0_i32_23 : BitVec 32 := 0#32
  ![v11.toNat, 0, 0, 0]
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v25 : BitVec 32 := Scalar.muli v2 c4_i32_17
  let v26 : BitVec 32 := Scalar.addi c0_i32_18 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v27 : BitVec 32 := Scalar.muli v5 c2_i32_19
  let v28 : BitVec 32 := Scalar.addi v26 v27
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_20 : BitVec 32 := 1#32
  let v29 : BitVec 32 := Scalar.muli v12 c1_i32_20
  let v30 : BitVec 32 := Scalar.addi v28 v29
  v30.toNat
-- ==== SwapRef.lean ====
abbrev S16x4x1024x5648 : Shape := ⟨4, ![16, 4, 1024, 5648]⟩
abbrev S16x4x1024x2048 : Shape := ⟨4, ![16, 4, 1024, 2048]⟩
abbrev S4x2x2x4x1024x5648 : Shape := ⟨6, ![4, 2, 2, 4, 1024, 5648]⟩
abbrev S4x1x1x4x1024x5648 : Shape := ⟨6, ![4, 1, 1, 4, 1024, 5648]⟩
abbrev S4x4x1024x5648 : Shape := ⟨4, ![4, 4, 1024, 5648]⟩
abbrev S4x1x4x1024x5648 : Shape := ⟨5, ![4, 1, 4, 1024, 5648]⟩
abbrev S4x2x4x1024x5648 : Shape := ⟨5, ![4, 2, 4, 1024, 5648]⟩
abbrev S32x1024x5648 : Shape := ⟨3, ![32, 1024, 5648]⟩
abbrev S4x2x2x4x1024x2048 : Shape := ⟨6, ![4, 2, 2, 4, 1024, 2048]⟩
abbrev S4x1x1x4x1024x2048 : Shape := ⟨6, ![4, 1, 1, 4, 1024, 2048]⟩
abbrev S4x4x1024x2048 : Shape := ⟨4, ![4, 4, 1024, 2048]⟩
abbrev S4x1x4x1024x2048 : Shape := ⟨5, ![4, 1, 4, 1024, 2048]⟩
abbrev S4x2x4x1024x2048 : Shape := ⟨5, ![4, 2, 4, 1024, 2048]⟩
abbrev S32x1024x2048 : Shape := ⟨3, ![32, 1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S16x4x1024x5648, .f32⟩
  | .hbm, ⟨1, _⟩ => ⟨S16x4x1024x2048, .f32⟩
  | .hbm, ⟨2, _⟩ => ⟨S4x2x2x4x1024x5648, .f32⟩
  | .hbm, ⟨3, _⟩ => ⟨S4x1x1x4x1024x5648, .f32⟩
  | .hbm, ⟨4, _⟩ => ⟨S4x4x1024x5648, .f32⟩
  | .hbm, ⟨5, _⟩ => ⟨S4x1x1x4x1024x5648, .f32⟩
  | .hbm, ⟨6, _⟩ => ⟨S4x4x1024x5648, .f32⟩
  | .hbm, ⟨7, _⟩ => ⟨S4x1x4x1024x5648, .f32⟩
  | .hbm, ⟨8, _⟩ => ⟨S4x1x4x1024x5648, .f32⟩
  | .hbm, ⟨9, _⟩ => ⟨S4x2x4x1024x5648, .f32⟩
  | .hbm, ⟨10, _⟩ => ⟨S32x1024x5648, .f32⟩
  | .hbm, ⟨11, _⟩ => ⟨S4x2x2x4x1024x2048, .f32⟩
  | .hbm, ⟨12, _⟩ => ⟨S4x1x1x4x1024x2048, .f32⟩
  | .hbm, ⟨13, _⟩ => ⟨S4x4x1024x2048, .f32⟩
  | .hbm, ⟨14, _⟩ => ⟨S4x1x1x4x1024x2048, .f32⟩
  | .hbm, ⟨15, _⟩ => ⟨S4x4x1024x2048, .f32⟩
  | .hbm, ⟨16, _⟩ => ⟨S4x1x4x1024x2048, .f32⟩
  | .hbm, ⟨17, _⟩ => ⟨S4x1x4x1024x2048, .f32⟩
  | .hbm, ⟨18, _⟩ => ⟨S4x2x4x1024x2048, .f32⟩
  | .hbm, ⟨19, _⟩ => ⟨S32x1024x2048, .f32⟩
  | _, _ => ⟨S16x4x1024x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Share.lean ====
abbrev S1024x5648 : Shape := ⟨2, ![1024, 5648]⟩
abbrev S1024x2048 : Shape := ⟨2, ![1024, 2048]⟩
abbrev S2x1024x5648 : Shape := ⟨3, ![2, 1024, 5648]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x5648 : Shape := ⟨3, ![1, 1024, 5648]⟩
abbrev S1x1024x2048 : Shape := ⟨3, ![1, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x5648, .f32⟩
  | .hbm, ⟨1, _⟩ => ⟨S1024x2048, .f32⟩
  | .hbm, ⟨2, _⟩ => ⟨S2x1024x5648, .f32⟩
  | .hbm, ⟨3, _⟩ => ⟨S2x1024x2048, .f32⟩
  | _, _ => ⟨S1024x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_5 : BitVec 32 := 0#32
  let c0_i32_6 : BitVec 32 := 0#32
  ![v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_8 : BitVec 32 := 0#32
  let c0_i32_9 : BitVec 32 := 0#32
  ![v8.toNat, 0, 0]
def k0_dev1 (d0 : Dev nD) : Nat :=
  let c0_i32_13 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_12 : BitVec 32 := 4#32
  let v19 : BitVec 32 := Scalar.muli v2 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_15 : BitVec 32 := 1#32
  let v23 : BitVec 32 := Scalar.muli v9 c1_i32_15
  let v24 : BitVec 32 := Scalar.addi v22 v23
  v24.toNat
def k0_dev2 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v31 : BitVec 32 := Scalar.muli v2 c4_i32_20
  let v32 : BitVec 32 := Scalar.addi c0_i32_21 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v33 : BitVec 32 := Scalar.muli v5 c2_i32_22
  let v34 : BitVec 32 := Scalar.addi v32 v33
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_23 : BitVec 32 := 1#32
  let v35 : BitVec 32 := Scalar.muli v10 c1_i32_23
  let v36 : BitVec 32 := Scalar.addi v34 v35
  v36.toNat
def k0_off3 (d0 : Dev nD) : Fin 3 → Nat :=
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_26 v8
  let c0_i32_33 : BitVec 32 := 0#32
  let c0_i32_34 : BitVec 32 := 0#32
  ![v43.toNat, 0, 0]
def k0_off4 (d0 : Dev nD) : Fin 3 → Nat :=
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v54 : BitVec 32 := Scalar.subi c1_i32_35 v8
  let c0_i32_42 : BitVec 32 := 0#32
  let c0_i32_43 : BitVec 32 := 0#32
  ![v54.toNat, 0, 0]
-- ==== ShareRef.lean ====
abbrev S2048x22592 : Shape := ⟨2, ![2048, 22592]⟩
abbrev S8192x2048 : Shape := ⟨2, ![8192, 2048]⟩
abbrev S2x1024x22592 : Shape := ⟨3, ![2, 1024, 22592]⟩
abbrev S8x1024x2048 : Shape := ⟨3, ![8, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x22592, .f32⟩
  | .hbm, ⟨1, _⟩ => ⟨S8192x2048, .f32⟩
  | .hbm, ⟨2, _⟩ => ⟨S2x1024x22592, .f32⟩
  | .hbm, ⟨3, _⟩ => ⟨S8x1024x2048, .f32⟩
  | _, _ => ⟨S2048x22592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Exchange.lean ====
abbrev S4x1024x5648 : Shape := ⟨3, ![4, 1024, 5648]⟩
abbrev S4x1024x2048 : Shape := ⟨3, ![4, 1024, 2048]⟩
abbrev S3x1024x5648 : Shape := ⟨3, ![3, 1024, 5648]⟩
abbrev S3x1024x2048 : Shape := ⟨3, ![3, 1024, 2048]⟩
abbrev S6 : Shape := ⟨1, ![6]⟩
abbrev S1 : Shape := ⟨1, ![1]⟩
abbrev S_ : Shape := ⟨0, ![]⟩
abbrev S1x1024x5648 : Shape := ⟨3, ![1, 1024, 5648]⟩
abbrev S1024x5648 : Shape := ⟨2, ![1024, 5648]⟩
abbrev S1x1024x2048 : Shape := ⟨3, ![1, 1024, 2048]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x5648, .bf16⟩
  | .hbm, ⟨1, _⟩ => ⟨S4x1024x2048, .bf16⟩
  | .hbm, ⟨2, _⟩ => ⟨S3x1024x5648, .bf16⟩
  | .hbm, ⟨3, _⟩ => ⟨S3x1024x2048, .bf16⟩
  | _, _ => ⟨S4x1024x5648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_18 : BitVec 32 := 0#32
  let c0_i32_19 : BitVec 32 := 0#32
  ![v14.toNat, 0, 0]
def k0_dev1 (d0 : Dev nD) : Nat :=
  let c0_i32_13 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_12 : BitVec 32 := 4#32
  let v19 : BitVec 32 := Scalar.muli v9 c4_i32_12
  let v20 : BitVec 32 := Scalar.addi c0_i32_13 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_14 : BitVec 32 := 2#32
  let v21 : BitVec 32 := Scalar.muli v5 c2_i32_14
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v23 : BitVec 32 := Scalar.muli v8 c1_i32_15
  let v24 : BitVec 32 := Scalar.addi v22 v23
  v24.toNat
def k0_off2 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_29 : BitVec 32 := 0#32
  let c0_i32_30 : BitVec 32 := 0#32
  ![v14.toNat, 0, 0]
def k0_dev2 (d0 : Dev nD) : Nat :=
  let c0_i32_24 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_23 : BitVec 32 := 4#32
  let v33 : BitVec 32 := Scalar.muli v9 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_off3 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_40 : BitVec 32 := 0#32
  let c0_i32_41 : BitVec 32 := 0#32
  ![v16.toNat, 0, 0]
def k0_dev3 (d0 : Dev nD) : Nat :=
  let c0_i32_35 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_34 : BitVec 32 := 4#32
  let v47 : BitVec 32 := Scalar.muli v2 c4_i32_34
  let v48 : BitVec 32 := Scalar.addi c0_i32_35 v47
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_36 : BitVec 32 := 2#32
  let v49 : BitVec 32 := Scalar.muli v10 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
def k0_off4 (d0 : Dev nD) : Fin 3 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v16 : BitVec 32 := Scalar.addi v15 v10
  let c0_i32_50 : BitVec 32 := 0#32
  let c0_i32_51 : BitVec 32 := 0#32
  ![v16.toNat, 0, 0]
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v61 : BitVec 32 := Scalar.muli v2 c4_i32_44
  let v62 : BitVec 32 := Scalar.addi c0_i32_45 v61
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_46 : BitVec 32 := 2#32
  let v63 : BitVec 32 := Scalar.muli v10 c2_i32_46
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v65 : BitVec 32 := Scalar.muli v8 c1_i32_47
  let v66 : BitVec 32 := Scalar.addi v64 v65
  v66.toNat
def k0_off5 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_61 : BitVec 32 := 0#32
  let c0_i32_62 : BitVec 32 := 0#32
  ![v18.toNat, 0, 0]
def k0_dev5 (d0 : Dev nD) : Nat :=
  let c0_i32_56 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_55 : BitVec 32 := 4#32
  let v75 : BitVec 32 := Scalar.muli v11 c4_i32_55
  let v76 : BitVec 32 := Scalar.addi c0_i32_56 v75
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_57 : BitVec 32 := 2#32
  let v77 : BitVec 32 := Scalar.muli v12 c2_i32_57
  let v78 : BitVec 32 := Scalar.addi v76 v77
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v79 : BitVec 32 := Scalar.muli v8 c1_i32_58
  let v80 : BitVec 32 := Scalar.addi v78 v79
  v80.toNat
def k0_off6 (d0 : Dev nD) : Fin 3 → Nat :=
  let c2_i32_9 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v17 : BitVec 32 := Scalar.muli c2_i32_9 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v18 : BitVec 32 := Scalar.addi v17 v12
  let c0_i32_71 : BitVec 32 := 0#32
  let c0_i32_72 : BitVec 32 := 0#32
  ![v18.toNat, 0, 0]
def k0_dev6 (d0 : Dev nD) : Nat :=
  let c0_i32_66 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_65 : BitVec 32 := 4#32
  let v89 : BitVec 32 := Scalar.muli v11 c4_i32_65
  let v90 : BitVec 32 := Scalar.addi c0_i32_66 v89
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_67 : BitVec 32 := 2#32
  let v91 : BitVec 32 := Scalar.muli v12 c2_i32_67
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v93 : BitVec 32 := Scalar.muli v8 c1_i32_68
  let v94 : BitVec 32 := Scalar.addi v92 v93
  v94.toNat
-- ==== ExchangeRef.lean ====
abbrev S32x1024x5648 : Shape := ⟨3, ![32, 1024, 5648]⟩
abbrev S32x1024x2048 : Shape := ⟨3, ![32, 1024, 2048]⟩
abbrev S4x2x4x1024x5648 : Shape := ⟨5, ![4, 2, 4, 1024, 5648]⟩
abbrev S1x2x1x1024x5648 : Shape := ⟨5, ![1, 2, 1, 1024, 5648]⟩
abbrev S2x1024x5648 : Shape := ⟨3, ![2, 1024, 5648]⟩
abbrev S2x1x1024x5648 : Shape := ⟨4, ![2, 1, 1024, 5648]⟩
abbrev S2x3x1024x5648 : Shape := ⟨4, ![2, 3, 1024, 5648]⟩
abbrev S1x2x3x1024x5648 : Shape := ⟨5, ![1, 2, 3, 1024, 5648]⟩
abbrev S4x2x3x1024x5648 : Shape := ⟨5, ![4, 2, 3, 1024, 5648]⟩
abbrev S24x1024x5648 : Shape := ⟨3, ![24, 1024, 5648]⟩
abbrev S4x2x4x1024x2048 : Shape := ⟨5, ![4, 2, 4, 1024, 2048]⟩
abbrev S1x2x1x1024x2048 : Shape := ⟨5, ![1, 2, 1, 1024, 2048]⟩
abbrev S2x1024x2048 : Shape := ⟨3, ![2, 1024, 2048]⟩
abbrev S2x1x1024x2048 : Shape := ⟨4, ![2, 1, 1024, 2048]⟩
abbrev S2x3x1024x2048 : Shape := ⟨4, ![2, 3, 1024, 2048]⟩
abbrev S1x2x3x1024x2048 : Shape := ⟨5, ![1, 2, 3, 1024, 2048]⟩
abbrev S4x2x3x1024x2048 : Shape := ⟨5, ![4, 2, 3, 1024, 2048]⟩
abbrev S24x1024x2048 : Shape := ⟨3, ![24, 1024, 2048]⟩

abbrev nBuf : Space → Nat
  | .hbm => 98
  | .vmem => 0
  | .smem => 0
  | _ => 0

abbrev bufTy : (tb : Table) → Fin (tcTables nBuf tb) → BufTy
  | .hbm, ⟨0, _⟩ => ⟨S32x1024x5648, .bf16⟩
  | .hbm, ⟨1, _⟩ => ⟨S32x1024x2048, .bf16⟩
  | .hbm, ⟨2, _⟩ => ⟨S4x2x4x1024x5648, .bf16⟩
  | .hbm, ⟨3, _⟩ => ⟨S4x2x4x1024x5648, .bf16⟩
  | .hbm, ⟨4, _⟩ => ⟨S1x2x1x1024x5648, .bf16⟩
  | .hbm, ⟨5, _⟩ => ⟨S2x1024x5648, .bf16⟩
  | .hbm, ⟨6, _⟩ => ⟨S1x2x1x1024x5648, .bf16⟩
  | .hbm, ⟨7, _⟩ => ⟨S2x1024x5648, .bf16⟩
  | .hbm, ⟨8, _⟩ => ⟨S1x2x1x1024x5648, .bf16⟩
  | .hbm, ⟨9, _⟩ => ⟨S2x1024x5648, .bf16⟩
  | .hbm, ⟨10, _⟩ => ⟨S2x1x1024x5648, .bf16⟩
  | .hbm, ⟨11, _⟩ => ⟨S2x1x1024x5648, .bf16⟩
  | .hbm, ⟨12, _⟩ => ⟨S2x1x1024x5648, .bf16⟩
  | .hbm, ⟨13, _⟩ => ⟨S2x3x1024x5648, .bf16⟩
  | .hbm, ⟨14, _⟩ => ⟨S1x2x1x1024x5648, .bf16⟩
  | .hbm, ⟨15, _⟩ => ⟨S2x1024x5648, .bf16⟩
  | .hbm, ⟨16, _⟩ => ⟨S1x2x1x1024x5648, .bf16⟩
  | .hbm, ⟨17, _⟩ => ⟨S2x1024x5648, .bf16⟩
  | .hbm, ⟨18, _⟩ => ⟨S1x2x1x1024x5648, .bf16⟩
  | .hbm, ⟨19, _⟩ => ⟨S2x1024x5648, .bf16⟩
  | .hbm, ⟨20, _⟩ => ⟨S2x1x1024x5648, .bf16⟩
  | .hbm, ⟨21, _⟩ => ⟨S2x1x1024x5648, .bf16⟩
  | .hbm, ⟨22, _⟩ => ⟨S2x1x1024x5648, .bf16⟩
  | .hbm, ⟨23, _⟩ => ⟨S2x3x1024x5648, .bf16⟩
  | .hbm, ⟨24, _⟩ => ⟨S1x2x1x1024x5648, .bf16⟩
  | .hbm, ⟨25, _⟩ => ⟨S2x1024x5648, .bf16⟩
  | .hbm, ⟨26, _⟩ => ⟨S1x2x1x1024x5648, .bf16⟩
  | .hbm, ⟨27, _⟩ => ⟨S2x1024x5648, .bf16⟩
  | .hbm, ⟨28, _⟩ => ⟨S1x2x1x1024x5648, .bf16⟩
  | .hbm, ⟨29, _⟩ => ⟨S2x1024x5648, .bf16⟩
  | .hbm, ⟨30, _⟩ => ⟨S2x1x1024x5648, .bf16⟩
  | .hbm, ⟨31, _⟩ => ⟨S2x1x1024x5648, .bf16⟩
  | .hbm, ⟨32, _⟩ => ⟨S2x1x1024x5648, .bf16⟩
  | .hbm, ⟨33, _⟩ => ⟨S2x3x1024x5648, .bf16⟩
  | .hbm, ⟨34, _⟩ => ⟨S1x2x1x1024x5648, .bf16⟩
  | .hbm, ⟨35, _⟩ => ⟨S2x1024x5648, .bf16⟩
  | .hbm, ⟨36, _⟩ => ⟨S1x2x1x1024x5648, .bf16⟩
  | .hbm, ⟨37, _⟩ => ⟨S2x1024x5648, .bf16⟩
  | .hbm, ⟨38, _⟩ => ⟨S1x2x1x1024x5648, .bf16⟩
  | .hbm, ⟨39, _⟩ => ⟨S2x1024x5648, .bf16⟩
  | .hbm, ⟨40, _⟩ => ⟨S2x1x1024x5648, .bf16⟩
  | .hbm, ⟨41, _⟩ => ⟨S2x1x1024x5648, .bf16⟩
  | .hbm, ⟨42, _⟩ => ⟨S2x1x1024x5648, .bf16⟩
  | .hbm, ⟨43, _⟩ => ⟨S2x3x1024x5648, .bf16⟩
  | .hbm, ⟨44, _⟩ => ⟨S1x2x3x1024x5648, .bf16⟩
  | .hbm, ⟨45, _⟩ => ⟨S1x2x3x1024x5648, .bf16⟩
  | .hbm, ⟨46, _⟩ => ⟨S1x2x3x1024x5648, .bf16⟩
  | .hbm, ⟨47, _⟩ => ⟨S1x2x3x1024x5648, .bf16⟩
  | .hbm, ⟨48, _⟩ => ⟨S4x2x3x1024x5648, .bf16⟩
  | .hbm, ⟨49, _⟩ => ⟨S24x1024x5648, .bf16⟩
  | .hbm, ⟨50, _⟩ => ⟨S4x2x4x1024x2048, .bf16⟩
  | .hbm, ⟨51, _⟩ => ⟨S4x2x4x1024x2048, .bf16⟩
  | .hbm, ⟨52, _⟩ => ⟨S1x2x1x1024x2048, .bf16⟩
  | .hbm, ⟨53, _⟩ => ⟨S2x1024x2048, .bf16⟩
  | .hbm, ⟨54, _⟩ => ⟨S1x2x1x1024x2048, .bf16⟩
  | .hbm, ⟨55, _⟩ => ⟨S2x1024x2048, .bf16⟩
  | .hbm, ⟨56, _⟩ => ⟨S1x2x1x1024x2048, .bf16⟩
  | .hbm, ⟨57, _⟩ => ⟨S2x1024x2048, .bf16⟩
  | .hbm, ⟨58, _⟩ => ⟨S2x1x1024x2048, .bf16⟩
  | .hbm, ⟨59, _⟩ => ⟨S2x1x1024x2048, .bf16⟩
  | .hbm, ⟨60, _⟩ => ⟨S2x1x1024x2048, .bf16⟩
  | .hbm, ⟨61, _⟩ => ⟨S2x3x1024x2048, .bf16⟩
  | .hbm, ⟨62, _⟩ => ⟨S1x2x1x1024x2048, .bf16⟩
  | .hbm, ⟨63, _⟩ => ⟨S2x1024x2048, .bf16⟩
  | .hbm, ⟨64, _⟩ => ⟨S1x2x1x1024x2048, .bf16⟩
  | .hbm, ⟨65, _⟩ => ⟨S2x1024x2048, .bf16⟩
  | .hbm, ⟨66, _⟩ => ⟨S1x2x1x1024x2048, .bf16⟩
  | .hbm, ⟨67, _⟩ => ⟨S2x1024x2048, .bf16⟩
  | .hbm, ⟨68, _⟩ => ⟨S2x1x1024x2048, .bf16⟩
  | .hbm, ⟨69, _⟩ => ⟨S2x1x1024x2048, .bf16⟩
  | .hbm, ⟨70, _⟩ => ⟨S2x1x1024x2048, .bf16⟩
  | .hbm, ⟨71, _⟩ => ⟨S2x3x1024x2048, .bf16⟩
  | .hbm, ⟨72, _⟩ => ⟨S1x2x1x1024x2048, .bf16⟩
  | .hbm, ⟨73, _⟩ => ⟨S2x1024x2048, .bf16⟩
  | .hbm, ⟨74, _⟩ => ⟨S1x2x1x1024x2048, .bf16⟩
  | .hbm, ⟨75, _⟩ => ⟨S2x1024x2048, .bf16⟩
  | .hbm, ⟨76, _⟩ => ⟨S1x2x1x1024x2048, .bf16⟩
  | .hbm, ⟨77, _⟩ => ⟨S2x1024x2048, .bf16⟩
  | .hbm, ⟨78, _⟩ => ⟨S2x1x1024x2048, .bf16⟩
  | .hbm, ⟨79, _⟩ => ⟨S2x1x1024x2048, .bf16⟩
  | .hbm, ⟨80, _⟩ => ⟨S2x1x1024x2048, .bf16⟩
  | .hbm, ⟨81, _⟩ => ⟨S2x3x1024x2048, .bf16⟩
  | .hbm, ⟨82, _⟩ => ⟨S1x2x1x1024x2048, .bf16⟩
  | .hbm, ⟨83, _⟩ => ⟨S2x1024x2048, .bf16⟩
  | .hbm, ⟨84, _⟩ => ⟨S1x2x1x1024x2048, .bf16⟩
  | .hbm, ⟨85, _⟩ => ⟨S2x1024x2048, .bf16⟩
  | .hbm, ⟨86, _⟩ => ⟨S1x2x1x1024x2048, .bf16⟩
  | .hbm, ⟨87, _⟩ => ⟨S2x1024x2048, .bf16⟩
  | .hbm, ⟨88, _⟩ => ⟨S2x1x1024x2048, .bf16⟩
  | .hbm, ⟨89, _⟩ => ⟨S2x1x1024x2048, .bf16⟩
  | .hbm, ⟨90, _⟩ => ⟨S2x1x1024x2048, .bf16⟩
  | .hbm, ⟨91, _⟩ => ⟨S2x3x1024x2048, .bf16⟩
  | .hbm, ⟨92, _⟩ => ⟨S1x2x3x1024x2048, .bf16⟩
  | .hbm, ⟨93, _⟩ => ⟨S1x2x3x1024x2048, .bf16⟩
  | .hbm, ⟨94, _⟩ => ⟨S1x2x3x1024x2048, .bf16⟩
  | .hbm, ⟨95, _⟩ => ⟨S1x2x3x1024x2048, .bf16⟩
  | .hbm, ⟨96, _⟩ => ⟨S4x2x3x1024x2048, .bf16⟩
  | .hbm, ⟨97, _⟩ => ⟨S24x1024x2048, .bf16⟩
  | _, _ => ⟨S32x1024x5648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_v89 : Ref sig .tc := ⟨.hbm, 91, rfl⟩
abbrev main_v90 : Ref sig .tc := ⟨.hbm, 92, rfl⟩
abbrev main_v91 : Ref sig .tc := ⟨.hbm, 93, rfl⟩
abbrev main_v92 : Ref sig .tc := ⟨.hbm, 94, rfl⟩
abbrev main_v93 : Ref sig .tc := ⟨.hbm, 95, rfl⟩
abbrev main_v94 : Ref sig .tc := ⟨.hbm, 96, rfl⟩
abbrev main_v95 : Ref sig .tc := ⟨.hbm, 97, rfl⟩

abbrev nD : Nat := 1
abbrev τ : Topo := Topo.v7x

variable {F : FTy → Type} [FloatOps F]
-- ==== Weights.lean ====
abbrev S2048x5648 : Shape := ⟨2, ![2048, 5648]⟩
abbrev S2048x2048 : Shape := ⟨2, ![2048, 2048]⟩
abbrev S4x1536 : Shape := ⟨2, ![4, 1536]⟩
abbrev S4x2048x5648 : Shape := ⟨3, ![4, 2048, 5648]⟩
abbrev S4x2048x2048 : Shape := ⟨3, ![4, 2048, 2048]⟩
abbrev S4x4x1536 : Shape := ⟨3, ![4, 4, 1536]⟩
abbrev S15 : Shape := ⟨1, ![15]⟩
abbrev S3 : Shape := ⟨1, ![3]⟩
abbrev S1 : Shape := ⟨1, ![1]⟩
abbrev S_ : Shape := ⟨0, ![]⟩
abbrev S1x2048x5648 : Shape := ⟨3, ![1, 2048, 5648]⟩
abbrev S1x2048x2048 : Shape := ⟨3, ![1, 2048, 2048]⟩
abbrev S1x4x1536 : Shape := ⟨3, ![1, 4, 1536]⟩
abbrev S1x1024x5648 : Shape := ⟨3, ![1, 1024, 5648]⟩
abbrev S1024x5648 : Shape := ⟨2, ![1024, 5648]⟩
abbrev S1x1024x2048 : Shape := ⟨3, ![1, 1024, 2048]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5648, .bf16⟩
  | .hbm, ⟨1, _⟩ => ⟨S2048x2048, .bf16⟩
  | .hbm, ⟨2, _⟩ => ⟨S4x1536, .f32⟩
  | .hbm, ⟨3, _⟩ => ⟨S4x2048x5648, .bf16⟩
  | .hbm, ⟨4, _⟩ => ⟨S4x2048x2048, .bf16⟩
  | .hbm, ⟨5, _⟩ => ⟨S4x4x1536, .f32⟩
  | _, _ => ⟨S2048x5648, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_9 : BitVec 32 := 0#32
  let c0_i32_10 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  ![v10.toNat, 0, 0]
def k0_off3 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_15 : BitVec 32 := 0#32
  let c0_i32_16 : BitVec 32 := 0#32
  ![v10.toNat, 0, 0]
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v28 : BitVec 32 := Scalar.muli v8 c1024_i32
  let c0_i32_25 : BitVec 32 := 0#32
  ![v10.toNat, v28.toNat, 0]
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v28 : BitVec 32 := Scalar.muli v8 c1024_i32
  let c0_i32_26 : BitVec 32 := 0#32
  ![v28.toNat, 0]
def k0_dev1 (d0 : Dev nD) : Nat :=
  let c0_i32_22 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_21 : BitVec 32 := 4#32
  let v31 : BitVec 32 := Scalar.muli v12 c4_i32_21
  let v32 : BitVec 32 := Scalar.addi c0_i32_22 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v33 : BitVec 32 := Scalar.muli v5 c2_i32_23
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v35 : BitVec 32 := Scalar.muli v8 c1_i32_24
  let v36 : BitVec 32 := Scalar.addi v34 v35
  v36.toNat
def k0_off6 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v28 : BitVec 32 := Scalar.muli v8 c1024_i32
  let c0_i32_33 : BitVec 32 := 0#32
  ![v10.toNat, v28.toNat, 0]
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v28 : BitVec 32 := Scalar.muli v8 c1024_i32
  let c0_i32_34 : BitVec 32 := 0#32
  ![v28.toNat, 0]
def k0_dev2 (d0 : Dev nD) : Nat :=
  let c0_i32_30 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_29 : BitVec 32 := 4#32
  let v44 : BitVec 32 := Scalar.muli v12 c4_i32_29
  let v45 : BitVec 32 := Scalar.addi c0_i32_30 v44
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v46 : BitVec 32 := Scalar.muli v5 c2_i32_31
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v48 : BitVec 32 := Scalar.muli v8 c1_i32_32
  let v49 : BitVec 32 := Scalar.addi v47 v48
  v49.toNat
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let c4_i32_36 : BitVec 32 := 4#32
  let v57 : BitVec 32 := Scalar.muli v12 c4_i32_36
  let v58 : BitVec 32 := Scalar.addi c0_i32_37 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v59 : BitVec 32 := Scalar.muli v5 c2_i32_38
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v61 : BitVec 32 := Scalar.muli v8 c1_i32_39
  let v62 : BitVec 32 := Scalar.addi v60 v61
  v62.toNat
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v69 : BitVec 32 := Scalar.muli v2 c4_i32_44
  let v70 : BitVec 32 := Scalar.addi c0_i32_45 v69
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_46 : BitVec 32 := 2#32
  let v71 : BitVec 32 := Scalar.muli v13 c2_i32_46
  let v72 : BitVec 32 := Scalar.addi v70 v71
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v73 : BitVec 32 := Scalar.muli v8 c1_i32_47
  let v74 : BitVec 32 := Scalar.addi v72 v73
  v74.toNat
def k0_dev5 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v82 : BitVec 32 := Scalar.muli v2 c4_i32_51
  let v83 : BitVec 32 := Scalar.addi c0_i32_52 v82
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_53 : BitVec 32 := 2#32
  let v84 : BitVec 32 := Scalar.muli v13 c2_i32_53
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v86 : BitVec 32 := Scalar.muli v8 c1_i32_54
  let v87 : BitVec 32 := Scalar.addi v85 v86
  v87.toNat
def k0_dev6 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v95 : BitVec 32 := Scalar.muli v2 c4_i32_58
  let v96 : BitVec 32 := Scalar.addi c0_i32_59 v95
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let c2_i32_60 : BitVec 32 := 2#32
  let v97 : BitVec 32 := Scalar.muli v13 c2_i32_60
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_61 : BitVec 32 := 1#32
  let v99 : BitVec 32 := Scalar.muli v8 c1_i32_61
  let v100 : BitVec 32 := Scalar.addi v98 v99
  v100.toNat
def k0_dev7 (d0 : Dev nD) : Nat :=
  let c0_i32_67 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_66 : BitVec 32 := 4#32
  let v107 : BitVec 32 := Scalar.muli v14 c4_i32_66
  let v108 : BitVec 32 := Scalar.addi c0_i32_67 v107
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_68 : BitVec 32 := 2#32
  let v109 : BitVec 32 := Scalar.muli v15 c2_i32_68
  let v110 : BitVec 32 := Scalar.addi v108 v109
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_69 : BitVec 32 := 1#32
  let v111 : BitVec 32 := Scalar.muli v8 c1_i32_69
  let v112 : BitVec 32 := Scalar.addi v110 v111
  v112.toNat
def k0_dev8 (d0 : Dev nD) : Nat :=
  let c0_i32_74 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_73 : BitVec 32 := 4#32
  let v120 : BitVec 32 := Scalar.muli v14 c4_i32_73
  let v121 : BitVec 32 := Scalar.addi c0_i32_74 v120
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_75 : BitVec 32 := 2#32
  let v122 : BitVec 32 := Scalar.muli v15 c2_i32_75
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_76 : BitVec 32 := 1#32
  let v124 : BitVec 32 := Scalar.muli v8 c1_i32_76
  let v125 : BitVec 32 := Scalar.addi v123 v124
  v125.toNat
def k0_dev9 (d0 : Dev nD) : Nat :=
  let c0_i32_81 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_80 : BitVec 32 := 4#32
  let v133 : BitVec 32 := Scalar.muli v14 c4_i32_80
  let v134 : BitVec 32 := Scalar.addi c0_i32_81 v133
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_82 : BitVec 32 := 2#32
  let v135 : BitVec 32 := Scalar.muli v15 c2_i32_82
  let v136 : BitVec 32 := Scalar.addi v134 v135
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v137 : BitVec 32 := Scalar.muli v8 c1_i32_83
  let v138 : BitVec 32 := Scalar.addi v136 v137
  v138.toNat
def k0_off8 (d0 : Dev nD) : Fin 3 → Nat :=
  let c2_i32_86 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v145 : BitVec 32 := Scalar.muli c2_i32_86 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v146 : BitVec 32 := Scalar.addi v145 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_87 : BitVec 32 := 1024#32
  let v147 : BitVec 32 := Scalar.muli v8 c1024_i32_87
  let c0_i32_94 : BitVec 32 := 0#32
  ![v146.toNat, v147.toNat, 0]
def k0_off9 (d0 : Dev nD) : Fin 3 → Nat :=
  let c2_i32_86 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v145 : BitVec 32 := Scalar.muli c2_i32_86 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v146 : BitVec 32 := Scalar.addi v145 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_87 : BitVec 32 := 1024#32
  let v147 : BitVec 32 := Scalar.muli v8 c1024_i32_87
  let c0_i32_102 : BitVec 32 := 0#32
  ![v146.toNat, v147.toNat, 0]
def k0_dev10 (d0 : Dev nD) : Nat :=
  let c0_i32_107 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_106 : BitVec 32 := 4#32
  let v173 : BitVec 32 := Scalar.muli v2 c4_i32_106
  let v174 : BitVec 32 := Scalar.addi c0_i32_107 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v175 : BitVec 32 := Scalar.muli v5 c2_i32_108
  let v176 : BitVec 32 := Scalar.addi v174 v175
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_109 : BitVec 32 := 1#32
  let v177 : BitVec 32 := Scalar.muli v11 c1_i32_109
  let v178 : BitVec 32 := Scalar.addi v176 v177
  v178.toNat
def k0_dev11 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v187 : BitVec 32 := Scalar.muli v2 c4_i32_113
  let v188 : BitVec 32 := Scalar.addi c0_i32_114 v187
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v189 : BitVec 32 := Scalar.muli v5 c2_i32_115
  let v190 : BitVec 32 := Scalar.addi v188 v189
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_116 : BitVec 32 := 1#32
  let v191 : BitVec 32 := Scalar.muli v11 c1_i32_116
  let v192 : BitVec 32 := Scalar.addi v190 v191
  v192.toNat
def k0_off10 (d0 : Dev nD) : Fin 3 → Nat :=
  let c2_i32_119 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v201 : BitVec 32 := Scalar.muli c2_i32_119 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v202 : BitVec 32 := Scalar.addi v201 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_120 : BitVec 32 := 1024#32
  let v203 : BitVec 32 := Scalar.muli v8 c1024_i32_120
  let c0_i32_127 : BitVec 32 := 0#32
  ![v202.toNat, v203.toNat, 0]
def k0_off11 (d0 : Dev nD) : Fin 3 → Nat :=
  let c2_i32_119 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v201 : BitVec 32 := Scalar.muli c2_i32_119 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v202 : BitVec 32 := Scalar.addi v201 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_120 : BitVec 32 := 1024#32
  let v203 : BitVec 32 := Scalar.muli v8 c1024_i32_120
  let c0_i32_135 : BitVec 32 := 0#32
  ![v202.toNat, v203.toNat, 0]
def k0_dev12 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_139 : BitVec 32 := 4#32
  let v229 : BitVec 32 := Scalar.muli v2 c4_i32_139
  let v230 : BitVec 32 := Scalar.addi c0_i32_140 v229
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_141 : BitVec 32 := 2#32
  let v231 : BitVec 32 := Scalar.muli v5 c2_i32_141
  let v232 : BitVec 32 := Scalar.addi v230 v231
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_142 : BitVec 32 := 1#32
  let v233 : BitVec 32 := Scalar.muli v11 c1_i32_142
  let v234 : BitVec 32 := Scalar.addi v232 v233
  v234.toNat
def k0_dev13 (d0 : Dev nD) : Nat :=
  let c0_i32_147 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_146 : BitVec 32 := 4#32
  let v243 : BitVec 32 := Scalar.muli v2 c4_i32_146
  let v244 : BitVec 32 := Scalar.addi c0_i32_147 v243
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_148 : BitVec 32 := 2#32
  let v245 : BitVec 32 := Scalar.muli v5 c2_i32_148
  let v246 : BitVec 32 := Scalar.addi v244 v245
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_149 : BitVec 32 := 1#32
  let v247 : BitVec 32 := Scalar.muli v11 c1_i32_149
  let v248 : BitVec 32 := Scalar.addi v246 v247
  v248.toNat
def k0_off12 (d0 : Dev nD) : Fin 3 → Nat :=
  let c2_i32_152 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v257 : BitVec 32 := Scalar.muli c2_i32_152 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v258 : BitVec 32 := Scalar.addi v257 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_153 : BitVec 32 := 1024#32
  let v259 : BitVec 32 := Scalar.muli v8 c1024_i32_153
  let c0_i32_160 : BitVec 32 := 0#32
  ![v258.toNat, v259.toNat, 0]
def k0_off13 (d0 : Dev nD) : Fin 3 → Nat :=
  let c2_i32_152 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v257 : BitVec 32 := Scalar.muli c2_i32_152 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v258 : BitVec 32 := Scalar.addi v257 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_153 : BitVec 32 := 1024#32
  let v259 : BitVec 32 := Scalar.muli v8 c1024_i32_153
  let c0_i32_168 : BitVec 32 := 0#32
  ![v258.toNat, v259.toNat, 0]
def k0_dev14 (d0 : Dev nD) : Nat :=
  let c0_i32_173 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_172 : BitVec 32 := 4#32
  let v285 : BitVec 32 := Scalar.muli v2 c4_i32_172
  let v286 : BitVec 32 := Scalar.addi c0_i32_173 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_174 : BitVec 32 := 2#32
  let v287 : BitVec 32 := Scalar.muli v5 c2_i32_174
  let v288 : BitVec 32 := Scalar.addi v286 v287
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_175 : BitVec 32 := 1#32
  let v289 : BitVec 32 := Scalar.muli v11 c1_i32_175
  let v290 : BitVec 32 := Scalar.addi v288 v289
  v290.toNat
def k0_dev15 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v299 : BitVec 32 := Scalar.muli v2 c4_i32_179
  let v300 : BitVec 32 := Scalar.addi c0_i32_180 v299
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v301 : BitVec 32 := Scalar.muli v5 c2_i32_181
  let v302 : BitVec 32 := Scalar.addi v300 v301
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_182 : BitVec 32 := 1#32
  let v303 : BitVec 32 := Scalar.muli v11 c1_i32_182
  let v304 : BitVec 32 := Scalar.addi v302 v303
  v304.toNat
def k0_off14 (d0 : Dev nD) : Fin 3 → Nat :=
  let c2_i32_185 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v313 : BitVec 32 := Scalar.muli c2_i32_185 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v314 : BitVec 32 := Scalar.addi v313 v5
  let c1_i32_186 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v315 : BitVec 32 := Scalar.subi c1_i32_186 v8
  let c1024_i32_187 : BitVec 32 := 1024#32
  let v316 : BitVec 32 := Scalar.muli v315 c1024_i32_187
  let c0_i32_194 : BitVec 32 := 0#32
  ![v314.toNat, v316.toNat, 0]
def k0_off15 (d0 : Dev nD) : Fin 3 → Nat :=
  let c2_i32_185 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v313 : BitVec 32 := Scalar.muli c2_i32_185 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v314 : BitVec 32 := Scalar.addi v313 v5
  let c1_i32_186 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v315 : BitVec 32 := Scalar.subi c1_i32_186 v8
  let c1024_i32_187 : BitVec 32 := 1024#32
  let v316 : BitVec 32 := Scalar.muli v315 c1024_i32_187
  let c0_i32_202 : BitVec 32 := 0#32
  ![v314.toNat, v316.toNat, 0]
def k0_off16 (d0 : Dev nD) : Fin 3 → Nat :=
  let c2_i32_185 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_5 v2
  let v313 : BitVec 32 := Scalar.muli c2_i32_185 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v314 : BitVec 32 := Scalar.addi v313 v5
  let c0_i32_210 : BitVec 32 := 0#32
  let c0_i32_211 : BitVec 32 := 0#32
  ![v314.toNat, 0, 0]
def k0_off17 (d0 : Dev nD) : Fin 3 → Nat :=
  let c2_i32_212 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v351 : BitVec 32 := Scalar.muli c2_i32_212 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v352 : BitVec 32 := Scalar.addi v351 v13
  let c1_i32_213 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v353 : BitVec 32 := Scalar.subi c1_i32_213 v8
  let c1024_i32_214 : BitVec 32 := 1024#32
  let v354 : BitVec 32 := Scalar.muli v353 c1024_i32_214
  let c0_i32_221 : BitVec 32 := 0#32
  ![v352.toNat, v354.toNat, 0]
def k0_off18 (d0 : Dev nD) : Fin 3 → Nat :=
  let c2_i32_212 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v351 : BitVec 32 := Scalar.muli c2_i32_212 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v352 : BitVec 32 := Scalar.addi v351 v13
  let c1_i32_213 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v353 : BitVec 32 := Scalar.subi c1_i32_213 v8
  let c1024_i32_214 : BitVec 32 := 1024#32
  let v354 : BitVec 32 := Scalar.muli v353 c1024_i32_214
  let c0_i32_229 : BitVec 32 := 0#32
  ![v352.toNat, v354.toNat, 0]
def k0_off19 (d0 : Dev nD) : Fin 3 → Nat :=
  let c2_i32_212 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v351 : BitVec 32 := Scalar.muli c2_i32_212 v2
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_6 v5
  let v352 : BitVec 32 := Scalar.addi v351 v13
  let c0_i32_237 : BitVec 32 := 0#32
  let c0_i32_238 : BitVec 32 := 0#32
  ![v352.toNat, 0, 0]
def k0_off20 (d0 : Dev nD) : Fin 3 → Nat :=
  let c2_i32_239 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v389 : BitVec 32 := Scalar.muli c2_i32_239 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v390 : BitVec 32 := Scalar.addi v389 v15
  let c1_i32_240 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v391 : BitVec 32 := Scalar.subi c1_i32_240 v8
  let c1024_i32_241 : BitVec 32 := 1024#32
  let v392 : BitVec 32 := Scalar.muli v391 c1024_i32_241
  let c0_i32_248 : BitVec 32 := 0#32
  ![v390.toNat, v392.toNat, 0]
def k0_off21 (d0 : Dev nD) : Fin 3 → Nat :=
  let c2_i32_239 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v389 : BitVec 32 := Scalar.muli c2_i32_239 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v390 : BitVec 32 := Scalar.addi v389 v15
  let c1_i32_240 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v391 : BitVec 32 := Scalar.subi c1_i32_240 v8
  let c1024_i32_241 : BitVec 32 := 1024#32
  let v392 : BitVec 32 := Scalar.muli v391 c1024_i32_241
  let c0_i32_256 : BitVec 32 := 0#32
  ![v390.toNat, v392.toNat, 0]
def k0_off22 (d0 : Dev nD) : Fin 3 → Nat :=
  let c2_i32_239 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v389 : BitVec 32 := Scalar.muli c2_i32_239 v14
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let v390 : BitVec 32 := Scalar.addi v389 v15
  let c0_i32_264 : BitVec 32 := 0#32
  let c0_i32_265 : BitVec 32 := 0#32
  ![v390.toNat, 0, 0]
-- ==== WeightsRef.lean ====
abbrev S2048x22592 : Shape := ⟨2, ![2048, 22592]⟩
abbrev S8192x2048 : Shape := ⟨2, ![8192, 2048]⟩
abbrev S4x6144 : Shape := ⟨2, ![4, 6144]⟩
abbrev S2048x4x5648 : Shape := ⟨3, ![2048, 4, 5648]⟩
abbrev S4x2048x5648 : Shape := ⟨3, ![4, 2048, 5648]⟩
abbrev S4x2048x2048 : Shape := ⟨3, ![4, 2048, 2048]⟩
abbrev S4x4x1536 : Shape := ⟨3, ![4, 4, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x22592, .bf16⟩
  | .hbm, ⟨1, _⟩ => ⟨S8192x2048, .bf16⟩
  | .hbm, ⟨2, _⟩ => ⟨S4x6144, .f32⟩
  | .hbm, ⟨3, _⟩ => ⟨S2048x4x5648, .bf16⟩
  | .hbm, ⟨4, _⟩ => ⟨S4x2048x5648, .bf16⟩
  | .hbm, ⟨5, _⟩ => ⟨S4x2048x2048, .bf16⟩
  | .hbm, ⟨6, _⟩ => ⟨S4x4x1536, .f32⟩
  | .hbm, ⟨7, _⟩ => ⟨S4x4x1536, .f32⟩
  | _, _ => ⟨S2048x22592, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Vec.lean ====
abbrev S1x39296 : Shape := ⟨2, ![1, 39296]⟩
abbrev S8x39296 : Shape := ⟨2, ![8, 39296]⟩
abbrev S7 : Shape := ⟨1, ![7]⟩
abbrev S_ : Shape := ⟨0, ![]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1x39296, .f32⟩
  | .hbm, ⟨1, _⟩ => ⟨S8x39296, .f32⟩
  | _, _ => ⟨S1x39296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 2 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32 : BitVec 32 := 0#32
  ![v12.toNat, 0]
def k0_dev1 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v14 : BitVec 32 := Scalar.xori v2 c0_i32_5
  let c4_i32_28 : BitVec 32 := 4#32
  let v35 : BitVec 32 := Scalar.muli v14 c4_i32_28
  let v36 : BitVec 32 := Scalar.addi c0_i32_29 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_6 : BitVec 32 := 0#32
  let v15 : BitVec 32 := Scalar.xori v5 c0_i32_6
  let c2_i32_30 : BitVec 32 := 2#32
  let v37 : BitVec 32 := Scalar.muli v15 c2_i32_30
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v16 : BitVec 32 := Scalar.xori v8 c1_i32_7
  let c1_i32_31 : BitVec 32 := 1#32
  let v39 : BitVec 32 := Scalar.muli v16 c1_i32_31
  let v40 : BitVec 32 := Scalar.addi v38 v39
  v40.toNat
def k0_dev2 (d0 : Dev nD) : Nat :=
  let c0_i32_36 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_8 : BitVec 32 := 0#32
  let v17 : BitVec 32 := Scalar.xori v2 c0_i32_8
  let c4_i32_35 : BitVec 32 := 4#32
  let v46 : BitVec 32 := Scalar.muli v17 c4_i32_35
  let v47 : BitVec 32 := Scalar.addi c0_i32_36 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v18 : BitVec 32 := Scalar.xori v5 c1_i32_9
  let c2_i32_37 : BitVec 32 := 2#32
  let v48 : BitVec 32 := Scalar.muli v18 c2_i32_37
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_10 : BitVec 32 := 0#32
  let v19 : BitVec 32 := Scalar.xori v8 c0_i32_10
  let c1_i32_38 : BitVec 32 := 1#32
  let v50 : BitVec 32 := Scalar.muli v19 c1_i32_38
  let v51 : BitVec 32 := Scalar.addi v49 v50
  v51.toNat
def k0_dev3 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_11 : BitVec 32 := 0#32
  let v20 : BitVec 32 := Scalar.xori v2 c0_i32_11
  let c4_i32_42 : BitVec 32 := 4#32
  let v57 : BitVec 32 := Scalar.muli v20 c4_i32_42
  let v58 : BitVec 32 := Scalar.addi c0_i32_43 v57
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_12 : BitVec 32 := 1#32
  let v21 : BitVec 32 := Scalar.xori v5 c1_i32_12
  let c2_i32_44 : BitVec 32 := 2#32
  let v59 : BitVec 32 := Scalar.muli v21 c2_i32_44
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.xori v8 c1_i32_13
  let c1_i32_45 : BitVec 32 := 1#32
  let v61 : BitVec 32 := Scalar.muli v22 c1_i32_45
  let v62 : BitVec 32 := Scalar.addi v60 v61
  v62.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_14 : BitVec 32 := 1#32
  let v23 : BitVec 32 := Scalar.xori v2 c1_i32_14
  let c4_i32_48 : BitVec 32 := 4#32
  let v68 : BitVec 32 := Scalar.muli v23 c4_i32_48
  let v69 : BitVec 32 := Scalar.addi c0_i32_49 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_15 : BitVec 32 := 0#32
  let v24 : BitVec 32 := Scalar.xori v5 c0_i32_15
  let c2_i32_50 : BitVec 32 := 2#32
  let v70 : BitVec 32 := Scalar.muli v24 c2_i32_50
  let v71 : BitVec 32 := Scalar.addi v69 v70
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_16 : BitVec 32 := 0#32
  let v25 : BitVec 32 := Scalar.xori v8 c0_i32_16
  let c1_i32_51 : BitVec 32 := 1#32
  let v72 : BitVec 32 := Scalar.muli v25 c1_i32_51
  let v73 : BitVec 32 := Scalar.addi v71 v72
  v73.toNat
def k0_dev5 (d0 : Dev nD) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_17 : BitVec 32 := 1#32
  let v26 : BitVec 32 := Scalar.xori v2 c1_i32_17
  let c4_i32_55 : BitVec 32 := 4#32
  let v79 : BitVec 32 := Scalar.muli v26 c4_i32_55
  let v80 : BitVec 32 := Scalar.addi c0_i32_56 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_18 : BitVec 32 := 0#32
  let v27 : BitVec 32 := Scalar.xori v5 c0_i32_18
  let c2_i32_57 : BitVec 32 := 2#32
  let v81 : BitVec 32 := Scalar.muli v27 c2_i32_57
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v28 : BitVec 32 := Scalar.xori v8 c1_i32_19
  let c1_i32_58 : BitVec 32 := 1#32
  let v83 : BitVec 32 := Scalar.muli v28 c1_i32_58
  let v84 : BitVec 32 := Scalar.addi v82 v83
  v84.toNat
def k0_dev6 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_20 : BitVec 32 := 1#32
  let v29 : BitVec 32 := Scalar.xori v2 c1_i32_20
  let c4_i32_61 : BitVec 32 := 4#32
  let v90 : BitVec 32 := Scalar.muli v29 c4_i32_61
  let v91 : BitVec 32 := Scalar.addi c0_i32_62 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_21 : BitVec 32 := 1#32
  let v30 : BitVec 32 := Scalar.xori v5 c1_i32_21
  let c2_i32_63 : BitVec 32 := 2#32
  let v92 : BitVec 32 := Scalar.muli v30 c2_i32_63
  let v93 : BitVec 32 := Scalar.addi v91 v92
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_22 : BitVec 32 := 0#32
  let v31 : BitVec 32 := Scalar.xori v8 c0_i32_22
  let c1_i32_64 : BitVec 32 := 1#32
  let v94 : BitVec 32 := Scalar.muli v31 c1_i32_64
  let v95 : BitVec 32 := Scalar.addi v93 v94
  v95.toNat
def k0_dev7 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_23 : BitVec 32 := 1#32
  let v32 : BitVec 32 := Scalar.xori v2 c1_i32_23
  let c4_i32_67 : BitVec 32 := 4#32
  let v101 : BitVec 32 := Scalar.muli v32 c4_i32_67
  let v102 : BitVec 32 := Scalar.addi c0_i32_68 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_24 : BitVec 32 := 1#32
  let v33 : BitVec 32 := Scalar.xori v5 c1_i32_24
  let c2_i32_69 : BitVec 32 := 2#32
  let v103 : BitVec 32 := Scalar.muli v33 c2_i32_69
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v34 : BitVec 32 := Scalar.xori v8 c1_i32_25
  let c1_i32_70 : BitVec 32 := 1#32
  let v105 : BitVec 32 := Scalar.muli v34 c1_i32_70
  let v106 : BitVec 32 := Scalar.addi v104 v105
  v106.toNat
def k0_off2 (d0 : Dev nD) (c0_i32_72 : BitVec 32) (c0_i32_74 : BitVec 32) (c1_i32_76 : BitVec 32) : Fin 2 → Nat :=
  let c4_i32_73 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v112 : BitVec 32 := Scalar.xori v2 c0_i32_72
  let v113 : BitVec 32 := Scalar.muli c4_i32_73 v112
  let c2_i32_75 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v114 : BitVec 32 := Scalar.xori v5 c0_i32_74
  let v115 : BitVec 32 := Scalar.muli c2_i32_75 v114
  let v116 : BitVec 32 := Scalar.addi v113 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v117 : BitVec 32 := Scalar.xori v8 c1_i32_76
  let v118 : BitVec 32 := Scalar.addi v116 v117
  let c0_i32_83 : BitVec 32 := 0#32
  ![v118.toNat, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== VecRef.lean ====
abbrev S8x39296 : Shape := ⟨2, ![8, 39296]⟩

abbrev nBuf : Space → Nat
  | .hbm => 1
  | .vmem => 0
  | .smem => 0
  | _ => 0

abbrev bufTy : (tb : Table) → Fin (tcTables nBuf tb) → BufTy
  | .hbm, ⟨0, _⟩ => ⟨S8x39296, .f32⟩
  | _, _ => ⟨S8x39296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Sum.lean ====
abbrev S8x39296 : Shape := ⟨2, ![8, 39296]⟩
abbrev S1x39296 : Shape := ⟨2, ![1, 39296]⟩

abbrev nBuf : Space → Nat
  | .hbm => 2
  | .vmem => 2
  | .smem => 0
  | _ => 0

abbrev bufTy : (tb : Table) → Fin (tcTables nBuf tb) → BufTy
  | .hbm, ⟨0, _⟩ => ⟨S8x39296, .f32⟩
  | .hbm, ⟨1, _⟩ => ⟨S1x39296, .f32⟩
  | .local _ .vmem, ⟨0, _⟩ => ⟨S8x39296, .f32⟩
  | .local _ .vmem, ⟨1, _⟩ => ⟨S1x39296, .f32⟩
  | _, _ => ⟨S8x39296, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x39296 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x39296 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumRefIdeal.lean ====
abbrev S8x39296 : Shape := ⟨2, ![8, 39296]⟩
abbrev S_ : Shape := ⟨0, ![]⟩
abbrev S39296 : Shape := ⟨1, ![39296]⟩
abbrev S1x39296 : Shape := ⟨2, ![1, 39296]⟩

abbrev nBuf : Space → Nat
  | .hbm => 4
  | .vmem => 0
  | .smem => 0
  | _ => 0

abbrev bufTy : (tb : Table) → Fin (tcTables nBuf tb) → BufTy
  | .hbm, ⟨0, _⟩ => ⟨S8x39296, .f32⟩
  | .hbm, ⟨1, _⟩ => ⟨S_, .f32⟩
  | .hbm, ⟨2, _⟩ => ⟨S39296, .f32⟩
  | .hbm, ⟨3, _⟩ => ⟨S1x39296, .f32⟩
  | _, _ => ⟨S8x39296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamIn.lean ====
abbrev S2048x5648 : Shape := ⟨2, ![2048, 5648]⟩
abbrev S128x5648 : Shape := ⟨2, ![128, 5648]⟩

abbrev nBuf : Space → Nat
  | .hbm => 7
  | .vmem => 14
  | .smem => 0
  | _ => 0

abbrev bufTy : (tb : Table) → Fin (tcTables nBuf tb) → BufTy
  | .hbm, ⟨0, _⟩ => ⟨S2048x5648, .f32⟩
  | .hbm, ⟨1, _⟩ => ⟨S2048x5648, .f32⟩
  | .hbm, ⟨2, _⟩ => ⟨S2048x5648, .f32⟩
  | .hbm, ⟨3, _⟩ => ⟨S2048x5648, .f32⟩
  | .hbm, ⟨4, _⟩ => ⟨S2048x5648, .f32⟩
  | .hbm, ⟨5, _⟩ => ⟨S2048x5648, .f32⟩
  | .hbm, ⟨6, _⟩ => ⟨S2048x5648, .f32⟩
  | .local _ .vmem, ⟨0, _⟩ => ⟨S128x5648, .f32⟩
  | .local _ .vmem, ⟨1, _⟩ => ⟨S128x5648, .f32⟩
  | .local _ .vmem, ⟨2, _⟩ => ⟨S128x5648, .f32⟩
  | .local _ .vmem, ⟨3, _⟩ => ⟨S128x5648, .f32⟩
  | .local _ .vmem, ⟨4, _⟩ => ⟨S128x5648, .f32⟩
  | .local _ .vmem, ⟨5, _⟩ => ⟨S128x5648, .f32⟩
  | .local _ .vmem, ⟨6, _⟩ => ⟨S128x5648, .f32⟩
  | .local _ .vmem, ⟨7, _⟩ => ⟨S128x5648, .f32⟩
  | .local _ .vmem, ⟨8, _⟩ => ⟨S128x5648, .f32⟩
  | .local _ .vmem, ⟨9, _⟩ => ⟨S128x5648, .f32⟩
  | .local _ .vmem, ⟨10, _⟩ => ⟨S128x5648, .f32⟩
  | .local _ .vmem, ⟨11, _⟩ => ⟨S128x5648, .f32⟩
  | .local _ .vmem, ⟨12, _⟩ => ⟨S128x5648, .f32⟩
  | .local _ .vmem, ⟨13, _⟩ => ⟨S128x5648, .f32⟩
  | _, _ => ⟨S2048x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x5648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x5648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2048x5648 : Shape := ⟨2, ![2048, 5648]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x5648, .f32⟩
  | .hbm, ⟨1, _⟩ => ⟨S2048x5648, .f32⟩
  | .hbm, ⟨2, _⟩ => ⟨S2048x5648, .f32⟩
  | .hbm, ⟨3, _⟩ => ⟨S2048x5648, .f32⟩
  | .hbm, ⟨4, _⟩ => ⟨S_, .f32⟩
  | .hbm, ⟨5, _⟩ => ⟨S2048x5648, .f32⟩
  | .hbm, ⟨6, _⟩ => ⟨S2048x5648, .f32⟩
  | .hbm, ⟨7, _⟩ => ⟨S_, .f32⟩
  | .hbm, ⟨8, _⟩ => ⟨S2048x5648, .f32⟩
  | .hbm, ⟨9, _⟩ => ⟨S2048x5648, .f32⟩
  | .hbm, ⟨10, _⟩ => ⟨S2048x5648, .f32⟩
  | .hbm, ⟨11, _⟩ => ⟨S_, .f32⟩
  | .hbm, ⟨12, _⟩ => ⟨S2048x5648, .f32⟩
  | .hbm, ⟨13, _⟩ => ⟨S2048x5648, .f32⟩
  | .hbm, ⟨14, _⟩ => ⟨S2048x5648, .f32⟩
  | .hbm, ⟨15, _⟩ => ⟨S_, .f32⟩
  | .hbm, ⟨16, _⟩ => ⟨S2048x5648, .f32⟩
  | .hbm, ⟨17, _⟩ => ⟨S2048x5648, .f32⟩
  | .hbm, ⟨18, _⟩ => ⟨S2048x5648, .f32⟩
  | .hbm, ⟨19, _⟩ => ⟨S_, .f32⟩
  | .hbm, ⟨20, _⟩ => ⟨S2048x5648, .f32⟩
  | .hbm, ⟨21, _⟩ => ⟨S2048x5648, .f32⟩
  | .hbm, ⟨22, _⟩ => ⟨S_, .f32⟩
  | .hbm, ⟨23, _⟩ => ⟨S2048x5648, .f32⟩
  | .hbm, ⟨24, _⟩ => ⟨S2048x5648, .f32⟩
  | .hbm, ⟨25, _⟩ => ⟨S2048x5648, .f32⟩
  | .hbm, ⟨26, _⟩ => ⟨S_, .f32⟩
  | .hbm, ⟨27, _⟩ => ⟨S2048x5648, .f32⟩
  | .hbm, ⟨28, _⟩ => ⟨S2048x5648, .f32⟩
  | .hbm, ⟨29, _⟩ => ⟨S2048x5648, .f32⟩
  | .hbm, ⟨30, _⟩ => ⟨S_, .f32⟩
  | .hbm, ⟨31, _⟩ => ⟨S2048x5648, .f32⟩
  | .hbm, ⟨32, _⟩ => ⟨S2048x5648, .f32⟩
  | .hbm, ⟨33, _⟩ => ⟨S2048x5648, .f32⟩
  | .hbm, ⟨34, _⟩ => ⟨S_, .f32⟩
  | .hbm, ⟨35, _⟩ => ⟨S2048x5648, .f32⟩
  | .hbm, ⟨36, _⟩ => ⟨S2048x5648, .f32⟩
  | _, _ => ⟨S2048x5648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRet.lean ====
abbrev S512x2048 : Shape := ⟨2, ![512, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRetRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsd.lean ====
abbrev S1024x2048 : Shape := ⟨2, ![1024, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSsdRefIdeal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x20736 : Shape := ⟨2, ![1, 20736]⟩

abbrev nBuf : Space → Nat
  | .hbm => 7
  | .vmem => 7
  | .smem => 0
  | _ => 0

abbrev bufTy : (tb : Table) → Fin (tcTables nBuf tb) → BufTy
  | .hbm, ⟨0, _⟩ => ⟨S1x20736, .f32⟩
  | .hbm, ⟨1, _⟩ => ⟨S1x20736, .f32⟩
  | .hbm, ⟨2, _⟩ => ⟨S1x20736, .f32⟩
  | .hbm, ⟨3, _⟩ => ⟨S1x20736, .f32⟩
  | .hbm, ⟨4, _⟩ => ⟨S1x20736, .f32⟩
  | .hbm, ⟨5, _⟩ => ⟨S1x20736, .f32⟩
  | .hbm, ⟨6, _⟩ => ⟨S1x20736, .f32⟩
  | .local _ .vmem, ⟨0, _⟩ => ⟨S1x20736, .f32⟩
  | .local _ .vmem, ⟨1, _⟩ => ⟨S1x20736, .f32⟩
  | .local _ .vmem, ⟨2, _⟩ => ⟨S1x20736, .f32⟩
  | .local _ .vmem, ⟨3, _⟩ => ⟨S1x20736, .f32⟩
  | .local _ .vmem, ⟨4, _⟩ => ⟨S1x20736, .f32⟩
  | .local _ .vmem, ⟨5, _⟩ => ⟨S1x20736, .f32⟩
  | .local _ .vmem, ⟨6, _⟩ => ⟨S1x20736, .f32⟩
  | _, _ => ⟨S1x20736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x20736 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x20736 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x20736 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x20736 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x20736 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x20736 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x20736 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S1x20736 : Shape := ⟨2, ![1, 20736]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x20736, .f32⟩
  | .hbm, ⟨1, _⟩ => ⟨S1x20736, .f32⟩
  | .hbm, ⟨2, _⟩ => ⟨S1x20736, .f32⟩
  | .hbm, ⟨3, _⟩ => ⟨S1x20736, .f32⟩
  | .hbm, ⟨4, _⟩ => ⟨S_, .f32⟩
  | .hbm, ⟨5, _⟩ => ⟨S1x20736, .f32⟩
  | .hbm, ⟨6, _⟩ => ⟨S1x20736, .f32⟩
  | .hbm, ⟨7, _⟩ => ⟨S_, .f32⟩
  | .hbm, ⟨8, _⟩ => ⟨S1x20736, .f32⟩
  | .hbm, ⟨9, _⟩ => ⟨S1x20736, .f32⟩
  | .hbm, ⟨10, _⟩ => ⟨S1x20736, .f32⟩
  | .hbm, ⟨11, _⟩ => ⟨S_, .f32⟩
  | .hbm, ⟨12, _⟩ => ⟨S1x20736, .f32⟩
  | .hbm, ⟨13, _⟩ => ⟨S1x20736, .f32⟩
  | .hbm, ⟨14, _⟩ => ⟨S1x20736, .f32⟩
  | .hbm, ⟨15, _⟩ => ⟨S_, .f32⟩
  | .hbm, ⟨16, _⟩ => ⟨S1x20736, .f32⟩
  | .hbm, ⟨17, _⟩ => ⟨S1x20736, .f32⟩
  | .hbm, ⟨18, _⟩ => ⟨S1x20736, .f32⟩
  | .hbm, ⟨19, _⟩ => ⟨S_, .f32⟩
  | .hbm, ⟨20, _⟩ => ⟨S1x20736, .f32⟩
  | .hbm, ⟨21, _⟩ => ⟨S1x20736, .f32⟩
  | .hbm, ⟨22, _⟩ => ⟨S_, .f32⟩
  | .hbm, ⟨23, _⟩ => ⟨S1x20736, .f32⟩
  | .hbm, ⟨24, _⟩ => ⟨S1x20736, .f32⟩
  | .hbm, ⟨25, _⟩ => ⟨S1x20736, .f32⟩
  | .hbm, ⟨26, _⟩ => ⟨S_, .f32⟩
  | .hbm, ⟨27, _⟩ => ⟨S1x20736, .f32⟩
  | .hbm, ⟨28, _⟩ => ⟨S1x20736, .f32⟩
  | .hbm, ⟨29, _⟩ => ⟨S1x20736, .f32⟩
  | .hbm, ⟨30, _⟩ => ⟨S_, .f32⟩
  | .hbm, ⟨31, _⟩ => ⟨S1x20736, .f32⟩
  | .hbm, ⟨32, _⟩ => ⟨S1x20736, .f32⟩
  | .hbm, ⟨33, _⟩ => ⟨S1x20736, .f32⟩
  | .hbm, ⟨34, _⟩ => ⟨S_, .f32⟩
  | .hbm, ⟨35, _⟩ => ⟨S1x20736, .f32⟩
  | .hbm, ⟨36, _⟩ => ⟨S1x20736, .f32⟩
  | _, _ => ⟨S1x20736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormB.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Final.lean ====
abbrev S8192x2048 : Shape := ⟨2, ![8192, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x1, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x1, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FinalRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S1x1, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Merge.lean ====
abbrev S8192x2048 : Shape := ⟨2, ![8192, 2048]⟩
abbrev S8192x22528 : Shape := ⟨2, ![8192, 22528]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x22528, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeRefIdeal.lean ====
abbrev S8192x2048 : Shape := ⟨2, ![8192, 2048]⟩
abbrev S8192x22528 : Shape := ⟨2, ![8192, 22528]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x22528, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeB.lean ====
abbrev S8192x2048 : Shape := ⟨2, ![8192, 2048]⟩
abbrev S8192x22528 : Shape := ⟨2, ![8192, 22528]⟩
abbrev S256x2048 : Shape := ⟨2, ![256, 2048]⟩

abbrev nBuf : Space → Nat
  | .hbm => 8
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x22528, .f32⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeBRefIdeal.lean ====
abbrev S8192x2048 : Shape := ⟨2, ![8192, 2048]⟩
abbrev S8192x22528 : Shape := ⟨2, ![8192, 22528]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x22528, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | .hbm, ⟨37, _⟩ => ⟨S8192x2048, .bf16⟩
  | .hbm, ⟨38, _⟩ => ⟨S8192x2048, .bf16⟩
  | .hbm, ⟨39, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Gated.lean ====
abbrev S8192x4096 : Shape := ⟨2, ![8192, 4096]⟩
abbrev S8192x22528 : Shape := ⟨2, ![8192, 22528]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x22528, .f32⟩
  | .hbm, ⟨2, _⟩ => ⟨S1x4096, .f32⟩
  | .hbm, ⟨3, _⟩ => ⟨S8192x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .bf16⟩
  | .local _ .vmem, ⟨6, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatedRefIdeal.lean ====
abbrev S8192x4096 : Shape := ⟨2, ![8192, 4096]⟩
abbrev S8192x22528 : Shape := ⟨2, ![8192, 22528]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x22528, .f32⟩
  | .hbm, ⟨2, _⟩ => ⟨S1x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== GatedB.lean ====
abbrev S8192x4096 : Shape := ⟨2, ![8192, 4096]⟩
abbrev S8192x22528 : Shape := ⟨2, ![8192, 22528]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x22528, .f32⟩
  | .hbm, ⟨2, _⟩ => ⟨S1x4096, .f32⟩
  | .hbm, ⟨3, _⟩ => ⟨S8192x4096, .f32⟩
  | .hbm, ⟨4, _⟩ => ⟨S8192x4096, .f32⟩
  | .hbm, ⟨5, _⟩ => ⟨S8192x4096, .bf16⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .bf16⟩
  | .local _ .vmem, ⟨10, _⟩ => ⟨S128x4096, .bf16⟩
  | .local _ .vmem, ⟨11, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GatedBRefIdeal.lean ====
abbrev S8192x4096 : Shape := ⟨2, ![8192, 4096]⟩
abbrev S8192x22528 : Shape := ⟨2, ![8192, 22528]⟩
abbrev S1x4096 : Shape := ⟨2, ![1, 4096]⟩
abbrev S_ : Shape := ⟨0, ![]⟩
abbrev S8192 : Shape := ⟨1, ![8192]⟩
abbrev S8192x1 : Shape := ⟨2, ![8192, 1]⟩
abbrev S4096 : Shape := ⟨1, ![4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x22528, .f32⟩
  | .hbm, ⟨2, _⟩ => ⟨S1x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .bf16⟩
  | .hbm, ⟨55, _⟩ => ⟨S8192x4096, .f32⟩
  | .hbm, ⟨56, _⟩ => ⟨S_, .f32⟩
  | .hbm, ⟨57, _⟩ => ⟨S4096, .f32⟩
  | .hbm, ⟨58, _⟩ => ⟨S1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== ProjMain.lean ====
abbrev S8192x2048 : Shape := ⟨2, ![8192, 2048]⟩
abbrev S2048x22528 : Shape := ⟨2, ![2048, 22528]⟩
abbrev S8192x22528 : Shape := ⟨2, ![8192, 22528]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x22528, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainIdeal.lean ====
abbrev S8192x2048 : Shape := ⟨2, ![8192, 2048]⟩
abbrev S2048x22528 : Shape := ⟨2, ![2048, 22528]⟩
abbrev S8192x22528 : Shape := ⟨2, ![8192, 22528]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x22528, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjMainRefIdeal.lean ====
abbrev S8192x2048 : Shape := ⟨2, ![8192, 2048]⟩
abbrev S2048x22528 : Shape := ⟨2, ![2048, 22528]⟩
abbrev S8192x22528 : Shape := ⟨2, ![8192, 22528]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x22528, .bf16⟩
  | .hbm, ⟨2, _⟩ => ⟨S8192x22528, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BranchSsd.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSsdIdeal.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchSsdRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DYr.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYrIdeal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYrRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DMerged.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  let v4 : BitVec 32 := Scalar.addi c0_i32_2 v3
  let c0_i32_3 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedIdeal.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  let v4 : BitVec 32 := Scalar.addi c0_i32_2 v3
  let c0_i32_3 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .bf16⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GOut.lean ====
abbrev S2048x8192 : Shape := ⟨2, ![2048, 8192]⟩
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutIdeal.lean ====
abbrev S2048x8192 : Shape := ⟨2, ![2048, 8192]⟩
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .f32⟩
  | .hbm, ⟨2, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairIn.lean ====
abbrev S1 : Shape := ⟨1, ![1]⟩
abbrev S2x4x1024x5648 : Shape := ⟨4, ![2, 4, 1024, 5648]⟩
abbrev S4x1024x5648 : Shape := ⟨3, ![4, 1024, 5648]⟩
abbrev S1x1x128x5648 : Shape := ⟨4, ![1, 1, 128, 5648]⟩
abbrev S1x128x5648 : Shape := ⟨3, ![1, 128, 5648]⟩
abbrev S128x5648 : Shape := ⟨2, ![128, 5648]⟩

abbrev nBuf : Space → Nat
  | .hbm => 3
  | .vmem => 6
  | .smem => 1
  | _ => 0

abbrev bufTy : (tb : Table) → Fin (tcTables nBuf tb) → BufTy
  | .hbm, ⟨0, _⟩ => ⟨S2x4x1024x5648, .f32⟩
  | .hbm, ⟨1, _⟩ => ⟨S4x1024x5648, .f32⟩
  | .hbm, ⟨2, _⟩ => ⟨S4x1024x5648, .bf16⟩
  | .local _ .vmem, ⟨0, _⟩ => ⟨S1x1x128x5648, .f32⟩
  | .local _ .vmem, ⟨1, _⟩ => ⟨S1x1x128x5648, .f32⟩
  | .local _ .vmem, ⟨2, _⟩ => ⟨S1x128x5648, .f32⟩
  | .local _ .vmem, ⟨3, _⟩ => ⟨S1x128x5648, .f32⟩
  | .local _ .vmem, ⟨4, _⟩ => ⟨S1x128x5648, .bf16⟩
  | .local _ .vmem, ⟨5, _⟩ => ⟨S1x128x5648, .bf16⟩
  | .local _ .smem, ⟨0, _⟩ => ⟨S1, .i32⟩
  | _, _ => ⟨S2x4x1024x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x5648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x5648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x5648 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairInRefIdeal.lean ====
abbrev S1 : Shape := ⟨1, ![1]⟩
abbrev S2x4x1024x5648 : Shape := ⟨4, ![2, 4, 1024, 5648]⟩
abbrev S4x1024x5648 : Shape := ⟨3, ![4, 1024, 5648]⟩
abbrev S_ : Shape := ⟨0, ![]⟩
abbrev S1x4x1024x5648 : Shape := ⟨4, ![1, 4, 1024, 5648]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x1024x5648, .f32⟩
  | .hbm, ⟨2, _⟩ => ⟨S4x1024x5648, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1x4x1024x5648, .f32⟩
  | .hbm, ⟨13, _⟩ => ⟨S4x1024x5648, .f32⟩
  | .hbm, ⟨14, _⟩ => ⟨S4x1024x5648, .f32⟩
  | .hbm, ⟨15, _⟩ => ⟨S4x1024x5648, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== PairB.lean ====
abbrev S1 : Shape := ⟨1, ![1]⟩
abbrev S2x4x1024x2048 : Shape := ⟨4, ![2, 4, 1024, 2048]⟩
abbrev S4x1024x2048 : Shape := ⟨3, ![4, 1024, 2048]⟩
abbrev S1x1x128x2048 : Shape := ⟨4, ![1, 1, 128, 2048]⟩
abbrev S1x128x2048 : Shape := ⟨3, ![1, 128, 2048]⟩
abbrev S128x2048 : Shape := ⟨2, ![128, 2048]⟩

abbrev nBuf : Space → Nat
  | .hbm => 3
  | .vmem => 6
  | .smem => 1
  | _ => 0

abbrev bufTy : (tb : Table) → Fin (tcTables nBuf tb) → BufTy
  | .hbm, ⟨0, _⟩ => ⟨S2x4x1024x2048, .f32⟩
  | .hbm, ⟨1, _⟩ => ⟨S4x1024x2048, .f32⟩
  | .hbm, ⟨2, _⟩ => ⟨S4x1024x2048, .bf16⟩
  | .local _ .vmem, ⟨0, _⟩ => ⟨S1x1x128x2048, .f32⟩
  | .local _ .vmem, ⟨1, _⟩ => ⟨S1x1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .bf16⟩
  | .local _ .vmem, ⟨5, _⟩ => ⟨S1x128x2048, .bf16⟩
  | .local _ .smem, ⟨0, _⟩ => ⟨S1, .i32⟩
  | _, _ => ⟨S2x4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairBRefIdeal.lean ====
abbrev S1 : Shape := ⟨1, ![1]⟩
abbrev S2x4x1024x2048 : Shape := ⟨4, ![2, 4, 1024, 2048]⟩
abbrev S4x1024x2048 : Shape := ⟨3, ![4, 1024, 2048]⟩
abbrev S_ : Shape := ⟨0, ![]⟩
abbrev S1x4x1024x2048 : Shape := ⟨4, ![1, 4, 1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x4x1024x2048, .f32⟩
  | .hbm, ⟨2, _⟩ => ⟨S4x1024x2048, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1x4x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== OwnIn.lean ====
abbrev S2 : Shape := ⟨1, ![2]⟩
abbrev S2x4x1024x5648 : Shape := ⟨4, ![2, 4, 1024, 5648]⟩
abbrev S4x1024x5648 : Shape := ⟨3, ![4, 1024, 5648]⟩
abbrev S3x1024x5648 : Shape := ⟨3, ![3, 1024, 5648]⟩
abbrev S1024x5648 : Shape := ⟨2, ![1024, 5648]⟩
abbrev S1x1x128x5648 : Shape := ⟨4, ![1, 1, 128, 5648]⟩
abbrev S1 : Shape := ⟨1, ![1]⟩
abbrev S1x128x5648 : Shape := ⟨3, ![1, 128, 5648]⟩
abbrev S3x128x5648 : Shape := ⟨3, ![3, 128, 5648]⟩
abbrev S128x5648 : Shape := ⟨2, ![128, 5648]⟩

abbrev nBuf : Space → Nat
  | .hbm => 4
  | .vmem => 8
  | .smem => 1
  | _ => 0

abbrev bufTy : (tb : Table) → Fin (tcTables nBuf tb) → BufTy
  | .hbm, ⟨0, _⟩ => ⟨S2x4x1024x5648, .f32⟩
  | .hbm, ⟨1, _⟩ => ⟨S4x1024x5648, .f32⟩
  | .hbm, ⟨2, _⟩ => ⟨S3x1024x5648, .bf16⟩
  | .hbm, ⟨3, _⟩ => ⟨S1024x5648, .f32⟩
  | .local _ .vmem, ⟨0, _⟩ => ⟨S1x1x128x5648, .f32⟩
  | .local _ .vmem, ⟨1, _⟩ => ⟨S1x1x128x5648, .f32⟩
  | .local _ .vmem, ⟨2, _⟩ => ⟨S1x128x5648, .f32⟩
  | .local _ .vmem, ⟨3, _⟩ => ⟨S1x128x5648, .f32⟩
  | .local _ .vmem, ⟨4, _⟩ => ⟨S3x128x5648, .bf16⟩
  | .local _ .vmem, ⟨5, _⟩ => ⟨S3x128x5648, .bf16⟩
  | .local _ .vmem, ⟨6, _⟩ => ⟨S128x5648, .f32⟩
  | .local _ .vmem, ⟨7, _⟩ => ⟨S128x5648, .f32⟩
  | .local _ .smem, ⟨0, _⟩ => ⟨S2, .i32⟩
  | _, _ => ⟨S2x4x1024x5648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x128x5648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x5648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x5648 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OwnInRefIdeal.lean ====
abbrev S2 : Shape := ⟨1, ![2]⟩
abbrev S2x4x1024x5648 : Shape := ⟨4, ![2, 4, 1024, 5648]⟩
abbrev S4x1024x5648 : Shape := ⟨3, ![4, 1024, 5648]⟩
abbrev S3x1024x5648 : Shape := ⟨3, ![3, 1024, 5648]⟩
abbrev S1 : Shape := ⟨1, ![1]⟩
abbrev S_ : Shape := ⟨0, ![]⟩
abbrev S1x1x1024x5648 : Shape := ⟨4, ![1, 1, 1024, 5648]⟩
abbrev S1x1024x5648 : Shape := ⟨3, ![1, 1024, 5648]⟩
abbrev S1024x5648 : Shape := ⟨2, ![1024, 5648]⟩

abbrev nBuf : Space → Nat
  | .hbm => 38
  | .vmem => 0
  | .smem => 0
  | _ => 0

abbrev bufTy : (tb : Table) → Fin (tcTables nBuf tb) → BufTy
  | .hbm, ⟨0, _⟩ => ⟨S2, .i32⟩
  | .hbm, ⟨1, _⟩ => ⟨S2x4x1024x5648, .f32⟩
  | .hbm, ⟨2, _⟩ => ⟨S4x1024x5648, .f32⟩
  | .hbm, ⟨3, _⟩ => ⟨S3x1024x5648, .bf16⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1x1x1024x5648, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024x5648, .f32⟩
  | .hbm, ⟨31, _⟩ => ⟨S1024x5648, .f32⟩
  | .hbm, ⟨32, _⟩ => ⟨S1024x5648, .f32⟩
  | .hbm, ⟨33, _⟩ => ⟨S1024x5648, .f32⟩
  | .hbm, ⟨34, _⟩ => ⟨S3x1024x5648, .f32⟩
  | .hbm, ⟨35, _⟩ => ⟨S_, .f32⟩
  | .hbm, ⟨36, _⟩ => ⟨S1024x5648, .f32⟩
  | .hbm, ⟨37, _⟩ => ⟨S1024x5648, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== OwnB.lean ====
abbrev S2 : Shape := ⟨1, ![2]⟩
abbrev S2x4x1024x2048 : Shape := ⟨4, ![2, 4, 1024, 2048]⟩
abbrev S4x1024x2048 : Shape := ⟨3, ![4, 1024, 2048]⟩
abbrev S3x1024x2048 : Shape := ⟨3, ![3, 1024, 2048]⟩
abbrev S1024x2048 : Shape := ⟨2, ![1024, 2048]⟩
abbrev S1x1x128x2048 : Shape := ⟨4, ![1, 1, 128, 2048]⟩
abbrev S1 : Shape := ⟨1, ![1]⟩
abbrev S1x128x2048 : Shape := ⟨3, ![1, 128, 2048]⟩
abbrev S3x128x2048 : Shape := ⟨3, ![3, 128, 2048]⟩
abbrev S128x2048 : Shape := ⟨2, ![128, 2048]⟩

abbrev nBuf : Space → Nat
  | .hbm => 4
  | .vmem => 8
  | .smem => 1
  | _ => 0

abbrev bufTy : (tb : Table) → Fin (tcTables nBuf tb) → BufTy
  | .hbm, ⟨0, _⟩ => ⟨S2x4x1024x2048, .f32⟩
  | .hbm, ⟨1, _⟩ => ⟨S4x1024x2048, .f32⟩
  | .hbm, ⟨2, _⟩ => ⟨S3x1024x2048, .bf16⟩
  | .hbm, ⟨3, _⟩ => ⟨S1024x2048, .f32⟩
  | .local _ .vmem, ⟨0, _⟩ => ⟨S1x1x128x2048, .f32⟩
  | .local _ .vmem, ⟨1, _⟩ => ⟨S1x1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S3x128x2048, .bf16⟩
  | .local _ .vmem, ⟨5, _⟩ => ⟨S3x128x2048, .bf16⟩
  | .local _ .vmem, ⟨6, _⟩ => ⟨S128x2048, .f32⟩
  | .local _ .vmem, ⟨7, _⟩ => ⟨S128x2048, .f32⟩
  | .local _ .smem, ⟨0, _⟩ => ⟨S2, .i32⟩
  | _, _ => ⟨S2x4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c0_i32 : BitVec 32 := 0#32
  let c0_i32_0 : BitVec 32 := 0#32
  ![v0.toNat, v1.toNat, arg0.toNat, c0_i32.toNat]

def cc0_transform_1 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OwnBRefIdeal.lean ====
abbrev S2 : Shape := ⟨1, ![2]⟩
abbrev S2x4x1024x2048 : Shape := ⟨4, ![2, 4, 1024, 2048]⟩
abbrev S4x1024x2048 : Shape := ⟨3, ![4, 1024, 2048]⟩
abbrev S3x1024x2048 : Shape := ⟨3, ![3, 1024, 2048]⟩
abbrev S1 : Shape := ⟨1, ![1]⟩
abbrev S_ : Shape := ⟨0, ![]⟩
abbrev S1x1x1024x2048 : Shape := ⟨4, ![1, 1, 1024, 2048]⟩
abbrev S1x1024x2048 : Shape := ⟨3, ![1, 1024, 2048]⟩
abbrev S1024x2048 : Shape := ⟨2, ![1024, 2048]⟩

abbrev nBuf : Space → Nat
  | .hbm => 38
  | .vmem => 0
  | .smem => 0
  | _ => 0

abbrev bufTy : (tb : Table) → Fin (tcTables nBuf tb) → BufTy
  | .hbm, ⟨0, _⟩ => ⟨S2, .i32⟩
  | .hbm, ⟨1, _⟩ => ⟨S2x4x1024x2048, .f32⟩
  | .hbm, ⟨2, _⟩ => ⟨S4x1024x2048, .f32⟩
  | .hbm, ⟨3, _⟩ => ⟨S3x1024x2048, .bf16⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S1x1x1024x2048, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S3x1024x2048, .f32⟩
  | .hbm, ⟨35, _⟩ => ⟨S_, .f32⟩
  | .hbm, ⟨36, _⟩ => ⟨S1024x2048, .f32⟩
  | .hbm, ⟨37, _⟩ => ⟨S1024x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Conv.lean ====
abbrev S8192x22528 : Shape := ⟨2, ![8192, 22528]⟩
abbrev S4x6144 : Shape := ⟨2, ![4, 6144]⟩
abbrev S1x6144 : Shape := ⟨2, ![1, 6144]⟩
abbrev S8192x6144 : Shape := ⟨2, ![8192, 6144]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩

abbrev nBuf : Space → Nat
  | .hbm => 4
  | .vmem => 11
  | .smem => 0
  | _ => 0

abbrev bufTy : (tb : Table) → Fin (tcTables nBuf tb) → BufTy
  | .hbm, ⟨0, _⟩ => ⟨S8192x22528, .f32⟩
  | .hbm, ⟨1, _⟩ => ⟨S4x6144, .f32⟩
  | .hbm, ⟨2, _⟩ => ⟨S1x6144, .f32⟩
  | .hbm, ⟨3, _⟩ => ⟨S8192x6144, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S520x512, .f32⟩
  | _, _ => ⟨S8192x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S8192x22528 : Shape := ⟨2, ![8192, 22528]⟩
abbrev S4x6144 : Shape := ⟨2, ![4, 6144]⟩
abbrev S1x6144 : Shape := ⟨2, ![1, 6144]⟩
abbrev S8192x6144 : Shape := ⟨2, ![8192, 6144]⟩
abbrev S_ : Shape := ⟨0, ![]⟩
abbrev S8195x6144 : Shape := ⟨2, ![8195, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8192x22528, .f32⟩
  | .hbm, ⟨1, _⟩ => ⟨S4x6144, .f32⟩
  | .hbm, ⟨2, _⟩ => ⟨S1x6144, .f32⟩
  | .hbm, ⟨3, _⟩ => ⟨S8192x6144, .f32⟩
  | .hbm, ⟨4, _⟩ => ⟨S_, .i32⟩
  | .hbm, ⟨5, _⟩ => ⟨S_, .f32⟩
  | .hbm, ⟨6, _⟩ => ⟨S8195x6144, .f32⟩
  | .hbm, ⟨7, _⟩ => ⟨S8192x6144, .f32⟩
  | .hbm, ⟨8, _⟩ => ⟨S1x6144, .f32⟩
  | .hbm, ⟨9, _⟩ => ⟨S8192x6144, .f32⟩
  | .hbm, ⟨10, _⟩ => ⟨S8192x6144, .f32⟩
  | .hbm, ⟨11, _⟩ => ⟨S_, .f32⟩
  | .hbm, ⟨12, _⟩ => ⟨S8192x6144, .f32⟩
  | .hbm, ⟨13, _⟩ => ⟨S8192x6144, .f32⟩
  | .hbm, ⟨14, _⟩ => ⟨S8192x6144, .f32⟩
  | .hbm, ⟨15, _⟩ => ⟨S1x6144, .f32⟩
  | .hbm, ⟨16, _⟩ => ⟨S8192x6144, .f32⟩
  | .hbm, ⟨17, _⟩ => ⟨S8192x6144, .f32⟩
  | .hbm, ⟨18, _⟩ => ⟨S8192x6144, .f32⟩
  | .hbm, ⟨19, _⟩ => ⟨S8192x6144, .f32⟩
  | .hbm, ⟨20, _⟩ => ⟨S1x6144, .f32⟩
  | .hbm, ⟨21, _⟩ => ⟨S8192x6144, .f32⟩
  | .hbm, ⟨22, _⟩ => ⟨S8192x6144, .f32⟩
  | .hbm, ⟨23, _⟩ => ⟨S8192x6144, .f32⟩
  | .hbm, ⟨24, _⟩ => ⟨S8192x6144, .f32⟩
  | .hbm, ⟨25, _⟩ => ⟨S1x6144, .f32⟩
  | .hbm, ⟨26, _⟩ => ⟨S8192x6144, .f32⟩
  | .hbm, ⟨27, _⟩ => ⟨S8192x6144, .f32⟩
  | .hbm, ⟨28, _⟩ => ⟨S8192x6144, .f32⟩
  | .hbm, ⟨29, _⟩ => ⟨S8192x6144, .f32⟩
  | .hbm, ⟨30, _⟩ => ⟨S8192x6144, .f32⟩
  | _, _ => ⟨S8192x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Dt.lean ====
abbrev S8192x128 : Shape := ⟨2, ![8192, 128]⟩
abbrev S1x128 : Shape := ⟨2, ![1, 128]⟩
abbrev S512x128 : Shape := ⟨2, ![512, 128]⟩
abbrev S64x64 : Shape := ⟨2, ![64, 64]⟩
abbrev S64x128 : Shape := ⟨2, ![64, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S8192x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DtRefIdeal.lean ====
abbrev S8192x128 : Shape := ⟨2, ![8192, 128]⟩
abbrev S1x128 : Shape := ⟨2, ![1, 128]⟩
abbrev S_ : Shape := ⟨0, ![]⟩
abbrev S128x64x128 : Shape := ⟨3, ![128, 64, 128]⟩
abbrev S64x64 : Shape := ⟨2, ![64, 64]⟩
abbrev S128x128x64 : Shape := ⟨3, ![128, 128, 64]⟩

abbrev nBuf : Space → Nat
  | .hbm => 46
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x128, .f32⟩
  | .hbm, ⟨2, _⟩ => ⟨S1x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .i1⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S1x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S128x64x128, .f32⟩
  | .hbm, ⟨24, _⟩ => ⟨S_, .f32⟩
  | .hbm, ⟨25, _⟩ => ⟨S64x64, .f32⟩
  | .hbm, ⟨26, _⟩ => ⟨S64x64, .i32⟩
  | .hbm, ⟨27, _⟩ => ⟨S_, .i32⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S_, .f32⟩
  | .hbm, ⟨41, _⟩ => ⟨S8192x128, .f32⟩
  | .hbm, ⟨42, _⟩ => ⟨S8192x128, .f32⟩
  | .hbm, ⟨43, _⟩ => ⟨S128x128x64, .f32⟩
  | .hbm, ⟨44, _⟩ => ⟨S128x64x128, .f32⟩
  | .hbm, ⟨45, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_cst : Ref sig .tc := ⟨.hbm, 32, rfl⟩
abbrev main_call1_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩

abbrev nD : Nat := 1
abbrev τ : Topo := Topo.v7x

variable {F : FTy → Type} [FloatOps F]
-- ==== ConvB.lean ====
abbrev S8192x4096 : Shape := ⟨2, ![8192, 4096]⟩
abbrev S8192x22528 : Shape := ⟨2, ![8192, 22528]⟩
abbrev S4x6144 : Shape := ⟨2, ![4, 6144]⟩
abbrev S4x4096 : Shape := ⟨2, ![4, 4096]⟩
abbrev S1x4096 : Shape := ⟨2, ![1, 4096]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩
abbrev S512 : Shape := ⟨1, ![512]⟩

abbrev nBuf : Space → Nat
  | .hbm => 6
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8192x22528, .f32⟩
  | .hbm, ⟨2, _⟩ => ⟨S4x6144, .f32⟩
  | .hbm, ⟨3, _⟩ => ⟨S8192x4096, .bf16⟩
  | .hbm, ⟨4, _⟩ => ⟨S4x4096, .f32⟩
  | .hbm, ⟨5, _⟩ => ⟨S1x4096, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S4x512, .f32⟩
  | .local _ .vmem, ⟨10, _⟩ => ⟨S512x512, .bf16⟩
  | .local _ .vmem, ⟨11, _⟩ => ⟨S512x512, .bf16⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | .local _ .vmem, ⟨16, _⟩ => ⟨S520x512, .f32⟩
  | .local _ .vmem, ⟨17, _⟩ => ⟨S520x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvBRefIdeal.lean ====
abbrev S8192x4096 : Shape := ⟨2, ![8192, 4096]⟩
abbrev S8192x22528 : Shape := ⟨2, ![8192, 22528]⟩
abbrev S4x6144 : Shape := ⟨2, ![4, 6144]⟩
abbrev S_ : Shape := ⟨0, ![]⟩
abbrev S8195x4096 : Shape := ⟨2, ![8195, 4096]⟩
abbrev S1x4096 : Shape := ⟨2, ![1, 4096]⟩
abbrev S4096 : Shape := ⟨1, ![4096]⟩
abbrev S4x4096 : Shape := ⟨2, ![4, 4096]⟩

abbrev nBuf : Space → Nat
  | .hbm => 55
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x22528, .f32⟩
  | .hbm, ⟨2, _⟩ => ⟨S4x6144, .f32⟩
  | .hbm, ⟨3, _⟩ => ⟨S8192x4096, .f32⟩
  | .hbm, ⟨4, _⟩ => ⟨S_, .f32⟩
  | .hbm, ⟨5, _⟩ => ⟨S8195x4096, .f32⟩
  | .hbm, ⟨6, _⟩ => ⟨S_, .f32⟩
  | .hbm, ⟨7, _⟩ => ⟨S8195x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S4096, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S4x4096, .f32⟩
  | .hbm, ⟨51, _⟩ => ⟨S8192x4096, .bf16⟩
  | .hbm, ⟨52, _⟩ => ⟨S_, .f32⟩
  | .hbm, ⟨53, _⟩ => ⟨S4096, .f32⟩
  | .hbm, ⟨54, _⟩ => ⟨S1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== BranchRet.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRetIdeal.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRetRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjDt.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDtIdeal.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  let v4 : BitVec 32 := Scalar.addi c0_i32_3 arg1
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDtRefIdeal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DYs.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYsIdeal.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.subi arg2 c0_i32_0
  let c0_i32_1 : BitVec 32 := 0#32
  let c0_i32_2 : BitVec 32 := 0#32
  let v2 : BitVec 32 := Scalar.maxsi c0_i32_1 v1
  let v3 : BitVec 32 := Scalar.minsi c0_i32_2 v2
  let c0_i32_3 : BitVec 32 := 0#32
  let v4 : BitVec 32 := Scalar.addi c0_i32_3 v3
  let c0_i32_4 : BitVec 32 := 0#32
  ![v0.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DYsRefIdeal.lean ====
abbrev S8192x2048 : Shape := ⟨2, ![8192, 2048]⟩
abbrev S4096x2048 : Shape := ⟨2, ![4096, 2048]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4096x2048, .bf16⟩
  | .hbm, ⟨2, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GRet.lean ====
abbrev S2048x8192 : Shape := ⟨2, ![2048, 8192]⟩
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRetIdeal.lean ====
abbrev S2048x8192 : Shape := ⟨2, ![2048, 8192]⟩
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GRetRefIdeal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GSsd.lean ====
abbrev S4096x8192 : Shape := ⟨2, ![4096, 8192]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GSsdIdeal.lean ====
abbrev S4096x8192 : Shape := ⟨2, ![4096, 8192]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GSsdRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GIn.lean ====
abbrev S2048x8192 : Shape := ⟨2, ![2048, 8192]⟩
abbrev S8192x4096 : Shape := ⟨2, ![8192, 4096]⟩
abbrev S2048x4096 : Shape := ⟨2, ![2048, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInIdeal.lean ====
abbrev S2048x8192 : Shape := ⟨2, ![2048, 8192]⟩
abbrev S8192x4096 : Shape := ⟨2, ![8192, 4096]⟩
abbrev S2048x4096 : Shape := ⟨2, ![2048, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInRefIdeal.lean ====
abbrev S2048x8192 : Shape := ⟨2, ![2048, 8192]⟩
abbrev S8192x4096 : Shape := ⟨2, ![8192, 4096]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x4096, .bf16⟩
  | .hbm, ⟨2, _⟩ => ⟨S2048x4096, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GInB.lean ====
abbrev S2048x8192 : Shape := ⟨2, ![2048, 8192]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInBIdeal.lean ====
abbrev S2048x8192 : Shape := ⟨2, ![2048, 8192]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInBRefIdeal.lean ====
abbrev S2048x8192 : Shape := ⟨2, ![2048, 8192]⟩
abbrev S8192x1024 : Shape := ⟨2, ![8192, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x1024, .bf16⟩
  | .hbm, ⟨2, _⟩ => ⟨S2048x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GInDt.lean ====
abbrev S2048x8192 : Shape := ⟨2, ![2048, 8192]⟩
abbrev S8192x128 : Shape := ⟨2, ![8192, 128]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let v3 : BitVec 32 := Scalar.addi c0_i32_1 v2
  let c0_i32_2 : BitVec 32 := 0#32
  let v4 : BitVec 32 := Scalar.addi c0_i32_2 arg1
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInDtRefIdeal.lean ====
abbrev S2048x8192 : Shape := ⟨2, ![2048, 8192]⟩
abbrev S8192x128 : Shape := ⟨2, ![8192, 128]⟩
abbrev S2048x128 : Shape := ⟨2, ![2048, 128]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S2048x128, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Talk.Rules.lean ====
/-
# One-shot exchanges between devices: the protocol and its rules

Each of the calls proved here makes one round of copies: every DMA semaphore of every device is credited by
exactly one copy and waited for exactly once. What a call has to say of itself is collected in `Proto`: its
semaphores, how much each one's copy credits, which device each device's copy pays (`dest`), and what the copy hands
the device that waits (`pay`). `St` is what a device holds while it runs, told by four sets of semaphores: the copies
it still owes other devices, the copies it has still to issue, the semaphores it has still to wait for, and those
whose credit it already holds. The three rules below move a semaphore through these sets: a copy to another device
(`send`), a copy on the device itself (`copy`) and a wait (`wait`).
-/
module

public import Idealize.ShloMosaic.Lib.Pipeline.Launch
public import Idealize.ShloMosaic.Lib.Pipeline.Kit
public import Idealize.ShloMosaic.Lib.Tactic

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The ghost state: the pipeline's copy of the rounds and the exchange's own. -/
abbrev UU (nD : ℕ) (τ : Topo) (sig : RefSig) : Type :=
  URounds (GSem nD τ sig) Unit × URounds (GSem nD τ sig) Unit

section

variable {nD : ℕ} {τ : Topo} {sig : RefSig} {Val : EltTy → Type}

/-- The assertions the proofs are written in. -/
abbrev MM (nD : ℕ) (τ : Topo) (sig : RefSig) (Val : EltTy → Type) := MT nD τ sig Unit Val ℕ (UU nD τ sig) ℕ

abbrev EP : Emb (URounds (GSem nD τ sig) Unit) (MM nD τ sig Val) := embL
abbrev ER : Emb (URounds (GSem nD τ sig) Unit) (MM nD τ sig Val) := embR

local notation "𝕄" => MM nD τ sig Val

/-- A member of a separated family beside the rest. -/
theorem sep_take {M : Type} [URA M] {I : Type} [DecidableEq I] {s : Finset I} {i : I} (h : i ∈ s) {Φ : I → sProp M} :
    bigSep s Φ = iprop(Φ i ∗ bigSep (s.erase i) Φ) := bigSep_erase h
/-- A family with one more member. -/
theorem sep_put {M : Type} [URA M] {I : Type} [DecidableEq I] {s : Finset I} {i : I} (h : i ∉ s) {Φ : I → sProp M} :
    bigSep (insert i s) Φ = iprop(Φ i ∗ bigSep s Φ) := bigSep_insert h

/-- One member of a family. -/
theorem sep_one {M : Type} [URA M] {I : Type} [DecidableEq I] {s : Finset I} {i : I} (h : i ∈ s) {Φ : I → sProp M} :
    (bigSep s Φ : sProp M) ⊢ Φ i := bigSep_elim h

/-- What a call of one-shot copies says of itself; `K` counts a device's DMA semaphores. -/
structure Proto (nD : ℕ) (τ : Topo) (sig : RefSig) (Val : EltTy → Type) (K : Type) where
  /-- The semaphores. -/
  sem : K → DmaSem sig
  inj : Function.Injective sem
  /-- What the copy into a semaphore credits it with. -/
  amt : K → ℕ
  pos : ∀ k, 0 < amt k
  /-- The order in which waits may rest on copies still owed. -/
  lvl : K → ℕ
  /-- The device whose semaphore `k` a device's copy pays. -/
  dest : K → Equiv.Perm (Dev nD)
  /-- The semaphores another device pays. -/
  rem : Finset K
  home : ∀ k, k ∉ rem → dest k = Equiv.refl _
  /-- What the device that waits gets from the copy. -/
  pay : K → Dev nD → sProp (MM nD τ sig Val)
  stor : ∀ k d, BI.Storable (upEmb : UEmb _ (MM nD τ sig Val)) (pay k d)

variable {K : Type} [Fintype K] [DecidableEq K] (P : Proto nD τ sig Val K)

namespace Proto

/-- Semaphore `k` of device `c`. -/
abbrev cell (c : Dev nD) (k : K) : GSem nD τ sig := ((c.tc : Thread nD τ), .dma (P.sem k))

/-- Which of the call's semaphores this is. -/
def keyOf (s : SemLoc sig) : Option K := by
  classical
  exact if h : ∃ k, s = .dma (P.sem k) then some h.choose else none

theorem keyOf_sem (k : K) : P.keyOf (.dma (P.sem k)) = some k := by
  have h : ∃ k', (SemLoc.dma (P.sem k) : SemLoc sig) = .dma (P.sem k') := ⟨k, rfl⟩
  unfold keyOf
  rw [dif_pos h]
  have h2 := h.choose_spec
  injection h2 with h3
  exact congrArg some (P.inj h3).symm

/-- The schedule: one round, one copy, for every semaphore of the call. -/
def rd : Rounds.Schedule (GSem nD τ sig) Unit 𝕄 where
  duties g r := if r = 0 ∧ g.1.2 = .tc ∧ (P.keyOf g.2).isSome then {()} else ∅
  unitless _ := False
  amount g _ _ := (P.keyOf g.2).elim 1 P.amt
  payload g _ _ := (P.keyOf g.2).elim iprop(emp) fun k => P.pay k g.1.1
  amount_pos g _ _ _ := by
    cases P.keyOf g.2 with
    | none => exact Nat.one_pos
    | some k => exact P.pos k

instance rd_storable (g : GSem nD τ sig) (r : ℕ) (d : Unit) : BI.Storable (upEmb : UEmb _ 𝕄) (P.rd.payload g r d) := by
  show BI.Storable upEmb ((P.keyOf g.2).elim iprop(emp) fun k => P.pay k g.1.1)
  cases P.keyOf g.2 with
  | none => exact inferInstanceAs (BI.Storable upEmb (iprop(emp) : sProp 𝕄))
  | some k => exact P.stor k _

theorem duties_zero (c : Dev nD) (k : K) : P.rd.duties (P.cell c k) 0 = {()} := by
  dsimp only [rd]
  exact if_pos ⟨rfl, rfl, by rw [keyOf_sem]; rfl⟩
theorem duties_later (g : GSem nD τ sig) : ∀ r, 1 ≤ r → P.rd.duties g r = ∅ :=
  fun r hr => by dsimp only [rd]; exact if_neg fun h => by omega
theorem mem_duties (c : Dev nD) (k : K) : () ∈ P.rd.duties (P.cell c k) 0 := by
  rw [duties_zero]; exact Finset.mem_singleton_self _
theorem amount_eq (c : Dev nD) (k : K) (r : ℕ) (u : Unit) : P.rd.amount (P.cell c k) r u = P.amt k := by
  dsimp only [rd]; rw [keyOf_sem]; rfl
theorem payload_eq (c : Dev nD) (k : K) (r : ℕ) (u : Unit) : P.rd.payload (P.cell c k) r u = P.pay k c := by
  dsimp only [rd]; rw [keyOf_sem]; rfl
theorem expect_eq (c : Dev nD) (k : K) : P.rd.expect (P.cell c k) 0 = P.amt k := by
  unfold Schedule.expect Schedule.amountOf; rw [duties_zero, Finset.sum_singleton, amount_eq]
theorem rest_eq (c : Dev nD) (k : K) :
    bigSep (P.rd.duties (P.cell c k) 0 \ ∅) (fun u => P.rd.payload (P.cell c k) 0 u) = P.pay k c := by
  rw [Finset.sdiff_empty, duties_zero, bigSep_singleton, payload_eq]

/-! ## What is owed, and the levels -/

/-- What device `c` owes while the copies of `S` to other devices are still to be issued. -/
def owe (c : Dev nD) (S : Finset K) : CellTallies nD τ sig Unit :=
  ∑ k ∈ S, tallyAt (P.cell (P.dest k c) k) () (P.amt k)

def L (g : GSem nD τ sig) : Finset Unit := if g.1.2 = .tc then {()} else ∅
def lv (g : GSem nD τ sig) (_ : Unit) : ℕ := (P.keyOf g.2).elim 0 P.lvl

theorem L_of_ne (g : GSem nD τ sig) (h : g.1.2 ≠ .tc) : L g = ∅ := if_neg h
theorem mem_L (c : Dev nD) (sm : SemLoc sig) (u : Unit) : u ∈ L (((c.tc : Thread nD τ), sm) : GSem nD τ sig) := by
  unfold L; rw [if_pos rfl]; exact Finset.mem_singleton_self _

theorem owe_erase (c : Dev nD) {S : Finset K} {k : K} (h : k ∈ S) :
    P.owe c S = P.owe c (S.erase k) + tallyAt (P.cell (P.dest k c) k) () (P.amt k) :=
  (Finset.sum_erase_add S _ h).symm

/-- A wait for `k` may rest on the copies of `S`, all of them above it. -/
theorem mayWait (c : Dev nD) {S : Finset K} {k : K} (h : ∀ k' ∈ S, P.lvl k < P.lvl k') :
    (levAts L P.lv : sProp 𝕄) ⊢ MayWait (c.tc : Thread nD τ) (.dma (P.sem k)) () (P.owe c S) := by
  refine Pipeline.mayWait_of_levAts (mem_L c _ _) fun g i hg => ?_
  obtain ⟨k', hk', hp⟩ := Pipeline.sum_pos_exists hg
  obtain ⟨rfl, -⟩ := Pipeline.tallyAt_pos hp
  refine ⟨mem_L _ _ _, ?_⟩
  unfold lv
  rw [keyOf_sem, keyOf_sem]
  exact h k' hk'

/-! ## The records every device shares, and a device's state -/

/-- The invariants of all the semaphores of all devices, each at its first round; and the levels. -/
def records (κ : Dev nD × K → ℕ) : sProp 𝕄 :=
  iprop((bigSep Finset.univ fun ck : Dev nD × K => cellInv ER P.rd (κ ck) (P.cell ck.1 ck.2))
    ∗ (bigSep Finset.univ fun ck : Dev nD × K => reached ER (P.cell ck.1 ck.2) 0) ∗ levAts L P.lv)

instance records_persistent (κ : Dev nD × K → ℕ) : BI.Persistent (P.records κ) := by unfold records; infer_instance

theorem records_inv (κ : Dev nD × K → ℕ) (c : Dev nD) (k : K) : P.records κ ⊢ cellInv ER P.rd (κ (c, k)) (P.cell c k) := by
  unfold records
  iintro ⟨H, -, -⟩
  iapply (sep_one (Finset.mem_univ (c, k)) (Φ := fun ck : Dev nD × K => (cellInv ER P.rd (κ ck) (P.cell ck.1 ck.2) : sProp 𝕄)))
  iexact H
theorem records_reached (κ : Dev nD × K → ℕ) (c : Dev nD) (k : K) : P.records κ ⊢ reached ER (P.cell c k) 0 := by
  unfold records
  iintro ⟨-, H, -⟩
  iapply (sep_one (Finset.mem_univ (c, k)) (Φ := fun ck : Dev nD × K => (reached ER (P.cell ck.1 ck.2) 0 : sProp 𝕄)))
  iexact H
theorem records_lev (κ : Dev nD × K → ℕ) : P.records κ ⊢ levAts L P.lv := by
  unfold records
  iintro ⟨-, -, H⟩
  iexact H

/-- Device `c` with the copies `S` still owed to others, the copies `T` still to be issued, the semaphores `A` still to be
    waited for and the credit of those of `C` in hand; the semaphores out of `A` are back at zero. -/
def St (c : Dev nD) (S T A C : Finset K) : sProp 𝕄 :=
  iprop((∃ W, owes (c.tc : Thread nD τ) (P.owe c S) W)
    ∗ (bigSep T fun k => dutyTok ER (P.cell (P.dest k c) k) 0 ())
    ∗ (bigSep A fun k => atPos ER (P.cell c k) 0 ∅ 0)
    ∗ (bigSep C fun k => cred (tallyAt (P.cell c k) () (P.amt k)))
    ∗ (bigSep Aᶜ fun k => semVal (P.cell c k) 0))

variable {Λ : Labels} (defs : Defs nD τ sig Val Λ) (𝒱 : Variants)

/-- A copy to another device: it pays that device's semaphore `kr` and the issuer's own `ks`. -/
theorem send (κ : Dev nD × K → ℕ) (c : Dev nD) {S T A C : Finset K} (ks kr : K)
    (hks : ks ∈ T) (hkr : kr ∈ T.erase ks) (hS : kr ∈ S) (hC : ks ∉ C) (hloc : P.dest ks c = c) (hamt : P.amt ks = P.amt kr)
    {sp sp' : Space} {s : Shape} {e : EltTy} {d : Dev nD} (hd : d = P.dest kr c)
    {src : Memref sig .tc sp s e} {dst : Memref sig .tc sp' s e} {hsc : dst.view.ref.isScScratch = false}
    {sS sR : SemLoc sig} (hsS : sS = .dma (P.sem ks)) (hsR : sR = .dma (P.sem kr))
    {hsrc : src.view.WordExact} {hdst : dst.view.WordExact} {hsem : DmaTarget.Typed sp sR (.remote (d.tc : Thread nD τ) dst sS hsc)}
    (hN : dst.view.amount sR = P.amt kr)
    {α : Type} {k : PUnit → Prog (TpuEff nD τ sig Val Λ .tc) α} {Q : α → sProp 𝕄} {q : PosShare TreeShare}
    {fs : Buf Val (src.view.loc (c.tc : Thread nD τ))} {fd : Buf Val (dst.view.loc (d.tc : Thread nD τ))}
    (hpay₁ : (src.view.loc (c.tc : Thread nD τ) ↦[src.view.set]{q} fs) ⊢ P.pay ks c)
    (hpay₂ : (dst.view.loc (d.tc : Thread nD τ) ↦[dst.view.set]{fullShare} (dst.view.write Val fd (src.view.read Val fs) Finset.univ))
      ⊢ P.pay kr d) (hr : τ.routes (c.tc : Thread nD τ) (d.tc : Thread nD τ) = true := by routes) :
    iprop(P.records κ ∗ P.St c S T A C
        ∗ (src.view.loc (c.tc : Thread nD τ) ↦[src.view.set]{q} fs) ∗ (dst.view.loc (d.tc : Thread nD τ) ↦[dst.view.set]{fullShare} fd))
      ⊢ iprop((P.St c (S.erase kr) ((T.erase ks).erase kr) A (insert ks C) -∗ wp frame (wpE defs 𝒱 (c.tc : Thread nD τ) none) Set.univ (k ⟨⟩) Q)
          -∗ wp frame (wpE defs 𝒱 (c.tc : Thread nD τ) none) Set.univ (.op (.enqueueDma src (.remote (d.tc : Thread nD τ) dst sS hsc) sR hsrc hdst hsem) k) Q) := by
  subst hd hsS hsR
  unfold St
  rw [sep_take hks, sep_take hkr, P.owe_erase c hS, sep_put hC, hloc]
  iintro ⟨#HR, ⟨⟨%W, HO⟩, ⟨Hts, Htr, HT⟩, HA, HC, HZ⟩, Hsrc, Hdst⟩ Hk
  iapply (Rounds.wp_send_pointsTo 𝒱 ER P.rd (c.tc : Thread nD τ) none (κ₁ := κ (c, ks)) (κ₂ := κ (P.dest kr c, kr))
    (r₁ := 0) (r₂ := 0) (d₁ := ()) (d₂ := ()) (fd := fd) (fs := fs) (q := q)
    (P.mem_duties c ks) (P.mem_duties _ kr) () () (P.amt kr) hN ((P.amount_eq c ks 0 ()).trans hamt) (P.amount_eq _ kr 0 ())
    (P.owe c (S.erase kr)) rfl (W := W) (by rw [payload_eq]; exact hpay₁) (by rw [payload_eq]; exact hpay₂) hr) $$ [HO Hts Htr Hsrc Hdst]
  · isplitr; · iapply (P.records_inv κ c ks); iexact HR
    isplitr; · iapply (P.records_inv κ (P.dest kr c) kr); iexact HR
    isplitl [Hsrc]; · iexact Hsrc
    isplitl [Hdst]; · iexact Hdst
    isplitl [HO]; · iexact HO
    isplitl [Hts]; · iexact Hts
    isplitr; · iapply (P.records_reached κ c ks); iexact HR
    isplitl [Htr]; · iexact Htr
    iapply (P.records_reached κ (P.dest kr c) kr); iexact HR
  iintro ⟨Hc, HO⟩
  iapply Hk
  isplitl [HO]; · iexists W; iexact HO
  isplitl [HT]; · iexact HT
  isplitl [HA]; · iexact HA
  isplitl [Hc HC]
  · rw [hamt]
    isplitl [Hc] <;> iassumption
  iexact HZ

/-- A copy on the device itself: it pays the device's own semaphore `k`. -/
theorem copy (κ : Dev nD × K → ℕ) (c : Dev nD) {S T A C : Finset K} (kc : K)
    (hk : kc ∈ T) (hC : kc ∉ C) (hloc : P.dest kc c = c)
    {sp sp' : Space} {s : Shape} {e : EltTy}
    {src : Memref sig .tc sp s e} {dst : Memref sig .tc sp' s e} {sR : SemLoc sig} (hsR : sR = .dma (P.sem kc))
    {hsrc : src.view.WordExact} {hdst : dst.view.WordExact} {hsem : DmaTarget.Typed (nD := nD) (τ := τ) (p := Proc.tc) sp sR (.here dst)}
    (hN : dst.view.amount sR = P.amt kc)
    {α : Type} {k : PUnit → Prog (TpuEff nD τ sig Val Λ .tc) α} {Q : α → sProp 𝕄} {q : PosShare TreeShare}
    {fs : Buf Val (src.view.loc (c.tc : Thread nD τ))} {fd : Buf Val (dst.view.loc (c.tc : Thread nD τ))}
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay kc c) :
    iprop(P.records κ ∗ P.St c S T A C
        ∗ (src.view.loc (c.tc : Thread nD τ) ↦[src.view.set]{q} fs) ∗ (dst.view.loc (c.tc : Thread nD τ) ↦[dst.view.set]{fullShare} fd))
      ⊢ iprop((P.St c S (T.erase kc) A (insert kc C) -∗ wp frame (wpE defs 𝒱 (c.tc : Thread nD τ) none) Set.univ (k ⟨⟩) Q)
          -∗ wp frame (wpE defs 𝒱 (c.tc : Thread nD τ) none) Set.univ (.op (.enqueueDma src (.here dst) sR hsrc hdst hsem) k) Q) := by
  subst hsR
  unfold St
  rw [sep_take hk, sep_put hC, hloc]
  iintro ⟨#HR, ⟨HO, ⟨Ht, HT⟩, HA, HC, HZ⟩, Hsrc, Hdst⟩ Hk
  iapply (Rounds.wp_copy_pointsTo 𝒱 ER P.rd (c.tc : Thread nD τ) none (κ := κ (c, kc)) (r := 0) (d := ()) (fd := fd) (fs := fs) (q := q)
    (P.mem_duties c kc) () (P.amt kc) hN (P.amount_eq c kc 0 ()) (by rw [payload_eq]; exact hpay)) $$ [Ht Hsrc Hdst]
  · isplitr; · iapply (P.records_inv κ c kc); iexact HR
    isplitl [Hsrc]; · iexact Hsrc
    isplitl [Hdst]; · iexact Hdst
    isplitl [Ht]; · iexact Ht
    iapply (P.records_reached κ c kc); iexact HR
  iintro Hc
  iapply Hk
  isplitl [HO]; · iexact HO
  isplitl [HT]; · iexact HT
  isplitl [HA]; · iexact HA
  isplitl [Hc HC]
  · isplitl [Hc] <;> iassumption
  iexact HZ

/-- A wait for semaphore `kc`: what its copy hands over, and the semaphore back at zero. -/
theorem wait (κ : Dev nD × K → ℕ) (c : Dev nD) {S T A C : Finset K} (kc : K)
    (hA : kc ∈ A) (hC : kc ∈ C) (hlev : ∀ k' ∈ S, P.lvl kc < P.lvl k')
    {sp sp' : Space} {s s' : Shape} {e e' : EltTy} {κ' : Kind} {sem : DmaSem sig} (hs : sem = P.sem kc)
    {src : Memref sig .tc sp' s' e'} {dst : Memref sig κ' sp s e} {hsrc : src.view.WordExact} {hdst : dst.view.WordExact}
    (hN : dst.view.dmaCredit = P.amt kc)
    {α : Type} {k : PUnit → Prog (TpuEff nD τ sig Val Λ .tc) α} {Q : α → sProp 𝕄} :
    iprop(P.records κ ∗ P.St c S T A C)
      ⊢ iprop(((P.St c S T (A.erase kc) (C.erase kc) ∗ P.pay kc c) -∗ wp frame (wpE defs 𝒱 (c.tc : Thread nD τ) none) Set.univ (k ⟨⟩) Q)
          -∗ wp frame (wpE defs 𝒱 (c.tc : Thread nD τ) none) Set.univ (.op (.waitDma2 sem src dst hsrc hdst) k) Q) := by
  subst hs
  unfold St
  have hcompl : (A.erase kc)ᶜ = insert kc Aᶜ := by
    ext x; simp only [Finset.mem_compl, Finset.mem_erase, Finset.mem_insert]; tauto
  rw [sep_take hA, sep_take hC, hcompl, sep_put (i := kc) (s := Aᶜ) (by simp [hA])]
  iintro ⟨#HR, ⟨⟨%W, HO⟩, HT, ⟨Hat, HA⟩, ⟨Hc, HC⟩, HZ⟩⟩ Hk
  iapply (Rounds.wp_wait_rest_token 𝒱 ER P.rd (c.tc : Thread nD τ) none (κ := κ (c, kc))
      (wpE_waitDma2_eq 𝒱 (c.tc : Thread nD τ) none Set.univ) (Set.mem_univ _) () (O := P.owe c S) (W := W) (R := 0) (m := 0) (T := ∅)
      (by rw [Nat.zero_add, expect_eq, hN])) $$ [Hc HO Hat]
  · isplitr; · iapply (P.records_inv κ c kc); iexact HR
    isplitl [Hc]; · rw [hN]; iexact Hc
    isplitl [HO]; · iexact HO
    isplitr; · iapply (P.mayWait c hlev); iapply (P.records_lev κ); iexact HR
    iexact Hat
  iintro ⟨HO, Hat, -, Hpay⟩
  ihave Hp := (Entails.of_eq (P.rest_eq c kc)) $$ Hpay
  iapply (fupd_wp frame (wpE defs 𝒱 (c.tc : Thread nD τ) none) Set.univ _ _)
  imod (Rounds.cell_close ER P.rd (Set.mem_univ (κ (c, kc))) (fun h => h) (R := 0 + 1) (P.duties_later (P.cell c kc))) $$ [Hat] with Hz
  · isplitr; · iapply (P.records_inv κ c kc); iexact HR
    iexact Hat
  imodintro
  iapply Hk
  isplitr [Hp]
  · isplitl [HO]; · iexists _; iexact HO
    isplitl [HT]; · iexact HT
    isplitl [HA]; · iexact HA
    isplitl [HC]; · iexact HC
    isplitl [Hz] <;> iassumption
  iexact Hp

end Proto

end

end Cert.Talk

end
-- ==== Proof.Talk.Launch.lean ====
/-
# One-shot exchanges between devices: the launch

No call proved here waits for a signal of its peers before it copies into their arrays, so the arrays' pieces a device
writes into on its peers are dealt to it before any device starts. `θ_run_talk` is that launch, for a program that is one
call of one-shot copies: every device's arrays are cut into what the device keeps and the pieces other devices write
(`Dst`), the pieces are dealt to the devices that write them, and the call's semaphores are put under their invariants,
all at once. What is left to a program is its run on one device, from its state of the protocol, what it keeps and
the pieces it writes, and what the final arrays say.
-/
module

public import proofs.«01_k».proof.Proof.Talk.Rules

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {nD : ℕ} {τ : Topo} {sig : RefSig} {Val : EltTy → Type}

local notation "𝕄" => MM nD τ sig Val

/-- A persistent assertion beside a family goes to each member. -/
theorem sep_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Families over two finite sets change order. -/
theorem sep_swap {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty => simp only [bigSep_empty]; exact (BI.bigSep_emp_const t).symm
  | insert i s hi ih =>
    rw [sep_put hi, ih, ← bigSep_sep']
    exact bigSep_congr fun j _ => by rw [sep_put hi]

namespace Proto

variable {K : Type} [Fintype K] [DecidableEq K] (P : Proto nD τ sig Val K)

/-! ## The ghost state dealt at launch -/

theorem cell_injective : Function.Injective fun ck : Dev nD × K => P.cell ck.1 ck.2 := by
  rintro ⟨c, k⟩ ⟨c', k'⟩ h
  have h1 : c = c' := congrArg (fun g : GSem nD τ sig => g.1.1) h
  have h2 : (SemLoc.dma (P.sem k) : SemLoc sig) = .dma (P.sem k') := congrArg Prod.snd h
  injection h2 with h3
  rw [h1, P.inj h3]

def cells : Finset (GSem nD τ sig) := Finset.univ.map ⟨fun ck : Dev nD × K => P.cell ck.1 ck.2, P.cell_injective⟩
def toks : Finset (GSem nD τ sig × ℕ × Unit) :=
  Finset.univ.map ⟨fun ck : Dev nD × K => (P.cell ck.1 ck.2, 0, ()), fun _ _ h => P.cell_injective (congrArg Prod.fst h)⟩

def u₀ : UU nD τ sig := (initOf ∅ ∅, initOf P.cells P.toks)

/-- The part of a device's state that is not what it owes. -/
def Held (c : Dev nD) (T A C : Finset K) : sProp 𝕄 :=
  iprop((bigSep T fun k => dutyTok ER (P.cell (P.dest k c) k) 0 ())
    ∗ (bigSep A fun k => atPos ER (P.cell c k) 0 ∅ 0)
    ∗ (bigSep C fun k => cred (tallyAt (P.cell c k) () (P.amt k)))
    ∗ (bigSep Aᶜ fun k => semVal (P.cell c k) 0))

theorem St_eq (c : Dev nD) (S T A C : Finset K) :
    P.St c S T A C = iprop((∃ W, owes (c.tc : Thread nD τ) (P.owe c S) W) ∗ P.Held c T A C) := rfl

/-- What a family over the devices and the semaphores is when each member is dealt to the device that pays it. -/
theorem deal_dest (s : Finset K) (Φ : Dev nD → K → sProp 𝕄) :
    (bigSep Finset.univ fun d : Dev nD => bigSep s fun k => Φ d k)
      = bigSep Finset.univ fun c : Dev nD => bigSep s fun k => Φ (P.dest k c) k := by
  rw [sep_swap, sep_swap Finset.univ s (fun c k => Φ (P.dest k c) k)]
  exact bigSep_congr fun k _ => bigSep_univ_equiv (P.dest k) (fun d => Φ d k)

theorem cred_launch (c : Dev nD) :
    (Pipeline.launchCred (fun c => P.owe c P.rem) c : sProp 𝕄) ⊢ bigSep P.rem fun k => cred (tallyAt (P.cell c k) () (P.amt k)) := by
  have h : (Pipeline.launchCred (fun c => P.owe c P.rem) c : sProp 𝕄)
      = bigSep P.rem fun k => Pipeline.launchCred (fun d => tallyAt (P.cell (P.dest k d) k) () (P.amt k)) c :=
    Pipeline.launchCred_sum P.rem (fun k d => tallyAt (P.cell (P.dest k d) k) () (P.amt k)) c
  rw [h]
  exact bigSep_mono fun k _ => Pipeline.launchCred_tallyAt (.dma (P.sem k)) (P.dest k) (P.dest k).symm
    (fun c => (P.dest k).apply_symm_apply c) (fun d => (P.dest k).symm_apply_apply d) () (P.amt k) c

/-- The call's semaphores among those the call declares. -/
def semCells (c : Dev nD) : Finset (GSem nD τ sig) :=
  Finset.univ.map ⟨fun k => P.cell c k, fun _ _ h => congrArg Prod.snd (P.cell_injective (a₁ := (c, _)) (a₂ := (c, _)) h)⟩

def idle (c : Dev nD) : sProp 𝕄 := bigSep (scopedCells sig (c.tc : Thread nD τ) \ P.semCells c) fun g => semVal g 0

theorem sems_split (hsc : ∀ k, (SemLoc.dma (P.sem k) : SemLoc sig).isScoped .tc = true) (c : Dev nD) :
    (scopedSems0 (c.tc : Thread nD τ) : sProp 𝕄) = iprop((bigSep Finset.univ fun k => semVal (P.cell c k) 0) ∗ P.idle c) := by
  have hA : P.semCells c ⊆ scopedCells sig (c.tc : Thread nD τ) := fun g hg => by
    obtain ⟨k, -, rfl⟩ := Finset.mem_map.mp hg; exact self_mem_scopedCells (hsc k)
  unfold scopedSems0 idle
  rw [bigSep_sdiff_split hA]
  unfold semCells
  rw [bigSep_map]
  rfl

/-- Every device's share of the launch: the records, and its own state with everything still to do. -/
theorem deal :
    iprop((bigSep Finset.univ fun c : Dev nD => bigSep Finset.univ fun k => semVal (P.cell c k) 0)
      ∗ (bigSep Finset.univ fun c : Dev nD => Pipeline.launchCred (fun c => P.owe c P.rem) c)
      ∗ levAts L P.lv ∗ ownU P.u₀)
    ⊢ (|={Set.univ}=> bigSep Finset.univ fun c : Dev nD => iprop(∃ κ, P.records κ ∗ P.Held c Finset.univ Finset.univ P.rem) : sProp 𝕄) := by
  have hX (Φ : GSem nD τ sig → sProp 𝕄) : bigSep P.cells Φ = bigSep Finset.univ fun ck : Dev nD × K => Φ (P.cell ck.1 ck.2) := by
    unfold cells; rw [bigSep_map]; rfl
  have hT : bigSep P.toks (fun x => (dutyTok ER x.1 x.2.1 x.2.2 : sProp 𝕄))
      = bigSep Finset.univ fun c : Dev nD => bigSep Finset.univ fun k => dutyTok ER (P.cell (P.dest k c) k) 0 () := by
    unfold toks
    rw [bigSep_map, bigSep_univ_prod, ← P.deal_dest Finset.univ (fun d k => (dutyTok ER (P.cell d k) 0 () : sProp 𝕄))]
    rfl
  iintro ⟨Hv, Hcr, #Hlev, Hu⟩
  ihave H := (show (ownU P.u₀ : sProp 𝕄) ⊢ iprop(BI.own (EP (initOf ∅ ∅)) ∗ BI.own (ER (initOf P.cells P.toks))) from ownU_pair _ _) $$ Hu
  icases H with ⟨-, HX⟩
  imod (Rounds.fund ER P.rd P.cells P.toks) $$ HX with ⟨Hst, Hr, Hat, Htok⟩
  ihave Hst' := (Entails.of_eq (hX fun g => roundState ER P.rd g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave Hv' := (Entails.of_eq (bigSep_univ_prod fun ck : Dev nD × K => (semVal (P.cell ck.1 ck.2) 0 : sProp 𝕄)).symm) $$ Hv
  imod (show iprop((bigSep Finset.univ fun ck : Dev nD × K => semVal (P.cell ck.1 ck.2) 0)
        ∗ bigSep Finset.univ fun ck : Dev nD × K => roundState ER P.rd (P.cell ck.1 ck.2) 0)
      ⊢ (|={Set.univ}=> bigSep Finset.univ fun ck : Dev nD × K => iprop(∃ κ : ℕ, cellInv ER P.rd κ (P.cell ck.1 ck.2)) : sProp 𝕄) from by
        rw [← bigSep_sep']
        exact (bigSep_mono fun ck _ => (Rounds.body_intro ER P.rd (P.cell ck.1 ck.2)).trans inv_alloc).trans (bigSep_fupd _ _)) $$ [Hv' Hst'] with Hinv
  · isplitl [Hv'] <;> iassumption
  ihave HK := (BI.bigSep_exists_pi Finset.univ (fun (ck : Dev nD × K) (κ : ℕ) => (cellInv ER P.rd κ (P.cell ck.1 ck.2) : sProp 𝕄))) $$ Hinv
  icases HK with ⟨%κ, #HI⟩
  icases Hr' with #HR
  ihave Hat2 := (Entails.of_eq (bigSep_univ_prod fun ck : Dev nD × K => (atPos ER (P.cell ck.1 ck.2) 0 ∅ 0 : sProp 𝕄))) $$ Hat'
  ihave Hcr' := (show (bigSep Finset.univ fun c : Dev nD => Pipeline.launchCred (fun c => P.owe c P.rem) c : sProp 𝕄)
      ⊢ bigSep Finset.univ fun c : Dev nD => bigSep P.rem fun k => cred (tallyAt (P.cell c k) () (P.amt k))
    from bigSep_mono fun c _ => P.cred_launch c) $$ Hcr
  imodintro
  iapply (sep_each (R := P.records κ)
    (Φ := fun c : Dev nD => iprop((bigSep Finset.univ fun k => dutyTok ER (P.cell (P.dest k c) k) 0 ())
      ∗ (bigSep Finset.univ fun k => atPos ER (P.cell c k) 0 ∅ 0)
      ∗ (bigSep P.rem fun k => cred (tallyAt (P.cell c k) () (P.amt k))))) fun c _ => by
        unfold Held
        iintro ⟨#H, Ht, Ha, Hc⟩
        iexists κ
        isplitr; · iexact H
        isplitl [Ht]; · iexact Ht
        isplitl [Ha]; · iexact Ha
        isplitl [Hc]; · iexact Hc
        rw [Finset.compl_univ, bigSep_empty]; iempintro)
  isplitr
  · unfold records
    isplitr; · iexact HI
    isplitr; · iexact HR
    iexact Hlev
  · rw [bigSep_sep', bigSep_sep']
    isplitl [Htok']; · iexact Htok'
    isplitl [Hat2]; · iexact Hat2
    iexact Hcr'

/-! ## The launch of one call -/

variable {Λ₀ : Labels}

theorem levels_deal (lv : GSem nD τ sig → Unit → ℕ) :
    (bigSep Finset.univ fun c : Dev nD => levels0 (Ix := Unit) (Val := Val) (Name := ℕ) (U := UU nD τ sig) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have hsc : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [L_of_ne (((d, p) : Thread nD τ), sm) (Finset.ne_of_mem_erase hp), BI.bigSep_empty], BI.bigSep_emp_const]).trans
      (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hsc, bigSep_sep']
  exact show (iprop(_ ∗ _) : sProp 𝕄) ⊢ iprop(_ ∗ emp) from by
    iintro ⟨-, H⟩
    isplitl [H]; · iexact H
    iempintro

/-- What a device starts the call with. -/
def Start (Keep : Dev nD → sProp 𝕄) (Dst : K → Dev nD → sProp 𝕄) (c : Dev nD) : sProp 𝕄 :=
  iprop((∃ κ, P.records κ ∗ P.Held c Finset.univ Finset.univ P.rem) ∗ Keep c ∗ (bigSep P.rem fun k => Dst k (P.dest k c))
    ∗ scopedBufs (c.tc : Thread nD τ))

/-- What a device ends the call with. -/
def Done (Out : Dev nD → sProp 𝕄) (c : Dev nD) : sProp 𝕄 :=
  iprop((bigSep Finset.univ fun k => semVal (P.cell c k) 0) ∗ Out c ∗ scopedBufs (c.tc : Thread nD τ))

def dats (cfgs : Fin 1 → Pipeline.Cfg sig Λ₀) (hW : ∀ p, (cfgs p).W = 0) (Keep Out : Dev nD → sProp 𝕄) (Dst : K → Dev nD → sProp 𝕄)
    (p : Fin 1) (c : Dev nD) :
    Dat τ Val Unit ℕ (UU nD τ sig) ℕ (Pipeline.pin (fun p => (cfgs p).toPCfg (Val := Val)) (fun p => (cfgs p).toPCfg_adm) p) c where
  A w := absurd w.isLt (by have := hW p; change ¬ w.val < (cfgs p).W; omega)
  after w := absurd w.isLt (by have := hW p; change ¬ w.val < (cfgs p).W; omega)
  Φ t := if t.val = 0 then P.Start Keep Dst c else P.Done Out c
  q _ := fullShare
  owed t := if t.val = 0 then P.owe c P.rem else 0

/-- A program that is one call of one-shot copies: with the arrays cut into what each device keeps and the pieces other devices
    write, and each device's run from its state of the protocol, the program runs to its end without a fault, every semaphore
    is at zero there, and every device's arrays are as its run leaves them. -/
theorem θ_run_talk [∀ e, Nonempty (Val e)] (cfgs : Fin 1 → Pipeline.Cfg sig Λ₀) (hW : ∀ p, (cfgs p).W = 0) (hN : (cfgs 0).N = 1)
    (phinj : Function.Injective (cellOf (nD := nD) (τ := τ) (Pipeline.pin (fun p => (cfgs p).toPCfg (Val := Val)) (fun p => (cfgs p).toPCfg_adm))))
    (defs₀ : Defs nD τ sig Val Λ₀) (𝒱₀ : Variants)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩)
    (hsc : ∀ sm : SemLoc sig, sm.isScoped .tc = true)
    (m : (ℓ : Loc nD τ sig) → Buf Val ℓ) (g : Dev nD → PrngReg)
    (Keep Out : Dev nD → sProp 𝕄) (Dst : K → Dev nD → sProp 𝕄)
    (hsplit : ∀ d : Dev nD, (unscopedBufs d (fun b => m ((d.tc : Thread nD τ).loc b)) : sProp 𝕄) ⊢ iprop(Keep d ∗ bigSep P.rem fun k => Dst k d))
    (hbody : ∀ (κ : Dev nD × K → ℕ) (c : Dev nD) (t : Fin (cfgs 0).N),
      iprop(P.records κ ∗ P.St c P.rem Finset.univ Finset.univ P.rem ∗ Keep c ∗ bigSep P.rem fun k => Dst k (P.dest k c))
        ⊢ wp frame (wpE defs₀ 𝒱₀ (c.tc : Thread nD τ) none) Set.univ (defs₀ .tc (cfgs 0).body ((cfgs 0).bodyArgs t ((cfgs 0).slots t)))
            fun _ => iprop(P.St c ∅ ∅ ∅ ∅ ∗ Out c))
    (QY : Dev nD → MemSt nD τ sig Val → Prop)
    (hQY : ∀ c (s' : Phys nD τ sig Val), iprop(Out c ∗ SI s') ⊢ |={Set.univ}=> iprop(⌜QY c s'.mem⌝ ∗ SI s')) :
    θ_run (Pipeline.defs (fun p => (cfgs p).toPCfg) defs₀) (onTc main) ⟨m, fun _ => 0, g⟩
      (fun r => (∀ c, QY c r.2) ∧ r.2.sem = fun _ => 0) := by
  classical
  let O₀ : Dev nD → CellTallies nD τ sig Unit := fun c => P.owe c P.rem
  let dts := P.dats cfgs hW Keep Out Dst
  have hE0 : IsEmpty (Fin (Pipeline.pin (fun p => (cfgs p).toPCfg (Val := Val)) (fun p => (cfgs p).toPCfg_adm) 0).W) :=
    by change IsEmpty (Fin (cfgs 0).W); rw [hW 0]; infer_instance
  have hN0 : (Pipeline.pin (fun p => (cfgs p).toPCfg (Val := Val)) (fun p => (cfgs p).toPCfg_adm) 0).N = 1 := hN
  let pre : Dev nD → sProp 𝕄 := fun c => iprop((P.Start Keep Dst c ∗ P.idle c) ∗ owes (c.tc : Thread nD τ) (O₀ c) ∅)
  let fin : Dev nD → sProp 𝕄 := fun c => iprop(Out c ∗ scopedSems0 (c.tc : Thread nD τ))
  refine (θ_run (Pipeline.defs (fun p => (cfgs p).toPCfg) defs₀) _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped hsc (sems_of_reads (fun c => (hr.1 c).2) hr.2)⟩)
    (adequate_tpu (Pipeline.defs (fun p => (cfgs p).toPCfg) defs₀) _ _ _
    (reflect_intro_fupd_tc_sems (X := Unit) (Variants.lift 𝒱₀) (Pipeline.owing O₀) 0 (fun _ => by rw [Pi.zero_apply, Idealize.SL.Util.total_zero]; exact le_rfl) (Pipeline.owing_of_ne O₀) P.u₀
      (fun _ => pre) (fun _ => fin) (fun _ => iprop(emp)) Set.univ ?_ (fun _ c => ?_) fun _ => ?_))
  · -- the launch
    have hcore (c : Dev nD) :
        coreInit (Ix := Unit) (Name := ℕ) (U := UU nD τ sig) (Lvl := ℕ) (Pipeline.owing O₀) 0 (⟨m, fun _ => 0, g⟩ : MemSt nD τ sig Val) (c.tc : Thread nD τ)
          ⊢ iprop(scopedBufs (c.tc : Thread nD τ) ∗ (bigSep Finset.univ fun k => semVal (P.cell c k) 0) ∗ P.idle c
              ∗ Keep c ∗ (bigSep P.rem fun k => Dst k c) ∗ owes (c.tc : Thread nD τ) (O₀ c) ∅ ∗ levels0 c ∗ Pipeline.launchCred O₀ c) :=
      (Pipeline.coreInit_boundary_owing O₀ m g c).trans (by
        unfold boundary
        rw [P.sems_split (fun k => hsc _) c]
        iintro ⟨⟨Hsb, ⟨Hcell, Hidle⟩, -⟩, Hub, -, HO, Hlv, -, Hcr⟩
        ihave Hk := (hsplit c) $$ Hub
        icases Hk with ⟨Hk, Hd⟩
        isplitl [Hsb]; · iexact Hsb
        isplitl [Hcell]; · iexact Hcell
        isplitl [Hidle]; · iexact Hidle
        isplitl [Hk]; · iexact Hk
        isplitl [Hd]; · iexact Hd
        isplitl [HO]; · iexact HO
        isplitl [Hlv] <;> iassumption)
    iintro ⟨Hcores, Hu⟩
    ihave Hc := (show (bigSep Finset.univ fun d : Dev nD =>
          coreInit (Ix := Unit) (Name := ℕ) (U := UU nD τ sig) (Lvl := ℕ) (Pipeline.owing O₀) 0 (⟨m, fun _ => 0, g⟩ : MemSt nD τ sig Val) (d.tc : Thread nD τ))
        ⊢ (iprop((bigSep Finset.univ fun c : Dev nD => scopedBufs (c.tc : Thread nD τ))
            ∗ (bigSep Finset.univ fun c : Dev nD => bigSep Finset.univ fun k => semVal (P.cell c k) 0)
            ∗ (bigSep Finset.univ fun c : Dev nD => P.idle c)
            ∗ (bigSep Finset.univ fun c : Dev nD => Keep c)
            ∗ (bigSep Finset.univ fun c : Dev nD => bigSep P.rem fun k => Dst k (P.dest k c))
            ∗ (bigSep Finset.univ fun c : Dev nD => owes (c.tc : Thread nD τ) (O₀ c) ∅)
            ∗ (bigSep Finset.univ fun c : Dev nD => levels0 c)
            ∗ (bigSep Finset.univ fun c : Dev nD => Pipeline.launchCred O₀ c)) : sProp 𝕄) from by
      refine (bigSep_mono fun c _ => hcore c).trans ?_
      simp only [bigSep_sep']
      rw [P.deal_dest P.rem (fun d k => Dst k d)]
      exact BI.Entails.refl _) $$ Hcores
    icases Hc with ⟨Hsb, Hv, Hidle, Hk, Hd, HO, Hlv, Hcr⟩
    imod (levels_deal P.lv) $$ Hlv with Hla
    imod P.deal $$ [Hv Hcr Hla Hu] with HG
    · isplitl [Hv]; · iexact Hv
      isplitl [Hcr]; · iexact Hcr
      isplitl [Hla]; · iexact Hla
      iexact Hu
    imodintro
    iexists ()
    isplitr []
    · simp only [pre, Start, bigSep_sep']
      isplitr [HO]
      · isplitr [Hidle]
        · isplitl [HG]; · iexact HG
          isplitl [Hk]; · iexact Hk
          isplitl [Hd] <;> iassumption
        · iexact Hidle
      · iexact HO
    · iempintro
  · -- one device's run
    have hΦ (t) : (dts 0 c).Φ t = if t.val = 0 then P.Start Keep Dst c else P.Done Out c := rfl
    have hO (t) : (dts 0 c).owed t = if t.val = 0 then P.owe c P.rem else 0 := rfl
    have hend (t) : iprop(P.St c ∅ ∅ ∅ ∅ ∗ Out c ∗ scopedBufs (c.tc : Thread nD τ))
        ⊢ (iprop(((bigSep Finset.univ fun k => semVal (P.cell c k) 0) ∗ Out c ∗ scopedBufs (c.tc : Thread nD τ))
          ∗ (∃ W : Waits sig Unit, ⌜↑W ⊆ (dts 0 c).bound () t⌝ ∗ owes (c.tc : Thread nD τ) 0 W) ∗ emp) : sProp 𝕄) := by
      rw [P.St_eq, show P.owe c ∅ = 0 from Finset.sum_empty]
      unfold Held
      rw [Finset.compl_empty]
      iintro ⟨⟨⟨%W', HW⟩, -, -, -, Hv⟩, Hout, Hsb⟩
      isplitl [Hv Hout Hsb]
      · isplitl [Hv]; · iexact Hv
        isplitl [Hout] <;> iassumption
      isplitl [HW]
      · iexists W'
        isplitr; · ipureintro; exact fun x _ => Or.inl (Set.mem_univ x)
        iexact HW
      iempintro
    have hpost : Pipeline.EntryPost (Pipeline.pin (fun p => (cfgs p).toPCfg (Val := Val)) (fun p => (cfgs p).toPCfg_adm)) dts () 0 c
        ⊢ iprop(∃ W, owes (c.tc : Thread nD τ) 0 W) := by
      unfold Pipeline.EntryPost Pipeline.PerCore.EntryPost Dat.owesAt Pipeline.owesWithin
      rw [show (dts 0 c).owed (Fin.last _) = 0 from (hO _).trans (if_neg (by rw [Fin.val_last, hN0]; decide))]
      iintro ⟨-, ⟨%W, -, HW⟩⟩
      iexists W; iexact HW
    have hbo : Pipeline.BodyObligationLoose (dts 0 c) defs₀ 𝒱₀ () Set.univ := by
      intro t
      have ht : t.val = 0 := by have := t.isLt; omega
      simp only [Finset.univ_eq_empty, bigSep_empty]
      have h0 : (dts 0 c).Φ t.castSucc = P.Start Keep Dst c := (hΦ _).trans (if_pos ht)
      have h1 : (dts 0 c).Φ t.succ = P.Done Out c := (hΦ _).trans (if_neg (Nat.succ_ne_zero t.val))
      have o0 : (dts 0 c).owed t.castSucc = P.owe c P.rem := (hO _).trans (if_pos ht)
      have o1 : (dts 0 c).owed t.succ = 0 := (hO _).trans (if_neg (Nat.succ_ne_zero t.val))
      unfold Dat.owesAt Pipeline.owesWithin
      rw [h0, h1, o0, o1]
      unfold Start Done
      iintro ⟨⟨⟨%κ, #HR, HH⟩, Hk, Hd, Hsb⟩, ⟨%W, -, HW⟩, -⟩
      ihave Hwp := (hbody κ c t) $$ [HH Hk Hd HW]
      · isplitr; · iexact HR
        isplitl [HH HW]
        · rw [P.St_eq]
          isplitl [HW]; · iexists W; iexact HW
          iexact HH
        isplitl [Hk] <;> iassumption
      iapply (wp_wand_r frame (wpE defs₀ 𝒱₀ (c.tc : Thread nD τ) none) Set.univ)
      isplitl [Hwp]; · iexact Hwp
      iintro %a ⟨HSt, Hout⟩
      iapply hend
      isplitl [HSt]; · iexact HSt
      isplitl [Hout] <;> iassumption
    have hout : iprop((dts 0 c).Φ (Fin.last _) ∗ Pipeline.cellsSems0 (Pipeline.pin (fun p => (cfgs p).toPCfg (Val := Val)) (fun p => (cfgs p).toPCfg_adm)) 0 c
          ∗ Dat.staging (Pipeline.pin (fun p => (cfgs p).toPCfg (Val := Val)) (fun p => (cfgs p).toPCfg_adm) 0) c ∗ P.idle c)
        ⊢ (iprop(Out c ∗ scopedSems0 (c.tc : Thread nD τ) ∗ scopedBufs (c.tc : Thread nD τ)) : sProp 𝕄) := by
      rw [show (dts 0 c).Φ (Fin.last _) = P.Done Out c from (hΦ _).trans (if_neg (by rw [Fin.val_last, hN0]; decide)), P.sems_split (fun k => hsc _) c]
      unfold Done
      iintro ⟨⟨Hv, Hout, Hsb⟩, -, -, Hi⟩
      isplitl [Hout]; · iexact Hout
      isplitr [Hsb]
      · isplitl [Hv] <;> iassumption
      · iexact Hsb
    have hin : iprop(((∃ κ, P.records κ ∗ P.Held c Finset.univ Finset.univ P.rem) ∗ Keep c ∗ bigSep P.rem fun k => Dst k (P.dest k c))
          ∗ Pipeline.prefHeld ((cfgs 0).toPCfg (Val := Val)).pre c (fun _ => fullShare) ((cfgs 0).toPCfg_adm (Val := Val)).1 ∗ scopedBufs (c.tc : Thread nD τ))
        ⊢ (dts 0 c).Φ 0 := by
      rw [show (dts 0 c).Φ 0 = P.Start Keep Dst c from (hΦ _).trans (if_pos rfl)]
      unfold Start
      iintro ⟨⟨Hg, Hk, Hd⟩, -, Hsb⟩
      isplitl [Hg]; · iexact Hg
      isplitl [Hk]; · iexact Hk
      isplitl [Hd] <;> iassumption
    have hpf : (emp : sProp 𝕄) ⊢ Pipeline.prefHeld ((cfgs 0).toPCfg (Val := Val)).pre c (fun _ => fullShare) ((cfgs 0).toPCfg_adm (Val := Val)).1 := by
      unfold Pipeline.prefHeld
      have : IsEmpty (Fin ((cfgs 0).toPCfg (Val := Val)).pre.K) := inferInstanceAs (IsEmpty (Fin 0))
      rw [Finset.univ_eq_empty, bigSep_empty]
      exact BI.Entails.refl _
    simp only [pre]
    rw [hmain c]
    unfold Start
    iintro ⟨⟨⟨Hg, Hk, Hd, Hsb⟩, Hi⟩, HO⟩
    iapply (Pipeline.wp_customCall_entry_frame (fun p => (cfgs p).toPCfg (Val := Val)) (fun p => (cfgs p).toPCfg_adm) dts () EP (fun _ => 0) phinj 0
        defs₀ 𝒱₀ (fun _ => fullShare) c Set.univ (fun _ _ => Set.mem_univ _) hbo (fun w => isEmptyElim w) none (fun u h => nomatch h)
        (X := iprop((∃ κ, P.records κ ∗ P.Held c Finset.univ Finset.univ P.rem) ∗ Keep c ∗ bigSep P.rem fun k => Dst k (P.dest k c)))
        (Y := Out c) (R := scopedBufs (c.tc : Thread nD τ)) (I := P.idle c)
        (by unfold Dat.staging; simp only [Finset.univ_eq_empty, bigSep_empty]
            iintro H; isplitr; · iempintro
            iexact H)
        hin hout
        (k := fun _ => .ret ⟨⟩) (Q := fun _ => post (liftTc fin BI.emp) (c.tc : Thread nD τ))) $$ [Hg Hk Hd Hsb Hi HO]
    · isplitl [HO]
      · unfold Pipeline.EntryPre Pipeline.PerCore.EntryPre Dat.owesAt Pipeline.owesWithin Dat.arrays Pipeline.PerCore.cellsWaits Pipeline.PerCore.cellsInit Pipeline.PerCore.RDat.cellsWaits Pipeline.PerCore.RDat.cellsInit Pipeline.PerCore.toksInit
        simp only [Finset.univ_eq_empty, bigSep_empty]
        isplitr; · iempintro
        isplitl [HO]
        · iexists ∅; isplitr; · ipureintro; rw [Finset.coe_empty]; exact Set.empty_subset _
          iexact HO
        isplitr; · iempintro
        isplitr; · iempintro
        iempintro
      isplitr
      · iapply hpf; iempintro
      isplitl [Hg Hk Hd]
      · isplitl [Hg]; · iexact Hg
        isplitl [Hk] <;> iassumption
      isplitl [Hi] <;> iassumption
    iintro ⟨Hpost, HY, Hss, -⟩
    rw [wp_ret]; imodintro
    unfold post; simp only [liftTc_tc, fin]
    isplitr [Hpost]
    · isplitl [HY] <;> iassumption
    · iapply hpost; iexact Hpost
  · -- the reading of the final arrays
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hQY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc' := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc'⟩

end Proto

end Cert.Talk

end
-- ==== Proof.Talk.Views.lean ====
/-
# What a copy leaves behind, and arrays taken apart

Small facts about points-tos that every exchange uses: what a copy has written is told by what a read of the
destination must give (`landed`), an array is a view of it and the rest (`cut`), and arrays at the end of a run are
read against the memory (`read_one`).
-/
module

public import proofs.«01_k».proof.Proof.Talk.Rules

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => MM nD τ sig Val

/-- A view written with `w` holds any contents `g` that read `w` through the view. -/
theorem landed {d : Dev nD} {sp : Space} {s : Shape} {e : EltTy} (v : View sig .tc sp s e)
    (fd g : Buf Val (v.loc (d.tc : Thread nD τ))) (w : s.Idx → Val e) {q : PosShare TreeShare} (h : v.read Val g = w) :
    (v.loc (d.tc : Thread nD τ) ↦[v.set]{q} (v.write Val fd w Finset.univ) : sProp 𝕄) = (v.loc (d.tc : Thread nD τ) ↦[v.set]{q} g) := by
  refine pointsTo_congr fun i hi => ?_
  have h2 : v.read Val (v.write Val fd w Finset.univ) = v.read Val g := by rw [View.read_write_univ, h]
  unfold View.set at hi
  obtain ⟨j, -, rfl⟩ := Finset.mem_map.mp hi
  have h3 := congrFun h2 j
  unfold View.read at h3
  exact (cast_inj _).mp h3

/-- An array is some of its elements and the others. -/
theorem cut {ℓ : Loc nD τ sig} (I : Finset (Idx ℓ)) {q : PosShare TreeShare} (f : Buf Val ℓ) :
    (ℓ ↦{q} f : sProp 𝕄) = iprop((ℓ ↦[I]{q} f) ∗ (ℓ ↦[Finset.univ \ I]{q} f)) :=
  BI.equiv_iff.mp ⟨(pointsTo_split_subset (Finset.subset_univ I)).1, (pointsTo_split_subset (Finset.subset_univ I)).2⟩

/-- A whole array is what the memory holds. -/
theorem read_one (ℓ : Loc nD τ sig) (f : Buf Val ℓ) {q : PosShare TreeShare} (s' : Phys nD τ sig Val) :
    iprop((ℓ ↦{q} f : sProp 𝕄) ∗ SI s') ⊢ iprop(⌜s'.mem.mem ℓ = f⌝ ∗ SI s') := by
  have h := pointsTo_read_all (Ix := Unit) (Name := ℕ) (U := UU nD τ sig) (Lvl := ℕ) ({()} : Finset Unit)
    (fun _ => ℓ) (fun _ => f) s' q
  rw [bigSep_singleton] at h
  refine h.trans ?_
  iintro ⟨%h, H⟩
  isplitr
  · ipureintro; exact h () (Finset.mem_singleton_self _)
  iexact H

/-- A whole array written with `w` holds `w`. -/
theorem landed_whole {d : Dev nD} {b : Ref sig .tc} (fd : Buf Val ((d.tc : Thread nD τ).loc b)) (w : b.ty.shape.Idx → Val b.ty.elt)
    {q : PosShare TreeShare} :
    ((Memref.whole b).view.loc (d.tc : Thread nD τ) ↦[(Memref.whole b).view.set]{q} ((Memref.whole b).view.write Val fd w Finset.univ) : sProp 𝕄)
      = ((d.tc : Thread nD τ).loc b ↦{q} w) := by
  show ((d.tc : Thread nD τ).loc b ↦[(View.whole b).set]{q} ((View.whole b).write Val fd w Finset.univ) : sProp 𝕄) = _
  rw [View.set_whole, View.write_whole_univ]

/-! ## The rules as steps of a run -/

section Steps

variable {K : Type} [Fintype K] [DecidableEq K] (P : Proto nD τ sig Val K)
variable {Λ : Labels} (defs : Defs nD τ sig Val Λ) (𝒱 : Variants)

/-- A copy to another device, out of what the device holds (`R`) into what it keeps (`R'`). -/
theorem Proto.send_step (κ : Dev nD × K → ℕ) (c : Dev nD) {S T A C : Finset K} (ks kr : K)
    {sp sp' : Space} {s : Shape} {e : EltTy} {d : Dev nD}
    {src : Memref sig .tc sp s e} {dst : Memref sig .tc sp' s e} {hsc : dst.view.ref.isScScratch = false}
    {sS sR : SemLoc sig}
    {hsrc : src.view.WordExact} {hdst : dst.view.WordExact} {hsem : DmaTarget.Typed sp sR (.remote (d.tc : Thread nD τ) dst sS hsc)}
    {α : Type} {k : PUnit → Prog (TpuEff nD τ sig Val Λ .tc) α} {Q : α → sProp 𝕄} {q : PosShare TreeShare}
    {fs : Buf Val (src.view.loc (c.tc : Thread nD τ))} {fd : Buf Val (dst.view.loc (d.tc : Thread nD τ))} {R : sProp 𝕄} (R' : sProp 𝕄)
    (hR : R ⊢ iprop((src.view.loc (c.tc : Thread nD τ) ↦[src.view.set]{q} fs) ∗ (dst.view.loc (d.tc : Thread nD τ) ↦[dst.view.set]{fullShare} fd) ∗ R'))
    (hd : d = P.dest kr c)
    (hpay₁ : (src.view.loc (c.tc : Thread nD τ) ↦[src.view.set]{q} fs) ⊢ P.pay ks c)
    (hpay₂ : (dst.view.loc (d.tc : Thread nD τ) ↦[dst.view.set]{fullShare} (dst.view.write Val fd (src.view.read Val fs) Finset.univ))
      ⊢ P.pay kr d)
    (hks : ks ∈ T) (hkr : kr ∈ T.erase ks) (hS : kr ∈ S) (hC : ks ∉ C) (hloc : P.dest ks c = c) (hamt : P.amt ks = P.amt kr)
    (hsS : sS = .dma (P.sem ks)) (hsR : sR = .dma (P.sem kr)) (hN : dst.view.amount sR = P.amt kr)
    (hk : iprop(P.records κ ∗ P.St c (S.erase kr) ((T.erase ks).erase kr) A (insert ks C) ∗ R')
      ⊢ wp frame (wpE defs 𝒱 (c.tc : Thread nD τ) none) Set.univ (k ⟨⟩) Q)
    (hr : τ.routes (c.tc : Thread nD τ) (d.tc : Thread nD τ) = true := by routes) :
    iprop(P.records κ ∗ P.St c S T A C ∗ R)
      ⊢ wp frame (wpE defs 𝒱 (c.tc : Thread nD τ) none) Set.univ (.op (.enqueueDma src (.remote (d.tc : Thread nD τ) dst sS hsc) sR hsrc hdst hsem) k) Q := by
  iintro ⟨#HR, HS, H⟩
  ihave H := hR $$ H
  icases H with ⟨Hs, Hd, H⟩
  iapply (P.send defs 𝒱 κ c ks kr hks hkr hS hC hloc hamt hd hsS hsR hN hpay₁ hpay₂ hr) $$ [HS Hs Hd]
  · isplitr; · iexact HR
    isplitl [HS]; · iexact HS
    isplitl [Hs]; · iexact Hs
    iexact Hd
  iintro HS
  iapply hk
  isplitr; · iexact HR
  isplitl [HS]; · iexact HS
  iexact H

/-- A copy on the device itself. -/
theorem Proto.copy_step (κ : Dev nD × K → ℕ) (c : Dev nD) {S T A C : Finset K} (kc : K)
    {sp sp' : Space} {s : Shape} {e : EltTy}
    {src : Memref sig .tc sp s e} {dst : Memref sig .tc sp' s e} {sR : SemLoc sig}
    {hsrc : src.view.WordExact} {hdst : dst.view.WordExact} {hsem : DmaTarget.Typed (nD := nD) (τ := τ) (p := Proc.tc) sp sR (.here dst)}
    {α : Type} {k : PUnit → Prog (TpuEff nD τ sig Val Λ .tc) α} {Q : α → sProp 𝕄} {q : PosShare TreeShare}
    {fs : Buf Val (src.view.loc (c.tc : Thread nD τ))} {fd : Buf Val (dst.view.loc (c.tc : Thread nD τ))} {R : sProp 𝕄} (R' : sProp 𝕄)
    (hR : R ⊢ iprop((src.view.loc (c.tc : Thread nD τ) ↦[src.view.set]{q} fs) ∗ (dst.view.loc (c.tc : Thread nD τ) ↦[dst.view.set]{fullShare} fd) ∗ R'))
    (hpay : iprop((dst.view.loc (c.tc : Thread nD τ) ↦[dst.view.set]{fullShare} (dst.view.write Val fd (src.view.read Val fs) Finset.univ))
      ∗ (src.view.loc (c.tc : Thread nD τ) ↦[src.view.set]{q} fs)) ⊢ P.pay kc c)
    (hk : kc ∈ T) (hC : kc ∉ C) (hloc : P.dest kc c = c)
    (hsR : sR = .dma (P.sem kc)) (hN : dst.view.amount sR = P.amt kc)
    (hw : iprop(P.records κ ∗ P.St c S (T.erase kc) A (insert kc C) ∗ R')
      ⊢ wp frame (wpE defs 𝒱 (c.tc : Thread nD τ) none) Set.univ (k ⟨⟩) Q) :
    iprop(P.records κ ∗ P.St c S T A C ∗ R)
      ⊢ wp frame (wpE defs 𝒱 (c.tc : Thread nD τ) none) Set.univ (.op (.enqueueDma src (.here dst) sR hsrc hdst hsem) k) Q := by
  iintro ⟨#HR, HS, H⟩
  ihave H := hR $$ H
  icases H with ⟨Hs, Hd, H⟩
  iapply (P.copy defs 𝒱 κ c kc hk hC hloc hsR hN hpay) $$ [HS Hs Hd]
  · isplitr; · iexact HR
    isplitl [HS]; · iexact HS
    isplitl [Hs]; · iexact Hs
    iexact Hd
  iintro HS
  iapply hw
  isplitr; · iexact HR
  isplitl [HS]; · iexact HS
  iexact H

/-- A wait: what the copy hands over joins what the device holds. -/
theorem Proto.wait_step (κ : Dev nD × K → ℕ) (c : Dev nD) {S T A C : Finset K} (kc : K)
    {sp sp' : Space} {s s' : Shape} {e e' : EltTy} {κ' : Kind} {sem : DmaSem sig}
    {src : Memref sig .tc sp' s' e'} {dst : Memref sig κ' sp s e} {hsrc : src.view.WordExact} {hdst : dst.view.WordExact}
    {α : Type} {k : PUnit → Prog (TpuEff nD τ sig Val Λ .tc) α} {Q : α → sProp 𝕄} {R : sProp 𝕄}
    (hA : kc ∈ A) (hC : kc ∈ C) (hlev : ∀ k' ∈ S, P.lvl kc < P.lvl k') (hs : sem = P.sem kc) (hN : dst.view.dmaCredit = P.amt kc)
    (hk : iprop(P.records κ ∗ P.St c S T (A.erase kc) (C.erase kc) ∗ P.pay kc c ∗ R)
      ⊢ wp frame (wpE defs 𝒱 (c.tc : Thread nD τ) none) Set.univ (k ⟨⟩) Q) :
    iprop(P.records κ ∗ P.St c S T A C ∗ R)
      ⊢ wp frame (wpE defs 𝒱 (c.tc : Thread nD τ) none) Set.univ (.op (.waitDma2 sem src dst hsrc hdst) k) Q := by
  iintro ⟨#HR, HS, H⟩
  iapply (P.wait defs 𝒱 κ c kc hA hC hlev hs hN) $$ [HS]
  · isplitr; · iexact HR
    iexact HS
  iintro ⟨HS, Hp⟩
  iapply hk
  isplitr; · iexact HR
  isplitl [HS]; · iexact HS
  isplitl [Hp]; · iexact Hp
  iexact H

/-- The end: every semaphore is back at zero. -/
theorem Proto.end_step (κ : Dev nD × K → ℕ) (c : Dev nD) {S T A C : Finset K} {α : Type} {x : α} {R : sProp 𝕄} (O : sProp 𝕄)
    (hS : S = ∅) (hT : T = ∅) (hA : A = ∅) (hC : C = ∅) (hR : R ⊢ O) :
    iprop(P.records κ ∗ P.St c S T A C ∗ R)
      ⊢ wp frame (wpE defs 𝒱 (c.tc : Thread nD τ) none) Set.univ (.ret x) fun _ => iprop(P.St c ∅ ∅ ∅ ∅ ∗ O) := by
  subst hS hT hA hC
  rw [wp_ret]
  iintro ⟨-, HS, H⟩
  imodintro
  isplitl [HS]; · iexact HS
  iapply hR
  iexact H

end Steps

/-- A call without windows: the buffers outside a core's scope are all "rest". -/
theorem unscoped_rest {gr W : ℕ} (hW : W = 0) (spec : Fin W → Pipeline.WinSpec sig gr) (c : Dev nD) (V : (b : Ref sig .tc) → Buf Val ((c.tc : Thread nD τ).loc b)) :
    (unscopedBufs c V : sProp 𝕄) ⊢ Pipeline.unscopedRest spec c V := by
  subst hW
  unfold unscopedBufs Pipeline.unscopedRest
  have h : (Finset.univ.image (Pipeline.arrRef spec)) = ∅ := by rw [Finset.univ_eq_empty, Finset.image_empty]
  rw [h, Finset.sdiff_empty]

end Cert.Talk

end
-- ==== Proof.Swap.Run.lean ====
/-
# The swap between the two cores of a chip: its run

Each device sends one half of its partial gradients to its sibling, the other core of its chip, and receives the
sibling's other half. Per device four semaphores, each credited by one copy:

* 0 and 1, send: the device's own copies of the two arrays; the wait gives back the half that was read;
* 2 and 3, receive: the sibling's copies; the wait hands over the device's result, which then holds the half the
  sibling sent.

No device waits before all its copies are issued.
-/
module

public import proofs.«01_k».proof.Proof.Talk.Launch
public import proofs.«01_k».proof.Proof.Talk.Views
public import proofs.«01_k».proof.Proof.Gen.SwapIdeal.Skeleton
public import proofs.«01_k».proof.Proof.Gen.SwapIdeal.Launch

@[expose] public section

noncomputable section

namespace Cert.SwapIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.SwapIdeal Cert.SwapIdeal.Gen Cert.Talk

variable {F : FTy → Type} [FloatOps F]

local notation "𝕄" => MM nD τ sig (Elt F)

/-! ## The devices -/

/-- The other core of the chip. -/
def sib (c : Dev nD) : Dev nD :=
  ⟨(4 * (c.val / 4) + 2 * ((c.val / 2) % 2) + 1) - c.val % 2, by have := c.isLt; revert this; generalize c.val = v; decide +revert⟩

theorem sib_sib (c : Dev nD) : sib (sib c) = c := by revert c; decide
theorem sib_off (c : Dev nD) : 1 - (sib c).val % 2 = c.val % 2 := by revert c; decide
/-- The devices that the two copies address. -/
abbrev dev1 (c : Dev nD) : Dev nD := ⟨k0_dev1 c, k0_dev1_lt c⟩
abbrev dev2 (c : Dev nD) : Dev nD := ⟨k0_dev2 c, k0_dev2_lt c⟩
theorem dev1_eq (c : Dev nD) : dev1 c = sib c := Fin.ext (k0_dev1_eq c)
theorem dev2_eq (c : Dev nD) : dev2 c = sib c := Fin.ext (k0_dev2_eq c)

def swap : Equiv.Perm (Dev nD) := ⟨sib, sib, sib_sib, sib_sib⟩

/-! ## The arrays -/

/-- The halves that device `c` sends. -/
abbrev half0 (c : Dev nD) : Memref sig .tc .hbm S4x1024x5648 .f32 :=
  ((Memref.whole main_arg0).slice (Rect.unit (s := S2x4x1024x5648) (k0_off1 c) S1x4x1024x5648.size (k0_off1_inb c)) (fun _ => rfl)).squeeze
    S4x1024x5648 squeezes_S1x4x1024x5648_S4x1024x5648
abbrev half1 (c : Dev nD) : Memref sig .tc .hbm S4x1024x2048 .f32 :=
  ((Memref.whole main_arg1).slice (Rect.unit (s := S2x4x1024x2048) (k0_off2 c) S1x4x1024x2048.size (k0_off2_inb c)) (fun _ => rfl)).squeeze
    S4x1024x2048 squeezes_S1x4x1024x2048_S4x1024x2048

variable (m : (ℓ : Loc nD τ sig) → Buf (Elt F) ℓ)

/-- What the device's results hold at the end: the halves that its sibling sent. -/
def out0 (d : Dev nD) : Buf (Elt F) ((d.tc : Thread nD τ).loc main_v1_0) :=
  (half0 (sib d)).view.read (Elt F) (m ((sib d).tc.loc main_arg0))
def out1 (d : Dev nD) : Buf (Elt F) ((d.tc : Thread nD τ).loc main_v1_1) :=
  (half1 (sib d)).view.read (Elt F) (m ((sib d).tc.loc main_arg1))

/-! ## The protocol -/

/-- The two results are credited by as much as they hold. -/
abbrev N0 : ℕ := (Memref.whole main_v1_0).view.dmaCredit
abbrev N1 : ℕ := (Memref.whole main_v1_1).view.dmaCredit

/-- What each semaphore's copy hands the device that waits. -/
def pay (k : Fin 4) (d : Dev nD) : sProp 𝕄 :=
  match k with
  | 0 => (half0 d).view.loc (d.tc : Thread nD τ) ↦[(half0 d).view.set]{fullShare} (m ((d.tc).loc main_arg0))
  | 1 => (half1 d).view.loc (d.tc : Thread nD τ) ↦[(half1 d).view.set]{fullShare} (m ((d.tc).loc main_arg1))
  | 2 => ((d.tc : Thread nD τ).loc main_v1_0) ↦{fullShare} (out0 m d)
  | 3 => ((d.tc : Thread nD τ).loc main_v1_1) ↦{fullShare} (out1 m d)

def P : Proto nD τ sig (Elt F) (Fin 4) where
  sem := ![0, 1, 2, 3]
  inj := by decide
  amt := ![N0, N1, N0, N1]
  pos k := by
    fin_cases k
    · exact View.dmaCredit_pos _ (by decide)
    · exact View.dmaCredit_pos _ (by decide)
    · exact View.dmaCredit_pos _ (by decide)
    · exact View.dmaCredit_pos _ (by decide)
  lvl := ![0, 0, 1, 1]
  dest := ![Equiv.refl _, Equiv.refl _, swap, swap]
  rem := {2, 3}
  home := by
    intro k hk
    fin_cases k
    · rfl
    · rfl
    · exact absurd (by decide) hk
    · exact absurd (by decide) hk
  pay := pay m
  stor k d := by
    fin_cases k <;> exact inferInstanceAs (BI.Storable upEmb (_ ↦[_]{fullShare} _ : sProp 𝕄))

/-! ## The body -/

theorem half0_set_loc (c : Dev nD) : (half0 c).view.loc (c.tc : Thread nD τ) = (c.tc : Thread nD τ).loc main_arg0 := rfl

/-- What a device keeps while it talks: its arguments, each cut in the half it sends and the other. -/
def Keep (d : Dev nD) : sProp 𝕄 :=
  iprop((((d.tc : Thread nD τ).loc main_arg0) ↦{fullShare} m ((d.tc).loc main_arg0)) ∗ (((d.tc : Thread nD τ).loc main_arg1) ↦{fullShare} m ((d.tc).loc main_arg1)))

def Out (d : Dev nD) : sProp 𝕄 :=
  iprop(Keep m d ∗ (((d.tc : Thread nD τ).loc main_v1_0) ↦{fullShare} out0 m d) ∗ (((d.tc : Thread nD τ).loc main_v1_1) ↦{fullShare} out1 m d))

/-- The result that the copy into a receive semaphore fills, as the memory starts. -/
def Dst (k : Fin 4) (d : Dev nD) : sProp 𝕄 :=
  match k with
  | 2 => ((d.tc : Thread nD τ).loc main_v1_0) ↦{fullShare} m ((d.tc).loc main_v1_0)
  | 3 => ((d.tc : Thread nD τ).loc main_v1_1) ↦{fullShare} m ((d.tc).loc main_v1_1)
  | _ => iprop(emp)

/-- The halves that were read come back. -/
theorem back0 (c : Dev nD) : ((half0 c).view.loc (c.tc : Thread nD τ) ↦[(half0 c).view.set]{fullShare} (m ((c.tc).loc main_arg0)) : sProp 𝕄) ⊢ (P m).pay 0 c := by
  show _ ⊢ pay m 0 c
  unfold pay
  exact BI.Entails.refl _
theorem back1 (c : Dev nD) : ((half1 c).view.loc (c.tc : Thread nD τ) ↦[(half1 c).view.set]{fullShare} (m ((c.tc).loc main_arg1)) : sProp 𝕄) ⊢ (P m).pay 1 c := by
  show _ ⊢ pay m 1 c
  unfold pay
  exact BI.Entails.refl _

/-- A device's copies fill its sibling's results. -/
theorem landed0 (c : Dev nD) {d : Dev nD} (hd : d = sib c) (fd : Buf (Elt F) ((d.tc : Thread nD τ).loc main_v1_0)) :
    ((Memref.whole main_v1_0).view.loc (d.tc : Thread nD τ) ↦[(Memref.whole main_v1_0).view.set]{fullShare}
        ((Memref.whole main_v1_0).view.write (Elt F) fd ((half0 c).view.read (Elt F) (m ((c.tc).loc main_arg0))) Finset.univ) : sProp 𝕄)
      ⊢ pay m 2 d := by
  subst hd
  rw [landed_whole]
  unfold pay out0
  rw [sib_sib]
theorem landed1 (c : Dev nD) {d : Dev nD} (hd : d = sib c) (fd : Buf (Elt F) ((d.tc : Thread nD τ).loc main_v1_1)) :
    ((Memref.whole main_v1_1).view.loc (d.tc : Thread nD τ) ↦[(Memref.whole main_v1_1).view.set]{fullShare}
        ((Memref.whole main_v1_1).view.write (Elt F) fd ((half1 c).view.read (Elt F) (m ((c.tc).loc main_arg1))) Finset.univ) : sProp 𝕄)
      ⊢ pay m 3 d := by
  subst hd
  rw [landed_whole]
  unfold pay out1
  rw [sib_sib]

abbrev 𝒱₀ : Variants := Variants.none

/-- The other halves of the arguments, which the device keeps. -/
abbrev Rest (c : Dev nD) : sProp 𝕄 :=
  iprop((((c.tc : Thread nD τ).loc main_arg0) ↦[Finset.univ \ (half0 c).view.set]{fullShare} m ((c.tc).loc main_arg0))
    ∗ (((c.tc : Thread nD τ).loc main_arg1) ↦[Finset.univ \ (half1 c).view.set]{fullShare} m ((c.tc).loc main_arg1)))

theorem body (κ : Dev nD × Fin 4 → ℕ) (c : Dev nD) :
    iprop((P m).records κ ∗ (P m).St c (P m).rem Finset.univ Finset.univ (P m).rem ∗ Keep m c ∗ bigSep (P m).rem fun k => Dst m k ((P m).dest k c))
      ⊢ wp frame (wpE (defs₀ (F := F)) 𝒱₀ (c.tc : Thread nD τ) none) Set.univ
        (cc0_sibling_swap (F := F) (Memref.whole main_arg0) (Memref.isWhole_whole _) (Memref.whole main_arg1) (Memref.isWhole_whole _)
          (Memref.whole main_v1_0) (Memref.isWhole_whole _) (Memref.whole main_v1_1) (Memref.isWhole_whole _) cc0_scratch0 cc0_scratch1)
        fun _ => iprop((P m).St c ∅ ∅ ∅ ∅ ∗ Out m c) := by
  show iprop((P m).records κ ∗ (P m).St c {2, 3} Finset.univ Finset.univ {2, 3} ∗ Keep m c ∗ bigSep ({2, 3} : Finset (Fin 4)) fun k => Dst m k ((P m).dest k c)) ⊢ _
  have hd : (bigSep ({2, 3} : Finset (Fin 4)) fun k => Dst m k ((P m).dest k c) : sProp 𝕄)
      = iprop(((Dev.tc (dev1 c) : Thread nD τ).loc main_v1_0 ↦{fullShare} m ((Dev.tc (dev1 c)).loc main_v1_0))
        ∗ ((Dev.tc (dev2 c) : Thread nD τ).loc main_v1_1 ↦{fullShare} m ((Dev.tc (dev2 c)).loc main_v1_1))) := by
    rw [dev1_eq, dev2_eq, bigSep_insert (by decide), bigSep_singleton]
    rfl
  rw [hd]
  unfold Keep
  rw [cut (half0 c).view.set, cut (half1 c).view.set]
  simp only [cc0_sibling_swap_eq_skeleton]
  unfold cc0_sibling_swap_skel
  simp only [k0_part1_eq_skeleton, k0_part2_eq_skeleton]
  unfold k0_part1_skel k0_part2_skel
  simp only [Prog.lift, Prog.bind_op, Prog.bind_ret, Prog.pure_eq_ret, wp_deviceId]
  refine (P m).send_step _ _ κ c 0 2 (src := half0 c) (dst := Memref.whole main_v1_0) (q := fullShare)
    (fs := m ((c.tc).loc main_arg0)) (fd := m ((dev1 c).tc.loc main_v1_0))
    iprop(Rest m c ∗ (((c.tc : Thread nD τ).loc main_arg1) ↦[(half1 c).view.set]{fullShare} m ((c.tc).loc main_arg1))
      ∗ ((Dev.tc (dev2 c) : Thread nD τ).loc main_v1_1 ↦{fullShare} m ((dev2 c).tc.loc main_v1_1)))
    ?_ (dev1_eq c) (back0 m c) (landed0 m c (dev1_eq c) _)
    (by decide) (by decide) (by decide) (by decide) rfl rfl rfl rfl rfl ?_
  · iintro ⟨⟨⟨H0, K0⟩, H1, K1⟩, D0, D1⟩
    isplitl [H0]; · iexact H0
    isplitl [D0]; · rw [View.set_whole]; iexact D0
    isplitl [K0 K1]
    · isplitl [K0]; · iexact K0
      iexact K1
    isplitl [H1]; · iexact H1
    iexact D1
  refine (P m).send_step _ _ κ c 1 3 (src := half1 c) (dst := Memref.whole main_v1_1) (q := fullShare)
    (fs := m ((c.tc).loc main_arg1)) (fd := m ((dev2 c).tc.loc main_v1_1)) (Rest m c)
    ?_ (dev2_eq c) (back1 m c) (landed1 m c (dev2_eq c) _)
    (by decide) (by decide) (by decide) (by decide) rfl rfl rfl rfl rfl ?_
  · iintro ⟨K, H1, D1⟩
    isplitl [H1]; · iexact H1
    isplitl [D1]; · rw [View.set_whole]; iexact D1
    iexact K
  have hl (k : Fin 4) : ∀ k' ∈ (({2, 3} : Finset (Fin 4)).erase 2).erase 3, (P m).lvl k < (P m).lvl k' := fun k' h => absurd h (by revert k'; decide)
  refine (P m).wait_step _ _ κ c 0 (by decide) (by decide) (hl _) rfl rfl ?_
  refine (P m).wait_step _ _ κ c 2 (by decide) (by decide) (hl _) rfl rfl ?_
  refine (P m).wait_step _ _ κ c 1 (by decide) (by decide) (hl _) rfl rfl ?_
  refine (P m).wait_step _ _ κ c 3 (by decide) (by decide) (hl _) rfl rfl ?_
  refine (P m).end_step _ _ κ c (Out m c) (by decide) (by decide) (by decide) (by decide) ?_
  show iprop(pay m 3 c ∗ pay m 1 c ∗ pay m 2 c ∗ pay m 0 c ∗ Rest m c) ⊢ _
  unfold Out Keep pay
  rw [cut (ℓ := (c.tc : Thread nD τ).loc main_arg0) (half0 c).view.set, cut (ℓ := (c.tc : Thread nD τ).loc main_arg1) (half1 c).view.set]
  iintro ⟨D1, H1, D0, H0, K0, K1⟩
  isplitl [H0 K0 H1 K1]
  · isplitl [H0 K0]
    · isplitl [H0]; · iexact H0
      iexact K0
    isplitl [H1]; · iexact H1
    iexact K1
  isplitl [D0]; · iexact D0
  iexact D1

/-! ## The run -/

/-- The buffers at the start: the arguments, and the two results that the receive semaphores' copies fill. -/
theorem split (d : Dev nD) :
    (unscopedBufs d (fun b => m (d.tc.loc b)) : sProp 𝕄) ⊢ iprop(Keep m d ∗ bigSep (P m).rem fun k => Dst m k d) := by
  show _ ⊢ iprop(Keep m d ∗ bigSep ({2, 3} : Finset (Fin 4)) fun k => Dst m k d)
  rw [bigSep_insert (by decide), bigSep_singleton]
  refine (unscoped_rest rfl cfg0.spec d _).trans ?_
  rw [unscopedRest0_eq]
  refine (show _ ⊢ iprop(Keep m d ∗ Dst m 2 d ∗ Dst m 3 d) from ?_)
  unfold Keep Dst
  iintro ⟨A0, A1, B0, B1⟩
  isplitl [A0 A1]
  · isplitl [A0] <;> iassumption
  isplitl [B0] <;> iassumption

theorem read_out (c : Dev nD) (s' : Phys nD τ sig (Elt F)) :
    iprop(Out m c ∗ SI s') ⊢ |={Set.univ}=> iprop(⌜s'.mem.mem ((c.tc).loc main_arg0) = m ((c.tc).loc main_arg0)
      ∧ s'.mem.mem ((c.tc).loc main_arg1) = m ((c.tc).loc main_arg1)
      ∧ s'.mem.mem ((c.tc).loc main_v1_0) = out0 m c ∧ s'.mem.mem ((c.tc).loc main_v1_1) = out1 m c⌝ ∗ SI s') := by
  unfold Out Keep
  iintro ⟨⟨⟨A0, A1⟩, B0, B1⟩, H⟩
  ihave H0 := (read_one _ _ s') $$ [A0 H]
  · isplitl [A0] <;> iassumption
  icases H0 with ⟨%h0, H⟩
  ihave H1 := (read_one _ _ s') $$ [A1 H]
  · isplitl [A1] <;> iassumption
  icases H1 with ⟨%h1, H⟩
  ihave H2 := (read_one _ _ s') $$ [B0 H]
  · isplitl [B0] <;> iassumption
  icases H2 with ⟨%h2, H⟩
  ihave H3 := (read_one _ _ s') $$ [B1 H]
  · isplitl [B1] <;> iassumption
  icases H3 with ⟨%h3, H⟩
  imodintro
  isplitr
  · ipureintro; exact ⟨h0, h1, h2, h3⟩
  iexact H

/-- From any memory the call ends with every result the half that the sibling sent, the arguments as they were and
    all semaphores at zero. -/
theorem run_main (g : Dev nD → PrngReg) :
    θ_run (defs (F := F)) (onTc main) ⟨m, fun _ => 0, g⟩ fun r =>
      (∀ c : Dev nD, r.2.mem ((c.tc).loc main_arg0) = m ((c.tc).loc main_arg0) ∧ r.2.mem ((c.tc).loc main_arg1) = m ((c.tc).loc main_arg1)
        ∧ r.2.mem ((c.tc).loc main_v1_0) = out0 m c ∧ r.2.mem ((c.tc).loc main_v1_1) = out1 m c) ∧ r.2.sem = fun _ => 0 := by
  refine (P m).θ_run_talk cfgs (fun _ => rfl) N_0 cellOf_inj defs₀ 𝒱₀ main (fun _ => rfl) (by decide) m g (Keep m) (Out m) (Dst m)
    (split m) (fun κ c t => body m κ c) (fun c s => s.mem ((c.tc).loc main_arg0) = m ((c.tc).loc main_arg0)
      ∧ s.mem ((c.tc).loc main_arg1) = m ((c.tc).loc main_arg1)
      ∧ s.mem ((c.tc).loc main_v1_0) = out0 m c ∧ s.mem ((c.tc).loc main_v1_1) = out1 m c) (fun c s' => read_out m c s')

end Cert.SwapIdeal.Run

end
-- ==== Proof.Swap.Ref.lean ====
/-
# The swap: what the plain collective holds at each place

Core `c` of a chip gets half `c` of what the other core of its chip holds.
-/
module

public import proofs.«01_k».proof.Proof.Gen.SwapRefIdeal.Run
public import Idealize.ShloMosaic.Lib.PointwiseCore

@[expose] public section

noncomputable section

namespace Cert.SwapRefIdeal.Ref

open Idealize.ShloMosaic Cert.SwapRefIdeal Cert.SwapRefIdeal.Gen

variable {α : Type}

/-! The two arrays after the swap, as the collective composes them. -/

def swapped0 (x : S16x4x1024x5648.Idx → α) : S32x1024x5648.Idx → α :=
  shapeCast _ (concatenate S4x2x4x1024x5648 1
    [⟨S4x1x4x1024x5648, (broadcastInDim S4x1x4x1024x5648 ![0, 2, 3, 4] bcast_S4x4x1024x5648_S4x1x4x1024x5648_0_2_3_4
        (shapeCast _ (extractStridedSlice S4x1x1x4x1024x5648 ![0, 1, 0, 0, 0, 0] (shapeCast _ x shapeCasts_S16x4x1024x5648_S4x2x2x4x1024x5648)
          slices_S4x2x2x4x1024x5648_S4x1x1x4x1024x5648_0_1_0_0_0_0) shapeCasts_S4x1x1x4x1024x5648_S4x4x1024x5648))⟩,
     ⟨S4x1x4x1024x5648, (broadcastInDim S4x1x4x1024x5648 ![0, 2, 3, 4] bcast_S4x4x1024x5648_S4x1x4x1024x5648_0_2_3_4
        (shapeCast _ (extractStridedSlice S4x1x1x4x1024x5648 ![0, 0, 1, 0, 0, 0] (shapeCast _ x shapeCasts_S16x4x1024x5648_S4x2x2x4x1024x5648)
          slices_S4x2x2x4x1024x5648_S4x1x1x4x1024x5648_0_0_1_0_0_0) shapeCasts_S4x1x1x4x1024x5648_S4x4x1024x5648))⟩]
    concatenates_S4x1x4x1024x5648_S4x1x4x1024x5648_S4x2x4x1024x5648_d1) shapeCasts_S4x2x4x1024x5648_S32x1024x5648

def swapped1 (x : S16x4x1024x2048.Idx → α) : S32x1024x2048.Idx → α :=
  shapeCast _ (concatenate S4x2x4x1024x2048 1
    [⟨S4x1x4x1024x2048, (broadcastInDim S4x1x4x1024x2048 ![0, 2, 3, 4] bcast_S4x4x1024x2048_S4x1x4x1024x2048_0_2_3_4
        (shapeCast _ (extractStridedSlice S4x1x1x4x1024x2048 ![0, 1, 0, 0, 0, 0] (shapeCast _ x shapeCasts_S16x4x1024x2048_S4x2x2x4x1024x2048)
          slices_S4x2x2x4x1024x2048_S4x1x1x4x1024x2048_0_1_0_0_0_0) shapeCasts_S4x1x1x4x1024x2048_S4x4x1024x2048))⟩,
     ⟨S4x1x4x1024x2048, (broadcastInDim S4x1x4x1024x2048 ![0, 2, 3, 4] bcast_S4x4x1024x2048_S4x1x4x1024x2048_0_2_3_4
        (shapeCast _ (extractStridedSlice S4x1x1x4x1024x2048 ![0, 0, 1, 0, 0, 0] (shapeCast _ x shapeCasts_S16x4x1024x2048_S4x2x2x4x1024x2048)
          slices_S4x2x2x4x1024x2048_S4x1x1x4x1024x2048_0_0_1_0_0_0) shapeCasts_S4x1x1x4x1024x2048_S4x4x1024x2048))⟩]
    concatenates_S4x1x4x1024x2048_S4x1x4x1024x2048_S4x2x4x1024x2048_d1) shapeCasts_S4x2x4x1024x2048_S32x1024x2048

/-- Shard `p` of device `d`, and half `d % 2` of the other device of its chip, along the first axes. -/
def at32 (d : Fin 8) (p : Fin 4) : Fin 32 := ⟨4 * d.val + p.val, by omega⟩
def at16 (d : Fin 8) : Fin 16 := ⟨2 * (d.val + 1 - 2 * (d.val % 2)) + d.val % 2, by omega⟩

set_option maxRecDepth 16384 in
theorem swapped0_apply (x : S16x4x1024x5648.Idx → α) (d : Fin 8) (p : Fin 4) (r : Fin 1024) (l : Fin 5648) :
    swapped0 x (ix3 (at32 d p) r l) = x (ix4 (at16 d) p r l) := by
  unfold swapped0 at32
  pointwise []
  split
  · exact congrArg x (congrArg (ix4 · p r l) (Fin.ext (by simp only [at16]; omega)))
  · exact congrArg x (congrArg (ix4 · p r l) (Fin.ext (by simp only [at16]; omega)))

set_option maxRecDepth 16384 in
theorem swapped1_apply (x : S16x4x1024x2048.Idx → α) (d : Fin 8) (p : Fin 4) (r : Fin 1024) (l : Fin 2048) :
    swapped1 x (ix3 (at32 d p) r l) = x (ix4 (at16 d) p r l) := by
  unfold swapped1 at32
  pointwise []
  split
  · exact congrArg x (congrArg (ix4 · p r l) (Fin.ext (by simp only [at16]; omega)))
  · exact congrArg x (congrArg (ix4 · p r l) (Fin.ext (by simp only [at16]; omega)))

end Cert.SwapRefIdeal.Ref

end

end
-- ==== Proof.Talk.Index.lean ====
/-
# Where a rectangle's place lies in its array
-/
module

public import Idealize.ShloMosaic.Lib.PointwiseCore
public import Idealize.ShloMosaic.Lib.Layout

@[expose] public section

noncomputable section

namespace Cert.Talk

open Idealize.ShloMosaic

/-- A place of the rectangle at offset `off`, axis by axis. -/
theorem unit_emb {s : Shape} {off off' : Fin s.rank → ℕ} (ho : off = off') (size : Fin s.rank → ℕ) (inb : ∀ a, off a + size a ≤ s.size a)
    (y : (Rect.unit (s := s) off size inb).shape.Idx) (z : s.Idx) (h : ∀ a, off' a + (y a).val = (z a).val) : (Rect.unit (s := s) off size inb).emb y = z := by
  subst ho
  exact funext fun a => Fin.ext (by show off a + 1 * (y a).val = _; rw [one_mul]; exact h a)

end Cert.Talk

end

end
-- ==== Proof.Swap.Value.lean ====
/-
# The swap: its result against the plain collective's
-/
module

public import proofs.«01_k».proof.Proof.Swap.Run
public import proofs.«01_k».proof.Proof.Swap.Ref
public import proofs.«01_k».proof.Proof.Talk.Index

@[expose] public section

noncomputable section

namespace Cert.SwapIdeal.Run

open Idealize.ShloMosaic
open Idealize.ShloMosaic.TcCoe
open Idealize.SL.Sem
open Cert.SwapIdeal Cert.SwapIdeal.Gen Cert.SwapRefIdeal.Ref Cert.Talk
open Cert.SwapRefIdeal (S16x4x1024x5648 S16x4x1024x2048)

variable {F : FTy → Type} [FloatOps F]
variable (m : (ℓ : Loc nD τ sig) → Buf (Elt F) ℓ)

theorem sib_row (c : Dev nD) : (sib c).val * 2 + c.val % 2 = (at16 c).val := by revert c; decide
theorem shard_row (c : Dev nD) (p : Fin 4) : 4 * c.val + p.val = c.val * 4 + p.val := by omega

theorem off1_sib (c : Dev nD) : k0_off1 (sib c) = ![c.val % 2, 0, 0, 0] := by revert c; decide

/-- The half that the sibling sends, at a place. -/
theorem half0_read (c : Dev nD) (X : S2x4x1024x5648.Idx → F .f32) (p : Fin 4) (r : Fin 1024) (l : Fin 5648) :
    (half0 (sib c)).view.read (Elt F) X (ix3 p r l) = X (ix4 ⟨c.val % 2, by omega⟩ p r l) := by
  change X ((Rect.unit (s := S2x4x1024x5648) (k0_off1 (sib c)) S1x4x1024x5648.size (k0_off1_inb (sib c))).emb
    (Shape.reshapeEquiv squeezes_S1x4x1024x5648_S4x1024x5648.numel_eq (ix3 p r l))) = _
  pointwise []
  refine congrArg X (unit_emb (off1_sib c) _ _ _ _ fun a => ?_)
  fin_cases a
  · rfl
  · exact Nat.zero_add _
  · exact Nat.zero_add _
  · exact Nat.zero_add _

theorem value0 (x : S16x4x1024x5648.Idx → F .f32)
    (h : ∀ c : Dev nD, m ((c.tc).loc main_arg0) = Layout.block ⟨4, ![2, 4, 1024, 5648]⟩ ⟨4, ![16, 4, 1024, 5648]⟩ 0 8 c x) (c : Dev nD) :
    out0 m c = Layout.block ⟨3, ![4, 1024, 5648]⟩ ⟨3, ![32, 1024, 5648]⟩ 0 8 c (swapped0 x) := by
  funext i
  idx_vars i
  refine (half0_read c _ i0 i1 i2).trans ?_
  rw [h (sib c), Layout.block_apply, Layout.block_apply]
  refine Eq.trans (congrArg x (funext fun a => Fin.ext ?_)) ((swapped0_apply x c i0 i1 i2).symm.trans (congrArg (swapped0 x) (funext fun a => Fin.ext ?_)))
  · fin_cases a
    · exact sib_row c
    · rfl
    · rfl
    · rfl
  · fin_cases a
    · exact shard_row c i0
    · rfl
    · rfl

theorem off2_sib (c : Dev nD) : k0_off2 (sib c) = ![c.val % 2, 0, 0, 0] := by revert c; decide

/-- The half that the sibling sends, at a place. -/
theorem half1_read (c : Dev nD) (X : S2x4x1024x2048.Idx → F .f32) (p : Fin 4) (r : Fin 1024) (l : Fin 2048) :
    (half1 (sib c)).view.read (Elt F) X (ix3 p r l) = X (ix4 ⟨c.val % 2, by omega⟩ p r l) := by
  change X ((Rect.unit (s := S2x4x1024x2048) (k0_off2 (sib c)) S1x4x1024x2048.size (k0_off2_inb (sib c))).emb
    (Shape.reshapeEquiv squeezes_S1x4x1024x2048_S4x1024x2048.numel_eq (ix3 p r l))) = _
  pointwise []
  refine congrArg X (unit_emb (off2_sib c) _ _ _ _ fun a => ?_)
  fin_cases a
  · rfl
  · exact Nat.zero_add _
  · exact Nat.zero_add _
  · exact Nat.zero_add _

theorem value1 (x : S16x4x1024x2048.Idx → F .f32)
    (h : ∀ c : Dev nD, m ((c.tc).loc main_arg1) = Layout.block ⟨4, ![2, 4, 1024, 2048]⟩ ⟨4, ![16, 4, 1024, 2048]⟩ 0 8 c x) (c : Dev nD) :
    out1 m c = Layout.block ⟨3, ![4, 1024, 2048]⟩ ⟨3, ![32, 1024, 2048]⟩ 0 8 c (swapped1 x) := by
  funext i
  idx_vars i
  refine (half1_read c _ i0 i1 i2).trans ?_
  rw [h (sib c), Layout.block_apply, Layout.block_apply]
  refine Eq.trans (congrArg x (funext fun a => Fin.ext ?_)) ((swapped1_apply x c i0 i1 i2).symm.trans (congrArg (swapped1 x) (funext fun a => Fin.ext ?_)))
  · fin_cases a
    · exact sib_row c
    · rfl
    · rfl
    · rfl
  · fin_cases a
    · exact shard_row c i0
    · rfl
    · rfl

end Cert.SwapIdeal.Run

end

end
-- ==== Proof.Swap.Claims.lean ====
/-
# The swap: its claims
-/
module

public import proofs.«01_k».proof.Defs
public import proofs.«01_k».proof.Proof.Swap.Value
public import proofs.«01_k».proof.Proof.Gen.Swap
public import proofs.«01_k».proof.Proof.Gen.SwapRef
public import proofs.«01_k».proof.Proof.Gen.SwapRef.Run
public import Idealize.ShloMosaic.Lib.Quiescent

@[expose] public section

noncomputable section

namespace Cert.Proof.Swap

open Idealize.ShloMosaic Idealize.ShloMosaic.TcCoe Idealize.SL.Sem
open Cert.Swap

theorem frame : Cert.quiescent_Swap := fun m g _ =>
  (θ_run _ _ _).mono (fun _ h => ⟨fun c => ⟨(h.1 c).1, (h.1 c).2.1⟩, h.2⟩) (Cert.SwapIdeal.Run.run_main (F := Bits) m g)

theorem frame_ideal : Cert.quiescent_SwapIdeal := fun m g _ =>
  (θ_run _ _ _).mono (fun _ h => ⟨fun c => ⟨(h.1 c).1, (h.1 c).2.1⟩, h.2⟩) (Cert.SwapIdeal.Run.run_main (F := Ideal) m g)

theorem frame_ref : Cert.quiescent_SwapRef := fun m g _ =>
  (θ_run _ _ _).mono (fun r h => ⟨fun c => ⟨(h c).2.2.1, (h c).2.2.2⟩, sem_eq_zero_of_no_sems (by decide) r.2⟩)
    (Cert.SwapRef.Value.run (F := Bits) m g)

theorem frame_refIdeal : Cert.quiescent_SwapRefIdeal := fun m g _ =>
  (θ_run _ _ _).mono (fun r h => ⟨fun c => ⟨(h c).2.2.1, (h c).2.2.2⟩, sem_eq_zero_of_no_sems (by decide) r.2⟩)
    (Cert.SwapRefIdeal.Value.run (F := Ideal) m g)

theorem algebraic : Cert.algebraic_SwapIdeal_SwapRefIdeal := fun m g m' g' _ hm =>
  ⟨Cert.SwapRefIdeal.Ref.swapped0 _, Cert.SwapRefIdeal.Ref.swapped1 _,
    (θ_run _ _ _).mono (fun _ h c => ⟨(h.1 c).2.2.1.trans (Cert.SwapIdeal.Run.value0 m _ (fun c => (hm c).1) c),
      (h.1 c).2.2.2.trans (Cert.SwapIdeal.Run.value1 m _ (fun c => (hm c).2) c), (h.1 c).1, (h.1 c).2.1⟩) (Cert.SwapIdeal.Run.run_main (F := Ideal) m g),
    (θ_run _ _ _).mono (fun _ h => h 0) (Cert.SwapRefIdeal.Value.run (F := Ideal) m' g')⟩

theorem bitexact : Cert.bitexact_Swap_SwapRef := fun m g m' g' _ hm =>
  ⟨Cert.SwapRefIdeal.Ref.swapped0 _, Cert.SwapRefIdeal.Ref.swapped1 _,
    (θ_run _ _ _).mono (fun _ h c => ⟨(h.1 c).2.2.1.trans (Cert.SwapIdeal.Run.value0 (F := Bits) m _ (fun c => (hm c).1) c),
      (h.1 c).2.2.2.trans (Cert.SwapIdeal.Run.value1 (F := Bits) m _ (fun c => (hm c).2) c), (h.1 c).1, (h.1 c).2.1⟩) (Cert.SwapIdeal.Run.run_main (F := Bits) m g),
    (θ_run _ _ _).mono (fun _ h => h 0) (Cert.SwapRef.Value.run (F := Bits) m' g')⟩

end Cert.Proof.Swap

end

end
-- ==== Proof.Talk.Slabs.lean ====
/-
# Arrays in slabs

A result that several copies fill is held slab by slab: the elements with one value of one coordinate. Here are the
slabs, the views whose elements they are, and an array as its slabs. An array that several copies read at once is
held in shares.
-/
module

public import proofs.«01_k».proof.Proof.Talk.Views

@[expose] public section

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}

local notation "𝕄" => MM nD τ sig Val

/-- The places whose coordinate on axis `a` is `k`. -/
def slab {s : Shape} (a : Fin s.rank) (k : ℕ) : Finset s.Idx := Finset.univ.filter fun i => (i a).val = k

theorem mem_slab {s : Shape} {a : Fin s.rank} {k : ℕ} {i : s.Idx} : i ∈ slab a k ↔ (i a).val = k := by
  unfold slab; rw [Finset.mem_filter, and_iff_right (Finset.mem_univ _)]

/-- A rectangle that is one thick on axis `a` and whole on the others. -/
theorem unit_set {s : Shape} {off size : Fin s.rank → ℕ} {inb : ∀ a, off a + size a ≤ s.size a} (a : Fin s.rank) (k : ℕ)
    (h : off a = k) (h1 : size a = 1) (h2 : ∀ x, x ≠ a → off x = 0 ∧ size x = s.size x) : (Rect.unit (s := s) off size inb).set = slab a k := by
  ext i
  rw [Rect.mem_set_unit, mem_slab]
  constructor
  · intro hi
    have := hi a
    omega
  · intro hi x
    by_cases hx : x = a
    · subst hx; omega
    · have h3 := h2 x hx
      have h4 : (i x).val < s.size x := (i x).isLt
      omega

/-- An array as slabs, in any order. -/
theorem slabs {d : Dev nD} {b : Ref sig .tc} (a : Fin b.ty.shape.rank) {n : ℕ} (e : Fin n → ℕ) (hinj : Function.Injective e)
    (hsurj : ∀ k, k < b.ty.shape.size a → ∃ j, e j = k) {q : PosShare TreeShare} (f : Buf Val ((d.tc : Thread nD τ).loc b)) :
    ((d.tc : Thread nD τ).loc b ↦{q} f : sProp 𝕄)
      = bigSep Finset.univ fun j => ((d.tc : Thread nD τ).loc b ↦[(slab a (e j) : Finset b.ty.shape.Idx)]{q} f) := by
  have h := pointsTo_biUnion (Ix := Unit) (Name := ℕ) (U := UU nD τ sig) (Lvl := ℕ) (ℓ := (d.tc : Thread nD τ).loc b) (q := q) (f := f)
    (Finset.univ : Finset (Fin n)) (fun j => (slab a (e j) : Finset b.ty.shape.Idx)) (by
      intro j _ j' _ hj
      rw [Finset.disjoint_left]
      intro i h1 h2
      exact hj (hinj ((mem_slab.mp h1).symm.trans (mem_slab.mp h2))))
  rw [← h]
  congr 1
  refine (Finset.eq_univ_iff_forall.mpr fun i => ?_).symm
  obtain ⟨j, hj⟩ := hsurj ((i : b.ty.shape.Idx) a).val ((i : b.ty.shape.Idx) a).isLt
  exact Finset.mem_biUnion.mpr ⟨j, Finset.mem_univ _, mem_slab.mpr hj.symm⟩

/-- An array that is read by two copies at once. -/
theorem halves {ℓ : Loc nD τ sig} (I : Finset (Idx ℓ)) (q : PosShare TreeShare) (f : Buf Val ℓ) :
    (ℓ ↦[I]{q} f : sProp 𝕄) = iprop((ℓ ↦[I]{q.left} f) ∗ (ℓ ↦[I]{q.right} f)) :=
  BI.equiv_iff.mp ⟨(pointsTo_share (PosShare.mem_left_op_right _)).1, (pointsTo_share (PosShare.mem_left_op_right _)).2⟩

/-- The places whose coordinate on axis `a` is `k` and, on axis `b`, in half `h` of 2048. -/
def half {s : Shape} (a b : Fin s.rank) (k h : ℕ) : Finset s.Idx := Finset.univ.filter fun i => (i a).val = k ∧ (i b).val / 1024 = h

theorem mem_half {s : Shape} {a b : Fin s.rank} {k h : ℕ} {i : s.Idx} : i ∈ half a b k h ↔ (i a).val = k ∧ (i b).val / 1024 = h := by
  unfold half; rw [Finset.mem_filter, and_iff_right (Finset.mem_univ _)]

/-- A rectangle that is one thick on axis `a`, a half on axis `b` and whole on the others. -/
theorem unit_half {s : Shape} {off size : Fin s.rank → ℕ} {inb : ∀ a, off a + size a ≤ s.size a} (a b : Fin s.rank) (k h : ℕ)
    (ha : off a = k) (h1 : size a = 1) (hb : off b = 1024 * h) (h1' : size b = 1024)
    (h2 : ∀ x, x ≠ a → x ≠ b → off x = 0 ∧ size x = s.size x) : (Rect.unit (s := s) off size inb).set = half a b k h := by
  ext i
  rw [Rect.mem_set_unit, mem_half]
  constructor
  · intro hi
    have := hi a
    have := hi b
    omega
  · intro hi x
    by_cases hx : x = a
    · subst hx; omega
    · by_cases hx' : x = b
      · subst hx'; omega
      · have h3 := h2 x hx hx'
        have h4 : (i x).val < s.size x := (i x).isLt
        omega

/-- A slab is its two halves. -/
theorem slab_halves {d : Dev nD} {r : Ref sig .tc} (a b : Fin r.ty.shape.rank) (k h : ℕ) (hb : r.ty.shape.size b = 2048) (hh : h < 2)
    {q : PosShare TreeShare} (f : Buf Val ((d.tc : Thread nD τ).loc r)) :
    ((d.tc : Thread nD τ).loc r ↦[(slab a k : Finset r.ty.shape.Idx)]{q} f : sProp 𝕄)
      = iprop(((d.tc : Thread nD τ).loc r ↦[(half a b k h : Finset r.ty.shape.Idx)]{q} f)
        ∗ ((d.tc : Thread nD τ).loc r ↦[(half a b k (1 - h) : Finset r.ty.shape.Idx)]{q} f)) := by
  have hsub : (half a b k h : Finset r.ty.shape.Idx) ⊆ slab a k := fun i hi => mem_slab.mpr (mem_half.mp hi).1
  have hrest : (slab a k : Finset r.ty.shape.Idx) \ half a b k h = half a b k (1 - h) := by
    ext i
    rw [Finset.mem_sdiff, mem_slab, mem_half, mem_half]
    have : (i b).val < r.ty.shape.size b := (i b).isLt
    omega
  have e : ((d.tc : Thread nD τ).loc r ↦[(slab a k : Finset r.ty.shape.Idx)]{q} f : sProp 𝕄)
      ⊣⊢ iprop(((d.tc : Thread nD τ).loc r ↦[(half a b k h : Finset r.ty.shape.Idx)]{q} f)
        ∗ ((d.tc : Thread nD τ).loc r ↦[((slab a k : Finset r.ty.shape.Idx) \ half a b k h)]{q} f)) := pointsTo_split_subset (ℓ := (d.tc : Thread nD τ).loc r) hsub
  refine (BI.equiv_iff.mp ⟨e.1, e.2⟩).trans ?_
  exact congrArg (fun I : Finset r.ty.shape.Idx => (iprop(((d.tc : Thread nD τ).loc r ↦[(half a b k h : Finset r.ty.shape.Idx)]{q} f)
    ∗ ((d.tc : Thread nD τ).loc r ↦[I]{q} f)) : sProp 𝕄)) hrest

/-- The shares of an array that three copies read at once besides the holder of `fullShare.left`. -/
def third : Fin 3 → PosShare TreeShare := ![fullShare.right.left, fullShare.right.right.left, fullShare.right.right.right]

theorem thirds {ℓ : Loc nD τ sig} (I : Finset (Idx ℓ)) (f : Buf Val ℓ) :
    (ℓ ↦[I]{fullShare.right} f : sProp 𝕄) = iprop((ℓ ↦[I]{third 0} f) ∗ (ℓ ↦[I]{third 1} f) ∗ (ℓ ↦[I]{third 2} f)) := by
  rw [halves I fullShare.right f, halves I fullShare.right.right f]
  rfl

end Cert.Talk

end

end
-- ==== Proof.Share.Run.lean ====
/-
# The sharing of halves between the two cores of a chip: its run

Each core of a chip holds half of the rows; it puts them in its own results and in those of its sibling, the other
core. Per device six semaphores, each credited by one copy:

* 0 and 1, send: the copies to the sibling; the wait gives back the share of the argument that they read;
* 2 and 3, receive: the sibling's copies; the wait hands over the sibling's slot of the result;
* 4 and 5: the copies into the device's own slots; the wait gives back the slot and the other share of the argument.

No device waits before all its copies are issued.
-/
module

public import proofs.«01_k».proof.Proof.Talk.Launch
public import proofs.«01_k».proof.Proof.Talk.Slabs
public import proofs.«01_k».proof.Proof.Talk.Index
public import proofs.«01_k».proof.Proof.Gen.ShareIdeal.Skeleton
public import proofs.«01_k».proof.Proof.Gen.ShareIdeal.Launch

@[expose] public section

noncomputable section

namespace Cert.ShareIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ShareIdeal Cert.ShareIdeal.Gen Cert.Talk

variable {F : FTy → Type} [FloatOps F]

local notation "𝕄" => MM nD τ sig (Elt F)

/-! ## The devices -/

/-- The other core of the chip. -/
def sib (c : Dev nD) : Dev nD :=
  ⟨(4 * (c.val / 4) + 2 * ((c.val / 2) % 2) + 1) - c.val % 2, by have := c.isLt; revert this; generalize c.val = v; decide +revert⟩

theorem sib_sib (c : Dev nD) : sib (sib c) = c := by revert c; decide
/-- Core `k` of the chip of device `d`. -/
def core (d : Dev nD) (k : Fin 2) : Dev nD := ⟨2 * (d.val / 2) + k.val, by have h1 : d.val < 8 := d.isLt; have h2 := k.isLt; show _ < 8; omega⟩
theorem core_own (d : Dev nD) : core d ⟨d.val % 2, by omega⟩ = d := by revert d; decide
theorem core_sib (d : Dev nD) : core (sib d) ⟨d.val % 2, by omega⟩ = d := by revert d; decide
theorem slot_sib (d : Dev nD) : 1 - (sib d).val % 2 = d.val % 2 := by revert d; decide
theorem pair_inj (d : Dev nD) : Function.Injective ![d.val % 2, 1 - d.val % 2] := by revert d; decide
theorem pair_surj (d : Dev nD) : ∀ k < 2, ∃ j, ![d.val % 2, 1 - d.val % 2] j = k := by revert d; decide
/-- The devices that the two copies address. -/
abbrev dev1 (c : Dev nD) : Dev nD := ⟨k0_dev1 c, k0_dev1_lt c⟩
abbrev dev2 (c : Dev nD) : Dev nD := ⟨k0_dev2 c, k0_dev2_lt c⟩
theorem dev1_eq (c : Dev nD) : dev1 c = sib c := Fin.ext (k0_dev1_eq c)
theorem dev2_eq (c : Dev nD) : dev2 c = sib c := Fin.ext (k0_dev2_eq c)

def swap : Equiv.Perm (Dev nD) := ⟨sib, sib, sib_sib, sib_sib⟩

/-! ## The arrays -/

variable (m : (ℓ : Loc nD τ sig) → Buf (Elt F) ℓ)

/-- The slot of the result that device `c`'s rows go to. -/
abbrev slot0 (c : Dev nD) : Memref sig .tc .hbm S1024x5648 .f32 :=
  ((Memref.whole main_v1_0).slice (Rect.unit (s := S2x1024x5648) (k0_off1 c) S1x1024x5648.size (k0_off1_inb c)) (fun _ => rfl)).squeeze
    S1024x5648 squeezes_S1x1024x5648_S1024x5648
abbrev part0 (k : ℕ) : Finset S2x1024x5648.Idx := slab 0 k

theorem slot0_set (c : Dev nD) : (slot0 c).view.set = part0 (c.val % 2) := by
  refine (View.set_reshape _ _).trans ((View.set_slice_whole _ _).trans (unit_set 0 _ ?_ rfl ?_))
  · rw [k0_off1_eq]; rfl
  · rw [k0_off1_eq]
    intro x hx
    fin_cases x
    · exact absurd rfl hx
    · exact ⟨rfl, rfl⟩
    · exact ⟨rfl, rfl⟩

/-- What the device's result holds at the end: in slot `k` the rows of core `k` of its chip. -/
def out0 (d : Dev nD) : Buf (Elt F) ((d.tc : Thread nD τ).loc main_v1_0) :=
  fun i : S2x1024x5648.Idx => m ((core d (i 0)).tc.loc main_arg0) (ix2 (i 1) (i 2) : S1024x5648.Idx)

theorem out0_read (c d : Dev nD) (hd : core d ⟨c.val % 2, by omega⟩ = c) :
    (slot0 c).view.read (Elt F) (out0 m d) = (Memref.whole main_arg0).view.read (Elt F) (m (c.tc.loc main_arg0)) := by
  show _ = m (c.tc.loc main_arg0)
  funext i
  obtain ⟨r, l, rfl⟩ : ∃ (r : Fin 1024) (l : Fin 5648), i = ix2 r l := ⟨i 0, i 1, eq_ix2 i⟩
  change out0 m d ((Rect.unit (s := S2x1024x5648) (k0_off1 c) S1x1024x5648.size (k0_off1_inb c)).emb
    (Shape.reshapeEquiv squeezes_S1x1024x5648_S1024x5648.numel_eq (ix2 r l))) = _
  have h : (Rect.unit (s := S2x1024x5648) (k0_off1 c) S1x1024x5648.size (k0_off1_inb c)).emb
      (Shape.reshapeEquiv squeezes_S1x1024x5648_S1024x5648.numel_eq (ix2 r l)) = (ix3 ⟨c.val % 2, by omega⟩ r l : S2x1024x5648.Idx) := by
    pointwise []
    refine unit_emb (k0_off1_eq c) _ _ _ _ fun a => ?_
    fin_cases a
    · rfl
    · exact Nat.zero_add _
    · exact Nat.zero_add _
  rw [h]
  show m ((core d ⟨c.val % 2, _⟩).tc.loc main_arg0) (ix2 r l) = _
  rw [hd]

/-- The slot of the result that device `c`'s rows go to. -/
abbrev slot1 (c : Dev nD) : Memref sig .tc .hbm S1024x2048 .f32 :=
  ((Memref.whole main_v1_1).slice (Rect.unit (s := S2x1024x2048) (k0_off2 c) S1x1024x2048.size (k0_off2_inb c)) (fun _ => rfl)).squeeze
    S1024x2048 squeezes_S1x1024x2048_S1024x2048
abbrev part1 (k : ℕ) : Finset S2x1024x2048.Idx := slab 0 k

theorem slot1_set (c : Dev nD) : (slot1 c).view.set = part1 (c.val % 2) := by
  refine (View.set_reshape _ _).trans ((View.set_slice_whole _ _).trans (unit_set 0 _ ?_ rfl ?_))
  · rw [k0_off2_eq]; rfl
  · rw [k0_off2_eq]
    intro x hx
    fin_cases x
    · exact absurd rfl hx
    · exact ⟨rfl, rfl⟩
    · exact ⟨rfl, rfl⟩

/-- What the device's result holds at the end: in slot `k` the rows of core `k` of its chip. -/
def out1 (d : Dev nD) : Buf (Elt F) ((d.tc : Thread nD τ).loc main_v1_1) :=
  fun i : S2x1024x2048.Idx => m ((core d (i 0)).tc.loc main_arg1) (ix2 (i 1) (i 2) : S1024x2048.Idx)

theorem out1_read (c d : Dev nD) (hd : core d ⟨c.val % 2, by omega⟩ = c) :
    (slot1 c).view.read (Elt F) (out1 m d) = (Memref.whole main_arg1).view.read (Elt F) (m (c.tc.loc main_arg1)) := by
  show _ = m (c.tc.loc main_arg1)
  funext i
  obtain ⟨r, l, rfl⟩ : ∃ (r : Fin 1024) (l : Fin 2048), i = ix2 r l := ⟨i 0, i 1, eq_ix2 i⟩
  change out1 m d ((Rect.unit (s := S2x1024x2048) (k0_off2 c) S1x1024x2048.size (k0_off2_inb c)).emb
    (Shape.reshapeEquiv squeezes_S1x1024x2048_S1024x2048.numel_eq (ix2 r l))) = _
  have h : (Rect.unit (s := S2x1024x2048) (k0_off2 c) S1x1024x2048.size (k0_off2_inb c)).emb
      (Shape.reshapeEquiv squeezes_S1x1024x2048_S1024x2048.numel_eq (ix2 r l)) = (ix3 ⟨c.val % 2, by omega⟩ r l : S2x1024x2048.Idx) := by
    pointwise []
    refine unit_emb (k0_off2_eq c) _ _ _ _ fun a => ?_
    fin_cases a
    · rfl
    · exact Nat.zero_add _
    · exact Nat.zero_add _
  rw [h]
  show m ((core d ⟨c.val % 2, _⟩).tc.loc main_arg1) (ix2 r l) = _
  rw [hd]

/-! ## The protocol -/

abbrev N0 : ℕ := (Memref.whole main_arg0).view.dmaCredit
abbrev N1 : ℕ := (Memref.whole main_arg1).view.dmaCredit

/-- What each semaphore's copy hands the device that waits. -/
def pay (k : Fin 6) (d : Dev nD) : sProp 𝕄 :=
  match k with
  | 0 => (d.tc : Thread nD τ).loc main_arg0 ↦{fullShare.right} m ((d.tc).loc main_arg0)
  | 1 => (d.tc : Thread nD τ).loc main_arg1 ↦{fullShare.right} m ((d.tc).loc main_arg1)
  | 2 => (d.tc : Thread nD τ).loc main_v1_0 ↦[part0 (1 - d.val % 2)]{fullShare} out0 m d
  | 3 => (d.tc : Thread nD τ).loc main_v1_1 ↦[part1 (1 - d.val % 2)]{fullShare} out1 m d
  | 4 => iprop(((d.tc : Thread nD τ).loc main_v1_0 ↦[part0 (d.val % 2)]{fullShare} out0 m d)
      ∗ ((d.tc : Thread nD τ).loc main_arg0 ↦{fullShare.left} m ((d.tc).loc main_arg0)))
  | 5 => iprop(((d.tc : Thread nD τ).loc main_v1_1 ↦[part1 (d.val % 2)]{fullShare} out1 m d)
      ∗ ((d.tc : Thread nD τ).loc main_arg1 ↦{fullShare.left} m ((d.tc).loc main_arg1)))

def P : Proto nD τ sig (Elt F) (Fin 6) where
  sem := ![0, 1, 2, 3, 4, 5]
  inj := by decide
  amt := ![N0, N1, N0, N1, N0, N1]
  pos k := by
    fin_cases k <;> exact View.dmaCredit_pos _ (by decide)
  lvl := ![0, 0, 1, 1, 0, 0]
  dest := ![Equiv.refl _, Equiv.refl _, swap, swap, Equiv.refl _, Equiv.refl _]
  rem := {2, 3}
  home := by
    intro k hk
    fin_cases k
    · rfl
    · rfl
    · exact absurd (by decide) hk
    · exact absurd (by decide) hk
    · rfl
    · rfl
  pay := pay m
  stor k d := by
    fin_cases k
    · exact inferInstanceAs (BI.Storable upEmb (_ ↦[_]{_} _ : sProp 𝕄))
    · exact inferInstanceAs (BI.Storable upEmb (_ ↦[_]{_} _ : sProp 𝕄))
    · exact inferInstanceAs (BI.Storable upEmb (_ ↦[_]{_} _ : sProp 𝕄))
    · exact inferInstanceAs (BI.Storable upEmb (_ ↦[_]{_} _ : sProp 𝕄))
    · exact inferInstanceAs (BI.Storable upEmb (iprop((_ ↦[_]{_} _) ∗ (_ ↦[_]{_} _)) : sProp 𝕄))
    · exact inferInstanceAs (BI.Storable upEmb (iprop((_ ↦[_]{_} _) ∗ (_ ↦[_]{_} _)) : sProp 𝕄))

/-! ## What the copies hand over -/

/-- The share of the argument that was read comes back. -/
theorem back0 (c : Dev nD) : ((Memref.whole main_arg0).view.loc (c.tc : Thread nD τ) ↦[(Memref.whole main_arg0).view.set]{fullShare.right} (m ((c.tc).loc main_arg0)) : sProp 𝕄)
    ⊢ (P m).pay 0 c := by
  show _ ⊢ pay m 0 c
  unfold pay
  rw [View.set_whole]

/-- The sibling's slot, filled. -/
theorem sent0 (c : Dev nD) {d : Dev nD} (hd : d = sib c) (fd : Buf (Elt F) ((d.tc : Thread nD τ).loc main_v1_0)) :
    ((slot0 c).view.loc (d.tc : Thread nD τ) ↦[(slot0 c).view.set]{fullShare}
        ((slot0 c).view.write (Elt F) fd ((Memref.whole main_arg0).view.read (Elt F) (m ((c.tc).loc main_arg0))) Finset.univ) : sProp 𝕄)
      ⊢ (P m).pay 2 d := by
  subst hd
  rw [landed (slot0 c).view fd (out0 m (sib c)) _ (out0_read m c (sib c) (core_sib c)), slot0_set]
  show _ ⊢ pay m 2 (sib c)
  unfold pay
  rw [slot_sib]

/-- The device's own slot, filled, and the share of the argument. -/
theorem kept0 (c : Dev nD) (fd : Buf (Elt F) ((c.tc : Thread nD τ).loc main_v1_0)) :
    iprop(((slot0 c).view.loc (c.tc : Thread nD τ) ↦[(slot0 c).view.set]{fullShare}
        ((slot0 c).view.write (Elt F) fd ((Memref.whole main_arg0).view.read (Elt F) (m ((c.tc).loc main_arg0))) Finset.univ))
        ∗ ((Memref.whole main_arg0).view.loc (c.tc : Thread nD τ) ↦[(Memref.whole main_arg0).view.set]{fullShare.left} (m ((c.tc).loc main_arg0))) : sProp 𝕄)
      ⊢ (P m).pay 4 c := by
  rw [landed (slot0 c).view fd (out0 m c) _ (out0_read m c c (core_own c)), slot0_set, View.set_whole]
  show _ ⊢ pay m 4 c
  unfold pay
  exact BI.Entails.refl _

/-- A result is the device's own slot and its sibling's. -/
theorem slots0 (d : Dev nD) (f : Buf (Elt F) ((d.tc : Thread nD τ).loc main_v1_0)) :
    ((d.tc : Thread nD τ).loc main_v1_0 ↦{fullShare} f : sProp 𝕄)
      = iprop(((d.tc : Thread nD τ).loc main_v1_0 ↦[part0 (d.val % 2)]{fullShare} f) ∗ ((d.tc : Thread nD τ).loc main_v1_0 ↦[part0 (1 - d.val % 2)]{fullShare} f)) := by
  have h := slabs (d := d) (b := main_v1_0) (0 : Fin 3) (n := 2) ![d.val % 2, 1 - d.val % 2] (pair_inj d) (pair_surj d) (q := fullShare) f
  rw [h, show (Finset.univ : Finset (Fin 2)) = {0, 1} from rfl, bigSep_insert (by decide), bigSep_singleton]
  rfl

/-- The share of the argument that was read comes back. -/
theorem back1 (c : Dev nD) : ((Memref.whole main_arg1).view.loc (c.tc : Thread nD τ) ↦[(Memref.whole main_arg1).view.set]{fullShare.right} (m ((c.tc).loc main_arg1)) : sProp 𝕄)
    ⊢ (P m).pay 1 c := by
  show _ ⊢ pay m 1 c
  unfold pay
  rw [View.set_whole]

/-- The sibling's slot, filled. -/
theorem sent1 (c : Dev nD) {d : Dev nD} (hd : d = sib c) (fd : Buf (Elt F) ((d.tc : Thread nD τ).loc main_v1_1)) :
    ((slot1 c).view.loc (d.tc : Thread nD τ) ↦[(slot1 c).view.set]{fullShare}
        ((slot1 c).view.write (Elt F) fd ((Memref.whole main_arg1).view.read (Elt F) (m ((c.tc).loc main_arg1))) Finset.univ) : sProp 𝕄)
      ⊢ (P m).pay 3 d := by
  subst hd
  rw [landed (slot1 c).view fd (out1 m (sib c)) _ (out1_read m c (sib c) (core_sib c)), slot1_set]
  show _ ⊢ pay m 3 (sib c)
  unfold pay
  rw [slot_sib]

/-- The device's own slot, filled, and the share of the argument. -/
theorem kept1 (c : Dev nD) (fd : Buf (Elt F) ((c.tc : Thread nD τ).loc main_v1_1)) :
    iprop(((slot1 c).view.loc (c.tc : Thread nD τ) ↦[(slot1 c).view.set]{fullShare}
        ((slot1 c).view.write (Elt F) fd ((Memref.whole main_arg1).view.read (Elt F) (m ((c.tc).loc main_arg1))) Finset.univ))
        ∗ ((Memref.whole main_arg1).view.loc (c.tc : Thread nD τ) ↦[(Memref.whole main_arg1).view.set]{fullShare.left} (m ((c.tc).loc main_arg1))) : sProp 𝕄)
      ⊢ (P m).pay 5 c := by
  rw [landed (slot1 c).view fd (out1 m c) _ (out1_read m c c (core_own c)), slot1_set, View.set_whole]
  show _ ⊢ pay m 5 c
  unfold pay
  exact BI.Entails.refl _

/-- A result is the device's own slot and its sibling's. -/
theorem slots1 (d : Dev nD) (f : Buf (Elt F) ((d.tc : Thread nD τ).loc main_v1_1)) :
    ((d.tc : Thread nD τ).loc main_v1_1 ↦{fullShare} f : sProp 𝕄)
      = iprop(((d.tc : Thread nD τ).loc main_v1_1 ↦[part1 (d.val % 2)]{fullShare} f) ∗ ((d.tc : Thread nD τ).loc main_v1_1 ↦[part1 (1 - d.val % 2)]{fullShare} f)) := by
  have h := slabs (d := d) (b := main_v1_1) (0 : Fin 3) (n := 2) ![d.val % 2, 1 - d.val % 2] (pair_inj d) (pair_surj d) (q := fullShare) f
  rw [h, show (Finset.univ : Finset (Fin 2)) = {0, 1} from rfl, bigSep_insert (by decide), bigSep_singleton]
  rfl

/-! ## The body -/

/-- What a device keeps: its arguments and its own slots. -/
def Keep (d : Dev nD) : sProp 𝕄 :=
  iprop(((d.tc : Thread nD τ).loc main_arg0 ↦{fullShare} m ((d.tc).loc main_arg0)) ∗ ((d.tc : Thread nD τ).loc main_arg1 ↦{fullShare} m ((d.tc).loc main_arg1))
    ∗ ((d.tc : Thread nD τ).loc main_v1_0 ↦[part0 (d.val % 2)]{fullShare} m ((d.tc).loc main_v1_0))
    ∗ ((d.tc : Thread nD τ).loc main_v1_1 ↦[part1 (d.val % 2)]{fullShare} m ((d.tc).loc main_v1_1)))
/-- What it hands its sibling: the sibling's slots. -/
def Dst (k : Fin 6) (d : Dev nD) : sProp 𝕄 :=
  match k with
  | 2 => (d.tc : Thread nD τ).loc main_v1_0 ↦[part0 (1 - d.val % 2)]{fullShare} m ((d.tc).loc main_v1_0)
  | 3 => (d.tc : Thread nD τ).loc main_v1_1 ↦[part1 (1 - d.val % 2)]{fullShare} m ((d.tc).loc main_v1_1)
  | _ => iprop(emp)
/-- What it holds at the end. -/
def Out (d : Dev nD) : sProp 𝕄 :=
  iprop(((d.tc : Thread nD τ).loc main_arg0 ↦{fullShare} m ((d.tc).loc main_arg0)) ∗ ((d.tc : Thread nD τ).loc main_arg1 ↦{fullShare} m ((d.tc).loc main_arg1))
    ∗ ((d.tc : Thread nD τ).loc main_v1_0 ↦{fullShare} out0 m d) ∗ ((d.tc : Thread nD τ).loc main_v1_1 ↦{fullShare} out1 m d))

abbrev 𝒱₀ : Variants := Variants.none

theorem body (κ : Dev nD × Fin 6 → ℕ) (c : Dev nD) :
    iprop((P m).records κ ∗ (P m).St c (P m).rem Finset.univ Finset.univ (P m).rem ∗ Keep m c ∗ bigSep (P m).rem fun k => Dst m k ((P m).dest k c))
      ⊢ wp frame (wpE (defs₀ (F := F)) 𝒱₀ (c.tc : Thread nD τ) none) Set.univ
        (cc0_share_halves (F := F) (Memref.whole main_arg0) (Memref.isWhole_whole _) (Memref.whole main_arg1) (Memref.isWhole_whole _)
          (Memref.whole main_v1_0) (Memref.isWhole_whole _) (Memref.whole main_v1_1) (Memref.isWhole_whole _) cc0_scratch0 cc0_scratch1 cc0_scratch2)
        fun _ => iprop((P m).St c ∅ ∅ ∅ ∅ ∗ Out m c) := by
  show iprop((P m).records κ ∗ (P m).St c {2, 3} Finset.univ Finset.univ {2, 3} ∗ Keep m c ∗ bigSep ({2, 3} : Finset (Fin 6)) fun k => Dst m k ((P m).dest k c)) ⊢ _
  have hd : (bigSep ({2, 3} : Finset (Fin 6)) fun k => Dst m k ((P m).dest k c) : sProp 𝕄)
      = iprop(((Dev.tc (dev1 c) : Thread nD τ).loc main_v1_0 ↦[part0 (c.val % 2)]{fullShare} m ((Dev.tc (dev1 c)).loc main_v1_0))
        ∗ ((Dev.tc (dev2 c) : Thread nD τ).loc main_v1_1 ↦[part1 (c.val % 2)]{fullShare} m ((Dev.tc (dev2 c)).loc main_v1_1))) := by
    rw [dev1_eq, dev2_eq, ← slot_sib, bigSep_insert (by decide), bigSep_singleton]
    rfl
  rw [hd]
  unfold Keep
  rw [halves (ℓ := (c.tc : Thread nD τ).loc main_arg0), halves (ℓ := (c.tc : Thread nD τ).loc main_arg1)]
  simp only [cc0_share_halves_eq_skeleton]
  unfold cc0_share_halves_skel
  simp only [k0_part1_eq_skeleton, k0_part2_eq_skeleton]
  unfold k0_part1_skel k0_part2_skel
  simp only [Prog.lift, Prog.bind_op, Prog.bind_ret, Prog.pure_eq_ret, wp_deviceId]
  refine (P m).copy_step _ _ κ c 4 (src := Memref.whole main_arg0) (dst := slot0 c) (q := fullShare.left)
    (fs := m ((c.tc).loc main_arg0)) (fd := m ((c.tc).loc main_v1_0))
    iprop(((c.tc : Thread nD τ).loc main_arg0 ↦{fullShare.right} m ((c.tc).loc main_arg0))
      ∗ (((c.tc : Thread nD τ).loc main_arg1 ↦{fullShare.left} m ((c.tc).loc main_arg1)) ∗ ((c.tc : Thread nD τ).loc main_arg1 ↦{fullShare.right} m ((c.tc).loc main_arg1)))
      ∗ ((c.tc : Thread nD τ).loc main_v1_1 ↦[part1 (c.val % 2)]{fullShare} m ((c.tc).loc main_v1_1))
      ∗ ((Dev.tc (dev1 c) : Thread nD τ).loc main_v1_0 ↦[part0 (c.val % 2)]{fullShare} m ((Dev.tc (dev1 c)).loc main_v1_0))
      ∗ ((Dev.tc (dev2 c) : Thread nD τ).loc main_v1_1 ↦[part1 (c.val % 2)]{fullShare} m ((Dev.tc (dev2 c)).loc main_v1_1)))
    ?_ (kept0 m c _) (by decide) (by decide) rfl rfl rfl ?_
  · rw [View.set_whole, slot0_set]
    iintro ⟨⟨⟨L0, R0⟩, H1, B0, B1⟩, D0, D1⟩
    isplitl [L0]; · iexact L0
    isplitl [B0]; · iexact B0
    isplitl [R0]; · iexact R0
    isplitl [H1]; · iexact H1
    isplitl [B1]; · iexact B1
    isplitl [D0]; · iexact D0
    iexact D1
  refine (P m).copy_step _ _ κ c 5 (src := Memref.whole main_arg1) (dst := slot1 c) (q := fullShare.left)
    (fs := m ((c.tc).loc main_arg1)) (fd := m ((c.tc).loc main_v1_1))
    iprop(((c.tc : Thread nD τ).loc main_arg0 ↦{fullShare.right} m ((c.tc).loc main_arg0))
      ∗ ((c.tc : Thread nD τ).loc main_arg1 ↦{fullShare.right} m ((c.tc).loc main_arg1))
      ∗ ((Dev.tc (dev1 c) : Thread nD τ).loc main_v1_0 ↦[part0 (c.val % 2)]{fullShare} m ((Dev.tc (dev1 c)).loc main_v1_0))
      ∗ ((Dev.tc (dev2 c) : Thread nD τ).loc main_v1_1 ↦[part1 (c.val % 2)]{fullShare} m ((Dev.tc (dev2 c)).loc main_v1_1)))
    ?_ (kept1 m c _) (by decide) (by decide) rfl rfl rfl ?_
  · rw [View.set_whole, slot1_set]
    iintro ⟨R0, ⟨L1, R1⟩, B1, D0, D1⟩
    isplitl [L1]; · iexact L1
    isplitl [B1]; · iexact B1
    isplitl [R0]; · iexact R0
    isplitl [R1]; · iexact R1
    isplitl [D0]; · iexact D0
    iexact D1
  refine (P m).send_step _ _ κ c 0 2 (src := Memref.whole main_arg0) (dst := slot0 c) (q := fullShare.right)
    (fs := m ((c.tc).loc main_arg0)) (fd := m ((dev1 c).tc.loc main_v1_0))
    iprop(((c.tc : Thread nD τ).loc main_arg1 ↦{fullShare.right} m ((c.tc).loc main_arg1))
      ∗ ((Dev.tc (dev2 c) : Thread nD τ).loc main_v1_1 ↦[part1 (c.val % 2)]{fullShare} m ((Dev.tc (dev2 c)).loc main_v1_1)))
    ?_ (dev1_eq c) (back0 m c) (sent0 m c (dev1_eq c) _)
    (by decide) (by decide) (by decide) (by decide) rfl rfl rfl rfl rfl ?_
  · rw [View.set_whole, slot0_set]
    iintro ⟨R0, R1, D0, D1⟩
    isplitl [R0]; · iexact R0
    isplitl [D0]; · iexact D0
    isplitl [R1]; · iexact R1
    iexact D1
  refine (P m).send_step _ _ κ c 1 3 (src := Memref.whole main_arg1) (dst := slot1 c) (q := fullShare.right)
    (fs := m ((c.tc).loc main_arg1)) (fd := m ((dev2 c).tc.loc main_v1_1)) iprop(emp)
    ?_ (dev2_eq c) (back1 m c) (sent1 m c (dev2_eq c) _)
    (by decide) (by decide) (by decide) (by decide) rfl rfl rfl rfl rfl ?_
  · rw [View.set_whole, slot1_set]
    iintro ⟨R1, D1⟩
    isplitl [R1]; · iexact R1
    isplitl [D1]; · iexact D1
    iempintro
  have hl (k : Fin 6) : ∀ k' ∈ (({2, 3} : Finset (Fin 6)).erase 2).erase 3, (P m).lvl k < (P m).lvl k' := fun k' h => absurd h (by revert k'; decide)
  refine (P m).wait_step _ _ κ c 2 (by decide) (by decide) (hl _) rfl rfl ?_
  refine (P m).wait_step _ _ κ c 3 (by decide) (by decide) (hl _) rfl rfl ?_
  refine (P m).wait_step _ _ κ c 0 (by decide) (by decide) (hl _) rfl rfl ?_
  refine (P m).wait_step _ _ κ c 1 (by decide) (by decide) (hl _) rfl rfl ?_
  refine (P m).wait_step _ _ κ c 4 (by decide) (by decide) (hl _) rfl rfl ?_
  refine (P m).wait_step _ _ κ c 5 (by decide) (by decide) (hl _) rfl rfl ?_
  refine (P m).end_step _ _ κ c (Out m c) (by decide) (by decide) (by decide) (by decide) ?_
  show iprop(pay m 5 c ∗ pay m 4 c ∗ pay m 1 c ∗ pay m 0 c ∗ pay m 3 c ∗ pay m 2 c ∗ emp) ⊢ _
  unfold Out pay
  rw [halves (ℓ := (c.tc : Thread nD τ).loc main_arg0) Finset.univ fullShare, halves (ℓ := (c.tc : Thread nD τ).loc main_arg1) Finset.univ fullShare, slots0 c, slots1 c]
  iintro ⟨⟨O1, L1⟩, ⟨O0, L0⟩, R1, R0, S1, S0, -⟩
  isplitl [L0 R0]
  · isplitl [L0]; · iexact L0
    iexact R0
  isplitl [L1 R1]
  · isplitl [L1]; · iexact L1
    iexact R1
  isplitl [O0 S0]
  · isplitl [O0]; · iexact O0
    iexact S0
  isplitl [O1]; · iexact O1
  iexact S1

/-! ## The run -/

/-- The buffers at the start: what the device keeps, and the two slots that it hands its sibling. -/
theorem split (d : Dev nD) :
    (unscopedBufs d (fun b => m (d.tc.loc b)) : sProp 𝕄) ⊢ iprop(Keep m d ∗ bigSep (P m).rem fun k => Dst m k d) := by
  show _ ⊢ iprop(Keep m d ∗ bigSep ({2, 3} : Finset (Fin 6)) fun k => Dst m k d)
  rw [bigSep_insert (by decide), bigSep_singleton]
  refine (unscoped_rest rfl cfg0.spec d _).trans ?_
  rw [unscopedRest0_eq]
  refine (show _ ⊢ iprop(Keep m d ∗ Dst m 2 d ∗ Dst m 3 d) from ?_)
  unfold Keep Dst
  rw [slots0 d, slots1 d]
  iintro ⟨A0, A1, ⟨O0, S0⟩, O1, S1⟩
  isplitl [A0 A1 O0 O1]
  · isplitl [A0]; · iexact A0
    isplitl [A1]; · iexact A1
    isplitl [O0]; · iexact O0
    iexact O1
  isplitl [S0]; · iexact S0
  iexact S1

theorem read_out (c : Dev nD) (s' : Phys nD τ sig (Elt F)) :
    iprop(Out m c ∗ SI s') ⊢ |={Set.univ}=> iprop(⌜s'.mem.mem ((c.tc).loc main_arg0) = m ((c.tc).loc main_arg0)
      ∧ s'.mem.mem ((c.tc).loc main_arg1) = m ((c.tc).loc main_arg1)
      ∧ s'.mem.mem ((c.tc).loc main_v1_0) = out0 m c ∧ s'.mem.mem ((c.tc).loc main_v1_1) = out1 m c⌝ ∗ SI s') := by
  unfold Out
  iintro ⟨⟨A0, A1, B0, B1⟩, H⟩
  ihave H0 := (read_one _ _ s') $$ [A0 H]
  · isplitl [A0] <;> iassumption
  icases H0 with ⟨%h0, H⟩
  ihave H1 := (read_one _ _ s') $$ [A1 H]
  · isplitl [A1] <;> iassumption
  icases H1 with ⟨%h1, H⟩
  ihave H2 := (read_one _ _ s') $$ [B0 H]
  · isplitl [B0] <;> iassumption
  icases H2 with ⟨%h2, H⟩
  ihave H3 := (read_one _ _ s') $$ [B1 H]
  · isplitl [B1] <;> iassumption
  icases H3 with ⟨%h3, H⟩
  imodintro
  isplitr
  · ipureintro; exact ⟨h0, h1, h2, h3⟩
  iexact H

/-- From any memory the call ends with every result filled by the two cores of the chip, the arguments as they were and
    all semaphores at zero. -/
theorem run_main (g : Dev nD → PrngReg) :
    θ_run (defs (F := F)) (onTc main) ⟨m, fun _ => 0, g⟩ fun r =>
      (∀ c : Dev nD, r.2.mem ((c.tc).loc main_arg0) = m ((c.tc).loc main_arg0) ∧ r.2.mem ((c.tc).loc main_arg1) = m ((c.tc).loc main_arg1)
        ∧ r.2.mem ((c.tc).loc main_v1_0) = out0 m c ∧ r.2.mem ((c.tc).loc main_v1_1) = out1 m c) ∧ r.2.sem = fun _ => 0 := by
  refine (P m).θ_run_talk cfgs (fun _ => rfl) N_0 cellOf_inj defs₀ 𝒱₀ main (fun _ => rfl) (by decide) m g (Keep m) (Out m) (Dst m)
    (split m) (fun κ c t => body m κ c) (fun c s => s.mem ((c.tc).loc main_arg0) = m ((c.tc).loc main_arg0)
      ∧ s.mem ((c.tc).loc main_arg1) = m ((c.tc).loc main_arg1)
      ∧ s.mem ((c.tc).loc main_v1_0) = out0 m c ∧ s.mem ((c.tc).loc main_v1_1) = out1 m c) (fun c s' => read_out m c s')

end Cert.ShareIdeal.Run

end
-- ==== Proof.Share.Ref.lean ====
/-
# The sharing of halves: what the plain gather holds at each place
-/
module

public import proofs.«01_k».proof.Proof.Gen.ShareRefIdeal.Run
public import Idealize.ShloMosaic.Lib.PointwiseCore

@[expose] public section

noncomputable section

namespace Cert.ShareRefIdeal.Ref

open Idealize.ShloMosaic Cert.ShareRefIdeal Cert.ShareRefIdeal.Gen

variable {α : Type}

/-! The two arrays with the halves that the cores hold side by side. -/

def shared0 (x : S2048x22592.Idx → α) : S2x1024x22592.Idx → α := shapeCast _ x shapeCasts_S2048x22592_S2x1024x22592
def shared1 (x : S8192x2048.Idx → α) : S8x1024x2048.Idx → α := shapeCast _ x shapeCasts_S8192x2048_S8x1024x2048

set_option maxRecDepth 16384 in
theorem shared0_apply (x : S2048x22592.Idx → α) (k : Fin 2) (r : Fin 1024) (l : Fin 22592) :
    shared0 x (ix3 k r l) = x (ix2 ⟨k.val * 1024 + r.val, by omega⟩ l) := by
  unfold shared0
  pointwise []

set_option maxRecDepth 16384 in
theorem shared1_apply (x : S8192x2048.Idx → α) (k : Fin 8) (r : Fin 1024) (l : Fin 2048) :
    shared1 x (ix3 k r l) = x (ix2 ⟨k.val * 1024 + r.val, by omega⟩ l) := by
  unfold shared1
  pointwise []

end Cert.ShareRefIdeal.Ref

end

end
-- ==== Proof.Share.Value.lean ====
/-
# The sharing of halves: its result against the plain gather's
-/
module

public import proofs.«01_k».proof.Proof.Share.Run
public import proofs.«01_k».proof.Proof.Share.Ref

@[expose] public section

noncomputable section

namespace Cert.ShareIdeal.Run

open Idealize.ShloMosaic
open Idealize.ShloMosaic.TcCoe
open Idealize.SL.Sem
open Cert.ShareIdeal Cert.ShareIdeal.Gen Cert.ShareRefIdeal.Ref Cert.Talk
open Cert.ShareRefIdeal (S2048x22592 S8192x2048)

variable {F : FTy → Type} [FloatOps F]
variable (m : (ℓ : Loc nD τ sig) → Buf (Elt F) ℓ)

/-- The blocks of core `k` of the chip: rows `k`, columns by chip. -/
theorem mesh_row (c : Dev nD) (k : Fin 2) : Layout.meshLin [2, 2, 2] (core c k).val [2] = k.val := by revert c k; decide
theorem mesh_col (c : Dev nD) (k : Fin 2) : Layout.meshLin [2, 2, 2] (core c k).val [0, 1] = c.val / 2 := by revert c k; decide
theorem mesh_chip (c : Dev nD) : Layout.meshLin [2, 2, 2] c.val [0, 1] = c.val / 2 := by revert c; decide
theorem chip_lt (c : Dev nD) : c.val / 2 < 4 := by revert c; decide

theorem value0 (x : S2048x22592.Idx → F .f32)
    (h : ∀ c : Dev nD, m ((c.tc).loc main_arg0) = Layout.blockN ⟨2, ![1024, 5648]⟩ ⟨2, ![2048, 22592]⟩ (Layout.meshBlock [2, 2, 2] ![[2], [0, 1]] c) x) (c : Dev nD) :
    out0 m c = Layout.blockN ⟨3, ![2, 1024, 5648]⟩ ⟨3, ![2, 1024, 22592]⟩ (Layout.meshBlock [2, 2, 2] ![[], [], [0, 1]] c) (shared0 x) := by
  funext i
  idx_vars i
  show m ((core c i0).tc.loc main_arg0) (ix2 i1 i2) = _
  rw [h (core c i0), Layout.blockN_apply, Layout.blockN_apply]
  refine Eq.trans (congrArg x (funext fun a => Fin.ext ?_))
    ((shared0_apply x i0 i1 ⟨c.val / 2 * 5648 + i2.val, by have := chip_lt c; omega⟩).symm.trans (congrArg (shared0 x) (funext fun a => Fin.ext ?_)))
  · fin_cases a
    · exact congrArg (· * 1024 + i1.val) (mesh_row c i0)
    · exact congrArg (· * 5648 + i2.val) (mesh_col c i0)
  · fin_cases a
    · exact (Nat.zero_add _).symm.trans (congrArg (· + i0.val) (Nat.zero_mul 2).symm)
    · exact (Nat.zero_add _).symm.trans (congrArg (· + i1.val) (Nat.zero_mul 1024).symm)
    · exact congrArg (· * 5648 + i2.val) (mesh_chip c).symm

theorem value1 (x : S8192x2048.Idx → F .f32)
    (h : ∀ c : Dev nD, m ((c.tc).loc main_arg1) = Layout.block ⟨2, ![1024, 2048]⟩ ⟨2, ![8192, 2048]⟩ 0 8 c x) (c : Dev nD) :
    out1 m c = Layout.blockN ⟨3, ![2, 1024, 2048]⟩ ⟨3, ![8, 1024, 2048]⟩ (Layout.meshBlock [2, 2, 2] ![[0, 1], [], []] c) (shared1 x) := by
  funext i
  idx_vars i
  show m ((core c i0).tc.loc main_arg1) (ix2 i1 i2) = _
  rw [h (core c i0), Layout.block_apply, Layout.blockN_apply]
  refine Eq.trans (congrArg x (funext fun a => Fin.ext ?_))
    ((shared1_apply x (core c i0) i1 i2).symm.trans (congrArg (shared1 x) (funext fun a => Fin.ext ?_)))
  · fin_cases a
    · rfl
    · rfl
  · fin_cases a
    · exact (congrArg (· + i0.val) (Nat.mul_comm 2 (c.val / 2))).trans (congrArg (· * 2 + i0.val) (mesh_chip c).symm)
    · exact (Nat.zero_add _).symm.trans (congrArg (· + i1.val) (Nat.zero_mul 1024).symm)
    · exact (Nat.zero_add _).symm.trans (congrArg (· + i2.val) (Nat.zero_mul 2048).symm)

end Cert.ShareIdeal.Run

end

end
-- ==== Proof.Share.Claims.lean ====
/-
# The sharing of halves: its claims
-/
module

public import proofs.«01_k».proof.Defs
public import proofs.«01_k».proof.Proof.Share.Value
public import proofs.«01_k».proof.Proof.Gen.Share
public import proofs.«01_k».proof.Proof.Gen.ShareRef
public import proofs.«01_k».proof.Proof.Gen.ShareRef.Run
public import Idealize.ShloMosaic.Lib.Quiescent

@[expose] public section

noncomputable section

namespace Cert.Proof.Share

open Idealize.ShloMosaic Idealize.ShloMosaic.TcCoe Idealize.SL.Sem
open Cert.Share

theorem frame : Cert.quiescent_Share := fun m g _ =>
  (θ_run _ _ _).mono (fun _ h => ⟨fun c => ⟨(h.1 c).1, (h.1 c).2.1⟩, h.2⟩) (Cert.ShareIdeal.Run.run_main (F := Bits) m g)

theorem frame_ideal : Cert.quiescent_ShareIdeal := fun m g _ =>
  (θ_run _ _ _).mono (fun _ h => ⟨fun c => ⟨(h.1 c).1, (h.1 c).2.1⟩, h.2⟩) (Cert.ShareIdeal.Run.run_main (F := Ideal) m g)

theorem frame_ref : Cert.quiescent_ShareRef := fun m g _ =>
  (θ_run _ _ _).mono (fun r h => ⟨fun c => ⟨(h c).2.2.1, (h c).2.2.2⟩, sem_eq_zero_of_no_sems (by decide) r.2⟩)
    (Cert.ShareRef.Value.run (F := Bits) m g)

theorem frame_refIdeal : Cert.quiescent_ShareRefIdeal := fun m g _ =>
  (θ_run _ _ _).mono (fun r h => ⟨fun c => ⟨(h c).2.2.1, (h c).2.2.2⟩, sem_eq_zero_of_no_sems (by decide) r.2⟩)
    (Cert.ShareRefIdeal.Value.run (F := Ideal) m g)

theorem algebraic : Cert.algebraic_ShareIdeal_ShareRefIdeal := fun m g m' g' _ hm =>
  ⟨Cert.ShareRefIdeal.Ref.shared0 _, Cert.ShareRefIdeal.Ref.shared1 _,
    (θ_run _ _ _).mono (fun _ h c => ⟨(h.1 c).2.2.1.trans (Cert.ShareIdeal.Run.value0 m _ (fun c => (hm c).1) c),
      (h.1 c).2.2.2.trans (Cert.ShareIdeal.Run.value1 m _ (fun c => (hm c).2) c), (h.1 c).1, (h.1 c).2.1⟩) (Cert.ShareIdeal.Run.run_main (F := Ideal) m g),
    (θ_run _ _ _).mono (fun _ h => h 0) (Cert.ShareRefIdeal.Value.run (F := Ideal) m' g')⟩

theorem bitexact : Cert.bitexact_Share_ShareRef := fun m g m' g' _ hm =>
  ⟨Cert.ShareRefIdeal.Ref.shared0 _, Cert.ShareRefIdeal.Ref.shared1 _,
    (θ_run _ _ _).mono (fun _ h c => ⟨(h.1 c).2.2.1.trans (Cert.ShareIdeal.Run.value0 (F := Bits) m _ (fun c => (hm c).1) c),
      (h.1 c).2.2.2.trans (Cert.ShareIdeal.Run.value1 (F := Bits) m _ (fun c => (hm c).2) c), (h.1 c).1, (h.1 c).2.1⟩) (Cert.ShareIdeal.Run.run_main (F := Bits) m g),
    (θ_run _ _ _).mono (fun _ h => h 0) (Cert.ShareRef.Value.run (F := Bits) m' g')⟩

end Cert.Proof.Share

end

end
-- ==== Proof.Exchange.Run.lean ====
/-
# The exchange between the chips: its run

Each device sends every other chip's core of its own number that chip's shard of the two arrays, and gets three shards
of each. Per device twelve semaphores, each credited by one copy:

* 0 to 5, send: the wait gives back the shard that was read;
* 6 to 11, receive: the wait hands over the filled slot of the result.

The shard for the chip that differs in x comes first, then y, then both. No device waits before all its copies are issued.
-/
module

public import proofs.«01_k».proof.Proof.Talk.Launch
public import proofs.«01_k».proof.Proof.Talk.Slabs
public import proofs.«01_k».proof.Proof.Talk.Index
public import proofs.«01_k».proof.Proof.Gen.ExchangeIdeal.Skeleton
public import proofs.«01_k».proof.Proof.Gen.ExchangeIdeal.Launch

@[expose] public section

noncomputable section

namespace Cert.ExchangeIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.ExchangeIdeal Cert.ExchangeIdeal.Gen Cert.Talk

variable {F : FTy → Type} [FloatOps F]

local notation "𝕄" => MM nD τ sig (Elt F)

/-! ## The devices -/

/-- The core of the same number on the chip that differs in x, in y, in both. -/
def peer (j : Fin 3) (c : Dev nD) : Dev nD :=
  ⟨c.val ^^^ (![4, 2, 6] j), by revert j c; decide⟩

theorem peer_peer (j : Fin 3) (c : Dev nD) : peer j (peer j c) = c := by revert j c; decide
/-- The chip that a device is on. -/
def chip (c : Dev nD) : Fin 4 := ⟨c.val / 2, by revert c; decide⟩
def swap (j : Fin 3) : Equiv.Perm (Dev nD) := ⟨peer j, peer j, peer_peer j, peer_peer j⟩

/-- The devices that the six copies address. -/
abbrev dev1 (c : Dev nD) : Dev nD := ⟨k0_dev1 c, k0_dev1_lt c⟩
abbrev dev2 (c : Dev nD) : Dev nD := ⟨k0_dev2 c, k0_dev2_lt c⟩
abbrev dev3 (c : Dev nD) : Dev nD := ⟨k0_dev3 c, k0_dev3_lt c⟩
abbrev dev4 (c : Dev nD) : Dev nD := ⟨k0_dev4 c, k0_dev4_lt c⟩
abbrev dev5 (c : Dev nD) : Dev nD := ⟨k0_dev5 c, k0_dev5_lt c⟩
abbrev dev6 (c : Dev nD) : Dev nD := ⟨k0_dev6 c, k0_dev6_lt c⟩
theorem dev1_eq (c : Dev nD) : dev1 c = peer 0 c := by revert c; decide
theorem dev2_eq (c : Dev nD) : dev2 c = peer 0 c := by revert c; decide
theorem dev3_eq (c : Dev nD) : dev3 c = peer 1 c := by revert c; decide
theorem dev4_eq (c : Dev nD) : dev4 c = peer 1 c := by revert c; decide
theorem dev5_eq (c : Dev nD) : dev5 c = peer 2 c := by revert c; decide
theorem dev6_eq (c : Dev nD) : dev6 c = peer 2 c := by revert c; decide
theorem off1_eq (c : Dev nD) : k0_off1 c = ![(chip (peer 0 c)).val, 0, 0] := by revert c; decide
theorem off2_eq (c : Dev nD) : k0_off2 c = ![(chip (peer 0 c)).val, 0, 0] := by revert c; decide
theorem off3_eq (c : Dev nD) : k0_off3 c = ![(chip (peer 1 c)).val, 0, 0] := by revert c; decide
theorem off4_eq (c : Dev nD) : k0_off4 c = ![(chip (peer 1 c)).val, 0, 0] := by revert c; decide
theorem off5_eq (c : Dev nD) : k0_off5 c = ![(chip (peer 2 c)).val, 0, 0] := by revert c; decide
theorem off6_eq (c : Dev nD) : k0_off6 c = ![(chip (peer 2 c)).val, 0, 0] := by revert c; decide

/-- The shards of the arguments, each once: those that are sent, and the device's own. -/
def shard (c : Dev nD) : Fin 4 → ℕ := ![(chip (peer 0 c)).val, (chip (peer 1 c)).val, (chip (peer 2 c)).val, (chip c).val]
theorem shard_inj (c : Dev nD) : Function.Injective (shard c) := by revert c; decide
theorem shard_surj (c : Dev nD) : ∀ k < 4, ∃ j, shard c j = k := by revert c; decide
theorem slot_inj : Function.Injective ![0, 1, 2] := by decide
theorem slot_surj : ∀ k < 3, ∃ j, (![0, 1, 2] : Fin 3 → ℕ) j = k := by decide

/-! ## The arrays -/

variable (m : (ℓ : Loc nD τ sig) → Buf (Elt F) ℓ)

/-- A shard of the argument. -/
abbrev piece0 (off : Fin 3 → ℕ) (inb : ∀ a, off a + S1x1024x5648.size a ≤ S4x1024x5648.size a) : Memref sig .tc .hbm S1024x5648 .bf16 :=
  ((Memref.whole main_arg0).slice (Rect.unit (s := S4x1024x5648) off S1x1024x5648.size inb) (fun _ => rfl)).squeeze S1024x5648 squeezes_S1x1024x5648_S1024x5648

theorem piece0_set {off : Fin 3 → ℕ} (inb) {k : ℕ} (h : off = ![k, 0, 0]) : (piece0 off inb).view.set = (slab 0 k : Finset S4x1024x5648.Idx) := by
  subst h
  refine (View.set_reshape _ _).trans ((View.set_slice_whole _ _).trans (unit_set 0 _ rfl rfl fun x hx => ?_))
  fin_cases x
  · exact absurd rfl hx
  · exact ⟨rfl, rfl⟩
  · exact ⟨rfl, rfl⟩

theorem piece0_read {off : Fin 3 → ℕ} (inb) (k : Fin 4) (h : off = ![k.val, 0, 0]) (X : S4x1024x5648.Idx → F .bf16) (r : Fin 1024) (l : Fin 5648) :
    (piece0 off inb).view.read (Elt F) X (ix2 r l) = X (ix3 k r l) := by
  change X ((Rect.unit (s := S4x1024x5648) off S1x1024x5648.size inb).emb (Shape.reshapeEquiv squeezes_S1x1024x5648_S1024x5648.numel_eq (ix2 r l))) = _
  pointwise []
  refine congrArg X (unit_emb h _ _ _ _ fun a => ?_)
  fin_cases a
  · rfl
  · exact Nat.zero_add _
  · exact Nat.zero_add _

/-- A slot of the result. -/
abbrev slot0 (off : Fin 3 → ℕ) (inb : ∀ a, off a + S1x1024x5648.size a ≤ S3x1024x5648.size a) : Memref sig .tc .hbm S1024x5648 .bf16 :=
  ((Memref.whole main_v1_0).slice (Rect.unit (s := S3x1024x5648) off S1x1024x5648.size inb) (fun _ => rfl)).squeeze S1024x5648 squeezes_S1x1024x5648_S1024x5648

theorem slot0_set {off : Fin 3 → ℕ} (inb) {k : ℕ} (h : off = ![k, 0, 0]) : (slot0 off inb).view.set = (slab 0 k : Finset S3x1024x5648.Idx) := by
  subst h
  refine (View.set_reshape _ _).trans ((View.set_slice_whole _ _).trans (unit_set 0 _ rfl rfl fun x hx => ?_))
  fin_cases x
  · exact absurd rfl hx
  · exact ⟨rfl, rfl⟩
  · exact ⟨rfl, rfl⟩

theorem slot0_read {off : Fin 3 → ℕ} (inb) (k : Fin 3) (h : off = ![k.val, 0, 0]) (X : S3x1024x5648.Idx → F .bf16) (r : Fin 1024) (l : Fin 5648) :
    (slot0 off inb).view.read (Elt F) X (ix2 r l) = X (ix3 k r l) := by
  change X ((Rect.unit (s := S3x1024x5648) off S1x1024x5648.size inb).emb (Shape.reshapeEquiv squeezes_S1x1024x5648_S1024x5648.numel_eq (ix2 r l))) = _
  pointwise []
  refine congrArg X (unit_emb h _ _ _ _ fun a => ?_)
  fin_cases a
  · rfl
  · exact Nat.zero_add _
  · exact Nat.zero_add _

/-- What the device's result holds at the end: in slot `j` the device's shard of what its `j`-th peer holds. -/
def out0 (d : Dev nD) : Buf (Elt F) ((d.tc : Thread nD τ).loc main_v1_0) :=
  fun i : S3x1024x5648.Idx => m ((peer (i 0) d).tc.loc main_arg0) (ix3 (chip d) (i 1) (i 2) : S4x1024x5648.Idx)

/-- A shard of the argument. -/
abbrev piece1 (off : Fin 3 → ℕ) (inb : ∀ a, off a + S1x1024x2048.size a ≤ S4x1024x2048.size a) : Memref sig .tc .hbm S1024x2048 .bf16 :=
  ((Memref.whole main_arg1).slice (Rect.unit (s := S4x1024x2048) off S1x1024x2048.size inb) (fun _ => rfl)).squeeze S1024x2048 squeezes_S1x1024x2048_S1024x2048

theorem piece1_set {off : Fin 3 → ℕ} (inb) {k : ℕ} (h : off = ![k, 0, 0]) : (piece1 off inb).view.set = (slab 0 k : Finset S4x1024x2048.Idx) := by
  subst h
  refine (View.set_reshape _ _).trans ((View.set_slice_whole _ _).trans (unit_set 0 _ rfl rfl fun x hx => ?_))
  fin_cases x
  · exact absurd rfl hx
  · exact ⟨rfl, rfl⟩
  · exact ⟨rfl, rfl⟩

theorem piece1_read {off : Fin 3 → ℕ} (inb) (k : Fin 4) (h : off = ![k.val, 0, 0]) (X : S4x1024x2048.Idx → F .bf16) (r : Fin 1024) (l : Fin 2048) :
    (piece1 off inb).view.read (Elt F) X (ix2 r l) = X (ix3 k r l) := by
  change X ((Rect.unit (s := S4x1024x2048) off S1x1024x2048.size inb).emb (Shape.reshapeEquiv squeezes_S1x1024x2048_S1024x2048.numel_eq (ix2 r l))) = _
  pointwise []
  refine congrArg X (unit_emb h _ _ _ _ fun a => ?_)
  fin_cases a
  · rfl
  · exact Nat.zero_add _
  · exact Nat.zero_add _

/-- A slot of the result. -/
abbrev slot1 (off : Fin 3 → ℕ) (inb : ∀ a, off a + S1x1024x2048.size a ≤ S3x1024x2048.size a) : Memref sig .tc .hbm S1024x2048 .bf16 :=
  ((Memref.whole main_v1_1).slice (Rect.unit (s := S3x1024x2048) off S1x1024x2048.size inb) (fun _ => rfl)).squeeze S1024x2048 squeezes_S1x1024x2048_S1024x2048

theorem slot1_set {off : Fin 3 → ℕ} (inb) {k : ℕ} (h : off = ![k, 0, 0]) : (slot1 off inb).view.set = (slab 0 k : Finset S3x1024x2048.Idx) := by
  subst h
  refine (View.set_reshape _ _).trans ((View.set_slice_whole _ _).trans (unit_set 0 _ rfl rfl fun x hx => ?_))
  fin_cases x
  · exact absurd rfl hx
  · exact ⟨rfl, rfl⟩
  · exact ⟨rfl, rfl⟩

theorem slot1_read {off : Fin 3 → ℕ} (inb) (k : Fin 3) (h : off = ![k.val, 0, 0]) (X : S3x1024x2048.Idx → F .bf16) (r : Fin 1024) (l : Fin 2048) :
    (slot1 off inb).view.read (Elt F) X (ix2 r l) = X (ix3 k r l) := by
  change X ((Rect.unit (s := S3x1024x2048) off S1x1024x2048.size inb).emb (Shape.reshapeEquiv squeezes_S1x1024x2048_S1024x2048.numel_eq (ix2 r l))) = _
  pointwise []
  refine congrArg X (unit_emb h _ _ _ _ fun a => ?_)
  fin_cases a
  · rfl
  · exact Nat.zero_add _
  · exact Nat.zero_add _

/-- What the device's result holds at the end: in slot `j` the device's shard of what its `j`-th peer holds. -/
def out1 (d : Dev nD) : Buf (Elt F) ((d.tc : Thread nD τ).loc main_v1_1) :=
  fun i : S3x1024x2048.Idx => m ((peer (i 0) d).tc.loc main_arg1) (ix3 (chip d) (i 1) (i 2) : S4x1024x2048.Idx)

/-! ## The protocol -/

abbrev N0 : ℕ := (slot0 ![0, 0, 0] inb_S3x1024x5648_S1x1024x5648_0_0_0).view.dmaCredit
abbrev N1 : ℕ := (slot1 ![0, 0, 0] inb_S3x1024x2048_S1x1024x2048_0_0_0).view.dmaCredit

/-- The device's shard for its `j`-th peer, and slot `j` of its result, filled. -/
abbrev sent0 (j : Fin 3) (d : Dev nD) : sProp 𝕄 :=
  (d.tc : Thread nD τ).loc main_arg0 ↦[(slab 0 (chip (peer j d)).val : Finset S4x1024x5648.Idx)]{fullShare} m ((d.tc).loc main_arg0)
abbrev got0 (j : Fin 3) (d : Dev nD) : sProp 𝕄 :=
  (d.tc : Thread nD τ).loc main_v1_0 ↦[(slab 0 j.val : Finset S3x1024x5648.Idx)]{fullShare} out0 m d

/-- The device's shard for its `j`-th peer, and slot `j` of its result, filled. -/
abbrev sent1 (j : Fin 3) (d : Dev nD) : sProp 𝕄 :=
  (d.tc : Thread nD τ).loc main_arg1 ↦[(slab 0 (chip (peer j d)).val : Finset S4x1024x2048.Idx)]{fullShare} m ((d.tc).loc main_arg1)
abbrev got1 (j : Fin 3) (d : Dev nD) : sProp 𝕄 :=
  (d.tc : Thread nD τ).loc main_v1_1 ↦[(slab 0 j.val : Finset S3x1024x2048.Idx)]{fullShare} out1 m d

/-- What each semaphore's copy hands the device that waits. -/
def pay (k : Fin 12) (d : Dev nD) : sProp 𝕄 :=
  match k with
  | 0 => sent0 m 0 d
  | 1 => sent1 m 0 d
  | 2 => sent0 m 1 d
  | 3 => sent1 m 1 d
  | 4 => sent0 m 2 d
  | 5 => sent1 m 2 d
  | 6 => got0 m 0 d
  | 7 => got1 m 0 d
  | 8 => got0 m 1 d
  | 9 => got1 m 1 d
  | 10 => got0 m 2 d
  | 11 => got1 m 2 d

def P : Proto nD τ sig (Elt F) (Fin 12) where
  sem := ![0, 1, 2, 3, 4, 5, 6, 7, 8, 9, 10, 11]
  inj := by decide
  amt := ![N0, N1, N0, N1, N0, N1, N0, N1, N0, N1, N0, N1]
  pos k := by
    fin_cases k <;> exact View.dmaCredit_pos _ (by decide)
  lvl := ![0, 0, 0, 0, 0, 0, 1, 1, 1, 1, 1, 1]
  dest := ![Equiv.refl _, Equiv.refl _, Equiv.refl _, Equiv.refl _, Equiv.refl _, Equiv.refl _, swap 0, swap 0, swap 1, swap 1, swap 2, swap 2]
  rem := {6, 7, 8, 9, 10, 11}
  home := by
    intro k hk
    fin_cases k
    · rfl
    · rfl
    · rfl
    · rfl
    · rfl
    · rfl
    all_goals exact absurd (by decide) hk
  pay := pay m
  stor k d := by
    fin_cases k <;> exact inferInstanceAs (BI.Storable upEmb (_ ↦[_]{_} _ : sProp 𝕄))

/-! ## What the copies hand over -/

theorem back0 (c : Dev nD) (j : Fin 3) {off : Fin 3 → ℕ} (inb) (h : off = ![(chip (peer j c)).val, 0, 0]) :
    ((piece0 off inb).view.loc (c.tc : Thread nD τ) ↦[(piece0 off inb).view.set]{fullShare} (m ((c.tc).loc main_arg0)) : sProp 𝕄) ⊢ sent0 m j c := by
  rw [piece0_set inb h]

theorem fill0 (c : Dev nD) (j : Fin 3) {off off' : Fin 3 → ℕ} (inb inb') (h : off = ![(chip (peer j c)).val, 0, 0]) (h' : off' = ![j.val, 0, 0])
    {d : Dev nD} (hd : d = peer j c) (fd : Buf (Elt F) ((d.tc : Thread nD τ).loc main_v1_0)) :
    ((slot0 off' inb').view.loc (d.tc : Thread nD τ) ↦[(slot0 off' inb').view.set]{fullShare}
        ((slot0 off' inb').view.write (Elt F) fd ((piece0 off inb).view.read (Elt F) (m ((c.tc).loc main_arg0))) Finset.univ) : sProp 𝕄)
      ⊢ got0 m j d := by
  subst hd
  have h1 : (slot0 off' inb').view.read (Elt F) (out0 m (peer j c)) = (piece0 off inb).view.read (Elt F) (m ((c.tc).loc main_arg0)) := by
    funext i
    obtain ⟨r, l, rfl⟩ : ∃ (r : Fin 1024) (l : Fin 5648), i = ix2 r l := ⟨i 0, i 1, eq_ix2 i⟩
    rw [slot0_read inb' j h', piece0_read inb (chip (peer j c)) h]
    show m ((peer j (peer j c)).tc.loc main_arg0) (ix3 (chip (peer j c)) r l) = _
    rw [peer_peer]
  rw [landed (slot0 off' inb').view fd (out0 m (peer j c)) _ h1, slot0_set inb' h']

/-- The argument is the shards that are sent and the device's own; the result is its three slots. -/
theorem shards0 (d : Dev nD) :
    ((d.tc : Thread nD τ).loc main_arg0 ↦{fullShare} m ((d.tc).loc main_arg0) : sProp 𝕄)
      = iprop(sent0 m 0 d ∗ sent0 m 1 d ∗ sent0 m 2 d
        ∗ ((d.tc : Thread nD τ).loc main_arg0 ↦[(slab 0 (chip d).val : Finset S4x1024x5648.Idx)]{fullShare} m ((d.tc).loc main_arg0))) := by
  rw [slabs (d := d) (b := main_arg0) (0 : Fin 3) (shard d) (shard_inj d) (shard_surj d) (m ((d.tc).loc main_arg0)),
    show (Finset.univ : Finset (Fin 4)) = {0, 1, 2, 3} from rfl, bigSep_insert (by decide), bigSep_insert (by decide), bigSep_insert (by decide), bigSep_singleton]
  rfl

theorem slots0 (d : Dev nD) (f : Buf (Elt F) ((d.tc : Thread nD τ).loc main_v1_0)) :
    ((d.tc : Thread nD τ).loc main_v1_0 ↦{fullShare} f : sProp 𝕄)
      = iprop(((d.tc : Thread nD τ).loc main_v1_0 ↦[(slab 0 0 : Finset S3x1024x5648.Idx)]{fullShare} f)
        ∗ ((d.tc : Thread nD τ).loc main_v1_0 ↦[(slab 0 1 : Finset S3x1024x5648.Idx)]{fullShare} f)
        ∗ ((d.tc : Thread nD τ).loc main_v1_0 ↦[(slab 0 2 : Finset S3x1024x5648.Idx)]{fullShare} f)) := by
  rw [slabs (d := d) (b := main_v1_0) (0 : Fin 3) ![0, 1, 2] slot_inj slot_surj f,
    show (Finset.univ : Finset (Fin 3)) = {0, 1, 2} from rfl, bigSep_insert (by decide), bigSep_insert (by decide), bigSep_singleton]
  rfl

/-- Slot `j` of a device's result at the start. -/
abbrev open0 (j : Fin 3) (d : Dev nD) : sProp 𝕄 :=
  (d.tc : Thread nD τ).loc main_v1_0 ↦[(slab 0 j.val : Finset S3x1024x5648.Idx)]{fullShare} m ((d.tc).loc main_v1_0)

theorem back1 (c : Dev nD) (j : Fin 3) {off : Fin 3 → ℕ} (inb) (h : off = ![(chip (peer j c)).val, 0, 0]) :
    ((piece1 off inb).view.loc (c.tc : Thread nD τ) ↦[(piece1 off inb).view.set]{fullShare} (m ((c.tc).loc main_arg1)) : sProp 𝕄) ⊢ sent1 m j c := by
  rw [piece1_set inb h]

theorem fill1 (c : Dev nD) (j : Fin 3) {off off' : Fin 3 → ℕ} (inb inb') (h : off = ![(chip (peer j c)).val, 0, 0]) (h' : off' = ![j.val, 0, 0])
    {d : Dev nD} (hd : d = peer j c) (fd : Buf (Elt F) ((d.tc : Thread nD τ).loc main_v1_1)) :
    ((slot1 off' inb').view.loc (d.tc : Thread nD τ) ↦[(slot1 off' inb').view.set]{fullShare}
        ((slot1 off' inb').view.write (Elt F) fd ((piece1 off inb).view.read (Elt F) (m ((c.tc).loc main_arg1))) Finset.univ) : sProp 𝕄)
      ⊢ got1 m j d := by
  subst hd
  have h1 : (slot1 off' inb').view.read (Elt F) (out1 m (peer j c)) = (piece1 off inb).view.read (Elt F) (m ((c.tc).loc main_arg1)) := by
    funext i
    obtain ⟨r, l, rfl⟩ : ∃ (r : Fin 1024) (l : Fin 2048), i = ix2 r l := ⟨i 0, i 1, eq_ix2 i⟩
    rw [slot1_read inb' j h', piece1_read inb (chip (peer j c)) h]
    show m ((peer j (peer j c)).tc.loc main_arg1) (ix3 (chip (peer j c)) r l) = _
    rw [peer_peer]
  rw [landed (slot1 off' inb').view fd (out1 m (peer j c)) _ h1, slot1_set inb' h']

/-- The argument is the shards that are sent and the device's own; the result is its three slots. -/
theorem shards1 (d : Dev nD) :
    ((d.tc : Thread nD τ).loc main_arg1 ↦{fullShare} m ((d.tc).loc main_arg1) : sProp 𝕄)
      = iprop(sent1 m 0 d ∗ sent1 m 1 d ∗ sent1 m 2 d
        ∗ ((d.tc : Thread nD τ).loc main_arg1 ↦[(slab 0 (chip d).val : Finset S4x1024x2048.Idx)]{fullShare} m ((d.tc).loc main_arg1))) := by
  rw [slabs (d := d) (b := main_arg1) (0 : Fin 3) (shard d) (shard_inj d) (shard_surj d) (m ((d.tc).loc main_arg1)),
    show (Finset.univ : Finset (Fin 4)) = {0, 1, 2, 3} from rfl, bigSep_insert (by decide), bigSep_insert (by decide), bigSep_insert (by decide), bigSep_singleton]
  rfl

theorem slots1 (d : Dev nD) (f : Buf (Elt F) ((d.tc : Thread nD τ).loc main_v1_1)) :
    ((d.tc : Thread nD τ).loc main_v1_1 ↦{fullShare} f : sProp 𝕄)
      = iprop(((d.tc : Thread nD τ).loc main_v1_1 ↦[(slab 0 0 : Finset S3x1024x2048.Idx)]{fullShare} f)
        ∗ ((d.tc : Thread nD τ).loc main_v1_1 ↦[(slab 0 1 : Finset S3x1024x2048.Idx)]{fullShare} f)
        ∗ ((d.tc : Thread nD τ).loc main_v1_1 ↦[(slab 0 2 : Finset S3x1024x2048.Idx)]{fullShare} f)) := by
  rw [slabs (d := d) (b := main_v1_1) (0 : Fin 3) ![0, 1, 2] slot_inj slot_surj f,
    show (Finset.univ : Finset (Fin 3)) = {0, 1, 2} from rfl, bigSep_insert (by decide), bigSep_insert (by decide), bigSep_singleton]
  rfl

/-- Slot `j` of a device's result at the start. -/
abbrev open1 (j : Fin 3) (d : Dev nD) : sProp 𝕄 :=
  (d.tc : Thread nD τ).loc main_v1_1 ↦[(slab 0 j.val : Finset S3x1024x2048.Idx)]{fullShare} m ((d.tc).loc main_v1_1)

/-! ## The body -/

/-- What a device keeps: its arguments. -/
def Keep (d : Dev nD) : sProp 𝕄 :=
  iprop(((d.tc : Thread nD τ).loc main_arg0 ↦{fullShare} m ((d.tc).loc main_arg0)) ∗ ((d.tc : Thread nD τ).loc main_arg1 ↦{fullShare} m ((d.tc).loc main_arg1)))
/-- What it hands its peers: the slots of its results. -/
def Dst (k : Fin 12) (d : Dev nD) : sProp 𝕄 :=
  match k with
  | 6 => open0 m 0 d
  | 7 => open1 m 0 d
  | 8 => open0 m 1 d
  | 9 => open1 m 1 d
  | 10 => open0 m 2 d
  | 11 => open1 m 2 d
  | _ => iprop(emp)
/-- What it holds at the end. -/
def Out (d : Dev nD) : sProp 𝕄 :=
  iprop(((d.tc : Thread nD τ).loc main_arg0 ↦{fullShare} m ((d.tc).loc main_arg0)) ∗ ((d.tc : Thread nD τ).loc main_arg1 ↦{fullShare} m ((d.tc).loc main_arg1))
    ∗ ((d.tc : Thread nD τ).loc main_v1_0 ↦{fullShare} out0 m d) ∗ ((d.tc : Thread nD τ).loc main_v1_1 ↦{fullShare} out1 m d))

abbrev 𝒱₀ : Variants := Variants.none

/-- The shards that no copy reads. -/
abbrev Rest (c : Dev nD) : sProp 𝕄 :=
  iprop(((c.tc : Thread nD τ).loc main_arg0 ↦[(slab 0 (chip c).val : Finset S4x1024x5648.Idx)]{fullShare} m ((c.tc).loc main_arg0))
    ∗ ((c.tc : Thread nD τ).loc main_arg1 ↦[(slab 0 (chip c).val : Finset S4x1024x2048.Idx)]{fullShare} m ((c.tc).loc main_arg1)))

theorem rem_split (f : Fin 12 → sProp 𝕄) : (bigSep ({6, 7, 8, 9, 10, 11} : Finset (Fin 12)) f) = iprop(f 6 ∗ f 7 ∗ f 8 ∗ f 9 ∗ f 10 ∗ f 11) := by
  rw [bigSep_insert (by decide), bigSep_insert (by decide), bigSep_insert (by decide), bigSep_insert (by decide), bigSep_insert (by decide), bigSep_singleton]
  rfl

set_option maxHeartbeats 1000000 in
theorem body (κ : Dev nD × Fin 12 → ℕ) (c : Dev nD) :
    iprop((P m).records κ ∗ (P m).St c (P m).rem Finset.univ Finset.univ (P m).rem ∗ Keep m c ∗ bigSep (P m).rem fun k => Dst m k ((P m).dest k c))
      ⊢ wp frame (wpE (defs₀ (F := F)) 𝒱₀ (c.tc : Thread nD τ) none) Set.univ
        (cc0_chip_exchange (F := F) (Memref.whole main_arg0) (Memref.isWhole_whole _) (Memref.whole main_arg1) (Memref.isWhole_whole _)
          (Memref.whole main_v1_0) (Memref.isWhole_whole _) (Memref.whole main_v1_1) (Memref.isWhole_whole _) cc0_scratch0 cc0_scratch1)
        fun _ => iprop((P m).St c ∅ ∅ ∅ ∅ ∗ Out m c) := by
  show iprop((P m).records κ ∗ (P m).St c {6, 7, 8, 9, 10, 11} Finset.univ Finset.univ {6, 7, 8, 9, 10, 11} ∗ Keep m c ∗ bigSep ({6, 7, 8, 9, 10, 11} : Finset (Fin 12)) fun k => Dst m k ((P m).dest k c)) ⊢ _
  have hd : (bigSep ({6, 7, 8, 9, 10, 11} : Finset (Fin 12)) fun k => Dst m k ((P m).dest k c) : sProp 𝕄)
      = iprop(open0 m 0 (dev1 c) ∗ open1 m 0 (dev2 c) ∗ open0 m 1 (dev3 c) ∗ open1 m 1 (dev4 c) ∗ open0 m 2 (dev5 c) ∗ open1 m 2 (dev6 c)) := by
    rw [dev1_eq, dev2_eq, dev3_eq, dev4_eq, dev5_eq, dev6_eq, rem_split]
    rfl
  rw [hd]
  unfold Keep
  rw [shards0, shards1]
  simp only [cc0_chip_exchange_eq_skeleton]
  unfold cc0_chip_exchange_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  refine (P m).send_step _ _ κ c 0 6 (src := piece0 (k0_off1 c) (k0_off1_inb c)) (dst := slot0 ![0, 0, 0] inb_S3x1024x5648_S1x1024x5648_0_0_0) (q := fullShare)
    (fs := m ((c.tc).loc main_arg0)) (fd := m ((dev1 c).tc.loc main_v1_0))
    iprop(Rest m c ∗ sent1 m 0 c ∗ sent0 m 1 c ∗ sent1 m 1 c ∗ sent0 m 2 c ∗ sent1 m 2 c ∗ open1 m 0 (dev2 c) ∗ open0 m 1 (dev3 c) ∗ open1 m 1 (dev4 c) ∗ open0 m 2 (dev5 c) ∗ open1 m 2 (dev6 c))
    ?_ (dev1_eq c) (back0 m c 0 _ (off1_eq c)) (fill0 m c 0 _ _ (off1_eq c) rfl (dev1_eq c) _)
    (by decide) (by decide) (by decide) (by decide) rfl rfl rfl rfl rfl ?_
  · rw [piece0_set _ (off1_eq c), slot0_set _ (k := 0) rfl]
    iintro ⟨⟨⟨A0, A1, A2, K0⟩, B0, B1, B2, K1⟩, O0, O1, O2, O3, O4, O5⟩
    isplitl [A0]; · iexact A0
    isplitl [O0]; · iexact O0
    isplitl [K0 K1]
    · isplitl [K0]; · iexact K0
      iexact K1
    isplitl [B0]; · iexact B0
    isplitl [A1]; · iexact A1
    isplitl [B1]; · iexact B1
    isplitl [A2]; · iexact A2
    isplitl [B2]; · iexact B2
    isplitl [O1]; · iexact O1
    isplitl [O2]; · iexact O2
    isplitl [O3]; · iexact O3
    isplitl [O4]; · iexact O4
    iexact O5
  refine (P m).send_step _ _ κ c 1 7 (src := piece1 (k0_off2 c) (k0_off2_inb c)) (dst := slot1 ![0, 0, 0] inb_S3x1024x2048_S1x1024x2048_0_0_0) (q := fullShare)
    (fs := m ((c.tc).loc main_arg1)) (fd := m ((dev2 c).tc.loc main_v1_1))
    iprop(Rest m c ∗ sent0 m 1 c ∗ sent1 m 1 c ∗ sent0 m 2 c ∗ sent1 m 2 c ∗ open0 m 1 (dev3 c) ∗ open1 m 1 (dev4 c) ∗ open0 m 2 (dev5 c) ∗ open1 m 2 (dev6 c))
    ?_ (dev2_eq c) (back1 m c 0 _ (off2_eq c)) (fill1 m c 0 _ _ (off2_eq c) rfl (dev2_eq c) _)
    (by decide) (by decide) (by decide) (by decide) rfl rfl rfl rfl rfl ?_
  · rw [piece1_set _ (off2_eq c), slot1_set _ (k := 0) rfl]
    iintro ⟨K, B0, A1, B1, A2, B2, O1, O2, O3, O4, O5⟩
    isplitl [B0]; · iexact B0
    isplitl [O1]; · iexact O1
    isplitl [K]; · iexact K
    isplitl [A1]; · iexact A1
    isplitl [B1]; · iexact B1
    isplitl [A2]; · iexact A2
    isplitl [B2]; · iexact B2
    isplitl [O2]; · iexact O2
    isplitl [O3]; · iexact O3
    isplitl [O4]; · iexact O4
    iexact O5
  refine (P m).send_step _ _ κ c 2 8 (src := piece0 (k0_off3 c) (k0_off3_inb c)) (dst := slot0 ![1, 0, 0] inb_S3x1024x5648_S1x1024x5648_1_0_0) (q := fullShare)
    (fs := m ((c.tc).loc main_arg0)) (fd := m ((dev3 c).tc.loc main_v1_0))
    iprop(Rest m c ∗ sent1 m 1 c ∗ sent0 m 2 c ∗ sent1 m 2 c ∗ open1 m 1 (dev4 c) ∗ open0 m 2 (dev5 c) ∗ open1 m 2 (dev6 c))
    ?_ (dev3_eq c) (back0 m c 1 _ (off3_eq c)) (fill0 m c 1 _ _ (off3_eq c) rfl (dev3_eq c) _)
    (by decide) (by decide) (by decide) (by decide) rfl rfl rfl rfl rfl ?_
  · rw [piece0_set _ (off3_eq c), slot0_set _ (k := 1) rfl]
    iintro ⟨K, A1, B1, A2, B2, O2, O3, O4, O5⟩
    isplitl [A1]; · iexact A1
    isplitl [O2]; · iexact O2
    isplitl [K]; · iexact K
    isplitl [B1]; · iexact B1
    isplitl [A2]; · iexact A2
    isplitl [B2]; · iexact B2
    isplitl [O3]; · iexact O3
    isplitl [O4]; · iexact O4
    iexact O5
  refine (P m).send_step _ _ κ c 3 9 (src := piece1 (k0_off4 c) (k0_off4_inb c)) (dst := slot1 ![1, 0, 0] inb_S3x1024x2048_S1x1024x2048_1_0_0) (q := fullShare)
    (fs := m ((c.tc).loc main_arg1)) (fd := m ((dev4 c).tc.loc main_v1_1))
    iprop(Rest m c ∗ sent0 m 2 c ∗ sent1 m 2 c ∗ open0 m 2 (dev5 c) ∗ open1 m 2 (dev6 c))
    ?_ (dev4_eq c) (back1 m c 1 _ (off4_eq c)) (fill1 m c 1 _ _ (off4_eq c) rfl (dev4_eq c) _)
    (by decide) (by decide) (by decide) (by decide) rfl rfl rfl rfl rfl ?_
  · rw [piece1_set _ (off4_eq c), slot1_set _ (k := 1) rfl]
    iintro ⟨K, B1, A2, B2, O3, O4, O5⟩
    isplitl [B1]; · iexact B1
    isplitl [O3]; · iexact O3
    isplitl [K]; · iexact K
    isplitl [A2]; · iexact A2
    isplitl [B2]; · iexact B2
    isplitl [O4]; · iexact O4
    iexact O5
  refine (P m).send_step _ _ κ c 4 10 (src := piece0 (k0_off5 c) (k0_off5_inb c)) (dst := slot0 ![2, 0, 0] inb_S3x1024x5648_S1x1024x5648_2_0_0) (q := fullShare)
    (fs := m ((c.tc).loc main_arg0)) (fd := m ((dev5 c).tc.loc main_v1_0))
    iprop(Rest m c ∗ sent1 m 2 c ∗ open1 m 2 (dev6 c))
    ?_ (dev5_eq c) (back0 m c 2 _ (off5_eq c)) (fill0 m c 2 _ _ (off5_eq c) rfl (dev5_eq c) _)
    (by decide) (by decide) (by decide) (by decide) rfl rfl rfl rfl rfl ?_
  · rw [piece0_set _ (off5_eq c), slot0_set _ (k := 2) rfl]
    iintro ⟨K, A2, B2, O4, O5⟩
    isplitl [A2]; · iexact A2
    isplitl [O4]; · iexact O4
    isplitl [K]; · iexact K
    isplitl [B2]; · iexact B2
    iexact O5
  refine (P m).send_step _ _ κ c 5 11 (src := piece1 (k0_off6 c) (k0_off6_inb c)) (dst := slot1 ![2, 0, 0] inb_S3x1024x2048_S1x1024x2048_2_0_0) (q := fullShare)
    (fs := m ((c.tc).loc main_arg1)) (fd := m ((dev6 c).tc.loc main_v1_1))
    iprop(Rest m c)
    ?_ (dev6_eq c) (back1 m c 2 _ (off6_eq c)) (fill1 m c 2 _ _ (off6_eq c) rfl (dev6_eq c) _)
    (by decide) (by decide) (by decide) (by decide) rfl rfl rfl rfl rfl ?_
  · rw [piece1_set _ (off6_eq c), slot1_set _ (k := 2) rfl]
    iintro ⟨K, B2, O5⟩
    isplitl [B2]; · iexact B2
    isplitl [O5]; · iexact O5
    iexact K
  have hl (k : Fin 12) : ∀ k' ∈ ((((((({6, 7, 8, 9, 10, 11} : Finset (Fin 12)).erase 6).erase 7).erase 8).erase 9).erase 10).erase 11), (P m).lvl k < (P m).lvl k' := fun k' h => absurd h (by revert k'; decide)
  refine (P m).wait_step _ _ κ c 0 (by decide) (by decide) (hl _) rfl rfl ?_
  refine (P m).wait_step _ _ κ c 6 (by decide) (by decide) (hl _) rfl rfl ?_
  refine (P m).wait_step _ _ κ c 1 (by decide) (by decide) (hl _) rfl rfl ?_
  refine (P m).wait_step _ _ κ c 7 (by decide) (by decide) (hl _) rfl rfl ?_
  refine (P m).wait_step _ _ κ c 2 (by decide) (by decide) (hl _) rfl rfl ?_
  refine (P m).wait_step _ _ κ c 8 (by decide) (by decide) (hl _) rfl rfl ?_
  refine (P m).wait_step _ _ κ c 3 (by decide) (by decide) (hl _) rfl rfl ?_
  refine (P m).wait_step _ _ κ c 9 (by decide) (by decide) (hl _) rfl rfl ?_
  refine (P m).wait_step _ _ κ c 4 (by decide) (by decide) (hl _) rfl rfl ?_
  refine (P m).wait_step _ _ κ c 10 (by decide) (by decide) (hl _) rfl rfl ?_
  refine (P m).wait_step _ _ κ c 5 (by decide) (by decide) (hl _) rfl rfl ?_
  refine (P m).wait_step _ _ κ c 11 (by decide) (by decide) (hl _) rfl rfl ?_
  refine (P m).end_step _ _ κ c (Out m c) (by decide) (by decide) (by decide) (by decide) ?_
  show iprop(pay m 11 c ∗ pay m 5 c ∗ pay m 10 c ∗ pay m 4 c ∗ pay m 9 c ∗ pay m 3 c ∗ pay m 8 c ∗ pay m 2 c ∗ pay m 7 c ∗ pay m 1 c ∗ pay m 6 c ∗ pay m 0 c ∗ Rest m c) ⊢ _
  unfold Out pay
  rw [shards0, shards1, slots0, slots1]
  iintro ⟨G5, S5, G4, S4, G3, S3, G2, S2, G1, S1, G0, S0, K0, K1⟩
  isplitl [S0 S2 S4 K0]
  · isplitl [S0]; · iexact S0
    isplitl [S2]; · iexact S2
    isplitl [S4]; · iexact S4
    iexact K0
  isplitl [S1 S3 S5 K1]
  · isplitl [S1]; · iexact S1
    isplitl [S3]; · iexact S3
    isplitl [S5]; · iexact S5
    iexact K1
  isplitl [G0 G2 G4]
  · isplitl [G0]; · iexact G0
    isplitl [G2]; · iexact G2
    iexact G4
  isplitl [G1]; · iexact G1
  isplitl [G3]; · iexact G3
  iexact G5

/-! ## The run -/

/-- The buffers at the start: the arguments, and the slots of the results. -/
theorem split (d : Dev nD) :
    (unscopedBufs d (fun b => m (d.tc.loc b)) : sProp 𝕄) ⊢ iprop(Keep m d ∗ bigSep (P m).rem fun k => Dst m k d) := by
  show _ ⊢ iprop(Keep m d ∗ bigSep ({6, 7, 8, 9, 10, 11} : Finset (Fin 12)) fun k => Dst m k d)
  rw [rem_split]
  refine (unscoped_rest rfl cfg0.spec d _).trans ?_
  rw [unscopedRest0_eq, slots0, slots1]
  refine (show _ ⊢ iprop(Keep m d ∗ open0 m 0 d ∗ open1 m 0 d ∗ open0 m 1 d ∗ open1 m 1 d ∗ open0 m 2 d ∗ open1 m 2 d) from ?_)
  unfold Keep
  iintro ⟨A0, A1, ⟨O0, O2, O4⟩, O1, O3, O5⟩
  isplitl [A0 A1]
  · isplitl [A0]; · iexact A0
    iexact A1
  isplitl [O0]; · iexact O0
  isplitl [O1]; · iexact O1
  isplitl [O2]; · iexact O2
  isplitl [O3]; · iexact O3
  isplitl [O4]; · iexact O4
  iexact O5

theorem read_out (c : Dev nD) (s' : Phys nD τ sig (Elt F)) :
    iprop(Out m c ∗ SI s') ⊢ |={Set.univ}=> iprop(⌜s'.mem.mem ((c.tc).loc main_arg0) = m ((c.tc).loc main_arg0)
      ∧ s'.mem.mem ((c.tc).loc main_arg1) = m ((c.tc).loc main_arg1)
      ∧ s'.mem.mem ((c.tc).loc main_v1_0) = out0 m c ∧ s'.mem.mem ((c.tc).loc main_v1_1) = out1 m c⌝ ∗ SI s') := by
  unfold Out
  iintro ⟨⟨A0, A1, B0, B1⟩, H⟩
  ihave H0 := (read_one _ _ s') $$ [A0 H]
  · isplitl [A0] <;> iassumption
  icases H0 with ⟨%h0, H⟩
  ihave H1 := (read_one _ _ s') $$ [A1 H]
  · isplitl [A1] <;> iassumption
  icases H1 with ⟨%h1, H⟩
  ihave H2 := (read_one _ _ s') $$ [B0 H]
  · isplitl [B0] <;> iassumption
  icases H2 with ⟨%h2, H⟩
  ihave H3 := (read_one _ _ s') $$ [B1 H]
  · isplitl [B1] <;> iassumption
  icases H3 with ⟨%h3, H⟩
  imodintro
  isplitr
  · ipureintro; exact ⟨h0, h1, h2, h3⟩
  iexact H

/-- From any memory the call ends with every result the shards that the other chips sent, the arguments as they were and
    all semaphores at zero. -/
theorem run_main (g : Dev nD → PrngReg) :
    θ_run (defs (F := F)) (onTc main) ⟨m, fun _ => 0, g⟩ fun r =>
      (∀ c : Dev nD, r.2.mem ((c.tc).loc main_arg0) = m ((c.tc).loc main_arg0) ∧ r.2.mem ((c.tc).loc main_arg1) = m ((c.tc).loc main_arg1)
        ∧ r.2.mem ((c.tc).loc main_v1_0) = out0 m c ∧ r.2.mem ((c.tc).loc main_v1_1) = out1 m c) ∧ r.2.sem = fun _ => 0 := by
  refine (P m).θ_run_talk cfgs (fun _ => rfl) N_0 cellOf_inj defs₀ 𝒱₀ main (fun _ => rfl) (by decide) m g (Keep m) (Out m) (Dst m)
    (split m) (fun κ c t => body m κ c) (fun c s => s.mem ((c.tc).loc main_arg0) = m ((c.tc).loc main_arg0)
      ∧ s.mem ((c.tc).loc main_arg1) = m ((c.tc).loc main_arg1)
      ∧ s.mem ((c.tc).loc main_v1_0) = out0 m c ∧ s.mem ((c.tc).loc main_v1_1) = out1 m c) (fun c s' => read_out m c s')

end Cert.ExchangeIdeal.Run

end
-- ==== Proof.Exchange.Ref.lean ====
/-
# The exchange: what the plain collective holds at each place

Chip `k` gets its shard from the chips that differ from it in x, in y, in both; core numbers stay.
-/
module

public import proofs.«01_k».proof.Proof.Gen.ExchangeRefIdeal.Run
public import Idealize.ShloMosaic.Lib.PointwiseCore

@[expose] public section

noncomputable section

namespace Cert.ExchangeRefIdeal.Ref

open Idealize.ShloMosaic Cert.ExchangeRefIdeal Cert.ExchangeRefIdeal.Gen

variable {α : Type}

/-- The chip that differs from chip `k` in x, in y, in both. -/
def other (k : Fin 4) (j : Fin 3) : Fin 4 := ⟨k.val ^^^ (![2, 1, 3] j), by revert k j; decide⟩
/-- Slot `j` of core `c` of chip `k`, and shard `k` of core `c` of chip `k'`, along the first axes. -/
def at24 (k : Fin 4) (c : Fin 2) (j : Fin 3) : Fin 24 := ⟨(k.val * 2 + c.val) * 3 + j.val, by omega⟩
def at32 (k' : Fin 4) (c : Fin 2) (k : Fin 4) : Fin 32 := ⟨(k'.val * 2 + c.val) * 4 + k.val, by omega⟩

/-! The two arrays after the exchange, as the collective composes them. -/

/-- By shard, core and chip of origin. -/
def byShard0 (x : S32x1024x5648.Idx → α) : S4x2x4x1024x5648.Idx → α :=
  transpose S4x2x4x1024x5648 [2, 1, 0, 3, 4] (shapeCast _ x shapeCasts_S32x1024x5648_S4x2x4x1024x5648) transposes_S4x2x4x1024x5648_S4x2x4x1024x5648_2_1_0_3_4

/-- What the two cores of chip 0 get. -/
def chip0_0 (x : S32x1024x5648.Idx → α) : S1x2x3x1024x5648.Idx → α :=
  broadcastInDim S1x2x3x1024x5648 ![1, 2, 3, 4] bcast_S2x3x1024x5648_S1x2x3x1024x5648_1_2_3_4 (concatenate S2x3x1024x5648 1
    [⟨S2x1x1024x5648, broadcastInDim S2x1x1024x5648 ![0, 2, 3] bcast_S2x1024x5648_S2x1x1024x5648_0_2_3 (shapeCast _
        (extractStridedSlice S1x2x1x1024x5648 ![0, 0, 2, 0, 0] (byShard0 x) slices_S4x2x4x1024x5648_S1x2x1x1024x5648_0_0_2_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![0, 0, 1, 0, 0] (byShard0 x) slices_S4x2x4x1024x5648_S1x2x1x1024x5648_0_0_1_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![0, 0, 3, 0, 0] (byShard0 x) slices_S4x2x4x1024x5648_S1x2x1x1024x5648_0_0_3_0_0) shapeCasts_S1x2x1x1024x5648_S2x1024x5648)⟩]
    concatenates_S2x1x1024x5648_S2x1x1024x5648_S2x1x1024x5648_S2x3x1024x5648_d1)

/-- What the two cores of chip 1 get. -/
def chip0_1 (x : S32x1024x5648.Idx → α) : S1x2x3x1024x5648.Idx → α :=
  broadcastInDim S1x2x3x1024x5648 ![1, 2, 3, 4] bcast_S2x3x1024x5648_S1x2x3x1024x5648_1_2_3_4 (concatenate S2x3x1024x5648 1
    [⟨S2x1x1024x5648, broadcastInDim S2x1x1024x5648 ![0, 2, 3] bcast_S2x1024x5648_S2x1x1024x5648_0_2_3 (shapeCast _
        (extractStridedSlice S1x2x1x1024x5648 ![1, 0, 3, 0, 0] (byShard0 x) slices_S4x2x4x1024x5648_S1x2x1x1024x5648_1_0_3_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![1, 0, 0, 0, 0] (byShard0 x) slices_S4x2x4x1024x5648_S1x2x1x1024x5648_1_0_0_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![1, 0, 2, 0, 0] (byShard0 x) slices_S4x2x4x1024x5648_S1x2x1x1024x5648_1_0_2_0_0) shapeCasts_S1x2x1x1024x5648_S2x1024x5648)⟩]
    concatenates_S2x1x1024x5648_S2x1x1024x5648_S2x1x1024x5648_S2x3x1024x5648_d1)

/-- What the two cores of chip 2 get. -/
def chip0_2 (x : S32x1024x5648.Idx → α) : S1x2x3x1024x5648.Idx → α :=
  broadcastInDim S1x2x3x1024x5648 ![1, 2, 3, 4] bcast_S2x3x1024x5648_S1x2x3x1024x5648_1_2_3_4 (concatenate S2x3x1024x5648 1
    [⟨S2x1x1024x5648, broadcastInDim S2x1x1024x5648 ![0, 2, 3] bcast_S2x1024x5648_S2x1x1024x5648_0_2_3 (shapeCast _
        (extractStridedSlice S1x2x1x1024x5648 ![2, 0, 0, 0, 0] (byShard0 x) slices_S4x2x4x1024x5648_S1x2x1x1024x5648_2_0_0_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![2, 0, 3, 0, 0] (byShard0 x) slices_S4x2x4x1024x5648_S1x2x1x1024x5648_2_0_3_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![2, 0, 1, 0, 0] (byShard0 x) slices_S4x2x4x1024x5648_S1x2x1x1024x5648_2_0_1_0_0) shapeCasts_S1x2x1x1024x5648_S2x1024x5648)⟩]
    concatenates_S2x1x1024x5648_S2x1x1024x5648_S2x1x1024x5648_S2x3x1024x5648_d1)

/-- What the two cores of chip 3 get. -/
def chip0_3 (x : S32x1024x5648.Idx → α) : S1x2x3x1024x5648.Idx → α :=
  broadcastInDim S1x2x3x1024x5648 ![1, 2, 3, 4] bcast_S2x3x1024x5648_S1x2x3x1024x5648_1_2_3_4 (concatenate S2x3x1024x5648 1
    [⟨S2x1x1024x5648, broadcastInDim S2x1x1024x5648 ![0, 2, 3] bcast_S2x1024x5648_S2x1x1024x5648_0_2_3 (shapeCast _
        (extractStridedSlice S1x2x1x1024x5648 ![3, 0, 1, 0, 0] (byShard0 x) slices_S4x2x4x1024x5648_S1x2x1x1024x5648_3_0_1_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![3, 0, 2, 0, 0] (byShard0 x) slices_S4x2x4x1024x5648_S1x2x1x1024x5648_3_0_2_0_0) shapeCasts_S1x2x1x1024x5648_S2x1024x5648)⟩,
     ⟨S2x1x1024x5648, broadcastInDim S2x1x1024x5648 ![0, 2, 3] bcast_S2x1024x5648_S2x1x1024x5648_0_2_3 (shapeCast _
        (extractStridedSlice S1x2x1x1024x5648 ![3, 0, 0, 0, 0] (byShard0 x) slices_S4x2x4x1024x5648_S1x2x1x1024x5648_3_0_0_0_0) shapeCasts_S1x2x1x1024x5648_S2x1024x5648)⟩]
    concatenates_S2x1x1024x5648_S2x1x1024x5648_S2x1x1024x5648_S2x3x1024x5648_d1)

def exchanged0 (x : S32x1024x5648.Idx → α) : S24x1024x5648.Idx → α :=
  shapeCast _ (concatenate S4x2x3x1024x5648 0
    [⟨S1x2x3x1024x5648, chip0_0 x⟩, ⟨S1x2x3x1024x5648, chip0_1 x⟩, ⟨S1x2x3x1024x5648, chip0_2 x⟩, ⟨S1x2x3x1024x5648, chip0_3 x⟩]
    concatenates_S1x2x3x1024x5648_S1x2x3x1024x5648_S1x2x3x1024x5648_S1x2x3x1024x5648_S4x2x3x1024x5648_d0) shapeCasts_S4x2x3x1024x5648_S24x1024x5648

set_option maxRecDepth 16384 in
theorem exchanged0_apply (x : S32x1024x5648.Idx → α) (k : Fin 4) (c : Fin 2) (j : Fin 3) (r : Fin 1024) (l : Fin 5648) :
    exchanged0 x (ix3 (at24 k c j) r l) = x (ix3 (at32 (other k j) c k) r l) := by
  unfold exchanged0 at24 at32 chip0_0 chip0_1 chip0_2 chip0_3 byShard0
  fin_cases k <;> fin_cases c <;> fin_cases j <;> pointwise [] <;> rfl

/-- By shard, core and chip of origin. -/
def byShard1 (x : S32x1024x2048.Idx → α) : S4x2x4x1024x2048.Idx → α :=
  transpose S4x2x4x1024x2048 [2, 1, 0, 3, 4] (shapeCast _ x shapeCasts_S32x1024x2048_S4x2x4x1024x2048) transposes_S4x2x4x1024x2048_S4x2x4x1024x2048_2_1_0_3_4

/-- What the two cores of chip 0 get. -/
def chip1_0 (x : S32x1024x2048.Idx → α) : S1x2x3x1024x2048.Idx → α :=
  broadcastInDim S1x2x3x1024x2048 ![1, 2, 3, 4] bcast_S2x3x1024x2048_S1x2x3x1024x2048_1_2_3_4 (concatenate S2x3x1024x2048 1
    [⟨S2x1x1024x2048, broadcastInDim S2x1x1024x2048 ![0, 2, 3] bcast_S2x1024x2048_S2x1x1024x2048_0_2_3 (shapeCast _
        (extractStridedSlice S1x2x1x1024x2048 ![0, 0, 2, 0, 0] (byShard1 x) slices_S4x2x4x1024x2048_S1x2x1x1024x2048_0_0_2_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![0, 0, 1, 0, 0] (byShard1 x) slices_S4x2x4x1024x2048_S1x2x1x1024x2048_0_0_1_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![0, 0, 3, 0, 0] (byShard1 x) slices_S4x2x4x1024x2048_S1x2x1x1024x2048_0_0_3_0_0) shapeCasts_S1x2x1x1024x2048_S2x1024x2048)⟩]
    concatenates_S2x1x1024x2048_S2x1x1024x2048_S2x1x1024x2048_S2x3x1024x2048_d1)

/-- What the two cores of chip 1 get. -/
def chip1_1 (x : S32x1024x2048.Idx → α) : S1x2x3x1024x2048.Idx → α :=
  broadcastInDim S1x2x3x1024x2048 ![1, 2, 3, 4] bcast_S2x3x1024x2048_S1x2x3x1024x2048_1_2_3_4 (concatenate S2x3x1024x2048 1
    [⟨S2x1x1024x2048, broadcastInDim S2x1x1024x2048 ![0, 2, 3] bcast_S2x1024x2048_S2x1x1024x2048_0_2_3 (shapeCast _
        (extractStridedSlice S1x2x1x1024x2048 ![1, 0, 3, 0, 0] (byShard1 x) slices_S4x2x4x1024x2048_S1x2x1x1024x2048_1_0_3_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![1, 0, 0, 0, 0] (byShard1 x) slices_S4x2x4x1024x2048_S1x2x1x1024x2048_1_0_0_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![1, 0, 2, 0, 0] (byShard1 x) slices_S4x2x4x1024x2048_S1x2x1x1024x2048_1_0_2_0_0) shapeCasts_S1x2x1x1024x2048_S2x1024x2048)⟩]
    concatenates_S2x1x1024x2048_S2x1x1024x2048_S2x1x1024x2048_S2x3x1024x2048_d1)

/-- What the two cores of chip 2 get. -/
def chip1_2 (x : S32x1024x2048.Idx → α) : S1x2x3x1024x2048.Idx → α :=
  broadcastInDim S1x2x3x1024x2048 ![1, 2, 3, 4] bcast_S2x3x1024x2048_S1x2x3x1024x2048_1_2_3_4 (concatenate S2x3x1024x2048 1
    [⟨S2x1x1024x2048, broadcastInDim S2x1x1024x2048 ![0, 2, 3] bcast_S2x1024x2048_S2x1x1024x2048_0_2_3 (shapeCast _
        (extractStridedSlice S1x2x1x1024x2048 ![2, 0, 0, 0, 0] (byShard1 x) slices_S4x2x4x1024x2048_S1x2x1x1024x2048_2_0_0_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![2, 0, 3, 0, 0] (byShard1 x) slices_S4x2x4x1024x2048_S1x2x1x1024x2048_2_0_3_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![2, 0, 1, 0, 0] (byShard1 x) slices_S4x2x4x1024x2048_S1x2x1x1024x2048_2_0_1_0_0) shapeCasts_S1x2x1x1024x2048_S2x1024x2048)⟩]
    concatenates_S2x1x1024x2048_S2x1x1024x2048_S2x1x1024x2048_S2x3x1024x2048_d1)

/-- What the two cores of chip 3 get. -/
def chip1_3 (x : S32x1024x2048.Idx → α) : S1x2x3x1024x2048.Idx → α :=
  broadcastInDim S1x2x3x1024x2048 ![1, 2, 3, 4] bcast_S2x3x1024x2048_S1x2x3x1024x2048_1_2_3_4 (concatenate S2x3x1024x2048 1
    [⟨S2x1x1024x2048, broadcastInDim S2x1x1024x2048 ![0, 2, 3] bcast_S2x1024x2048_S2x1x1024x2048_0_2_3 (shapeCast _
        (extractStridedSlice S1x2x1x1024x2048 ![3, 0, 1, 0, 0] (byShard1 x) slices_S4x2x4x1024x2048_S1x2x1x1024x2048_3_0_1_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![3, 0, 2, 0, 0] (byShard1 x) slices_S4x2x4x1024x2048_S1x2x1x1024x2048_3_0_2_0_0) shapeCasts_S1x2x1x1024x2048_S2x1024x2048)⟩,
     ⟨S2x1x1024x2048, broadcastInDim S2x1x1024x2048 ![0, 2, 3] bcast_S2x1024x2048_S2x1x1024x2048_0_2_3 (shapeCast _
        (extractStridedSlice S1x2x1x1024x2048 ![3, 0, 0, 0, 0] (byShard1 x) slices_S4x2x4x1024x2048_S1x2x1x1024x2048_3_0_0_0_0) shapeCasts_S1x2x1x1024x2048_S2x1024x2048)⟩]
    concatenates_S2x1x1024x2048_S2x1x1024x2048_S2x1x1024x2048_S2x3x1024x2048_d1)

def exchanged1 (x : S32x1024x2048.Idx → α) : S24x1024x2048.Idx → α :=
  shapeCast _ (concatenate S4x2x3x1024x2048 0
    [⟨S1x2x3x1024x2048, chip1_0 x⟩, ⟨S1x2x3x1024x2048, chip1_1 x⟩, ⟨S1x2x3x1024x2048, chip1_2 x⟩, ⟨S1x2x3x1024x2048, chip1_3 x⟩]
    concatenates_S1x2x3x1024x2048_S1x2x3x1024x2048_S1x2x3x1024x2048_S1x2x3x1024x2048_S4x2x3x1024x2048_d0) shapeCasts_S4x2x3x1024x2048_S24x1024x2048

set_option maxRecDepth 16384 in
theorem exchanged1_apply (x : S32x1024x2048.Idx → α) (k : Fin 4) (c : Fin 2) (j : Fin 3) (r : Fin 1024) (l : Fin 2048) :
    exchanged1 x (ix3 (at24 k c j) r l) = x (ix3 (at32 (other k j) c k) r l) := by
  unfold exchanged1 at24 at32 chip1_0 chip1_1 chip1_2 chip1_3 byShard1
  fin_cases k <;> fin_cases c <;> fin_cases j <;> pointwise [] <;> rfl

end Cert.ExchangeRefIdeal.Ref

end

end
-- ==== Proof.Exchange.Value.lean ====
/-
# The exchange: its result against the plain collective's
-/
module

public import proofs.«01_k».proof.Proof.Exchange.Run
public import proofs.«01_k».proof.Proof.Exchange.Ref

@[expose] public section

noncomputable section

namespace Cert.ExchangeIdeal.Run

open Idealize.ShloMosaic
open Idealize.ShloMosaic.TcCoe
open Idealize.SL.Sem
open Cert.ExchangeIdeal Cert.ExchangeIdeal.Gen Cert.ExchangeRefIdeal.Ref Cert.Talk
open Cert.ExchangeRefIdeal (S32x1024x5648 S32x1024x2048)

variable {F : FTy → Type} [FloatOps F]
variable (m : (ℓ : Loc nD τ sig) → Buf (Elt F) ℓ)

/-- The number of a device among the two of its chip. -/
def core (c : Dev nD) : Fin 2 := ⟨c.val % 2, by omega⟩
/-- Where the device's shard of its peer's array lies, and where the slot of its result lies. -/
theorem src_row (c : Dev nD) (j : Fin 3) : (peer j c).val * 4 + (chip c).val = (at32 (other (chip c) j) (core c) (chip c)).val := by revert c j; decide
theorem dst_row (c : Dev nD) (j : Fin 3) : (at24 (chip c) (core c) j).val = c.val * 3 + j.val := by revert c j; decide

theorem value0 (x : S32x1024x5648.Idx → F .bf16)
    (h : ∀ c : Dev nD, m ((c.tc).loc main_arg0) = Layout.block ⟨3, ![4, 1024, 5648]⟩ ⟨3, ![32, 1024, 5648]⟩ 0 8 c x) (c : Dev nD) :
    out0 m c = Layout.block ⟨3, ![3, 1024, 5648]⟩ ⟨3, ![24, 1024, 5648]⟩ 0 8 c (exchanged0 x) := by
  funext i
  idx_vars i
  show m ((peer i0 c).tc.loc main_arg0) (ix3 (chip c) i1 i2) = _
  rw [h (peer i0 c), Layout.block_apply, Layout.block_apply]
  refine Eq.trans (congrArg x (funext fun a => Fin.ext ?_))
    ((exchanged0_apply x (chip c) (core c) i0 i1 i2).symm.trans (congrArg (exchanged0 x) (funext fun a => Fin.ext ?_)))
  · fin_cases a
    · exact src_row c i0
    · rfl
    · rfl
  · fin_cases a
    · exact dst_row c i0
    · rfl
    · rfl

theorem value1 (x : S32x1024x2048.Idx → F .bf16)
    (h : ∀ c : Dev nD, m ((c.tc).loc main_arg1) = Layout.block ⟨3, ![4, 1024, 2048]⟩ ⟨3, ![32, 1024, 2048]⟩ 0 8 c x) (c : Dev nD) :
    out1 m c = Layout.block ⟨3, ![3, 1024, 2048]⟩ ⟨3, ![24, 1024, 2048]⟩ 0 8 c (exchanged1 x) := by
  funext i
  idx_vars i
  show m ((peer i0 c).tc.loc main_arg1) (ix3 (chip c) i1 i2) = _
  rw [h (peer i0 c), Layout.block_apply, Layout.block_apply]
  refine Eq.trans (congrArg x (funext fun a => Fin.ext ?_))
    ((exchanged1_apply x (chip c) (core c) i0 i1 i2).symm.trans (congrArg (exchanged1 x) (funext fun a => Fin.ext ?_)))
  · fin_cases a
    · exact src_row c i0
    · rfl
    · rfl
  · fin_cases a
    · exact dst_row c i0
    · rfl
    · rfl

end Cert.ExchangeIdeal.Run

end

end
-- ==== Proof.Exchange.Claims.lean ====
/-
# The exchange: its claims
-/
module

public import proofs.«01_k».proof.Defs
public import proofs.«01_k».proof.Proof.Exchange.Value
public import proofs.«01_k».proof.Proof.Gen.Exchange
public import proofs.«01_k».proof.Proof.Gen.ExchangeRef
public import proofs.«01_k».proof.Proof.Gen.ExchangeRef.Run
public import Idealize.ShloMosaic.Lib.Quiescent

@[expose] public section

noncomputable section

namespace Cert.Proof.Exchange

open Idealize.ShloMosaic Idealize.ShloMosaic.TcCoe Idealize.SL.Sem
open Cert.Exchange

theorem frame : Cert.quiescent_Exchange := fun m g _ =>
  (θ_run _ _ _).mono (fun _ h => ⟨fun c => ⟨(h.1 c).1, (h.1 c).2.1⟩, h.2⟩) (Cert.ExchangeIdeal.Run.run_main (F := Bits) m g)

theorem frame_ideal : Cert.quiescent_ExchangeIdeal := fun m g _ =>
  (θ_run _ _ _).mono (fun _ h => ⟨fun c => ⟨(h.1 c).1, (h.1 c).2.1⟩, h.2⟩) (Cert.ExchangeIdeal.Run.run_main (F := Ideal) m g)

theorem frame_ref : Cert.quiescent_ExchangeRef := fun m g _ =>
  (θ_run _ _ _).mono (fun r h => ⟨fun c => ⟨(h c).2.2.1, (h c).2.2.2⟩, sem_eq_zero_of_no_sems (by decide) r.2⟩)
    (Cert.ExchangeRef.Value.run (F := Bits) m g)

theorem frame_refIdeal : Cert.quiescent_ExchangeRefIdeal := fun m g _ =>
  (θ_run _ _ _).mono (fun r h => ⟨fun c => ⟨(h c).2.2.1, (h c).2.2.2⟩, sem_eq_zero_of_no_sems (by decide) r.2⟩)
    (Cert.ExchangeRefIdeal.Value.run (F := Ideal) m g)

theorem algebraic : Cert.algebraic_ExchangeIdeal_ExchangeRefIdeal := fun m g m' g' _ hm =>
  ⟨Cert.ExchangeRefIdeal.Ref.exchanged0 _, Cert.ExchangeRefIdeal.Ref.exchanged1 _,
    (θ_run _ _ _).mono (fun _ h c => ⟨(h.1 c).2.2.1.trans (Cert.ExchangeIdeal.Run.value0 m _ (fun c => (hm c).1) c),
      (h.1 c).2.2.2.trans (Cert.ExchangeIdeal.Run.value1 m _ (fun c => (hm c).2) c), (h.1 c).1, (h.1 c).2.1⟩) (Cert.ExchangeIdeal.Run.run_main (F := Ideal) m g),
    (θ_run _ _ _).mono (fun _ h => h 0) (Cert.ExchangeRefIdeal.Value.run (F := Ideal) m' g')⟩

theorem bitexact : Cert.bitexact_Exchange_ExchangeRef := fun m g m' g' _ hm =>
  ⟨Cert.ExchangeRefIdeal.Ref.exchanged0 _, Cert.ExchangeRefIdeal.Ref.exchanged1 _,
    (θ_run _ _ _).mono (fun _ h c => ⟨(h.1 c).2.2.1.trans (Cert.ExchangeIdeal.Run.value0 (F := Bits) m _ (fun c => (hm c).1) c),
      (h.1 c).2.2.2.trans (Cert.ExchangeIdeal.Run.value1 (F := Bits) m _ (fun c => (hm c).2) c), (h.1 c).1, (h.1 c).2.1⟩) (Cert.ExchangeIdeal.Run.run_main (F := Bits) m g),
    (θ_run _ _ _).mono (fun _ h => h 0) (Cert.ExchangeRef.Value.run (F := Bits) m' g')⟩

end Cert.Proof.Exchange

end

end
-- ==== Proof.Weights.Run.lean ====
/-
# The gathering of the weights: its run

Each device keeps its shard of the three arrays in its own slot of the results. It sends its half of the rows of the first
two, and the whole of the third, to the core of its own number on each other chip; what it gets from there of the first two
it passes on to the other core of its chip. Per device 33 semaphores, each credited by one copy:

* 0 to 14, send: 0 to 5 the halves for the other chips, 6 to 11 the halves passed on, 12 to 14 the third array;
* 15 to 29, receive, in the same order;
* 30 to 32, the copies into the device's own slots.

The chip that differs in x comes first, then y, then both. A device waits for the halves of the other chips while it still
owes the halves that it passes on.
-/
module

public import proofs.«01_k».proof.Proof.Talk.Launch
public import proofs.«01_k».proof.Proof.Talk.Slabs
public import proofs.«01_k».proof.Proof.Talk.Index
public import proofs.«01_k».proof.Proof.Gen.WeightsIdeal.Skeleton
public import proofs.«01_k».proof.Proof.Gen.WeightsIdeal.Launch

@[expose] public section

noncomputable section

namespace Cert.WeightsIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.WeightsIdeal Cert.WeightsIdeal.Gen Cert.Talk

variable {F : FTy → Type} [FloatOps F]

local notation "𝕄" => MM nD τ sig (Elt F)

/-! ## The devices -/

/-- The core of the same number on the chip that differs in x, in y, in both. -/
def peer (j : Fin 3) (c : Dev nD) : Dev nD :=
  ⟨c.val ^^^ (![4, 2, 6] j), by revert j c; decide⟩
/-- The other core of the chip. -/
def sib (c : Dev nD) : Dev nD := ⟨c.val ^^^ 1, by revert c; decide⟩
theorem peer_peer (j : Fin 3) (c : Dev nD) : peer j (peer j c) = c := by revert j c; decide
theorem sib_sib (c : Dev nD) : sib (sib c) = c := by revert c; decide
/-- The chip that a device is on, and its number there. -/
def chip (c : Dev nD) : Fin 4 := ⟨c.val / 2, by revert c; decide⟩
def core (c : Dev nD) : ℕ := c.val % 2
theorem core_lt (c : Dev nD) : core c < 2 := Nat.mod_lt _ (by decide)
theorem core_peer (j : Fin 3) (c : Dev nD) : core (peer j c) = core c := by revert j c; decide
theorem core_sib (c : Dev nD) : 1 - core (sib c) = core c := by revert c; decide
theorem chip_peer (j : Fin 3) (c : Dev nD) : chip c ≠ chip (peer j c) := by revert j c; decide
theorem chip_sib (c : Dev nD) : chip (sib c) = chip c := by revert c; decide
theorem chip_peer_sib (j : Fin 3) (c : Dev nD) : chip (peer j (sib c)) = chip (peer j c) := by revert j c; decide
def swap (j : Fin 3) : Equiv.Perm (Dev nD) := ⟨peer j, peer j, peer_peer j, peer_peer j⟩
def twin : Equiv.Perm (Dev nD) := ⟨sib, sib, sib_sib, sib_sib⟩

/-- The devices that the fifteen copies address. -/
abbrev dev1 (c : Dev nD) : Dev nD := ⟨k0_dev1 c, k0_dev1_lt c⟩
abbrev dev2 (c : Dev nD) : Dev nD := ⟨k0_dev2 c, k0_dev2_lt c⟩
abbrev dev3 (c : Dev nD) : Dev nD := ⟨k0_dev3 c, k0_dev3_lt c⟩
abbrev dev4 (c : Dev nD) : Dev nD := ⟨k0_dev4 c, k0_dev4_lt c⟩
abbrev dev5 (c : Dev nD) : Dev nD := ⟨k0_dev5 c, k0_dev5_lt c⟩
abbrev dev6 (c : Dev nD) : Dev nD := ⟨k0_dev6 c, k0_dev6_lt c⟩
abbrev dev7 (c : Dev nD) : Dev nD := ⟨k0_dev7 c, k0_dev7_lt c⟩
abbrev dev8 (c : Dev nD) : Dev nD := ⟨k0_dev8 c, k0_dev8_lt c⟩
abbrev dev9 (c : Dev nD) : Dev nD := ⟨k0_dev9 c, k0_dev9_lt c⟩
abbrev dev10 (c : Dev nD) : Dev nD := ⟨k0_dev10 c, k0_dev10_lt c⟩
abbrev dev11 (c : Dev nD) : Dev nD := ⟨k0_dev11 c, k0_dev11_lt c⟩
abbrev dev12 (c : Dev nD) : Dev nD := ⟨k0_dev12 c, k0_dev12_lt c⟩
abbrev dev13 (c : Dev nD) : Dev nD := ⟨k0_dev13 c, k0_dev13_lt c⟩
abbrev dev14 (c : Dev nD) : Dev nD := ⟨k0_dev14 c, k0_dev14_lt c⟩
abbrev dev15 (c : Dev nD) : Dev nD := ⟨k0_dev15 c, k0_dev15_lt c⟩
theorem dev1_eq (c : Dev nD) : dev1 c = peer 0 c := by revert c; decide
theorem dev2_eq (c : Dev nD) : dev2 c = peer 0 c := by revert c; decide
theorem dev3_eq (c : Dev nD) : dev3 c = peer 0 c := by revert c; decide
theorem dev4_eq (c : Dev nD) : dev4 c = peer 1 c := by revert c; decide
theorem dev5_eq (c : Dev nD) : dev5 c = peer 1 c := by revert c; decide
theorem dev6_eq (c : Dev nD) : dev6 c = peer 1 c := by revert c; decide
theorem dev7_eq (c : Dev nD) : dev7 c = peer 2 c := by revert c; decide
theorem dev8_eq (c : Dev nD) : dev8 c = peer 2 c := by revert c; decide
theorem dev9_eq (c : Dev nD) : dev9 c = peer 2 c := by revert c; decide
theorem dev10_eq (c : Dev nD) : dev10 c = sib c := by revert c; decide
theorem dev11_eq (c : Dev nD) : dev11 c = sib c := by revert c; decide
theorem dev12_eq (c : Dev nD) : dev12 c = sib c := by revert c; decide
theorem dev13_eq (c : Dev nD) : dev13 c = sib c := by revert c; decide
theorem dev14_eq (c : Dev nD) : dev14 c = sib c := by revert c; decide
theorem dev15_eq (c : Dev nD) : dev15 c = sib c := by revert c; decide
theorem off1_eq (c : Dev nD) : k0_off1 c = ![(chip c).val, 0, 0] := by revert c; decide
theorem off2_eq (c : Dev nD) : k0_off2 c = ![(chip c).val, 0, 0] := by revert c; decide
theorem off3_eq (c : Dev nD) : k0_off3 c = ![(chip c).val, 0, 0] := by revert c; decide
theorem off4_eq (c : Dev nD) : k0_off4 c = ![(chip c).val, 1024 * core c, 0] := by revert c; decide
theorem off6_eq (c : Dev nD) : k0_off6 c = ![(chip c).val, 1024 * core c, 0] := by revert c; decide
theorem off5_eq (c : Dev nD) : k0_off5 c = ![1024 * core c, 0] := by revert c; decide
theorem off7_eq (c : Dev nD) : k0_off7 c = ![1024 * core c, 0] := by revert c; decide
theorem off8_eq (c : Dev nD) : k0_off8 c = ![(chip (peer 0 c)).val, 1024 * core c, 0] := by revert c; decide
theorem off9_eq (c : Dev nD) : k0_off9 c = ![(chip (peer 0 c)).val, 1024 * core c, 0] := by revert c; decide
theorem off10_eq (c : Dev nD) : k0_off10 c = ![(chip (peer 1 c)).val, 1024 * core c, 0] := by revert c; decide
theorem off11_eq (c : Dev nD) : k0_off11 c = ![(chip (peer 1 c)).val, 1024 * core c, 0] := by revert c; decide
theorem off12_eq (c : Dev nD) : k0_off12 c = ![(chip (peer 2 c)).val, 1024 * core c, 0] := by revert c; decide
theorem off13_eq (c : Dev nD) : k0_off13 c = ![(chip (peer 2 c)).val, 1024 * core c, 0] := by revert c; decide

/-- The slots of the results, each once: those of the other chips, and the device's own. -/
def shard (c : Dev nD) : Fin 4 → ℕ := ![(chip (peer 0 c)).val, (chip (peer 1 c)).val, (chip (peer 2 c)).val, (chip c).val]
theorem shard_inj (c : Dev nD) : Function.Injective (shard c) := by revert c; decide
theorem shard_surj (c : Dev nD) : ∀ k < 4, ∃ j, shard c j = k := by revert c; decide

/-- The device whose row `r` of its shard a device ends up with in slot `q`: itself for its own slot, otherwise the core of
    chip `q` that sent this half. -/
def origin (q : Fin 4) (d : Dev nD) (r : Fin 2048) : Dev nD :=
  if q = chip d then d else ⟨2 * q.val + r.val / 1024, by have := q.isLt; have := r.isLt; show _ < 8; omega⟩

theorem origin_own (d : Dev nD) (r : Fin 2048) : origin (chip d) d r = d := if_pos rfl

theorem half_lt (c : Dev nD) (r : Fin 1024) : 1024 * core c + r.val < 2048 := by have := core_lt c; have := r.isLt; omega

theorem origin_peer (j : Fin 3) (c : Dev nD) (r : Fin 1024) : origin (chip c) (peer j c) ⟨1024 * core c + r.val, half_lt c r⟩ = c := by
  unfold origin
  rw [if_neg (chip_peer j c)]
  refine Fin.ext ?_
  show 2 * (c.val / 2) + (1024 * (c.val % 2) + r.val) / 1024 = c.val
  have := r.isLt
  omega

theorem origin_sib (j : Fin 3) (c : Dev nD) (r : Fin 2048) : origin (chip (peer j c)) (sib c) r = origin (chip (peer j c)) c r := by
  unfold origin
  rw [chip_sib, if_neg (fun h => chip_peer j c h.symm), if_neg (fun h => chip_peer j c h.symm)]

/-- The device of its own number on chip `q`. -/
def mate (q : Fin 4) (d : Dev nD) : Dev nD := ⟨2 * q.val + d.val % 2, by have := q.isLt; show _ < 8; omega⟩
theorem mate_own (d : Dev nD) : mate (chip d) d = d := by revert d; decide
theorem mate_peer (j : Fin 3) (c : Dev nD) : mate (chip c) (peer j c) = c := by revert j c; decide

/-! ## The arrays -/

variable (m : (ℓ : Loc nD τ sig) → Buf (Elt F) ℓ)

/-- Half of the rows of a shard; half of a slot of the result, and a whole slot. -/
abbrev rows0 (off : Fin 2 → ℕ) (inb : ∀ x, off x + S1024x5648.size x ≤ S2048x5648.size x) : Memref sig .tc .hbm S1024x5648 .bf16 :=
  (Memref.whole main_arg0).slice (Rect.unit (s := S2048x5648) off S1024x5648.size inb) (fun _ => rfl)
abbrev part0 (off : Fin 3 → ℕ) (inb : ∀ x, off x + S1x1024x5648.size x ≤ S4x2048x5648.size x) : Memref sig .tc .hbm S1024x5648 .bf16 :=
  ((Memref.whole main_v1_0).slice (Rect.unit (s := S4x2048x5648) off S1x1024x5648.size inb) (fun _ => rfl)).squeeze S1024x5648 squeezes_S1x1024x5648_S1024x5648
abbrev slot0 (off : Fin 3 → ℕ) (inb : ∀ x, off x + S1x2048x5648.size x ≤ S4x2048x5648.size x) : Memref sig .tc .hbm S2048x5648 .bf16 :=
  ((Memref.whole main_v1_0).slice (Rect.unit (s := S4x2048x5648) off S1x2048x5648.size inb) (fun _ => rfl)).squeeze S2048x5648 squeezes_S1x2048x5648_S2048x5648

theorem rows0_read {off : Fin 2 → ℕ} (inb) (c : Dev nD) (h : off = ![1024 * core c, 0]) (X : S2048x5648.Idx → F .bf16) (r : Fin 1024) (l : Fin 5648) :
    (rows0 off inb).view.read (Elt F) X (ix2 r l) = X (ix2 ⟨1024 * core c + r.val, half_lt c r⟩ l) := by
  change X ((Rect.unit (s := S2048x5648) off S1024x5648.size inb).emb (ix2 r l)) = _
  refine congrArg X (unit_emb h _ _ _ _ fun x => ?_)
  fin_cases x
  · rfl
  · exact Nat.zero_add _

theorem part0_set {off : Fin 3 → ℕ} (inb) {k h : ℕ} (e : off = ![k, 1024 * h, 0]) : (part0 off inb).view.set = (half 0 1 k h : Finset S4x2048x5648.Idx) := by
  subst e
  refine (View.set_reshape _ _).trans ((View.set_slice_whole _ _).trans (unit_half 0 1 _ _ rfl rfl rfl rfl fun x hx hx' => ?_))
  fin_cases x
  · exact absurd rfl hx
  · exact absurd rfl hx'
  · exact ⟨rfl, rfl⟩

theorem part0_read {off : Fin 3 → ℕ} (inb) (k : Fin 4) (c : Dev nD) (e : off = ![k.val, 1024 * core c, 0]) (X : S4x2048x5648.Idx → F .bf16)
    (r : Fin 1024) (l : Fin 5648) :
    (part0 off inb).view.read (Elt F) X (ix2 r l) = X (ix3 k ⟨1024 * core c + r.val, half_lt c r⟩ l) := by
  change X ((Rect.unit (s := S4x2048x5648) off S1x1024x5648.size inb).emb (Shape.reshapeEquiv squeezes_S1x1024x5648_S1024x5648.numel_eq (ix2 r l))) = _
  pointwise []
  refine congrArg X (unit_emb e _ _ _ _ fun x => ?_)
  fin_cases x
  · rfl
  · rfl
  · exact Nat.zero_add _

theorem slot0_set {off : Fin 3 → ℕ} (inb) {k : ℕ} (e : off = ![k, 0, 0]) : (slot0 off inb).view.set = (slab 0 k : Finset S4x2048x5648.Idx) := by
  subst e
  refine (View.set_reshape _ _).trans ((View.set_slice_whole _ _).trans (unit_set 0 _ rfl rfl fun x hx => ?_))
  fin_cases x
  · exact absurd rfl hx
  · exact ⟨rfl, rfl⟩
  · exact ⟨rfl, rfl⟩

theorem slot0_read {off : Fin 3 → ℕ} (inb) (k : Fin 4) (e : off = ![k.val, 0, 0]) (X : S4x2048x5648.Idx → F .bf16) (r : Fin 2048) (l : Fin 5648) :
    (slot0 off inb).view.read (Elt F) X (ix2 r l) = X (ix3 k r l) := by
  change X ((Rect.unit (s := S4x2048x5648) off S1x2048x5648.size inb).emb (Shape.reshapeEquiv squeezes_S1x2048x5648_S2048x5648.numel_eq (ix2 r l))) = _
  pointwise []
  refine congrArg X (unit_emb e _ _ _ _ fun x => ?_)
  fin_cases x
  · rfl
  · exact Nat.zero_add _
  · exact Nat.zero_add _

/-- What the device's result holds at the end: in slot `q`, row by row, the shard of the device it came from. -/
def out0 (d : Dev nD) : Buf (Elt F) ((d.tc : Thread nD τ).loc main_v1_0) :=
  fun i : S4x2048x5648.Idx => m ((origin (i 0) d (i 1)).tc.loc main_arg0) (ix2 (i 1) (i 2) : S2048x5648.Idx)

/-- The device's own slot of a result; the half of the slot of its `j`-th peer's chip that this peer sends, and the half
    that the other core passes on. -/
abbrev own0 (d : Dev nD) (f : Buf (Elt F) ((d.tc : Thread nD τ).loc main_v1_0)) : sProp 𝕄 :=
  (d.tc : Thread nD τ).loc main_v1_0 ↦[(slab 0 (chip d).val : Finset S4x2048x5648.Idx)]{fullShare} f
abbrev near0 (j : Fin 3) (d : Dev nD) (f : Buf (Elt F) ((d.tc : Thread nD τ).loc main_v1_0)) : sProp 𝕄 :=
  (d.tc : Thread nD τ).loc main_v1_0 ↦[(half 0 1 (chip (peer j d)).val (core d) : Finset S4x2048x5648.Idx)]{fullShare} f
abbrev far0 (j : Fin 3) (d : Dev nD) (f : Buf (Elt F) ((d.tc : Thread nD τ).loc main_v1_0)) : sProp 𝕄 :=
  (d.tc : Thread nD τ).loc main_v1_0 ↦[(half 0 1 (chip (peer j d)).val (1 - core d) : Finset S4x2048x5648.Idx)]{fullShare} f
/-- The whole of an argument at a share, the half of its rows that is sent at the share of the `j`-th copy, and the other
    half. -/
abbrev all0 (q : PosShare TreeShare) (d : Dev nD) : sProp 𝕄 :=
  (Memref.whole main_arg0).view.loc (d.tc : Thread nD τ) ↦[(Memref.whole main_arg0).view.set]{q} m ((d.tc).loc main_arg0)
abbrev take0 (j : Fin 3) (d : Dev nD) : sProp 𝕄 :=
  (rows0 (k0_off5 d) (k0_off5_inb d)).view.loc (d.tc : Thread nD τ) ↦[(rows0 (k0_off5 d) (k0_off5_inb d)).view.set]{third j} m ((d.tc).loc main_arg0)
abbrev rest0 (d : Dev nD) : sProp 𝕄 :=
  (d.tc : Thread nD τ).loc main_arg0 ↦[(Finset.univ \ (rows0 (k0_off5 d) (k0_off5_inb d)).view.set : Finset S2048x5648.Idx)]{fullShare.right} m ((d.tc).loc main_arg0)

/-- Half of the rows of a shard; half of a slot of the result, and a whole slot. -/
abbrev rows1 (off : Fin 2 → ℕ) (inb : ∀ x, off x + S1024x2048.size x ≤ S2048x2048.size x) : Memref sig .tc .hbm S1024x2048 .bf16 :=
  (Memref.whole main_arg1).slice (Rect.unit (s := S2048x2048) off S1024x2048.size inb) (fun _ => rfl)
abbrev part1 (off : Fin 3 → ℕ) (inb : ∀ x, off x + S1x1024x2048.size x ≤ S4x2048x2048.size x) : Memref sig .tc .hbm S1024x2048 .bf16 :=
  ((Memref.whole main_v1_1).slice (Rect.unit (s := S4x2048x2048) off S1x1024x2048.size inb) (fun _ => rfl)).squeeze S1024x2048 squeezes_S1x1024x2048_S1024x2048
abbrev slot1 (off : Fin 3 → ℕ) (inb : ∀ x, off x + S1x2048x2048.size x ≤ S4x2048x2048.size x) : Memref sig .tc .hbm S2048x2048 .bf16 :=
  ((Memref.whole main_v1_1).slice (Rect.unit (s := S4x2048x2048) off S1x2048x2048.size inb) (fun _ => rfl)).squeeze S2048x2048 squeezes_S1x2048x2048_S2048x2048

theorem rows1_read {off : Fin 2 → ℕ} (inb) (c : Dev nD) (h : off = ![1024 * core c, 0]) (X : S2048x2048.Idx → F .bf16) (r : Fin 1024) (l : Fin 2048) :
    (rows1 off inb).view.read (Elt F) X (ix2 r l) = X (ix2 ⟨1024 * core c + r.val, half_lt c r⟩ l) := by
  change X ((Rect.unit (s := S2048x2048) off S1024x2048.size inb).emb (ix2 r l)) = _
  refine congrArg X (unit_emb h _ _ _ _ fun x => ?_)
  fin_cases x
  · rfl
  · exact Nat.zero_add _

theorem part1_set {off : Fin 3 → ℕ} (inb) {k h : ℕ} (e : off = ![k, 1024 * h, 0]) : (part1 off inb).view.set = (half 0 1 k h : Finset S4x2048x2048.Idx) := by
  subst e
  refine (View.set_reshape _ _).trans ((View.set_slice_whole _ _).trans (unit_half 0 1 _ _ rfl rfl rfl rfl fun x hx hx' => ?_))
  fin_cases x
  · exact absurd rfl hx
  · exact absurd rfl hx'
  · exact ⟨rfl, rfl⟩

theorem part1_read {off : Fin 3 → ℕ} (inb) (k : Fin 4) (c : Dev nD) (e : off = ![k.val, 1024 * core c, 0]) (X : S4x2048x2048.Idx → F .bf16)
    (r : Fin 1024) (l : Fin 2048) :
    (part1 off inb).view.read (Elt F) X (ix2 r l) = X (ix3 k ⟨1024 * core c + r.val, half_lt c r⟩ l) := by
  change X ((Rect.unit (s := S4x2048x2048) off S1x1024x2048.size inb).emb (Shape.reshapeEquiv squeezes_S1x1024x2048_S1024x2048.numel_eq (ix2 r l))) = _
  pointwise []
  refine congrArg X (unit_emb e _ _ _ _ fun x => ?_)
  fin_cases x
  · rfl
  · rfl
  · exact Nat.zero_add _

theorem slot1_set {off : Fin 3 → ℕ} (inb) {k : ℕ} (e : off = ![k, 0, 0]) : (slot1 off inb).view.set = (slab 0 k : Finset S4x2048x2048.Idx) := by
  subst e
  refine (View.set_reshape _ _).trans ((View.set_slice_whole _ _).trans (unit_set 0 _ rfl rfl fun x hx => ?_))
  fin_cases x
  · exact absurd rfl hx
  · exact ⟨rfl, rfl⟩
  · exact ⟨rfl, rfl⟩

theorem slot1_read {off : Fin 3 → ℕ} (inb) (k : Fin 4) (e : off = ![k.val, 0, 0]) (X : S4x2048x2048.Idx → F .bf16) (r : Fin 2048) (l : Fin 2048) :
    (slot1 off inb).view.read (Elt F) X (ix2 r l) = X (ix3 k r l) := by
  change X ((Rect.unit (s := S4x2048x2048) off S1x2048x2048.size inb).emb (Shape.reshapeEquiv squeezes_S1x2048x2048_S2048x2048.numel_eq (ix2 r l))) = _
  pointwise []
  refine congrArg X (unit_emb e _ _ _ _ fun x => ?_)
  fin_cases x
  · rfl
  · exact Nat.zero_add _
  · exact Nat.zero_add _

/-- What the device's result holds at the end: in slot `q`, row by row, the shard of the device it came from. -/
def out1 (d : Dev nD) : Buf (Elt F) ((d.tc : Thread nD τ).loc main_v1_1) :=
  fun i : S4x2048x2048.Idx => m ((origin (i 0) d (i 1)).tc.loc main_arg1) (ix2 (i 1) (i 2) : S2048x2048.Idx)

/-- The device's own slot of a result; the half of the slot of its `j`-th peer's chip that this peer sends, and the half
    that the other core passes on. -/
abbrev own1 (d : Dev nD) (f : Buf (Elt F) ((d.tc : Thread nD τ).loc main_v1_1)) : sProp 𝕄 :=
  (d.tc : Thread nD τ).loc main_v1_1 ↦[(slab 0 (chip d).val : Finset S4x2048x2048.Idx)]{fullShare} f
abbrev near1 (j : Fin 3) (d : Dev nD) (f : Buf (Elt F) ((d.tc : Thread nD τ).loc main_v1_1)) : sProp 𝕄 :=
  (d.tc : Thread nD τ).loc main_v1_1 ↦[(half 0 1 (chip (peer j d)).val (core d) : Finset S4x2048x2048.Idx)]{fullShare} f
abbrev far1 (j : Fin 3) (d : Dev nD) (f : Buf (Elt F) ((d.tc : Thread nD τ).loc main_v1_1)) : sProp 𝕄 :=
  (d.tc : Thread nD τ).loc main_v1_1 ↦[(half 0 1 (chip (peer j d)).val (1 - core d) : Finset S4x2048x2048.Idx)]{fullShare} f
/-- The whole of an argument at a share, the half of its rows that is sent at the share of the `j`-th copy, and the other
    half. -/
abbrev all1 (q : PosShare TreeShare) (d : Dev nD) : sProp 𝕄 :=
  (Memref.whole main_arg1).view.loc (d.tc : Thread nD τ) ↦[(Memref.whole main_arg1).view.set]{q} m ((d.tc).loc main_arg1)
abbrev take1 (j : Fin 3) (d : Dev nD) : sProp 𝕄 :=
  (rows1 (k0_off7 d) (k0_off7_inb d)).view.loc (d.tc : Thread nD τ) ↦[(rows1 (k0_off7 d) (k0_off7_inb d)).view.set]{third j} m ((d.tc).loc main_arg1)
abbrev rest1 (d : Dev nD) : sProp 𝕄 :=
  (d.tc : Thread nD τ).loc main_arg1 ↦[(Finset.univ \ (rows1 (k0_off7 d) (k0_off7_inb d)).view.set : Finset S2048x2048.Idx)]{fullShare.right} m ((d.tc).loc main_arg1)

/-- A slot of the third result. -/
abbrev slot2 (off : Fin 3 → ℕ) (inb : ∀ x, off x + S1x4x1536.size x ≤ S4x4x1536.size x) : Memref sig .tc .hbm S4x1536 .f32 :=
  ((Memref.whole main_v1_2).slice (Rect.unit (s := S4x4x1536) off S1x4x1536.size inb) (fun _ => rfl)).squeeze S4x1536 squeezes_S1x4x1536_S4x1536

theorem slot2_set {off : Fin 3 → ℕ} (inb) {k : ℕ} (e : off = ![k, 0, 0]) : (slot2 off inb).view.set = (slab 0 k : Finset S4x4x1536.Idx) := by
  subst e
  refine (View.set_reshape _ _).trans ((View.set_slice_whole _ _).trans (unit_set 0 _ rfl rfl fun x hx => ?_))
  fin_cases x
  · exact absurd rfl hx
  · exact ⟨rfl, rfl⟩
  · exact ⟨rfl, rfl⟩

theorem slot2_read {off : Fin 3 → ℕ} (inb) (k : Fin 4) (e : off = ![k.val, 0, 0]) (X : S4x4x1536.Idx → F .f32) (r : Fin 4) (l : Fin 1536) :
    (slot2 off inb).view.read (Elt F) X (ix2 r l) = X (ix3 k r l) := by
  change X ((Rect.unit (s := S4x4x1536) off S1x4x1536.size inb).emb (Shape.reshapeEquiv squeezes_S1x4x1536_S4x1536.numel_eq (ix2 r l))) = _
  pointwise []
  refine congrArg X (unit_emb e _ _ _ _ fun x => ?_)
  fin_cases x
  · rfl
  · exact Nat.zero_add _
  · exact Nat.zero_add _

/-- What the third result holds at the end. -/
def out2 (d : Dev nD) : Buf (Elt F) ((d.tc : Thread nD τ).loc main_v1_2) :=
  fun i : S4x4x1536.Idx => m ((mate (i 0) d).tc.loc main_arg2) (ix2 (i 1) (i 2) : S4x1536.Idx)

/-- The device's own slot of the third result, and the slot of its `j`-th peer's chip; the third argument at a share. -/
abbrev own2 (d : Dev nD) (f : Buf (Elt F) ((d.tc : Thread nD τ).loc main_v1_2)) : sProp 𝕄 :=
  (d.tc : Thread nD τ).loc main_v1_2 ↦[(slab 0 (chip d).val : Finset S4x4x1536.Idx)]{fullShare} f
abbrev near2 (j : Fin 3) (d : Dev nD) (f : Buf (Elt F) ((d.tc : Thread nD τ).loc main_v1_2)) : sProp 𝕄 :=
  (d.tc : Thread nD τ).loc main_v1_2 ↦[(slab 0 (chip (peer j d)).val : Finset S4x4x1536.Idx)]{fullShare} f
abbrev all2 (q : PosShare TreeShare) (d : Dev nD) : sProp 𝕄 :=
  (Memref.whole main_arg2).view.loc (d.tc : Thread nD τ) ↦[(Memref.whole main_arg2).view.set]{q} m ((d.tc).loc main_arg2)

/-! ## The protocol -/

abbrev N0 : ℕ := (part0 (k0_off4 0) (k0_off4_inb 0)).view.dmaCredit
abbrev M0 : ℕ := (slot0 (k0_off1 0) (k0_off1_inb 0)).view.dmaCredit
abbrev N1 : ℕ := (part1 (k0_off6 0) (k0_off6_inb 0)).view.dmaCredit
abbrev M1 : ℕ := (slot1 (k0_off2 0) (k0_off2_inb 0)).view.dmaCredit
abbrev M2 : ℕ := (slot2 (k0_off3 0) (k0_off3_inb 0)).view.dmaCredit

/-- What each semaphore's copy hands the device that waits. -/
def pay (k : Fin 33) (d : Dev nD) : sProp 𝕄 :=
  (![take0 m 0 d,
    take1 m 0 d,
    take0 m 1 d,
    take1 m 1 d,
    take0 m 2 d,
    take1 m 2 d,
    near0 0 d (out0 m d),
    near1 0 d (out1 m d),
    near0 1 d (out0 m d),
    near1 1 d (out1 m d),
    near0 2 d (out0 m d),
    near1 2 d (out1 m d),
    all2 m (third 0) d,
    all2 m (third 1) d,
    all2 m (third 2) d,
    near0 0 d (out0 m d),
    near1 0 d (out1 m d),
    near0 1 d (out0 m d),
    near1 1 d (out1 m d),
    near0 2 d (out0 m d),
    near1 2 d (out1 m d),
    far0 0 d (out0 m d),
    far1 0 d (out1 m d),
    far0 1 d (out0 m d),
    far1 1 d (out1 m d),
    far0 2 d (out0 m d),
    far1 2 d (out1 m d),
    near2 0 d (out2 m d),
    near2 1 d (out2 m d),
    near2 2 d (out2 m d),
    iprop(own0 d (out0 m d) ∗ all0 m fullShare.left d),
    iprop(own1 d (out1 m d) ∗ all1 m fullShare.left d),
    iprop(own2 d (out2 m d) ∗ all2 m fullShare.left d)] : Fin 33 → sProp 𝕄) k

/-- The halves passed on are waited for after those from the other chips. -/
def lvl : Fin 33 → ℕ := ![0, 0, 0, 0, 0, 0, 0, 0, 0, 0, 0, 0, 0, 0, 0, 1, 1, 1, 1, 1, 1, 2, 2, 2, 2, 2, 2, 1, 1, 1, 0, 0, 0]

def P : Proto nD τ sig (Elt F) (Fin 33) where
  sem := ![0, 1, 2, 3, 4, 5, 6, 7, 8, 9, 10, 11, 12, 13, 14, 15, 16, 17, 18, 19, 20, 21, 22, 23, 24, 25, 26, 27, 28, 29, 30, 31, 32]
  inj := by decide
  amt := ![N0, N1, N0, N1, N0, N1, N0, N1, N0, N1, N0, N1, M2, M2, M2, N0, N1, N0, N1, N0, N1, N0, N1, N0, N1, N0, N1, M2, M2, M2, M0, M1, M2]
  pos k := by
    fin_cases k <;> exact View.dmaCredit_pos _ (by decide)
  lvl := lvl
  dest := ![Equiv.refl _, Equiv.refl _, Equiv.refl _, Equiv.refl _, Equiv.refl _, Equiv.refl _, Equiv.refl _, Equiv.refl _, Equiv.refl _, Equiv.refl _, Equiv.refl _, Equiv.refl _, Equiv.refl _, Equiv.refl _, Equiv.refl _, swap 0, swap 0, swap 1, swap 1, swap 2, swap 2, twin, twin, twin, twin, twin, twin, swap 0, swap 1, swap 2, Equiv.refl _, Equiv.refl _, Equiv.refl _]
  rem := {15, 16, 17, 18, 19, 20, 21, 22, 23, 24, 25, 26, 27, 28, 29}
  home := by
    intro k hk
    fin_cases k
    · rfl
    · rfl
    · rfl
    · rfl
    · rfl
    · rfl
    · rfl
    · rfl
    · rfl
    · rfl
    · rfl
    · rfl
    · rfl
    · rfl
    · rfl
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · exact absurd (by decide) hk
    · rfl
    · rfl
    · rfl
  pay := pay m
  stor k d := by
    fin_cases k <;> first
      | exact inferInstanceAs (BI.Storable upEmb (_ ↦[_]{_} _ : sProp 𝕄))
      | exact inferInstanceAs (BI.Storable upEmb (iprop((_ ↦[_]{_} _) ∗ (_ ↦[_]{_} _)) : sProp 𝕄))

theorem of_eq {a b : sProp 𝕄} (h : a = b) : a ⊢ b := by rw [h]

theorem lev {S : Finset (Fin 33)} (k : Fin 33) (h : ∀ k' ∈ S, lvl k < lvl k') : ∀ k' ∈ S, (P m).lvl k < (P m).lvl k' := h

/-! ## What the copies hand over -/

/-- The half of a slot that a device fills on its `j`-th peer, at the start. -/
abbrev put0 (c d : Dev nD) : sProp 𝕄 :=
  (part0 (k0_off4 c) (k0_off4_inb c)).view.loc (d.tc : Thread nD τ) ↦[(part0 (k0_off4 c) (k0_off4_inb c)).view.set]{fullShare} m ((d.tc).loc main_v1_0)

theorem put0_eq (j : Fin 3) (c : Dev nD) {d : Dev nD} (hd : d = peer j c) : put0 m c d = near0 j d (m ((d.tc).loc main_v1_0)) := by
  subst hd
  unfold put0
  rw [part0_set _ (off4_eq c)]
  unfold near0
  rw [peer_peer, core_peer]

theorem fill0 (j : Fin 3) (c : Dev nD) {d : Dev nD} (hd : d = peer j c) (fd : Buf (Elt F) ((d.tc : Thread nD τ).loc main_v1_0)) :
    ((part0 (k0_off4 c) (k0_off4_inb c)).view.loc (d.tc : Thread nD τ) ↦[(part0 (k0_off4 c) (k0_off4_inb c)).view.set]{fullShare}
        ((part0 (k0_off4 c) (k0_off4_inb c)).view.write (Elt F) fd ((rows0 (k0_off5 c) (k0_off5_inb c)).view.read (Elt F) (m ((c.tc).loc main_arg0))) Finset.univ) : sProp 𝕄)
      ⊢ near0 j d (out0 m d) := by
  subst hd
  have h1 : (part0 (k0_off4 c) (k0_off4_inb c)).view.read (Elt F) (out0 m (peer j c)) = (rows0 (k0_off5 c) (k0_off5_inb c)).view.read (Elt F) (m ((c.tc).loc main_arg0)) := by
    funext i
    obtain ⟨r, l, rfl⟩ : ∃ (r : Fin 1024) (l : Fin 5648), i = ix2 r l := ⟨i 0, i 1, eq_ix2 i⟩
    rw [part0_read _ (chip c) c (off4_eq c), rows0_read _ c (off5_eq c)]
    show m ((origin (chip c) (peer j c) ⟨1024 * core c + r.val, half_lt c r⟩).tc.loc main_arg0) (ix2 ⟨1024 * core c + r.val, half_lt c r⟩ l) = _
    rw [origin_peer]
  rw [landed (part0 (k0_off4 c) (k0_off4_inb c)).view fd (out0 m (peer j c)) _ h1, part0_set _ (off4_eq c)]
  unfold near0
  rw [peer_peer, core_peer]

theorem kept0 (c : Dev nD) (fd : Buf (Elt F) ((c.tc : Thread nD τ).loc main_v1_0)) :
    iprop(((slot0 (k0_off1 c) (k0_off1_inb c)).view.loc (c.tc : Thread nD τ) ↦[(slot0 (k0_off1 c) (k0_off1_inb c)).view.set]{fullShare}
        ((slot0 (k0_off1 c) (k0_off1_inb c)).view.write (Elt F) fd ((Memref.whole main_arg0).view.read (Elt F) (m ((c.tc).loc main_arg0))) Finset.univ))
        ∗ all0 m fullShare.left c)
      ⊢ iprop(own0 c (out0 m c) ∗ all0 m fullShare.left c) := by
  have h1 : (slot0 (k0_off1 c) (k0_off1_inb c)).view.read (Elt F) (out0 m c) = (Memref.whole main_arg0).view.read (Elt F) (m ((c.tc).loc main_arg0)) := by
    funext i
    obtain ⟨r, l, rfl⟩ : ∃ (r : Fin 2048) (l : Fin 5648), i = ix2 r l := ⟨i 0, i 1, eq_ix2 i⟩
    rw [slot0_read _ (chip c) (off1_eq c)]
    show m ((origin (chip c) c r).tc.loc main_arg0) (ix2 r l) = m ((c.tc).loc main_arg0) (ix2 r l)
    rw [origin_own]
  rw [landed (slot0 (k0_off1 c) (k0_off1_inb c)).view fd (out0 m c) _ h1, slot0_set _ (off1_eq c)]

/-- A half that came from another chip, as it is passed on to the other core. -/
theorem pass0 (j : Fin 3) (c : Dev nD) {off : Fin 3 → ℕ} (inb) (e : off = ![(chip (peer j c)).val, 1024 * core c, 0]) :
    ((part0 off inb).view.loc (c.tc : Thread nD τ) ↦[(part0 off inb).view.set]{fullShare} out0 m c : sProp 𝕄) = near0 j c (out0 m c) := by
  rw [part0_set _ e]

abbrev open0 (d : Dev nD) (off : Fin 3 → ℕ) (inb : ∀ x, off x + S1x1024x5648.size x ≤ S4x2048x5648.size x) : sProp 𝕄 :=
  (part0 off inb).view.loc (d.tc : Thread nD τ) ↦[(part0 off inb).view.set]{fullShare} m ((d.tc).loc main_v1_0)

theorem open0_eq (j : Fin 3) (c : Dev nD) {d : Dev nD} (hd : d = sib c) {off : Fin 3 → ℕ} (inb) (e : off = ![(chip (peer j c)).val, 1024 * core c, 0]) :
    open0 m d off inb = far0 j d (m ((d.tc).loc main_v1_0)) := by
  subst hd
  unfold open0
  rw [part0_set _ e]
  unfold far0
  rw [chip_peer_sib, core_sib]

theorem reach0 (j : Fin 3) (c : Dev nD) {d : Dev nD} (hd : d = sib c) {off : Fin 3 → ℕ} (inb) (e : off = ![(chip (peer j c)).val, 1024 * core c, 0])
    (fd : Buf (Elt F) ((d.tc : Thread nD τ).loc main_v1_0)) :
    ((part0 off inb).view.loc (d.tc : Thread nD τ) ↦[(part0 off inb).view.set]{fullShare}
        ((part0 off inb).view.write (Elt F) fd ((part0 off inb).view.read (Elt F) (out0 m c)) Finset.univ) : sProp 𝕄)
      ⊢ far0 j d (out0 m d) := by
  subst hd
  have h1 : (part0 off inb).view.read (Elt F) (out0 m (sib c)) = (part0 off inb).view.read (Elt F) (out0 m c) := by
    funext i
    obtain ⟨r, l, rfl⟩ : ∃ (r : Fin 1024) (l : Fin 5648), i = ix2 r l := ⟨i 0, i 1, eq_ix2 i⟩
    rw [part0_read _ (chip (peer j c)) c e, part0_read _ (chip (peer j c)) c e]
    show m ((origin (chip (peer j c)) (sib c) ⟨1024 * core c + r.val, half_lt c r⟩).tc.loc main_arg0) (ix2 ⟨1024 * core c + r.val, half_lt c r⟩ l)
      = m ((origin (chip (peer j c)) c ⟨1024 * core c + r.val, half_lt c r⟩).tc.loc main_arg0) (ix2 ⟨1024 * core c + r.val, half_lt c r⟩ l)
    rw [origin_sib]
  rw [landed (part0 off inb).view fd (out0 m (sib c)) _ h1, part0_set _ e]
  unfold far0
  rw [chip_peer_sib, core_sib]

/-- An argument is a share for the copy into the own slot, three of the half that is sent, and the rest. -/
theorem args0 (d : Dev nD) :
    ((d.tc : Thread nD τ).loc main_arg0 ↦{fullShare} m ((d.tc).loc main_arg0) : sProp 𝕄)
      = iprop(all0 m fullShare.left d ∗ (take0 m 0 d ∗ take0 m 1 d ∗ take0 m 2 d) ∗ rest0 m d) := by
  unfold all0
  rw [View.set_whole, halves Finset.univ fullShare,
    cut (ℓ := (d.tc : Thread nD τ).loc main_arg0) (rows0 (k0_off5 d) (k0_off5_inb d)).view.set (q := fullShare.right) (m ((d.tc).loc main_arg0)), thirds]

/-- A result is the halves of the other chips' slots and the own slot. -/
theorem slots0 (d : Dev nD) (f : Buf (Elt F) ((d.tc : Thread nD τ).loc main_v1_0)) :
    ((d.tc : Thread nD τ).loc main_v1_0 ↦{fullShare} f : sProp 𝕄)
      = iprop((near0 0 d f ∗ far0 0 d f) ∗ (near0 1 d f ∗ far0 1 d f) ∗ (near0 2 d f ∗ far0 2 d f) ∗ own0 d f) := by
  have h (j : Fin 3) := slab_halves (d := d) (r := main_v1_0) (q := fullShare) (0 : Fin 3) (1 : Fin 3) (chip (peer j d)).val (core d) rfl (core_lt d) f
  rw [← h 0, ← h 1, ← h 2, slabs (d := d) (b := main_v1_0) (0 : Fin 3) (shard d) (shard_inj d) (shard_surj d) f,
    show (Finset.univ : Finset (Fin 4)) = {0, 1, 2, 3} from rfl, bigSep_insert (by decide), bigSep_insert (by decide), bigSep_insert (by decide), bigSep_singleton]
  rfl

/-- The own slot as the copy into it sees it. -/
abbrev home0 (d : Dev nD) : sProp 𝕄 :=
  (slot0 (k0_off1 d) (k0_off1_inb d)).view.loc (d.tc : Thread nD τ) ↦[(slot0 (k0_off1 d) (k0_off1_inb d)).view.set]{fullShare} m ((d.tc).loc main_v1_0)

theorem home0_eq (d : Dev nD) : home0 m d = own0 d (m ((d.tc).loc main_v1_0)) := by
  unfold home0
  rw [slot0_set _ (off1_eq d)]

/-- The half of a slot that a device fills on its `j`-th peer, at the start. -/
abbrev put1 (c d : Dev nD) : sProp 𝕄 :=
  (part1 (k0_off6 c) (k0_off6_inb c)).view.loc (d.tc : Thread nD τ) ↦[(part1 (k0_off6 c) (k0_off6_inb c)).view.set]{fullShare} m ((d.tc).loc main_v1_1)

theorem put1_eq (j : Fin 3) (c : Dev nD) {d : Dev nD} (hd : d = peer j c) : put1 m c d = near1 j d (m ((d.tc).loc main_v1_1)) := by
  subst hd
  unfold put1
  rw [part1_set _ (off6_eq c)]
  unfold near1
  rw [peer_peer, core_peer]

theorem fill1 (j : Fin 3) (c : Dev nD) {d : Dev nD} (hd : d = peer j c) (fd : Buf (Elt F) ((d.tc : Thread nD τ).loc main_v1_1)) :
    ((part1 (k0_off6 c) (k0_off6_inb c)).view.loc (d.tc : Thread nD τ) ↦[(part1 (k0_off6 c) (k0_off6_inb c)).view.set]{fullShare}
        ((part1 (k0_off6 c) (k0_off6_inb c)).view.write (Elt F) fd ((rows1 (k0_off7 c) (k0_off7_inb c)).view.read (Elt F) (m ((c.tc).loc main_arg1))) Finset.univ) : sProp 𝕄)
      ⊢ near1 j d (out1 m d) := by
  subst hd
  have h1 : (part1 (k0_off6 c) (k0_off6_inb c)).view.read (Elt F) (out1 m (peer j c)) = (rows1 (k0_off7 c) (k0_off7_inb c)).view.read (Elt F) (m ((c.tc).loc main_arg1)) := by
    funext i
    obtain ⟨r, l, rfl⟩ : ∃ (r : Fin 1024) (l : Fin 2048), i = ix2 r l := ⟨i 0, i 1, eq_ix2 i⟩
    rw [part1_read _ (chip c) c (off6_eq c), rows1_read _ c (off7_eq c)]
    show m ((origin (chip c) (peer j c) ⟨1024 * core c + r.val, half_lt c r⟩).tc.loc main_arg1) (ix2 ⟨1024 * core c + r.val, half_lt c r⟩ l) = _
    rw [origin_peer]
  rw [landed (part1 (k0_off6 c) (k0_off6_inb c)).view fd (out1 m (peer j c)) _ h1, part1_set _ (off6_eq c)]
  unfold near1
  rw [peer_peer, core_peer]

theorem kept1 (c : Dev nD) (fd : Buf (Elt F) ((c.tc : Thread nD τ).loc main_v1_1)) :
    iprop(((slot1 (k0_off2 c) (k0_off2_inb c)).view.loc (c.tc : Thread nD τ) ↦[(slot1 (k0_off2 c) (k0_off2_inb c)).view.set]{fullShare}
        ((slot1 (k0_off2 c) (k0_off2_inb c)).view.write (Elt F) fd ((Memref.whole main_arg1).view.read (Elt F) (m ((c.tc).loc main_arg1))) Finset.univ))
        ∗ all1 m fullShare.left c)
      ⊢ iprop(own1 c (out1 m c) ∗ all1 m fullShare.left c) := by
  have h1 : (slot1 (k0_off2 c) (k0_off2_inb c)).view.read (Elt F) (out1 m c) = (Memref.whole main_arg1).view.read (Elt F) (m ((c.tc).loc main_arg1)) := by
    funext i
    obtain ⟨r, l, rfl⟩ : ∃ (r : Fin 2048) (l : Fin 2048), i = ix2 r l := ⟨i 0, i 1, eq_ix2 i⟩
    rw [slot1_read _ (chip c) (off2_eq c)]
    show m ((origin (chip c) c r).tc.loc main_arg1) (ix2 r l) = m ((c.tc).loc main_arg1) (ix2 r l)
    rw [origin_own]
  rw [landed (slot1 (k0_off2 c) (k0_off2_inb c)).view fd (out1 m c) _ h1, slot1_set _ (off2_eq c)]

/-- A half that came from another chip, as it is passed on to the other core. -/
theorem pass1 (j : Fin 3) (c : Dev nD) {off : Fin 3 → ℕ} (inb) (e : off = ![(chip (peer j c)).val, 1024 * core c, 0]) :
    ((part1 off inb).view.loc (c.tc : Thread nD τ) ↦[(part1 off inb).view.set]{fullShare} out1 m c : sProp 𝕄) = near1 j c (out1 m c) := by
  rw [part1_set _ e]

abbrev open1 (d : Dev nD) (off : Fin 3 → ℕ) (inb : ∀ x, off x + S1x1024x2048.size x ≤ S4x2048x2048.size x) : sProp 𝕄 :=
  (part1 off inb).view.loc (d.tc : Thread nD τ) ↦[(part1 off inb).view.set]{fullShare} m ((d.tc).loc main_v1_1)

theorem open1_eq (j : Fin 3) (c : Dev nD) {d : Dev nD} (hd : d = sib c) {off : Fin 3 → ℕ} (inb) (e : off = ![(chip (peer j c)).val, 1024 * core c, 0]) :
    open1 m d off inb = far1 j d (m ((d.tc).loc main_v1_1)) := by
  subst hd
  unfold open1
  rw [part1_set _ e]
  unfold far1
  rw [chip_peer_sib, core_sib]

theorem reach1 (j : Fin 3) (c : Dev nD) {d : Dev nD} (hd : d = sib c) {off : Fin 3 → ℕ} (inb) (e : off = ![(chip (peer j c)).val, 1024 * core c, 0])
    (fd : Buf (Elt F) ((d.tc : Thread nD τ).loc main_v1_1)) :
    ((part1 off inb).view.loc (d.tc : Thread nD τ) ↦[(part1 off inb).view.set]{fullShare}
        ((part1 off inb).view.write (Elt F) fd ((part1 off inb).view.read (Elt F) (out1 m c)) Finset.univ) : sProp 𝕄)
      ⊢ far1 j d (out1 m d) := by
  subst hd
  have h1 : (part1 off inb).view.read (Elt F) (out1 m (sib c)) = (part1 off inb).view.read (Elt F) (out1 m c) := by
    funext i
    obtain ⟨r, l, rfl⟩ : ∃ (r : Fin 1024) (l : Fin 2048), i = ix2 r l := ⟨i 0, i 1, eq_ix2 i⟩
    rw [part1_read _ (chip (peer j c)) c e, part1_read _ (chip (peer j c)) c e]
    show m ((origin (chip (peer j c)) (sib c) ⟨1024 * core c + r.val, half_lt c r⟩).tc.loc main_arg1) (ix2 ⟨1024 * core c + r.val, half_lt c r⟩ l)
      = m ((origin (chip (peer j c)) c ⟨1024 * core c + r.val, half_lt c r⟩).tc.loc main_arg1) (ix2 ⟨1024 * core c + r.val, half_lt c r⟩ l)
    rw [origin_sib]
  rw [landed (part1 off inb).view fd (out1 m (sib c)) _ h1, part1_set _ e]
  unfold far1
  rw [chip_peer_sib, core_sib]

/-- An argument is a share for the copy into the own slot, three of the half that is sent, and the rest. -/
theorem args1 (d : Dev nD) :
    ((d.tc : Thread nD τ).loc main_arg1 ↦{fullShare} m ((d.tc).loc main_arg1) : sProp 𝕄)
      = iprop(all1 m fullShare.left d ∗ (take1 m 0 d ∗ take1 m 1 d ∗ take1 m 2 d) ∗ rest1 m d) := by
  unfold all1
  rw [View.set_whole, halves Finset.univ fullShare,
    cut (ℓ := (d.tc : Thread nD τ).loc main_arg1) (rows1 (k0_off7 d) (k0_off7_inb d)).view.set (q := fullShare.right) (m ((d.tc).loc main_arg1)), thirds]

/-- A result is the halves of the other chips' slots and the own slot. -/
theorem slots1 (d : Dev nD) (f : Buf (Elt F) ((d.tc : Thread nD τ).loc main_v1_1)) :
    ((d.tc : Thread nD τ).loc main_v1_1 ↦{fullShare} f : sProp 𝕄)
      = iprop((near1 0 d f ∗ far1 0 d f) ∗ (near1 1 d f ∗ far1 1 d f) ∗ (near1 2 d f ∗ far1 2 d f) ∗ own1 d f) := by
  have h (j : Fin 3) := slab_halves (d := d) (r := main_v1_1) (q := fullShare) (0 : Fin 3) (1 : Fin 3) (chip (peer j d)).val (core d) rfl (core_lt d) f
  rw [← h 0, ← h 1, ← h 2, slabs (d := d) (b := main_v1_1) (0 : Fin 3) (shard d) (shard_inj d) (shard_surj d) f,
    show (Finset.univ : Finset (Fin 4)) = {0, 1, 2, 3} from rfl, bigSep_insert (by decide), bigSep_insert (by decide), bigSep_insert (by decide), bigSep_singleton]
  rfl

/-- The own slot as the copy into it sees it. -/
abbrev home1 (d : Dev nD) : sProp 𝕄 :=
  (slot1 (k0_off2 d) (k0_off2_inb d)).view.loc (d.tc : Thread nD τ) ↦[(slot1 (k0_off2 d) (k0_off2_inb d)).view.set]{fullShare} m ((d.tc).loc main_v1_1)

theorem home1_eq (d : Dev nD) : home1 m d = own1 d (m ((d.tc).loc main_v1_1)) := by
  unfold home1
  rw [slot1_set _ (off2_eq d)]

/-- The slot of the third result that a device fills, on itself and on its peers. -/
abbrev put2 (c d : Dev nD) : sProp 𝕄 :=
  (slot2 (k0_off3 c) (k0_off3_inb c)).view.loc (d.tc : Thread nD τ) ↦[(slot2 (k0_off3 c) (k0_off3_inb c)).view.set]{fullShare} m ((d.tc).loc main_v1_2)

theorem home2_eq (d : Dev nD) : put2 m d d = own2 d (m ((d.tc).loc main_v1_2)) := by
  unfold put2
  rw [slot2_set _ (off3_eq d)]

theorem put2_eq (j : Fin 3) (c : Dev nD) {d : Dev nD} (hd : d = peer j c) : put2 m c d = near2 j d (m ((d.tc).loc main_v1_2)) := by
  subst hd
  unfold put2
  rw [slot2_set _ (off3_eq c)]
  unfold near2
  rw [peer_peer]

theorem out2_read (c d : Dev nD) (h : mate (chip c) d = c) :
    (slot2 (k0_off3 c) (k0_off3_inb c)).view.read (Elt F) (out2 m d) = (Memref.whole main_arg2).view.read (Elt F) (m ((c.tc).loc main_arg2)) := by
  funext i
  obtain ⟨r, l, rfl⟩ : ∃ (r : Fin 4) (l : Fin 1536), i = ix2 r l := ⟨i 0, i 1, eq_ix2 i⟩
  rw [slot2_read _ (chip c) (off3_eq c)]
  show m ((mate (chip c) d).tc.loc main_arg2) (ix2 r l) = m ((c.tc).loc main_arg2) (ix2 r l)
  rw [h]

theorem fill2 (j : Fin 3) (c : Dev nD) {d : Dev nD} (hd : d = peer j c) (fd : Buf (Elt F) ((d.tc : Thread nD τ).loc main_v1_2)) :
    ((slot2 (k0_off3 c) (k0_off3_inb c)).view.loc (d.tc : Thread nD τ) ↦[(slot2 (k0_off3 c) (k0_off3_inb c)).view.set]{fullShare}
        ((slot2 (k0_off3 c) (k0_off3_inb c)).view.write (Elt F) fd ((Memref.whole main_arg2).view.read (Elt F) (m ((c.tc).loc main_arg2))) Finset.univ) : sProp 𝕄)
      ⊢ near2 j d (out2 m d) := by
  subst hd
  rw [landed (slot2 (k0_off3 c) (k0_off3_inb c)).view fd (out2 m (peer j c)) _ (out2_read m c (peer j c) (mate_peer j c)), slot2_set _ (off3_eq c)]
  unfold near2
  rw [peer_peer]

theorem kept2 (c : Dev nD) (fd : Buf (Elt F) ((c.tc : Thread nD τ).loc main_v1_2)) :
    iprop(((slot2 (k0_off3 c) (k0_off3_inb c)).view.loc (c.tc : Thread nD τ) ↦[(slot2 (k0_off3 c) (k0_off3_inb c)).view.set]{fullShare}
        ((slot2 (k0_off3 c) (k0_off3_inb c)).view.write (Elt F) fd ((Memref.whole main_arg2).view.read (Elt F) (m ((c.tc).loc main_arg2))) Finset.univ))
        ∗ all2 m fullShare.left c)
      ⊢ iprop(own2 c (out2 m c) ∗ all2 m fullShare.left c) := by
  rw [landed (slot2 (k0_off3 c) (k0_off3_inb c)).view fd (out2 m c) _ (out2_read m c c (mate_own c)), slot2_set _ (off3_eq c)]

theorem args2 (d : Dev nD) :
    ((d.tc : Thread nD τ).loc main_arg2 ↦{fullShare} m ((d.tc).loc main_arg2) : sProp 𝕄)
      = iprop(all2 m fullShare.left d ∗ all2 m (third 0) d ∗ all2 m (third 1) d ∗ all2 m (third 2) d) := by
  unfold all2
  rw [View.set_whole, halves Finset.univ fullShare, thirds]

theorem slots2 (d : Dev nD) (f : Buf (Elt F) ((d.tc : Thread nD τ).loc main_v1_2)) :
    ((d.tc : Thread nD τ).loc main_v1_2 ↦{fullShare} f : sProp 𝕄)
      = iprop(near2 0 d f ∗ near2 1 d f ∗ near2 2 d f ∗ own2 d f) := by
  rw [slabs (d := d) (b := main_v1_2) (0 : Fin 3) (shard d) (shard_inj d) (shard_surj d) f,
    show (Finset.univ : Finset (Fin 4)) = {0, 1, 2, 3} from rfl, bigSep_insert (by decide), bigSep_insert (by decide), bigSep_insert (by decide), bigSep_singleton]
  rfl

/-! ## The body -/

/-- What a device keeps: its arguments and its own slots. -/
def Keep (d : Dev nD) : sProp 𝕄 :=
  iprop(((d.tc : Thread nD τ).loc main_arg0 ↦{fullShare} m ((d.tc).loc main_arg0)) ∗ ((d.tc : Thread nD τ).loc main_arg1 ↦{fullShare} m ((d.tc).loc main_arg1))
    ∗ ((d.tc : Thread nD τ).loc main_arg2 ↦{fullShare} m ((d.tc).loc main_arg2))
    ∗ own0 d (m ((d.tc).loc main_v1_0)) ∗ own1 d (m ((d.tc).loc main_v1_1)) ∗ own2 d (m ((d.tc).loc main_v1_2)))
/-- What it hands the others: the other slots of its results. -/
def Dst (k : Fin 33) (d : Dev nD) : sProp 𝕄 :=
  (![iprop(emp),
    iprop(emp),
    iprop(emp),
    iprop(emp),
    iprop(emp),
    iprop(emp),
    iprop(emp),
    iprop(emp),
    iprop(emp),
    iprop(emp),
    iprop(emp),
    iprop(emp),
    iprop(emp),
    iprop(emp),
    iprop(emp),
    near0 0 d (m ((d).tc.loc main_v1_0)),
    near1 0 d (m ((d).tc.loc main_v1_1)),
    near0 1 d (m ((d).tc.loc main_v1_0)),
    near1 1 d (m ((d).tc.loc main_v1_1)),
    near0 2 d (m ((d).tc.loc main_v1_0)),
    near1 2 d (m ((d).tc.loc main_v1_1)),
    far0 0 d (m ((d).tc.loc main_v1_0)),
    far1 0 d (m ((d).tc.loc main_v1_1)),
    far0 1 d (m ((d).tc.loc main_v1_0)),
    far1 1 d (m ((d).tc.loc main_v1_1)),
    far0 2 d (m ((d).tc.loc main_v1_0)),
    far1 2 d (m ((d).tc.loc main_v1_1)),
    near2 0 d (m ((d).tc.loc main_v1_2)),
    near2 1 d (m ((d).tc.loc main_v1_2)),
    near2 2 d (m ((d).tc.loc main_v1_2)),
    iprop(emp),
    iprop(emp),
    iprop(emp)] : Fin 33 → sProp 𝕄) k
/-- What it holds at the end. -/
def Out (d : Dev nD) : sProp 𝕄 :=
  iprop(((d.tc : Thread nD τ).loc main_arg0 ↦{fullShare} m ((d.tc).loc main_arg0)) ∗ ((d.tc : Thread nD τ).loc main_arg1 ↦{fullShare} m ((d.tc).loc main_arg1))
    ∗ ((d.tc : Thread nD τ).loc main_arg2 ↦{fullShare} m ((d.tc).loc main_arg2))
    ∗ ((d.tc : Thread nD τ).loc main_v1_0 ↦{fullShare} out0 m d) ∗ ((d.tc : Thread nD τ).loc main_v1_1 ↦{fullShare} out1 m d)
    ∗ ((d.tc : Thread nD τ).loc main_v1_2 ↦{fullShare} out2 m d))

abbrev 𝒱₀ : Variants := Variants.none

theorem rem_split (f : Fin 33 → sProp 𝕄) : (bigSep ({15, 16, 17, 18, 19, 20, 21, 22, 23, 24, 25, 26, 27, 28, 29} : Finset (Fin 33)) f)
    = iprop(f 15 ∗ f 16 ∗ f 17 ∗ f 18 ∗ f 19 ∗ f 20 ∗ f 21 ∗ f 22 ∗ f 23 ∗ f 24 ∗ f 25 ∗ f 26 ∗ f 27 ∗ f 28 ∗ f 29) := by
  rw [bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_insert (by decide), bigSep_singleton]
  rfl

/-- What a device holds when it starts, in the order in which its copies use it. -/
abbrev Load (c : Dev nD) : sProp 𝕄 :=
  iprop((all0 m fullShare.left c ∗ home0 m c)
    ∗ (all1 m fullShare.left c ∗ home1 m c)
    ∗ (all2 m fullShare.left c ∗ put2 m c c)
    ∗ (take0 m 0 c ∗ put0 m c (dev1 c))
    ∗ (take1 m 0 c ∗ put1 m c (dev2 c))
    ∗ (all2 m (third 0) c ∗ put2 m c (dev3 c))
    ∗ (take0 m 1 c ∗ put0 m c (dev4 c))
    ∗ (take1 m 1 c ∗ put1 m c (dev5 c))
    ∗ (all2 m (third 1) c ∗ put2 m c (dev6 c))
    ∗ (take0 m 2 c ∗ put0 m c (dev7 c))
    ∗ (take1 m 2 c ∗ put1 m c (dev8 c))
    ∗ (all2 m (third 2) c ∗ put2 m c (dev9 c))
    ∗ open0 m (dev10 c) (k0_off8 c) (k0_off8_inb c)
    ∗ open1 m (dev11 c) (k0_off9 c) (k0_off9_inb c)
    ∗ open0 m (dev12 c) (k0_off10 c) (k0_off10_inb c)
    ∗ open1 m (dev13 c) (k0_off11 c) (k0_off11_inb c)
    ∗ open0 m (dev14 c) (k0_off12 c) (k0_off12_inb c)
    ∗ open1 m (dev15 c) (k0_off13 c) (k0_off13_inb c)
    ∗ (rest0 m c ∗ rest1 m c))

theorem load (c : Dev nD) :
    iprop(Keep m c ∗ near0 0 (dev1 c) (m (((dev1 c)).tc.loc main_v1_0)) ∗ near1 0 (dev2 c) (m (((dev2 c)).tc.loc main_v1_1)) ∗ near0 1 (dev4 c) (m (((dev4 c)).tc.loc main_v1_0)) ∗ near1 1 (dev5 c) (m (((dev5 c)).tc.loc main_v1_1)) ∗ near0 2 (dev7 c) (m (((dev7 c)).tc.loc main_v1_0)) ∗ near1 2 (dev8 c) (m (((dev8 c)).tc.loc main_v1_1)) ∗ far0 0 (dev10 c) (m (((dev10 c)).tc.loc main_v1_0)) ∗ far1 0 (dev11 c) (m (((dev11 c)).tc.loc main_v1_1)) ∗ far0 1 (dev12 c) (m (((dev12 c)).tc.loc main_v1_0)) ∗ far1 1 (dev13 c) (m (((dev13 c)).tc.loc main_v1_1)) ∗ far0 2 (dev14 c) (m (((dev14 c)).tc.loc main_v1_0)) ∗ far1 2 (dev15 c) (m (((dev15 c)).tc.loc main_v1_1)) ∗ near2 0 (dev3 c) (m (((dev3 c)).tc.loc main_v1_2)) ∗ near2 1 (dev6 c) (m (((dev6 c)).tc.loc main_v1_2)) ∗ near2 2 (dev9 c) (m (((dev9 c)).tc.loc main_v1_2)))
      ⊢ Load m c := by
  unfold Keep Load
  rw [args0, args1, args2, home0_eq, home1_eq, home2_eq,
    put0_eq m 0 c (dev1_eq c),
    put1_eq m 0 c (dev2_eq c),
    put2_eq m 0 c (dev3_eq c),
    put0_eq m 1 c (dev4_eq c),
    put1_eq m 1 c (dev5_eq c),
    put2_eq m 1 c (dev6_eq c),
    put0_eq m 2 c (dev7_eq c),
    put1_eq m 2 c (dev8_eq c),
    put2_eq m 2 c (dev9_eq c),
    open0_eq m 0 c (dev10_eq c) _ (off8_eq c),
    open1_eq m 0 c (dev11_eq c) _ (off9_eq c),
    open0_eq m 1 c (dev12_eq c) _ (off10_eq c),
    open1_eq m 1 c (dev13_eq c) _ (off11_eq c),
    open0_eq m 2 c (dev14_eq c) _ (off12_eq c),
    open1_eq m 2 c (dev15_eq c) _ (off13_eq c)]
  iintro ⟨⟨⟨L0, ⟨T00, T01, T02⟩, R0⟩, ⟨L1, ⟨T10, T11, T12⟩, R1⟩, ⟨L2, T20, T21, T22⟩, H0, H1, H2⟩, D15, D16, D17, D18, D19, D20, D21, D22, D23, D24, D25, D26, D27, D28, D29⟩
  isplitl [L0 H0]; · isplitl [L0] <;> iassumption
  isplitl [L1 H1]; · isplitl [L1] <;> iassumption
  isplitl [L2 H2]; · isplitl [L2] <;> iassumption
  isplitl [T00 D15]; · isplitl [T00] <;> iassumption
  isplitl [T10 D16]; · isplitl [T10] <;> iassumption
  isplitl [T20 D27]; · isplitl [T20] <;> iassumption
  isplitl [T01 D17]; · isplitl [T01] <;> iassumption
  isplitl [T11 D18]; · isplitl [T11] <;> iassumption
  isplitl [T21 D28]; · isplitl [T21] <;> iassumption
  isplitl [T02 D19]; · isplitl [T02] <;> iassumption
  isplitl [T12 D20]; · isplitl [T12] <;> iassumption
  isplitl [T22 D29]; · isplitl [T22] <;> iassumption
  isplitl [D21]; · iexact D21
  isplitl [D22]; · iexact D22
  isplitl [D23]; · iexact D23
  isplitl [D24]; · iexact D24
  isplitl [D25]; · iexact D25
  isplitl [D26]; · iexact D26
  isplitl [R0] <;> iassumption

/-- Taking the source and the destination of the next copy off what is left. -/
theorem next {a b r : sProp 𝕄} : iprop((a ∗ b) ∗ r) ⊢ iprop(a ∗ b ∗ r) := by
  iintro ⟨⟨A, B⟩, R⟩
  isplitl [A]; · iexact A
  isplitl [B] <;> iassumption

theorem next₁ {a s b r : sProp 𝕄} (h : a ⊢ s) : iprop(a ∗ b ∗ r) ⊢ iprop(s ∗ b ∗ r) := sep_mono_left h

theorem next₂ {p a s b r : sProp 𝕄} (h : a ⊢ s) : iprop(p ∗ a ∗ b ∗ r) ⊢ iprop(s ∗ b ∗ p ∗ r) := by
  refine (show iprop(p ∗ a ∗ b ∗ r) ⊢ iprop(a ∗ b ∗ p ∗ r) from ?_).trans (sep_mono_left h)
  iintro ⟨X, A, B, R⟩
  isplitl [A]; · iexact A
  isplitl [B]; · iexact B
  isplitl [X] <;> iassumption

set_option maxHeartbeats 4000000 in
theorem body (κ : Dev nD × Fin 33 → ℕ) (c : Dev nD) :
    iprop((P m).records κ ∗ (P m).St c (P m).rem Finset.univ Finset.univ (P m).rem ∗ Keep m c ∗ bigSep (P m).rem fun k => Dst m k ((P m).dest k c))
      ⊢ wp frame (wpE (defs₀ (F := F)) 𝒱₀ (c.tc : Thread nD τ) none) Set.univ
        (cc0_gather_weights (F := F) (Memref.whole main_arg0) (Memref.isWhole_whole _) (Memref.whole main_arg1) (Memref.isWhole_whole _)
          (Memref.whole main_arg2) (Memref.isWhole_whole _) (Memref.whole main_v1_0) (Memref.isWhole_whole _) (Memref.whole main_v1_1) (Memref.isWhole_whole _)
          (Memref.whole main_v1_2) (Memref.isWhole_whole _) cc0_scratch0 cc0_scratch1 cc0_scratch2)
        fun _ => iprop((P m).St c ∅ ∅ ∅ ∅ ∗ Out m c) := by
  show iprop((P m).records κ ∗ (P m).St c {15, 16, 17, 18, 19, 20, 21, 22, 23, 24, 25, 26, 27, 28, 29} Finset.univ Finset.univ {15, 16, 17, 18, 19, 20, 21, 22, 23, 24, 25, 26, 27, 28, 29} ∗ Keep m c ∗ bigSep ({15, 16, 17, 18, 19, 20, 21, 22, 23, 24, 25, 26, 27, 28, 29} : Finset (Fin 33)) fun k => Dst m k ((P m).dest k c)) ⊢ _
  have hd : (bigSep ({15, 16, 17, 18, 19, 20, 21, 22, 23, 24, 25, 26, 27, 28, 29} : Finset (Fin 33)) fun k => Dst m k ((P m).dest k c) : sProp 𝕄)
      = iprop(near0 0 (dev1 c) (m (((dev1 c)).tc.loc main_v1_0)) ∗ near1 0 (dev2 c) (m (((dev2 c)).tc.loc main_v1_1)) ∗ near0 1 (dev4 c) (m (((dev4 c)).tc.loc main_v1_0)) ∗ near1 1 (dev5 c) (m (((dev5 c)).tc.loc main_v1_1)) ∗ near0 2 (dev7 c) (m (((dev7 c)).tc.loc main_v1_0)) ∗ near1 2 (dev8 c) (m (((dev8 c)).tc.loc main_v1_1)) ∗ far0 0 (dev10 c) (m (((dev10 c)).tc.loc main_v1_0)) ∗ far1 0 (dev11 c) (m (((dev11 c)).tc.loc main_v1_1)) ∗ far0 1 (dev12 c) (m (((dev12 c)).tc.loc main_v1_0)) ∗ far1 1 (dev13 c) (m (((dev13 c)).tc.loc main_v1_1)) ∗ far0 2 (dev14 c) (m (((dev14 c)).tc.loc main_v1_0)) ∗ far1 2 (dev15 c) (m (((dev15 c)).tc.loc main_v1_1)) ∗ near2 0 (dev3 c) (m (((dev3 c)).tc.loc main_v1_2)) ∗ near2 1 (dev6 c) (m (((dev6 c)).tc.loc main_v1_2)) ∗ near2 2 (dev9 c) (m (((dev9 c)).tc.loc main_v1_2))) := by
    rw [dev1_eq, dev2_eq, dev3_eq, dev4_eq, dev5_eq, dev6_eq, dev7_eq, dev8_eq, dev9_eq, dev10_eq, dev11_eq, dev12_eq, dev13_eq, dev14_eq, dev15_eq, rem_split]
    rfl
  rw [hd]
  refine (sep_mono_right (sep_mono_right (load m c))).trans ?_
  simp only [cc0_gather_weights_eq_skeleton]
  unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [Prog.lift, Prog.bind_op, Prog.bind_ret, Prog.pure_eq_ret, wp_deviceId]
  refine (P m).copy_step _ _ κ c 30 (src := Memref.whole main_arg0) (dst := slot0 (k0_off1 c) (k0_off1_inb c)) (q := fullShare.left)
    (fs := m ((c.tc).loc main_arg0)) (fd := m ((c.tc).loc main_v1_0)) _ next (kept0 m c _) (by decide) (by decide) rfl rfl rfl ?_
  refine (P m).copy_step _ _ κ c 31 (src := Memref.whole main_arg1) (dst := slot1 (k0_off2 c) (k0_off2_inb c)) (q := fullShare.left)
    (fs := m ((c.tc).loc main_arg1)) (fd := m ((c.tc).loc main_v1_1)) _ next (kept1 m c _) (by decide) (by decide) rfl rfl rfl ?_
  refine (P m).copy_step _ _ κ c 32 (src := Memref.whole main_arg2) (dst := slot2 (k0_off3 c) (k0_off3_inb c)) (q := fullShare.left)
    (fs := m ((c.tc).loc main_arg2)) (fd := m ((c.tc).loc main_v1_2)) _ next (kept2 m c _) (by decide) (by decide) rfl rfl rfl ?_
  refine (P m).send_step _ _ κ c 0 15 (src := rows0 (k0_off5 c) (k0_off5_inb c)) (dst := part0 (k0_off4 c) (k0_off4_inb c)) (q := third 0)
    (fs := m ((c.tc).loc main_arg0)) (fd := m ((dev1 c).tc.loc main_v1_0)) _ next (dev1_eq c) (BI.Entails.refl _) (fill0 m 0 c (dev1_eq c) _)
    (by decide) (by decide) (by decide) (by decide) rfl rfl rfl rfl rfl ?_
  refine (P m).send_step _ _ κ c 1 16 (src := rows1 (k0_off7 c) (k0_off7_inb c)) (dst := part1 (k0_off6 c) (k0_off6_inb c)) (q := third 0)
    (fs := m ((c.tc).loc main_arg1)) (fd := m ((dev2 c).tc.loc main_v1_1)) _ next (dev2_eq c) (BI.Entails.refl _) (fill1 m 0 c (dev2_eq c) _)
    (by decide) (by decide) (by decide) (by decide) rfl rfl rfl rfl rfl ?_
  refine (P m).send_step _ _ κ c 12 27 (src := Memref.whole main_arg2) (dst := slot2 (k0_off3 c) (k0_off3_inb c)) (q := third 0)
    (fs := m ((c.tc).loc main_arg2)) (fd := m ((dev3 c).tc.loc main_v1_2)) _ next (dev3_eq c) (BI.Entails.refl _) (fill2 m 0 c (dev3_eq c) _)
    (by decide) (by decide) (by decide) (by decide) rfl rfl rfl rfl rfl ?_
  refine (P m).send_step _ _ κ c 2 17 (src := rows0 (k0_off5 c) (k0_off5_inb c)) (dst := part0 (k0_off4 c) (k0_off4_inb c)) (q := third 1)
    (fs := m ((c.tc).loc main_arg0)) (fd := m ((dev4 c).tc.loc main_v1_0)) _ next (dev4_eq c) (BI.Entails.refl _) (fill0 m 1 c (dev4_eq c) _)
    (by decide) (by decide) (by decide) (by decide) rfl rfl rfl rfl rfl ?_
  refine (P m).send_step _ _ κ c 3 18 (src := rows1 (k0_off7 c) (k0_off7_inb c)) (dst := part1 (k0_off6 c) (k0_off6_inb c)) (q := third 1)
    (fs := m ((c.tc).loc main_arg1)) (fd := m ((dev5 c).tc.loc main_v1_1)) _ next (dev5_eq c) (BI.Entails.refl _) (fill1 m 1 c (dev5_eq c) _)
    (by decide) (by decide) (by decide) (by decide) rfl rfl rfl rfl rfl ?_
  refine (P m).send_step _ _ κ c 13 28 (src := Memref.whole main_arg2) (dst := slot2 (k0_off3 c) (k0_off3_inb c)) (q := third 1)
    (fs := m ((c.tc).loc main_arg2)) (fd := m ((dev6 c).tc.loc main_v1_2)) _ next (dev6_eq c) (BI.Entails.refl _) (fill2 m 1 c (dev6_eq c) _)
    (by decide) (by decide) (by decide) (by decide) rfl rfl rfl rfl rfl ?_
  refine (P m).send_step _ _ κ c 4 19 (src := rows0 (k0_off5 c) (k0_off5_inb c)) (dst := part0 (k0_off4 c) (k0_off4_inb c)) (q := third 2)
    (fs := m ((c.tc).loc main_arg0)) (fd := m ((dev7 c).tc.loc main_v1_0)) _ next (dev7_eq c) (BI.Entails.refl _) (fill0 m 2 c (dev7_eq c) _)
    (by decide) (by decide) (by decide) (by decide) rfl rfl rfl rfl rfl ?_
  refine (P m).send_step _ _ κ c 5 20 (src := rows1 (k0_off7 c) (k0_off7_inb c)) (dst := part1 (k0_off6 c) (k0_off6_inb c)) (q := third 2)
    (fs := m ((c.tc).loc main_arg1)) (fd := m ((dev8 c).tc.loc main_v1_1)) _ next (dev8_eq c) (BI.Entails.refl _) (fill1 m 2 c (dev8_eq c) _)
    (by decide) (by decide) (by decide) (by decide) rfl rfl rfl rfl rfl ?_
  refine (P m).send_step _ _ κ c 14 29 (src := Memref.whole main_arg2) (dst := slot2 (k0_off3 c) (k0_off3_inb c)) (q := third 2)
    (fs := m ((c.tc).loc main_arg2)) (fd := m ((dev9 c).tc.loc main_v1_2)) _ next (dev9_eq c) (BI.Entails.refl _) (fill2 m 2 c (dev9_eq c) _)
    (by decide) (by decide) (by decide) (by decide) rfl rfl rfl rfl rfl ?_
  refine (P m).wait_step _ _ κ c 15 (by decide) (by decide) (lev m _ (by decide)) rfl rfl ?_
  refine (P m).wait_step _ _ κ c 16 (by decide) (by decide) (lev m _ (by decide)) rfl rfl ?_
  refine (P m).send_step _ _ κ c 6 21 (src := part0 (k0_off8 c) (k0_off8_inb c)) (dst := part0 (k0_off8 c) (k0_off8_inb c)) (q := fullShare)
    (fs := out0 m c) (fd := m ((dev10 c).tc.loc main_v1_0)) _ (next₂ (of_eq (pass0 m 0 c _ (off8_eq c)).symm)) (dev10_eq c) (of_eq (pass0 m 0 c _ (off8_eq c)))
    (reach0 m 0 c (dev10_eq c) _ (off8_eq c) _) (by decide) (by decide) (by decide) (by decide) rfl rfl rfl rfl rfl ?_
  refine (P m).send_step _ _ κ c 7 22 (src := part1 (k0_off9 c) (k0_off9_inb c)) (dst := part1 (k0_off9 c) (k0_off9_inb c)) (q := fullShare)
    (fs := out1 m c) (fd := m ((dev11 c).tc.loc main_v1_1)) _ (next₁ (of_eq (pass1 m 0 c _ (off9_eq c)).symm)) (dev11_eq c) (of_eq (pass1 m 0 c _ (off9_eq c)))
    (reach1 m 0 c (dev11_eq c) _ (off9_eq c) _) (by decide) (by decide) (by decide) (by decide) rfl rfl rfl rfl rfl ?_
  refine (P m).wait_step _ _ κ c 17 (by decide) (by decide) (lev m _ (by decide)) rfl rfl ?_
  refine (P m).wait_step _ _ κ c 18 (by decide) (by decide) (lev m _ (by decide)) rfl rfl ?_
  refine (P m).send_step _ _ κ c 8 23 (src := part0 (k0_off10 c) (k0_off10_inb c)) (dst := part0 (k0_off10 c) (k0_off10_inb c)) (q := fullShare)
    (fs := out0 m c) (fd := m ((dev12 c).tc.loc main_v1_0)) _ (next₂ (of_eq (pass0 m 1 c _ (off10_eq c)).symm)) (dev12_eq c) (of_eq (pass0 m 1 c _ (off10_eq c)))
    (reach0 m 1 c (dev12_eq c) _ (off10_eq c) _) (by decide) (by decide) (by decide) (by decide) rfl rfl rfl rfl rfl ?_
  refine (P m).send_step _ _ κ c 9 24 (src := part1 (k0_off11 c) (k0_off11_inb c)) (dst := part1 (k0_off11 c) (k0_off11_inb c)) (q := fullShare)
    (fs := out1 m c) (fd := m ((dev13 c).tc.loc main_v1_1)) _ (next₁ (of_eq (pass1 m 1 c _ (off11_eq c)).symm)) (dev13_eq c) (of_eq (pass1 m 1 c _ (off11_eq c)))
    (reach1 m 1 c (dev13_eq c) _ (off11_eq c) _) (by decide) (by decide) (by decide) (by decide) rfl rfl rfl rfl rfl ?_
  refine (P m).wait_step _ _ κ c 19 (by decide) (by decide) (lev m _ (by decide)) rfl rfl ?_
  refine (P m).wait_step _ _ κ c 20 (by decide) (by decide) (lev m _ (by decide)) rfl rfl ?_
  refine (P m).send_step _ _ κ c 10 25 (src := part0 (k0_off12 c) (k0_off12_inb c)) (dst := part0 (k0_off12 c) (k0_off12_inb c)) (q := fullShare)
    (fs := out0 m c) (fd := m ((dev14 c).tc.loc main_v1_0)) _ (next₂ (of_eq (pass0 m 2 c _ (off12_eq c)).symm)) (dev14_eq c) (of_eq (pass0 m 2 c _ (off12_eq c)))
    (reach0 m 2 c (dev14_eq c) _ (off12_eq c) _) (by decide) (by decide) (by decide) (by decide) rfl rfl rfl rfl rfl ?_
  refine (P m).send_step _ _ κ c 11 26 (src := part1 (k0_off13 c) (k0_off13_inb c)) (dst := part1 (k0_off13 c) (k0_off13_inb c)) (q := fullShare)
    (fs := out1 m c) (fd := m ((dev15 c).tc.loc main_v1_1)) _ (next₁ (of_eq (pass1 m 2 c _ (off13_eq c)).symm)) (dev15_eq c) (of_eq (pass1 m 2 c _ (off13_eq c)))
    (reach1 m 2 c (dev15_eq c) _ (off13_eq c) _) (by decide) (by decide) (by decide) (by decide) rfl rfl rfl rfl rfl ?_
  refine (P m).wait_step _ _ κ c 21 (by decide) (by decide) (lev m _ (by decide)) rfl rfl ?_
  refine (P m).wait_step _ _ κ c 22 (by decide) (by decide) (lev m _ (by decide)) rfl rfl ?_
  refine (P m).wait_step _ _ κ c 27 (by decide) (by decide) (lev m _ (by decide)) rfl rfl ?_
  refine (P m).wait_step _ _ κ c 23 (by decide) (by decide) (lev m _ (by decide)) rfl rfl ?_
  refine (P m).wait_step _ _ κ c 24 (by decide) (by decide) (lev m _ (by decide)) rfl rfl ?_
  refine (P m).wait_step _ _ κ c 28 (by decide) (by decide) (lev m _ (by decide)) rfl rfl ?_
  refine (P m).wait_step _ _ κ c 25 (by decide) (by decide) (lev m _ (by decide)) rfl rfl ?_
  refine (P m).wait_step _ _ κ c 26 (by decide) (by decide) (lev m _ (by decide)) rfl rfl ?_
  refine (P m).wait_step _ _ κ c 29 (by decide) (by decide) (lev m _ (by decide)) rfl rfl ?_
  refine (P m).wait_step _ _ κ c 0 (by decide) (by decide) (lev m _ (by decide)) rfl rfl ?_
  refine (P m).wait_step _ _ κ c 1 (by decide) (by decide) (lev m _ (by decide)) rfl rfl ?_
  refine (P m).wait_step _ _ κ c 12 (by decide) (by decide) (lev m _ (by decide)) rfl rfl ?_
  refine (P m).wait_step _ _ κ c 2 (by decide) (by decide) (lev m _ (by decide)) rfl rfl ?_
  refine (P m).wait_step _ _ κ c 3 (by decide) (by decide) (lev m _ (by decide)) rfl rfl ?_
  refine (P m).wait_step _ _ κ c 13 (by decide) (by decide) (lev m _ (by decide)) rfl rfl ?_
  refine (P m).wait_step _ _ κ c 4 (by decide) (by decide) (lev m _ (by decide)) rfl rfl ?_
  refine (P m).wait_step _ _ κ c 5 (by decide) (by decide) (lev m _ (by decide)) rfl rfl ?_
  refine (P m).wait_step _ _ κ c 14 (by decide) (by decide) (lev m _ (by decide)) rfl rfl ?_
  refine (P m).wait_step _ _ κ c 6 (by decide) (by decide) (lev m _ (by decide)) rfl rfl ?_
  refine (P m).wait_step _ _ κ c 7 (by decide) (by decide) (lev m _ (by decide)) rfl rfl ?_
  refine (P m).wait_step _ _ κ c 8 (by decide) (by decide) (lev m _ (by decide)) rfl rfl ?_
  refine (P m).wait_step _ _ κ c 9 (by decide) (by decide) (lev m _ (by decide)) rfl rfl ?_
  refine (P m).wait_step _ _ κ c 10 (by decide) (by decide) (lev m _ (by decide)) rfl rfl ?_
  refine (P m).wait_step _ _ κ c 11 (by decide) (by decide) (lev m _ (by decide)) rfl rfl ?_
  refine (P m).wait_step _ _ κ c 30 (by decide) (by decide) (lev m _ (by decide)) rfl rfl ?_
  refine (P m).wait_step _ _ κ c 31 (by decide) (by decide) (lev m _ (by decide)) rfl rfl ?_
  refine (P m).wait_step _ _ κ c 32 (by decide) (by decide) (lev m _ (by decide)) rfl rfl ?_
  refine (P m).end_step _ _ κ c (Out m c) (by decide) (by decide) (by decide) (by decide) ?_
  show iprop((own2 c (out2 m c) ∗ all2 m fullShare.left c) ∗ (own1 c (out1 m c) ∗ all1 m fullShare.left c) ∗ (own0 c (out0 m c) ∗ all0 m fullShare.left c) ∗ near1 2 c (out1 m c) ∗ near0 2 c (out0 m c) ∗ near1 1 c (out1 m c) ∗ near0 1 c (out0 m c) ∗ near1 0 c (out1 m c) ∗ near0 0 c (out0 m c) ∗ all2 m (third 2) c ∗ take1 m 2 c ∗ take0 m 2 c ∗ all2 m (third 1) c ∗ take1 m 1 c ∗ take0 m 1 c ∗ all2 m (third 0) c ∗ take1 m 0 c ∗ take0 m 0 c ∗ near2 2 c (out2 m c) ∗ far1 2 c (out1 m c) ∗ far0 2 c (out0 m c) ∗ near2 1 c (out2 m c) ∗ far1 1 c (out1 m c) ∗ far0 1 c (out0 m c) ∗ near2 0 c (out2 m c) ∗ far1 0 c (out1 m c) ∗ far0 0 c (out0 m c) ∗ rest0 m c ∗ rest1 m c) ⊢ _
  unfold Out
  rw [args0, args1, args2, slots0, slots1, slots2]
  iintro ⟨⟨W32, L2⟩, ⟨W31, L1⟩, ⟨W30, L0⟩, W11, W10, W9, W8, W7, W6, W14, W5, W4, W13, W3, W2, W12, W1, W0, W29, W26, W25, W28, W24, W23, W27, W22, W21, R0, R1⟩
  isplitl [L0 W0 W2 W4 R0]
  · isplitl [L0]
    · iexact L0
    isplitl [W0 W2 W4]
    · isplitl [W0]
      · iexact W0
      isplitl [W2]
      · iexact W2
      iexact W4
    iexact R0
  isplitl [L1 W1 W3 W5 R1]
  · isplitl [L1]
    · iexact L1
    isplitl [W1 W3 W5]
    · isplitl [W1]
      · iexact W1
      isplitl [W3]
      · iexact W3
      iexact W5
    iexact R1
  isplitl [L2 W12 W13 W14]
  · isplitl [L2]
    · iexact L2
    isplitl [W12]
    · iexact W12
    isplitl [W13]
    · iexact W13
    iexact W14
  isplitl [W6 W21 W8 W23 W10 W25 W30]
  · isplitl [W6 W21]
    · isplitl [W6]
      · iexact W6
      iexact W21
    isplitl [W8 W23]
    · isplitl [W8]
      · iexact W8
      iexact W23
    isplitl [W10 W25]
    · isplitl [W10]
      · iexact W10
      iexact W25
    iexact W30
  isplitl [W7 W22 W9 W24 W11 W26 W31]
  · isplitl [W7 W22]
    · isplitl [W7]
      · iexact W7
      iexact W22
    isplitl [W9 W24]
    · isplitl [W9]
      · iexact W9
      iexact W24
    isplitl [W11 W26]
    · isplitl [W11]
      · iexact W11
      iexact W26
    iexact W31
  isplitl [W27]
  · iexact W27
  isplitl [W28]
  · iexact W28
  isplitl [W29]
  · iexact W29
  iexact W32

/-! ## The run -/

/-- The buffers at the start: the arguments and the own slots, and the other slots of the results. -/
theorem split (d : Dev nD) :
    (unscopedBufs d (fun b => m (d.tc.loc b)) : sProp 𝕄) ⊢ iprop(Keep m d ∗ bigSep (P m).rem fun k => Dst m k d) := by
  show _ ⊢ iprop(Keep m d ∗ bigSep ({15, 16, 17, 18, 19, 20, 21, 22, 23, 24, 25, 26, 27, 28, 29} : Finset (Fin 33)) fun k => Dst m k d)
  rw [rem_split]
  refine (unscoped_rest rfl cfg0.spec d _).trans ?_
  rw [unscopedRest0_eq, slots0, slots1, slots2]
  refine (show _ ⊢ iprop(Keep m d ∗ near0 0 d (m ((d).tc.loc main_v1_0)) ∗ near1 0 d (m ((d).tc.loc main_v1_1)) ∗ near0 1 d (m ((d).tc.loc main_v1_0)) ∗ near1 1 d (m ((d).tc.loc main_v1_1)) ∗ near0 2 d (m ((d).tc.loc main_v1_0)) ∗ near1 2 d (m ((d).tc.loc main_v1_1)) ∗ far0 0 d (m ((d).tc.loc main_v1_0)) ∗ far1 0 d (m ((d).tc.loc main_v1_1)) ∗ far0 1 d (m ((d).tc.loc main_v1_0)) ∗ far1 1 d (m ((d).tc.loc main_v1_1)) ∗ far0 2 d (m ((d).tc.loc main_v1_0)) ∗ far1 2 d (m ((d).tc.loc main_v1_1)) ∗ near2 0 d (m ((d).tc.loc main_v1_2)) ∗ near2 1 d (m ((d).tc.loc main_v1_2)) ∗ near2 2 d (m ((d).tc.loc main_v1_2))) from ?_)
  unfold Keep
  iintro ⟨A0, A1, A2, ⟨⟨N00, F00⟩, ⟨N01, F01⟩, ⟨N02, F02⟩, O0⟩, ⟨⟨N10, F10⟩, ⟨N11, F11⟩, ⟨N12, F12⟩, O1⟩, N20, N21, N22, O2⟩
  isplitl [A0 A1 A2 O0 O1 O2]
  · isplitl [A0]
    · iexact A0
    isplitl [A1]
    · iexact A1
    isplitl [A2]
    · iexact A2
    isplitl [O0]
    · iexact O0
    isplitl [O1]
    · iexact O1
    iexact O2
  isplitl [N00]
  · iexact N00
  isplitl [N10]
  · iexact N10
  isplitl [N01]
  · iexact N01
  isplitl [N11]
  · iexact N11
  isplitl [N02]
  · iexact N02
  isplitl [N12]
  · iexact N12
  isplitl [F00]
  · iexact F00
  isplitl [F10]
  · iexact F10
  isplitl [F01]
  · iexact F01
  isplitl [F11]
  · iexact F11
  isplitl [F02]
  · iexact F02
  isplitl [F12]
  · iexact F12
  isplitl [N20]
  · iexact N20
  isplitl [N21]
  · iexact N21
  iexact N22

theorem read_out (c : Dev nD) (s' : Phys nD τ sig (Elt F)) :
    iprop(Out m c ∗ SI s') ⊢ |={Set.univ}=> iprop(⌜(s'.mem.mem ((c.tc).loc main_arg0) = m ((c.tc).loc main_arg0) ∧ s'.mem.mem ((c.tc).loc main_arg1) = m ((c.tc).loc main_arg1)
        ∧ s'.mem.mem ((c.tc).loc main_arg2) = m ((c.tc).loc main_arg2)
        ∧ s'.mem.mem ((c.tc).loc main_v1_0) = out0 m c ∧ s'.mem.mem ((c.tc).loc main_v1_1) = out1 m c ∧ s'.mem.mem ((c.tc).loc main_v1_2) = out2 m c)⌝ ∗ SI s') := by
  unfold Out
  iintro ⟨⟨A0, A1, A2, B0, B1, B2⟩, H⟩
  ihave H0 := (read_one _ _ s') $$ [A0 H]
  · isplitl [A0] <;> iassumption
  icases H0 with ⟨%h0, H⟩
  ihave H1 := (read_one _ _ s') $$ [A1 H]
  · isplitl [A1] <;> iassumption
  icases H1 with ⟨%h1, H⟩
  ihave H2 := (read_one _ _ s') $$ [A2 H]
  · isplitl [A2] <;> iassumption
  icases H2 with ⟨%h2, H⟩
  ihave H3 := (read_one _ _ s') $$ [B0 H]
  · isplitl [B0] <;> iassumption
  icases H3 with ⟨%h3, H⟩
  ihave H4 := (read_one _ _ s') $$ [B1 H]
  · isplitl [B1] <;> iassumption
  icases H4 with ⟨%h4, H⟩
  ihave H5 := (read_one _ _ s') $$ [B2 H]
  · isplitl [B2] <;> iassumption
  icases H5 with ⟨%h5, H⟩
  imodintro
  isplitr
  · ipureintro; exact ⟨h0, h1, h2, h3, h4, h5⟩
  iexact H

/-- From any memory the call ends with every slot of the results filled, the arguments as they were and all semaphores at
    zero. -/
theorem run_main (g : Dev nD → PrngReg) :
    θ_run (defs (F := F)) (onTc main) ⟨m, fun _ => 0, g⟩ fun r =>
      (∀ c : Dev nD, (r.2.mem ((c.tc).loc main_arg0) = m ((c.tc).loc main_arg0) ∧ r.2.mem ((c.tc).loc main_arg1) = m ((c.tc).loc main_arg1)
        ∧ r.2.mem ((c.tc).loc main_arg2) = m ((c.tc).loc main_arg2)
        ∧ r.2.mem ((c.tc).loc main_v1_0) = out0 m c ∧ r.2.mem ((c.tc).loc main_v1_1) = out1 m c ∧ r.2.mem ((c.tc).loc main_v1_2) = out2 m c)) ∧ r.2.sem = fun _ => 0 := by
  refine (P m).θ_run_talk cfgs (fun _ => rfl) N_0 cellOf_inj defs₀ 𝒱₀ main (fun _ => rfl) (by decide) m g (Keep m) (Out m) (Dst m)
    (split m) (fun κ c t => body m κ c) (fun c s => (s.mem ((c.tc).loc main_arg0) = m ((c.tc).loc main_arg0) ∧ s.mem ((c.tc).loc main_arg1) = m ((c.tc).loc main_arg1)
        ∧ s.mem ((c.tc).loc main_arg2) = m ((c.tc).loc main_arg2)
        ∧ s.mem ((c.tc).loc main_v1_0) = out0 m c ∧ s.mem ((c.tc).loc main_v1_1) = out1 m c ∧ s.mem ((c.tc).loc main_v1_2) = out2 m c)) (fun c s' => read_out m c s')

end Cert.WeightsIdeal.Run

end
-- ==== Proof.Weights.Ref.lean ====
/-
# The gathering of the weights: what the plain gather holds at each place
-/
module

public import proofs.«01_k».proof.Proof.Gen.WeightsRefIdeal.Run
public import Idealize.ShloMosaic.Lib.PointwiseCore

@[expose] public section

noncomputable section

namespace Cert.WeightsRefIdeal.Ref

open Idealize.ShloMosaic Cert.WeightsRefIdeal Cert.WeightsRefIdeal.Gen

variable {α : Type}

/-! The three arrays with the chips' shards one after the other. -/

def gathered0 (x : S2048x22592.Idx → α) : S4x2048x5648.Idx → α :=
  transpose S4x2048x5648 [1, 0, 2] (shapeCast _ x shapeCasts_S2048x22592_S2048x4x5648) transposes_S2048x4x5648_S4x2048x5648_1_0_2
def gathered1 (x : S8192x2048.Idx → α) : S4x2048x2048.Idx → α := shapeCast _ x shapeCasts_S8192x2048_S4x2048x2048
def gathered2 (x : S4x6144.Idx → α) : S4x4x1536.Idx → α :=
  transpose S4x4x1536 [1, 0, 2] (shapeCast _ x shapeCasts_S4x6144_S4x4x1536) transposes_S4x4x1536_S4x4x1536_1_0_2

set_option maxRecDepth 16384 in
theorem gathered0_apply (x : S2048x22592.Idx → α) (q : Fin 4) (r : Fin 2048) (l : Fin 5648) :
    gathered0 x (ix3 q r l) = x (ix2 r ⟨q.val * 5648 + l.val, by omega⟩) := by
  unfold gathered0
  pointwise []

set_option maxRecDepth 16384 in
theorem gathered1_apply (x : S8192x2048.Idx → α) (q : Fin 4) (r : Fin 2048) (l : Fin 2048) :
    gathered1 x (ix3 q r l) = x (ix2 ⟨q.val * 2048 + r.val, by omega⟩ l) := by
  unfold gathered1
  pointwise []

set_option maxRecDepth 16384 in
theorem gathered2_apply (x : S4x6144.Idx → α) (q : Fin 4) (r : Fin 4) (l : Fin 1536) :
    gathered2 x (ix3 q r l) = x (ix2 r ⟨q.val * 1536 + l.val, by omega⟩) := by
  unfold gathered2
  pointwise []

end Cert.WeightsRefIdeal.Ref

end

end
-- ==== Proof.Weights.Value.lean ====
/-
# The gathering of the weights: its result against the plain gather's
-/
module

public import proofs.«01_k».proof.Proof.Weights.Run
public import proofs.«01_k».proof.Proof.Weights.Ref

@[expose] public section

noncomputable section

namespace Cert.WeightsIdeal.Run

open Idealize.ShloMosaic
open Idealize.ShloMosaic.TcCoe
open Idealize.SL.Sem
open Cert.WeightsIdeal Cert.WeightsIdeal.Gen Cert.WeightsRefIdeal.Ref Cert.Talk
open Cert.WeightsRefIdeal (S2048x22592 S8192x2048 S4x6144)

variable {F : FTy → Type} [FloatOps F]
variable (m : (ℓ : Loc nD τ sig) → Buf (Elt F) ℓ)

/-- Every device's shard is its chip's. -/
theorem mesh_chip (c : Dev nD) : Layout.meshLin [2, 2, 2] c.val [0, 1] = (chip c).val := by revert c; decide

/-- What ends up in slot `q` comes from chip `q`. -/
theorem chip_origin (q : Fin 4) (d : Dev nD) (r : Fin 2048) : chip (origin q d r) = q := by
  unfold origin
  split
  · next h => exact h.symm
  · refine Fin.ext ?_
    show (2 * q.val + r.val / 1024) / 2 = q.val
    have := r.isLt
    omega
theorem chip_mate (q : Fin 4) (d : Dev nD) : chip (mate q d) = q := by revert q d; decide

theorem value0 (x : S2048x22592.Idx → F .bf16)
    (h : ∀ c : Dev nD, m ((c.tc).loc main_arg0) = Layout.blockN ⟨2, ![2048, 5648]⟩ ⟨2, ![2048, 22592]⟩ (Layout.meshBlock [2, 2, 2] ![[], [0, 1]] c) x) (c : Dev nD) :
    out0 m c = gathered0 x := by
  funext i
  idx_vars i
  show m ((origin i0 c i1).tc.loc main_arg0) (ix2 i1 i2) = _
  rw [h (origin i0 c i1), Layout.blockN_apply, gathered0_apply]
  refine congrArg x (funext fun a => Fin.ext ?_)
  fin_cases a
  · exact (congrArg (· + i1.val) (Nat.zero_mul 2048)).trans (Nat.zero_add _)
  · exact congrArg (· * 5648 + i2.val) ((mesh_chip _).trans (congrArg Fin.val (chip_origin i0 c i1)))

theorem value1 (x : S8192x2048.Idx → F .bf16)
    (h : ∀ c : Dev nD, m ((c.tc).loc main_arg1) = Layout.blockN ⟨2, ![2048, 2048]⟩ ⟨2, ![8192, 2048]⟩ (Layout.meshBlock [2, 2, 2] ![[0, 1], []] c) x) (c : Dev nD) :
    out1 m c = gathered1 x := by
  funext i
  idx_vars i
  show m ((origin i0 c i1).tc.loc main_arg1) (ix2 i1 i2) = _
  rw [h (origin i0 c i1), Layout.blockN_apply, gathered1_apply]
  refine congrArg x (funext fun a => Fin.ext ?_)
  fin_cases a
  · exact congrArg (· * 2048 + i1.val) ((mesh_chip _).trans (congrArg Fin.val (chip_origin i0 c i1)))
  · exact (congrArg (· + i2.val) (Nat.zero_mul 2048)).trans (Nat.zero_add _)

theorem value2 (x : S4x6144.Idx → F .f32)
    (h : ∀ c : Dev nD, m ((c.tc).loc main_arg2) = Layout.blockN ⟨2, ![4, 1536]⟩ ⟨2, ![4, 6144]⟩ (Layout.meshBlock [2, 2, 2] ![[], [0, 1]] c) x) (c : Dev nD) :
    out2 m c = gathered2 x := by
  funext i
  idx_vars i
  show m ((mate i0 c).tc.loc main_arg2) (ix2 i1 i2) = _
  rw [h (mate i0 c), Layout.blockN_apply, gathered2_apply]
  refine congrArg x (funext fun a => Fin.ext ?_)
  fin_cases a
  · exact (congrArg (· + i1.val) (Nat.zero_mul 4)).trans (Nat.zero_add _)
  · exact congrArg (· * 1536 + i2.val) ((mesh_chip _).trans (congrArg Fin.val (chip_mate i0 c)))

end Cert.WeightsIdeal.Run

end

end
-- ==== Proof.Weights.Claims.lean ====
/-
# The gathering of the weights: its claims
-/
module

public import proofs.«01_k».proof.Defs
public import proofs.«01_k».proof.Proof.Weights.Value
public import proofs.«01_k».proof.Proof.Gen.Weights
public import proofs.«01_k».proof.Proof.Gen.WeightsRef
public import proofs.«01_k».proof.Proof.Gen.WeightsRef.Run
public import Idealize.ShloMosaic.Lib.Quiescent

@[expose] public section

noncomputable section

namespace Cert.Proof.Weights

open Idealize.ShloMosaic Idealize.ShloMosaic.TcCoe Idealize.SL.Sem
open Cert.Weights

theorem frame : Cert.quiescent_Weights := fun m g _ =>
  (θ_run _ _ _).mono (fun _ h => ⟨fun c => ⟨(h.1 c).1, (h.1 c).2.1, (h.1 c).2.2.1⟩, h.2⟩) (Cert.WeightsIdeal.Run.run_main (F := Bits) m g)

theorem frame_ideal : Cert.quiescent_WeightsIdeal := fun m g _ =>
  (θ_run _ _ _).mono (fun _ h => ⟨fun c => ⟨(h.1 c).1, (h.1 c).2.1, (h.1 c).2.2.1⟩, h.2⟩) (Cert.WeightsIdeal.Run.run_main (F := Ideal) m g)

theorem frame_ref : Cert.quiescent_WeightsRef := fun m g _ =>
  (θ_run _ _ _).mono (fun r h => ⟨fun c => (h c).2.2.2, sem_eq_zero_of_no_sems (by decide) r.2⟩)
    (Cert.WeightsRef.Value.run (F := Bits) m g)

theorem frame_refIdeal : Cert.quiescent_WeightsRefIdeal := fun m g _ =>
  (θ_run _ _ _).mono (fun r h => ⟨fun c => (h c).2.2.2, sem_eq_zero_of_no_sems (by decide) r.2⟩)
    (Cert.WeightsRefIdeal.Value.run (F := Ideal) m g)

theorem algebraic : Cert.algebraic_WeightsIdeal_WeightsRefIdeal := fun m g m' g' _ hm =>
  ⟨Cert.WeightsRefIdeal.Ref.gathered0 _, Cert.WeightsRefIdeal.Ref.gathered1 _, Cert.WeightsRefIdeal.Ref.gathered2 _,
    (θ_run _ _ _).mono (fun _ h c => ⟨(h.1 c).2.2.2.1.trans (Cert.WeightsIdeal.Run.value0 (F := Ideal) m _ (fun c => (hm c).1) c),
      (h.1 c).2.2.2.2.1.trans (Cert.WeightsIdeal.Run.value1 (F := Ideal) m _ (fun c => (hm c).2.1) c),
      (h.1 c).2.2.2.2.2.trans (Cert.WeightsIdeal.Run.value2 (F := Ideal) m _ (fun c => (hm c).2.2) c),
      (h.1 c).1, (h.1 c).2.1, (h.1 c).2.2.1⟩) (Cert.WeightsIdeal.Run.run_main (F := Ideal) m g),
    (θ_run _ _ _).mono (fun _ h => h 0) (Cert.WeightsRefIdeal.Value.run (F := Ideal) m' g')⟩

theorem bitexact : Cert.bitexact_Weights_WeightsRef := fun m g m' g' _ hm =>
  ⟨Cert.WeightsRefIdeal.Ref.gathered0 _, Cert.WeightsRefIdeal.Ref.gathered1 _, Cert.WeightsRefIdeal.Ref.gathered2 _,
    (θ_run _ _ _).mono (fun _ h c => ⟨(h.1 c).2.2.2.1.trans (Cert.WeightsIdeal.Run.value0 (F := Bits) m _ (fun c => (hm c).1) c),
      (h.1 c).2.2.2.2.1.trans (Cert.WeightsIdeal.Run.value1 (F := Bits) m _ (fun c => (hm c).2.1) c),
      (h.1 c).2.2.2.2.2.trans (Cert.WeightsIdeal.Run.value2 (F := Bits) m _ (fun c => (hm c).2.2) c),
      (h.1 c).1, (h.1 c).2.1, (h.1 c).2.2.1⟩) (Cert.WeightsIdeal.Run.run_main (F := Bits) m g),
    (θ_run _ _ _).mono (fun _ h => h 0) (Cert.WeightsRef.Value.run (F := Bits) m' g')⟩

end Cert.Proof.Weights

end

end
-- ==== Proof.Vec.Run.lean ====
/-
# The gathering of the vectors: its run

Each device puts its vector into its own row of the result, and into the same row on each of the seven other devices. Per
device 15 semaphores, each credited by one copy:

* 0 to 6, send;
* 7 to 13, receive, in the same order;
* 14, the copy into the device's own row.

The `j`-th copy goes to the device whose number differs by the bits of `j + 1`.
-/
module

public import proofs.«01_k».proof.Proof.Talk.Launch
public import proofs.«01_k».proof.Proof.Talk.Slabs
public import proofs.«01_k».proof.Proof.Talk.Index
public import proofs.«01_k».proof.Proof.Gen.VecIdeal.Skeleton
public import proofs.«01_k».proof.Proof.Gen.VecIdeal.Launch

@[expose] public section

noncomputable section

namespace Cert.VecIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.VecIdeal Cert.VecIdeal.Gen Cert.Talk

variable {F : FTy → Type} [FloatOps F]

local notation "𝕄" => MM nD τ sig (Elt F)

/-! ## The devices -/

/-- The device that the `j`-th copy goes to, and that the `j`-th row comes from. -/
def peer (j : Fin 7) (c : Dev nD) : Dev nD :=
  ⟨c.val ^^^ (j.val + 1), by revert j c; decide⟩
theorem peer_peer (j : Fin 7) (c : Dev nD) : peer j (peer j c) = c := by revert j c; decide
def swap (j : Fin 7) : Equiv.Perm (Dev nD) := ⟨peer j, peer j, peer_peer j, peer_peer j⟩

/-- The devices that the seven copies address. -/
abbrev dev1 (c : Dev nD) : Dev nD := ⟨k0_dev1 c, k0_dev1_lt c⟩
abbrev dev2 (c : Dev nD) : Dev nD := ⟨k0_dev2 c, k0_dev2_lt c⟩
abbrev dev3 (c : Dev nD) : Dev nD := ⟨k0_dev3 c, k0_dev3_lt c⟩
abbrev dev4 (c : Dev nD) : Dev nD := ⟨k0_dev4 c, k0_dev4_lt c⟩
abbrev dev5 (c : Dev nD) : Dev nD := ⟨k0_dev5 c, k0_dev5_lt c⟩
abbrev dev6 (c : Dev nD) : Dev nD := ⟨k0_dev6 c, k0_dev6_lt c⟩
abbrev dev7 (c : Dev nD) : Dev nD := ⟨k0_dev7 c, k0_dev7_lt c⟩
theorem dev1_eq (c : Dev nD) : dev1 c = peer 0 c := by revert c; decide
theorem dev2_eq (c : Dev nD) : dev2 c = peer 1 c := by revert c; decide
theorem dev3_eq (c : Dev nD) : dev3 c = peer 2 c := by revert c; decide
theorem dev4_eq (c : Dev nD) : dev4 c = peer 3 c := by revert c; decide
theorem dev5_eq (c : Dev nD) : dev5 c = peer 4 c := by revert c; decide
theorem dev6_eq (c : Dev nD) : dev6 c = peer 5 c := by revert c; decide
theorem dev7_eq (c : Dev nD) : dev7 c = peer 6 c := by revert c; decide
theorem off_eq (c : Dev nD) : k0_off1 c = ![c.val, 0] := by revert c; decide

/-- The rows of the result, each once: those of the other devices, and the device's own. -/
def line (c : Dev nD) : Fin 8 → ℕ :=
  ![(peer 0 c).val, (peer 1 c).val, (peer 2 c).val, (peer 3 c).val, (peer 4 c).val, (peer 5 c).val, (peer 6 c).val, c.val]
theorem line_inj (c : Dev nD) : Function.Injective (line c) := by revert c; decide
theorem line_surj (c : Dev nD) : ∀ k < 8, ∃ j, line c j = k := by revert c; decide

/-! ## The arrays -/

variable (m : (ℓ : Loc nD τ sig) → Buf (Elt F) ℓ)

/-- A row of the result. -/
abbrev row (off : Fin 2 → ℕ) (inb : ∀ x, off x + S1x39296.size x ≤ S8x39296.size x) : Memref sig .tc .hbm S1x39296 .f32 :=
  (Memref.whole main_v1).slice (Rect.unit (s := S8x39296) off S1x39296.size inb) (fun _ => rfl)

theorem row_set {off : Fin 2 → ℕ} (inb) {k : ℕ} (e : off = ![k, 0]) : (row off inb).view.set = (slab 0 k : Finset S8x39296.Idx) := by
  subst e
  refine (View.set_slice_whole _ _).trans (unit_set 0 _ rfl rfl fun x hx => ?_)
  fin_cases x
  · exact absurd rfl hx
  · exact ⟨rfl, rfl⟩

theorem row_read {off : Fin 2 → ℕ} (inb) (k : Fin 8) (e : off = ![k.val, 0]) (X : S8x39296.Idx → F .f32) (r : Fin 1) (l : Fin 39296) :
    (row off inb).view.read (Elt F) X (ix2 r l) = X (ix2 k l) := by
  obtain rfl : r = 0 := Subsingleton.elim _ _
  change X ((Rect.unit (s := S8x39296) off S1x39296.size inb).emb (ix2 0 l)) = _
  refine congrArg X (unit_emb e _ _ _ _ fun x => ?_)
  fin_cases x
  · rfl
  · exact Nat.zero_add _

/-- The device whose vector belongs in row `q`. -/
def source (q : Fin 8) : Dev nD := q

/-- What the device's result holds at the end: in row `q` the vector of device `q`. -/
def out (d : Dev nD) : Buf (Elt F) ((d.tc : Thread nD τ).loc main_v1) :=
  fun i : S8x39296.Idx => m ((source (i 0)).tc.loc main_arg0) (ix2 (0 : Fin 1) (i 1) : S1x39296.Idx)

/-- The device's own row of the result, and the row of its `j`-th peer. -/
abbrev own (d : Dev nD) (f : Buf (Elt F) ((d.tc : Thread nD τ).loc main_v1)) : sProp 𝕄 :=
  (d.tc : Thread nD τ).loc main_v1 ↦[(slab 0 d.val : Finset S8x39296.Idx)]{fullShare} f
abbrev near (j : Fin 7) (d : Dev nD) (f : Buf (Elt F) ((d.tc : Thread nD τ).loc main_v1)) : sProp 𝕄 :=
  (d.tc : Thread nD τ).loc main_v1 ↦[(slab 0 (peer j d).val : Finset S8x39296.Idx)]{fullShare} f
/-- The argument at a share, and the shares that the seven sent copies read it at. -/
abbrev all (q : PosShare TreeShare) (d : Dev nD) : sProp 𝕄 :=
  (Memref.whole main_arg0).view.loc (d.tc : Thread nD τ) ↦[(Memref.whole main_arg0).view.set]{q} m ((d.tc).loc main_arg0)
def piece : Fin 7 → PosShare TreeShare :=
  ![fullShare.right.left, fullShare.right.right.left, fullShare.right.right.right.left, fullShare.right.right.right.right.left, fullShare.right.right.right.right.right.left, fullShare.right.right.right.right.right.right.left, fullShare.right.right.right.right.right.right.right]

/-! ## The protocol -/

abbrev N : ℕ := (row (k0_off1 0) (k0_off1_inb 0)).view.dmaCredit

/-- What each semaphore's copy hands the device that waits. -/
def pay (k : Fin 15) (d : Dev nD) : sProp 𝕄 :=
  (![all m (piece 0) d,
    all m (piece 1) d,
    all m (piece 2) d,
    all m (piece 3) d,
    all m (piece 4) d,
    all m (piece 5) d,
    all m (piece 6) d,
    near 0 d (out m d),
    near 1 d (out m d),
    near 2 d (out m d),
    near 3 d (out m d),
    near 4 d (out m d),
    near 5 d (out m d),
    near 6 d (out m d),
    iprop(own d (out m d) ∗ all m fullShare.left d)] : Fin 15 → sProp 𝕄) k

def P : Proto nD τ sig (Elt F) (Fin 15) where
  sem := ![0, 1, 2, 3, 4, 5, 6, 7, 8, 9, 10, 11, 12, 13, 14]
  inj := by decide
  amt _ := N
  pos _ := View.dmaCredit_pos _ (by decide)
  lvl _ := 0
  dest := ![Equiv.refl _, Equiv.refl _, Equiv.refl _, Equiv.refl _, Equiv.refl _, Equiv.refl _, Equiv.refl _, swap 0, swap 1, swap 2, swap 3, swap 4, swap 5, swap 6, Equiv.refl _]
  rem := {7, 8, 9, 10, 11, 12, 13}
  home := by
    intro k hk
    fin_cases k
    · rfl
    · rfl
    · rfl
    · rfl
    · rfl
    · rfl
    · rfl
    · exact absurd (by decide) hk
    · exact absurd (by decide) hk
    · exact absurd (by decide) hk
    · exact absurd (by decide) hk
    · exact absurd (by decide) hk
    · exact absurd (by decide) hk
    · exact absurd (by decide) hk
    · rfl
  pay := pay m
  stor k d := by
    fin_cases k <;> first
      | exact inferInstanceAs (BI.Storable upEmb (_ ↦[_]{_} _ : sProp 𝕄))
      | exact inferInstanceAs (BI.Storable upEmb (iprop((_ ↦[_]{_} _) ∗ (_ ↦[_]{_} _)) : sProp 𝕄))

/-- When a device waits it owes no copy. -/
theorem lev (k : Fin 15) : ∀ k' ∈ (∅ : Finset (Fin 15)), (P m).lvl k < (P m).lvl k' := fun _ h => absurd h (Finset.notMem_empty _)

/-! ## What the copies hand over -/

/-- A device's row, on itself and on the others, at the start. -/
abbrev put (c d : Dev nD) : sProp 𝕄 :=
  (row (k0_off1 c) (k0_off1_inb c)).view.loc (d.tc : Thread nD τ) ↦[(row (k0_off1 c) (k0_off1_inb c)).view.set]{fullShare} m ((d.tc).loc main_v1)

theorem home_eq (d : Dev nD) : put m d d = own d (m ((d.tc).loc main_v1)) := by
  unfold put
  rw [row_set _ (off_eq d)]

theorem put_eq (j : Fin 7) (c : Dev nD) {d : Dev nD} (hd : d = peer j c) : put m c d = near j d (m ((d.tc).loc main_v1)) := by
  subst hd
  unfold put
  rw [row_set _ (off_eq c)]
  unfold near
  rw [peer_peer]

theorem out_read (c d : Dev nD) :
    (row (k0_off1 c) (k0_off1_inb c)).view.read (Elt F) (out m d) = (Memref.whole main_arg0).view.read (Elt F) (m ((c.tc).loc main_arg0)) := by
  funext i
  obtain ⟨r, l, rfl⟩ : ∃ (r : Fin 1) (l : Fin 39296), i = ix2 r l := ⟨i 0, i 1, eq_ix2 i⟩
  rw [row_read _ c (off_eq c)]
  obtain rfl : r = 0 := Subsingleton.elim _ _
  rfl

theorem fill (j : Fin 7) (c : Dev nD) {d : Dev nD} (hd : d = peer j c) (fd : Buf (Elt F) ((d.tc : Thread nD τ).loc main_v1)) :
    ((row (k0_off1 c) (k0_off1_inb c)).view.loc (d.tc : Thread nD τ) ↦[(row (k0_off1 c) (k0_off1_inb c)).view.set]{fullShare}
        ((row (k0_off1 c) (k0_off1_inb c)).view.write (Elt F) fd ((Memref.whole main_arg0).view.read (Elt F) (m ((c.tc).loc main_arg0))) Finset.univ) : sProp 𝕄)
      ⊢ near j d (out m d) := by
  subst hd
  rw [landed (row (k0_off1 c) (k0_off1_inb c)).view fd (out m (peer j c)) _ (out_read m c (peer j c)), row_set _ (off_eq c)]
  unfold near
  rw [peer_peer]

theorem kept (c : Dev nD) (fd : Buf (Elt F) ((c.tc : Thread nD τ).loc main_v1)) :
    iprop(((row (k0_off1 c) (k0_off1_inb c)).view.loc (c.tc : Thread nD τ) ↦[(row (k0_off1 c) (k0_off1_inb c)).view.set]{fullShare}
        ((row (k0_off1 c) (k0_off1_inb c)).view.write (Elt F) fd ((Memref.whole main_arg0).view.read (Elt F) (m ((c.tc).loc main_arg0))) Finset.univ))
        ∗ all m fullShare.left c)
      ⊢ iprop(own c (out m c) ∗ all m fullShare.left c) := by
  rw [landed (row (k0_off1 c) (k0_off1_inb c)).view fd (out m c) _ (out_read m c c), row_set _ (off_eq c)]

/-- The argument is a share for the copy into the own row and one for each sent copy. -/
theorem args (d : Dev nD) :
    ((d.tc : Thread nD τ).loc main_arg0 ↦{fullShare} m ((d.tc).loc main_arg0) : sProp 𝕄)
      = iprop(all m fullShare.left d ∗ all m (piece 0) d ∗ all m (piece 1) d ∗ all m (piece 2) d ∗ all m (piece 3) d ∗ all m (piece 4) d ∗ all m (piece 5) d ∗ all m (piece 6) d) := by
  unfold all
  rw [View.set_whole]
  have h (q : PosShare TreeShare) := halves (ℓ := (d.tc : Thread nD τ).loc main_arg0) Finset.univ q (m ((d.tc).loc main_arg0))
  rw [h fullShare, h fullShare.right, h fullShare.right.right, h fullShare.right.right.right, h fullShare.right.right.right.right, h fullShare.right.right.right.right.right, h fullShare.right.right.right.right.right.right]
  rfl

/-- The result is the rows of the others and the own row. -/
theorem rows (d : Dev nD) (f : Buf (Elt F) ((d.tc : Thread nD τ).loc main_v1)) :
    ((d.tc : Thread nD τ).loc main_v1 ↦{fullShare} f : sProp 𝕄)
      = iprop(near 0 d f ∗ near 1 d f ∗ near 2 d f ∗ near 3 d f ∗ near 4 d f ∗ near 5 d f ∗ near 6 d f ∗ own d f) := by
  rw [slabs (d := d) (b := main_v1) (0 : Fin 2) (line d) (line_inj d) (line_surj d) f,
    show (Finset.univ : Finset (Fin 8)) = {0, 1, 2, 3, 4, 5, 6, 7} from rfl, bigSep_insert (by decide), bigSep_insert (by decide), bigSep_insert (by decide), bigSep_insert (by decide), bigSep_insert (by decide), bigSep_insert (by decide), bigSep_insert (by decide), bigSep_singleton]
  rfl

/-! ## The body -/

/-- What a device keeps: its argument and its own row. -/
def Keep (d : Dev nD) : sProp 𝕄 :=
  iprop(((d.tc : Thread nD τ).loc main_arg0 ↦{fullShare} m ((d.tc).loc main_arg0)) ∗ own d (m ((d.tc).loc main_v1)))
/-- What it hands the others: the other rows of its result. -/
def Dst (k : Fin 15) (d : Dev nD) : sProp 𝕄 :=
  (![iprop(emp),
    iprop(emp),
    iprop(emp),
    iprop(emp),
    iprop(emp),
    iprop(emp),
    iprop(emp),
    near 0 d (m ((d.tc).loc main_v1)),
    near 1 d (m ((d.tc).loc main_v1)),
    near 2 d (m ((d.tc).loc main_v1)),
    near 3 d (m ((d.tc).loc main_v1)),
    near 4 d (m ((d.tc).loc main_v1)),
    near 5 d (m ((d.tc).loc main_v1)),
    near 6 d (m ((d.tc).loc main_v1)),
    iprop(emp)] : Fin 15 → sProp 𝕄) k
/-- What it holds at the end. -/
def Out (d : Dev nD) : sProp 𝕄 :=
  iprop(((d.tc : Thread nD τ).loc main_arg0 ↦{fullShare} m ((d.tc).loc main_arg0)) ∗ ((d.tc : Thread nD τ).loc main_v1 ↦{fullShare} out m d))

abbrev 𝒱₀ : Variants := Variants.none

theorem rem_split (f : Fin 15 → sProp 𝕄) : (bigSep ({7, 8, 9, 10, 11, 12, 13} : Finset (Fin 15)) f)
    = iprop(f 7 ∗ f 8 ∗ f 9 ∗ f 10 ∗ f 11 ∗ f 12 ∗ f 13) := by
  rw [bigSep_insert (by decide), bigSep_insert (by decide), bigSep_insert (by decide), bigSep_insert (by decide), bigSep_insert (by decide), bigSep_insert (by decide), bigSep_singleton]
  rfl

/-- What a device holds when it starts, in the order in which its copies use it. -/
abbrev Load (c : Dev nD) : sProp 𝕄 :=
  iprop((all m fullShare.left c ∗ put m c c) ∗ (all m (piece 0) c ∗ put m c (dev1 c)) ∗ (all m (piece 1) c ∗ put m c (dev2 c)) ∗ (all m (piece 2) c ∗ put m c (dev3 c)) ∗ (all m (piece 3) c ∗ put m c (dev4 c)) ∗ (all m (piece 4) c ∗ put m c (dev5 c)) ∗ (all m (piece 5) c ∗ put m c (dev6 c)) ∗ (all m (piece 6) c ∗ put m c (dev7 c)) ∗ emp)

theorem load (c : Dev nD) :
    iprop(Keep m c ∗ near 0 (dev1 c) (m ((dev1 c).tc.loc main_v1)) ∗ near 1 (dev2 c) (m ((dev2 c).tc.loc main_v1)) ∗ near 2 (dev3 c) (m ((dev3 c).tc.loc main_v1)) ∗ near 3 (dev4 c) (m ((dev4 c).tc.loc main_v1)) ∗ near 4 (dev5 c) (m ((dev5 c).tc.loc main_v1)) ∗ near 5 (dev6 c) (m ((dev6 c).tc.loc main_v1)) ∗ near 6 (dev7 c) (m ((dev7 c).tc.loc main_v1)))
      ⊢ Load m c := by
  unfold Keep Load
  rw [args, home_eq, put_eq m 0 c (dev1_eq c), put_eq m 1 c (dev2_eq c), put_eq m 2 c (dev3_eq c), put_eq m 3 c (dev4_eq c), put_eq m 4 c (dev5_eq c), put_eq m 5 c (dev6_eq c), put_eq m 6 c (dev7_eq c)]
  iintro ⟨⟨⟨L, T0, T1, T2, T3, T4, T5, T6⟩, H⟩, D0, D1, D2, D3, D4, D5, D6⟩
  isplitl [L H]; · isplitl [L] <;> iassumption
  isplitl [T0 D0]; · isplitl [T0] <;> iassumption
  isplitl [T1 D1]; · isplitl [T1] <;> iassumption
  isplitl [T2 D2]; · isplitl [T2] <;> iassumption
  isplitl [T3 D3]; · isplitl [T3] <;> iassumption
  isplitl [T4 D4]; · isplitl [T4] <;> iassumption
  isplitl [T5 D5]; · isplitl [T5] <;> iassumption
  isplitl [T6 D6]; · isplitl [T6] <;> iassumption
  exact BI.Entails.refl _

/-- Taking the source and the destination of the next copy off what is left. -/
theorem next {a b r : sProp 𝕄} : iprop((a ∗ b) ∗ r) ⊢ iprop(a ∗ b ∗ r) := by
  iintro ⟨⟨A, B⟩, R⟩
  isplitl [A]; · iexact A
  isplitl [B] <;> iassumption

set_option maxHeartbeats 4000000 in
theorem body (κ : Dev nD × Fin 15 → ℕ) (c : Dev nD) :
    iprop((P m).records κ ∗ (P m).St c (P m).rem Finset.univ Finset.univ (P m).rem ∗ Keep m c ∗ bigSep (P m).rem fun k => Dst m k ((P m).dest k c))
      ⊢ wp frame (wpE (defs₀ (F := F)) 𝒱₀ (c.tc : Thread nD τ) none) Set.univ
        (cc0_gather_vec (F := F) (Memref.whole main_arg0) (Memref.isWhole_whole _) (Memref.whole main_v1) (Memref.isWhole_whole _)
          cc0_scratch0 cc0_scratch1 cc0_scratch2)
        fun _ => iprop((P m).St c ∅ ∅ ∅ ∅ ∗ Out m c) := by
  show iprop((P m).records κ ∗ (P m).St c {7, 8, 9, 10, 11, 12, 13} Finset.univ Finset.univ {7, 8, 9, 10, 11, 12, 13} ∗ Keep m c ∗ bigSep ({7, 8, 9, 10, 11, 12, 13} : Finset (Fin 15)) fun k => Dst m k ((P m).dest k c)) ⊢ _
  have hd : (bigSep ({7, 8, 9, 10, 11, 12, 13} : Finset (Fin 15)) fun k => Dst m k ((P m).dest k c) : sProp 𝕄)
      = iprop(near 0 (dev1 c) (m ((dev1 c).tc.loc main_v1)) ∗ near 1 (dev2 c) (m ((dev2 c).tc.loc main_v1)) ∗ near 2 (dev3 c) (m ((dev3 c).tc.loc main_v1)) ∗ near 3 (dev4 c) (m ((dev4 c).tc.loc main_v1)) ∗ near 4 (dev5 c) (m ((dev5 c).tc.loc main_v1)) ∗ near 5 (dev6 c) (m ((dev6 c).tc.loc main_v1)) ∗ near 6 (dev7 c) (m ((dev7 c).tc.loc main_v1))) := by
    rw [dev1_eq, dev2_eq, dev3_eq, dev4_eq, dev5_eq, dev6_eq, dev7_eq, rem_split]
    rfl
  rw [hd]
  refine (sep_mono_right (sep_mono_right (load m c))).trans ?_
  simp only [cc0_gather_vec_eq_skeleton]
  unfold cc0_gather_vec_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  refine (P m).copy_step _ _ κ c 14 (src := Memref.whole main_arg0) (dst := row (k0_off1 c) (k0_off1_inb c)) (q := fullShare.left)
    (fs := m ((c.tc).loc main_arg0)) (fd := m ((c.tc).loc main_v1)) _ next (kept m c _) (by decide) (by decide) rfl rfl rfl ?_
  refine (P m).send_step _ _ κ c 0 7 (src := Memref.whole main_arg0) (dst := row (k0_off1 c) (k0_off1_inb c)) (q := piece 0)
    (fs := m ((c.tc).loc main_arg0)) (fd := m ((dev1 c).tc.loc main_v1)) _ next (dev1_eq c) (BI.Entails.refl _) (fill m 0 c (dev1_eq c) _)
    (by decide) (by decide) (by decide) (by decide) rfl rfl rfl rfl rfl ?_
  refine (P m).send_step _ _ κ c 1 8 (src := Memref.whole main_arg0) (dst := row (k0_off1 c) (k0_off1_inb c)) (q := piece 1)
    (fs := m ((c.tc).loc main_arg0)) (fd := m ((dev2 c).tc.loc main_v1)) _ next (dev2_eq c) (BI.Entails.refl _) (fill m 1 c (dev2_eq c) _)
    (by decide) (by decide) (by decide) (by decide) rfl rfl rfl rfl rfl ?_
  refine (P m).send_step _ _ κ c 2 9 (src := Memref.whole main_arg0) (dst := row (k0_off1 c) (k0_off1_inb c)) (q := piece 2)
    (fs := m ((c.tc).loc main_arg0)) (fd := m ((dev3 c).tc.loc main_v1)) _ next (dev3_eq c) (BI.Entails.refl _) (fill m 2 c (dev3_eq c) _)
    (by decide) (by decide) (by decide) (by decide) rfl rfl rfl rfl rfl ?_
  refine (P m).send_step _ _ κ c 3 10 (src := Memref.whole main_arg0) (dst := row (k0_off1 c) (k0_off1_inb c)) (q := piece 3)
    (fs := m ((c.tc).loc main_arg0)) (fd := m ((dev4 c).tc.loc main_v1)) _ next (dev4_eq c) (BI.Entails.refl _) (fill m 3 c (dev4_eq c) _)
    (by decide) (by decide) (by decide) (by decide) rfl rfl rfl rfl rfl ?_
  refine (P m).send_step _ _ κ c 4 11 (src := Memref.whole main_arg0) (dst := row (k0_off1 c) (k0_off1_inb c)) (q := piece 4)
    (fs := m ((c.tc).loc main_arg0)) (fd := m ((dev5 c).tc.loc main_v1)) _ next (dev5_eq c) (BI.Entails.refl _) (fill m 4 c (dev5_eq c) _)
    (by decide) (by decide) (by decide) (by decide) rfl rfl rfl rfl rfl ?_
  refine (P m).send_step _ _ κ c 5 12 (src := Memref.whole main_arg0) (dst := row (k0_off1 c) (k0_off1_inb c)) (q := piece 5)
    (fs := m ((c.tc).loc main_arg0)) (fd := m ((dev6 c).tc.loc main_v1)) _ next (dev6_eq c) (BI.Entails.refl _) (fill m 5 c (dev6_eq c) _)
    (by decide) (by decide) (by decide) (by decide) rfl rfl rfl rfl rfl ?_
  refine (P m).send_step _ _ κ c 6 13 (src := Memref.whole main_arg0) (dst := row (k0_off1 c) (k0_off1_inb c)) (q := piece 6)
    (fs := m ((c.tc).loc main_arg0)) (fd := m ((dev7 c).tc.loc main_v1)) _ next (dev7_eq c) (BI.Entails.refl _) (fill m 6 c (dev7_eq c) _)
    (by decide) (by decide) (by decide) (by decide) rfl rfl rfl rfl rfl ?_
  refine (P m).wait_step _ _ κ c 7 (by decide) (by decide) (lev m _) rfl rfl ?_
  refine (P m).wait_step _ _ κ c 8 (by decide) (by decide) (lev m _) rfl rfl ?_
  refine (P m).wait_step _ _ κ c 9 (by decide) (by decide) (lev m _) rfl rfl ?_
  refine (P m).wait_step _ _ κ c 10 (by decide) (by decide) (lev m _) rfl rfl ?_
  refine (P m).wait_step _ _ κ c 11 (by decide) (by decide) (lev m _) rfl rfl ?_
  refine (P m).wait_step _ _ κ c 12 (by decide) (by decide) (lev m _) rfl rfl ?_
  refine (P m).wait_step _ _ κ c 13 (by decide) (by decide) (lev m _) rfl rfl ?_
  refine (P m).wait_step _ _ κ c 0 (by decide) (by decide) (lev m _) rfl rfl ?_
  refine (P m).wait_step _ _ κ c 1 (by decide) (by decide) (lev m _) rfl rfl ?_
  refine (P m).wait_step _ _ κ c 2 (by decide) (by decide) (lev m _) rfl rfl ?_
  refine (P m).wait_step _ _ κ c 3 (by decide) (by decide) (lev m _) rfl rfl ?_
  refine (P m).wait_step _ _ κ c 4 (by decide) (by decide) (lev m _) rfl rfl ?_
  refine (P m).wait_step _ _ κ c 5 (by decide) (by decide) (lev m _) rfl rfl ?_
  refine (P m).wait_step _ _ κ c 6 (by decide) (by decide) (lev m _) rfl rfl ?_
  refine (P m).wait_step _ _ κ c 14 (by decide) (by decide) (lev m _) rfl rfl ?_
  refine (P m).end_step _ _ κ c (Out m c) (by decide) (by decide) (by decide) (by decide) ?_
  show iprop((own c (out m c) ∗ all m fullShare.left c) ∗ all m (piece 6) c ∗ all m (piece 5) c ∗ all m (piece 4) c ∗ all m (piece 3) c ∗ all m (piece 2) c ∗ all m (piece 1) c ∗ all m (piece 0) c ∗ near 6 c (out m c) ∗ near 5 c (out m c) ∗ near 4 c (out m c) ∗ near 3 c (out m c) ∗ near 2 c (out m c) ∗ near 1 c (out m c) ∗ near 0 c (out m c) ∗ emp) ⊢ _
  unfold Out
  rw [args, rows]
  iintro ⟨⟨W14, L⟩, W6, W5, W4, W3, W2, W1, W0, W13, W12, W11, W10, W9, W8, W7, E⟩
  isplitl [L W0 W1 W2 W3 W4 W5 W6]
  · isplitl [L]
    · iexact L
    isplitl [W0]
    · iexact W0
    isplitl [W1]
    · iexact W1
    isplitl [W2]
    · iexact W2
    isplitl [W3]
    · iexact W3
    isplitl [W4]
    · iexact W4
    isplitl [W5]
    · iexact W5
    iexact W6
  isplitl [W7]
  · iexact W7
  isplitl [W8]
  · iexact W8
  isplitl [W9]
  · iexact W9
  isplitl [W10]
  · iexact W10
  isplitl [W11]
  · iexact W11
  isplitl [W12]
  · iexact W12
  isplitl [W13]
  · iexact W13
  iexact W14

/-! ## The run -/

/-- The buffers at the start: the argument and the own row, and the other rows of the result. -/
theorem split (d : Dev nD) :
    (unscopedBufs d (fun b => m (d.tc.loc b)) : sProp 𝕄) ⊢ iprop(Keep m d ∗ bigSep (P m).rem fun k => Dst m k d) := by
  show _ ⊢ iprop(Keep m d ∗ bigSep ({7, 8, 9, 10, 11, 12, 13} : Finset (Fin 15)) fun k => Dst m k d)
  rw [rem_split]
  refine (unscoped_rest rfl cfg0.spec d _).trans ?_
  rw [unscopedRest0_eq, rows]
  refine (show _ ⊢ iprop(Keep m d ∗ near 0 d (m ((d.tc).loc main_v1)) ∗ near 1 d (m ((d.tc).loc main_v1)) ∗ near 2 d (m ((d.tc).loc main_v1)) ∗ near 3 d (m ((d.tc).loc main_v1)) ∗ near 4 d (m ((d.tc).loc main_v1)) ∗ near 5 d (m ((d.tc).loc main_v1)) ∗ near 6 d (m ((d.tc).loc main_v1))) from ?_)
  unfold Keep
  iintro ⟨A, N0, N1, N2, N3, N4, N5, N6, O⟩
  isplitl [A O]
  · isplitl [A]
    · iexact A
    iexact O
  isplitl [N0]
  · iexact N0
  isplitl [N1]
  · iexact N1
  isplitl [N2]
  · iexact N2
  isplitl [N3]
  · iexact N3
  isplitl [N4]
  · iexact N4
  isplitl [N5]
  · iexact N5
  iexact N6

theorem read_out (c : Dev nD) (s' : Phys nD τ sig (Elt F)) :
    iprop(Out m c ∗ SI s') ⊢ |={Set.univ}=> iprop(⌜(s'.mem.mem ((c.tc).loc main_arg0) = m ((c.tc).loc main_arg0) ∧ s'.mem.mem ((c.tc).loc main_v1) = out m c)⌝ ∗ SI s') := by
  unfold Out
  iintro ⟨⟨A, B⟩, H⟩
  ihave H0 := (read_one _ _ s') $$ [A H]
  · isplitl [A] <;> iassumption
  icases H0 with ⟨%h0, H⟩
  ihave H1 := (read_one _ _ s') $$ [B H]
  · isplitl [B] <;> iassumption
  icases H1 with ⟨%h1, H⟩
  imodintro
  isplitr
  · ipureintro; exact ⟨h0, h1⟩
  iexact H

/-- From any memory the call ends with every row of the result filled, the argument as it was and all semaphores at zero. -/
theorem run_main (g : Dev nD → PrngReg) :
    θ_run (defs (F := F)) (onTc main) ⟨m, fun _ => 0, g⟩ fun r =>
      (∀ c : Dev nD, (r.2.mem ((c.tc).loc main_arg0) = m ((c.tc).loc main_arg0) ∧ r.2.mem ((c.tc).loc main_v1) = out m c)) ∧ r.2.sem = fun _ => 0 := by
  refine (P m).θ_run_talk cfgs (fun _ => rfl) N_0 cellOf_inj defs₀ 𝒱₀ main (fun _ => rfl) (by decide) m g (Keep m) (Out m) (Dst m)
    (split m) (fun κ c t => body m κ c) (fun c s => (s.mem ((c.tc).loc main_arg0) = m ((c.tc).loc main_arg0) ∧ s.mem ((c.tc).loc main_v1) = out m c)) (fun c s' => read_out m c s')

end Cert.VecIdeal.Run

end
-- ==== Proof.Vec.Value.lean ====
/-
# The gathering of the vectors: its result is the whole array
-/
module

public import proofs.«01_k».proof.Proof.Vec.Run

@[expose] public section

noncomputable section

namespace Cert.VecIdeal.Run

open Idealize.ShloMosaic
open Idealize.ShloMosaic.TcCoe
open Idealize.SL.Sem
open Cert.VecIdeal Cert.VecIdeal.Gen Cert.Talk

variable {F : FTy → Type} [FloatOps F]
variable (m : (ℓ : Loc nD τ sig) → Buf (Elt F) ℓ)

/-- If each device starts with its row of an array, each ends with the array. -/
theorem value (x : S8x39296.Idx → F .f32)
    (h : ∀ c : Dev nD, m ((c.tc).loc main_arg0) = Layout.block ⟨2, ![1, 39296]⟩ ⟨2, ![8, 39296]⟩ 0 8 c x) (c : Dev nD) : out m c = x := by
  funext i
  idx_vars i
  show m ((source i0).tc.loc main_arg0) (ix2 (0 : Fin 1) i1) = _
  rw [h (source i0), Layout.block_apply]
  refine congrArg x (funext fun a => Fin.ext ?_)
  fin_cases a
  · exact Nat.mul_one _
  · rfl

end Cert.VecIdeal.Run

end

end
-- ==== Proof.Vec.Ref.lean ====
/-
# The whole array of the vectors: the reference's run

The gathered array is the whole array, so the reference hands its argument back: it has no operation.
-/
module

public import proofs.«01_k».proof.Proof.Gen.VecRef
public import proofs.«01_k».proof.Proof.Gen.VecRefIdeal
public import Idealize.ShloMosaic.Lib.StableHlo.Run

@[expose] public section

noncomputable section

namespace Cert.VecRef.Value

open Cert.VecRef Cert.VecRef.Gen Idealize.ShloMosaic Idealize.ShloMosaic.TcCoe Idealize.SL.Sem Idealize.ShloMosaic.StableHlo

variable {F : FTy → Type} [FloatOps F]

/-- The program ends with its argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.VecRef.Value

namespace Cert.VecRefIdeal.Value

open Cert.VecRefIdeal Cert.VecRefIdeal.Gen Idealize.ShloMosaic Idealize.ShloMosaic.TcCoe Idealize.SL.Sem Idealize.ShloMosaic.StableHlo

variable {F : FTy → Type} [FloatOps F]

/-- The program ends with its argument as it was. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => trivial) m ρ)

end Cert.VecRefIdeal.Value

end

end
-- ==== Proof.Vec.Claims.lean ====
/-
# The gathering of the vectors: its claims
-/
module

public import proofs.«01_k».proof.Defs
public import proofs.«01_k».proof.Proof.Vec.Value
public import proofs.«01_k».proof.Proof.Vec.Ref
public import proofs.«01_k».proof.Proof.Gen.Vec
public import Idealize.ShloMosaic.Lib.Quiescent

@[expose] public section

noncomputable section

namespace Cert.Proof.Vec

open Idealize.ShloMosaic Idealize.ShloMosaic.TcCoe Idealize.SL.Sem
open Cert.Vec

theorem frame : Cert.quiescent_Vec := fun m g _ =>
  (θ_run _ _ _).mono (fun _ h => ⟨fun c => (h.1 c).1, h.2⟩) (Cert.VecIdeal.Run.run_main (F := Bits) m g)

theorem frame_ideal : Cert.quiescent_VecIdeal := fun m g _ =>
  (θ_run _ _ _).mono (fun _ h => ⟨fun c => (h.1 c).1, h.2⟩) (Cert.VecIdeal.Run.run_main (F := Ideal) m g)

theorem frame_ref : Cert.quiescent_VecRef := fun m g _ =>
  (θ_run _ _ _).mono (fun r h => ⟨h, sem_eq_zero_of_no_sems (by decide) r.2⟩) (Cert.VecRef.Value.run (F := Bits) m g)

theorem frame_refIdeal : Cert.quiescent_VecRefIdeal := fun m g _ =>
  (θ_run _ _ _).mono (fun r h => ⟨h, sem_eq_zero_of_no_sems (by decide) r.2⟩) (Cert.VecRefIdeal.Value.run (F := Ideal) m g)

theorem algebraic : Cert.algebraic_VecIdeal_VecRefIdeal := fun m g m' g' _ hm =>
  ⟨_, (θ_run _ _ _).mono (fun _ h c => ⟨(h.1 c).2.trans (Cert.VecIdeal.Run.value (F := Ideal) m _ hm c), (h.1 c).1⟩)
      (Cert.VecIdeal.Run.run_main (F := Ideal) m g),
    (θ_run _ _ _).mono (fun _ h => ⟨h 0, h 0⟩) (Cert.VecRefIdeal.Value.run (F := Ideal) m' g')⟩

theorem bitexact : Cert.bitexact_Vec_VecRef := fun m g m' g' _ hm =>
  ⟨_, (θ_run _ _ _).mono (fun _ h c => ⟨(h.1 c).2.trans (Cert.VecIdeal.Run.value (F := Bits) m _ hm c), (h.1 c).1⟩)
      (Cert.VecIdeal.Run.run_main (F := Bits) m g),
    (θ_run _ _ _).mono (fun _ h => ⟨h 0, h 0⟩) (Cert.VecRef.Value.run (F := Bits) m' g')⟩

end Cert.Proof.Vec

end

end
-- ==== Proof.Adam.Claims.lean ====
/-
# The weight updates: their claims

Each update is one tree of operations applied index by index: the new average of the gradient, the new average of its
square, and the change of the weight. The kernel reads it from the blocks of its grid, which fill the arrays; the
reference applies it to whole arrays with its constants spread over them. On the extended reals the kernel's division
and square root are the reference's, so the two trees are one function of the arrays.
-/
module

public import proofs.«01_k».proof.Defs
public import proofs.«01_k».proof.Proof.Gen.AdamIn
public import proofs.«01_k».proof.Proof.Gen.AdamIn.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamRet
public import proofs.«01_k».proof.Proof.Gen.AdamRet.Frame
public import proofs.«01_k».proof.Proof.Gen.AdamRetIdeal.Value
public import proofs.«01_k».proof.Proof.Gen.AdamRetRefIdeal
public import proofs.«01_k».proof.Proof.Gen.AdamRetRefIdeal.Run
public import proofs.«01_k».proof.Proof.Gen.AdamSsd
public import proofs.«01_k».proof.Proof.Gen.AdamSsd.Frame
public import proofs.«01_k».proof.Proof.Gen.AdamSsdIdeal.Value
public import proofs.«01_k».proof.Proof.Gen.AdamSsdRefIdeal
public import proofs.«01_k».proof.Proof.Gen.AdamSsdRefIdeal.Run
public import proofs.«01_k».proof.Proof.Gen.AdamSmall
public import proofs.«01_k».proof.Proof.Gen.AdamSmall.Frame
public import proofs.«01_k».proof.Proof.Gen.AdamSmallIdeal.Value
public import proofs.«01_k».proof.Proof.Gen.AdamSmallRefIdeal
public import proofs.«01_k».proof.Proof.Gen.AdamSmallRefIdeal.Run
public import Idealize.ShloMosaic.Lib.Quiescent

@[expose] public section

noncomputable section

open Idealize.ShloMosaic Idealize.ShloMosaic.TcCoe Idealize.SL.Sem

/-! ## The update of the input projection -/

namespace Cert.Proof.AdamIn

theorem frame : Cert.quiescent_AdamIn := fun m g _ => Cert.AdamIn.Gen.frame m g

theorem frame_ideal : Cert.quiescent_AdamInIdeal := fun m g _ => Cert.AdamInIdeal.Gen.frame m g

theorem frame_refIdeal : Cert.quiescent_AdamInRefIdeal := fun m g _ =>
  (θ_run _ _ _).mono (fun r h => ⟨fun c => (h c).2.2.2, sem_eq_zero_of_no_sems (by decide) r.2⟩)
    (Cert.AdamInRefIdeal.Value.run m g)

theorem algebraic : Cert.algebraic_AdamInIdeal_AdamInRefIdeal := fun m g m' g' _ hm =>
  ⟨_, _, _, Cert.AdamInIdeal.Value.run m g,
    (θ_run _ _ _).mono (fun _ h c => by
      obtain ⟨e0, e1, e2, e3⟩ := hm c
      obtain ⟨h0, h1, h2, hk⟩ := h c
      rw [e0, e1, e2, e3] at h0
      rw [e1, e2] at h1
      rw [e1, e3] at h2
      exact ⟨h0.trans rfl, h1.trans rfl, h2.trans rfl, hk⟩) (Cert.AdamInRefIdeal.Value.run m' g')⟩

end Cert.Proof.AdamIn

/-! ## The update of the retention and output projections -/

namespace Cert.Proof.AdamRet

theorem frame : Cert.quiescent_AdamRet := fun m g _ => Cert.AdamRet.Gen.frame m g

theorem frame_ideal : Cert.quiescent_AdamRetIdeal := fun m g _ => Cert.AdamRetIdeal.Gen.frame m g

theorem frame_refIdeal : Cert.quiescent_AdamRetRefIdeal := fun m g _ =>
  (θ_run _ _ _).mono (fun r h => ⟨fun c => (h c).2.2.2, sem_eq_zero_of_no_sems (by decide) r.2⟩)
    (Cert.AdamRetRefIdeal.Value.run m g)

theorem algebraic : Cert.algebraic_AdamRetIdeal_AdamRetRefIdeal := fun m g m' g' _ hm =>
  ⟨_, _, _, Cert.AdamRetIdeal.Value.run m g,
    (θ_run _ _ _).mono (fun _ h c => by
      obtain ⟨e0, e1, e2, e3⟩ := hm c
      obtain ⟨h0, h1, h2, hk⟩ := h c
      rw [e0, e1, e2, e3] at h0
      rw [e1, e2] at h1
      rw [e1, e3] at h2
      exact ⟨h0.trans rfl, h1.trans rfl, h2.trans rfl, hk⟩) (Cert.AdamRetRefIdeal.Value.run m' g')⟩

end Cert.Proof.AdamRet

/-! ## The update of the scan projection -/

namespace Cert.Proof.AdamSsd

theorem frame : Cert.quiescent_AdamSsd := fun m g _ => Cert.AdamSsd.Gen.frame m g

theorem frame_ideal : Cert.quiescent_AdamSsdIdeal := fun m g _ => Cert.AdamSsdIdeal.Gen.frame m g

theorem frame_refIdeal : Cert.quiescent_AdamSsdRefIdeal := fun m g _ =>
  (θ_run _ _ _).mono (fun r h => ⟨fun c => (h c).2.2.2, sem_eq_zero_of_no_sems (by decide) r.2⟩)
    (Cert.AdamSsdRefIdeal.Value.run m g)

theorem algebraic : Cert.algebraic_AdamSsdIdeal_AdamSsdRefIdeal := fun m g m' g' _ hm =>
  ⟨_, _, _, Cert.AdamSsdIdeal.Value.run m g,
    (θ_run _ _ _).mono (fun _ h c => by
      obtain ⟨e0, e1, e2, e3⟩ := hm c
      obtain ⟨h0, h1, h2, hk⟩ := h c
      rw [e0, e1, e2, e3] at h0
      rw [e1, e2] at h1
      rw [e1, e3] at h2
      exact ⟨h0.trans rfl, h1.trans rfl, h2.trans rfl, hk⟩) (Cert.AdamSsdRefIdeal.Value.run m' g')⟩

end Cert.Proof.AdamSsd

/-! ## The update of the small weights, laid in one row -/

namespace Cert.Proof.AdamSmall

theorem frame : Cert.quiescent_AdamSmall := fun m g _ => Cert.AdamSmall.Gen.frame m g

theorem frame_ideal : Cert.quiescent_AdamSmallIdeal := fun m g _ => Cert.AdamSmallIdeal.Gen.frame m g

theorem frame_refIdeal : Cert.quiescent_AdamSmallRefIdeal := fun m g _ =>
  (θ_run _ _ _).mono (fun r h => ⟨fun c => (h c).2.2.2, sem_eq_zero_of_no_sems (by decide) r.2⟩)
    (Cert.AdamSmallRefIdeal.Value.run m g)

theorem algebraic : Cert.algebraic_AdamSmallIdeal_AdamSmallRefIdeal := fun m g m' g' _ hm =>
  ⟨_, _, _, Cert.AdamSmallIdeal.Value.run m g,
    (θ_run _ _ _).mono (fun _ h c => by
      obtain ⟨e0, e1, e2, e3⟩ := hm c
      obtain ⟨h0, h1, h2, hk⟩ := h c
      rw [e0, e1, e2, e3] at h0
      rw [e1, e2] at h1
      rw [e1, e3] at h2
      exact ⟨h0.trans rfl, h1.trans rfl, h2.trans rfl, hk⟩) (Cert.AdamSmallRefIdeal.Value.run m' g')⟩

end Cert.Proof.AdamSmall

end

end
-- ==== Proof.Conv.Claims.lean ====
/-
# The convolution of the SSD branch: its claims

A block of 512 rows is written below the 8 rows that come before it, which the first block finds zero. A row's sum of four
products is then of the same elements as the reference's, which puts three rows of zeros before the whole array.
-/
module

public import proofs.«01_k».proof.Defs
public import proofs.«01_k».proof.Proof.Gen.Conv
public import proofs.«01_k».proof.Proof.Gen.Conv.Frame
public import proofs.«01_k».proof.Proof.Gen.ConvIdeal.Frame
public import proofs.«01_k».proof.Proof.Gen.ConvRefIdeal
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.Conv

open Idealize.ShloMosaic Idealize.ShloMosaic.TcCoe Idealize.SL.Sem

theorem frame : Cert.quiescent_Conv := fun m g _ => Cert.Conv.Gen.frame m g

theorem frame_ideal : Cert.quiescent_ConvIdeal := fun m g _ => Cert.ConvIdeal.Gen.frame m g

section
open Cert.ConvIdeal Cert.ConvIdeal.Gen

/-- Which rows and columns a point works on. -/
theorem idx : ∀ t : Fin cfg0.N, win0_0.index t = ![t.val % 16, 24 + t.val / 16] ∧ win0_1.index t = ![t.val % 16 * 64 - 1, 24 + t.val / 16]
    ∧ win0_2.index t = ![0, t.val / 16] ∧ win0_3.index t = ![0, t.val / 16] ∧ win0_4.index t = ![t.val % 16, t.val / 16] :=
  (by decide +kernel : ∀ t : Fin grid0.N, _)

/-- Row `l - 3 + k` of a column of the projection, zero before the first row. -/
def before (p : Vec Ideal S8192x22528 .f32) (l : Fin 8192) (j : Fin 6144) (k : Fin 4) : EReal :=
  if h : 3 ≤ l.val + k.val then p (ix2 ⟨l.val + k.val - 3, by omega⟩ ⟨12288 + j.val, by omega⟩) else 0

/-- The convolution, element by element. -/
def conv (p : Vec Ideal S8192x22528 .f32) (w : Vec Ideal S4x6144 .f32) (b : Vec Ideal S1x6144 .f32) : Vec Ideal S8192x6144 .f32 := fun i =>
  (((((b (ix2 0 (i 1)) : EReal) + (w (ix2 0 (i 1)) : EReal) * before p (i 0) (i 1) 0) + (w (ix2 1 (i 1)) : EReal) * before p (i 0) (i 1) 1)
    + (w (ix2 2 (i 1)) : EReal) * before p (i 0) (i 1) 2) + (w (ix2 3 (i 1)) : EReal) * before p (i 0) (i 1) 3 : EReal)

variable (m : (ℓ : Loc nD τ sig) → Buf (Elt Ideal) ℓ)

/-- The row of the array that a row of a point's block is. -/
def row (t : Fin cfg0.N) (r : Fin 512) : Fin 8192 := ⟨t.val % 16 * 512 + r.val, by omega⟩

/-- The column of the convolution that a column of a point's block is. -/
def col (t : Fin cfg0.N) (j : Fin 512) : Fin 6144 := ⟨t.val / 16 * 512 + j.val, by have := t.isLt; have : cfg0.N = 192 := rfl; omega⟩

theorem coord : ∀ t : Fin cfg0.N, (grid0.coords t 1).val = t.val % 16 := (by decide +kernel : ∀ t : Fin grid0.N, _)

theorem body_apply (c : Dev nD) (t : Fin cfg0.N) (x : S512x512.Idx) (l : Fin 8192) (h : l.val = t.val % 16 * 512 + (x 0).val)
    (j : Fin 6144) (hj : j.val = t.val / 16 * 512 + (x 1).val) :
    k0_pay3 (iblk m c 0 t) x = m ((c : Thread nD τ).loc main_arg0) (ix2 l ⟨12288 + j.val, by omega⟩) := by
  pointwise [k0_pay3]
  blk_ext [iblk, V, idx t]

theorem halo_apply (c : Dev nD) (t : Fin cfg0.N) (x : S8x512.Idx) (ht : t.val % 16 ≠ 0) (l : Fin 8192)
    (h : l.val + 8 = t.val % 16 * 512 + (x 0).val) (j : Fin 6144) (hj : j.val = t.val / 16 * 512 + (x 1).val) :
    k0_pay2 (grid0.coords t) (iblk m c 1 t) x = m ((c : Thread nD τ).loc main_arg0) (ix2 l ⟨12288 + j.val, by omega⟩) := by
  have e : Scalar.cmpi CmpIPredicate.eq (BitVec.ofNat 32 (t.val % 16)) 0#32 = 0#1 :=
    (by decide : ∀ r : Fin 16, r.val ≠ 0 → Scalar.cmpi CmpIPredicate.eq (BitVec.ofNat 32 r.val) 0#32 = 0#1)
      ⟨t.val % 16, Nat.mod_lt _ (by omega)⟩ ht
  pointwise [k0_pay2, coord t]
  rw [e]
  show iblk m c 1 t x = _
  blk_ext [iblk, V, idx t]

theorem halo_zero (c : Dev nD) (t : Fin cfg0.N) (x : S8x512.Idx) (h : t.val % 16 = 0) :
    k0_pay2 (grid0.coords t) (iblk m c 1 t) x = (0 : EReal) := by
  pointwise [k0_pay2, coord t, h]

/-- The rows a point works on below the 8 before them, read `3 - k` rows up. -/
theorem tap (c : Dev nD) (t : Fin cfg0.N) (y : S512x512.Idx) (k : Fin 4) (inb) :
    ((View.whole cc0_scratch0).readCov (Val := Elt Ideal)
      [⟨Rect.unit ![8, 0] ![512, 512] inb_S520x512_S512x512_8_0, k0_pay3 (iblk m c 0 t)⟩,
        ⟨Rect.unit ![0, 0] ![8, 512] inb_S520x512_S8x512_0_0, k0_pay2 (grid0.coords t) (iblk m c 1 t)⟩]
      (Rect.unit (s := S520x512) ![5 + k.val, 0] ![512, 512] inb).toLoadRect y : Elt Ideal .f32)
      = before (m ((c : Thread nD τ).loc main_arg0)) (row t (y 0)) (col t (y 1)) k := by
  have hy : (y 0).val < 512 := (y 0).isLt
  have hy1 : (y 1).val < 512 := (y 1).isLt
  have hk := k.isLt
  have r : (row t (y 0)).val = t.val % 16 * 512 + (y 0).val := rfl
  rw [View.readCov_eq_canon']
  have p0 : (((Rect.unit (s := S520x512) ![5 + k.val, 0] ![512, 512] inb).toLoadRect.idx y) 0).val = 5 + k.val + (y 0).val :=
    Rect.idx_unit_val _ _ inb y 0
  have p1 : (((Rect.unit (s := S520x512) ![5 + k.val, 0] ![512, 512] inb).toLoadRect.idx y) 1).val = 0 + (y 1).val :=
    Rect.idx_unit_val _ _ inb y 1
  refine View.canon_eq_of_allAt _ _ _ ?_ (View.allAt_cons_unit _ _ _ _ _ (fun x hx => ?_)
    (View.allAt_cons_unit _ _ _ _ _ (fun x hx => ?_) (View.allAt_nil _ _)))
  · by_cases h : 8 ≤ 5 + k.val + (y 0).val
    · refine ⟨_, List.mem_cons_self, (Rect.mem_set_unit (s := S520x512) (inb := inb_S520x512_S512x512_8_0)).mpr fun (a : Fin 2) => match a with
        | 0 => ⟨show 8 ≤ _ by omega, show _ < 8 + 512 by omega⟩
        | 1 => ⟨show 0 ≤ _ by omega, show _ < 0 + 512 by omega⟩⟩
    · refine ⟨_, List.mem_cons_of_mem _ List.mem_cons_self, (Rect.mem_set_unit (s := S520x512) (inb := inb_S520x512_S8x512_0_0)).mpr fun (a : Fin 2) => match a with
        | 0 => ⟨show 0 ≤ _ by omega, show _ < 0 + 8 by omega⟩
        | 1 => ⟨show 0 ≤ _ by omega, show _ < 0 + 512 by omega⟩⟩
  · have h0 : 5 + k.val + (y 0).val = 8 + (x 0).val := p0.symm.trans (hx 0)
    have h1 : 0 + (y 1).val = 0 + (x 1).val := p1.symm.trans (hx 1)
    have hb : 3 ≤ (row t (y 0)).val + k.val := by omega
    unfold before
    rw [dif_pos hb]
    exact body_apply m c t x _ (show (row t (y 0)).val + k.val - 3 = _ by omega) _ (show t.val / 16 * 512 + (y 1).val = _ by omega)
  · have h0 : 5 + k.val + (y 0).val = 0 + (x 0).val := p0.symm.trans (hx 0)
    have h1 : 0 + (y 1).val = 0 + (x 1).val := p1.symm.trans (hx 1)
    have hx0 : (x 0).val < 8 := (x 0).isLt
    unfold before
    by_cases ht : t.val % 16 = 0
    · rw [dif_neg (by omega)]
      exact halo_zero m c t x ht
    · have hb : 3 ≤ (row t (y 0)).val + k.val := by omega
      rw [dif_pos hb]
      exact halo_apply m c t x ht _ (show (row t (y 0)).val + k.val - 3 + 8 = _ by omega) _ (show t.val / 16 * 512 + (y 1).val = _ by omega)

/-- The kernel's array after the run. -/
theorem final (c : Dev nD) :
    (dats m 0 c).arrAt 4 cfg0.N = conv (m ((c : Thread nD τ).loc main_arg0)) (m ((c : Thread nD τ).loc main_arg1))
      (m ((c : Thread nD τ).loc main_arg2)) := by
  refine (dats m 0 c).arrAt_eq_of_covers 4 _ (by decide +kernel) fun t hf y => ?_
  blk_simp
  rw [after0_4]
  unfold outsAt0
  frame_out
  pointwise [k0_pay1, k0_pay4, conv]
  have a0 : (((View.whole main_v0).slice (win0_4.rect t)).emb y 0 : Fin 8192) = row t (y 0) := Fin.ext (by
    blk_simp [row, idx t])
  have a1 : (((View.whole main_v0).slice (win0_4.rect t)).emb y 1 : Fin 6144) = col t (y 1) := Fin.ext (by
    blk_simp [col, idx t])
  have b (k : Fin 4) : iblk m c 2 t (ix2 k (y 1)) = m ((c : Thread nD τ).loc main_arg1) (ix2 k (col t (y 1))) := by
    blk_ext [iblk, V, col, idx t]
  have b3 : iblk m c 3 t (ix2 0 (y 1)) = m ((c : Thread nD τ).loc main_arg2) (ix2 0 (col t (y 1))) := by
    blk_ext [iblk, V, col, idx t]
  rw [a0, a1, ← tap m c t y 0 inb_S520x512_S512x512_5_0, ← tap m c t y 1 inb_S520x512_S512x512_6_0,
    ← tap m c t y 2 inb_S520x512_S512x512_7_0, ← tap m c t y 3 inb_S520x512_S512x512_8_0, b, b, b, b, b3]
  rfl

/-- The kernel's run, with its array read. -/
theorem run (g : Dev nD → PrngReg) :
    θ_run defs (onTc (τ := τ) (main (F := Ideal))) ⟨m, fun _ => 0, g⟩ fun r => ∀ c : Dev nD,
    r.2.mem ((c : Thread nD τ).loc main_v0) = conv (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨((h.1 c).1 4).trans (final m c), h.2 c⟩) (θ_run_and (run_main m g) (unchanged m g))
end

section
open Cert.ConvRefIdeal Cert.ConvRefIdeal.Gen

/-- The two sums' orders. -/
theorem order (b w0 w1 w2 w3 x0 x1 x2 x3 : EReal) :
    x0 * w0 + x1 * w1 + x2 * w2 + x3 * w3 + b = b + w0 * x0 + w1 * x1 + w2 * x2 + w3 * x3 := by
  ac_rfl

/-- The reference's array with its three rows of zeros, read at a row of the convolution. -/
theorem padded (p : Vec Ideal S8192x22528 .f32) (h1 h2 h3) (l : Fin 8192) (j : Fin 6144) (k : Fin 4) (n : Fin 8195) (hn : n.val = k.val + l.val) :
    pad S8195x6144 ![3, 0] ![0, 0] ![0, 0] (extractStridedSlice S8192x6144 ![0, 12288] p h1)
      (sitofp (F := Ideal) FTy.f32 (constantI S_ 32 0#32)) h2 h3 (ix2 n j) = before p l j k := by
  have hk := k.isLt
  have hl := l.isLt
  have hj := j.isLt
  rw [pad_apply]
  unfold before
  by_cases h : 3 ≤ l.val + k.val
  · rw [dif_pos h, dif_pos (fun (a : Fin 2) => match a with
      | 0 => ⟨show 3 ≤ n.val by omega, show (n.val - 3) % 1 = 0 by omega, show (n.val - 3) / 1 < 8192 by omega⟩
      | 1 => ⟨show 0 ≤ j.val by omega, show (j.val - 0) % 1 = 0 by omega, show (j.val - 0) / 1 < 6144 by omega⟩)]
    pointwise
    refine congrArg p (funext fun (a : Fin 2) => Fin.ext (match a with
      | 0 => show n.val - 3 = l.val + k.val - 3 by omega
      | 1 => rfl))
  · rw [dif_neg h, dif_neg (fun g => by have : 3 ≤ n.val := (g (0 : Fin 2)).1; omega)]
    pointwise
    show ((((0#32 : BitVec 32).toInt : ℝ)) : EReal) = 0
    simp

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c : Thread nD τ).loc main_v24) = conv (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (StableHlo.run_hlo _ _ (by hlo_seq) (by decide) (by decide) (by simp)
      (by intro _ h; (repeat (cases h with | head => rfl | tail _ h => ?_)); exact nomatch h) _ _) fun r h c =>
    ⟨(h c main_v24).trans (by
      after_results_simp_entrywise
      simp only [StableHlo.TRef.toBuf, StableHlo.TRef.ofBuf, cast_eq]
      generalize hp : pad _ _ _ _ _ _ _ _ = q
      funext i
      pointwise [conv]
      rw [← hp, padded _ _ _ _ (i 0) (i 1) 0 ⟨(i 0).val, _⟩ (Nat.zero_add _).symm, padded _ _ _ _ (i 0) (i 1) 1 ⟨1 + (i 0).val, _⟩ rfl,
        padded _ _ _ _ (i 0) (i 1) 2 ⟨2 + (i 0).val, _⟩ rfl, padded _ _ _ _ (i 0) (i 1) 3 ⟨3 + (i 0).val, _⟩ rfl]
      exact order ..),
    (h c main_arg0).trans (by after_results_simp_entrywise), (h c main_arg1).trans (by after_results_simp_entrywise), (h c main_arg2).trans (by after_results_simp_entrywise)⟩
end

theorem frame_refIdeal : Cert.quiescent_ConvRefIdeal := fun m g _ =>
  (θ_run _ _ _).mono (fun r h => ⟨fun c => (h c).2, sem_eq_zero_of_no_sems (by decide) r.2⟩) (run_ref m g)

theorem algebraic : Cert.algebraic_ConvIdeal_ConvRefIdeal := fun m g m' g' _ hm =>
  ⟨_, run m g, (θ_run _ _ _).mono (fun _ h c => ⟨(h c).1.trans (by
    obtain ⟨e0, e1, e2⟩ := hm c
    rw [← e0, ← e1, ← e2]), (h c).2⟩) (run_ref m' g')⟩

end Cert.Proof.Conv

end

end
-- ==== Proof.Dt.Claims.lean ====
/-
# The steps of the SSD recurrence: their claims

A block of 512 rows is worked on in eight pieces of 64. The softplus and its derivative are taken element by element; the
steps' exponents are summed up to each row of a piece by a product with a lower triangle of ones, as the reference does.
-/
module

public import proofs.«01_k».proof.Defs
public import proofs.«01_k».proof.Proof.Gen.Dt
public import proofs.«01_k».proof.Proof.Gen.Dt.Frame
public import proofs.«01_k».proof.Proof.Gen.DtIdeal.Frame
public import proofs.«01_k».proof.Proof.Gen.DtRefIdeal
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.Dt

open Idealize.ShloMosaic Idealize.ShloMosaic.TcCoe Idealize.SL.Sem

theorem frame : Cert.quiescent_Dt := fun m g _ => Cert.Dt.Gen.frame m g

theorem frame_ideal : Cert.quiescent_DtIdeal := fun m g _ => Cert.DtIdeal.Gen.frame m g

section
open Cert.DtIdeal Cert.DtIdeal.Gen

/-- The softplus of every element, as the kernel writes it. -/
def soft {s : Shape} (v : FVec Ideal s .f32) : FVec Ideal s .f32 :=
  let z : FVec Ideal s .f32 := broadcast s (Scalar.ofBits (F := Ideal) .f32 0x00000000#32)
  select (cmpf .one (subf v z) (subf v z)) (addf v z) (addf (maximumf v z) (log1p (exp (subf z (absf (subf v z))))))

/-- 64 rows of a projection with the bias added. -/
def raw (x : Vec Ideal S64x128 .f32) (b : Vec Ideal S1x128 .f32) : FVec Ideal S64x128 .f32 :=
  addf x (broadcastTo S64x128 b broadcasts_S1x128_S64x128)

/-- The exponents of 64 rows, each with those of the rows before it. -/
def upTo (x : Vec Ideal S64x128 .f32) (b a : Vec Ideal S1x128 .f32) : FVec Ideal S64x128 .f32 :=
  matmul dot_S64x64_S64x128_S64x128_1_0_0_1_n_n (some .fp32) (k0_pay5 (F := Ideal))
    (mulf (soft (raw x b)) (broadcastTo S64x128 (k0_pay6 a) broadcasts_S1x128_S64x128)) (constant S64x128 .f32 0x00000000#32)

/-- The softplus of a number. -/
def softE (t : EReal) : EReal := max t 0 + Ideal.log1p (Ideal.exp (-FloatOps.absf (F := Ideal) (φ := .f32) t))

theorem soft_apply (x : Vec Ideal S64x128 .f32) (b z) : soft (raw x b) (z : S64x128.Idx) = softE ((x z : EReal) + (b (ix2 0 (z 1)) : EReal)) := by
  pointwise [soft, raw]
  rw [if_neg (not_not.mpr rfl), zero_sub]
  rfl

theorem logistic_apply (x : Vec Ideal S64x128 .f32) (b z) :
    logistic (raw x b) (z : S64x128.Idx) = Ideal.logistic ((x z : EReal) + (b (ix2 0 (z 1)) : EReal)) := by
  pointwise [raw]

/-- The comparison of two of 64 rows. -/
theorem after (l s : Fin 64) : IntOp.cmpi CmpIPredicate.sge (BitVec.ofNat 32 l.val) (BitVec.ofNat 32 s.val) = if s.val ≤ l.val then 1#1 else 0#1 := by
  revert l s
  decide +kernel

theorem upTo_apply (x : Vec Ideal S64x128 .f32) (b a z) : upTo x b a (z : S64x128.Idx) = ∑ s : Fin 64, if s.val ≤ (z 0).val
    then softE ((x (ix2 s (z 1)) : EReal) + (b (ix2 0 (z 1)) : EReal)) * -Ideal.exp (a (ix2 0 (z 1)) : EReal) else 0 := by
  pointwise [soft, raw, upTo, k0_pay5, k0_pay6]
  refine Finset.sum_congr rfl fun s _ => ?_
  rw [if_neg (not_not.mpr rfl), zero_sub, zero_sub, after (z 0) s]
  by_cases h : s.val ≤ (z 0).val
  · rw [if_pos h, if_pos h]
    show ((((1#32 : BitVec 32).toInt : ℝ)) : EReal) * _ = _
    simp [softE]
  · rw [if_neg h, if_neg h]
    show ((((0#32 : BitVec 32).toInt : ℝ)) : EReal) * _ = _
    simp

/-- The 64 rows that a row of a block is among. -/
def piece (x : Vec Ideal S512x128 .f32) (n : Fin 8) : Vec Ideal S64x128 .f32 := fun z => x (ix2 ⟨64 * n.val + (z 0).val, by
  have : (z 0).val < 64 := (z 0).isLt
  omega⟩ (z 1))

theorem at_piece (x : Vec Ideal S512x128 .f32) (G : Vec Ideal S64x128 .f32 → FVec Ideal S64x128 .f32) (y : S512x128.Idx) (n : Fin 8) (inb)
    (z : S64x128.Idx) (hz : ∀ a, (y a).val = (![64 * n.val, 0] : Fin 2 → Nat) a + (z a).val) :
    G (View.ld x (Rect.unit (s := S512x128) ![64 * n.val, 0] S64x128.size inb)) z
      = G (piece x ⟨(y 0).val / 64, by have : (y 0).val < 512 := (y 0).isLt; omega⟩)
        (ix2 ⟨(y 0).val % 64, Nat.mod_lt _ (by omega)⟩ (y 1)) := by
  have h0 : (y 0).val = 64 * n.val + (z 0).val := hz 0
  have h1 : (y 1).val = 0 + (z 1).val := hz 1
  have hz0 : (z 0).val < 64 := (z 0).isLt
  have e : View.ld x (Rect.unit (s := S512x128) ![64 * n.val, 0] S64x128.size inb) = piece x n := by
    funext w
    refine congrArg x (funext fun (a : Fin 2) => Fin.ext (match a with
      | 0 => show 64 * n.val + 1 * (w 0).val = 64 * n.val + (w 0).val by omega
      | 1 => show 0 + 1 * (w 1).val = (w 1).val by omega))
  rw [e]
  refine congrArg₂ (fun p q => G (piece x p) q) (Fin.ext (show n.val = (y 0).val / 64 by omega)) ?_
  exact funext fun (a : Fin 2) => Fin.ext (match a with
    | 0 => show (z 0).val = (y 0).val % 64 by omega
    | 1 => show (z 1).val = (y 1).val by omega)

/-- A block written in eight pieces, each from the same rows. -/
theorem rows (x : Vec Ideal S512x128 .f32) (G : Vec Ideal S64x128 .f32 → FVec Ideal S64x128 .f32) (y : S512x128.Idx) :
    View.canon (Val := Elt Ideal) (e := .f32) [⟨r0_8, G (View.ld x r0_8)⟩, ⟨r0_7, G (View.ld x r0_7)⟩, ⟨r0_6, G (View.ld x r0_6)⟩,
      ⟨r0_5, G (View.ld x r0_5)⟩, ⟨r0_4, G (View.ld x r0_4)⟩, ⟨r0_3, G (View.ld x r0_3)⟩, ⟨r0_2, G (View.ld x r0_2)⟩, ⟨r0_1, G (View.ld x r0_1)⟩] y
      = G (piece x ⟨(y 0).val / 64, by have : (y 0).val < 512 := (y 0).isLt; omega⟩)
        (ix2 ⟨(y 0).val % 64, Nat.mod_lt _ (by omega)⟩ (y 1)) :=
  View.canon_eq_of_allAt _ _ _ (cover0_3 _ _ _ _ _ _ _ _ y)
    (View.allAt_cons_unit _ _ _ _ _ (fun z hz => at_piece x G y 7 _ z hz) (View.allAt_cons_unit _ _ _ _ _ (fun z hz => at_piece x G y 6 _ z hz)
    (View.allAt_cons_unit _ _ _ _ _ (fun z hz => at_piece x G y 5 _ z hz) (View.allAt_cons_unit _ _ _ _ _ (fun z hz => at_piece x G y 4 _ z hz)
    (View.allAt_cons_unit _ _ _ _ _ (fun z hz => at_piece x G y 3 _ z hz) (View.allAt_cons_unit _ _ _ _ _ (fun z hz => at_piece x G y 2 _ z hz)
    (View.allAt_cons_unit _ _ _ _ _ (fun z hz => at_piece x G y 1 _ z hz) (View.allAt_cons_unit _ _ _ _ _ (fun z hz => at_piece x G y 0 _ z hz)
    (View.allAt_nil _ _)))))))))

/-- The row of the array that a row of a point's block is. -/
def row (t : Fin cfg0.N) (r : Nat) (h : r < 512) : Fin 8192 := ⟨t.val * 512 + r, by have := t.isLt; have : cfg0.N = 16 := rfl; omega⟩

theorem idx : ∀ t : Fin cfg0.N, win0_0.index t = ![t.val, 0] ∧ win0_1.index t = ![0, 0]
    ∧ win0_2.index t = ![0, 0] ∧ win0_3.index t = ![t.val, 0] ∧ win0_4.index t = ![t.val, 0] ∧ win0_5.index t = ![t.val, 0] :=
  (by decide +kernel : ∀ t : Fin grid0.N, _)

/-- The steps. -/
def dt (x : Vec Ideal S8192x128 .f32) (b : Vec Ideal S1x128 .f32) : Vec Ideal S8192x128 .f32 := fun i =>
  softE ((x i : EReal) + (b (ix2 0 (i 1)) : EReal))

/-- Their derivative. -/
def slope (x : Vec Ideal S8192x128 .f32) (b : Vec Ideal S1x128 .f32) : Vec Ideal S8192x128 .f32 := fun i =>
  Ideal.logistic ((x i : EReal) + (b (ix2 0 (i 1)) : EReal))

/-- The steps' exponents, summed from the first row of a piece of 64. -/
def sums (x : Vec Ideal S8192x128 .f32) (b a : Vec Ideal S1x128 .f32) : Vec Ideal S8192x128 .f32 := fun i =>
  ∑ s : Fin 64, if s.val ≤ (i 0).val % 64
    then softE ((x (ix2 ⟨(i 0).val / 64 * 64 + s.val, by have : (i 0).val < 8192 := (i 0).isLt; omega⟩ (i 1)) : EReal)
      + (b (ix2 0 (i 1)) : EReal)) * -Ideal.exp (a (ix2 0 (i 1)) : EReal) else (0 : EReal)

variable (m : (ℓ : Loc nD τ sig) → Buf (Elt Ideal) ℓ)

theorem piece_apply (c : Dev nD) (t : Fin cfg0.N) (n : Fin 8) (s : Fin 64) (j : Fin 128) :
    piece (iblk m c 0 t) n (ix2 s j) = m ((c : Thread nD τ).loc main_arg0) (ix2 (row t (64 * n.val + s.val) (by omega)) j) := by
  unfold piece
  blk_ext [iblk, V, row, idx t]

theorem bias_apply (c : Dev nD) (t : Fin cfg0.N) (j : Fin 128) :
    View.ld (iblk m c 1 t) r0_0 (ix2 0 j) = m ((c : Thread nD τ).loc main_arg1) (ix2 0 j) := by
  refine Eq.trans (b := iblk m c 1 t (ix2 0 j)) (congrArg (iblk m c 1 t) (funext fun (a : Fin 2) => Fin.ext (match a with
    | 0 => rfl
    | 1 => show 0 + 1 * j.val = j.val by omega))) ?_
  blk_ext [iblk, V, idx t]

theorem decay_apply (c : Dev nD) (t : Fin cfg0.N) (j : Fin 128) :
    View.ld (iblk m c 2 t) r0_0 (ix2 0 j) = m ((c : Thread nD τ).loc main_arg2) (ix2 0 j) := by
  refine Eq.trans (b := iblk m c 2 t (ix2 0 j)) (congrArg (iblk m c 2 t) (funext fun (a : Fin 2) => Fin.ext (match a with
    | 0 => rfl
    | 1 => show 0 + 1 * j.val = j.val by omega))) ?_
  blk_ext [iblk, V, idx t]

/-- A row of a block is the row its piece and its place there make. -/
theorem row_split (t : Fin cfg0.N) (r : Fin 512) (j : Fin 128) :
    row t (64 * (r.val / 64) + r.val % 64) (by omega) = row t r.val r.isLt := by
  unfold row
  exact Fin.ext (show t.val * 512 + (64 * (r.val / 64) + r.val % 64) = t.val * 512 + r.val by omega)

theorem final3 (c : Dev nD) :
    (dats m 0 c).arrAt 3 cfg0.N = dt (m ((c : Thread nD τ).loc main_arg0)) (m ((c : Thread nD τ).loc main_arg1)) := by
  refine (dats m 0 c).arrAt_eq_of_covers 3 _ (by decide +kernel) fun t hf y => ?_
  blk_simp
  rw [after0_3]
  unfold_out out0_3
  refine (rows _ (fun v => soft (raw v (View.ld (iblk m c 1 t) r0_0))) y).trans ?_
  have e : (win0_3.blk t).view.emb y = ix2 (row t (y 0).val (y 0).isLt) (y 1) := by
    blk_ext [row, idx t]
  rw [soft_apply, e]
  refine congrArg softE (congrArg₂ (fun p q : EReal => p + q) ((piece_apply m c t _ _ _).trans ?_) (bias_apply m c t _))
  exact congrArg (fun r => m ((c : Thread nD τ).loc main_arg0) (ix2 r (y 1))) (row_split t (y 0) (y 1))

theorem final4 (c : Dev nD) :
    (dats m 0 c).arrAt 4 cfg0.N = slope (m ((c : Thread nD τ).loc main_arg0)) (m ((c : Thread nD τ).loc main_arg1)) := by
  refine (dats m 0 c).arrAt_eq_of_covers 4 _ (by decide +kernel) fun t hf y => ?_
  blk_simp
  rw [after0_4]
  unfold_out out0_4
  refine (rows _ (fun v => logistic (raw v (View.ld (iblk m c 1 t) r0_0))) y).trans ?_
  have e : (win0_4.blk t).view.emb y = ix2 (row t (y 0).val (y 0).isLt) (y 1) := by
    blk_ext [row, idx t]
  rw [logistic_apply, e]
  refine congrArg Ideal.logistic (congrArg₂ (fun p q : EReal => p + q) ((piece_apply m c t _ _ _).trans ?_) (bias_apply m c t _))
  exact congrArg (fun r => m ((c : Thread nD τ).loc main_arg0) (ix2 r (y 1))) (row_split t (y 0) (y 1))

theorem final5 (c : Dev nD) :
    (dats m 0 c).arrAt 5 cfg0.N = sums (m ((c : Thread nD τ).loc main_arg0)) (m ((c : Thread nD τ).loc main_arg1))
      (m ((c : Thread nD τ).loc main_arg2)) := by
  refine (dats m 0 c).arrAt_eq_of_covers 5 _ (by decide +kernel) fun t hf y => ?_
  blk_simp
  rw [after0_5]
  unfold_out out0_5
  refine (rows _ (fun v => upTo v (View.ld (iblk m c 1 t) r0_0) (View.ld (iblk m c 2 t) r0_0)) y).trans ?_
  have e : (win0_5.blk t).view.emb y = ix2 (row t (y 0).val (y 0).isLt) (y 1) := by
    blk_ext [row, idx t]
  have hy : (y 0).val < 512 := (y 0).isLt
  rw [upTo_apply, e]
  unfold sums
  refine Finset.sum_congr rfl fun s _ => ?_
  have h : (row t (y 0).val (y 0).isLt).val % 64 = (y 0).val % 64 := by
    show (t.val * 512 + (y 0).val) % 64 = _
    omega
  refine if_congr (iff_of_eq (congrArg (fun n => s.val ≤ n) h.symm)) (congrArg₂ (fun p q : EReal => softE p * -Ideal.exp q)
    (congrArg₂ (fun p q : EReal => p + q) ((piece_apply m c t _ s _).trans ?_) (bias_apply m c t _)) (decay_apply m c t _)) rfl
  refine congrArg (fun r => m ((c : Thread nD τ).loc main_arg0) (ix2 r (y 1))) (Fin.ext ?_)
  show t.val * 512 + (64 * ((y 0).val / 64) + s.val) = (t.val * 512 + (y 0).val) / 64 * 64 + s.val
  omega

/-- The kernel's run, with its arrays read. -/
theorem run (g : Dev nD → PrngReg) :
    θ_run defs (onTc (τ := τ) (main (F := Ideal))) ⟨m, fun _ => 0, g⟩ fun r => ∀ c : Dev nD,
    r.2.mem ((c : Thread nD τ).loc main_v0_0) = dt (m ((c : Thread nD τ).loc main_arg0)) (m ((c : Thread nD τ).loc main_arg1))
      ∧ r.2.mem ((c : Thread nD τ).loc main_v0_1) = slope (m ((c : Thread nD τ).loc main_arg0)) (m ((c : Thread nD τ).loc main_arg1))
      ∧ r.2.mem ((c : Thread nD τ).loc main_v0_2) = sums (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨((h.1 c).1 3).trans (final3 m c), ((h.1 c).1 4).trans (final4 m c), ((h.1 c).1 5).trans (final5 m c), h.2 c⟩)
    (θ_run_and (run_main m g) (unchanged m g))

end

section
open Cert.DtRefIdeal Cert.DtRefIdeal.Gen

/-- A term of the reference's sum. -/
theorem term (s l : Fin 64) (t e : EReal) :
    Scalar.select (IntOp.cmpi CmpIPredicate.sge (IntOp.addi (BitVec.ofNat 32 l.val) 0#32) (BitVec.ofNat 32 s.val))
      ((if t ≠ t then t else max t 0 + Ideal.log1p (Ideal.exp (-FloatOps.absf (F := Ideal) (φ := .f32) t))) * e) (0 : EReal)
      = if s.val ≤ l.val then softE t * e else 0 := by
  have h : IntOp.addi (BitVec.ofNat 32 l.val) 0#32 = BitVec.ofNat 32 l.val := BitVec.add_zero _
  rw [if_neg (not_not.mpr rfl), h, after l s]
  by_cases hs : s.val ≤ l.val
  · rw [if_pos hs, if_pos hs]
    rfl
  · rw [if_neg hs, if_neg hs]
    rfl

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c : Thread nD τ).loc main_v2) = dt (m ((c : Thread nD τ).loc main_arg0)) (m ((c : Thread nD τ).loc main_arg1))
      ∧ r.2.mem ((c : Thread nD τ).loc main_v15) = slope (m ((c : Thread nD τ).loc main_arg0)) (m ((c : Thread nD τ).loc main_arg1))
      ∧ r.2.mem ((c : Thread nD τ).loc main_v18) = sums (m ((c : Thread nD τ).loc main_arg0)) (m ((c : Thread nD τ).loc main_arg1))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (StableHlo.run_hlo _ _ (by hlo_seq) (by decide) (by decide) (by simp)
      (by intro _ h; (repeat (cases h with | head => rfl | tail _ h => ?_)); exact nomatch h) _ _) fun r h c =>
    ⟨(h c main_v2).trans (by
      after_results_simp_entrywise
      simp only [StableHlo.TRef.toBuf, StableHlo.TRef.ofBuf, cast_eq]
      funext i
      pointwise
      rw [if_neg (not_not.mpr rfl)]
      rfl),
    (h c main_v15).trans (by
      after_results_simp_entrywise
      funext i
      pointwise
      rfl),
    (h c main_v18).trans (by
      after_results_simp_entrywise
      simp only [StableHlo.TRef.toBuf, StableHlo.TRef.ofBuf, cast_eq]
      funext i
      pointwise [sums]
      exact Finset.sum_congr (M := EReal) rfl fun s _ => term s ⟨(i 0).val % 64, Nat.mod_lt _ (by omega)⟩ _ _),
    (h c main_arg0).trans (by after_results_simp_entrywise), (h c main_arg1).trans (by after_results_simp_entrywise), (h c main_arg2).trans (by after_results_simp_entrywise)⟩
end

theorem frame_refIdeal : Cert.quiescent_DtRefIdeal := fun m g _ =>
  (θ_run _ _ _).mono (fun r h => ⟨fun c => (h c).2.2.2, sem_eq_zero_of_no_sems (by decide) r.2⟩) (run_ref m g)

theorem algebraic : Cert.algebraic_DtIdeal_DtRefIdeal := fun m g m' g' _ hm =>
  ⟨_, _, _, run m g, (θ_run _ _ _).mono (fun _ h c => by
    obtain ⟨e0, e1, e2⟩ := hm c
    obtain ⟨h2, h15, h18, k⟩ := h c
    rw [e0, e1] at h2 h15
    rw [e0, e1, e2] at h18
    exact ⟨h2, h15, h18, k⟩) (run_ref m' g')⟩

end Cert.Proof.Dt

end

end
-- ==== Proof.ConvBack.Claims.lean ====
/-
# The backward pass of the convolution on the SSD branch's values: its claims

A block of 512 rows of the derivative is written above the 8 rows that come after it, which the last block finds zero,
and the block of the convolution's own rows below the 8 before them. A point writes its rows' derivatives and adds its
rows' parts of the derivatives by the weights and by the bias to what it keeps from point to point.
-/
module

public import proofs.«01_k».proof.Defs
public import proofs.«01_k».proof.Proof.Gen.ConvB
public import proofs.«01_k».proof.Proof.Gen.ConvB.Frame
public import proofs.«01_k».proof.Proof.Gen.ConvBIdeal.Frame
public import proofs.«01_k».proof.Proof.Gen.ConvBRefIdeal
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.ConvB

open Idealize.ShloMosaic Idealize.ShloMosaic.TcCoe Idealize.SL.Sem

theorem frame : Cert.quiescent_ConvB := fun m g _ => Cert.ConvB.Gen.frame m g

theorem frame_ideal : Cert.quiescent_ConvBIdeal := fun m g _ => Cert.ConvBIdeal.Gen.frame m g

section
open Cert.ConvBIdeal Cert.ConvBIdeal.Gen

/-- Which rows and columns a point works on. -/
theorem idx : ∀ t : Fin cfg0.N, win0_0.index t = ![t.val % 16, t.val / 16] ∧ win0_1.index t = ![min (t.val % 16 * 64 + 64) 1023, t.val / 16]
    ∧ win0_2.index t = ![t.val % 16, 24 + t.val / 16] ∧ win0_3.index t = ![t.val % 16 * 64 - 1, 24 + t.val / 16]
    ∧ win0_4.index t = ![0, t.val / 16] ∧ win0_5.index t = ![t.val % 16, t.val / 16] ∧ win0_6.index t = ![0, t.val / 16]
    ∧ win0_7.index t = ![0, t.val / 16] :=
  (by decide +kernel : ∀ t : Fin grid0.N, _)

/-- Row `l - 3 + k` of a column of the projection, zero before the first row. -/
def before (p : Vec Ideal S8192x22528 .f32) (j : Fin 4096) (k : Fin 4) (l : Fin 8192) : EReal :=
  if h : 3 ≤ l.val + k.val then p (ix2 ⟨l.val + k.val - 3, by omega⟩ ⟨12288 + j.val, by omega⟩) else 0

/-- Row `l + k` of a column of the derivative, zero after the last row. -/
def later (d : Vec Ideal S8192x4096 .f32) (j : Fin 4096) (k : Fin 4) (l : Fin 8192) : EReal :=
  if h : l.val + k.val < 8192 then d (ix2 ⟨l.val + k.val, h⟩ j) else 0

/-- The weights' column for a column of the derivative. -/
def wide (j : Fin 4096) : Fin 6144 := ⟨j.val, by omega⟩

/-- The derivative by the convolution's rows, element by element. -/
def rows (d : Vec Ideal S8192x4096 .f32) (w : Vec Ideal S4x6144 .f32) : Vec Ideal S8192x4096 .bf16 := fun i =>
  (((((w (ix2 3 (wide (i 1))) : EReal) * (d (ix2 (i 0) (i 1)) : EReal)) + (w (ix2 0 (wide (i 1))) : EReal) * later d (i 1) 3 (i 0))
    + (w (ix2 1 (wide (i 1))) : EReal) * later d (i 1) 2 (i 0)) + (w (ix2 2 (wide (i 1))) : EReal) * later d (i 1) 1 (i 0) : EReal)

/-- One row's part of the derivative by a weight. -/
def part (d : Vec Ideal S8192x4096 .f32) (p : Vec Ideal S8192x22528 .f32) (j : Fin 4096) (k : Fin 4) (l : Fin 8192) : EReal :=
  (d (ix2 l j) : EReal) * before p j k l

/-- The derivative by the weights. -/
def weights (d : Vec Ideal S8192x4096 .f32) (p : Vec Ideal S8192x22528 .f32) : Vec Ideal S4x4096 .f32 := fun i =>
  ∑ l : Fin 8192, part d p (i 1) (i 0) l

/-- The derivative by the bias. -/
def bias (d : Vec Ideal S8192x4096 .f32) : Vec Ideal S1x4096 .f32 := fun i => ∑ l : Fin 8192, (d (ix2 l (i 1)) : EReal)

variable (m : (ℓ : Loc nD τ sig) → Buf (Elt Ideal) ℓ)

/-- The row of the arrays that a row of a point's block is. -/
def row (t : Fin cfg0.N) (r : Fin 512) : Fin 8192 := ⟨t.val % 16 * 512 + r.val, by omega⟩

/-- The column that a column of a point's block is. -/
def col (t : Fin cfg0.N) (j : Fin 512) : Fin 4096 := ⟨t.val / 16 * 512 + j.val, by have := t.isLt; have : cfg0.N = 128 := rfl; omega⟩

theorem coord : ∀ t : Fin cfg0.N, (grid0.coords t 1).val = t.val % 16 := (by decide +kernel : ∀ t : Fin grid0.N, _)

/-- What a point finds of the derivative. -/
theorem d_apply (c : Dev nD) (t : Fin cfg0.N) (r j : Fin 512) :
    (iblk m c 0 t (ix2 r j) : EReal) = m ((c : Thread nD τ).loc main_arg0) (ix2 (row t r) (col t j)) := by
  blk_ext [iblk, V, row, col, idx t]

theorem w_apply (c : Dev nD) (t : Fin cfg0.N) (k : Fin 4) (j : Fin 512) :
    (iblk m c 4 t (ix2 k j) : EReal) = m ((c : Thread nD τ).loc main_arg2) (ix2 k (wide (col t j))) := by
  blk_ext [iblk, V, idx t, wide, col]

theorem under_apply (c : Dev nD) (t : Fin cfg0.N) (x : S8x512.Idx) (ht : t.val % 16 ≠ 15) (l : Fin 8192)
    (h : l.val = t.val % 16 * 512 + 512 + (x 0).val) (j : Fin 4096) (hj : j.val = t.val / 16 * 512 + (x 1).val) :
    k0_pay7 (grid0.coords t) (iblk m c 1 t) x = m ((c : Thread nD τ).loc main_arg0) (ix2 l j) := by
  have e : Scalar.cmpi CmpIPredicate.eq (BitVec.ofNat 32 (t.val % 16)) 15#32 = 0#1 :=
    (by decide : ∀ r : Fin 16, r.val ≠ 15 → Scalar.cmpi CmpIPredicate.eq (BitVec.ofNat 32 r.val) 15#32 = 0#1)
      ⟨t.val % 16, Nat.mod_lt _ (by omega)⟩ ht
  have e' : min (t.val % 16 * 64 + 64) 1023 = t.val % 16 * 64 + 64 := by omega
  pointwise [k0_pay7, coord t]
  rw [e]
  show iblk m c 1 t x = _
  blk_ext [iblk, V, idx t, e']

theorem under_zero (c : Dev nD) (t : Fin cfg0.N) (x : S8x512.Idx) (h : t.val % 16 = 15) :
    k0_pay7 (grid0.coords t) (iblk m c 1 t) x = (0 : EReal) := by
  pointwise [k0_pay7, coord t, h]

theorem body_apply (c : Dev nD) (t : Fin cfg0.N) (x : S512x512.Idx) (l : Fin 8192) (h : l.val = t.val % 16 * 512 + (x 0).val)
    (j : Fin 4096) (hj : j.val = t.val / 16 * 512 + (x 1).val) :
    k0_pay9 (iblk m c 2 t) x = m ((c : Thread nD τ).loc main_arg1) (ix2 l ⟨12288 + j.val, by omega⟩) := by
  pointwise [k0_pay9]
  blk_ext [iblk, V, idx t]

theorem over_apply (c : Dev nD) (t : Fin cfg0.N) (x : S8x512.Idx) (ht : t.val % 16 ≠ 0) (l : Fin 8192)
    (h : l.val + 8 = t.val % 16 * 512 + (x 0).val) (j : Fin 4096) (hj : j.val = t.val / 16 * 512 + (x 1).val) :
    k0_pay8 (grid0.coords t) (iblk m c 3 t) x = m ((c : Thread nD τ).loc main_arg1) (ix2 l ⟨12288 + j.val, by omega⟩) := by
  have e : Scalar.cmpi CmpIPredicate.eq (BitVec.ofNat 32 (t.val % 16)) 0#32 = 0#1 :=
    (by decide : ∀ r : Fin 16, r.val ≠ 0 → Scalar.cmpi CmpIPredicate.eq (BitVec.ofNat 32 r.val) 0#32 = 0#1)
      ⟨t.val % 16, Nat.mod_lt _ (by omega)⟩ ht
  pointwise [k0_pay8, coord t]
  rw [e]
  show iblk m c 3 t x = _
  blk_ext [iblk, V, idx t]

theorem over_zero (c : Dev nD) (t : Fin cfg0.N) (x : S8x512.Idx) (h : t.val % 16 = 0) :
    k0_pay8 (grid0.coords t) (iblk m c 3 t) x = (0 : EReal) := by
  pointwise [k0_pay8, coord t, h]

/-- The derivative's rows with the 8 after them, read `k` rows down. -/
theorem down (c : Dev nD) (t : Fin cfg0.N) (y : S512x512.Idx) (k : Fin 4) (inb) :
    ((View.whole cc0_scratch0).readCov (Val := Elt Ideal)
      [⟨Rect.unit ![512, 0] ![8, 512] inb_S520x512_S8x512_512_0, k0_pay7 (grid0.coords t) (iblk m c 1 t)⟩,
        ⟨Rect.unit ![0, 0] ![512, 512] inb_S520x512_S512x512_0_0, k0_pay6 (iblk m c 0 t)⟩]
      (Rect.unit (s := S520x512) ![k.val, 0] ![512, 512] inb).toLoadRect y : Elt Ideal .f32)
      = later (m ((c : Thread nD τ).loc main_arg0)) (col t (y 1)) k (row t (y 0)) := by
  have hy : (y 0).val < 512 := (y 0).isLt
  have hy1 : (y 1).val < 512 := (y 1).isLt
  have hk := k.isLt
  have hN : t.val < 128 := t.isLt
  have r : (row t (y 0)).val = t.val % 16 * 512 + (y 0).val := rfl
  rw [View.readCov_eq_canon']
  have p0 : (((Rect.unit (s := S520x512) ![k.val, 0] ![512, 512] inb).toLoadRect.idx y) 0).val = k.val + (y 0).val :=
    Rect.idx_unit_val _ _ inb y 0
  have p1 : (((Rect.unit (s := S520x512) ![k.val, 0] ![512, 512] inb).toLoadRect.idx y) 1).val = 0 + (y 1).val :=
    Rect.idx_unit_val _ _ inb y 1
  refine View.canon_eq_of_allAt _ _ _ ?_ (View.allAt_cons_unit _ _ _ _ _ (fun x hx => ?_)
    (View.allAt_cons_unit _ _ _ _ _ (fun x hx => ?_) (View.allAt_nil _ _)))
  · by_cases h : 512 ≤ k.val + (y 0).val
    · refine ⟨_, List.mem_cons_self, (Rect.mem_set_unit (s := S520x512) (inb := inb_S520x512_S8x512_512_0)).mpr fun (a : Fin 2) => match a with
        | 0 => ⟨show 512 ≤ _ by omega, show _ < 512 + 8 by omega⟩
        | 1 => ⟨show 0 ≤ _ by omega, show _ < 0 + 512 by omega⟩⟩
    · refine ⟨_, List.mem_cons_of_mem _ List.mem_cons_self, (Rect.mem_set_unit (s := S520x512) (inb := inb_S520x512_S512x512_0_0)).mpr fun (a : Fin 2) => match a with
        | 0 => ⟨show 0 ≤ _ by omega, show _ < 0 + 512 by omega⟩
        | 1 => ⟨show 0 ≤ _ by omega, show _ < 0 + 512 by omega⟩⟩
  · have h0 : k.val + (y 0).val = 512 + (x 0).val := p0.symm.trans (hx 0)
    have h1 : 0 + (y 1).val = 0 + (x 1).val := p1.symm.trans (hx 1)
    unfold later
    by_cases ht : t.val % 16 = 15
    · rw [dif_neg (by omega)]
      exact under_zero m c t x ht
    · have hb : (row t (y 0)).val + k.val < 8192 := by omega
      rw [dif_pos hb]
      exact under_apply m c t x ht _ (show (row t (y 0)).val + k.val = _ by omega) _ (show t.val / 16 * 512 + (y 1).val = _ by omega)
  · have h0 : k.val + (y 0).val = 0 + (x 0).val := p0.symm.trans (hx 0)
    have h1 : 0 + (y 1).val = 0 + (x 1).val := p1.symm.trans (hx 1)
    have hx0 : (x 0).val < 512 := (x 0).isLt
    have hb : (row t (y 0)).val + k.val < 8192 := by omega
    unfold later
    rw [dif_pos hb]
    obtain ⟨a, b, rfl⟩ : ∃ a b, x = ix2 a b := ⟨x 0, x 1, eq_ix2 x⟩
    pointwise [k0_pay6]
    refine (d_apply m c t a b).trans (congrArg _ ?_)
    refine funext fun (i : Fin 2) => Fin.ext (match i with
      | 0 => show t.val % 16 * 512 + a.val = (row t (y 0)).val + k.val from ?_
      | 1 => show t.val / 16 * 512 + b.val = t.val / 16 * 512 + (y 1).val from ?_)
    · have : k.val + (y 0).val = 0 + a.val := h0
      omega
    · have : 0 + (y 1).val = 0 + b.val := h1
      omega

/-- The convolution's rows below the 8 before them, read `3 - k` rows up. -/
theorem up (c : Dev nD) (t : Fin cfg0.N) (y : S512x512.Idx) (k : Fin 4) (inb) :
    ((View.whole cc0_scratch1).readCov (Val := Elt Ideal)
      [⟨Rect.unit ![8, 0] ![512, 512] inb_S520x512_S512x512_8_0, k0_pay9 (iblk m c 2 t)⟩,
        ⟨Rect.unit ![0, 0] ![8, 512] inb_S520x512_S8x512_0_0, k0_pay8 (grid0.coords t) (iblk m c 3 t)⟩]
      (Rect.unit (s := S520x512) ![5 + k.val, 0] ![512, 512] inb).toLoadRect y : Elt Ideal .f32)
      = before (m ((c : Thread nD τ).loc main_arg1)) (col t (y 1)) k (row t (y 0)) := by
  have hy : (y 0).val < 512 := (y 0).isLt
  have hy1 : (y 1).val < 512 := (y 1).isLt
  have hk := k.isLt
  have r : (row t (y 0)).val = t.val % 16 * 512 + (y 0).val := rfl
  rw [View.readCov_eq_canon']
  have p0 : (((Rect.unit (s := S520x512) ![5 + k.val, 0] ![512, 512] inb).toLoadRect.idx y) 0).val = 5 + k.val + (y 0).val :=
    Rect.idx_unit_val _ _ inb y 0
  have p1 : (((Rect.unit (s := S520x512) ![5 + k.val, 0] ![512, 512] inb).toLoadRect.idx y) 1).val = 0 + (y 1).val :=
    Rect.idx_unit_val _ _ inb y 1
  refine View.canon_eq_of_allAt _ _ _ ?_ (View.allAt_cons_unit _ _ _ _ _ (fun x hx => ?_)
    (View.allAt_cons_unit _ _ _ _ _ (fun x hx => ?_) (View.allAt_nil _ _)))
  · by_cases h : 8 ≤ 5 + k.val + (y 0).val
    · refine ⟨_, List.mem_cons_self, (Rect.mem_set_unit (s := S520x512) (inb := inb_S520x512_S512x512_8_0)).mpr fun (a : Fin 2) => match a with
        | 0 => ⟨show 8 ≤ _ by omega, show _ < 8 + 512 by omega⟩
        | 1 => ⟨show 0 ≤ _ by omega, show _ < 0 + 512 by omega⟩⟩
    · refine ⟨_, List.mem_cons_of_mem _ List.mem_cons_self, (Rect.mem_set_unit (s := S520x512) (inb := inb_S520x512_S8x512_0_0)).mpr fun (a : Fin 2) => match a with
        | 0 => ⟨show 0 ≤ _ by omega, show _ < 0 + 8 by omega⟩
        | 1 => ⟨show 0 ≤ _ by omega, show _ < 0 + 512 by omega⟩⟩
  · have h0 : 5 + k.val + (y 0).val = 8 + (x 0).val := p0.symm.trans (hx 0)
    have h1 : 0 + (y 1).val = 0 + (x 1).val := p1.symm.trans (hx 1)
    have hb : 3 ≤ (row t (y 0)).val + k.val := by omega
    unfold before
    rw [dif_pos hb]
    exact body_apply m c t x _ (show (row t (y 0)).val + k.val - 3 = _ by omega) _ (show t.val / 16 * 512 + (y 1).val = _ by omega)
  · have h0 : 5 + k.val + (y 0).val = 0 + (x 0).val := p0.symm.trans (hx 0)
    have h1 : 0 + (y 1).val = 0 + (x 1).val := p1.symm.trans (hx 1)
    have hx0 : (x 0).val < 8 := (x 0).isLt
    unfold before
    by_cases ht : t.val % 16 = 0
    · rw [dif_neg (by omega)]
      exact over_zero m c t x ht
    · have hb : 3 ≤ (row t (y 0)).val + k.val := by omega
      rw [dif_pos hb]
      exact over_apply m c t x ht _ (show (row t (y 0)).val + k.val - 3 + 8 = _ by omega) _ (show t.val / 16 * 512 + (y 1).val = _ by omega)

/-- What a point writes of the derivative by the rows. -/
theorem rows_apply (c : Dev nD) (t : Fin cfg0.N) (r j : Fin 512) (v1 v2 v3 : Vec Ideal S512x512 .f32)
    (h1 : (v1 (ix2 r j) : EReal) = later (m ((c : Thread nD τ).loc main_arg0)) (col t j) 1 (row t r))
    (h2 : (v2 (ix2 r j) : EReal) = later (m ((c : Thread nD τ).loc main_arg0)) (col t j) 2 (row t r))
    (h3 : (v3 (ix2 r j) : EReal) = later (m ((c : Thread nD τ).loc main_arg0)) (col t j) 3 (row t r)) :
    k0_pay11 (k0_pay10 (iblk m c 0 t) (View.ld (iblk m c 4 t) (Rect.unit ![3, 0] ![1, 512] inb_S4x512_S1x512_3_0)))
      (View.ld (iblk m c 4 t) (Rect.unit ![0, 0] ![1, 512] inb_S4x512_S1x512_0_0)) v3
      (View.ld (iblk m c 4 t) (Rect.unit ![1, 0] ![1, 512] inb_S4x512_S1x512_1_0)) v2
      (View.ld (iblk m c 4 t) (Rect.unit ![2, 0] ![1, 512] inb_S4x512_S1x512_2_0)) v1 (ix2 r j)
      = rows (m ((c : Thread nD τ).loc main_arg0)) (m ((c : Thread nD τ).loc main_arg2)) (ix2 (row t r) (col t j)) := by
  pointwise [k0_pay11, k0_pay10, rows]
  rw [h1, h2, h3, d_apply]
  simp only [w_apply]

/-- The derivative by the convolution's rows, after the run. -/
theorem final_rows (c : Dev nD) :
    (dats m 0 c).arrAt 5 cfg0.N = rows (m ((c : Thread nD τ).loc main_arg0)) (m ((c : Thread nD τ).loc main_arg2)) := by
  refine (dats m 0 c).arrAt_eq_of_covers 5 _ (by decide +kernel) fun t hf y => ?_
  blk_simp
  obtain ⟨r, j, rfl⟩ : ∃ r j, y = ix2 r j := ⟨y 0, y 1, eq_ix2 y⟩
  refine Eq.trans (b := rows (m ((c : Thread nD τ).loc main_arg0)) (m ((c : Thread nD τ).loc main_arg2)) (ix2 (row t r) (col t j))) ?_
    (congrArg _ (by blk_ext [idx t, row, col]))
  rw [after0_5]
  by_cases h0 : t.val % 16 = 0
  · rw [outsAt0_A m c t h0]
    frame_out
    exact rows_apply m c t r j _ _ _ (down m c t (ix2 r j) 1 _) (down m c t (ix2 r j) 2 _) (down m c t (ix2 r j) 3 _)
  · rw [outsAt0_B m c t h0]
    frame_out
    exact rows_apply m c t r j _ _ _ (down m c t (ix2 r j) 1 _) (down m c t (ix2 r j) 2 _) (down m c t (ix2 r j) 3 _)

/-- What a point adds to the derivative by the weights: its 512 rows' parts. -/
def term (c : Dev nD) (t : Fin cfg0.N) (i : S4x512.Idx) : EReal :=
  ∑ r : Fin 512, part (m ((c : Thread nD τ).loc main_arg0)) (m ((c : Thread nD τ).loc main_arg1)) (col t (i 1)) (i 0) (row t r)

/-- One weight's addition. -/
theorem part_apply (c : Dev nD) (t : Fin cfg0.N) (k : Fin 4) (j : Fin 512) (v : Vec Ideal S1x512 .f32) (x : Vec Ideal S512x512 .f32)
    (h : ∀ r, (x (ix2 r j) : EReal) = before (m ((c : Thread nD τ).loc main_arg1)) (col t j) k (row t r)) :
    k0_pay1 (iblk m c 0 t) v x (ix2 0 j) = (v (ix2 0 j) : EReal) + term m c t (ix2 k j) := by
  pointwise [k0_pay1, term, part]
  simp only [h, d_apply]

/-- A store of one row, read in that row. -/
theorem at_row (k : Fin 4) (inb) (w : Vec Ideal S1x512 .f32) (L : List (View.Piece (Elt Ideal) S4x512 .f32)) (j : Fin 512) :
    View.canon ((⟨Rect.unit (s := S4x512) ![k.val, 0] ![1, 512] inb, w⟩ : View.Piece (Elt Ideal) S4x512 .f32) :: L) (ix2 k j) = w (ix2 0 j) := by
  refine Eq.trans (congrArg _ ?_) (View.canon_cons_emb (Val := Elt Ideal) (Rect.unit (s := S4x512) ![k.val, 0] ![1, 512] inb) w L (ix2 0 j))
  refine funext fun (i : Fin 2) => Fin.ext (match i with
    | 0 => show k.val = k.val + 1 * 0 by omega
    | 1 => show j.val = 0 + 1 * j.val by omega)

/-- A store of one row, read in another row. -/
theorem off_row (k r : Fin 4) (hr : r ≠ k) (inb) (w : Vec Ideal S1x512 .f32) (L : List (View.Piece (Elt Ideal) S4x512 .f32)) (j : Fin 512) :
    View.canon ((⟨Rect.unit (s := S4x512) ![k.val, 0] ![1, 512] inb, w⟩ : View.Piece (Elt Ideal) S4x512 .f32) :: L) (ix2 r j)
      = View.canon L (ix2 r j) := by
  refine View.canon_cons_of_not_mem _ _ fun h => hr ?_
  have := (Rect.mem_set_unit (s := S4x512) (inb := inb)).mp h (0 : Fin 2)
  have h1 : k.val ≤ r.val := this.1
  have h2 : r.val < k.val + 1 := this.2
  omega

/-- The four rows that a point stores. -/
theorem stored (c : Dev nD) (t : Fin cfg0.N) (v : Vec Ideal S4x512 .f32) (L : List (View.Piece (Elt Ideal) S4x512 .f32)) (i : S4x512.Idx)
    (v0 v1 v2 v3 : Vec Ideal S1x512 .f32) (x0 x1 x2 x3 : Vec Ideal S512x512 .f32)
    (h0 : ∀ j, v0 (ix2 0 j) = v (ix2 0 j)) (h1 : ∀ j, v1 (ix2 0 j) = v (ix2 1 j)) (h2 : ∀ j, v2 (ix2 0 j) = v (ix2 2 j)) (h3 : ∀ j, v3 (ix2 0 j) = v (ix2 3 j))
    (hx0 : ∀ r j, (x0 (ix2 r j) : EReal) = before (m ((c : Thread nD τ).loc main_arg1)) (col t j) 0 (row t r))
    (hx1 : ∀ r j, (x1 (ix2 r j) : EReal) = before (m ((c : Thread nD τ).loc main_arg1)) (col t j) 1 (row t r))
    (hx2 : ∀ r j, (x2 (ix2 r j) : EReal) = before (m ((c : Thread nD τ).loc main_arg1)) (col t j) 2 (row t r))
    (hx3 : ∀ r j, (x3 (ix2 r j) : EReal) = before (m ((c : Thread nD τ).loc main_arg1)) (col t j) 3 (row t r)) :
    View.canon (⟨Rect.unit ![3, 0] ![1, 512] inb_S4x512_S1x512_3_0, k0_pay3 (iblk m c 0 t) v3 x3⟩
      :: ⟨Rect.unit ![2, 0] ![1, 512] inb_S4x512_S1x512_2_0, k0_pay2 (iblk m c 0 t) v2 x2⟩
      :: ⟨Rect.unit ![1, 0] ![1, 512] inb_S4x512_S1x512_1_0, k0_pay1 (iblk m c 0 t) v1 x1⟩
      :: (⟨Rect.unit ![0, 0] ![1, 512] inb_S4x512_S1x512_0_0, k0_pay13 (iblk m c 0 t) v0 x0⟩ : View.Piece (Elt Ideal) S4x512 .f32) :: L) i
      = (v i : EReal) + term m c t i := by
  obtain ⟨r, j, rfl⟩ : ∃ r j, i = ix2 r j := ⟨i 0, i 1, eq_ix2 i⟩
  rcases (by decide : ∀ r : Fin 4, r = 0 ∨ r = 1 ∨ r = 2 ∨ r = 3) r with rfl | rfl | rfl | rfl
  · refine (off_row 3 0 (by decide) _ _ _ j).trans ((off_row 2 0 (by decide) _ _ _ j).trans ((off_row 1 0 (by decide) _ _ _ j).trans ?_))
    exact (at_row 0 _ _ _ j).trans ((part_apply m c t 0 j v0 x0 fun r => hx0 r j).trans (congrArg (· + _) (h0 j)))
  · refine (off_row 3 1 (by decide) _ _ _ j).trans ((off_row 2 1 (by decide) _ _ _ j).trans ?_)
    exact (at_row 1 _ _ _ j).trans ((part_apply m c t 1 j v1 x1 fun r => hx1 r j).trans (congrArg (· + _) (h1 j)))
  · refine (off_row 3 2 (by decide) _ _ _ j).trans ?_
    exact (at_row 2 _ _ _ j).trans ((part_apply m c t 2 j v2 x2 fun r => hx2 r j).trans (congrArg (· + _) (h2 j)))
  · exact (at_row 3 _ _ _ j).trans ((part_apply m c t 3 j v3 x3 fun r => hx3 r j).trans (congrArg (· + _) (h3 j)))

/-- One row of a block, loaded. -/
theorem ld_row (v : Vec Ideal S4x512 .f32) (k : Fin 4) (inb) (j : Fin 512) :
    View.ld v (Rect.unit (s := S4x512) ![k.val, 0] ![1, 512] inb) (ix2 0 j) = v (ix2 k j) := by
  refine congrArg v (funext fun (i : Fin 2) => Fin.ext (match i with
    | 0 => show k.val + 1 * 0 = k.val by omega
    | 1 => show 0 + 1 * j.val = j.val by omega))

/-- One row of what has been stored. -/
theorem cov_row {sp : Space} (v : View sig .tc sp S4x512 .f32) (L : List (View.Piece (Elt Ideal) S4x512 .f32)) (k : Fin 4) (inb) (j : Fin 512) :
    v.readCov L (Rect.unit (s := S4x512) ![k.val, 0] ![1, 512] inb).toLoadRect (ix2 0 j) = View.canon L (ix2 k j) := by
  rw [View.readCov_eq_canon']
  refine congrArg _ (funext fun (i : Fin 2) => Fin.ext (match i with
    | 0 => show k.val + 1 * 0 = k.val by omega
    | 1 => show 0 + 1 * j.val = j.val by omega))

/-- The zeros that a first point stores. -/
theorem zeros (k : Fin 4) (j : Fin 512) :
    View.canon [(⟨Rect.unit ![0, 0] ![4, 512] inb_S4x512_S4x512_0_0, k0_pay4 (F := Ideal)⟩ : View.Piece (Elt Ideal) S4x512 .f32)] (ix2 k j) = (0 : EReal) := by
  refine View.canon_eq_of_allAt _ _ _ ⟨_, List.mem_cons_self, (Rect.mem_set_unit (s := S4x512) (inb := inb_S4x512_S4x512_0_0)).mpr fun (a : Fin 2) => match a with
    | 0 => ⟨Nat.zero_le _, show k.val < 0 + 4 by omega⟩
    | 1 => ⟨Nat.zero_le _, show j.val < 0 + 512 by omega⟩⟩ (View.allAt_cons_unit _ _ _ _ _ (fun x _ => ?_) (View.allAt_nil _ _))
  exact Ideal.ofBits_zero_f32

/-- The row of the arrays that a row of a block of a run of 16 points is. -/
theorem row_run (t : Fin cfg0.N) (s : Fin 16) (k : Fin 512) (h : 16 * (t.val / 16) + s.val < cfg0.N) (hl : s.val * 512 + k.val < 8192) :
    row ⟨16 * (t.val / 16) + s.val, h⟩ k = ⟨s.val * 512 + k.val, hl⟩ :=
  Fin.ext (show (16 * (t.val / 16) + s.val) % 16 * 512 + k.val = s.val * 512 + k.val by omega)

/-- The column likewise. -/
theorem col_run (t : Fin cfg0.N) (s : Fin 16) (j : Fin 512) (h : 16 * (t.val / 16) + s.val < cfg0.N) : col ⟨16 * (t.val / 16) + s.val, h⟩ j = col t j :=
  Fin.ext (show (16 * (t.val / 16) + s.val) / 16 * 512 + j.val = t.val / 16 * 512 + j.val by omega)

/-- The derivative by the weights that is kept from point to point, at a point that writes it back. -/
theorem kept (c : Dev nD) (t : Fin cfg0.N) (ht : t.val % 16 = 15) (q : Fin 4) (j : Fin 512) :
    (outsAt0 m c t.val t.isLt).2.1 (ix2 q j)
      = weights (m ((c : Thread nD τ).loc main_arg0)) (m ((c : Thread nD τ).loc main_arg1)) (ix2 q (col t j)) := by
  refine (Pipeline.eq_sum_fin_of_reset_step_apply_of_flush (M := EReal) (fun n h => (outsAt0 m c n h).2.1) 16 (fun _ => 0) (term m c)
    (fun t h i => ?_) (fun t h i => ?_) t ht (ix2 q j)).trans ?_
  · rw [outsAt0_A m c t h]
    frame_out
    exact stored m c t (fun _ => (0 : EReal)) _ i _ _ _ _ _ _ _ _ (fun j => (cov_row _ _ 0 _ j).trans (zeros 0 j))
      (fun j => (cov_row _ _ 1 _ j).trans ((off_row 0 1 (by decide) _ _ _ j).trans (zeros 1 j)))
      (fun j => (cov_row _ _ 2 _ j).trans ((off_row 1 2 (by decide) _ _ _ j).trans ((off_row 0 2 (by decide) _ _ _ j).trans (zeros 2 j))))
      (fun j => (cov_row _ _ 3 _ j).trans ((off_row 2 3 (by decide) _ _ _ j).trans ((off_row 1 3 (by decide) _ _ _ j).trans
        ((off_row 0 3 (by decide) _ _ _ j).trans (zeros 3 j)))))
      (fun r j => up m c t (ix2 r j) 0 _) (fun r j => up m c t (ix2 r j) 1 _) (fun r j => up m c t (ix2 r j) 2 _) (fun r j => up m c t (ix2 r j) 3 _)
  · rw [outsAt0_B m c t h]
    frame_out
    exact stored m c t _ _ i _ _ _ _ _ _ _ _ (ld_row _ 0 _) (ld_row _ 1 _) (ld_row _ 2 _) (ld_row _ 3 _)
      (fun r j => up m c t (ix2 r j) 0 _) (fun r j => up m c t (ix2 r j) 1 _) (fun r j => up m c t (ix2 r j) 2 _) (fun r j => up m c t (ix2 r j) 3 _)
  · rw [zero_add]
    refine Fin.sum_mul_add_congr (L := 8192) fun s k hl => ?_
    exact congrArg₂ (fun (a : Fin 8192) (b : Fin 4096) => part (m ((c : Thread nD τ).loc main_arg0)) (m ((c : Thread nD τ).loc main_arg1)) b q a)
      (row_run t s k _ hl) (col_run t s j _)

/-- What a point adds to the derivative by the bias. -/
def termb (c : Dev nD) (t : Fin cfg0.N) (i : S1x512.Idx) : EReal :=
  ∑ r : Fin 512, (m ((c : Thread nD τ).loc main_arg0) (ix2 (row t r) (col t (i 1))) : EReal)

theorem stepb (c : Dev nD) (t : Fin cfg0.N) (v : Vec Ideal S1x512 .f32) (i : S1x512.Idx) :
    k0_pay12 (iblk m c 0 t) v i = (v i : EReal) + termb m c t i := by
  obtain ⟨r, j, rfl⟩ : ∃ r j, i = ix2 r j := ⟨i 0, i 1, eq_ix2 i⟩
  pointwise [k0_pay12, termb]
  simp only [d_apply]

/-- The derivative by the bias that is kept from point to point, at a point that writes it back. -/
theorem keptb (c : Dev nD) (t : Fin cfg0.N) (ht : t.val % 16 = 15) (j : Fin 512) :
    (outsAt0 m c t.val t.isLt).2.2 (ix2 0 j) = bias (m ((c : Thread nD τ).loc main_arg0)) (ix2 0 (col t j)) := by
  refine (Pipeline.eq_sum_fin_of_reset_step_apply_of_flush (M := EReal) (fun n h => (outsAt0 m c n h).2.2) 16 (fun _ => 0) (termb m c)
    (fun t h i => ?_) (fun t h i => ?_) t ht (ix2 0 j)).trans ?_
  · rw [outsAt0_A m c t h]
    frame_out
    rw [stepb]
    exact congrArg (· + _) Ideal.ofBits_zero_f32
  · rw [outsAt0_B m c t h]
    frame_out
    rw [stepb]
  · rw [zero_add]
    refine Fin.sum_mul_add_congr (L := 8192) fun s k hl => ?_
    exact congrArg₂ (fun (a : Fin 8192) (b : Fin 4096) => (m ((c : Thread nD τ).loc main_arg0) (ix2 a b))) (row_run t s k _ hl) (col_run t s j _)

theorem final_weights (c : Dev nD) :
    (dats m 0 c).arrAt 6 cfg0.N = weights (m ((c : Thread nD τ).loc main_arg0)) (m ((c : Thread nD τ).loc main_arg1)) := by
  refine (dats m 0 c).arrAt_eq_of_covers 6 _ (by decide +kernel) fun t hf y => ?_
  blk_simp
  obtain ⟨k, j, rfl⟩ : ∃ k j, y = ix2 k j := ⟨y 0, y 1, eq_ix2 y⟩
  rw [after0_6]
  exact (kept m c t ((flush0_6 t).mp hf) k j).trans (congrArg _ (by blk_ext [idx t, col]))

theorem final_bias (c : Dev nD) :
    (dats m 0 c).arrAt 7 cfg0.N = bias (m ((c : Thread nD τ).loc main_arg0)) := by
  refine (dats m 0 c).arrAt_eq_of_covers 7 _ (by decide +kernel) fun t hf y => ?_
  blk_simp
  obtain ⟨k, j, rfl⟩ : ∃ k j, y = ix2 k j := ⟨y 0, y 1, eq_ix2 y⟩
  obtain rfl : k = 0 := Subsingleton.elim _ _
  rw [after0_7]
  exact (keptb m c t ((flush0_7 t).mp hf) j).trans (congrArg _ (by blk_ext [idx t, col]))

/-- The kernel's run, with its arrays read. -/
theorem run (g : Dev nD → PrngReg) :
    θ_run defs (onTc (τ := τ) (main (F := Ideal))) ⟨m, fun _ => 0, g⟩ fun r => ∀ c : Dev nD,
    r.2.mem ((c : Thread nD τ).loc main_v0_0) = rows (m ((c : Thread nD τ).loc main_arg0)) (m ((c : Thread nD τ).loc main_arg2))
      ∧ r.2.mem ((c : Thread nD τ).loc main_v0_1) = weights (m ((c : Thread nD τ).loc main_arg0)) (m ((c : Thread nD τ).loc main_arg1))
      ∧ r.2.mem ((c : Thread nD τ).loc main_v0_2) = bias (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨((h.1 c).1 5).trans (final_rows m c), ((h.1 c).1 6).trans (final_weights m c),
    ((h.1 c).1 7).trans (final_bias m c), h.2 c⟩) (θ_run_and (run_main m g) (unchanged m g))
end

section
open Cert.ConvBRefIdeal Cert.ConvBRefIdeal.Gen

/-- The two sums' orders. -/
theorem order (w0 w1 w2 w3 x0 : EReal) {x1 x2 x3 y1 y2 y3 : EReal} (h1 : x1 = y1) (h2 : x2 = y2) (h3 : x3 = y3) :
    x3 * w0 + x2 * w1 + x1 * w2 + x0 * w3 = w3 * x0 + w0 * y3 + w1 * y2 + w2 * y1 := by
  subst h1 h2 h3
  ac_rfl

/-- A row of the derivative padded behind. -/
theorem behind (d : Vec Ideal S8192x4096 .f32) (j : Fin 4096) (k : Fin 4) (l : Fin 8192) :
    (if h : k.val + l.val < 8192 then (d (ix2 ⟨k.val + l.val, h⟩ j) : EReal) else 0) = later d j k l := by
  simp only [later, Nat.add_comm k.val l.val]

/-- A value chosen by the row among four. -/
theorem by_row (f : Fin 4 → EReal) (r : Fin 4) {x0 x1 x2 x3 : EReal} (h0 : x0 = f 0) (h1 : x1 = f 1) (h2 : x2 = f 2) (h3 : x3 = f 3) :
    (if _h : r.val < 1 then x0 else if _h : r.val - 1 < 1 then x1 else if _h : r.val - 1 - 1 < 1 then x2 else x3) = f r := by
  subst h0 h1 h2 h3
  rcases (by decide : ∀ r : Fin 4, r = 0 ∨ r = 1 ∨ r = 2 ∨ r = 3) r with rfl | rfl | rfl | rfl <;> rfl

/-- A row of the projection padded in front. -/
theorem padded (p : Vec Ideal S8192x22528 .f32) (j : Fin 4096) (k : Fin 4) (l : Fin 8192) (n : Nat) (hn : n = k.val + l.val) :
    (if h : 3 ≤ n ∧ n - 3 < 8192 then (p (ix2 ⟨n - 3, h.2⟩ ⟨12288 + j.val, by omega⟩) : EReal) else 0) = before p j k l := by
  subst hn
  unfold before
  by_cases h : 3 ≤ l.val + k.val
  · rw [dif_pos h, dif_pos (by omega)]
    simp only [Nat.add_comm k.val l.val]
  · rw [dif_neg h, dif_neg (by omega)]

/-- The last of the four rows needs no padding. -/
theorem unpadded (p : Vec Ideal S8192x22528 .f32) (j : Fin 4096) (l : Fin 8192) :
    (p (ix2 l ⟨12288 + j.val, by omega⟩) : EReal) = before p j 3 l :=
  ((padded p j 3 l (3 + l.val) rfl).symm.trans ((dif_pos ⟨by omega, by omega⟩).trans (by simp only [Nat.add_sub_cancel_left]))).symm

/-- One row of the derivative by the weights from its factors. -/
theorem sum_part (d : Vec Ideal S8192x4096 .f32) (p : Vec Ideal S8192x22528 .f32) (j : Fin 4096) (k : Fin 4) {f : Fin 8192 → EReal} (h : ∀ l, f l = before p j k l) :
    ∑ l : Fin 8192, (d (ix2 l j) : EReal) * f l = ∑ l, part d p j k l :=
  Finset.sum_congr rfl fun l _ => congrArg (fun z : EReal => (d (ix2 l j) : EReal) * z) (h l)

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    r.2.mem ((c : Thread nD τ).loc main_v41) = rows (m ((c : Thread nD τ).loc main_arg0)) (m ((c : Thread nD τ).loc main_arg2))
      ∧ r.2.mem ((c : Thread nD τ).loc main_v40) = weights (m ((c : Thread nD τ).loc main_arg0)) (m ((c : Thread nD τ).loc main_arg1))
      ∧ r.2.mem ((c : Thread nD τ).loc main_v43) = bias (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (StableHlo.run_hlo _ _ (by hlo_seq) (by decide) (by decide) (by simp)
      (by intro _ h; (repeat (cases h with | head => rfl | tail _ h => ?_)); exact nomatch h) _ _) fun r h c =>
    ⟨(h c main_v41).trans (by
      after_results_simp_entrywise
      funext i
      pointwise [rows]
      exact order _ _ _ _ _ (behind _ _ 1 _) (behind _ _ 2 _) (behind _ _ 3 _)),
    (h c main_v40).trans (by
      after_results_simp_entrywise
      funext i
      pointwise [weights, part]
      after_results_simp_entrywise
      pointwise
      exact by_row (fun r => ∑ x, part (m ((c : Thread nD τ).loc main_arg0)) (m ((c : Thread nD τ).loc main_arg1)) (i 1) r x) (i 0)
        (sum_part _ _ _ 0 fun x => padded (m ((c : Thread nD τ).loc main_arg1)) (i 1) 0 x x.val (Nat.zero_add _).symm)
        (sum_part _ _ _ 1 fun x => padded (m ((c : Thread nD τ).loc main_arg1)) (i 1) 1 x (1 + x.val) rfl)
        (sum_part _ _ _ 2 fun x => padded (m ((c : Thread nD τ).loc main_arg1)) (i 1) 2 x (2 + x.val) rfl)
        (sum_part _ _ _ 3 fun x => unpadded (m ((c : Thread nD τ).loc main_arg1)) (i 1) x)),
    (h c main_v43).trans (by
      after_results_simp_entrywise
      funext i
      pointwise [bias]),
    (h c main_arg0).trans (by after_results_simp_entrywise), (h c main_arg1).trans (by after_results_simp_entrywise), (h c main_arg2).trans (by after_results_simp_entrywise)⟩
end

theorem frame_refIdeal : Cert.quiescent_ConvBRefIdeal := fun m g _ =>
  (θ_run _ _ _).mono (fun r h => ⟨fun c => (h c).2.2.2, sem_eq_zero_of_no_sems (by decide) r.2⟩) (run_ref m g)

theorem algebraic : Cert.algebraic_ConvBIdeal_ConvBRefIdeal := fun m g m' g' _ hm =>
  ⟨_, _, _, run m g, (θ_run _ _ _).mono (fun _ h c => ⟨(h c).1.trans (by rw [← (hm c).1, ← (hm c).2.2]),
    (h c).2.1.trans (by rw [← (hm c).1, ← (hm c).2.1]), (h c).2.2.1.trans (by rw [← (hm c).1]), (h c).2.2.2⟩) (run_ref m' g')⟩

end Cert.Proof.ConvB

end

end
-- ==== Proof.Final.Claims.lean ====
/-
# The loss and the backward pass of the last norm: its claims

Each point of the kernel's loop works on 256 whole rows. It writes the derivative by the rows, and it keeps from point to
point the loss so far and the derivative by the weights so far. The kernel halves the loss of every block, the reference
halves the total. The kernel multiplies by one over the width, the reference divides by the width.
-/
module

public import proofs.«01_k».proof.Defs
public import proofs.«01_k».proof.Proof.Gen.Final
public import proofs.«01_k».proof.Proof.Gen.Final.Frame
public import proofs.«01_k».proof.Proof.Gen.FinalIdeal.Value
public import proofs.«01_k».proof.Proof.Gen.FinalRefIdeal
public import proofs.«01_k».proof.Proof.Gen.FinalRefIdeal.Run
public import Idealize.ShloMosaic.Lib.Pointwise
public import Idealize.ShloMosaic.Lib.Quiescent
public import Idealize.ShloMosaic.Lib.Pipeline.ValueKit

@[expose] public section

noncomputable section

namespace Cert.Proof.Final

open Idealize.ShloMosaic Idealize.ShloMosaic.TcCoe Idealize.SL.Sem

theorem frame : Cert.quiescent_Final := fun m g _ => Cert.Final.Gen.frame m g

theorem frame_ideal : Cert.quiescent_FinalIdeal := fun m g _ => Cert.FinalIdeal.Gen.frame m g

theorem frame_refIdeal : Cert.quiescent_FinalRefIdeal := fun m g _ =>
  (θ_run _ _ _).mono (fun r h => ⟨fun c => (h c).2.2.2, sem_eq_zero_of_no_sems (by decide) r.2⟩)
    (Cert.FinalRefIdeal.Value.run m g)

/-- The width, as a number. -/
theorem width : Ideal.ofBits .f32 0x45000000#32 = ((2048 : ℝ) : EReal) := by
  simp [Ideal.ofBits, Ideal.ieee, -EReal.coe_mul]; norm_num

/-- One over the width, as a number. -/
theorem width_inv : Ideal.ofBits .f32 0x3A000000#32 = ((1 / 2048 : ℝ) : EReal) := by
  simp [Ideal.ofBits, Ideal.ieee, -EReal.coe_mul]; norm_num

/-- One half, as a number. -/
theorem half : Ideal.ofBits .f32 0x3F000000#32 = ((1 / 2 : ℝ) : EReal) := by
  simp [Ideal.ofBits, Ideal.ieee, -EReal.coe_mul]; norm_num

/-- Multiplying by one over the width is dividing by it. -/
theorem mul_width_inv (x : EReal) : x * Ideal.ofBits .f32 0x3A000000#32 = Ideal.div x (Ideal.ofBits .f32 0x45000000#32) := by
  rw [width, width_inv, Ideal.div_coe (by norm_num)]

/-- Half of a sum is the sum of the halves, infinite terms included. -/
theorem half_sum {n : ℕ} (f : Fin n → EReal) :
    ∑ k, Ideal.ofBits .f32 0x3F000000#32 * f k = Ideal.ofBits .f32 0x3F000000#32 * ∑ k, f k := by
  let h : EReal →+ EReal :=
    { toFun := fun x => Ideal.ofBits .f32 0x3F000000#32 * x
      map_zero' := mul_zero _
      map_add' := fun x y => by
        rw [half]
        exact EReal.left_distrib_of_nonneg_of_ne_top (EReal.coe_nonneg.mpr (by norm_num)) (EReal.coe_ne_top _) x y }
  exact (map_sum h f Finset.univ).symm

section
open Cert.FinalIdeal Cert.FinalIdeal.Gen

/-- Which rows a point works on. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

/-- One over the root of the mean of a summed row's squares. -/
def scale (x o : Vec Ideal S8192x2048 .f32) (l : Fin 8192) : EReal :=
  Ideal.rsqrt (Ideal.div (∑ k : Fin 2048, ((x (ix2 l k) : EReal) + (o (ix2 l k) : EReal)) * ((x (ix2 l k) : EReal) + (o (ix2 l k) : EReal)))
    (Ideal.ofBits .f32 0x45000000#32) + Ideal.ofBits .f32 0x358637BD#32)

/-- A normalized row, at a column. -/
def normed (x o : Vec Ideal S8192x2048 .f32) (l : Fin 8192) (k : Fin 2048) : EReal :=
  ((x (ix2 l k) : EReal) + (o (ix2 l k) : EReal)) * scale x o l

/-- A row's error, at a column. -/
def err (x o t : Vec Ideal S8192x2048 .f32) (w : Vec Ideal S1x2048 .f32) (l : Fin 8192) (k : Fin 2048) : EReal :=
  normed x o l k * (w (ix2 0 k) : EReal) - (t (ix2 l k) : EReal)

/-- The loss's derivative by a row's error, at a column. -/
def slope (x o t : Vec Ideal S8192x2048 .f32) (w : Vec Ideal S1x2048 .f32) (l : Fin 8192) (k : Fin 2048) : EReal :=
  Ideal.div (err x o t w l k) (Ideal.ofBits .f32 0x45000000#32)

/-- The derivative by the rows, element by element. -/
def back (x o t : Vec Ideal S8192x2048 .f32) (w : Vec Ideal S1x2048 .f32) : Vec Ideal S8192x2048 .f32 := fun i =>
  scale x o (i 0) * (slope x o t w (i 0) (i 1) * (w (ix2 0 (i 1)) : EReal) - normed x o (i 0) (i 1)
    * Ideal.div (∑ k : Fin 2048, slope x o t w (i 0) k * (w (ix2 0 k) : EReal) * normed x o (i 0) k) (Ideal.ofBits .f32 0x45000000#32))

/-- The mean of a row's squared errors. -/
def square (x o t : Vec Ideal S8192x2048 .f32) (w : Vec Ideal S1x2048 .f32) (l : Fin 8192) : EReal :=
  Ideal.div (∑ k : Fin 2048, err x o t w l k * err x o t w l k) (Ideal.ofBits .f32 0x45000000#32)

/-- The loss. -/
def loss (x o t : Vec Ideal S8192x2048 .f32) (w : Vec Ideal S1x2048 .f32) : Vec Ideal S1x1 .f32 := fun _ =>
  Ideal.ofBits .f32 0x3F000000#32 * ∑ l : Fin 8192, square x o t w l

/-- One row's part of the derivative by the weights. -/
def part (x o t : Vec Ideal S8192x2048 .f32) (w : Vec Ideal S1x2048 .f32) (j : Fin 2048) (l : Fin 8192) : EReal :=
  slope x o t w l j * normed x o l j

/-- The derivative by the weights. -/
def weights (x o t : Vec Ideal S8192x2048 .f32) (w : Vec Ideal S1x2048 .f32) : Vec Ideal S1x2048 .f32 := fun i =>
  ∑ l : Fin 8192, part x o t w (i 1) l

variable (m : (ℓ : Loc nD τ sig) → Buf (Elt Ideal) ℓ)

/-- The row of the arrays that is row `r` of point `t`'s block. -/
def row (t : Fin cfg0.N) (r : Fin 256) : Fin 8192 := ⟨t.val * 256 + r.val, by have := t.isLt; have : cfg0.N = 32 := rfl; omega⟩

/-- A row's scale in the kernel. -/
theorem scale_apply (c : Dev nD) (t : Fin cfg0.N) (r : Fin 256) :
    (k0_pay7 (iblk m c 0 t) (iblk m c 1 t) (ix2 r 0) : EReal) = scale (m ((c : Thread nD τ).loc main_arg0)) (m ((c : Thread nD τ).loc main_arg1)) (row t r) := by
  pointwise [k0_pay7, k0_pay6, scale]
  blk_point [iblk, V, idx t, row]

/-- A normalized row in the kernel. -/
theorem normed_apply (c : Dev nD) (t : Fin cfg0.N) (r : Fin 256) (k : Fin 2048) :
    (k0_pay8 (iblk m c 0 t) (iblk m c 1 t) (ix2 r k) : EReal) = normed (m ((c : Thread nD τ).loc main_arg0)) (m ((c : Thread nD τ).loc main_arg1)) (row t r) k := by
  pointwise [k0_pay8, k0_pay6, normed]
  simp only [scale_apply]
  blk_point [iblk, V, idx t, row]

/-- A row's error in the kernel. -/
theorem err_apply (c : Dev nD) (t : Fin cfg0.N) (r : Fin 256) (k : Fin 2048) :
    (k0_pay9 (iblk m c 0 t) (iblk m c 1 t) (iblk m c 3 t) (iblk m c 2 t) (ix2 r k) : EReal)
      = err (m ((c : Thread nD τ).loc main_arg0)) (m ((c : Thread nD τ).loc main_arg1)) (m ((c : Thread nD τ).loc main_arg2)) (m ((c : Thread nD τ).loc main_arg3)) (row t r) k := by
  pointwise [k0_pay9, err]
  simp only [normed_apply]
  blk_point [iblk, V, idx t, row]

/-- The loss's derivative by a row's error in the kernel. -/
theorem slope_apply (c : Dev nD) (t : Fin cfg0.N) (r : Fin 256) (k : Fin 2048) :
    (k0_pay1 (k0_pay9 (iblk m c 0 t) (iblk m c 1 t) (iblk m c 3 t) (iblk m c 2 t)) k0_pay11 (ix2 r k) : EReal)
      = slope (m ((c : Thread nD τ).loc main_arg0)) (m ((c : Thread nD τ).loc main_arg1)) (m ((c : Thread nD τ).loc main_arg2)) (m ((c : Thread nD τ).loc main_arg3)) (row t r) k := by
  pointwise [k0_pay1, k0_pay11, slope]
  rw [err_apply, mul_width_inv]

/-- What a point writes of the derivative by the rows. -/
theorem back_apply (c : Dev nD) (t : Fin cfg0.N) (y : S256x2048.Idx) :
    k0_pay3 (k0_pay7 (iblk m c 0 t) (iblk m c 1 t)) (k0_pay8 (iblk m c 0 t) (iblk m c 1 t)) (iblk m c 3 t)
      (k0_pay9 (iblk m c 0 t) (iblk m c 1 t) (iblk m c 3 t) (iblk m c 2 t)) k0_pay11 y
      = back (m ((c : Thread nD τ).loc main_arg0)) (m ((c : Thread nD τ).loc main_arg1)) (m ((c : Thread nD τ).loc main_arg2)) (m ((c : Thread nD τ).loc main_arg3)) (ix2 (row t (y 0)) (y 1)) := by
  obtain ⟨r, k, rfl⟩ : ∃ r k, y = ix2 r k := ⟨y 0, y 1, eq_ix2 y⟩
  pointwise [k0_pay3, back]
  simp only [scale_apply, normed_apply, slope_apply]
  blk_point [iblk, V, idx t, row]

/-- The derivative by the rows, after the run. -/
theorem final_back (c : Dev nD) : (dats m 0 c).arrAt 4 cfg0.N = back (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  refine Eq.trans (b := back (m ((c : Thread nD τ).loc main_arg0)) (m ((c : Thread nD τ).loc main_arg1)) (m ((c : Thread nD τ).loc main_arg2)) (m ((c : Thread nD τ).loc main_arg3)) (ix2 (row t (y 0)) (y 1))) ?_ (congrArg _ (by blk_ext [idx t, row]))
  rw [after0_4]
  by_cases h0 : t.val % 32 = 0
  · rw [outsAt0_A m c t h0]
    frame_out
    exact back_apply m c t y
  · rw [outsAt0_B m c t h0]
    frame_out
    exact back_apply m c t y

/-- What a point adds to the loss: half of its 256 rows' means. -/
def lossTerm (c : Dev nD) (t : Fin cfg0.N) (_ : S1x1.Idx) : EReal :=
  Ideal.ofBits .f32 0x3F000000#32 * ∑ k : Fin 256, square (m ((c : Thread nD τ).loc main_arg0)) (m ((c : Thread nD τ).loc main_arg1)) (m ((c : Thread nD τ).loc main_arg2)) (m ((c : Thread nD τ).loc main_arg3)) (row t k)

/-- A point's addition to the loss. -/
theorem loss_step (c : Dev nD) (t : Fin cfg0.N) (v : Vec Ideal S1x1 .f32) (i : S1x1.Idx) :
    k0_pay10 (iblk m c 0 t) (iblk m c 1 t) (iblk m c 3 t) (iblk m c 2 t) v i = (v i : EReal) + lossTerm m c t i := by
  obtain ⟨r, j, rfl⟩ : ∃ r j, i = ix2 r j := ⟨i 0, i 1, eq_ix2 i⟩
  pointwise [k0_pay10, lossTerm, square]
  simp only [err_apply]

/-- The loss kept from point to point is the sum of the points' additions, which is half of all the rows' means. -/
theorem kept_loss (c : Dev nD) (t : Fin cfg0.N) (ht : t.val + 1 = cfg0.N) (i : S1x1.Idx) :
    (outsAt0 m c t.val t.isLt).2.1 i = loss (m ((c : Thread nD τ).loc main_arg0)) (m ((c : Thread nD τ).loc main_arg1)) (m ((c : Thread nD τ).loc main_arg2)) (m ((c : Thread nD τ).loc main_arg3)) i := by
  refine (Pipeline.eq_sum_fin_of_reset_step_apply_last (M := EReal) (fun n h => (outsAt0 m c n h).2.1) 32 (fun _ => 0) (lossTerm m c)
    (fun t h i => ?_) (fun t h i => ?_) (by decide) t ht i).trans ?_
  · rw [outsAt0_A m c t h]
    frame_out
    rw [loss_step]
    exact congrArg (· + _) Ideal.ofBits_zero_f32
  · rw [outsAt0_B m c t h]
    frame_out
    rw [loss_step]
  · rw [zero_add]
    exact (half_sum _).trans (congrArg _ (Fin.sum_mul_add_fin (L := 8192) 32 256 (square (m ((c : Thread nD τ).loc main_arg0)) (m ((c : Thread nD τ).loc main_arg1)) (m ((c : Thread nD τ).loc main_arg2)) (m ((c : Thread nD τ).loc main_arg3)))))

/-- What a point adds to the derivative by the weights: its 256 rows' parts. -/
def term (c : Dev nD) (t : Fin cfg0.N) (i : S1x2048.Idx) : EReal := ∑ k : Fin 256, part (m ((c : Thread nD τ).loc main_arg0)) (m ((c : Thread nD τ).loc main_arg1)) (m ((c : Thread nD τ).loc main_arg2)) (m ((c : Thread nD τ).loc main_arg3)) (i 1) (row t k)

/-- A point's addition to the derivative by the weights. -/
theorem weights_step (c : Dev nD) (t : Fin cfg0.N) (v : Vec Ideal S1x2048 .f32) (i : S1x2048.Idx) :
    k0_pay2 (k0_pay8 (iblk m c 0 t) (iblk m c 1 t)) (k0_pay9 (iblk m c 0 t) (iblk m c 1 t) (iblk m c 3 t) (iblk m c 2 t)) k0_pay11 v i
      = (v i : EReal) + term m c t i := by
  obtain ⟨r, j, rfl⟩ : ∃ r j, i = ix2 r j := ⟨i 0, i 1, eq_ix2 i⟩
  pointwise [k0_pay2, term, part]
  simp only [slope_apply, normed_apply]

/-- The vector kept from point to point is the sum of the points' additions. -/
theorem kept_weights (c : Dev nD) (t : Fin cfg0.N) (ht : t.val + 1 = cfg0.N) (i : S1x2048.Idx) :
    (outsAt0 m c t.val t.isLt).2.2 i = weights (m ((c : Thread nD τ).loc main_arg0)) (m ((c : Thread nD τ).loc main_arg1)) (m ((c : Thread nD τ).loc main_arg2)) (m ((c : Thread nD τ).loc main_arg3)) i := by
  refine (Pipeline.eq_sum_fin_of_reset_step_apply_last (M := EReal) (fun n h => (outsAt0 m c n h).2.2) 32 (fun _ => 0) (term m c)
    (fun t h i => ?_) (fun t h i => ?_) (by decide) t ht i).trans ?_
  · rw [outsAt0_A m c t h]
    frame_out
    rw [weights_step]
    exact congrArg (· + _) Ideal.ofBits_zero_f32
  · rw [outsAt0_B m c t h]
    frame_out
    rw [weights_step]
  · rw [zero_add]
    exact Fin.sum_mul_add_fin (L := 8192) 32 256 _

/-- The grid's last point. -/
def last : Fin cfg0.N := ⟨31, by decide⟩

/-- The loss, after the run. -/
theorem final_loss (c : Dev nD) : (dats m 0 c).arrAt 5 cfg0.N = loss (m ((c : Thread nD τ).loc main_arg0)) (m ((c : Thread nD τ).loc main_arg1)) (m ((c : Thread nD τ).loc main_arg2)) (m ((c : Thread nD τ).loc main_arg3)) := by
  refine (dats m 0 c).arrAt_eq_of_after_last 5 last (by decide +kernel) _ fun j => ?_
  rw [after0_5]
  blk_simp
  refine (kept_loss m c last rfl _).trans (congrArg _ ?_)
  blk_ext [idx last]

/-- The derivative by the weights, after the run. -/
theorem final_weights (c : Dev nD) : (dats m 0 c).arrAt 6 cfg0.N = weights (m ((c : Thread nD τ).loc main_arg0)) (m ((c : Thread nD τ).loc main_arg1)) (m ((c : Thread nD τ).loc main_arg2)) (m ((c : Thread nD τ).loc main_arg3)) := by
  refine (dats m 0 c).arrAt_eq_of_after_last 6 last (by decide +kernel) _ fun j => ?_
  rw [after0_6]
  blk_simp
  refine (kept_weights m c last rfl _).trans (congrArg _ ?_)
  blk_ext [idx last]
end

theorem algebraic : Cert.algebraic_FinalIdeal_FinalRefIdeal := fun m g m' g' _ hm =>
  ⟨_, _, _, (θ_run _ _ _).mono (fun _ h c => ⟨(h c).1.trans (final_back m c), (h c).2.1.trans (final_loss m c),
      (h c).2.2.1.trans (final_weights m c), (h c).2.2.2⟩)
      (Cert.FinalIdeal.Value.run_blocks m g),
    (θ_run _ _ _).mono (fun _ h c => ⟨(h c).1.trans (by
      funext i
      rw [← (hm c).1, ← (hm c).2.1, ← (hm c).2.2.1, ← (hm c).2.2.2]
      unfold Cert.FinalRefIdeal.Value.res_main_v33
      pointwise [back, slope, err, normed, scale]), (h c).2.1.trans (by
      funext i
      rw [← (hm c).1, ← (hm c).2.1, ← (hm c).2.2.1, ← (hm c).2.2.2]
      pointwise [loss, square, err, normed, scale]), (h c).2.2.1.trans (by
      funext i
      rw [← (hm c).1, ← (hm c).2.1, ← (hm c).2.2.1, ← (hm c).2.2.2]
      pointwise [weights, part, slope, err, normed, scale]), (h c).2.2.2⟩)
      (Cert.FinalRefIdeal.Value.run m' g')⟩

end Cert.Proof.Final

end

end
-- ==== Proof.Gated.Claims.lean ====
/-
# The gated norm of the SSD branch: its claims

A block holds whole rows, so the mean of a row's squares is the same sum in the kernel as in the reference. The gate is a
range of columns of the projection.
-/
module

public import proofs.«01_k».proof.Defs
public import proofs.«01_k».proof.Proof.Gen.Gated
public import proofs.«01_k».proof.Proof.Gen.Gated.Frame
public import proofs.«01_k».proof.Proof.Gen.GatedIdeal.Value
public import proofs.«01_k».proof.Proof.Gen.GatedRefIdeal
public import proofs.«01_k».proof.Proof.Gen.GatedRefIdeal.Run
public import Idealize.ShloMosaic.Lib.Pointwise
public import Idealize.ShloMosaic.Lib.Quiescent
public import Idealize.ShloMosaic.Lib.Pipeline.ValueKit

@[expose] public section

noncomputable section

namespace Cert.Proof.Gated

open Idealize.ShloMosaic Idealize.ShloMosaic.TcCoe Idealize.SL.Sem

theorem frame : Cert.quiescent_Gated := fun m g _ => Cert.Gated.Gen.frame m g

theorem frame_ideal : Cert.quiescent_GatedIdeal := fun m g _ => Cert.GatedIdeal.Gen.frame m g

theorem frame_refIdeal : Cert.quiescent_GatedRefIdeal := fun m g _ =>
  (θ_run _ _ _).mono (fun r h => ⟨fun c => (h c).2, sem_eq_zero_of_no_sems (by decide) r.2⟩)
    (Cert.GatedRefIdeal.Value.run m g)

section
open Cert.GatedIdeal Cert.GatedIdeal.Gen

/-- Which rows a point works on, and which columns of the projection. -/
theorem idx : ∀ t : Fin cfg0.N, win0_0.index t = ![t.val, 0] ∧ win0_1.index t = ![t.val, 2] ∧ win0_2.index t = ![0, 0]
    ∧ win0_3.index t = ![t.val, 0] :=
  (by decide +kernel : ∀ t : Fin grid0.N, _)

/-- A row through its gate, at a column. -/
def gated (y : Vec Ideal S8192x4096 .f32) (p : Vec Ideal S8192x22528 .f32) (l : Fin 8192) (k : Fin 4096) : EReal :=
  (y (ix2 l k) : EReal) * ((p (ix2 l ⟨8192 + k.val, by omega⟩) : EReal) * Ideal.logistic (p (ix2 l ⟨8192 + k.val, by omega⟩)))

/-- The normalized rows, element by element. -/
def rows (y : Vec Ideal S8192x4096 .f32) (p : Vec Ideal S8192x22528 .f32) (w : Vec Ideal S1x4096 .f32) :
    Vec Ideal S8192x4096 .bf16 := fun i =>
  (gated y p (i 0) (i 1) * Ideal.rsqrt (Ideal.div (∑ k : Fin 4096, gated y p (i 0) k * gated y p (i 0) k)
    (Ideal.ofBits .f32 0x45800000#32) + Ideal.ofBits .f32 0x358637BD#32)) * (w (ix2 0 (i 1)) : EReal)

variable (m : (ℓ : Loc nD τ sig) → Buf (Elt Ideal) ℓ)

/-- What a point finds of the projection. -/
theorem block_apply (c : Dev nD) (t : Fin cfg0.N) (y : S128x4096.Idx) :
    X0_1 m c t y = m ((c : Thread nD τ).loc main_arg1) (ix2 ⟨t.val * 128 + (y 0).val, by
      have := t.isLt; have : cfg0.N = 64 := rfl; have : (y 0).val < 128 := (y 0).isLt; omega⟩
        ⟨8192 + (y 1).val, by have : (y 1).val < 4096 := (y 1).isLt; omega⟩) := by
  unfold X0_1 Pipeline.Window.fill
  rw [dif_pos (moved0_1 t y)]
  blk_ext [iblk, V, idx t]

/-- The kernel's array after the run. -/
theorem final (c : Dev nD) :
    (dats m 0 c).arrAt 3 cfg0.N = rows (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  unfold outsAt0
  frame_out
  pointwise [k0_pay1, rows, gated]
  simp only [block_apply]
  blk_point [iblk, V, idx t]
end

theorem algebraic : Cert.algebraic_GatedIdeal_GatedRefIdeal := fun m g m' g' _ hm =>
  ⟨_, (θ_run _ _ _).mono (fun _ h c => ⟨(h c).1.trans (final m c), (h c).2⟩) (Cert.GatedIdeal.Value.run_blocks m g),
    (θ_run _ _ _).mono (fun _ h c => ⟨(h c).1.trans (by
      funext i
      rw [← (hm c).1, ← (hm c).2.1, ← (hm c).2.2]
      pointwise [rows, gated]
      rfl), (h c).2⟩)
      (Cert.GatedRefIdeal.Value.run m' g')⟩

end Cert.Proof.Gated

end

end
-- ==== Proof.GatedBack.Claims.lean ====
/-
# The backward pass of the gated norm: its claims

Each point of the kernel's loop works on 128 whole rows. It writes the derivatives by the rows and by the gate, and it
adds its rows' part of the derivative by the weights to a vector that it keeps from point to point.
-/
module

public import proofs.«01_k».proof.Defs
public import proofs.«01_k».proof.Proof.Gen.GatedB
public import proofs.«01_k».proof.Proof.Gen.GatedB.Frame
public import proofs.«01_k».proof.Proof.Gen.GatedBIdeal.Value
public import proofs.«01_k».proof.Proof.Gen.GatedBRefIdeal
public import proofs.«01_k».proof.Proof.Gen.GatedBRefIdeal.Run
public import Idealize.ShloMosaic.Lib.Pointwise
public import Idealize.ShloMosaic.Lib.Quiescent
public import Idealize.ShloMosaic.Lib.Pipeline.ValueKit

@[expose] public section

noncomputable section

namespace Cert.Proof.GatedB

open Idealize.ShloMosaic Idealize.ShloMosaic.TcCoe Idealize.SL.Sem

theorem frame : Cert.quiescent_GatedB := fun m g _ => Cert.GatedB.Gen.frame m g

theorem frame_ideal : Cert.quiescent_GatedBIdeal := fun m g _ => Cert.GatedBIdeal.Gen.frame m g

theorem frame_refIdeal : Cert.quiescent_GatedBRefIdeal := fun m g _ =>
  (θ_run _ _ _).mono (fun r h => ⟨fun c => (h c).2.2.2, sem_eq_zero_of_no_sems (by decide) r.2⟩)
    (Cert.GatedBRefIdeal.Value.run m g)

section
open Cert.GatedBIdeal Cert.GatedBIdeal.Gen

/-- Which rows a point works on, and which columns of the projection. -/
theorem idx : ∀ t : Fin cfg0.N, win0_0.index t = ![t.val, 0] ∧ win0_1.index t = ![t.val, 2] ∧ win0_2.index t = ![0, 0]
    ∧ win0_3.index t = ![t.val, 0] ∧ win0_4.index t = ![t.val, 0] ∧ win0_5.index t = ![t.val, 0]
    ∧ win0_6.index t = ![0, 0] :=
  (by decide +kernel : ∀ t : Fin grid0.N, _)

/-- The gate's argument: a range of the projection's columns. -/
def gate (p : Vec Ideal S8192x22528 .f32) (l : Fin 8192) (k : Fin 4096) : EReal := p (ix2 l ⟨8192 + k.val, by omega⟩)

/-- A row through its gate, at a column. -/
def gated (y : Vec Ideal S8192x4096 .f32) (p : Vec Ideal S8192x22528 .f32) (l : Fin 8192) (k : Fin 4096) : EReal :=
  (y (ix2 l k) : EReal) * (gate p l k * Ideal.logistic (gate p l k))

/-- One over the root of the mean of a gated row's squares. -/
def scale (y : Vec Ideal S8192x4096 .f32) (p : Vec Ideal S8192x22528 .f32) (l : Fin 8192) : EReal :=
  Ideal.rsqrt (Ideal.div (∑ k : Fin 4096, gated y p l k * gated y p l k) (Ideal.ofBits .f32 0x45800000#32)
    + Ideal.ofBits .f32 0x358637BD#32)

/-- The derivative by a gated row, at a column. -/
def slope (y : Vec Ideal S8192x4096 .f32) (p : Vec Ideal S8192x22528 .f32) (w : Vec Ideal S1x4096 .f32)
    (d : Vec Ideal S8192x4096 .f32) (l : Fin 8192) (j : Fin 4096) : EReal :=
  scale y p l * ((d (ix2 l j) : EReal) * (w (ix2 0 j) : EReal) - gated y p l j * scale y p l
    * Ideal.div (∑ k : Fin 4096, (d (ix2 l k) : EReal) * (w (ix2 0 k) : EReal) * (gated y p l k * scale y p l))
      (Ideal.ofBits .f32 0x45800000#32))

/-- The derivative by the rows, element by element. -/
def rows (y : Vec Ideal S8192x4096 .f32) (p : Vec Ideal S8192x22528 .f32) (w : Vec Ideal S1x4096 .f32)
    (d : Vec Ideal S8192x4096 .f32) : Vec Ideal S8192x4096 .f32 := fun i =>
  slope y p w d (i 0) (i 1) * (gate p (i 0) (i 1) * Ideal.logistic (gate p (i 0) (i 1)))

/-- The derivative by the gate, element by element. -/
def gates (y : Vec Ideal S8192x4096 .f32) (p : Vec Ideal S8192x22528 .f32) (w : Vec Ideal S1x4096 .f32)
    (d : Vec Ideal S8192x4096 .f32) : Vec Ideal S8192x4096 .bf16 := fun i =>
  slope y p w d (i 0) (i 1) * (y (ix2 (i 0) (i 1)) : EReal) * (Ideal.logistic (gate p (i 0) (i 1))
    * (Ideal.ofBits .f32 0x3F800000#32 + gate p (i 0) (i 1) * (Ideal.ofBits .f32 0x3F800000#32 - Ideal.logistic (gate p (i 0) (i 1)))))

/-- One row's part of the derivative by the weights. -/
def part (y : Vec Ideal S8192x4096 .f32) (p : Vec Ideal S8192x22528 .f32) (d : Vec Ideal S8192x4096 .f32) (j : Fin 4096)
    (l : Fin 8192) : EReal := (d (ix2 l j) : EReal) * (gated y p l j * scale y p l)

/-- The derivative by the weights. -/
def weights (y : Vec Ideal S8192x4096 .f32) (p : Vec Ideal S8192x22528 .f32) (d : Vec Ideal S8192x4096 .f32) :
    Vec Ideal S1x4096 .f32 := fun i => ∑ l : Fin 8192, part y p d (i 1) l

variable (m : (ℓ : Loc nD τ sig) → Buf (Elt Ideal) ℓ)

/-- The row of the arrays that is row `r` of point `t`'s block. -/
def row (t : Fin cfg0.N) (r : Fin 128) : Fin 8192 := ⟨t.val * 128 + r.val, by have := t.isLt; have : cfg0.N = 64 := rfl; omega⟩

/-- What a point finds of the projection. -/
theorem gate_apply (c : Dev nD) (t : Fin cfg0.N) (r : Fin 128) (k : Fin 4096) :
    (X0_1 m c t (ix2 r k) : EReal) = gate (m ((c : Thread nD τ).loc main_arg1)) (row t r) k := by
  unfold X0_1 Pipeline.Window.fill gate row
  rw [dif_pos (moved0_1 t _)]
  blk_ext [iblk, V, idx t]

/-- A gated row in the kernel. -/
theorem gated_apply (c : Dev nD) (t : Fin cfg0.N) (r : Fin 128) (k : Fin 4096) :
    (k0_pay6 (iblk m c 0 t) (X0_1 m c t) (ix2 r k) : EReal)
      = gated (m ((c : Thread nD τ).loc main_arg0)) (m ((c : Thread nD τ).loc main_arg1)) (row t r) k := by
  pointwise [k0_pay6, k0_pay5, gated]
  simp only [gate_apply]
  blk_point [iblk, V, idx t, row]

/-- A row's scale in the kernel. -/
theorem scale_apply (c : Dev nD) (t : Fin cfg0.N) (r : Fin 128) :
    (k0_pay7 (iblk m c 0 t) (X0_1 m c t) (ix2 r 0) : EReal)
      = scale (m ((c : Thread nD τ).loc main_arg0)) (m ((c : Thread nD τ).loc main_arg1)) (row t r) := by
  pointwise [k0_pay7, scale]
  simp only [gated_apply]

/-- The derivative by a gated row in the kernel. -/
theorem slope_apply (c : Dev nD) (t : Fin cfg0.N) (r : Fin 128) (k : Fin 4096) :
    (k0_pay1 (k0_pay7 (iblk m c 0 t) (X0_1 m c t)) (k0_pay10 (iblk m c 0 t) (X0_1 m c t) (iblk m c 3 t) (iblk m c 2 t)) (ix2 r k) : EReal)
      = slope (m ((c : Thread nD τ).loc main_arg0)) (m ((c : Thread nD τ).loc main_arg1)) (m ((c : Thread nD τ).loc main_arg2))
        (m ((c : Thread nD τ).loc main_arg3)) (row t r) k := by
  pointwise [k0_pay1, k0_pay10, k0_pay8, slope]
  simp only [gated_apply, scale_apply]
  blk_point [iblk, V, idx t, row]

/-- What a point writes of the derivative by the rows. -/
theorem rows_apply (c : Dev nD) (t : Fin cfg0.N) (y : S128x4096.Idx) :
    k0_pay2 (k0_pay5 (X0_1 m c t)) (k0_pay7 (iblk m c 0 t) (X0_1 m c t))
      (k0_pay10 (iblk m c 0 t) (X0_1 m c t) (iblk m c 3 t) (iblk m c 2 t)) y
      = rows (m ((c : Thread nD τ).loc main_arg0)) (m ((c : Thread nD τ).loc main_arg1)) (m ((c : Thread nD τ).loc main_arg2))
        (m ((c : Thread nD τ).loc main_arg3)) (ix2 (row t (y 0)) (y 1)) := by
  obtain ⟨r, k, rfl⟩ : ∃ r k, y = ix2 r k := ⟨y 0, y 1, eq_ix2 y⟩
  pointwise [k0_pay2, k0_pay5, rows]
  simp only [gate_apply, slope_apply]

/-- What a point writes of the derivative by the gate. -/
theorem gates_apply (c : Dev nD) (t : Fin cfg0.N) (y : S128x4096.Idx) :
    k0_pay3 (iblk m c 0 t) (X0_1 m c t) (k0_pay7 (iblk m c 0 t) (X0_1 m c t))
      (k0_pay10 (iblk m c 0 t) (X0_1 m c t) (iblk m c 3 t) (iblk m c 2 t)) y
      = gates (m ((c : Thread nD τ).loc main_arg0)) (m ((c : Thread nD τ).loc main_arg1)) (m ((c : Thread nD τ).loc main_arg2))
        (m ((c : Thread nD τ).loc main_arg3)) (ix2 (row t (y 0)) (y 1)) := by
  obtain ⟨r, k, rfl⟩ : ∃ r k, y = ix2 r k := ⟨y 0, y 1, eq_ix2 y⟩
  pointwise [k0_pay3, gates]
  simp only [gate_apply, slope_apply]
  blk_point [iblk, V, idx t, row]

/-- The derivative by the rows, after the run. -/
theorem final_rows (c : Dev nD) :
    (dats m 0 c).arrAt 4 cfg0.N = rows (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  refine Eq.trans (b := rows (m ((c : Thread nD τ).loc main_arg0)) (m ((c : Thread nD τ).loc main_arg1))
    (m ((c : Thread nD τ).loc main_arg2)) (m ((c : Thread nD τ).loc main_arg3)) (ix2 (row t (y 0)) (y 1))) ?_
    (congrArg _ (by blk_ext [idx t, row]))
  rw [after0_4]
  by_cases h0 : t.val % 64 = 0
  · rw [outsAt0_A m c t h0]
    frame_out
    exact rows_apply m c t y
  · rw [outsAt0_B m c t h0]
    frame_out
    exact rows_apply m c t y

/-- The derivative by the gate, after the run. -/
theorem final_gates (c : Dev nD) :
    (dats m 0 c).arrAt 5 cfg0.N = gates (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  refine Eq.trans (b := gates (m ((c : Thread nD τ).loc main_arg0)) (m ((c : Thread nD τ).loc main_arg1))
    (m ((c : Thread nD τ).loc main_arg2)) (m ((c : Thread nD τ).loc main_arg3)) (ix2 (row t (y 0)) (y 1))) ?_
    (congrArg _ (by blk_ext [idx t, row]))
  rw [after0_5]
  by_cases h0 : t.val % 64 = 0
  · rw [outsAt0_A m c t h0]
    frame_out
    exact gates_apply m c t y
  · rw [outsAt0_B m c t h0]
    frame_out
    exact gates_apply m c t y

/-- What a point adds to the vector it keeps: its 128 rows' parts. -/
def term (c : Dev nD) (t : Fin cfg0.N) (i : S1x4096.Idx) : EReal :=
  ∑ k : Fin 128, part (m ((c : Thread nD τ).loc main_arg0)) (m ((c : Thread nD τ).loc main_arg1))
    (m ((c : Thread nD τ).loc main_arg3)) (i 1) (row t k)

/-- A point's addition, read at an index. -/
theorem step_apply (c : Dev nD) (t : Fin cfg0.N) (v : Vec Ideal S1x4096 .f32) (i : S1x4096.Idx) :
    k0_pay9 (iblk m c 0 t) (X0_1 m c t) (iblk m c 3 t) v i = (v i : EReal) + term m c t i := by
  obtain ⟨r, j, rfl⟩ : ∃ r j, i = ix2 r j := ⟨i 0, i 1, eq_ix2 i⟩
  pointwise [k0_pay9, k0_pay8, term, part]
  simp only [gated_apply, scale_apply]
  blk_point [iblk, V, idx t, row]

/-- The vector kept from point to point is the sum of the points' additions. -/
theorem kept (c : Dev nD) (t : Fin cfg0.N) (ht : t.val + 1 = cfg0.N) (i : S1x4096.Idx) :
    (outsAt0 m c t.val t.isLt).2.2 i = weights (m ((c : Thread nD τ).loc main_arg0)) (m ((c : Thread nD τ).loc main_arg1))
      (m ((c : Thread nD τ).loc main_arg3)) i := by
  refine (Pipeline.eq_sum_fin_of_reset_step_apply_last (M := EReal) (fun n h => (outsAt0 m c n h).2.2) 64 (fun _ => 0) (term m c)
    (fun t h i => ?_) (fun t h i => ?_) (by decide) t ht i).trans ?_
  · rw [outsAt0_A m c t h]
    frame_out
    rw [step_apply]
    exact congrArg (· + _) Ideal.ofBits_zero_f32
  · rw [outsAt0_B m c t h]
    frame_out
    rw [step_apply]
  · rw [zero_add]
    exact Fin.sum_mul_add_fin (L := 8192) 64 128 _

/-- The grid's last point. -/
def last : Fin cfg0.N := ⟨63, by decide⟩

/-- The derivative by the weights, after the run. -/
theorem final_weights (c : Dev nD) :
    (dats m 0 c).arrAt 6 cfg0.N = weights (m ((c : Thread nD τ).loc main_arg0)) (m ((c : Thread nD τ).loc main_arg1))
      (m ((c : Thread nD τ).loc main_arg3)) := by
  refine (dats m 0 c).arrAt_eq_of_after_last 6 last (by decide +kernel) _ fun j => ?_
  rw [after0_6]
  blk_simp
  refine (kept m c last rfl _).trans (congrArg _ ?_)
  blk_ext [idx last]
end

theorem algebraic : Cert.algebraic_GatedBIdeal_GatedBRefIdeal := fun m g m' g' _ hm =>
  ⟨_, _, _, (θ_run _ _ _).mono (fun _ h c => ⟨(h c).1.trans (final_rows m c), (h c).2.1.trans (final_gates m c),
      (h c).2.2.1.trans (final_weights m c), (h c).2.2.2⟩)
      (Cert.GatedBIdeal.Value.run_blocks m g),
    (θ_run _ _ _).mono (fun _ h c => ⟨(h c).1.trans (by
      funext i
      rw [← (hm c).1, ← (hm c).2.1, ← (hm c).2.2.1, ← (hm c).2.2.2]
      unfold Cert.GatedBRefIdeal.Value.res_main_v32
      pointwise [rows, slope, scale, gated, gate]
      rfl), (h c).2.1.trans (by
      funext i
      rw [← (hm c).1, ← (hm c).2.1, ← (hm c).2.2.1, ← (hm c).2.2.2]
      unfold Cert.GatedBRefIdeal.Value.res_main_v41
      pointwise [gates, slope, scale, gated, gate]
      rfl), (h c).2.2.1.trans (by
      funext i
      rw [← (hm c).1, ← (hm c).2.1, ← (hm c).2.2.2]
      pointwise [weights, part, scale, gated, gate]
      rfl), (h c).2.2.2⟩)
      (Cert.GatedBRefIdeal.Value.run m' g')⟩

end Cert.Proof.GatedB

end

end
-- ==== Proof.Merge.Claims.lean ====
/-
# The merge of the two branches and its derivative: their claims

Both kernels work on one element at a time: the value at a place is made of the arguments' values at that place, and of
the gates' columns of the projection, which stand a fixed number of columns to the right. The reference spells the
logistic function out as one over one plus an exponential; on the extended reals that is what the kernel's operation is.
-/
module

public import proofs.«01_k».proof.Defs
public import proofs.«01_k».proof.Proof.Gen.Merge
public import proofs.«01_k».proof.Proof.Gen.Merge.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeB
public import proofs.«01_k».proof.Proof.Gen.MergeB.Frame
public import proofs.«01_k».proof.Proof.Gen.MergeBIdeal.Value
public import proofs.«01_k».proof.Proof.Gen.MergeBRefIdeal
public import proofs.«01_k».proof.Proof.Gen.MergeBRefIdeal.Run
public import Idealize.ShloMosaic.Lib.Pointwise
public import Idealize.ShloMosaic.Lib.Quiescent
public import Idealize.ShloMosaic.Lib.Pipeline.ValueKit

@[expose] public section

noncomputable section

namespace Cert.Proof.Merge

open Idealize.ShloMosaic Idealize.ShloMosaic.TcCoe Idealize.SL.Sem

theorem frame : Cert.quiescent_Merge := fun m g _ => Cert.Merge.Gen.frame m g

theorem frame_ideal : Cert.quiescent_MergeIdeal := fun m g _ => Cert.MergeIdeal.Gen.frame m g

theorem frame_refIdeal : Cert.quiescent_MergeRefIdeal := fun m g _ =>
  (θ_run _ _ _).mono (fun r h => ⟨fun c => (h c).2, sem_eq_zero_of_no_sems (by decide) r.2⟩)
    (Cert.MergeRefIdeal.Value.run m g)

/-- The reference's merge is the kernel's. -/
theorem merge_eq (a b : Vec Ideal Cert.MergeIdeal.S8192x2048 .f32) (p : Vec Ideal Cert.MergeIdeal.S8192x22528 .f32)
    (i : Cert.MergeIdeal.S8192x2048.Idx) (j k : Cert.MergeIdeal.S8192x22528.Idx)
    (hj : j = Cert.MergeIdeal.Value.inIdx4_0 i) (hk : k = Cert.MergeIdeal.Value.inIdx4_2 i) :
    (Ideal.div 1 (1 + Ideal.exp (-(p j : EReal))) * (a i : EReal) + Ideal.div 1 (1 + Ideal.exp (-(p k : EReal))) * (b i : EReal) : EReal)
      = Cert.MergeIdeal.Value.G4 p a p b i := by
  subst hj hk; rfl

theorem algebraic : Cert.algebraic_MergeIdeal_MergeRefIdeal := fun m g m' g' _ hm =>
  ⟨_, Cert.MergeIdeal.Value.run m g,
    (θ_run _ _ _).mono (fun _ h c => ⟨(h c).1.trans (by
      funext i
      rw [← (hm c).1, ← (hm c).2.1, ← (hm c).2.2]
      refine Eq.trans ?_ (merge_eq _ _ _ i _ _ rfl rfl)
      pointwise
      congr! 6 <;> blk_ext []), (h c).2⟩)
      (Cert.MergeRefIdeal.Value.run m' g')⟩

end Cert.Proof.Merge

namespace Cert.Proof.MergeB

open Idealize.ShloMosaic Idealize.ShloMosaic.TcCoe Idealize.SL.Sem

theorem frame : Cert.quiescent_MergeB := fun m g _ => Cert.MergeB.Gen.frame m g

theorem frame_ideal : Cert.quiescent_MergeBIdeal := fun m g _ => Cert.MergeBIdeal.Gen.frame m g

theorem frame_refIdeal : Cert.quiescent_MergeBRefIdeal := fun m g _ =>
  (θ_run _ _ _).mono (fun r h => ⟨fun c => (h c).2.2.2.2, sem_eq_zero_of_no_sems (by decide) r.2⟩)
    (Cert.MergeBRefIdeal.Value.run m g)

/-- The gate at a place of the projection, as the reference spells it. -/
def gate (p : Vec Ideal Cert.MergeBIdeal.S8192x22528 .f32) (j : Cert.MergeBIdeal.S8192x22528.Idx) : EReal :=
  Ideal.div 1 (1 + Ideal.exp (-(p j : EReal)))

/-- The derivative by a branch is the gate times what comes back. -/
theorem branch_eq (d : Vec Ideal Cert.MergeBIdeal.S8192x2048 .f32) (p : Vec Ideal Cert.MergeBIdeal.S8192x22528 .f32)
    (i : Cert.MergeBIdeal.S8192x2048.Idx) (j k : Cert.MergeBIdeal.S8192x22528.Idx)
    (hj : j = Cert.MergeBIdeal.Value.inIdx5_1 i) (hk : k = Cert.MergeBIdeal.Value.inIdx6_1 i) :
    ((d i : EReal) * gate p j : EReal) = Cert.MergeBIdeal.Value.G5 d p i
      ∧ ((d i : EReal) * gate p k : EReal) = Cert.MergeBIdeal.Value.G6 d p i := by
  subst hj hk; exact ⟨rfl, rfl⟩

/-- The derivative by a gate: what comes back, times the branch, times the gate and one minus the gate. -/
theorem gate_eq (d b : Vec Ideal Cert.MergeBIdeal.S8192x2048 .f32) (p : Vec Ideal Cert.MergeBIdeal.S8192x22528 .f32)
    (i : Cert.MergeBIdeal.S8192x2048.Idx) (j k : Cert.MergeBIdeal.S8192x22528.Idx)
    (hj : j = Cert.MergeBIdeal.Value.inIdx7_1 i) (hk : k = Cert.MergeBIdeal.Value.inIdx8_1 i) :
    ((d i : EReal) * (b i : EReal) * gate p j * (1 - gate p j) : EReal) = Cert.MergeBIdeal.Value.G7 d p b i
      ∧ ((d i : EReal) * (b i : EReal) * gate p k * (1 - gate p k) : EReal) = Cert.MergeBIdeal.Value.G8 d p b i := by
  subst hj hk
  constructor <;> exact (congrArg (_ * ·) (congrArg (· - _) Ideal.ofBits_one_f32)).symm

theorem algebraic : Cert.algebraic_MergeBIdeal_MergeBRefIdeal := fun m g m' g' _ hm =>
  ⟨_, _, _, _, Cert.MergeBIdeal.Value.run m g,
    (θ_run _ _ _).mono (fun _ h c => ⟨(h c).1.trans (by
      funext i
      rw [← (hm c).1, ← (hm c).2.2.2]
      refine Eq.trans ?_ (branch_eq _ _ i _ _ rfl rfl).1
      pointwise [gate]
      congr! 6 <;> blk_ext []), (h c).2.1.trans (by
      funext i
      rw [← (hm c).1, ← (hm c).2.2.2]
      refine Eq.trans ?_ (branch_eq _ _ i _ _ rfl rfl).2
      pointwise [gate]
      congr! 6 <;> blk_ext []), (h c).2.2.1.trans (by
      funext i
      rw [← (hm c).1, ← (hm c).2.1, ← (hm c).2.2.2]
      refine Eq.trans ?_ (gate_eq _ _ _ i _ _ rfl rfl).1
      pointwise [gate]
      congr! 6 <;> blk_ext []), (h c).2.2.2.1.trans (by
      funext i
      rw [← (hm c).1, ← (hm c).2.2.1, ← (hm c).2.2.2]
      refine Eq.trans ?_ (gate_eq _ _ _ i _ _ rfl rfl).2
      pointwise [gate]
      congr! 6 <;> blk_ext []), (h c).2.2.2.2⟩)
      (Cert.MergeBRefIdeal.Value.run m' g')⟩

end Cert.Proof.MergeB

end

end
-- ==== Proof.Norm.Claims.lean ====
/-
# The norm before the input projection: its claims

A block holds whole rows, so the mean of a row's squares is the same sum in the kernel as in the reference. The rest of
the work is element by element.
-/
module

public import proofs.«01_k».proof.Defs
public import proofs.«01_k».proof.Proof.Gen.Norm
public import proofs.«01_k».proof.Proof.Gen.Norm.Frame
public import proofs.«01_k».proof.Proof.Gen.NormIdeal.Value
public import proofs.«01_k».proof.Proof.Gen.NormRefIdeal
public import proofs.«01_k».proof.Proof.Gen.NormRefIdeal.Run
public import Idealize.ShloMosaic.Lib.Pointwise
public import Idealize.ShloMosaic.Lib.Quiescent
public import Idealize.ShloMosaic.Lib.Pipeline.ValueKit

@[expose] public section

noncomputable section

namespace Cert.Proof.Norm

open Idealize.ShloMosaic Idealize.ShloMosaic.TcCoe Idealize.SL.Sem

theorem frame : Cert.quiescent_Norm := fun m g _ => Cert.Norm.Gen.frame m g

theorem frame_ideal : Cert.quiescent_NormIdeal := fun m g _ => Cert.NormIdeal.Gen.frame m g

theorem frame_refIdeal : Cert.quiescent_NormRefIdeal := fun m g _ =>
  (θ_run _ _ _).mono (fun r h => ⟨fun c => (h c).2, sem_eq_zero_of_no_sems (by decide) r.2⟩)
    (Cert.NormRefIdeal.Value.run m g)

section
open Cert.NormIdeal Cert.NormIdeal.Gen

/-- Which rows a point works on. -/
theorem idx : ∀ t : Fin cfg0.N, win0_0.index t = ![t.val, 0] ∧ win0_1.index t = ![0, 0] ∧ win0_2.index t = ![t.val, 0] :=
  (by decide +kernel : ∀ t : Fin grid0.N, _)

/-- The normalized rows, element by element. -/
def rows (x : Vec Ideal S8192x2048 .f32) (w : Vec Ideal S1x2048 .f32) : Vec Ideal S8192x2048 .bf16 := fun i =>
  ((x (ix2 (i 0) (i 1)) : EReal) * Ideal.rsqrt (Ideal.div (∑ k : Fin 2048, (x (ix2 (i 0) k) : EReal) * (x (ix2 (i 0) k) : EReal))
    (Ideal.ofBits .f32 0x45000000#32) + Ideal.ofBits .f32 0x358637BD#32)) * (w (ix2 0 (i 1)) : EReal)

variable (m : (ℓ : Loc nD τ sig) → Buf (Elt Ideal) ℓ)

/-- The kernel's array after the run. -/
theorem final (c : Dev nD) :
    (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rows]
  blk_point [iblk, V, idx t]
end

theorem algebraic : Cert.algebraic_NormIdeal_NormRefIdeal := fun m g m' g' _ hm =>
  ⟨_, (θ_run _ _ _).mono (fun _ h c => ⟨(h c).1.trans (final m c), (h c).2⟩) (Cert.NormIdeal.Value.run_blocks m g),
    (θ_run _ _ _).mono (fun _ h c => ⟨(h c).1.trans (by
      funext i
      rw [← (hm c).1, ← (hm c).2]
      pointwise [rows]), (h c).2⟩)
      (Cert.NormRefIdeal.Value.run m' g')⟩

end Cert.Proof.Norm

end

end
-- ==== Proof.NormBack.Claims.lean ====
/-
# The backward pass of the norm before the input projection: its claims

Each point of the kernel's loop works on whole rows. It writes the rows' derivative, and it adds its rows' part of the
derivative by the weights to a vector that it keeps from point to point, starting from zero. The reference sums that
derivative over all the rows at once.
-/
module

public import proofs.«01_k».proof.Defs
public import proofs.«01_k».proof.Proof.Gen.NormB
public import proofs.«01_k».proof.Proof.Gen.NormB.Frame
public import proofs.«01_k».proof.Proof.Gen.NormBIdeal.Value
public import proofs.«01_k».proof.Proof.Gen.NormBRefIdeal
public import proofs.«01_k».proof.Proof.Gen.NormBRefIdeal.Run
public import Idealize.ShloMosaic.Lib.Pointwise
public import Idealize.ShloMosaic.Lib.Quiescent
public import Idealize.ShloMosaic.Lib.Pipeline.ValueKit

@[expose] public section

noncomputable section

namespace Cert.Proof.NormB

open Idealize.ShloMosaic Idealize.ShloMosaic.TcCoe Idealize.SL.Sem

theorem frame : Cert.quiescent_NormB := fun m g _ => Cert.NormB.Gen.frame m g

theorem frame_ideal : Cert.quiescent_NormBIdeal := fun m g _ => Cert.NormBIdeal.Gen.frame m g

theorem frame_refIdeal : Cert.quiescent_NormBRefIdeal := fun m g _ =>
  (θ_run _ _ _).mono (fun r h => ⟨fun c => (h c).2.2, sem_eq_zero_of_no_sems (by decide) r.2⟩)
    (Cert.NormBRefIdeal.Value.run m g)

section
open Cert.NormBIdeal Cert.NormBIdeal.Gen

/-- Which rows a point works on. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- One over the root of the mean of a row's squares. -/
def scale (x : Vec Ideal S8192x2048 .f32) (l : Fin 8192) : EReal :=
  Ideal.rsqrt (Ideal.div (∑ k : Fin 2048, (x (ix2 l k) : EReal) * (x (ix2 l k) : EReal)) (Ideal.ofBits .f32 0x45000000#32)
    + Ideal.ofBits .f32 0x358637BD#32)

/-- The derivative by the rows, element by element. -/
def back (x : Vec Ideal S8192x2048 .f32) (w : Vec Ideal S1x2048 .f32) (d e : Vec Ideal S8192x2048 .f32) :
    Vec Ideal S8192x2048 .f32 := fun i =>
  (e (ix2 (i 0) (i 1)) : EReal) + scale x (i 0) * ((d (ix2 (i 0) (i 1)) : EReal) * (w (ix2 0 (i 1)) : EReal)
    - (x (ix2 (i 0) (i 1)) : EReal) * scale x (i 0)
      * Ideal.div (∑ k : Fin 2048, (d (ix2 (i 0) k) : EReal) * (w (ix2 0 k) : EReal) * ((x (ix2 (i 0) k) : EReal) * scale x (i 0)))
        (Ideal.ofBits .f32 0x45000000#32))

/-- One row's part of the derivative by the weights. -/
def part (x d : Vec Ideal S8192x2048 .f32) (j : Fin 2048) (l : Fin 8192) : EReal :=
  (d (ix2 l j) : EReal) * ((x (ix2 l j) : EReal) * scale x l)

/-- The derivative by the weights. -/
def weights (x d : Vec Ideal S8192x2048 .f32) : Vec Ideal S1x2048 .f32 := fun i => ∑ l : Fin 8192, part x d (i 1) l

variable (m : (ℓ : Loc nD τ sig) → Buf (Elt Ideal) ℓ)

/-- The kernel's rows after the run. -/
theorem final_rows (c : Dev nD) :
    (dats m 0 c).arrAt 4 cfg0.N = back (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  by_cases h0 : t.val % 32 = 0
  · rw [outsAt0_A m c t h0]
    frame_out
    pointwise [k0_pay5, k0_pay3, k0_pay2, back, scale]
    blk_point [iblk, V, idx t]
  · rw [outsAt0_B m c t h0]
    frame_out
    pointwise [k0_pay5, k0_pay3, k0_pay2, back, scale]
    blk_point [iblk, V, idx t]

/-- What a point adds to the vector it keeps: its 256 rows' parts. -/
def term (c : Dev nD) (t : Fin cfg0.N) (i : S1x2048.Idx) : EReal :=
  ∑ k : Fin 256, part (m ((c : Thread nD τ).loc main_arg0)) (m ((c : Thread nD τ).loc main_arg2)) (i 1)
    ⟨t.val * 256 + k.val, by have := t.isLt; have : cfg0.N = 32 := rfl; omega⟩

/-- A point's addition, read at an index. -/
theorem step_apply (c : Dev nD) (t : Fin cfg0.N) (v : Vec Ideal S1x2048 .f32) (i : S1x2048.Idx) :
    k0_pay4 (iblk m c 0 t) (iblk m c 2 t) v i = (v i : EReal) + term m c t i := by
  pointwise [k0_pay4, k0_pay3, k0_pay2, term, part, scale]
  blk_point [iblk, V, idx t]

/-- The vector kept from point to point is the sum of the points' additions. -/
theorem kept (c : Dev nD) (t : Fin cfg0.N) (ht : t.val + 1 = cfg0.N) (i : S1x2048.Idx) :
    (outsAt0 m c t.val t.isLt).2 i = weights (m ((c : Thread nD τ).loc main_arg0)) (m ((c : Thread nD τ).loc main_arg2)) i := by
  refine (Pipeline.eq_sum_fin_of_reset_step_apply_last (M := EReal) (fun n h => (outsAt0 m c n h).2) 32 (fun _ => 0) (term m c)
    (fun t h i => ?_) (fun t h i => ?_) (by decide) t ht i).trans ?_
  · rw [outsAt0_A m c t h]
    frame_out
    rw [step_apply]
    exact congrArg (· + _) Ideal.ofBits_zero_f32
  · rw [outsAt0_B m c t h]
    frame_out
    rw [step_apply]
  · rw [zero_add]
    exact Fin.sum_mul_add_fin (L := 8192) 32 256 _

/-- The grid's last point. -/
def last : Fin cfg0.N := ⟨31, by decide⟩

/-- The kernel's derivative by the weights after the run. -/
theorem final_weights (c : Dev nD) :
    (dats m 0 c).arrAt 5 cfg0.N = weights (m ((c : Thread nD τ).loc main_arg0)) (m ((c : Thread nD τ).loc main_arg2)) := by
  refine (dats m 0 c).arrAt_eq_of_after_last 5 last (by decide +kernel) _ fun j => ?_
  rw [after0_5]
  blk_simp
  refine (kept m c last rfl _).trans (congrArg _ ?_)
  blk_ext [idx last]
end

theorem algebraic : Cert.algebraic_NormBIdeal_NormBRefIdeal := fun m g m' g' _ hm =>
  ⟨_, _, (θ_run _ _ _).mono (fun _ h c => ⟨(h c).1.trans (final_rows m c), (h c).2.1.trans (final_weights m c), (h c).2.2⟩)
      (Cert.NormBIdeal.Value.run_blocks m g),
    (θ_run _ _ _).mono (fun _ h c => ⟨(h c).1.trans (by
      funext i
      rw [← (hm c).1, ← (hm c).2.1, ← (hm c).2.2.1, ← (hm c).2.2.2]
      pointwise [back, scale]), (h c).2.1.trans (by
      funext i
      rw [← (hm c).1, ← (hm c).2.2.1]
      pointwise [weights, part, scale]), (h c).2.2⟩)
      (Cert.NormBRefIdeal.Value.run m' g')⟩

end Cert.Proof.NormB

end

end
-- ==== Proof.Product.Sums.lean ====
/-
# Contractions that the points of a run share

The kernel contracts a stretch of the axis at each point of a run and keeps the sums in between. At the run's last point
they are the sums over the whole axis.
-/
module

public import Idealize.ShloMosaic.Lib.Pipeline.ValueKit

@[expose] public section

noncomputable section

namespace Cert.Proof.Product

open Idealize.ShloMosaic

variable {N J n L : ℕ} {ι : Type}

/-- The place on the contracted axis of place `k` of a point's stretch. -/
def inner (hJ : 0 < J) (hL : L = J * n) (t : Fin N) (k : Fin n) : Fin L :=
  ⟨t.val % J * n + k.val, Fin.mul_add_lt_of_eq_mul hL ⟨t.val % J, Nat.mod_lt _ hJ⟩ k⟩

/-- What the points of a run have added up at its last point: the contraction over the whole axis. -/
theorem run_sum [NeZero J] (hJ : 0 < J) (hL : L = J * n) (f : (p : ℕ) → p < N → ι → EReal) (g : Fin N → ι → Fin L → EReal)
    (hg : ∀ s t : Fin N, s.val / J = t.val / J → g s = g t)
    (h0 : ∀ t : Fin N, t.val % J = 0 → ∀ i, f t.val t.isLt i = 0 + ∑ k : Fin n, g t i (inner hJ hL t k))
    (hs : ∀ t : Fin N, ¬t.val % J = 0 → ∀ i, f t.val t.isLt i
      = f (t.val - 1) (Nat.lt_of_le_of_lt (Nat.sub_le _ _) t.isLt) i + ∑ k : Fin n, g t i (inner hJ hL t k))
    (t : Fin N) (ht : t.val % J = J - 1) (i : ι) : f t.val t.isLt i = ∑ l : Fin L, g t i l := by
  refine (Pipeline.eq_sum_fin_of_reset_step_apply_of_flush (M := EReal) f J (fun _ => 0)
    (fun t i => ∑ k : Fin n, g t i (inner hJ hL t k)) h0 hs t ht i).trans ?_
  rw [zero_add]
  refine Eq.trans ?_ (Fin.sum_mul_add_fin J n (g t i) hL)
  refine Finset.sum_congr rfl fun s _ => Finset.sum_congr rfl fun k _ => ?_
  have hd : (J * (t.val / J) + s.val) / J = t.val / J := by
    rw [Nat.mul_add_div hJ, Nat.div_eq_of_lt s.isLt, Nat.add_zero]
  have hm : (J * (t.val / J) + s.val) % J = s.val := by
    rw [Nat.mul_add_mod, Nat.mod_eq_of_lt s.isLt]
  rw [hg _ t hd]
  exact congrArg (g t i) (Fin.ext (by simp only [inner, hm]))

/-- The same of a kernel's sums: a point's step `pay` turns what is kept into that and its stretch of the contraction `g` that
the run's block is. -/
theorem run_prod [NeZero J] (hJ : 0 < J) (hL : L = J * n) (f : (p : ℕ) → p < N → ι → EReal) (g : ℕ → ι → Fin L → EReal)
    (pay : (ι → EReal) → Fin N → ι → EReal) (z : ι → EReal) (hz : ∀ i, z i = 0)
    (hp : ∀ (t : Fin N) v i, pay v t i = v i + ∑ k : Fin n, g (t.val / J) i (inner hJ hL t k))
    (h0 : ∀ t : Fin N, t.val % J = 0 → f t.val t.isLt = pay z t)
    (hs : ∀ t : Fin N, ¬t.val % J = 0 → f t.val t.isLt = pay (f (t.val - 1) (Nat.lt_of_le_of_lt (Nat.sub_le _ _) t.isLt)) t)
    (t : Fin N) (ht : t.val % J = J - 1) (i : ι) : f t.val t.isLt i = ∑ l : Fin L, g (t.val / J) i l :=
  run_sum hJ hL f (fun t => g (t.val / J)) (fun _ _ h => congrArg g h)
    (fun t h i => by rw [h0 t h, hp, hz]) (fun t h i => by rw [hs t h, hp]) t ht i

/-- The place on an axis of `J` stretches of place `k` of stretch `s`, counted round. -/
def spot (hJ : 0 < J) (hL : L = J * n) (s : ℕ) (k : Fin n) : Fin L :=
  ⟨s % J * n + k.val, Fin.mul_add_lt_of_eq_mul hL ⟨s % J, Nat.mod_lt _ hJ⟩ k⟩

/-- The product of two matrices, element by element. -/
def prod {M L K : ℕ} (a : (⟨2, ![M, L]⟩ : Shape).Idx → EReal) (b : (⟨2, ![L, K]⟩ : Shape).Idx → EReal) :
    (⟨2, ![M, K]⟩ : Shape).Idx → EReal := fun i => ∑ l : Fin L, a (ix2 (i 0) l) * b (ix2 l (i 1))

/-- A product of matrices in `R` by `C` blocks of `p` by `q`, each the sums of a run of `J` points. -/
theorem run_mm {M K R C p q : ℕ} [NeZero J] (hJ : 0 < J) (hL : L = J * n) (hR : 0 < R) (hM : M = R * p) (hC : 0 < C) (hK : K = C * q)
    (a : (⟨2, ![M, L]⟩ : Shape).Idx → EReal) (b : (⟨2, ![L, K]⟩ : Shape).Idx → EReal)
    (f : (s : ℕ) → s < N → (⟨2, ![p, q]⟩ : Shape).Idx → EReal)
    (pay : ((⟨2, ![p, q]⟩ : Shape).Idx → EReal) → Fin N → (⟨2, ![p, q]⟩ : Shape).Idx → EReal)
    (z : (⟨2, ![p, q]⟩ : Shape).Idx → EReal) (hz : ∀ i, z i = 0)
    (hp : ∀ (t : Fin N) v (r : Fin p) (j : Fin q), pay v t (ix2 r j) = v (ix2 r j) + ∑ k : Fin n,
      a (ix2 (spot hR hM (t.val / J / C) r) (inner hJ hL t k)) * b (ix2 (inner hJ hL t k) (spot hC hK (t.val / J) j)))
    (h0 : ∀ t : Fin N, t.val % J = 0 → f t.val t.isLt = pay z t)
    (hs : ∀ t : Fin N, ¬t.val % J = 0 → f t.val t.isLt = pay (f (t.val - 1) (Nat.lt_of_le_of_lt (Nat.sub_le _ _) t.isLt)) t)
    (t : Fin N) (ht : t.val % J = J - 1) (i : (⟨2, ![p, q]⟩ : Shape).Idx) :
    f t.val t.isLt i = prod a b (ix2 (spot hR hM (t.val / J / C) (i 0)) (spot hC hK (t.val / J) (i 1))) :=
  run_prod hJ hL f (fun s i l => a (ix2 (spot hR hM (s / C) (i 0)) l) * b (ix2 l (spot hC hK s (i 1)))) pay z hz
    (fun t v i => by rw [eq_ix2 i]; exact hp t v (i 0) (i 1)) h0 hs t ht i

end Cert.Proof.Product

end

end
-- ==== Proof.Product.BranchSsd.lean ====
/-
# The product of the SSD branch: its claims

The kernel contracts half of the axis at each of two points and keeps the sums in between; the reference contracts the
whole axis at once.
-/
module

public import proofs.«01_k».proof.Defs
public import proofs.«01_k».proof.Proof.Gen.BranchSsd
public import proofs.«01_k».proof.Proof.Gen.BranchSsd.Frame
public import proofs.«01_k».proof.Proof.Gen.BranchSsdIdeal.Frame
public import proofs.«01_k».proof.Proof.Gen.BranchSsdRefIdeal
public import proofs.«01_k».proof.Proof.Gen.BranchSsdRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.BranchSsd

open Idealize.ShloMosaic Idealize.ShloMosaic.TcCoe Idealize.SL.Sem

theorem frame : Cert.quiescent_BranchSsd := fun m g _ => Cert.BranchSsd.Gen.frame m g

theorem frame_ideal : Cert.quiescent_BranchSsdIdeal := fun m g _ => Cert.BranchSsdIdeal.Gen.frame m g

theorem frame_refIdeal : Cert.quiescent_BranchSsdRefIdeal := fun m g _ =>
  (θ_run _ _ _).mono (fun r h => ⟨fun c => (h c).2, sem_eq_zero_of_no_sems (by decide) r.2⟩)
    (Cert.BranchSsdRefIdeal.Value.run m g)

section
open Cert.BranchSsdIdeal Cert.BranchSsdIdeal.Gen

/-- Which blocks a point multiplies, and the block its sums belong to. -/
theorem idx : ∀ t : Fin cfg0.N, win0_0.index t = ![t.val / 4, t.val % 2] ∧ win0_1.index t = ![t.val % 2, t.val / 2 % 2]
    ∧ win0_2.index t = ![t.val / 4, t.val / 2 % 2] :=
  (by decide +kernel : ∀ t : Fin grid0.N, _)

/-- The product, element by element. -/
def prod (a : Vec Ideal S8192x4096 .bf16) (b : Vec Ideal S4096x2048 .bf16) : Vec Ideal S8192x2048 .f32 := fun i =>
  ∑ k : Fin 4096, (a (ix2 (i 0) k) : EReal) * (b (ix2 k (i 1)) : EReal)

/-- The arrays' row and column of a block's row and column at a point. -/
def row (t : Fin cfg0.N) (r : Fin 1024) : Fin 8192 := ⟨t.val / 4 * 1024 + r.val, by have := t.isLt; have : cfg0.N = 32 := rfl; omega⟩
def col (t : Fin cfg0.N) (r : Fin 1024) : Fin 2048 := ⟨t.val / 2 % 2 * 1024 + r.val, by omega⟩

/-- One place's part of an element of a point's block. -/
def part (a : Vec Ideal S8192x4096 .bf16) (b : Vec Ideal S4096x2048 .bf16) (t : Fin cfg0.N) (i : S1024x1024.Idx)
    (l : Fin 4096) : EReal := (a (ix2 (row t (i 0)) l) : EReal) * (b (ix2 l (col t (i 1))) : EReal)

variable (m : (ℓ : Loc nD τ sig) → Buf (Elt Ideal) ℓ)

/-- A point's addition to the sums it keeps. -/
theorem step_apply (c : Dev nD) (t : Fin cfg0.N) (v : Vec Ideal S1024x1024 .f32) (i : S1024x1024.Idx) :
    k0_pay2 v (iblk m c 0 t) (iblk m c 1 t) i = (v i : EReal) + ∑ k : Fin 2048,
      part (m ((c : Thread nD τ).loc main_arg0)) (m ((c : Thread nD τ).loc main_arg1)) t i
        (Product.inner (J := 2) (n := 2048) (by decide) rfl t k) := by
  obtain ⟨r, j, rfl⟩ : ∃ r j, i = ix2 r j := ⟨i 0, i 1, eq_ix2 i⟩
  pointwise [k0_pay2, part]
  blk_point [iblk, V, idx t, row, col, Product.inner]

/-- The sums kept, when the block is complete. -/
theorem kept (c : Dev nD) (t : Fin cfg0.N) (ht : t.val % 2 = 1) (i : S1024x1024.Idx) :
    (outsAt0 m c t.val t.isLt).2 i = prod (m ((c : Thread nD τ).loc main_arg0)) (m ((c : Thread nD τ).loc main_arg1))
      (ix2 (row t (i 0)) (col t (i 1))) := by
  refine Product.run_sum (J := 2) (n := 2048) (L := 4096) (by decide) rfl (fun n h => (outsAt0 m c n h).2)
    (part (m ((c : Thread nD τ).loc main_arg0)) (m ((c : Thread nD τ).loc main_arg1)))
    (fun s t h => ?_) (fun t h i => ?_) (fun t h i => ?_) t ht i
  · have hr : row s = row t := funext fun r => Fin.ext (by simp only [row]; omega)
    have hc : col s = col t := funext fun r => Fin.ext (by simp only [col]; omega)
    unfold part
    rw [hr, hc]
  · rw [outsAt0_A m c t h (by omega)]
    frame_out
    rw [step_apply]
    pointwise [k0_pay1]
  · rw [outsAt0_B m c t h (by omega)]
    frame_out
    rw [step_apply]
    exact congrArg (· + _) (congrFun ((show scM0_0.IsWhole from Memref.isWhole_whole _).read_unread _) i)

/-- The kernel's array after the run. -/
theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have same : (outsAt0 m c t.val t.isLt).1 = (outsAt0 m c t.val t.isLt).2 := by
    rw [outsAt0_B m c t (by omega) ht]
    frame_out
  blk_simp
  rw [after0_2, same]
  refine (kept m c t ht y).trans (congrArg _ ?_)
  blk_ext [idx t, row, col]

/-- The kernel's run, with its array read. -/
theorem run (g : Dev nD → PrngReg) : θ_run defs (onTc (τ := τ) (main (F := Ideal))) ⟨m, fun _ => 0, g⟩ fun r => ∀ c : Dev nD,
    r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨((h.1 c).1 2).trans (final m c), h.2 c⟩) (θ_run_and (run_main m g) (unchanged m g))
end

theorem algebraic : Cert.algebraic_BranchSsdIdeal_BranchSsdRefIdeal := fun m g m' g' _ hm =>
  ⟨_, run m g,
    (θ_run _ _ _).mono (fun _ h c => ⟨(h c).1.trans (by
      funext i
      rw [← (hm c).1, ← (hm c).2]
      pointwise [prod]), (h c).2⟩)
      (Cert.BranchSsdRefIdeal.Value.run m' g')⟩

end Cert.Proof.BranchSsd

end

end
-- ==== Proof.Product.DMerged.lean ====
/-
# The derivative by the merged branches: its claims

The kernel contracts half of the axis at each of two points and keeps the sums in between; the reference contracts the
whole axis at once.
-/
module

public import proofs.«01_k».proof.Defs
public import proofs.«01_k».proof.Proof.Gen.DMerged
public import proofs.«01_k».proof.Proof.Gen.DMerged.Frame
public import proofs.«01_k».proof.Proof.Gen.DMergedIdeal.Frame
public import proofs.«01_k».proof.Proof.Gen.DMergedRefIdeal
public import proofs.«01_k».proof.Proof.Gen.DMergedRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.DMerged

open Idealize.ShloMosaic Idealize.ShloMosaic.TcCoe Idealize.SL.Sem

theorem frame : Cert.quiescent_DMerged := fun m g _ => Cert.DMerged.Gen.frame m g

theorem frame_ideal : Cert.quiescent_DMergedIdeal := fun m g _ => Cert.DMergedIdeal.Gen.frame m g

theorem frame_refIdeal : Cert.quiescent_DMergedRefIdeal := fun m g _ =>
  (θ_run _ _ _).mono (fun r h => ⟨fun c => (h c).2, sem_eq_zero_of_no_sems (by decide) r.2⟩)
    (Cert.DMergedRefIdeal.Value.run m g)

section
open Cert.DMergedIdeal Cert.DMergedIdeal.Gen

/-- Which blocks a point multiplies, and the block its sums belong to. -/
theorem idx : ∀ t : Fin cfg0.N, win0_0.index t = ![t.val / 4, t.val % 2] ∧ win0_1.index t = ![t.val / 2 % 2, t.val % 2]
    ∧ win0_2.index t = ![t.val / 4, t.val / 2 % 2] :=
  (by decide +kernel : ∀ t : Fin grid0.N, _)

/-- The product, element by element. -/
def prod (a : Vec Ideal S8192x2048 .f32) (b : Vec Ideal S2048x2048 .bf16) : Vec Ideal S8192x2048 .f32 := fun i =>
  ∑ k : Fin 2048, (a (ix2 (i 0) k) : EReal) * (b (ix2 (i 1) k) : EReal)

/-- The arrays' row and column of a block's row and column at a point. -/
def row (t : Fin cfg0.N) (r : Fin 1024) : Fin 8192 := ⟨t.val / 4 * 1024 + r.val, by have := t.isLt; have : cfg0.N = 32 := rfl; omega⟩
def col (t : Fin cfg0.N) (r : Fin 1024) : Fin 2048 := ⟨t.val / 2 % 2 * 1024 + r.val, by omega⟩

/-- One place's part of an element of a point's block. -/
def part (a : Vec Ideal S8192x2048 .f32) (b : Vec Ideal S2048x2048 .bf16) (t : Fin cfg0.N) (i : S1024x1024.Idx)
    (l : Fin 2048) : EReal := (a (ix2 (row t (i 0)) l) : EReal) * (b (ix2 (col t (i 1)) l) : EReal)

variable (m : (ℓ : Loc nD τ sig) → Buf (Elt Ideal) ℓ)

/-- A point's addition to the sums it keeps. -/
theorem step_apply (c : Dev nD) (t : Fin cfg0.N) (v : Vec Ideal S1024x1024 .f32) (i : S1024x1024.Idx) :
    k0_pay2 v (iblk m c 0 t) (iblk m c 1 t) i = (v i : EReal) + ∑ k : Fin 1024,
      part (m ((c : Thread nD τ).loc main_arg0)) (m ((c : Thread nD τ).loc main_arg1)) t i
        (Product.inner (J := 2) (n := 1024) (by decide) rfl t k) := by
  obtain ⟨r, j, rfl⟩ : ∃ r j, i = ix2 r j := ⟨i 0, i 1, eq_ix2 i⟩
  pointwise [k0_pay2, part]
  blk_point [iblk, V, idx t, row, col, Product.inner]

/-- The sums kept, when the block is complete. -/
theorem kept (c : Dev nD) (t : Fin cfg0.N) (ht : t.val % 2 = 1) (i : S1024x1024.Idx) :
    (outsAt0 m c t.val t.isLt).2 i = prod (m ((c : Thread nD τ).loc main_arg0)) (m ((c : Thread nD τ).loc main_arg1))
      (ix2 (row t (i 0)) (col t (i 1))) := by
  refine Product.run_sum (J := 2) (n := 1024) (L := 2048) (by decide) rfl (fun n h => (outsAt0 m c n h).2)
    (part (m ((c : Thread nD τ).loc main_arg0)) (m ((c : Thread nD τ).loc main_arg1)))
    (fun s t h => ?_) (fun t h i => ?_) (fun t h i => ?_) t ht i
  · have hr : row s = row t := funext fun r => Fin.ext (by simp only [row]; omega)
    have hc : col s = col t := funext fun r => Fin.ext (by simp only [col]; omega)
    unfold part
    rw [hr, hc]
  · rw [outsAt0_A m c t h (by omega)]
    frame_out
    rw [step_apply]
    pointwise [k0_pay1]
  · rw [outsAt0_B m c t h (by omega)]
    frame_out
    rw [step_apply]
    exact congrArg (· + _) (congrFun ((show scM0_0.IsWhole from Memref.isWhole_whole _).read_unread _) i)

/-- The kernel's array after the run. -/
theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have same : (outsAt0 m c t.val t.isLt).1 = (outsAt0 m c t.val t.isLt).2 := by
    rw [outsAt0_B m c t (by omega) ht]
    frame_out
  blk_simp
  rw [after0_2, same]
  refine (kept m c t ht y).trans (congrArg _ ?_)
  blk_ext [idx t, row, col]

/-- The kernel's run, with its array read. -/
theorem run (g : Dev nD → PrngReg) : θ_run defs (onTc (τ := τ) (main (F := Ideal))) ⟨m, fun _ => 0, g⟩ fun r => ∀ c : Dev nD,
    r.2.mem ((c : Thread nD τ).loc main_v0) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run _ _ _).mono (fun _ h c => ⟨((h.1 c).1 2).trans (final m c), h.2 c⟩) (θ_run_and (run_main m g) (unchanged m g))
end

theorem algebraic : Cert.algebraic_DMergedIdeal_DMergedRefIdeal := fun m g m' g' _ hm =>
  ⟨_, run m g,
    (θ_run _ _ _).mono (fun _ h c => ⟨(h c).1.trans (by
      funext i
      rw [← (hm c).1, ← (hm c).2]
      pointwise [prod]), (h c).2⟩)
      (Cert.DMergedRefIdeal.Value.run m' g')⟩

end Cert.Proof.DMerged

end

end
-- ==== Proof.Product.DYr.lean ====
/-
# The derivative by the retention branch: its claims

Every point of the kernel's loop multiplies 1024 whole rows by 1024 whole rows of the transposed factor and writes the
block it belongs to, so a block holds the same sums over all of the contracted axis as the reference.
-/
module

public import proofs.«01_k».proof.Defs
public import proofs.«01_k».proof.Proof.Gen.DYr
public import proofs.«01_k».proof.Proof.Gen.DYr.Frame
public import proofs.«01_k».proof.Proof.Gen.DYrIdeal.Value
public import proofs.«01_k».proof.Proof.Gen.DYrRefIdeal
public import proofs.«01_k».proof.Proof.Gen.DYrRefIdeal.Run
public import Idealize.ShloMosaic.Lib.Pointwise
public import Idealize.ShloMosaic.Lib.Quiescent
public import Idealize.ShloMosaic.Lib.Pipeline.ValueKit

@[expose] public section

noncomputable section

namespace Cert.Proof.DYr

open Idealize.ShloMosaic Idealize.ShloMosaic.TcCoe Idealize.SL.Sem

theorem frame : Cert.quiescent_DYr := fun m g _ => Cert.DYr.Gen.frame m g

theorem frame_ideal : Cert.quiescent_DYrIdeal := fun m g _ => Cert.DYrIdeal.Gen.frame m g

theorem frame_refIdeal : Cert.quiescent_DYrRefIdeal := fun m g _ =>
  (θ_run _ _ _).mono (fun r h => ⟨fun c => (h c).2, sem_eq_zero_of_no_sems (by decide) r.2⟩)
    (Cert.DYrRefIdeal.Value.run m g)

section
open Cert.DYrIdeal Cert.DYrIdeal.Gen

/-- Which block of rows and which block of columns a point multiplies. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The product, element by element. -/
def prod (a : Vec Ideal S8192x2048 .bf16) (b : Vec Ideal S2048x2048 .bf16) : Vec Ideal S8192x2048 .f32 := fun i =>
  ∑ k : Fin 2048, (a (ix2 (i 0) k) : EReal) * (b (ix2 (i 1) k) : EReal)

variable (m : (ℓ : Loc nD τ sig) → Buf (Elt Ideal) ℓ)

/-- The kernel's array after the run. -/
theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]
end

theorem algebraic : Cert.algebraic_DYrIdeal_DYrRefIdeal := fun m g m' g' _ hm =>
  ⟨_, (θ_run _ _ _).mono (fun _ h c => ⟨(h c).1.trans (final m c), (h c).2⟩) (Cert.DYrIdeal.Value.run_blocks m g),
    (θ_run _ _ _).mono (fun _ h c => ⟨(h c).1.trans (by
      funext i
      rw [← (hm c).1, ← (hm c).2]
      pointwise [prod]), (h c).2⟩)
      (Cert.DYrRefIdeal.Value.run m' g')⟩

end Cert.Proof.DYr

end

end
-- ==== Proof.Product.GOut.lean ====
/-
# The derivative by the output weights: its claims

The kernel contracts an eighth of the axis at each of eight points and keeps the sums in between; the reference contracts the
whole axis at once.
-/
module

public import proofs.«01_k».proof.Defs
public import proofs.«01_k».proof.Proof.Gen.GOut
public import proofs.«01_k».proof.Proof.Gen.GOut.Frame
public import proofs.«01_k».proof.Proof.Gen.GOutIdeal.Frame
public import proofs.«01_k».proof.Proof.Gen.GOutRefIdeal
public import proofs.«01_k».proof.Proof.Gen.GOutRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.GOut

open Idealize.ShloMosaic Idealize.ShloMosaic.TcCoe Idealize.SL.Sem

theorem frame : Cert.quiescent_GOut := fun m g _ => Cert.GOut.Gen.frame m g

theorem frame_ideal : Cert.quiescent_GOutIdeal := fun m g _ => Cert.GOutIdeal.Gen.frame m g

theorem frame_refIdeal : Cert.quiescent_GOutRefIdeal := fun m g _ =>
  (θ_run _ _ _).mono (fun r h => ⟨fun c => (h c).2, sem_eq_zero_of_no_sems (by decide) r.2⟩)
    (Cert.GOutRefIdeal.Value.run m g)

section
open Cert.GOutIdeal Cert.GOutIdeal.Gen

/-- Which blocks a point multiplies, and the block its sums belong to. -/
theorem idx : ∀ t : Fin cfg0.N, win0_0.index t = ![t.val / 8 / 2 % 2, t.val % 8] ∧ win0_1.index t = ![t.val % 8, t.val / 8 % 2]
    ∧ win0_2.index t = ![t.val / 8 / 2 % 2, t.val / 8 % 2] :=
  (by decide +kernel : ∀ t : Fin grid0.N, _)

variable (m : (ℓ : Loc nD τ sig) → Buf (Elt Ideal) ℓ)

/-- The kernel's array after the run. -/
theorem final (c : Dev nD) : (dats m 0 c).arrAt 2 cfg0.N
    = Product.prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have same : (outsAt0 m c t.val t.isLt).1 = (outsAt0 m c t.val t.isLt).2 := by
    rw [outsAt0_C m c t (by omega) ht]
    frame_out
  blk_simp
  rw [after0_2, same]
  refine (Product.run_mm (J := 8) (n := 1024) (L := 8192) (M := 2048) (K := 2048) (R := 2) (C := 2) (p := 1024) (q := 1024)
    (by decide) rfl (by decide) rfl (by decide) rfl _ _ (fun n h => (outsAt0 m c n h).2)
    (fun v t => k0_pay2 v (iblk m c 0 t) (iblk m c 1 t)) (k0_pay1 (F := Ideal)) (fun i => by pointwise [k0_pay1])
    (fun t v r j => ?_) (fun t h => ?_) (fun t h => ?_) t ht y).trans (congrArg _ ?_)
  · pointwise [k0_pay2]
    blk_point [iblk, V, idx t, Product.spot, Product.inner]
  · rw [outsAt0_A m c t h (by omega)]
    frame_out
  · by_cases h7 : t.val % 8 = 7 <;> [rw [outsAt0_C m c t h h7]; rw [outsAt0_B m c t h h7]] <;> frame_out <;>
      exact congrArg (fun v => k0_pay2 v _ _) ((show scM0_0.IsWhole from Memref.isWhole_whole _).read_unread _)
  · blk_ext [idx t, Product.spot]
end

theorem algebraic : Cert.algebraic_GOutIdeal_GOutRefIdeal := fun m g m' g' _ hm =>
  ⟨_, (θ_run _ _ _).mono (fun _ h c => ⟨((h.1 c).1 2).trans (final m c), h.2 c⟩)
      (θ_run_and (Cert.GOutIdeal.Gen.run_main m g) (Cert.GOutIdeal.Gen.unchanged m g)),
    (θ_run _ _ _).mono (fun _ h c => ⟨(h c).1.trans (by
      funext i
      rw [← (hm c).1, ← (hm c).2]
      pointwise [Product.prod]), (h c).2⟩)
      (Cert.GOutRefIdeal.Value.run m' g')⟩

end Cert.Proof.GOut

end

end
-- ==== Proof.Product.ProjMain.lean ====
/-
# The input projection: its claims

Every point of the kernel's loop multiplies 1024 whole rows by 1024 whole columns and writes the block it belongs to, so a
block holds the same sums over all of the contracted axis as the reference.
-/
module

public import proofs.«01_k».proof.Defs
public import proofs.«01_k».proof.Proof.Gen.ProjMain
public import proofs.«01_k».proof.Proof.Gen.ProjMain.Frame
public import proofs.«01_k».proof.Proof.Gen.ProjMainIdeal.Value
public import proofs.«01_k».proof.Proof.Gen.ProjMainRefIdeal
public import proofs.«01_k».proof.Proof.Gen.ProjMainRefIdeal.Run
public import Idealize.ShloMosaic.Lib.Pointwise
public import Idealize.ShloMosaic.Lib.Quiescent
public import Idealize.ShloMosaic.Lib.Pipeline.ValueKit

@[expose] public section

noncomputable section

namespace Cert.Proof.ProjMain

open Idealize.ShloMosaic Idealize.ShloMosaic.TcCoe Idealize.SL.Sem

theorem frame : Cert.quiescent_ProjMain := fun m g _ => Cert.ProjMain.Gen.frame m g

theorem frame_ideal : Cert.quiescent_ProjMainIdeal := fun m g _ => Cert.ProjMainIdeal.Gen.frame m g

theorem frame_refIdeal : Cert.quiescent_ProjMainRefIdeal := fun m g _ =>
  (θ_run _ _ _).mono (fun r h => ⟨fun c => (h c).2, sem_eq_zero_of_no_sems (by decide) r.2⟩)
    (Cert.ProjMainRefIdeal.Value.run m g)

section
open Cert.ProjMainIdeal Cert.ProjMainIdeal.Gen

/-- Which block of rows and which block of columns a point multiplies. -/
theorem idx : ∀ t : Fin cfg0.N, win0_0.index t = ![t.val / 22, 0] ∧ win0_1.index t = ![0, t.val % 22]
    ∧ win0_2.index t = ![t.val / 22, t.val % 22] :=
  (by decide +kernel : ∀ t : Fin grid0.N, _)

/-- The product, element by element. -/
def prod (a : Vec Ideal S8192x2048 .bf16) (b : Vec Ideal S2048x22528 .bf16) : Vec Ideal S8192x22528 .f32 := fun i =>
  ∑ k : Fin 2048, (a (ix2 (i 0) k) : EReal) * (b (ix2 k (i 1)) : EReal)

variable (m : (ℓ : Loc nD τ sig) → Buf (Elt Ideal) ℓ)

/-- The kernel's array after the run. -/
theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]
end

theorem algebraic : Cert.algebraic_ProjMainIdeal_ProjMainRefIdeal := fun m g m' g' _ hm =>
  ⟨_, (θ_run _ _ _).mono (fun _ h c => ⟨(h c).1.trans (final m c), (h c).2⟩) (Cert.ProjMainIdeal.Value.run_blocks m g),
    (θ_run _ _ _).mono (fun _ h c => ⟨(h c).1.trans (by
      funext i
      rw [← (hm c).1, ← (hm c).2]
      pointwise [prod]), (h c).2⟩)
      (Cert.ProjMainRefIdeal.Value.run m' g')⟩

end Cert.Proof.ProjMain

end

end
-- ==== Proof.Product.BranchRet.lean ====
/-
# The product of the retention branch: its claims

A point multiplies a block of rows by a block of columns, over the whole contracted axis. The product after the merge is the
same program.
-/
module

public import proofs.«01_k».proof.Defs
public import proofs.«01_k».proof.Proof.Gen.BranchRet
public import proofs.«01_k».proof.Proof.Gen.BranchRet.Frame
public import proofs.«01_k».proof.Proof.Gen.BranchRetIdeal.Value
public import proofs.«01_k».proof.Proof.Gen.BranchRetRefIdeal
public import proofs.«01_k».proof.Proof.Gen.BranchRetRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.BranchRet

open Idealize.ShloMosaic Idealize.ShloMosaic.TcCoe Idealize.SL.Sem

theorem frame : Cert.quiescent_BranchRet := fun m g _ => Cert.BranchRet.Gen.frame m g

theorem frame_ideal : Cert.quiescent_BranchRetIdeal := fun m g _ => Cert.BranchRetIdeal.Gen.frame m g

theorem frame_refIdeal : Cert.quiescent_BranchRetRefIdeal := fun m g _ =>
  (θ_run _ _ _).mono (fun r h => ⟨fun c => (h c).2, sem_eq_zero_of_no_sems (by decide) r.2⟩)
    (Cert.BranchRetRefIdeal.Value.run m g)

section
open Cert.BranchRetIdeal Cert.BranchRetIdeal.Gen

/-- Which block of rows and which block of columns a point multiplies. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ)

/-- The kernel's array after the run. -/
theorem final (c : Dev nD) :
    (dats m 0 c).arrAt 2 cfg0.N = Product.prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, Product.prod]
  blk_point [iblk, V, idx t]
end

theorem algebraic : Cert.algebraic_BranchRetIdeal_BranchRetRefIdeal := fun m g m' g' _ hm =>
  ⟨_, (θ_run _ _ _).mono (fun _ h c => ⟨(h c).1.trans (final m c), (h c).2⟩) (Cert.BranchRetIdeal.Value.run_blocks m g),
    (θ_run _ _ _).mono (fun _ h c => ⟨(h c).1.trans (by
      funext i
      rw [← (hm c).1, ← (hm c).2]
      pointwise [Product.prod]), (h c).2⟩)
      (Cert.BranchRetRefIdeal.Value.run m' g')⟩

end Cert.Proof.BranchRet

end

end
-- ==== Proof.Product.ProjDt.lean ====
/-
# The product that gives the steps: its claims

A point multiplies a block of rows by all 128 columns, over the whole contracted axis.
-/
module

public import proofs.«01_k».proof.Defs
public import proofs.«01_k».proof.Proof.Gen.ProjDt
public import proofs.«01_k».proof.Proof.Gen.ProjDt.Frame
public import proofs.«01_k».proof.Proof.Gen.ProjDtIdeal.Value
public import proofs.«01_k».proof.Proof.Gen.ProjDtRefIdeal
public import proofs.«01_k».proof.Proof.Gen.ProjDtRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.ProjDt

open Idealize.ShloMosaic Idealize.ShloMosaic.TcCoe Idealize.SL.Sem

theorem frame : Cert.quiescent_ProjDt := fun m g _ => Cert.ProjDt.Gen.frame m g

theorem frame_ideal : Cert.quiescent_ProjDtIdeal := fun m g _ => Cert.ProjDtIdeal.Gen.frame m g

theorem frame_refIdeal : Cert.quiescent_ProjDtRefIdeal := fun m g _ =>
  (θ_run _ _ _).mono (fun r h => ⟨fun c => (h c).2, sem_eq_zero_of_no_sems (by decide) r.2⟩)
    (Cert.ProjDtRefIdeal.Value.run m g)

section
open Cert.ProjDtIdeal Cert.ProjDtIdeal.Gen

/-- Which block of rows and which block of columns a point multiplies. -/
theorem idx : ∀ t : Fin cfg0.N, win0_0.index t = ![t.val, 0] ∧ win0_1.index t = ![0, 0]
    ∧ win0_2.index t = ![t.val, 0] :=
  (by decide +kernel : ∀ t : Fin grid0.N, _)

variable (m : (ℓ : Loc nD τ sig) → Buf (Elt Ideal) ℓ)

/-- The kernel's array after the run. -/
theorem final (c : Dev nD) :
    (dats m 0 c).arrAt 2 cfg0.N = Product.prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, Product.prod]
  blk_point [iblk, V, idx t]
end

theorem algebraic : Cert.algebraic_ProjDtIdeal_ProjDtRefIdeal := fun m g m' g' _ hm =>
  ⟨_, (θ_run _ _ _).mono (fun _ h c => ⟨(h c).1.trans (final m c), (h c).2⟩) (Cert.ProjDtIdeal.Value.run_blocks m g),
    (θ_run _ _ _).mono (fun _ h c => ⟨(h c).1.trans (by
      funext i
      rw [← (hm c).1, ← (hm c).2]
      pointwise [Product.prod]), (h c).2⟩)
      (Cert.ProjDtRefIdeal.Value.run m' g')⟩

end Cert.Proof.ProjDt

end

end
-- ==== Proof.Product.DYs.lean ====
/-
# The derivative by the SSD branch's rows: its claims

A point multiplies a block of rows by a block of the weights' rows, over the whole contracted axis.
-/
module

public import proofs.«01_k».proof.Defs
public import proofs.«01_k».proof.Proof.Gen.DYs
public import proofs.«01_k».proof.Proof.Gen.DYs.Frame
public import proofs.«01_k».proof.Proof.Gen.DYsIdeal.Value
public import proofs.«01_k».proof.Proof.Gen.DYsRefIdeal
public import proofs.«01_k».proof.Proof.Gen.DYsRefIdeal.Run
public import Idealize.ShloMosaic.Lib.Pointwise
public import Idealize.ShloMosaic.Lib.Quiescent
public import Idealize.ShloMosaic.Lib.Pipeline.ValueKit

@[expose] public section

noncomputable section

namespace Cert.Proof.DYs

open Idealize.ShloMosaic Idealize.ShloMosaic.TcCoe Idealize.SL.Sem

theorem frame : Cert.quiescent_DYs := fun m g _ => Cert.DYs.Gen.frame m g

theorem frame_ideal : Cert.quiescent_DYsIdeal := fun m g _ => Cert.DYsIdeal.Gen.frame m g

theorem frame_refIdeal : Cert.quiescent_DYsRefIdeal := fun m g _ =>
  (θ_run _ _ _).mono (fun r h => ⟨fun c => (h c).2, sem_eq_zero_of_no_sems (by decide) r.2⟩)
    (Cert.DYsRefIdeal.Value.run m g)

section
open Cert.DYsIdeal Cert.DYsIdeal.Gen

/-- Which block of rows and which block of columns a point multiplies. -/
theorem idx : ∀ t : Fin cfg0.N, win0_0.index t = ![t.val / 4, 0] ∧ win0_1.index t = ![t.val % 4, 0]
    ∧ win0_2.index t = ![t.val / 4, t.val % 4] :=
  (by decide +kernel : ∀ t : Fin grid0.N, _)

/-- The product, element by element. -/
def prod (a : Vec Ideal S8192x2048 .bf16) (b : Vec Ideal S4096x2048 .bf16) : Vec Ideal S8192x4096 .f32 := fun i =>
  ∑ k : Fin 2048, (a (ix2 (i 0) k) : EReal) * (b (ix2 (i 1) k) : EReal)

variable (m : (ℓ : Loc nD τ sig) → Buf (Elt Ideal) ℓ)

/-- The kernel's array after the run. -/
theorem final (c : Dev nD) :
    (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  blk_point [iblk, V, idx t]
end

theorem algebraic : Cert.algebraic_DYsIdeal_DYsRefIdeal := fun m g m' g' _ hm =>
  ⟨_, (θ_run _ _ _).mono (fun _ h c => ⟨(h c).1.trans (final m c), (h c).2⟩) (Cert.DYsIdeal.Value.run_blocks m g),
    (θ_run _ _ _).mono (fun _ h c => ⟨(h c).1.trans (by
      funext i
      rw [← (hm c).1, ← (hm c).2]
      pointwise [prod]), (h c).2⟩)
      (Cert.DYsRefIdeal.Value.run m' g')⟩

end Cert.Proof.DYs

end

end
-- ==== Proof.Product.GRet.lean ====
/-
# The derivative by the retention branch's weights: its claims

The kernel contracts an eighth of the rows at each of eight points and keeps the sums in between. The derivatives by the pieces
of the input weights with 2048 columns are the same program.
-/
module

public import proofs.«01_k».proof.Defs
public import proofs.«01_k».proof.Proof.Gen.GRet
public import proofs.«01_k».proof.Proof.Gen.GRet.Frame
public import proofs.«01_k».proof.Proof.Gen.GRetIdeal.Frame
public import proofs.«01_k».proof.Proof.Gen.GRetRefIdeal
public import proofs.«01_k».proof.Proof.Gen.GRetRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.GRet

open Idealize.ShloMosaic Idealize.ShloMosaic.TcCoe Idealize.SL.Sem

theorem frame : Cert.quiescent_GRet := fun m g _ => Cert.GRet.Gen.frame m g

theorem frame_ideal : Cert.quiescent_GRetIdeal := fun m g _ => Cert.GRetIdeal.Gen.frame m g

theorem frame_refIdeal : Cert.quiescent_GRetRefIdeal := fun m g _ =>
  (θ_run _ _ _).mono (fun r h => ⟨fun c => (h c).2, sem_eq_zero_of_no_sems (by decide) r.2⟩)
    (Cert.GRetRefIdeal.Value.run m g)

section
open Cert.GRetIdeal Cert.GRetIdeal.Gen

/-- Which blocks a point multiplies, and the block its sums belong to. -/
theorem idx : ∀ t : Fin cfg0.N, win0_0.index t = ![t.val / 8 / 2 % 2, t.val % 8] ∧ win0_1.index t = ![t.val % 8, t.val / 8 % 2]
    ∧ win0_2.index t = ![t.val / 8 / 2 % 2, t.val / 8 % 2] :=
  (by decide +kernel : ∀ t : Fin grid0.N, _)

variable (m : (ℓ : Loc nD τ sig) → Buf (Elt Ideal) ℓ)

/-- The kernel's array after the run. -/
theorem final (c : Dev nD) : (dats m 0 c).arrAt 2 cfg0.N
    = Product.prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have same : (outsAt0 m c t.val t.isLt).1 = (outsAt0 m c t.val t.isLt).2 := by
    rw [outsAt0_C m c t (by omega) ht]
    frame_out
  blk_simp
  rw [after0_2, same]
  refine (Product.run_mm (J := 8) (n := 1024) (L := 8192) (M := 2048) (K := 2048) (R := 2) (C := 2) (p := 1024) (q := 1024)
    (by decide) rfl (by decide) rfl (by decide) rfl _ _ (fun n h => (outsAt0 m c n h).2)
    (fun v t => k0_pay2 v (iblk m c 0 t) (iblk m c 1 t)) (k0_pay1 (F := Ideal)) (fun i => by pointwise [k0_pay1])
    (fun t v r j => ?_) (fun t h => ?_) (fun t h => ?_) t ht y).trans (congrArg _ ?_)
  · pointwise [k0_pay2]
    blk_point [iblk, V, idx t, Product.spot, Product.inner]
  · rw [outsAt0_A m c t h (by omega)]
    frame_out
  · by_cases h7 : t.val % 8 = 7 <;> [rw [outsAt0_C m c t h h7]; rw [outsAt0_B m c t h h7]] <;> frame_out <;>
      exact congrArg (fun v => k0_pay2 v _ _) ((show scM0_0.IsWhole from Memref.isWhole_whole _).read_unread _)
  · blk_ext [idx t, Product.spot]
end

theorem algebraic : Cert.algebraic_GRetIdeal_GRetRefIdeal := fun m g m' g' _ hm =>
  ⟨_, (θ_run _ _ _).mono (fun _ h c => ⟨((h.1 c).1 2).trans (final m c), h.2 c⟩)
      (θ_run_and (Cert.GRetIdeal.Gen.run_main m g) (Cert.GRetIdeal.Gen.unchanged m g)),
    (θ_run _ _ _).mono (fun _ h c => ⟨(h c).1.trans (by
      funext i
      rw [← (hm c).1, ← (hm c).2]
      pointwise [Product.prod]), (h c).2⟩)
      (Cert.GRetRefIdeal.Value.run m' g')⟩

end Cert.Proof.GRet

end

end
-- ==== Proof.Product.GSsd.lean ====
/-
# The derivative by the SSD branch's weights: its claims

The kernel contracts an eighth of the rows at each of eight points and keeps the sums in between.
-/
module

public import proofs.«01_k».proof.Defs
public import proofs.«01_k».proof.Proof.Gen.GSsd
public import proofs.«01_k».proof.Proof.Gen.GSsd.Frame
public import proofs.«01_k».proof.Proof.Gen.GSsdIdeal.Frame
public import proofs.«01_k».proof.Proof.Gen.GSsdRefIdeal
public import proofs.«01_k».proof.Proof.Gen.GSsdRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.GSsd

open Idealize.ShloMosaic Idealize.ShloMosaic.TcCoe Idealize.SL.Sem

theorem frame : Cert.quiescent_GSsd := fun m g _ => Cert.GSsd.Gen.frame m g

theorem frame_ideal : Cert.quiescent_GSsdIdeal := fun m g _ => Cert.GSsdIdeal.Gen.frame m g

theorem frame_refIdeal : Cert.quiescent_GSsdRefIdeal := fun m g _ =>
  (θ_run _ _ _).mono (fun r h => ⟨fun c => (h c).2, sem_eq_zero_of_no_sems (by decide) r.2⟩)
    (Cert.GSsdRefIdeal.Value.run m g)

section
open Cert.GSsdIdeal Cert.GSsdIdeal.Gen

/-- Which blocks a point multiplies, and the block its sums belong to. -/
theorem idx : ∀ t : Fin cfg0.N, win0_0.index t = ![t.val / 8 / 2 % 4, t.val % 8] ∧ win0_1.index t = ![t.val % 8, t.val / 8 % 2]
    ∧ win0_2.index t = ![t.val / 8 / 2 % 4, t.val / 8 % 2] :=
  (by decide +kernel : ∀ t : Fin grid0.N, _)

variable (m : (ℓ : Loc nD τ sig) → Buf (Elt Ideal) ℓ)

/-- The kernel's array after the run. -/
theorem final (c : Dev nD) : (dats m 0 c).arrAt 2 cfg0.N
    = Product.prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have same : (outsAt0 m c t.val t.isLt).1 = (outsAt0 m c t.val t.isLt).2 := by
    rw [outsAt0_C m c t (by omega) ht]
    frame_out
  blk_simp
  rw [after0_2, same]
  refine (Product.run_mm (J := 8) (n := 1024) (L := 8192) (M := 4096) (K := 2048) (R := 4) (C := 2) (p := 1024) (q := 1024)
    (by decide) rfl (by decide) rfl (by decide) rfl _ _ (fun n h => (outsAt0 m c n h).2)
    (fun v t => k0_pay2 v (iblk m c 0 t) (iblk m c 1 t)) (k0_pay1 (F := Ideal)) (fun i => by pointwise [k0_pay1])
    (fun t v r j => ?_) (fun t h => ?_) (fun t h => ?_) t ht y).trans (congrArg _ ?_)
  · pointwise [k0_pay2]
    blk_point [iblk, V, idx t, Product.spot, Product.inner]
  · rw [outsAt0_A m c t h (by omega)]
    frame_out
  · by_cases h7 : t.val % 8 = 7 <;> [rw [outsAt0_C m c t h h7]; rw [outsAt0_B m c t h h7]] <;> frame_out <;>
      exact congrArg (fun v => k0_pay2 v _ _) ((show scM0_0.IsWhole from Memref.isWhole_whole _).read_unread _)
  · blk_ext [idx t, Product.spot]
end

theorem algebraic : Cert.algebraic_GSsdIdeal_GSsdRefIdeal := fun m g m' g' _ hm =>
  ⟨_, (θ_run _ _ _).mono (fun _ h c => ⟨((h.1 c).1 2).trans (final m c), h.2 c⟩)
      (θ_run_and (Cert.GSsdIdeal.Gen.run_main m g) (Cert.GSsdIdeal.Gen.unchanged m g)),
    (θ_run _ _ _).mono (fun _ h c => ⟨(h c).1.trans (by
      funext i
      rw [← (hm c).1, ← (hm c).2]
      pointwise [Product.prod]), (h c).2⟩)
      (Cert.GSsdRefIdeal.Value.run m' g')⟩

end Cert.Proof.GSsd

end

end
-- ==== Proof.Product.GIn.lean ====
/-
# The derivative by the input weights' pieces with 4096 columns: its claims

The kernel contracts an eighth of the rows at each of eight points and keeps the sums in between.
-/
module

public import proofs.«01_k».proof.Defs
public import proofs.«01_k».proof.Proof.Gen.GIn
public import proofs.«01_k».proof.Proof.Gen.GIn.Frame
public import proofs.«01_k».proof.Proof.Gen.GInIdeal.Frame
public import proofs.«01_k».proof.Proof.Gen.GInRefIdeal
public import proofs.«01_k».proof.Proof.Gen.GInRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.GIn

open Idealize.ShloMosaic Idealize.ShloMosaic.TcCoe Idealize.SL.Sem

theorem frame : Cert.quiescent_GIn := fun m g _ => Cert.GIn.Gen.frame m g

theorem frame_ideal : Cert.quiescent_GInIdeal := fun m g _ => Cert.GInIdeal.Gen.frame m g

theorem frame_refIdeal : Cert.quiescent_GInRefIdeal := fun m g _ =>
  (θ_run _ _ _).mono (fun r h => ⟨fun c => (h c).2, sem_eq_zero_of_no_sems (by decide) r.2⟩)
    (Cert.GInRefIdeal.Value.run m g)

section
open Cert.GInIdeal Cert.GInIdeal.Gen

/-- Which blocks a point multiplies, and the block its sums belong to. -/
theorem idx : ∀ t : Fin cfg0.N, win0_0.index t = ![t.val / 8 / 4 % 2, t.val % 8] ∧ win0_1.index t = ![t.val % 8, t.val / 8 % 4]
    ∧ win0_2.index t = ![t.val / 8 / 4 % 2, t.val / 8 % 4] :=
  (by decide +kernel : ∀ t : Fin grid0.N, _)

variable (m : (ℓ : Loc nD τ sig) → Buf (Elt Ideal) ℓ)

/-- The kernel's array after the run. -/
theorem final (c : Dev nD) : (dats m 0 c).arrAt 2 cfg0.N
    = Product.prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have same : (outsAt0 m c t.val t.isLt).1 = (outsAt0 m c t.val t.isLt).2 := by
    rw [outsAt0_C m c t (by omega) ht]
    frame_out
  blk_simp
  rw [after0_2, same]
  refine (Product.run_mm (J := 8) (n := 1024) (L := 8192) (M := 2048) (K := 4096) (R := 2) (C := 4) (p := 1024) (q := 1024)
    (by decide) rfl (by decide) rfl (by decide) rfl _ _ (fun n h => (outsAt0 m c n h).2)
    (fun v t => k0_pay2 v (iblk m c 0 t) (iblk m c 1 t)) (k0_pay1 (F := Ideal)) (fun i => by pointwise [k0_pay1])
    (fun t v r j => ?_) (fun t h => ?_) (fun t h => ?_) t ht y).trans (congrArg _ ?_)
  · pointwise [k0_pay2]
    blk_point [iblk, V, idx t, Product.spot, Product.inner]
  · rw [outsAt0_A m c t h (by omega)]
    frame_out
  · by_cases h7 : t.val % 8 = 7 <;> [rw [outsAt0_C m c t h h7]; rw [outsAt0_B m c t h h7]] <;> frame_out <;>
      exact congrArg (fun v => k0_pay2 v _ _) ((show scM0_0.IsWhole from Memref.isWhole_whole _).read_unread _)
  · blk_ext [idx t, Product.spot]
end

theorem algebraic : Cert.algebraic_GInIdeal_GInRefIdeal := fun m g m' g' _ hm =>
  ⟨_, (θ_run _ _ _).mono (fun _ h c => ⟨((h.1 c).1 2).trans (final m c), h.2 c⟩)
      (θ_run_and (Cert.GInIdeal.Gen.run_main m g) (Cert.GInIdeal.Gen.unchanged m g)),
    (θ_run _ _ _).mono (fun _ h c => ⟨(h c).1.trans (by
      funext i
      rw [← (hm c).1, ← (hm c).2]
      pointwise [Product.prod]), (h c).2⟩)
      (Cert.GInRefIdeal.Value.run m' g')⟩

end Cert.Proof.GIn

end

end
-- ==== Proof.Product.GInB.lean ====
/-
# The derivative by the input weights' pieces with 1024 columns: its claims

The kernel contracts an eighth of the rows at each of eight points and keeps the sums in between.
-/
module

public import proofs.«01_k».proof.Defs
public import proofs.«01_k».proof.Proof.Gen.GInB
public import proofs.«01_k».proof.Proof.Gen.GInB.Frame
public import proofs.«01_k».proof.Proof.Gen.GInBIdeal.Frame
public import proofs.«01_k».proof.Proof.Gen.GInBRefIdeal
public import proofs.«01_k».proof.Proof.Gen.GInBRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.GInB

open Idealize.ShloMosaic Idealize.ShloMosaic.TcCoe Idealize.SL.Sem

theorem frame : Cert.quiescent_GInB := fun m g _ => Cert.GInB.Gen.frame m g

theorem frame_ideal : Cert.quiescent_GInBIdeal := fun m g _ => Cert.GInBIdeal.Gen.frame m g

theorem frame_refIdeal : Cert.quiescent_GInBRefIdeal := fun m g _ =>
  (θ_run _ _ _).mono (fun r h => ⟨fun c => (h c).2, sem_eq_zero_of_no_sems (by decide) r.2⟩)
    (Cert.GInBRefIdeal.Value.run m g)

section
open Cert.GInBIdeal Cert.GInBIdeal.Gen

/-- Which blocks a point multiplies, and the block its sums belong to. -/
theorem idx : ∀ t : Fin cfg0.N, win0_0.index t = ![t.val / 8 / 1 % 2, t.val % 8] ∧ win0_1.index t = ![t.val % 8, t.val / 8 % 1]
    ∧ win0_2.index t = ![t.val / 8 / 1 % 2, t.val / 8 % 1] :=
  (by decide +kernel : ∀ t : Fin grid0.N, _)

variable (m : (ℓ : Loc nD τ sig) → Buf (Elt Ideal) ℓ)

/-- The kernel's array after the run. -/
theorem final (c : Dev nD) : (dats m 0 c).arrAt 2 cfg0.N
    = Product.prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have same : (outsAt0 m c t.val t.isLt).1 = (outsAt0 m c t.val t.isLt).2 := by
    rw [outsAt0_C m c t (by omega) ht]
    frame_out
  blk_simp
  rw [after0_2, same]
  refine (Product.run_mm (J := 8) (n := 1024) (L := 8192) (M := 2048) (K := 1024) (R := 2) (C := 1) (p := 1024) (q := 1024)
    (by decide) rfl (by decide) rfl (by decide) rfl _ _ (fun n h => (outsAt0 m c n h).2)
    (fun v t => k0_pay2 v (iblk m c 0 t) (iblk m c 1 t)) (k0_pay1 (F := Ideal)) (fun i => by pointwise [k0_pay1])
    (fun t v r j => ?_) (fun t h => ?_) (fun t h => ?_) t ht y).trans (congrArg _ ?_)
  · pointwise [k0_pay2]
    blk_point [iblk, V, idx t, Product.spot, Product.inner]
  · rw [outsAt0_A m c t h (by omega)]
    frame_out
  · by_cases h7 : t.val % 8 = 7 <;> [rw [outsAt0_C m c t h h7]; rw [outsAt0_B m c t h h7]] <;> frame_out <;>
      exact congrArg (fun v => k0_pay2 v _ _) ((show scM0_0.IsWhole from Memref.isWhole_whole _).read_unread _)
  · blk_ext [idx t, Product.spot]
end

theorem algebraic : Cert.algebraic_GInBIdeal_GInBRefIdeal := fun m g m' g' _ hm =>
  ⟨_, (θ_run _ _ _).mono (fun _ h c => ⟨((h.1 c).1 2).trans (final m c), h.2 c⟩)
      (θ_run_and (Cert.GInBIdeal.Gen.run_main m g) (Cert.GInBIdeal.Gen.unchanged m g)),
    (θ_run _ _ _).mono (fun _ h c => ⟨(h c).1.trans (by
      funext i
      rw [← (hm c).1, ← (hm c).2]
      pointwise [Product.prod]), (h c).2⟩)
      (Cert.GInBRefIdeal.Value.run m' g')⟩

end Cert.Proof.GInB

end

end
-- ==== Proof.Product.GInDt.lean ====
/-
# The derivative by the input weights' columns of the steps: its claims

The kernel contracts an eighth of the rows at each of eight points and keeps the sums in between.
-/
module

public import proofs.«01_k».proof.Defs
public import proofs.«01_k».proof.Proof.Gen.GInDt
public import proofs.«01_k».proof.Proof.Gen.GInDt.Frame
public import proofs.«01_k».proof.Proof.Gen.GInDtIdeal.Frame
public import proofs.«01_k».proof.Proof.Gen.GInDtRefIdeal
public import proofs.«01_k».proof.Proof.Gen.GInDtRefIdeal.Run
public import proofs.«01_k».proof.Proof.Product.Sums
public import Idealize.ShloMosaic.Lib.Pointwise
public import Idealize.ShloMosaic.Lib.Quiescent
public import Idealize.ShloMosaic.Lib.Pipeline.ValueKit

@[expose] public section

noncomputable section

namespace Cert.Proof.GInDt

open Idealize.ShloMosaic Idealize.ShloMosaic.TcCoe Idealize.SL.Sem

theorem frame : Cert.quiescent_GInDt := fun m g _ => Cert.GInDt.Gen.frame m g

theorem frame_ideal : Cert.quiescent_GInDtIdeal := fun m g _ => Cert.GInDtIdeal.Gen.frame m g

theorem frame_refIdeal : Cert.quiescent_GInDtRefIdeal := fun m g _ =>
  (θ_run _ _ _).mono (fun r h => ⟨fun c => (h c).2, sem_eq_zero_of_no_sems (by decide) r.2⟩)
    (Cert.GInDtRefIdeal.Value.run m g)

section
open Cert.GInDtIdeal Cert.GInDtIdeal.Gen

/-- Which blocks a point multiplies, and the block its sums belong to. -/
theorem idx : ∀ t : Fin cfg0.N, win0_0.index t = ![t.val / 8 / 1 % 2, t.val % 8] ∧ win0_1.index t = ![t.val % 8, t.val / 8 % 1]
    ∧ win0_2.index t = ![t.val / 8 / 1 % 2, t.val / 8 % 1] :=
  (by decide +kernel : ∀ t : Fin grid0.N, _)

variable (m : (ℓ : Loc nD τ sig) → Buf (Elt Ideal) ℓ)

/-- The kernel's array after the run. -/
theorem final (c : Dev nD) : (dats m 0 c).arrAt 2 cfg0.N
    = Product.prod (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  have same : (outsAt0 m c t.val t.isLt).1 = (outsAt0 m c t.val t.isLt).2 := by
    rw [outsAt0_C m c t (by omega) ht]
    frame_out
  blk_simp
  rw [after0_2, same]
  refine (Product.run_mm (J := 8) (n := 1024) (L := 8192) (M := 2048) (K := 128) (R := 2) (C := 1) (p := 1024) (q := 128)
    (by decide) rfl (by decide) rfl (by decide) rfl _ _ (fun n h => (outsAt0 m c n h).2)
    (fun v t => k0_pay2 v (iblk m c 0 t) (iblk m c 1 t)) (k0_pay1 (F := Ideal)) (fun i => by pointwise [k0_pay1])
    (fun t v r j => ?_) (fun t h => ?_) (fun t h => ?_) t ht y).trans (congrArg _ ?_)
  · pointwise [k0_pay2]
    blk_point [iblk, V, idx t, Product.spot, Product.inner]
  · rw [outsAt0_A m c t h (by omega)]
    frame_out
  · by_cases h7 : t.val % 8 = 7 <;> [rw [outsAt0_C m c t h h7]; rw [outsAt0_B m c t h h7]] <;> frame_out <;>
      exact congrArg (fun v => k0_pay2 v _ _) ((show scM0_0.IsWhole from Memref.isWhole_whole _).read_unread _)
  · blk_ext [idx t, Product.spot]
end

theorem algebraic : Cert.algebraic_GInDtIdeal_GInDtRefIdeal := fun m g m' g' _ hm =>
  ⟨_, (θ_run _ _ _).mono (fun _ h c => ⟨((h.1 c).1 2).trans (final m c), h.2 c⟩)
      (θ_run_and (Cert.GInDtIdeal.Gen.run_main m g) (Cert.GInDtIdeal.Gen.unchanged m g)),
    (θ_run _ _ _).mono (fun _ h c => ⟨(h c).1.trans (by
      funext i
      rw [← (hm c).1, ← (hm c).2]
      pointwise [Product.prod]), (h c).2⟩)
      (Cert.GInDtRefIdeal.Value.run m' g')⟩

end Cert.Proof.GInDt

end

end
-- ==== Proof.Sum.Claims.lean ====
/-
# The sum of the devices' vectors: its claims

The kernel adds the eight rows from the first to the last; the reference adds them in any order, from zero. On the
extended reals both are the same sum of eight terms.
-/
module

public import proofs.«01_k».proof.Defs
public import proofs.«01_k».proof.Proof.Gen.Sum
public import proofs.«01_k».proof.Proof.Gen.Sum.Frame
public import proofs.«01_k».proof.Proof.Gen.SumIdeal.Value
public import proofs.«01_k».proof.Proof.Gen.SumRefIdeal
public import proofs.«01_k».proof.Proof.Gen.SumRefIdeal.Run
public import Idealize.ShloMosaic.Lib.Pointwise
public import Idealize.ShloMosaic.Lib.Quiescent

@[expose] public section

noncomputable section

namespace Cert.Proof.Sum

open Idealize.ShloMosaic Idealize.ShloMosaic.TcCoe Idealize.SL.Sem

theorem frame : Cert.quiescent_Sum := fun m g _ => Cert.Sum.Gen.frame m g

theorem frame_ideal : Cert.quiescent_SumIdeal := fun m g _ => Cert.SumIdeal.Gen.frame m g

theorem frame_refIdeal : Cert.quiescent_SumRefIdeal := fun m g _ =>
  (θ_run _ _ _).mono (fun r h => ⟨fun c => (h c).2, sem_eq_zero_of_no_sems (by decide) r.2⟩)
    (Cert.SumRefIdeal.Value.run m g)

/-- Loading row `q` of the eight reads, at column `i 1`, the array there. -/
theorem row_apply (x : Vec Ideal Cert.SumIdeal.S8x39296 .f32) (q : Fin 8)
    (hq : ∀ a, (![q.val, 0] : Fin 2 → Nat) a + Cert.SumIdeal.S1x39296.size a ≤ Cert.SumIdeal.S8x39296.size a)
    (i : Cert.SumIdeal.S1x39296.Idx) :
    View.ld x (Rect.unit (s := Cert.SumIdeal.S8x39296) ![q.val, 0] Cert.SumIdeal.S1x39296.size hq) i = x (ix2 q (i 1)) :=
  congrArg x <| funext fun a => Fin.ext <| by
    have h0 : (i 0).val < 1 := (i 0).isLt
    match a with
    | ⟨0, _⟩ => show q.val + 1 * (i 0).val = q.val; omega
    | ⟨1, _⟩ => show 0 + 1 * (i 1).val = (i 1).val; omega

/-- The kernel's result at an index: its eight rows there, added from the first to the last. -/
theorem pay_apply (v : Fin 8 → Vec Ideal Cert.SumIdeal.S1x39296 .f32) (i : Cert.SumIdeal.S1x39296.Idx) :
    Cert.SumIdeal.Gen.k0_pay1 (v 0) (v 1) (v 2) (v 3) (v 4) (v 5) (v 6) (v 7) i = ∑ q : Fin 8, (v q i : EReal) :=
  (Fin.sum_univ_eight fun q => (v q i : EReal)).symm

/-- The kernel's result at an index: the sum of the column. -/
theorem kernel_apply (x : Vec Ideal Cert.SumIdeal.S8x39296 .f32) (i : Cert.SumIdeal.S1x39296.Idx) :
    Cert.SumIdeal.Value.G1 x i = ∑ q : Fin 8, (x (ix2 q (i 1)) : EReal) :=
  (pay_apply ![View.ld x Cert.SumIdeal.Gen.r0_0, View.ld x Cert.SumIdeal.Gen.r0_1, View.ld x Cert.SumIdeal.Gen.r0_2,
    View.ld x Cert.SumIdeal.Gen.r0_3, View.ld x Cert.SumIdeal.Gen.r0_4, View.ld x Cert.SumIdeal.Gen.r0_5,
    View.ld x Cert.SumIdeal.Gen.r0_6, View.ld x Cert.SumIdeal.Gen.r0_7] i).trans <|
  Finset.sum_congr rfl fun q _ => by
    match q with
    | 0 => exact row_apply x 0 _ i
    | 1 => exact row_apply x 1 _ i
    | 2 => exact row_apply x 2 _ i
    | 3 => exact row_apply x 3 _ i
    | 4 => exact row_apply x 4 _ i
    | 5 => exact row_apply x 5 _ i
    | 6 => exact row_apply x 6 _ i
    | 7 => exact row_apply x 7 _ i

/-- The reference's sum, spread over one row, is the kernel's. -/
theorem sum_eq (x : Vec Ideal Cert.SumIdeal.S8x39296 .f32) :
    broadcastInDim Cert.SumRefIdeal.S1x39296 ![1] Cert.SumRefIdeal.Gen.bcast_S39296_S1x39296_1
      (Host.reduceAdd (F := Ideal) x (constant Cert.SumRefIdeal.S_ .f32 0x00000000#32)
        Cert.SumRefIdeal.Gen.reducesTo_S8x39296_S39296_d0 Cert.SumRefIdeal.Gen.h_S_)
      = Cert.SumIdeal.Value.G1 x := by
  funext i
  rw [kernel_apply]
  refine (Ideal.hostReduceAdd_r2_a0 (n0 := 8) (n1 := 39296) Cert.SumRefIdeal.Gen.reducesTo_S8x39296_S39296_d0 x _ _).trans ?_
  exact (congrArg (· + _) Ideal.ofBits_zero_f32).trans ((zero_add _).trans
    (Finset.sum_congr rfl fun q _ => congrArg x (funext fun a => Fin.ext (by
      match a with
      | ⟨0, _⟩ => rfl
      | ⟨1, _⟩ => rfl))))

theorem algebraic : Cert.algebraic_SumIdeal_SumRefIdeal := fun m g m' g' _ hm =>
  ⟨_, Cert.SumIdeal.Value.run m g,
    (θ_run _ _ _).mono (fun _ h c => ⟨(h c).1.trans ((sum_eq _).trans (congrArg _ (hm c))), (h c).2⟩)
      (Cert.SumRefIdeal.Value.run m' g')⟩

end Cert.Proof.Sum

end

end
-- ==== Proof.Total.Index.lean ====
/-
# A word that says which part of an array is meant
-/
module

public import Idealize.ShloMosaic.Lib.WordCmp
public import Idealize.ShloMosaic.Lib.DynamicIndex
public import Idealize.ShloMosaic.Lib.Pointwise

@[expose] public section

namespace Cert.Proof.Total

open Idealize.ShloMosaic

/-- A word that is at least 0 and at most `k`, read signed, is at most `k`. -/
theorem word_le {w : BitVec 32} (k : Nat) (hk : k < 2 ^ 31)
    (h : IntOp.andi (IntOp.cmpi .sge w 0#32) (IntOp.cmpi .sle w (BitVec.ofNat 32 k)) = 1#1) : w.toNat ≤ k := by
  have e : IntOp.andi (BitVec.ofBool (decide ((0#32).toInt ≤ w.toInt))) (BitVec.ofBool (decide (w.toInt ≤ (BitVec.ofNat 32 k).toInt))) = 1#1 := h
  rw [toInt_ofNat_of_lt hk] at e
  have h0 : (0 : Int) ≤ w.toInt := by
    by_contra hn
    simp [IntOp.andi, hn] at e
  have h1 : w.toInt ≤ k := by
    by_contra hn
    simp [IntOp.andi, hn] at e
  rw [BitVec.toInt_eq_toNat_cond] at h0 h1
  split at h1 <;> omega

/-- A word that is small, read signed, is its number. -/
theorem toInt_of_le {w : BitVec 32} {k : Nat} (hk : k < 2 ^ 31) (h : w.toNat ≤ k) : w.toInt = w.toNat := by
  rw [BitVec.toInt_eq_toNat_cond]
  split <;> omega

/-- An index counted from the end when negative: a small word is left as it is. -/
theorem toInt_wrap {s : Shape} (i a : IVec s 32) (j : s.Idx) {k : Nat} (hk : k < 2 ^ 31) (h : (i j).toNat = k) :
    (select (cmpi .slt i (constantI s 32 0#32)) a i j).toInt = k := by
  have e : (i j).toInt = k := (toInt_of_le hk h.le).trans (congrArg _ h)
  rw [select_slt_zero_of_nonneg i a i j (by omega)]
  exact e

/-- The one index of an array of one word. -/
theorem eq_zero (i : (⟨1, ![1]⟩ : Shape).Idx) : i = ix1 0 :=
  (eq_ix1 (n0 := 1) i).trans (congrArg ix1 (Subsingleton.elim (α := Fin 1) _ 0))

/-- A core's partial gradients of the four shards with the other core's, element by element. -/
noncomputable def pair {n : Nat} (k : Fin 2) (g : (⟨4, ![2, 4, 1024, n]⟩ : Shape).Idx → EReal)
    (r : (⟨3, ![4, 1024, n]⟩ : Shape).Idx → EReal) : (⟨3, ![4, 1024, n]⟩ : Shape).Idx → EReal := fun i => g (ix4 k (i 0) (i 1) (i 2)) + r i

/-- A shard's own gradient: this core's partial one, the other core's and the three other chips', element by element. -/
noncomputable def own {n : Nat} (k : Fin 2) (s : Fin 4) (g : (⟨4, ![2, 4, 1024, n]⟩ : Shape).Idx → EReal)
    (r : (⟨3, ![4, 1024, n]⟩ : Shape).Idx → EReal) (got : (⟨3, ![3, 1024, n]⟩ : Shape).Idx → EReal) : (⟨2, ![1024, n]⟩ : Shape).Idx → EReal :=
  fun i => g (ix4 k s (i 0) (i 1)) + r (ix3 s (i 0) (i 1)) + (got (ix3 0 (i 0) (i 1)) + got (ix3 1 (i 0) (i 1)) + got (ix3 2 (i 0) (i 1)))

theorem add_three (x a b c : EReal) : x + a + b + c = x + (a + b + c) := by rw [add_assoc, add_assoc, add_assoc]

/-- The shard and the row of it that are row `r` of point `t`'s block, each shard in eight blocks of 128 rows. -/
def shard (t : Fin 32) : Fin 4 := ⟨t.val / 8, by omega⟩
def row (t : Fin 32) (r : Fin 128) : Fin 1024 := ⟨t.val % 8 * 128 + r.val, by omega⟩

/-- Row `r` of point `t`'s block of 128 rows. -/
def line (t : Fin 8) (r : Fin 128) : Fin 1024 := ⟨t.val * 128 + r.val, by omega⟩

/-- The one word that a load of one word reads. -/
theorem first_emb (k : Fin 2) (h : ∀ a : Fin 1, (![k.val] : Fin 1 → Nat) a + (![1] : Fin 1 → Nat) a ≤ (![2] : Fin 1 → Nat) a)
    (i : (⟨1, ![1]⟩ : Shape).Idx) : (Rect.unit (s := ⟨1, ![2]⟩) ![k.val] ![1] h).emb i = ix1 k :=
  funext fun (a : Fin 1) => match a with
  | 0 => Fin.ext (by have e : (i 0).val = 0 := Nat.lt_one_iff.1 (i 0).isLt; show k.val + 1 * (i 0).val = k.val; omega)

/-- One word of two, cut out. -/
theorem slice_word (k : Fin 2) (x : (⟨1, ![2]⟩ : Shape).Idx → BitVec 32) (h : (⟨1, ![2]⟩ : Shape).Slices ![k.val] ⟨1, ![1]⟩)
    (i : (⟨1, ![1]⟩ : Shape).Idx) : extractStridedSlice ⟨1, ![1]⟩ ![k.val] x h i = x (ix1 k) :=
  congrArg x (funext fun (a : Fin 1) => match a with
  | 0 => Fin.ext (by have e : (i 0).val = 0 := Nat.lt_one_iff.1 (i 0).isLt; show k.val + (i 0).val = k.val; omega))

/-- One core's half of an array of four shards, cut out. -/
theorem slice_core {α : Type} {n : Nat} (x : (⟨4, ![2, 4, 1024, n]⟩ : Shape).Idx → α) (start : Fin 4 → Int) (h) (k : Fin 2)
    (hs : ∀ a, start a = ((![k.val, 0, 0, 0] : Fin 4 → Nat) a : Int)) :
    Host.dynamicSlice ⟨4, ![1, 4, 1024, n]⟩ x start h = fun i => x (ix4 k (i 1) (i 2) (i 3)) := by
  refine (Host.dynamicSlice_eq_extractStridedSlice _ x start ![k.val, 0, 0, 0] h ⟨rfl, fun
    | 0 => Nat.succ_le_of_lt k.isLt
    | 1 => Nat.le_refl 4
    | 2 => Nat.le_refl 1024
    | 3 => (Nat.zero_add n).le⟩ hs).trans (funext fun i => congrArg x (funext fun (a : Fin 4) => match a with
    | 0 => Fin.ext (congrArg (k.val + ·) (Nat.lt_one_iff.1 (i 0).isLt))
    | 1 => Fin.ext (Nat.zero_add _)
    | 2 => Fin.ext (Nat.zero_add _)
    | 3 => Fin.ext (Nat.zero_add _)))

/-- One core's half of one shard, cut out. -/
theorem slice_place {α : Type} {n : Nat} (x : (⟨4, ![2, 4, 1024, n]⟩ : Shape).Idx → α) (start : Fin 4 → Int) (h) (k : Fin 2) (s : Fin 4)
    (hs : ∀ a, start a = ((![k.val, s.val, 0, 0] : Fin 4 → Nat) a : Int)) :
    Host.dynamicSlice ⟨4, ![1, 1, 1024, n]⟩ x start h = fun i => x (ix4 k s (i 2) (i 3)) := by
  refine (Host.dynamicSlice_eq_extractStridedSlice _ x start ![k.val, s.val, 0, 0] h ⟨rfl, fun
    | 0 => Nat.succ_le_of_lt k.isLt
    | 1 => Nat.succ_le_of_lt s.isLt
    | 2 => Nat.le_refl 1024
    | 3 => (Nat.zero_add n).le⟩ hs).trans (funext fun i => congrArg x (funext fun (a : Fin 4) => match a with
    | 0 => Fin.ext (congrArg (k.val + ·) (Nat.lt_one_iff.1 (i 0).isLt))
    | 1 => Fin.ext (congrArg (s.val + ·) (Nat.lt_one_iff.1 (i 1).isLt))
    | 2 => Fin.ext (Nat.zero_add _)
    | 3 => Fin.ext (Nat.zero_add _)))

/-- One shard, cut out. -/
theorem slice_shard {α : Type} {n : Nat} (x : (⟨3, ![4, 1024, n]⟩ : Shape).Idx → α) (start : Fin 3 → Int) (h) (s : Fin 4)
    (hs : ∀ a, start a = ((![s.val, 0, 0] : Fin 3 → Nat) a : Int)) :
    Host.dynamicSlice ⟨3, ![1, 1024, n]⟩ x start h = fun i => x (ix3 s (i 1) (i 2)) := by
  refine (Host.dynamicSlice_eq_extractStridedSlice _ x start ![s.val, 0, 0] h ⟨rfl, fun
    | 0 => Nat.succ_le_of_lt s.isLt
    | 1 => Nat.le_refl 1024
    | 2 => (Nat.zero_add n).le⟩ hs).trans (funext fun i => congrArg x (funext fun (a : Fin 3) => match a with
    | 0 => Fin.ext (congrArg (s.val + ·) (Nat.lt_one_iff.1 (i 0).isLt))
    | 1 => Fin.ext (Nat.zero_add _)
    | 2 => Fin.ext (Nat.zero_add _)))

end Cert.Proof.Total

end
-- ==== Proof.Total.PairIn.lean ====
/-
# A core's partial gradients of `w_in` with the other core's: the claims
-/
module

public import proofs.«01_k».proof.Defs
public import proofs.«01_k».proof.Proof.Gen.PairIn
public import proofs.«01_k».proof.Proof.Gen.PairIn.Frame
public import proofs.«01_k».proof.Proof.Gen.PairInIdeal.Frame
public import proofs.«01_k».proof.Proof.Gen.PairInRefIdeal
public import proofs.«01_k».proof.Proof.Gen.Pre_core_in
public import proofs.«01_k».proof.Proof.Total.Index
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.PairIn

open Idealize.ShloMosaic Idealize.ShloMosaic.TcCoe Idealize.SL.Sem

/-- The precondition: the core is 0 or 1. -/
theorem core_le {F : FTy → Type} [FloatOps F] {a : IVec Cert.Pre_core_in.S1 32} {g : FVec F Cert.Pre_core_in.S2x4x1024x5648 .f32}
    {r : FVec F Cert.Pre_core_in.S4x1024x5648 .f32} (h : Cert.Pre_core_in.fn a g r = fun _ => 1#1) : (a (ix1 0)).toNat ≤ 1 :=
  Total.word_le 1 (by omega) (congrFun h (ix1 0))

section
open Cert.PairIn Cert.PairIn.Gen

theorem word (m : (ℓ : Loc nD τ sig) → Buf (Elt Bits) ℓ) : (tbl m).at 0 (Rect.unit (s := S1) ![0] S1.size inb_S1_S1_0) numel1_S1
    = m (((0 : Dev nD) : Thread nD τ).loc main_arg0) (ix1 0) :=
  congrArg (m (((0 : Dev nD) : Thread nD τ).loc main_arg0))  (Total.eq_zero _)

theorem ok {m : (ℓ : Loc nD τ sig) → Buf (Elt Bits) ℓ} (h : (m (((0 : Dev nD) : Thread nD τ).loc main_arg0) (ix1 0)).toNat ≤ 1) :
    Ok m := fun i => ⟨fun
  | 0 => show (((tbl m).at 0 (Rect.unit (s := S1) ![0] S1.size inb_S1_S1_0) numel1_S1).toNat + 1) * 1 ≤ 2 by
    rw [word, Nat.mul_one]; exact Nat.succ_le_succ h
  | 1 => hinb0_1 i 0
  | 2 => hinb0_1 i 1
  | 3 => hinb0_1 i 2, .inl rfl⟩
end

theorem frame : Cert.quiescent_PairIn := fun m g h => Cert.PairIn.Gen.frame m g (ok (core_le (h 0)))

section
open Cert.PairInIdeal Cert.PairInIdeal.Gen

variable {m : (ℓ : Loc nD τ sig) → Buf (Elt Ideal) ℓ} (hO : Ok m)

/-- Which block a point adds, and where. -/
theorem idx : ∀ t : Fin grid0.N, cc0_transform_1 (grid0.coords t) = ![t.val / 8, t.val % 8, 0] := by decide +kernel

theorem word_ideal : (tbl m).at 0 (Rect.unit (s := S1) ![0] S1.size inb_S1_S1_0) numel1_S1
    = m (((0 : Dev nD) : Thread nD τ).loc main_arg0) (ix1 0) :=
  congrArg (m (((0 : Dev nD) : Thread nD τ).loc main_arg0))  (Total.eq_zero _)

theorem covers : ((cfgM m hO).win 2).Covers :=
  ⟨show ∀ a : Fin 3, 0 < S1x128x5648.size a by decide, fun (β : (a : Fin 3) → Fin ((S4x1024x5648.size a + S1x128x5648.size a - 1) / S1x128x5648.size a)) => by
    have b0 : (β 0).val < 4 := (β 0).isLt
    have b1 : (β 1).val < 8 := (β 1).isLt
    have b2 : (β 2).val < 1 := (β 2).isLt
    refine ⟨⟨(β 0).val * 8 + (β 1).val, show _ < 32 by omega⟩, flush0_2 _ _, fun (a : Fin 3) => ⟨(congrFun (idx _) a).trans ?_, .inl rfl⟩⟩
    match a with
    | 0 => show ((β 0).val * 8 + (β 1).val) / 8 = (β 0).val; omega
    | 1 => show ((β 0).val * 8 + (β 1).val) % 8 = (β 1).val; omega
    | 2 => show 0 = (β 2).val; omega⟩

theorem place (t : Fin (cfgM m hO).N) (a : Fin 1) (r : Fin 128) (j : Fin 5648) :
    ((((cfgM m hO).win 2).blk t).view.emb (ix3 a r j) : S4x1024x5648.Idx) = ix3 (Total.shard t) (Total.row t r) j := funext fun (b : Fin 3) => match b with
  | 0 => Fin.ext (by
    show cc0_transform_1 (grid0.coords t) 0 * 1 + 1 * a.val = t.val / 8
    rw [idx t]; show t.val / 8 * 1 + 1 * a.val = _; omega)
  | 1 => Fin.ext (by
    show cc0_transform_1 (grid0.coords t) 1 * 128 + 1 * r.val = t.val % 8 * 128 + r.val
    rw [idx t]; show t.val % 8 * 128 + 1 * r.val = _; omega)
  | 2 => Fin.ext (by show 0 * 5648 + 1 * j.val = j.val; omega)

theorem read_1 (c : Dev nD) (t : Fin (cfgM m hO).N) (a : Fin 1) (r : Fin 128) (j : Fin 5648) :
    iblk m hO c 1 t (ix3 a r j) = m ((c : Thread nD τ).loc main_arg2) (ix3 (Total.shard t) (Total.row t r) j) :=
  congrArg (m ((c : Thread nD τ).loc main_arg2)) (place hO t a r j)

theorem read_0 (k : Fin 2) (hk : (m (((0 : Dev nD) : Thread nD τ).loc main_arg0) (ix1 0)).toNat = k.val) (c : Dev nD)
    (t : Fin (cfgM m hO).N) (b a : Fin 1) (r : Fin 128) (j : Fin 5648) :
    iblk m hO c 0 t (ix4 b a r j) = m ((c : Thread nD τ).loc main_arg1) (ix4 k (Total.shard t) (Total.row t r) j) :=
  congrArg (m ((c : Thread nD τ).loc main_arg1)) (funext fun (d : Fin 4) => match d with
    | 0 => Fin.ext (by
      show ((tbl m).at 0 (Rect.unit (s := S1) ![0] S1.size inb_S1_S1_0) numel1_S1).toNat * 1 + 1 * b.val = k.val
      rw [word_ideal, hk]; omega)
    | 1 => congrFun (place hO t a r j) (0 : Fin 3)
    | 2 => congrFun (place hO t a r j) (1 : Fin 3)
    | 3 => congrFun (place hO t a r j) (2 : Fin 3))

/-- What a point leaves of its block. -/
theorem point (k : Fin 2) (hk : (m (((0 : Dev nD) : Thread nD τ).loc main_arg0) (ix1 0)).toNat = k.val) (c : Dev nD)
    (t : Fin (cfgM m hO).N) (y : S1x128x5648.Idx) : k0_pay1 (iblk m hO c 0 t) (iblk m hO c 1 t) y =
      Total.pair k (m ((c : Thread nD τ).loc main_arg1)) (m ((c : Thread nD τ).loc main_arg2)) ((((cfgM m hO).win 2).blk t).view.emb y) := by
  obtain ⟨a, r, j, rfl⟩ : ∃ a r j, y = ix3 a r j := ⟨y 0, y 1, y 2, eq_ix3 y⟩
  refine Eq.trans ?_ (congrArg (Total.pair k (m ((c : Thread nD τ).loc main_arg1)) (m ((c : Thread nD τ).loc main_arg2))) (place hO t a r j).symm)
  pointwise [k0_pay1, Total.pair]
  rw [read_0 hO k hk, read_1]

/-- The kernel's array after the run. -/
theorem final (k : Fin 2) (hk : (m (((0 : Dev nD) : Thread nD τ).loc main_arg0) (ix1 0)).toNat = k.val) (c : Dev nD) :
    (dats m hO 0 c).arrAt 2 (cfgM m hO).N = Total.pair k (m ((c : Thread nD τ).loc main_arg1)) (m ((c : Thread nD τ).loc main_arg2)) := by
  refine (dats m hO 0 c).arrAt_eq_of_covers 2 _ (covers hO) fun t hf y => ?_
  blk_simp
  rw [after0_2]
  unfold outsAt0
  frame_out
  exact (congrArg₂ (fun a b => k0_pay1 a b y) ((hs0_0 m hO t).read_unread _) ((hs0_1 m hO t).read_unread _)).trans (point hO k hk c t y)

theorem ok_ideal (h : (m (((0 : Dev nD) : Thread nD τ).loc main_arg0) (ix1 0)).toNat ≤ 1) : Ok m := fun i => ⟨fun
  | 0 => show (((tbl m).at 0 (Rect.unit (s := S1) ![0] S1.size inb_S1_S1_0) numel1_S1).toNat + 1) * 1 ≤ 2 by
    rw [word_ideal, Nat.mul_one]; exact Nat.succ_le_succ h
  | 1 => hinb0_1 i 0
  | 2 => hinb0_1 i 1
  | 3 => hinb0_1 i 2, .inl rfl⟩

include hO in
/-- The kernel's run, with its array read. -/
theorem run (g : Dev nD → PrngReg) (k : Fin 2) (hk : (m (((0 : Dev nD) : Thread nD τ).loc main_arg0) (ix1 0)).toNat = k.val) :
    θ_run defs (onTc (τ := τ) (main (F := Ideal))) ⟨m, fun _ => 0, g⟩ fun r => ∀ c : Dev nD,
    r.2.mem ((c : Thread nD τ).loc main_v0) = Total.pair k (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨((h.1 c).1 2).trans (final hO k hk c), h.2 c⟩) (θ_run_and (run_main m g hO) (unchanged m g hO))
end

theorem frame_ideal : Cert.quiescent_PairInIdeal := fun m g h => Cert.PairInIdeal.Gen.frame m g (ok_ideal (core_le (h 0)))

section
open Cert.PairInRefIdeal Cert.PairInRefIdeal.Gen

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    (∀ k : Fin 2, (m ((c : Thread nD τ).loc main_arg0) (ix1 0)).toNat = k.val →
      r.2.mem ((c : Thread nD τ).loc main_v7) = Total.pair k (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (StableHlo.run_hlo _ _ (by hlo_seq) (by decide) (by decide) (by simp)
      (by intro _ h; (repeat (cases h with | head => rfl | tail _ h => ?_)); exact nomatch h) _ _) fun r h c =>
    ⟨fun k hk => (h c main_v7).trans (by
      after_results_simp_entrywise
      refine (congrArg (fun x => truncf FTy.bf16 (addf (shapeCast S4x1024x5648 x _) _) _)
        (Total.slice_core (n := 5648) (m ((c : Thread nD τ).loc main_arg1)) _ _ k ?_)).trans (funext fun i => ?_)
      · exact fun
          | 0 => Total.toInt_wrap (k := k.val) _ _ _ (by omega)
              ((congrArg (fun i => (m ((c : Thread nD τ).loc main_arg0) i).toNat) (Total.eq_zero _)).trans hk)
          | 1 => rfl
          | 2 => rfl
          | 3 => rfl
      · obtain ⟨s, r, j, rfl⟩ : ∃ s r j, i = ix3 s r j := ⟨i 0, i 1, i 2, eq_ix3 i⟩
        pointwise [Total.pair]),
    (h c main_arg0).trans (by after_results_simp_entrywise), (h c main_arg1).trans (by after_results_simp_entrywise), (h c main_arg2).trans (by after_results_simp_entrywise)⟩
end

theorem frame_refIdeal : Cert.quiescent_PairInRefIdeal := fun m g _ =>
  (θ_run _ _ _).mono (fun r h => ⟨fun c => (h c).2, sem_eq_zero_of_no_sems (by decide) r.2⟩) (run_ref m g)

theorem frame_refIdeal_pre : Cert.quiescent_PairInRefIdeal_pre_core_in := fun m g _ => frame_refIdeal m g trivial

theorem algebraic : Cert.algebraic_PairInIdeal_PairInRefIdeal := fun m g m' g' h e => by
  have le := core_le (h 0)
  refine ⟨_, run (ok_ideal le) g ⟨_, Nat.lt_succ_of_le le⟩ rfl, (θ_run _ _ _).mono (fun _ r c => ?_) (run_ref m' g')⟩
  obtain ⟨e0, e1, e2⟩ := e c
  obtain rfl : c = 0 := Subsingleton.elim _ _
  exact ⟨((r 0).1 _ (congrArg (fun a : IVec Cert.PairInIdeal.S1 32 => (a (ix1 0)).toNat) e0)).trans (congrArg₂ (Total.pair _) e1 e2), (r 0).2⟩

end Cert.Proof.PairIn

end

end
-- ==== Proof.Total.PairB.lean ====
/-
# A core's partial gradients of the three other matrices with the other core's: the claims
-/
module

public import proofs.«01_k».proof.Defs
public import proofs.«01_k».proof.Proof.Gen.PairB
public import proofs.«01_k».proof.Proof.Gen.PairB.Frame
public import proofs.«01_k».proof.Proof.Gen.PairBIdeal.Frame
public import proofs.«01_k».proof.Proof.Gen.PairBRefIdeal
public import proofs.«01_k».proof.Proof.Gen.Pre_core_b
public import proofs.«01_k».proof.Proof.Total.Index
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.PairB

open Idealize.ShloMosaic Idealize.ShloMosaic.TcCoe Idealize.SL.Sem

/-- The precondition: the core is 0 or 1. -/
theorem core_le {F : FTy → Type} [FloatOps F] {a : IVec Cert.Pre_core_b.S1 32} {g : FVec F Cert.Pre_core_b.S2x4x1024x2048 .f32}
    {r : FVec F Cert.Pre_core_b.S4x1024x2048 .f32} (h : Cert.Pre_core_b.fn a g r = fun _ => 1#1) : (a (ix1 0)).toNat ≤ 1 :=
  Total.word_le 1 (by omega) (congrFun h (ix1 0))

section
open Cert.PairB Cert.PairB.Gen

theorem word (m : (ℓ : Loc nD τ sig) → Buf (Elt Bits) ℓ) : (tbl m).at 0 (Rect.unit (s := S1) ![0] S1.size inb_S1_S1_0) numel1_S1
    = m (((0 : Dev nD) : Thread nD τ).loc main_arg0) (ix1 0) :=
  congrArg (m (((0 : Dev nD) : Thread nD τ).loc main_arg0))  (Total.eq_zero _)

theorem ok {m : (ℓ : Loc nD τ sig) → Buf (Elt Bits) ℓ} (h : (m (((0 : Dev nD) : Thread nD τ).loc main_arg0) (ix1 0)).toNat ≤ 1) :
    Ok m := fun i => ⟨fun
  | 0 => show (((tbl m).at 0 (Rect.unit (s := S1) ![0] S1.size inb_S1_S1_0) numel1_S1).toNat + 1) * 1 ≤ 2 by
    rw [word, Nat.mul_one]; exact Nat.succ_le_succ h
  | 1 => hinb0_1 i 0
  | 2 => hinb0_1 i 1
  | 3 => hinb0_1 i 2, .inl rfl⟩
end

theorem frame : Cert.quiescent_PairB := fun m g h => Cert.PairB.Gen.frame m g (ok (core_le (h 0)))

section
open Cert.PairBIdeal Cert.PairBIdeal.Gen

variable {m : (ℓ : Loc nD τ sig) → Buf (Elt Ideal) ℓ} (hO : Ok m)

/-- Which block a point adds, and where. -/
theorem idx : ∀ t : Fin grid0.N, cc0_transform_1 (grid0.coords t) = ![t.val / 8, t.val % 8, 0] := by decide +kernel

theorem word_ideal : (tbl m).at 0 (Rect.unit (s := S1) ![0] S1.size inb_S1_S1_0) numel1_S1
    = m (((0 : Dev nD) : Thread nD τ).loc main_arg0) (ix1 0) :=
  congrArg (m (((0 : Dev nD) : Thread nD τ).loc main_arg0))  (Total.eq_zero _)

theorem covers : ((cfgM m hO).win 2).Covers :=
  ⟨show ∀ a : Fin 3, 0 < S1x128x2048.size a by decide, fun (β : (a : Fin 3) → Fin ((S4x1024x2048.size a + S1x128x2048.size a - 1) / S1x128x2048.size a)) => by
    have b0 : (β 0).val < 4 := (β 0).isLt
    have b1 : (β 1).val < 8 := (β 1).isLt
    have b2 : (β 2).val < 1 := (β 2).isLt
    refine ⟨⟨(β 0).val * 8 + (β 1).val, show _ < 32 by omega⟩, flush0_2 _ _, fun (a : Fin 3) => ⟨(congrFun (idx _) a).trans ?_, .inl rfl⟩⟩
    match a with
    | 0 => show ((β 0).val * 8 + (β 1).val) / 8 = (β 0).val; omega
    | 1 => show ((β 0).val * 8 + (β 1).val) % 8 = (β 1).val; omega
    | 2 => show 0 = (β 2).val; omega⟩

theorem place (t : Fin (cfgM m hO).N) (a : Fin 1) (r : Fin 128) (j : Fin 2048) :
    ((((cfgM m hO).win 2).blk t).view.emb (ix3 a r j) : S4x1024x2048.Idx) = ix3 (Total.shard t) (Total.row t r) j := funext fun (b : Fin 3) => match b with
  | 0 => Fin.ext (by
    show cc0_transform_1 (grid0.coords t) 0 * 1 + 1 * a.val = t.val / 8
    rw [idx t]; show t.val / 8 * 1 + 1 * a.val = _; omega)
  | 1 => Fin.ext (by
    show cc0_transform_1 (grid0.coords t) 1 * 128 + 1 * r.val = t.val % 8 * 128 + r.val
    rw [idx t]; show t.val % 8 * 128 + 1 * r.val = _; omega)
  | 2 => Fin.ext (by show 0 * 2048 + 1 * j.val = j.val; omega)

theorem read_1 (c : Dev nD) (t : Fin (cfgM m hO).N) (a : Fin 1) (r : Fin 128) (j : Fin 2048) :
    iblk m hO c 1 t (ix3 a r j) = m ((c : Thread nD τ).loc main_arg2) (ix3 (Total.shard t) (Total.row t r) j) :=
  congrArg (m ((c : Thread nD τ).loc main_arg2)) (place hO t a r j)

theorem read_0 (k : Fin 2) (hk : (m (((0 : Dev nD) : Thread nD τ).loc main_arg0) (ix1 0)).toNat = k.val) (c : Dev nD)
    (t : Fin (cfgM m hO).N) (b a : Fin 1) (r : Fin 128) (j : Fin 2048) :
    iblk m hO c 0 t (ix4 b a r j) = m ((c : Thread nD τ).loc main_arg1) (ix4 k (Total.shard t) (Total.row t r) j) :=
  congrArg (m ((c : Thread nD τ).loc main_arg1)) (funext fun (d : Fin 4) => match d with
    | 0 => Fin.ext (by
      show ((tbl m).at 0 (Rect.unit (s := S1) ![0] S1.size inb_S1_S1_0) numel1_S1).toNat * 1 + 1 * b.val = k.val
      rw [word_ideal, hk]; omega)
    | 1 => congrFun (place hO t a r j) (0 : Fin 3)
    | 2 => congrFun (place hO t a r j) (1 : Fin 3)
    | 3 => congrFun (place hO t a r j) (2 : Fin 3))

/-- What a point leaves of its block. -/
theorem point (k : Fin 2) (hk : (m (((0 : Dev nD) : Thread nD τ).loc main_arg0) (ix1 0)).toNat = k.val) (c : Dev nD)
    (t : Fin (cfgM m hO).N) (y : S1x128x2048.Idx) : k0_pay1 (iblk m hO c 0 t) (iblk m hO c 1 t) y =
      Total.pair k (m ((c : Thread nD τ).loc main_arg1)) (m ((c : Thread nD τ).loc main_arg2)) ((((cfgM m hO).win 2).blk t).view.emb y) := by
  obtain ⟨a, r, j, rfl⟩ : ∃ a r j, y = ix3 a r j := ⟨y 0, y 1, y 2, eq_ix3 y⟩
  refine Eq.trans ?_ (congrArg (Total.pair k (m ((c : Thread nD τ).loc main_arg1)) (m ((c : Thread nD τ).loc main_arg2))) (place hO t a r j).symm)
  pointwise [k0_pay1, Total.pair]
  rw [read_0 hO k hk, read_1]

/-- The kernel's array after the run. -/
theorem final (k : Fin 2) (hk : (m (((0 : Dev nD) : Thread nD τ).loc main_arg0) (ix1 0)).toNat = k.val) (c : Dev nD) :
    (dats m hO 0 c).arrAt 2 (cfgM m hO).N = Total.pair k (m ((c : Thread nD τ).loc main_arg1)) (m ((c : Thread nD τ).loc main_arg2)) := by
  refine (dats m hO 0 c).arrAt_eq_of_covers 2 _ (covers hO) fun t hf y => ?_
  blk_simp
  rw [after0_2]
  unfold outsAt0
  frame_out
  exact (congrArg₂ (fun a b => k0_pay1 a b y) ((hs0_0 m hO t).read_unread _) ((hs0_1 m hO t).read_unread _)).trans (point hO k hk c t y)

theorem ok_ideal (h : (m (((0 : Dev nD) : Thread nD τ).loc main_arg0) (ix1 0)).toNat ≤ 1) : Ok m := fun i => ⟨fun
  | 0 => show (((tbl m).at 0 (Rect.unit (s := S1) ![0] S1.size inb_S1_S1_0) numel1_S1).toNat + 1) * 1 ≤ 2 by
    rw [word_ideal, Nat.mul_one]; exact Nat.succ_le_succ h
  | 1 => hinb0_1 i 0
  | 2 => hinb0_1 i 1
  | 3 => hinb0_1 i 2, .inl rfl⟩

include hO in
/-- The kernel's run, with its array read. -/
theorem run (g : Dev nD → PrngReg) (k : Fin 2) (hk : (m (((0 : Dev nD) : Thread nD τ).loc main_arg0) (ix1 0)).toNat = k.val) :
    θ_run defs (onTc (τ := τ) (main (F := Ideal))) ⟨m, fun _ => 0, g⟩ fun r => ∀ c : Dev nD,
    r.2.mem ((c : Thread nD τ).loc main_v0) = Total.pair k (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run _ _ _).mono (fun _ h c => ⟨((h.1 c).1 2).trans (final hO k hk c), h.2 c⟩) (θ_run_and (run_main m g hO) (unchanged m g hO))
end

theorem frame_ideal : Cert.quiescent_PairBIdeal := fun m g h => Cert.PairBIdeal.Gen.frame m g (ok_ideal (core_le (h 0)))

section
open Cert.PairBRefIdeal Cert.PairBRefIdeal.Gen

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    (∀ k : Fin 2, (m ((c : Thread nD τ).loc main_arg0) (ix1 0)).toNat = k.val →
      r.2.mem ((c : Thread nD τ).loc main_v7) = Total.pair k (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (StableHlo.run_hlo _ _ (by hlo_seq) (by decide) (by decide) (by simp)
      (by intro _ h; (repeat (cases h with | head => rfl | tail _ h => ?_)); exact nomatch h) _ _) fun r h c =>
    ⟨fun k hk => (h c main_v7).trans (by
      after_results_simp_entrywise
      refine (congrArg (fun x => truncf FTy.bf16 (addf (shapeCast S4x1024x2048 x _) _) _)
        (Total.slice_core (n := 2048) (m ((c : Thread nD τ).loc main_arg1)) _ _ k ?_)).trans (funext fun i => ?_)
      · exact fun
          | 0 => Total.toInt_wrap (k := k.val) _ _ _ (by omega)
              ((congrArg (fun i => (m ((c : Thread nD τ).loc main_arg0) i).toNat) (Total.eq_zero _)).trans hk)
          | 1 => rfl
          | 2 => rfl
          | 3 => rfl
      · obtain ⟨s, r, j, rfl⟩ : ∃ s r j, i = ix3 s r j := ⟨i 0, i 1, i 2, eq_ix3 i⟩
        pointwise [Total.pair]),
    (h c main_arg0).trans (by after_results_simp_entrywise), (h c main_arg1).trans (by after_results_simp_entrywise), (h c main_arg2).trans (by after_results_simp_entrywise)⟩
end

theorem frame_refIdeal : Cert.quiescent_PairBRefIdeal := fun m g _ =>
  (θ_run _ _ _).mono (fun r h => ⟨fun c => (h c).2, sem_eq_zero_of_no_sems (by decide) r.2⟩) (run_ref m g)

theorem frame_refIdeal_pre : Cert.quiescent_PairBRefIdeal_pre_core_b := fun m g _ => frame_refIdeal m g trivial

theorem algebraic : Cert.algebraic_PairBIdeal_PairBRefIdeal := fun m g m' g' h e => by
  have le := core_le (h 0)
  refine ⟨_, run (ok_ideal le) g ⟨_, Nat.lt_succ_of_le le⟩ rfl, (θ_run _ _ _).mono (fun _ r c => ?_) (run_ref m' g')⟩
  obtain ⟨e0, e1, e2⟩ := e c
  obtain rfl : c = 0 := Subsingleton.elim _ _
  exact ⟨((r 0).1 _ (congrArg (fun a : IVec Cert.PairBIdeal.S1 32 => (a (ix1 0)).toNat) e0)).trans (congrArg₂ (Total.pair _) e1 e2), (r 0).2⟩

end Cert.Proof.PairB

end

end
-- ==== Proof.Total.OwnIn.lean ====
/-
# A chip's shard of the gradient of `w_in`, summed: the claims
-/
module

public import proofs.«01_k».proof.Defs
public import proofs.«01_k».proof.Proof.Gen.OwnIn
public import proofs.«01_k».proof.Proof.Gen.OwnIn.Frame
public import proofs.«01_k».proof.Proof.Gen.OwnInIdeal.Frame
public import proofs.«01_k».proof.Proof.Gen.OwnInRefIdeal
public import proofs.«01_k».proof.Proof.Gen.Pre_place_in
public import proofs.«01_k».proof.Proof.Total.Index
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.OwnIn

open Idealize.ShloMosaic Idealize.ShloMosaic.TcCoe Idealize.SL.Sem

/-- The precondition: the shard is 0 to 3 and the core 0 or 1. -/
theorem place_le {F : FTy → Type} [FloatOps F] {a : IVec Cert.Pre_place_in.S2 32} {g : FVec F Cert.Pre_place_in.S2x4x1024x5648 .f32}
    {r : FVec F Cert.Pre_place_in.S4x1024x5648 .f32} {got : FVec F Cert.Pre_place_in.S3x1024x5648 .bf16}
    (h : Cert.Pre_place_in.fn a g r got = fun _ => 1#1) : (a (ix1 0)).toNat ≤ 3 ∧ (a (ix1 1)).toNat ≤ 1 :=
  ⟨Total.word_le 3 (by omega) (congrFun h (ix1 0)), Total.word_le 1 (by omega) (congrFun h (ix1 1))⟩

section
open Cert.OwnIn Cert.OwnIn.Gen

theorem word_0 (m : (ℓ : Loc nD τ sig) → Buf (Elt Bits) ℓ) : (tbl m).at 0 (Rect.unit (s := S2) ![0] S1.size inb_S2_S1_0) numel1_S1
    = m (((0 : Dev nD) : Thread nD τ).loc main_arg0) (ix1 0) :=
  congrArg (m (((0 : Dev nD) : Thread nD τ).loc main_arg0)) (Total.first_emb 0 _ _)

theorem word_1 (m : (ℓ : Loc nD τ sig) → Buf (Elt Bits) ℓ) : (tbl m).at 0 (Rect.unit (s := S2) ![1] S1.size inb_S2_S1_1) numel1_S1
    = m (((0 : Dev nD) : Thread nD τ).loc main_arg0) (ix1 1) :=
  congrArg (m (((0 : Dev nD) : Thread nD τ).loc main_arg0)) (Total.first_emb 1 _ _)

theorem ok {m : (ℓ : Loc nD τ sig) → Buf (Elt Bits) ℓ} (h : (m (((0 : Dev nD) : Thread nD τ).loc main_arg0) (ix1 0)).toNat ≤ 3 ∧
    (m (((0 : Dev nD) : Thread nD τ).loc main_arg0) (ix1 1)).toNat ≤ 1) : Ok m :=
  ⟨fun i => ⟨fun
    | 0 => show (((tbl m).at 0 (Rect.unit (s := S2) ![1] S1.size inb_S2_S1_1) numel1_S1).toNat + 1) * 1 ≤ 2 by
      rw [word_1, Nat.mul_one]; exact Nat.succ_le_succ h.2
    | 1 => show (((tbl m).at 0 (Rect.unit (s := S2) ![0] S1.size inb_S2_S1_0) numel1_S1).toNat + 1) * 1 ≤ 4 by
      rw [word_0, Nat.mul_one]; exact Nat.succ_le_succ h.1
    | 2 => hinb0_3 i 0
    | 3 => hinb0_3 i 1, .inl rfl⟩, fun i => ⟨fun
    | 0 => show (((tbl m).at 0 (Rect.unit (s := S2) ![0] S1.size inb_S2_S1_0) numel1_S1).toNat + 1) * 1 ≤ 4 by
      rw [word_0, Nat.mul_one]; exact Nat.succ_le_succ h.1
    | 1 => hinb0_3 i 0
    | 2 => hinb0_3 i 1, .inl rfl⟩⟩
end

theorem frame : Cert.quiescent_OwnIn := fun m g h => Cert.OwnIn.Gen.frame m g (ok (place_le (h 0)))

section
open Cert.OwnInIdeal Cert.OwnInIdeal.Gen

variable {m : (ℓ : Loc nD τ sig) → Buf (Elt Ideal) ℓ} (hO : Ok m)

/-- Where a point's block lies. -/
theorem idx : ∀ t : Fin grid0.N, cc0_transform_3 (grid0.coords t) = ![t.val, 0] := by decide +kernel

theorem word_ideal_0 : (tbl m).at 0 (Rect.unit (s := S2) ![0] S1.size inb_S2_S1_0) numel1_S1
    = m (((0 : Dev nD) : Thread nD τ).loc main_arg0) (ix1 0) :=
  congrArg (m (((0 : Dev nD) : Thread nD τ).loc main_arg0)) (Total.first_emb 0 _ _)

theorem word_ideal_1 : (tbl m).at 0 (Rect.unit (s := S2) ![1] S1.size inb_S2_S1_1) numel1_S1
    = m (((0 : Dev nD) : Thread nD τ).loc main_arg0) (ix1 1) :=
  congrArg (m (((0 : Dev nD) : Thread nD τ).loc main_arg0)) (Total.first_emb 1 _ _)

theorem ok_ideal (h : (m (((0 : Dev nD) : Thread nD τ).loc main_arg0) (ix1 0)).toNat ≤ 3 ∧
    (m (((0 : Dev nD) : Thread nD τ).loc main_arg0) (ix1 1)).toNat ≤ 1) : Ok m :=
  ⟨fun i => ⟨fun
    | 0 => show (((tbl m).at 0 (Rect.unit (s := S2) ![1] S1.size inb_S2_S1_1) numel1_S1).toNat + 1) * 1 ≤ 2 by
      rw [word_ideal_1, Nat.mul_one]; exact Nat.succ_le_succ h.2
    | 1 => show (((tbl m).at 0 (Rect.unit (s := S2) ![0] S1.size inb_S2_S1_0) numel1_S1).toNat + 1) * 1 ≤ 4 by
      rw [word_ideal_0, Nat.mul_one]; exact Nat.succ_le_succ h.1
    | 2 => hinb0_3 i 0
    | 3 => hinb0_3 i 1, .inl rfl⟩, fun i => ⟨fun
    | 0 => show (((tbl m).at 0 (Rect.unit (s := S2) ![0] S1.size inb_S2_S1_0) numel1_S1).toNat + 1) * 1 ≤ 4 by
      rw [word_ideal_0, Nat.mul_one]; exact Nat.succ_le_succ h.1
    | 1 => hinb0_3 i 0
    | 2 => hinb0_3 i 1, .inl rfl⟩⟩

theorem covers : ((cfgM m hO).win 3).Covers :=
  ⟨show ∀ a : Fin 2, 0 < S128x5648.size a by decide, fun (β : (a : Fin 2) → Fin ((S1024x5648.size a + S128x5648.size a - 1) / S128x5648.size a)) =>
    ⟨⟨(β 0).val, show _ < 8 from (β 0).isLt⟩, flush0_3 _ _, fun (a : Fin 2) => ⟨(congrFun (idx _) a).trans (match a with
    | 0 => rfl
    | 1 => (Nat.lt_one_iff.1 (β 1).isLt).symm), .inl rfl⟩⟩⟩

theorem place (t : Fin (cfgM m hO).N) (r : Fin 128) (j : Fin 5648) :
    ((((cfgM m hO).win 3).blk t).view.emb (ix2 r j) : S1024x5648.Idx) = ix2 (Total.line t r) j := funext fun (b : Fin 2) => match b with
  | 0 => Fin.ext (by
    show cc0_transform_3 (grid0.coords t) 0 * 128 + 1 * r.val = t.val * 128 + r.val
    rw [idx t]; show t.val * 128 + 1 * r.val = _; omega)
  | 1 => Fin.ext (by show 0 * 5648 + 1 * j.val = j.val; omega)

theorem read_2 (c : Dev nD) (t : Fin (cfgM m hO).N) (a : Fin 3) (r : Fin 128) (j : Fin 5648) :
    iblk m hO c 2 t (ix3 a r j) = m ((c : Thread nD τ).loc main_arg3) (ix3 a (Total.line t r) j) :=
  congrArg (m ((c : Thread nD τ).loc main_arg3)) (funext fun (d : Fin 3) => match d with
    | 0 => Fin.ext (by show 0 * 3 + 1 * a.val = a.val; omega)
    | 1 => congrFun (place hO t r j) (0 : Fin 2)
    | 2 => congrFun (place hO t r j) (1 : Fin 2))

/-- A point's sum, of its blocks. -/
def rows (x : Vec Ideal S1x1x128x5648 .f32) (y : Vec Ideal S1x128x5648 .f32) (z : Vec Ideal S3x128x5648 .bf16) : Vec Ideal S128x5648 .f32 :=
  k0_pay1 x y (View.ld z (Rect.unit ![0, 0, 0] ![1, 128, 5648] inb_S3x128x5648_S1x128x5648_0_0_0))
    (View.ld z (Rect.unit ![1, 0, 0] ![1, 128, 5648] inb_S3x128x5648_S1x128x5648_1_0_0))
    (View.ld z (Rect.unit ![2, 0, 0] ![1, 128, 5648] inb_S3x128x5648_S1x128x5648_2_0_0))

section
variable {k : Fin 2} {s : Fin 4} (hs : (m (((0 : Dev nD) : Thread nD τ).loc main_arg0) (ix1 0)).toNat = s.val)
  (hk : (m (((0 : Dev nD) : Thread nD τ).loc main_arg0) (ix1 1)).toNat = k.val)
include hs

theorem read_1 (c : Dev nD) (t : Fin (cfgM m hO).N) (a : Fin 1) (r : Fin 128) (j : Fin 5648) :
    iblk m hO c 1 t (ix3 a r j) = m ((c : Thread nD τ).loc main_arg2) (ix3 s (Total.line t r) j) :=
  congrArg (m ((c : Thread nD τ).loc main_arg2)) (funext fun (d : Fin 3) => match d with
    | 0 => Fin.ext (by
      show ((tbl m).at 0 (Rect.unit (s := S2) ![0] S1.size inb_S2_S1_0) numel1_S1).toNat * 1 + 1 * a.val = s.val
      rw [word_ideal_0, hs]; omega)
    | 1 => congrFun (place hO t r j) (0 : Fin 2)
    | 2 => congrFun (place hO t r j) (1 : Fin 2))

include hk

theorem read_0 (c : Dev nD) (t : Fin (cfgM m hO).N) (b a : Fin 1) (r : Fin 128) (j : Fin 5648) :
    iblk m hO c 0 t (ix4 b a r j) = m ((c : Thread nD τ).loc main_arg1) (ix4 k s (Total.line t r) j) :=
  congrArg (m ((c : Thread nD τ).loc main_arg1)) (funext fun (d : Fin 4) => match d with
    | 0 => Fin.ext (by
      show ((tbl m).at 0 (Rect.unit (s := S2) ![1] S1.size inb_S2_S1_1) numel1_S1).toNat * 1 + 1 * b.val = k.val
      rw [word_ideal_1, hk]; omega)
    | 1 => Fin.ext (by
      show ((tbl m).at 0 (Rect.unit (s := S2) ![0] S1.size inb_S2_S1_0) numel1_S1).toNat * 1 + 1 * a.val = s.val
      rw [word_ideal_0, hs]; omega)
    | 2 => congrFun (place hO t r j) (0 : Fin 2)
    | 3 => congrFun (place hO t r j) (1 : Fin 2))

/-- What a point leaves of its block, from the three chips' blocks as they are loaded. -/
theorem point (c : Dev nD) (t : Fin (cfgM m hO).N) (y : S128x5648.Idx) : rows (iblk m hO c 0 t) (iblk m hO c 1 t) (iblk m hO c 2 t) y =
      Total.own k s (m ((c : Thread nD τ).loc main_arg1)) (m ((c : Thread nD τ).loc main_arg2)) (m ((c : Thread nD τ).loc main_arg3))
        ((((cfgM m hO).win 3).blk t).view.emb y) := by
  obtain ⟨r, j, rfl⟩ : ∃ r j, y = ix2 r j := ⟨y 0, y 1, eq_ix2 y⟩
  refine Eq.trans ?_ (congrArg (Total.own k s (m ((c : Thread nD τ).loc main_arg1)) (m ((c : Thread nD τ).loc main_arg2))
    (m ((c : Thread nD τ).loc main_arg3))) (place hO t r j).symm)
  pointwise [rows, k0_pay1, Total.own]
  rw [read_0 hO hs hk, read_1 hO hs, read_2, read_2, read_2]
  exact Total.add_three _ _ _ _

/-- The kernel's array after the run. -/
theorem final (c : Dev nD) : (dats m hO 0 c).arrAt 3 (cfgM m hO).N =
    Total.own k s (m ((c : Thread nD τ).loc main_arg1)) (m ((c : Thread nD τ).loc main_arg2)) (m ((c : Thread nD τ).loc main_arg3)) := by
  refine (dats m hO 0 c).arrAt_eq_of_covers 3 _ (covers hO) fun t hf y => ?_
  blk_simp
  rw [after0_3]
  unfold outsAt0
  frame_out
  exact (congr (congrArg₂ (fun a b x => rows a b x y) ((hs0_0 m hO t).read_unread _) ((hs0_1 m hO t).read_unread _))
    ((hs0_2 m hO t).read_unread _)).trans (point hO hs hk c t y)

include hO in
/-- The kernel's run, with its array read. -/
theorem run (g : Dev nD → PrngReg) : θ_run defs (onTc (τ := τ) (main (F := Ideal))) ⟨m, fun _ => 0, g⟩ fun r => ∀ c : Dev nD,
    r.2.mem ((c : Thread nD τ).loc main_v0) =
      Total.own k s (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨((h.1 c).1 3).trans (final hO hs hk c), h.2 c⟩) (θ_run_and (run_main m g hO) (unchanged m g hO))
end
end

theorem frame_ideal : Cert.quiescent_OwnInIdeal := fun m g h => Cert.OwnInIdeal.Gen.frame m g (ok_ideal (place_le (h 0)))

section
open Cert.OwnInRefIdeal Cert.OwnInRefIdeal.Gen

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    (∀ (k : Fin 2) (s : Fin 4), (m ((c : Thread nD τ).loc main_arg0) (ix1 0)).toNat = s.val → (m ((c : Thread nD τ).loc main_arg0) (ix1 1)).toNat = k.val →
      r.2.mem ((c : Thread nD τ).loc main_v22) =
        Total.own k s (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  θ_run_mono (StableHlo.run_hlo _ _ (by hlo_seq) (by decide) (by decide) (by simp)
      (by intro _ h; (repeat (cases h with | head => rfl | tail _ h => ?_)); exact nomatch h) _ _) fun r h c =>
    ⟨fun k s hs hk => (h c main_v22).trans (by
      after_results_simp_entrywise
      refine (congrArg₂ (fun x y => addf (addf (shapeCast S1024x5648 x _) (shapeCast S1024x5648 y _)) _)
        (Total.slice_place (n := 5648) (m ((c : Thread nD τ).loc main_arg1)) _ _ k s ?_)
        (Total.slice_shard (n := 5648) (m ((c : Thread nD τ).loc main_arg2)) _ _ s ?_)).trans (funext fun i => ?_)
      · exact fun
          | 0 => Total.toInt_wrap (k := k.val) _ _ _ (by omega) ((congrArg BitVec.toNat (Total.slice_word 1 _ _ _)).trans hk)
          | 1 => Total.toInt_wrap (k := s.val) _ _ _ (by omega) ((congrArg BitVec.toNat (Total.slice_word 0 _ _ _)).trans hs)
          | 2 => rfl
          | 3 => rfl
      · exact fun
          | 0 => Total.toInt_wrap (k := s.val) _ _ _ (by omega) ((congrArg BitVec.toNat (Total.slice_word 0 _ _ _)).trans hs)
          | 1 => rfl
          | 2 => rfl
      · obtain ⟨r, j, rfl⟩ : ∃ r j, i = ix2 r j := ⟨i 0, i 1, eq_ix2 i⟩
        pointwise [Total.own]
        exact congrArg (_ + ·) (Fin.sum_univ_three _)),
    (h c main_arg0).trans (by after_results_simp_entrywise), (h c main_arg1).trans (by after_results_simp_entrywise),
    (h c main_arg2).trans (by after_results_simp_entrywise), (h c main_arg3).trans (by after_results_simp_entrywise)⟩
end

theorem frame_refIdeal : Cert.quiescent_OwnInRefIdeal := fun m g _ =>
  (θ_run _ _ _).mono (fun r h => ⟨fun c => (h c).2, sem_eq_zero_of_no_sems (by decide) r.2⟩) (run_ref m g)

theorem frame_refIdeal_pre : Cert.quiescent_OwnInRefIdeal_pre_place_in := fun m g _ => frame_refIdeal m g trivial

theorem algebraic : Cert.algebraic_OwnInIdeal_OwnInRefIdeal := fun m g m' g' h e => by
  have le := place_le (h 0)
  refine ⟨_, run (ok_ideal le) (s := ⟨_, Nat.lt_succ_of_le le.1⟩) (k := ⟨_, Nat.lt_succ_of_le le.2⟩) rfl rfl g,
    (θ_run _ _ _).mono (fun _ r c => ?_) (run_ref m' g')⟩
  obtain ⟨e0, e1, e2, e3⟩ := e c
  obtain rfl : c = 0 := Subsingleton.elim _ _
  refine ⟨((r 0).1 ⟨_, Nat.lt_succ_of_le le.2⟩ ⟨_, Nat.lt_succ_of_le le.1⟩ (congrArg (fun a : IVec Cert.OwnInIdeal.S2 32 => (a (ix1 0)).toNat) e0)
    (congrArg (fun a : IVec Cert.OwnInIdeal.S2 32 => (a (ix1 1)).toNat) e0)).trans ?_, (r 0).2⟩
  exact congr (congrArg₂ (Total.own _ _) e1 e2) e3

end Cert.Proof.OwnIn

end

end
-- ==== Proof.Total.OwnB.lean ====
/-
# A chip's shard of the gradients of the three other matrices, summed: the claims
-/
module

public import proofs.«01_k».proof.Defs
public import proofs.«01_k».proof.Proof.Gen.OwnB
public import proofs.«01_k».proof.Proof.Gen.OwnB.Frame
public import proofs.«01_k».proof.Proof.Gen.OwnBIdeal.Frame
public import proofs.«01_k».proof.Proof.Gen.OwnBRefIdeal
public import proofs.«01_k».proof.Proof.Gen.Pre_place_b
public import proofs.«01_k».proof.Proof.Total.Index
public import Idealize.ShloMosaic.Lib.Pointwise
public import Idealize.ShloMosaic.Lib.StableHlo.RunClose
public import Idealize.ShloMosaic.Lib.StableHlo.RunHlo
public import Idealize.ShloMosaic.Lib.Quiescent
public import Idealize.ShloMosaic.Lib.Pipeline.ValueKit

@[expose] public section

noncomputable section

namespace Cert.Proof.OwnB

open Idealize.ShloMosaic Idealize.ShloMosaic.TcCoe Idealize.SL.Sem

/-- The precondition: the shard is 0 to 3 and the core 0 or 1. -/
theorem place_le {F : FTy → Type} [FloatOps F] {a : IVec Cert.Pre_place_b.S2 32} {g : FVec F Cert.Pre_place_b.S2x4x1024x2048 .f32}
    {r : FVec F Cert.Pre_place_b.S4x1024x2048 .f32} {got : FVec F Cert.Pre_place_b.S3x1024x2048 .bf16}
    (h : Cert.Pre_place_b.fn a g r got = fun _ => 1#1) : (a (ix1 0)).toNat ≤ 3 ∧ (a (ix1 1)).toNat ≤ 1 :=
  ⟨Total.word_le 3 (by omega) (congrFun h (ix1 0)), Total.word_le 1 (by omega) (congrFun h (ix1 1))⟩

section
open Cert.OwnB Cert.OwnB.Gen

theorem word_0 (m : (ℓ : Loc nD τ sig) → Buf (Elt Bits) ℓ) : (tbl m).at 0 (Rect.unit (s := S2) ![0] S1.size inb_S2_S1_0) numel1_S1
    = m (((0 : Dev nD) : Thread nD τ).loc main_arg0) (ix1 0) :=
  congrArg (m (((0 : Dev nD) : Thread nD τ).loc main_arg0)) (Total.first_emb 0 _ _)

theorem word_1 (m : (ℓ : Loc nD τ sig) → Buf (Elt Bits) ℓ) : (tbl m).at 0 (Rect.unit (s := S2) ![1] S1.size inb_S2_S1_1) numel1_S1
    = m (((0 : Dev nD) : Thread nD τ).loc main_arg0) (ix1 1) :=
  congrArg (m (((0 : Dev nD) : Thread nD τ).loc main_arg0)) (Total.first_emb 1 _ _)

theorem ok {m : (ℓ : Loc nD τ sig) → Buf (Elt Bits) ℓ} (h : (m (((0 : Dev nD) : Thread nD τ).loc main_arg0) (ix1 0)).toNat ≤ 3 ∧
    (m (((0 : Dev nD) : Thread nD τ).loc main_arg0) (ix1 1)).toNat ≤ 1) : Ok m :=
  ⟨fun i => ⟨fun
    | 0 => show (((tbl m).at 0 (Rect.unit (s := S2) ![1] S1.size inb_S2_S1_1) numel1_S1).toNat + 1) * 1 ≤ 2 by
      rw [word_1, Nat.mul_one]; exact Nat.succ_le_succ h.2
    | 1 => show (((tbl m).at 0 (Rect.unit (s := S2) ![0] S1.size inb_S2_S1_0) numel1_S1).toNat + 1) * 1 ≤ 4 by
      rw [word_0, Nat.mul_one]; exact Nat.succ_le_succ h.1
    | 2 => hinb0_3 i 0
    | 3 => hinb0_3 i 1, .inl rfl⟩, fun i => ⟨fun
    | 0 => show (((tbl m).at 0 (Rect.unit (s := S2) ![0] S1.size inb_S2_S1_0) numel1_S1).toNat + 1) * 1 ≤ 4 by
      rw [word_0, Nat.mul_one]; exact Nat.succ_le_succ h.1
    | 1 => hinb0_3 i 0
    | 2 => hinb0_3 i 1, .inl rfl⟩⟩
end

theorem frame : Cert.quiescent_OwnB := fun m g h => Cert.OwnB.Gen.frame m g (ok (place_le (h 0)))

section
open Cert.OwnBIdeal Cert.OwnBIdeal.Gen

variable {m : (ℓ : Loc nD τ sig) → Buf (Elt Ideal) ℓ} (hO : Ok m)

/-- Where a point's block lies. -/
theorem idx : ∀ t : Fin grid0.N, cc0_transform_3 (grid0.coords t) = ![t.val, 0] := by decide +kernel

theorem word_ideal_0 : (tbl m).at 0 (Rect.unit (s := S2) ![0] S1.size inb_S2_S1_0) numel1_S1
    = m (((0 : Dev nD) : Thread nD τ).loc main_arg0) (ix1 0) :=
  congrArg (m (((0 : Dev nD) : Thread nD τ).loc main_arg0)) (Total.first_emb 0 _ _)

theorem word_ideal_1 : (tbl m).at 0 (Rect.unit (s := S2) ![1] S1.size inb_S2_S1_1) numel1_S1
    = m (((0 : Dev nD) : Thread nD τ).loc main_arg0) (ix1 1) :=
  congrArg (m (((0 : Dev nD) : Thread nD τ).loc main_arg0)) (Total.first_emb 1 _ _)

theorem ok_ideal (h : (m (((0 : Dev nD) : Thread nD τ).loc main_arg0) (ix1 0)).toNat ≤ 3 ∧
    (m (((0 : Dev nD) : Thread nD τ).loc main_arg0) (ix1 1)).toNat ≤ 1) : Ok m :=
  ⟨fun i => ⟨fun
    | 0 => show (((tbl m).at 0 (Rect.unit (s := S2) ![1] S1.size inb_S2_S1_1) numel1_S1).toNat + 1) * 1 ≤ 2 by
      rw [word_ideal_1, Nat.mul_one]; exact Nat.succ_le_succ h.2
    | 1 => show (((tbl m).at 0 (Rect.unit (s := S2) ![0] S1.size inb_S2_S1_0) numel1_S1).toNat + 1) * 1 ≤ 4 by
      rw [word_ideal_0, Nat.mul_one]; exact Nat.succ_le_succ h.1
    | 2 => hinb0_3 i 0
    | 3 => hinb0_3 i 1, .inl rfl⟩, fun i => ⟨fun
    | 0 => show (((tbl m).at 0 (Rect.unit (s := S2) ![0] S1.size inb_S2_S1_0) numel1_S1).toNat + 1) * 1 ≤ 4 by
      rw [word_ideal_0, Nat.mul_one]; exact Nat.succ_le_succ h.1
    | 1 => hinb0_3 i 0
    | 2 => hinb0_3 i 1, .inl rfl⟩⟩

theorem covers : ((cfgM m hO).win 3).Covers :=
  ⟨show ∀ a : Fin 2, 0 < S128x2048.size a by decide, fun (β : (a : Fin 2) → Fin ((S1024x2048.size a + S128x2048.size a - 1) / S128x2048.size a)) =>
    ⟨⟨(β 0).val, show _ < 8 from (β 0).isLt⟩, flush0_3 _ _, fun (a : Fin 2) => ⟨(congrFun (idx _) a).trans (match a with
    | 0 => rfl
    | 1 => (Nat.lt_one_iff.1 (β 1).isLt).symm), .inl rfl⟩⟩⟩

theorem place (t : Fin (cfgM m hO).N) (r : Fin 128) (j : Fin 2048) :
    ((((cfgM m hO).win 3).blk t).view.emb (ix2 r j) : S1024x2048.Idx) = ix2 (Total.line t r) j := funext fun (b : Fin 2) => match b with
  | 0 => Fin.ext (by
    show cc0_transform_3 (grid0.coords t) 0 * 128 + 1 * r.val = t.val * 128 + r.val
    rw [idx t]; show t.val * 128 + 1 * r.val = _; omega)
  | 1 => Fin.ext (by show 0 * 2048 + 1 * j.val = j.val; omega)

theorem read_2 (c : Dev nD) (t : Fin (cfgM m hO).N) (a : Fin 3) (r : Fin 128) (j : Fin 2048) :
    iblk m hO c 2 t (ix3 a r j) = m ((c : Thread nD τ).loc main_arg3) (ix3 a (Total.line t r) j) :=
  congrArg (m ((c : Thread nD τ).loc main_arg3)) (funext fun (d : Fin 3) => match d with
    | 0 => Fin.ext (by show 0 * 3 + 1 * a.val = a.val; omega)
    | 1 => congrFun (place hO t r j) (0 : Fin 2)
    | 2 => congrFun (place hO t r j) (1 : Fin 2))

/-- A point's sum, of its blocks. -/
def rows (x : Vec Ideal S1x1x128x2048 .f32) (y : Vec Ideal S1x128x2048 .f32) (z : Vec Ideal S3x128x2048 .bf16) : Vec Ideal S128x2048 .f32 :=
  k0_pay1 x y (View.ld z (Rect.unit ![0, 0, 0] ![1, 128, 2048] inb_S3x128x2048_S1x128x2048_0_0_0))
    (View.ld z (Rect.unit ![1, 0, 0] ![1, 128, 2048] inb_S3x128x2048_S1x128x2048_1_0_0))
    (View.ld z (Rect.unit ![2, 0, 0] ![1, 128, 2048] inb_S3x128x2048_S1x128x2048_2_0_0))

section
variable {k : Fin 2} {s : Fin 4} (hs : (m (((0 : Dev nD) : Thread nD τ).loc main_arg0) (ix1 0)).toNat = s.val)
  (hk : (m (((0 : Dev nD) : Thread nD τ).loc main_arg0) (ix1 1)).toNat = k.val)
include hs

theorem read_1 (c : Dev nD) (t : Fin (cfgM m hO).N) (a : Fin 1) (r : Fin 128) (j : Fin 2048) :
    iblk m hO c 1 t (ix3 a r j) = m ((c : Thread nD τ).loc main_arg2) (ix3 s (Total.line t r) j) :=
  congrArg (m ((c : Thread nD τ).loc main_arg2)) (funext fun (d : Fin 3) => match d with
    | 0 => Fin.ext (by
      show ((tbl m).at 0 (Rect.unit (s := S2) ![0] S1.size inb_S2_S1_0) numel1_S1).toNat * 1 + 1 * a.val = s.val
      rw [word_ideal_0, hs]; omega)
    | 1 => congrFun (place hO t r j) (0 : Fin 2)
    | 2 => congrFun (place hO t r j) (1 : Fin 2))

include hk

theorem read_0 (c : Dev nD) (t : Fin (cfgM m hO).N) (b a : Fin 1) (r : Fin 128) (j : Fin 2048) :
    iblk m hO c 0 t (ix4 b a r j) = m ((c : Thread nD τ).loc main_arg1) (ix4 k s (Total.line t r) j) :=
  congrArg (m ((c : Thread nD τ).loc main_arg1)) (funext fun (d : Fin 4) => match d with
    | 0 => Fin.ext (by
      show ((tbl m).at 0 (Rect.unit (s := S2) ![1] S1.size inb_S2_S1_1) numel1_S1).toNat * 1 + 1 * b.val = k.val
      rw [word_ideal_1, hk]; omega)
    | 1 => Fin.ext (by
      show ((tbl m).at 0 (Rect.unit (s := S2) ![0] S1.size inb_S2_S1_0) numel1_S1).toNat * 1 + 1 * a.val = s.val
      rw [word_ideal_0, hs]; omega)
    | 2 => congrFun (place hO t r j) (0 : Fin 2)
    | 3 => congrFun (place hO t r j) (1 : Fin 2))

/-- What a point leaves of its block, from the three chips' blocks as they are loaded. -/
theorem point (c : Dev nD) (t : Fin (cfgM m hO).N) (y : S128x2048.Idx) : rows (iblk m hO c 0 t) (iblk m hO c 1 t) (iblk m hO c 2 t) y =
      Total.own k s (m ((c : Thread nD τ).loc main_arg1)) (m ((c : Thread nD τ).loc main_arg2)) (m ((c : Thread nD τ).loc main_arg3))
        ((((cfgM m hO).win 3).blk t).view.emb y) := by
  obtain ⟨r, j, rfl⟩ : ∃ r j, y = ix2 r j := ⟨y 0, y 1, eq_ix2 y⟩
  refine Eq.trans ?_ (congrArg (Total.own k s (m ((c : Thread nD τ).loc main_arg1)) (m ((c : Thread nD τ).loc main_arg2))
    (m ((c : Thread nD τ).loc main_arg3))) (place hO t r j).symm)
  pointwise [rows, k0_pay1, Total.own]
  rw [read_0 hO hs hk, read_1 hO hs, read_2, read_2, read_2]
  exact Total.add_three _ _ _ _

/-- The kernel's array after the run. -/
theorem final (c : Dev nD) : (dats m hO 0 c).arrAt 3 (cfgM m hO).N =
    Total.own k s (m ((c : Thread nD τ).loc main_arg1)) (m ((c : Thread nD τ).loc main_arg2)) (m ((c : Thread nD τ).loc main_arg3)) := by
  refine (dats m hO 0 c).arrAt_eq_of_covers 3 _ (covers hO) fun t hf y => ?_
  blk_simp
  rw [after0_3]
  unfold outsAt0
  frame_out
  exact (congr (congrArg₂ (fun a b x => rows a b x y) ((hs0_0 m hO t).read_unread _) ((hs0_1 m hO t).read_unread _))
    ((hs0_2 m hO t).read_unread _)).trans (point hO hs hk c t y)

include hO in
/-- The kernel's run, with its array read. -/
theorem run (g : Dev nD → PrngReg) : θ_run defs (onTc (τ := τ) (main (F := Ideal))) ⟨m, fun _ => 0, g⟩ fun r => ∀ c : Dev nD,
    r.2.mem ((c : Thread nD τ).loc main_v0) =
      Total.own k s (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun _ h c => ⟨((h.1 c).1 3).trans (final hO hs hk c), h.2 c⟩) (θ_run_and (run_main m g hO) (unchanged m g hO))
end
end

theorem frame_ideal : Cert.quiescent_OwnBIdeal := fun m g h => Cert.OwnBIdeal.Gen.frame m g (ok_ideal (place_le (h 0)))

section
open Cert.OwnBRefIdeal Cert.OwnBRefIdeal.Gen

theorem run_ref (m : (ℓ : Loc nD τ sig) → Buf (Elt Ideal) ℓ) (g : Dev nD → PrngReg) :
    θ_run defs (onTc (τ := τ) (main (F := Ideal))) ⟨m, fun _ => 0, g⟩ fun r => ∀ c : Dev nD,
    (∀ (k : Fin 2) (s : Fin 4), (m ((c : Thread nD τ).loc main_arg0) (ix1 0)).toNat = s.val → (m ((c : Thread nD τ).loc main_arg0) (ix1 1)).toNat = k.val →
      r.2.mem ((c : Thread nD τ).loc main_v22) =
        Total.own k s (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  θ_run_mono (StableHlo.run_hlo _ _ (by hlo_seq) (by decide) (by decide) (by simp)
      (by intro _ h; (repeat (cases h with | head => rfl | tail _ h => ?_)); exact nomatch h) _ _) fun r h c =>
    ⟨fun k s hs hk => (h c main_v22).trans (by
      after_results_simp_entrywise
      refine (congrArg₂ (fun x y => addf (addf (shapeCast S1024x2048 x _) (shapeCast S1024x2048 y _)) _)
        (Total.slice_place (n := 2048) (m ((c : Thread nD τ).loc main_arg1)) _ _ k s ?_)
        (Total.slice_shard (n := 2048) (m ((c : Thread nD τ).loc main_arg2)) _ _ s ?_)).trans (funext fun i => ?_)
      · exact fun
          | 0 => Total.toInt_wrap (k := k.val) _ _ _ (by omega) ((congrArg BitVec.toNat (Total.slice_word 1 _ _ _)).trans hk)
          | 1 => Total.toInt_wrap (k := s.val) _ _ _ (by omega) ((congrArg BitVec.toNat (Total.slice_word 0 _ _ _)).trans hs)
          | 2 => rfl
          | 3 => rfl
      · exact fun
          | 0 => Total.toInt_wrap (k := s.val) _ _ _ (by omega) ((congrArg BitVec.toNat (Total.slice_word 0 _ _ _)).trans hs)
          | 1 => rfl
          | 2 => rfl
      · obtain ⟨r, j, rfl⟩ : ∃ r j, i = ix2 r j := ⟨i 0, i 1, eq_ix2 i⟩
        pointwise [Total.own]
        exact congrArg (_ + ·) (Fin.sum_univ_three _)),
    (h c main_arg0).trans (by after_results_simp_entrywise), (h c main_arg1).trans (by after_results_simp_entrywise),
    (h c main_arg2).trans (by after_results_simp_entrywise), (h c main_arg3).trans (by after_results_simp_entrywise)⟩
end

theorem frame_refIdeal : Cert.quiescent_OwnBRefIdeal := fun m g _ =>
  (θ_run _ _ _).mono (fun r h => ⟨fun c => (h c).2, sem_eq_zero_of_no_sems (by decide) r.2⟩) (run_ref m g)

theorem frame_refIdeal_pre : Cert.quiescent_OwnBRefIdeal_pre_place_b := fun m g _ => frame_refIdeal m g trivial

theorem algebraic : Cert.algebraic_OwnBIdeal_OwnBRefIdeal := fun m g m' g' h e => by
  have le := place_le (h 0)
  refine ⟨_, run (ok_ideal le) (s := ⟨_, Nat.lt_succ_of_le le.1⟩) (k := ⟨_, Nat.lt_succ_of_le le.2⟩) rfl rfl g,
    (θ_run _ _ _).mono (fun _ r c => ?_) (run_ref m' g')⟩
  obtain ⟨e0, e1, e2, e3⟩ := e c
  obtain rfl : c = 0 := Subsingleton.elim _ _
  refine ⟨((r 0).1 ⟨_, Nat.lt_succ_of_le le.2⟩ ⟨_, Nat.lt_succ_of_le le.1⟩ (congrArg (fun a : IVec Cert.OwnBIdeal.S2 32 => (a (ix1 0)).toNat) e0)
    (congrArg (fun a : IVec Cert.OwnBIdeal.S2 32 => (a (ix1 1)).toNat) e0)).trans ?_, (r 0).2⟩
  exact congr (congrArg₂ (Total.own _ _) e1 e2) e3

end Cert.Proof.OwnB

end

end
-- ==== Proof.lean ====
module

public import proofs.«01_k».proof.Defs
public import proofs.«01_k».proof.Proof.Swap.Claims
public import proofs.«01_k».proof.Proof.Gen.Swap
public import proofs.«01_k».proof.Proof.Gen.SwapIdeal
public import proofs.«01_k».proof.Proof.Gen.SwapRefIdeal
public import proofs.«01_k».proof.Proof.Gen.SwapIdeal.Skeleton
public import proofs.«01_k».proof.Proof.Gen.SwapIdeal.Launch
public import proofs.«01_k».proof.Proof.Gen.SwapRefIdeal.Run
public import proofs.«01_k».proof.Proof.Gen.SwapRef.Run
public import proofs.«01_k».proof.Proof.Share.Claims
public import proofs.«01_k».proof.Proof.Gen.Share
public import proofs.«01_k».proof.Proof.Gen.ShareIdeal
public import proofs.«01_k».proof.Proof.Gen.ShareRefIdeal
public import proofs.«01_k».proof.Proof.Gen.ShareIdeal.Skeleton
public import proofs.«01_k».proof.Proof.Gen.ShareIdeal.Launch
public import proofs.«01_k».proof.Proof.Gen.ShareRefIdeal.Run
public import proofs.«01_k».proof.Proof.Gen.ShareRef.Run
public import proofs.«01_k».proof.Proof.Exchange.Claims
public import proofs.«01_k».proof.Proof.Gen.Exchange
public import proofs.«01_k».proof.Proof.Gen.ExchangeIdeal
public import proofs.«01_k».proof.Proof.Gen.ExchangeRefIdeal
public import proofs.«01_k».proof.Proof.Gen.ExchangeIdeal.Skeleton
public import proofs.«01_k».proof.Proof.Gen.ExchangeIdeal.Launch
public import proofs.«01_k».proof.Proof.Gen.ExchangeRefIdeal.Run
public import proofs.«01_k».proof.Proof.Gen.ExchangeRef.Run
public import proofs.«01_k».proof.Proof.Weights.Claims
public import proofs.«01_k».proof.Proof.Gen.Weights
public import proofs.«01_k».proof.Proof.Gen.WeightsIdeal
public import proofs.«01_k».proof.Proof.Gen.WeightsRefIdeal
public import proofs.«01_k».proof.Proof.Gen.WeightsIdeal.Skeleton
public import proofs.«01_k».proof.Proof.Gen.WeightsIdeal.Launch
public import proofs.«01_k».proof.Proof.Gen.WeightsRefIdeal.Run
public import proofs.«01_k».proof.Proof.Gen.WeightsRef.Run
public import proofs.«01_k».proof.Proof.Vec.Claims
public import proofs.«01_k».proof.Proof.Gen.Vec
public import proofs.«01_k».proof.Proof.Gen.VecIdeal.Skeleton
public import proofs.«01_k».proof.Proof.Gen.VecIdeal.Launch
public import proofs.«01_k».proof.Proof.Gen.VecRef
public import proofs.«01_k».proof.Proof.Gen.VecRefIdeal
public import proofs.«01_k».proof.Proof.Adam.Claims
public import proofs.«01_k».proof.Proof.Conv.Claims
public import proofs.«01_k».proof.Proof.Dt.Claims
public import proofs.«01_k».proof.Proof.ConvBack.Claims
public import proofs.«01_k».proof.Proof.Final.Claims
public import proofs.«01_k».proof.Proof.Gated.Claims
public import proofs.«01_k».proof.Proof.GatedBack.Claims
public import proofs.«01_k».proof.Proof.Merge.Claims
public import proofs.«01_k».proof.Proof.Norm.Claims
public import proofs.«01_k».proof.Proof.NormBack.Claims
public import proofs.«01_k».proof.Proof.Product.BranchSsd
public import proofs.«01_k».proof.Proof.Product.DMerged
public import proofs.«01_k».proof.Proof.Product.DYr
public import proofs.«01_k».proof.Proof.Product.GOut
public import proofs.«01_k».proof.Proof.Product.ProjMain
public import proofs.«01_k».proof.Proof.Product.BranchRet
public import proofs.«01_k».proof.Proof.Product.ProjDt
public import proofs.«01_k».proof.Proof.Product.DYs
public import proofs.«01_k».proof.Proof.Product.GRet
public import proofs.«01_k».proof.Proof.Product.GSsd
public import proofs.«01_k».proof.Proof.Product.GIn
public import proofs.«01_k».proof.Proof.Product.GInB
public import proofs.«01_k».proof.Proof.Product.GInDt
public import proofs.«01_k».proof.Proof.Sum.Claims
public import proofs.«01_k».proof.Proof.Gen.Sum
public import proofs.«01_k».proof.Proof.Gen.SumIdeal
public import proofs.«01_k».proof.Proof.Gen.SumRefIdeal
public import proofs.«01_k».proof.Proof.Gen.Sum.Frame
public import proofs.«01_k».proof.Proof.Gen.SumIdeal.Frame
public import proofs.«01_k».proof.Proof.Gen.SumIdeal.Value
public import proofs.«01_k».proof.Proof.Gen.SumRefIdeal.Run
public import proofs.«01_k».proof.Proof.Gen.AdamIn
public import proofs.«01_k».proof.Proof.Gen.AdamInIdeal
public import proofs.«01_k».proof.Proof.Gen.AdamInRefIdeal
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamRet
public import proofs.«01_k».proof.Proof.Gen.AdamRetIdeal
public import proofs.«01_k».proof.Proof.Gen.AdamRetRefIdeal
public import proofs.«01_k».proof.Proof.Gen.AdamRet.Frame
public import proofs.«01_k».proof.Proof.Gen.AdamRetIdeal.Frame
public import proofs.«01_k».proof.Proof.Gen.AdamRetIdeal.Value
public import proofs.«01_k».proof.Proof.Gen.AdamRetRefIdeal.Run
public import proofs.«01_k».proof.Proof.Gen.AdamSsd
public import proofs.«01_k».proof.Proof.Gen.AdamSsdIdeal
public import proofs.«01_k».proof.Proof.Gen.AdamSsdRefIdeal
public import proofs.«01_k».proof.Proof.Gen.AdamSsd.Frame
public import proofs.«01_k».proof.Proof.Gen.AdamSsdIdeal.Frame
public import proofs.«01_k».proof.Proof.Gen.AdamSsdIdeal.Value
public import proofs.«01_k».proof.Proof.Gen.AdamSsdRefIdeal.Run
public import proofs.«01_k».proof.Proof.Gen.AdamSmall
public import proofs.«01_k».proof.Proof.Gen.AdamSmallIdeal
public import proofs.«01_k».proof.Proof.Gen.AdamSmallRefIdeal
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.Norm
public import proofs.«01_k».proof.Proof.Gen.NormIdeal
public import proofs.«01_k».proof.Proof.Gen.NormRefIdeal
public import proofs.«01_k».proof.Proof.Gen.Norm.Frame
public import proofs.«01_k».proof.Proof.Gen.NormIdeal.Frame
public import proofs.«01_k».proof.Proof.Gen.NormIdeal.Value
public import proofs.«01_k».proof.Proof.Gen.NormRefIdeal.Run
public import proofs.«01_k».proof.Proof.Gen.NormB
public import proofs.«01_k».proof.Proof.Gen.NormBIdeal
public import proofs.«01_k».proof.Proof.Gen.NormBRefIdeal
public import proofs.«01_k».proof.Proof.Gen.NormB.Frame
public import proofs.«01_k».proof.Proof.Gen.NormBIdeal.Frame
public import proofs.«01_k».proof.Proof.Gen.NormBIdeal.Value
public import proofs.«01_k».proof.Proof.Gen.NormBRefIdeal.Run
public import proofs.«01_k».proof.Proof.Gen.Final
public import proofs.«01_k».proof.Proof.Gen.FinalIdeal
public import proofs.«01_k».proof.Proof.Gen.FinalRefIdeal
public import proofs.«01_k».proof.Proof.Gen.Final.Frame
public import proofs.«01_k».proof.Proof.Gen.FinalIdeal.Frame
public import proofs.«01_k».proof.Proof.Gen.FinalIdeal.Value
public import proofs.«01_k».proof.Proof.Gen.FinalRefIdeal.Run
public import proofs.«01_k».proof.Proof.Gen.Merge
public import proofs.«01_k».proof.Proof.Gen.MergeIdeal
public import proofs.«01_k».proof.Proof.Gen.MergeRefIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeB
public import proofs.«01_k».proof.Proof.Gen.MergeBIdeal
public import proofs.«01_k».proof.Proof.Gen.MergeBRefIdeal
public import proofs.«01_k».proof.Proof.Gen.MergeB.Frame
public import proofs.«01_k».proof.Proof.Gen.MergeBIdeal.Frame
public import proofs.«01_k».proof.Proof.Gen.MergeBIdeal.Value
public import proofs.«01_k».proof.Proof.Gen.MergeBRefIdeal.Run
public import proofs.«01_k».proof.Proof.Gen.Gated
public import proofs.«01_k».proof.Proof.Gen.GatedIdeal
public import proofs.«01_k».proof.Proof.Gen.GatedRefIdeal
public import proofs.«01_k».proof.Proof.Gen.Gated.Frame
public import proofs.«01_k».proof.Proof.Gen.GatedIdeal.Frame
public import proofs.«01_k».proof.Proof.Gen.GatedIdeal.Value
public import proofs.«01_k».proof.Proof.Gen.GatedRefIdeal.Run
public import proofs.«01_k».proof.Proof.Gen.GatedB
public import proofs.«01_k».proof.Proof.Gen.GatedBIdeal
public import proofs.«01_k».proof.Proof.Gen.GatedBRefIdeal
public import proofs.«01_k».proof.Proof.Gen.GatedB.Frame
public import proofs.«01_k».proof.Proof.Gen.GatedBIdeal.Frame
public import proofs.«01_k».proof.Proof.Gen.GatedBIdeal.Value
public import proofs.«01_k».proof.Proof.Gen.GatedBRefIdeal.Run
public import proofs.«01_k».proof.Proof.Gen.ProjMain
public import proofs.«01_k».proof.Proof.Gen.ProjMainIdeal
public import proofs.«01_k».proof.Proof.Gen.ProjMainRefIdeal
public import proofs.«01_k».proof.Proof.Gen.ProjMain.Frame
public import proofs.«01_k».proof.Proof.Gen.ProjMainIdeal.Frame
public import proofs.«01_k».proof.Proof.Gen.ProjMainIdeal.Value
public import proofs.«01_k».proof.Proof.Gen.ProjMainRefIdeal.Run
public import proofs.«01_k».proof.Proof.Gen.BranchSsd
public import proofs.«01_k».proof.Proof.Gen.BranchSsdIdeal
public import proofs.«01_k».proof.Proof.Gen.BranchSsdRefIdeal
public import proofs.«01_k».proof.Proof.Gen.BranchSsd.Frame
public import proofs.«01_k».proof.Proof.Gen.BranchSsdIdeal.Frame
public import proofs.«01_k».proof.Proof.Gen.BranchSsdRefIdeal.Run
public import proofs.«01_k».proof.Proof.Gen.DYr
public import proofs.«01_k».proof.Proof.Gen.DYrIdeal
public import proofs.«01_k».proof.Proof.Gen.DYrRefIdeal
public import proofs.«01_k».proof.Proof.Gen.DYr.Frame
public import proofs.«01_k».proof.Proof.Gen.DYrIdeal.Frame
public import proofs.«01_k».proof.Proof.Gen.DYrIdeal.Value
public import proofs.«01_k».proof.Proof.Gen.DYrRefIdeal.Run
public import proofs.«01_k».proof.Proof.Gen.DMerged
public import proofs.«01_k».proof.Proof.Gen.DMergedIdeal
public import proofs.«01_k».proof.Proof.Gen.DMergedRefIdeal
public import proofs.«01_k».proof.Proof.Gen.DMerged.Frame
public import proofs.«01_k».proof.Proof.Gen.DMergedIdeal.Frame
public import proofs.«01_k».proof.Proof.Gen.DMergedRefIdeal.Run
public import proofs.«01_k».proof.Proof.Gen.GOut
public import proofs.«01_k».proof.Proof.Gen.GOutIdeal
public import proofs.«01_k».proof.Proof.Gen.GOutRefIdeal
public import proofs.«01_k».proof.Proof.Gen.GOut.Frame
public import proofs.«01_k».proof.Proof.Gen.GOutIdeal.Frame
public import proofs.«01_k».proof.Proof.Gen.GOutRefIdeal.Run
public import proofs.«01_k».proof.Proof.Total.PairIn
public import proofs.«01_k».proof.Proof.Total.PairB
public import proofs.«01_k».proof.Proof.Total.OwnIn
public import proofs.«01_k».proof.Proof.Total.OwnB
public import proofs.«01_k».proof.Proof.Gen.PairIn
public import proofs.«01_k».proof.Proof.Gen.PairInIdeal
public import proofs.«01_k».proof.Proof.Gen.PairInRefIdeal
public import proofs.«01_k».proof.Proof.Gen.PairIn.Frame
public import proofs.«01_k».proof.Proof.Gen.PairInIdeal.Frame
public import proofs.«01_k».proof.Proof.Gen.PairB
public import proofs.«01_k».proof.Proof.Gen.PairBIdeal
public import proofs.«01_k».proof.Proof.Gen.PairBRefIdeal
public import proofs.«01_k».proof.Proof.Gen.PairB.Frame
public import proofs.«01_k».proof.Proof.Gen.PairBIdeal.Frame
public import proofs.«01_k».proof.Proof.Gen.OwnIn
public import proofs.«01_k».proof.Proof.Gen.OwnInIdeal
public import proofs.«01_k».proof.Proof.Gen.OwnInRefIdeal
public import proofs.«01_k».proof.Proof.Gen.OwnIn.Frame
public import proofs.«01_k».proof.Proof.Gen.OwnInIdeal.Frame
public import proofs.«01_k».proof.Proof.Gen.OwnB
public import proofs.«01_k».proof.Proof.Gen.OwnBIdeal
public import proofs.«01_k».proof.Proof.Gen.OwnBRefIdeal
public import proofs.«01_k».proof.Proof.Gen.OwnB.Frame
public import proofs.«01_k».proof.Proof.Gen.OwnBIdeal.Frame
public import proofs.«01_k».proof.Proof.Gen.Pre_core_in
public import proofs.«01_k».proof.Proof.Gen.Pre_core_b
public import proofs.«01_k».proof.Proof.Gen.Pre_place_in
public import proofs.«01_k».proof.Proof.Gen.Pre_place_b

@[expose] public section

noncomputable section

namespace Cert.Proof

theorem claim : Cert.Claim :=
  ⟨Cert.Swap.Gen.facts, Cert.SwapIdeal.Gen.facts, Cert.SwapRefIdeal.Gen.facts, Cert.SwapRef.Gen.facts,
    Cert.Share.Gen.facts, Cert.ShareIdeal.Gen.facts, Cert.ShareRefIdeal.Gen.facts, Cert.ShareRef.Gen.facts,
    Cert.Exchange.Gen.facts, Cert.ExchangeIdeal.Gen.facts, Cert.ExchangeRefIdeal.Gen.facts, Cert.ExchangeRef.Gen.facts,
    Cert.Weights.Gen.facts, Cert.WeightsIdeal.Gen.facts, Cert.WeightsRefIdeal.Gen.facts, Cert.WeightsRef.Gen.facts,
    Cert.Vec.Gen.facts, Cert.VecIdeal.Gen.facts, Cert.VecRefIdeal.Gen.facts, Cert.VecRef.Gen.facts,
    Cert.Sum.Gen.facts, Cert.SumIdeal.Gen.facts, Cert.SumRefIdeal.Gen.facts,
    Cert.AdamIn.Gen.facts, Cert.AdamInIdeal.Gen.facts, Cert.AdamInRefIdeal.Gen.facts,
    Cert.AdamRet.Gen.facts, Cert.AdamRetIdeal.Gen.facts, Cert.AdamRetRefIdeal.Gen.facts,
    Cert.AdamSsd.Gen.facts, Cert.AdamSsdIdeal.Gen.facts, Cert.AdamSsdRefIdeal.Gen.facts,
    Cert.AdamSmall.Gen.facts, Cert.AdamSmallIdeal.Gen.facts, Cert.AdamSmallRefIdeal.Gen.facts,
    Cert.Norm.Gen.facts, Cert.NormIdeal.Gen.facts, Cert.NormRefIdeal.Gen.facts,
    Cert.NormB.Gen.facts, Cert.NormBIdeal.Gen.facts, Cert.NormBRefIdeal.Gen.facts,
    Cert.Final.Gen.facts, Cert.FinalIdeal.Gen.facts, Cert.FinalRefIdeal.Gen.facts,
    Cert.Merge.Gen.facts, Cert.MergeIdeal.Gen.facts, Cert.MergeRefIdeal.Gen.facts,
    Cert.MergeB.Gen.facts, Cert.MergeBIdeal.Gen.facts, Cert.MergeBRefIdeal.Gen.facts,
    Cert.Gated.Gen.facts, Cert.GatedIdeal.Gen.facts, Cert.GatedRefIdeal.Gen.facts,
    Cert.GatedB.Gen.facts, Cert.GatedBIdeal.Gen.facts, Cert.GatedBRefIdeal.Gen.facts,
    Cert.ProjMain.Gen.facts, Cert.ProjMainIdeal.Gen.facts, Cert.ProjMainRefIdeal.Gen.facts,
    Cert.BranchSsd.Gen.facts, Cert.BranchSsdIdeal.Gen.facts, Cert.BranchSsdRefIdeal.Gen.facts,
    Cert.DYr.Gen.facts, Cert.DYrIdeal.Gen.facts, Cert.DYrRefIdeal.Gen.facts,
    Cert.DMerged.Gen.facts, Cert.DMergedIdeal.Gen.facts, Cert.DMergedRefIdeal.Gen.facts,
    Cert.GOut.Gen.facts, Cert.GOutIdeal.Gen.facts, Cert.GOutRefIdeal.Gen.facts,
    Cert.PairIn.Gen.facts, Cert.PairInIdeal.Gen.facts, Cert.PairInRefIdeal.Gen.facts,
    Cert.PairB.Gen.facts, Cert.PairBIdeal.Gen.facts, Cert.PairBRefIdeal.Gen.facts,
    Cert.OwnIn.Gen.facts, Cert.OwnInIdeal.Gen.facts, Cert.OwnInRefIdeal.Gen.facts,
    Cert.OwnB.Gen.facts, Cert.OwnBIdeal.Gen.facts, Cert.OwnBRefIdeal.Gen.facts,
    Cert.Conv.Gen.facts, Cert.ConvIdeal.Gen.facts, Cert.ConvRefIdeal.Gen.facts,
    Cert.Dt.Gen.facts, Cert.DtIdeal.Gen.facts, Cert.DtRefIdeal.Gen.facts,
    Cert.ConvB.Gen.facts, Cert.ConvBIdeal.Gen.facts, Cert.ConvBRefIdeal.Gen.facts,
    Cert.BranchRet.Gen.facts, Cert.BranchRetIdeal.Gen.facts, Cert.BranchRetRefIdeal.Gen.facts,
    Cert.ProjDt.Gen.facts, Cert.ProjDtIdeal.Gen.facts, Cert.ProjDtRefIdeal.Gen.facts,
    Cert.DYs.Gen.facts, Cert.DYsIdeal.Gen.facts, Cert.DYsRefIdeal.Gen.facts,
    Cert.GRet.Gen.facts, Cert.GRetIdeal.Gen.facts, Cert.GRetRefIdeal.Gen.facts,
    Cert.GSsd.Gen.facts, Cert.GSsdIdeal.Gen.facts, Cert.GSsdRefIdeal.Gen.facts,
    Cert.GIn.Gen.facts, Cert.GInIdeal.Gen.facts, Cert.GInRefIdeal.Gen.facts,
    Cert.GInB.Gen.facts, Cert.GInBIdeal.Gen.facts, Cert.GInBRefIdeal.Gen.facts,
    Cert.GInDt.Gen.facts, Cert.GInDtIdeal.Gen.facts, Cert.GInDtRefIdeal.Gen.facts,
    Cert.Pre_core_in.Gen.facts, Cert.Pre_core_b.Gen.facts, Cert.Pre_place_in.Gen.facts, Cert.Pre_place_b.Gen.facts,
    Swap.frame, Swap.frame_ideal, Swap.frame_refIdeal, Swap.frame_ref,
    Share.frame, Share.frame_ideal, Share.frame_refIdeal, Share.frame_ref,
    Exchange.frame, Exchange.frame_ideal, Exchange.frame_refIdeal, Exchange.frame_ref,
    Weights.frame, Weights.frame_ideal, Weights.frame_refIdeal, Weights.frame_ref,
    Vec.frame, Vec.frame_ideal, Vec.frame_refIdeal, Vec.frame_ref,
    Sum.frame, Sum.frame_ideal, Sum.frame_refIdeal,
    AdamIn.frame, AdamIn.frame_ideal, AdamIn.frame_refIdeal,
    AdamRet.frame, AdamRet.frame_ideal, AdamRet.frame_refIdeal,
    AdamSsd.frame, AdamSsd.frame_ideal, AdamSsd.frame_refIdeal,
    AdamSmall.frame, AdamSmall.frame_ideal, AdamSmall.frame_refIdeal,
    Norm.frame, Norm.frame_ideal, Norm.frame_refIdeal,
    NormB.frame, NormB.frame_ideal, NormB.frame_refIdeal,
    Final.frame, Final.frame_ideal, Final.frame_refIdeal,
    Merge.frame, Merge.frame_ideal, Merge.frame_refIdeal,
    MergeB.frame, MergeB.frame_ideal, MergeB.frame_refIdeal,
    Gated.frame, Gated.frame_ideal, Gated.frame_refIdeal,
    GatedB.frame, GatedB.frame_ideal, GatedB.frame_refIdeal,
    ProjMain.frame, ProjMain.frame_ideal, ProjMain.frame_refIdeal,
    BranchSsd.frame, BranchSsd.frame_ideal, BranchSsd.frame_refIdeal,
    DYr.frame, DYr.frame_ideal, DYr.frame_refIdeal,
    DMerged.frame, DMerged.frame_ideal, DMerged.frame_refIdeal,
    GOut.frame, GOut.frame_ideal, GOut.frame_refIdeal,
    PairIn.frame, PairIn.frame_ideal, PairIn.frame_refIdeal, PairIn.frame_refIdeal_pre,
    PairB.frame, PairB.frame_ideal, PairB.frame_refIdeal, PairB.frame_refIdeal_pre,
    OwnIn.frame, OwnIn.frame_ideal, OwnIn.frame_refIdeal, OwnIn.frame_refIdeal_pre,
    OwnB.frame, OwnB.frame_ideal, OwnB.frame_refIdeal, OwnB.frame_refIdeal_pre,
    Conv.frame, Conv.frame_ideal, Conv.frame_refIdeal,
    Dt.frame, Dt.frame_ideal, Dt.frame_refIdeal,
    ConvB.frame, ConvB.frame_ideal, ConvB.frame_refIdeal,
    BranchRet.frame, BranchRet.frame_ideal, BranchRet.frame_refIdeal,
    ProjDt.frame, ProjDt.frame_ideal, ProjDt.frame_refIdeal,
    DYs.frame, DYs.frame_ideal, DYs.frame_refIdeal,
    GRet.frame, GRet.frame_ideal, GRet.frame_refIdeal,
    GSsd.frame, GSsd.frame_ideal, GSsd.frame_refIdeal,
    GIn.frame, GIn.frame_ideal, GIn.frame_refIdeal,
    GInB.frame, GInB.frame_ideal, GInB.frame_refIdeal,
    GInDt.frame, GInDt.frame_ideal, GInDt.frame_refIdeal,
    trivial, Swap.algebraic, Swap.bitexact,
    trivial, Share.algebraic, Share.bitexact,
    trivial, Exchange.algebraic, Exchange.bitexact,
    trivial, Weights.algebraic, Weights.bitexact,
    trivial, Vec.algebraic, Vec.bitexact,
    trivial, Sum.algebraic,
    trivial, AdamIn.algebraic,
    trivial, AdamRet.algebraic,
    trivial, AdamSsd.algebraic,
    trivial, AdamSmall.algebraic,
    trivial, Norm.algebraic,
    trivial, NormB.algebraic,
    trivial, Final.algebraic,
    trivial, Merge.algebraic,
    trivial, MergeB.algebraic,
    trivial, Gated.algebraic,
    trivial, GatedB.algebraic,
    trivial, ProjMain.algebraic,
    trivial, BranchSsd.algebraic,
    trivial, DYr.algebraic,
    trivial, DMerged.algebraic,
    trivial, GOut.algebraic,
    trivial, PairIn.algebraic,
    trivial, PairB.algebraic,
    trivial, OwnIn.algebraic,
    trivial, OwnB.algebraic,
    trivial, Conv.algebraic,
    trivial, Dt.algebraic,
    trivial, ConvB.algebraic,
    trivial, BranchRet.algebraic,
    trivial, ProjDt.algebraic,
    trivial, DYs.algebraic,
    trivial, GRet.algebraic,
    trivial, GSsd.algebraic,
    trivial, GIn.algebraic,
    trivial, GInB.algebraic,
    trivial, GInDt.algebraic⟩

end Cert.Proof

end
